-- ==== Defs.lean ====
def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_KernelFfnAct (m : (ℓ : Loc Cert.KernelFfnAct.nD Cert.KernelFfnAct.τ Cert.KernelFfnAct.sig) → Buf (Elt Bits) ℓ) : Prop :=
  True

def Pre_KernelFfnActIdeal (m : (ℓ : Loc Cert.KernelFfnActIdeal.nD Cert.KernelFfnActIdeal.τ Cert.KernelFfnActIdeal.sig) → Buf (Elt Ideal) ℓ) : Prop :=
  True

def Pre_KernelFfnActIdeal_finite_ffn [hPre_finite_ffn : Cert.Pre_finite_ffn.Facts] (m : (ℓ : Loc Cert.KernelFfnActIdeal.nD Cert.KernelFfnActIdeal.τ Cert.KernelFfnActIdeal.sig) → Buf (Elt Ideal) ℓ) : Prop :=
  ∀ c : Dev Cert.KernelFfnActIdeal.nD,
    (Cert.Pre_finite_ffn.fn (F := Ideal) (m ((c.tc : Thread Cert.KernelFfnActIdeal.nD Cert.KernelFfnActIdeal.τ).loc Cert.KernelFfnActIdeal.main_arg0)) (m ((c.tc : Thread Cert.KernelFfnActIdeal.nD Cert.KernelFfnActIdeal.τ).loc Cert.KernelFfnActIdeal.main_arg1)) (m ((c.tc : Thread Cert.KernelFfnActIdeal.nD Cert.KernelFfnActIdeal.τ).loc Cert.KernelFfnActIdeal.main_arg2))).1 = (fun _ => 1#1)
    ∧ (Cert.Pre_finite_ffn.fn (F := Ideal) (m ((c.tc : Thread Cert.KernelFfnActIdeal.nD Cert.KernelFfnActIdeal.τ).loc Cert.KernelFfnActIdeal.main_arg0)) (m ((c.tc : Thread Cert.KernelFfnActIdeal.nD Cert.KernelFfnActIdeal.τ).loc Cert.KernelFfnActIdeal.main_arg1)) (m ((c.tc : Thread Cert.KernelFfnActIdeal.nD Cert.KernelFfnActIdeal.τ).loc Cert.KernelFfnActIdeal.main_arg2))).2.1 = (fun _ => 1#1)
    ∧ (Cert.Pre_finite_ffn.fn (F := Ideal) (m ((c.tc : Thread Cert.KernelFfnActIdeal.nD Cert.KernelFfnActIdeal.τ).loc Cert.KernelFfnActIdeal.main_arg0)) (m ((c.tc : Thread Cert.KernelFfnActIdeal.nD Cert.KernelFfnActIdeal.τ).loc Cert.KernelFfnActIdeal.main_arg1)) (m ((c.tc : Thread Cert.KernelFfnActIdeal.nD Cert.KernelFfnActIdeal.τ).loc Cert.KernelFfnActIdeal.main_arg2))).2.2 = (fun _ => 1#1)

def Pre_ReferenceFfnActIdeal (m : (ℓ : Loc Cert.ReferenceFfnActIdeal.nD Cert.ReferenceFfnActIdeal.τ Cert.ReferenceFfnActIdeal.sig) → Buf (Elt Ideal) ℓ) : Prop :=
  True

def Pre_ReferenceFfnActIdeal_finite_ffn [hPre_finite_ffn : Cert.Pre_finite_ffn.Facts] (m : (ℓ : Loc Cert.ReferenceFfnActIdeal.nD Cert.ReferenceFfnActIdeal.τ Cert.ReferenceFfnActIdeal.sig) → Buf (Elt Ideal) ℓ) : Prop :=
  ∀ c : Dev Cert.ReferenceFfnActIdeal.nD,
    (Cert.Pre_finite_ffn.fn (F := Ideal) (m ((c.tc : Thread Cert.ReferenceFfnActIdeal.nD Cert.ReferenceFfnActIdeal.τ).loc Cert.ReferenceFfnActIdeal.main_arg0)) (m ((c.tc : Thread Cert.ReferenceFfnActIdeal.nD Cert.ReferenceFfnActIdeal.τ).loc Cert.ReferenceFfnActIdeal.main_arg1)) (m ((c.tc : Thread Cert.ReferenceFfnActIdeal.nD Cert.ReferenceFfnActIdeal.τ).loc Cert.ReferenceFfnActIdeal.main_arg2))).1 = (fun _ => 1#1)
    ∧ (Cert.Pre_finite_ffn.fn (F := Ideal) (m ((c.tc : Thread Cert.ReferenceFfnActIdeal.nD Cert.ReferenceFfnActIdeal.τ).loc Cert.ReferenceFfnActIdeal.main_arg0)) (m ((c.tc : Thread Cert.ReferenceFfnActIdeal.nD Cert.ReferenceFfnActIdeal.τ).loc Cert.ReferenceFfnActIdeal.main_arg1)) (m ((c.tc : Thread Cert.ReferenceFfnActIdeal.nD Cert.ReferenceFfnActIdeal.τ).loc Cert.ReferenceFfnActIdeal.main_arg2))).2.1 = (fun _ => 1#1)
    ∧ (Cert.Pre_finite_ffn.fn (F := Ideal) (m ((c.tc : Thread Cert.ReferenceFfnActIdeal.nD Cert.ReferenceFfnActIdeal.τ).loc Cert.ReferenceFfnActIdeal.main_arg0)) (m ((c.tc : Thread Cert.ReferenceFfnActIdeal.nD Cert.ReferenceFfnActIdeal.τ).loc Cert.ReferenceFfnActIdeal.main_arg1)) (m ((c.tc : Thread Cert.ReferenceFfnActIdeal.nD Cert.ReferenceFfnActIdeal.τ).loc Cert.ReferenceFfnActIdeal.main_arg2))).2.2 = (fun _ => 1#1)

def Pre_KernelFfnOutDw (m : (ℓ : Loc Cert.KernelFfnOutDw.nD Cert.KernelFfnOutDw.τ Cert.KernelFfnOutDw.sig) → Buf (Elt Bits) ℓ) : Prop :=
  True

def Pre_KernelFfnOutDwIdeal (m : (ℓ : Loc Cert.KernelFfnOutDwIdeal.nD Cert.KernelFfnOutDwIdeal.τ Cert.KernelFfnOutDwIdeal.sig) → Buf (Elt Ideal) ℓ) : Prop :=
  True

def Pre_ReferenceFfnOutDwIdeal (m : (ℓ : Loc Cert.ReferenceFfnOutDwIdeal.nD Cert.ReferenceFfnOutDwIdeal.τ Cert.ReferenceFfnOutDwIdeal.sig) → Buf (Elt Ideal) ℓ) : Prop :=
  True

def Pre_KernelFfnInDx (m : (ℓ : Loc Cert.KernelFfnInDx.nD Cert.KernelFfnInDx.τ Cert.KernelFfnInDx.sig) → Buf (Elt Bits) ℓ) : Prop :=
  True

def Pre_KernelFfnInDxIdeal (m : (ℓ : Loc Cert.KernelFfnInDxIdeal.nD Cert.KernelFfnInDxIdeal.τ Cert.KernelFfnInDxIdeal.sig) → Buf (Elt Ideal) ℓ) : Prop :=
  True

def Pre_ReferenceFfnInDxIdeal (m : (ℓ : Loc Cert.ReferenceFfnInDxIdeal.nD Cert.ReferenceFfnInDxIdeal.τ Cert.ReferenceFfnInDxIdeal.sig) → Buf (Elt Ideal) ℓ) : Prop :=
  True

def Pre_KernelFfnInDw (m : (ℓ : Loc Cert.KernelFfnInDw.nD Cert.KernelFfnInDw.τ Cert.KernelFfnInDw.sig) → Buf (Elt Bits) ℓ) : Prop :=
  True

def Pre_KernelFfnInDwIdeal (m : (ℓ : Loc Cert.KernelFfnInDwIdeal.nD Cert.KernelFfnInDwIdeal.τ Cert.KernelFfnInDwIdeal.sig) → Buf (Elt Ideal) ℓ) : Prop :=
  True

def Pre_ReferenceFfnInDwIdeal (m : (ℓ : Loc Cert.ReferenceFfnInDwIdeal.nD Cert.ReferenceFfnInDwIdeal.τ Cert.ReferenceFfnInDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelAdaBwd (m : (ℓ : Loc Cert.KernelAdaBwd.nD Cert.KernelAdaBwd.τ Cert.KernelAdaBwd.sig) → Buf (Elt Bits) ℓ) : Prop :=
  True

def Pre_KernelAdaBwdIdeal (m : (ℓ : Loc Cert.KernelAdaBwdIdeal.nD Cert.KernelAdaBwdIdeal.τ Cert.KernelAdaBwdIdeal.sig) → Buf (Elt Ideal) ℓ) : Prop :=
  True

def Pre_ReferenceAdaBwdIdeal (m : (ℓ : Loc Cert.ReferenceAdaBwdIdeal.nD Cert.ReferenceAdaBwdIdeal.τ Cert.ReferenceAdaBwdIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelAdamB (m : (ℓ : Loc Cert.KernelAdamB.nD Cert.KernelAdamB.τ Cert.KernelAdamB.sig) → Buf (Elt Bits) ℓ) : Prop :=
  True

def Pre_KernelAdamBIdeal (m : (ℓ : Loc Cert.KernelAdamBIdeal.nD Cert.KernelAdamBIdeal.τ Cert.KernelAdamBIdeal.sig) → Buf (Elt Ideal) ℓ) : Prop :=
  True

def Pre_ReferenceAdamBIdeal (m : (ℓ : Loc Cert.ReferenceAdamBIdeal.nD Cert.ReferenceAdamBIdeal.τ Cert.ReferenceAdamBIdeal.sig) → Buf (Elt Ideal) ℓ) : Prop :=
  True

def Pre_KernelAdamW1 (m : (ℓ : Loc Cert.KernelAdamW1.nD Cert.KernelAdamW1.τ Cert.KernelAdamW1.sig) → Buf (Elt Bits) ℓ) : Prop :=
  True

def Pre_KernelAdamW1Ideal (m : (ℓ : Loc Cert.KernelAdamW1Ideal.nD Cert.KernelAdamW1Ideal.τ Cert.KernelAdamW1Ideal.sig) → Buf (Elt Ideal) ℓ) : Prop :=
  True

def Pre_ReferenceAdamW1Ideal (m : (ℓ : Loc Cert.ReferenceAdamW1Ideal.nD Cert.ReferenceAdamW1Ideal.τ Cert.ReferenceAdamW1Ideal.sig) → Buf (Elt Ideal) ℓ) : Prop :=
  True

def Pre_KernelAdamW2 (m : (ℓ : Loc Cert.KernelAdamW2.nD Cert.KernelAdamW2.τ Cert.KernelAdamW2.sig) → Buf (Elt Bits) ℓ) : Prop :=
  True

def Pre_KernelAdamW2Ideal (m : (ℓ : Loc Cert.KernelAdamW2Ideal.nD Cert.KernelAdamW2Ideal.τ Cert.KernelAdamW2Ideal.sig) → Buf (Elt Ideal) ℓ) : Prop :=
  True

def Pre_ReferenceAdamW2Ideal (m : (ℓ : Loc Cert.ReferenceAdamW2Ideal.nD Cert.ReferenceAdamW2Ideal.τ Cert.ReferenceAdamW2Ideal.sig) → Buf (Elt Ideal) ℓ) : Prop :=
  True

def Pre_KernelAdamW3 (m : (ℓ : Loc Cert.KernelAdamW3.nD Cert.KernelAdamW3.τ Cert.KernelAdamW3.sig) → Buf (Elt Bits) ℓ) : Prop :=
  True

def Pre_KernelAdamW3Ideal (m : (ℓ : Loc Cert.KernelAdamW3Ideal.nD Cert.KernelAdamW3Ideal.τ Cert.KernelAdamW3Ideal.sig) → Buf (Elt Ideal) ℓ) : Prop :=
  True

def Pre_ReferenceAdamW3Ideal (m : (ℓ : Loc Cert.ReferenceAdamW3Ideal.nD Cert.ReferenceAdamW3Ideal.τ Cert.ReferenceAdamW3Ideal.sig) → Buf (Elt Ideal) ℓ) : Prop :=
  True

def Pre_KernelFinalLoss (m : (ℓ : Loc Cert.KernelFinalLoss.nD Cert.KernelFinalLoss.τ Cert.KernelFinalLoss.sig) → Buf (Elt Bits) ℓ) : Prop :=
  True

def Pre_KernelFinalLossIdeal (m : (ℓ : Loc Cert.KernelFinalLossIdeal.nD Cert.KernelFinalLossIdeal.τ Cert.KernelFinalLossIdeal.sig) → Buf (Elt Ideal) ℓ) : Prop :=
  True

def Pre_ReferenceFinalLossIdeal (m : (ℓ : Loc Cert.ReferenceFinalLossIdeal.nD Cert.ReferenceFinalLossIdeal.τ Cert.ReferenceFinalLossIdeal.sig) → Buf (Elt Ideal) ℓ) : Prop :=
  True

def Pre_KernelAdaln1 (m : (ℓ : Loc Cert.KernelAdaln1.nD Cert.KernelAdaln1.τ Cert.KernelAdaln1.sig) → Buf (Elt Bits) ℓ) : Prop :=
  True

def Pre_KernelAdaln1Ideal (m : (ℓ : Loc Cert.KernelAdaln1Ideal.nD Cert.KernelAdaln1Ideal.τ Cert.KernelAdaln1Ideal.sig) → Buf (Elt Ideal) ℓ) : Prop :=
  True

def Pre_ReferenceAdaln1Ideal (m : (ℓ : Loc Cert.ReferenceAdaln1Ideal.nD Cert.ReferenceAdaln1Ideal.τ Cert.ReferenceAdaln1Ideal.sig) → Buf (Elt Ideal) ℓ) : Prop :=
  True

def Pre_KernelAdaln2 (m : (ℓ : Loc Cert.KernelAdaln2.nD Cert.KernelAdaln2.τ Cert.KernelAdaln2.sig) → Buf (Elt Bits) ℓ) : Prop :=
  True

def Pre_KernelAdaln2Ideal (m : (ℓ : Loc Cert.KernelAdaln2Ideal.nD Cert.KernelAdaln2Ideal.τ Cert.KernelAdaln2Ideal.sig) → Buf (Elt Ideal) ℓ) : Prop :=
  True

def Pre_ReferenceAdaln2Ideal (m : (ℓ : Loc Cert.ReferenceAdaln2Ideal.nD Cert.ReferenceAdaln2Ideal.τ Cert.ReferenceAdaln2Ideal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_ReferenceInProjIdeal (m : (ℓ : Loc Cert.ReferenceInProjIdeal.nD Cert.ReferenceInProjIdeal.τ Cert.ReferenceInProjIdeal.sig) → Buf (Elt Ideal) ℓ) : Prop :=
  True

def Pre_KernelMixerOut (m : (ℓ : Loc Cert.KernelMixerOut.nD Cert.KernelMixerOut.τ Cert.KernelMixerOut.sig) → Buf (Elt Bits) ℓ) : Prop :=
  True

def Pre_KernelMixerOutIdeal (m : (ℓ : Loc Cert.KernelMixerOutIdeal.nD Cert.KernelMixerOutIdeal.τ Cert.KernelMixerOutIdeal.sig) → Buf (Elt Ideal) ℓ) : Prop :=
  True

def Pre_ReferenceMixerOutIdeal (m : (ℓ : Loc Cert.ReferenceMixerOutIdeal.nD Cert.ReferenceMixerOutIdeal.τ Cert.ReferenceMixerOutIdeal.sig) → Buf (Elt Ideal) ℓ) : Prop :=
  True

def Pre_KernelMixerOutBwd (m : (ℓ : Loc Cert.KernelMixerOutBwd.nD Cert.KernelMixerOutBwd.τ Cert.KernelMixerOutBwd.sig) → Buf (Elt Bits) ℓ) : Prop :=
  True

def Pre_KernelMixerOutBwdIdeal (m : (ℓ : Loc Cert.KernelMixerOutBwdIdeal.nD Cert.KernelMixerOutBwdIdeal.τ Cert.KernelMixerOutBwdIdeal.sig) → Buf (Elt Ideal) ℓ) : Prop :=
  True

def Pre_ReferenceMixerOutBwdIdeal (m : (ℓ : Loc Cert.ReferenceMixerOutBwdIdeal.nD Cert.ReferenceMixerOutBwdIdeal.τ Cert.ReferenceMixerOutBwdIdeal.sig) → Buf (Elt Ideal) ℓ) : Prop :=
  True

def Pre_KernelRsMix (m : (ℓ : Loc Cert.KernelRsMix.nD Cert.KernelRsMix.τ Cert.KernelRsMix.sig) → Buf (Elt Bits) ℓ) : Prop :=
  True

def Pre_KernelRsMixIdeal (m : (ℓ : Loc Cert.KernelRsMixIdeal.nD Cert.KernelRsMixIdeal.τ Cert.KernelRsMixIdeal.sig) → Buf (Elt Ideal) ℓ) : Prop :=
  True

def Pre_ReferenceRsMixIdeal (m : (ℓ : Loc Cert.ReferenceRsMixIdeal.nD Cert.ReferenceRsMixIdeal.τ Cert.ReferenceRsMixIdeal.sig) → Buf (Elt Ideal) ℓ) : Prop :=
  True

def Pre_KernelRsFfn (m : (ℓ : Loc Cert.KernelRsFfn.nD Cert.KernelRsFfn.τ Cert.KernelRsFfn.sig) → Buf (Elt Bits) ℓ) : Prop :=
  True

def Pre_KernelRsFfnIdeal (m : (ℓ : Loc Cert.KernelRsFfnIdeal.nD Cert.KernelRsFfnIdeal.τ Cert.KernelRsFfnIdeal.sig) → Buf (Elt Ideal) ℓ) : Prop :=
  True

def Pre_ReferenceRsFfnIdeal (m : (ℓ : Loc Cert.ReferenceRsFfnIdeal.nD Cert.ReferenceRsFfnIdeal.τ Cert.ReferenceRsFfnIdeal.sig) → Buf (Elt Ideal) ℓ) : Prop :=
  True

def Pre_KernelSibMix (m : (ℓ : Loc Cert.KernelSibMix.nD Cert.KernelSibMix.τ Cert.KernelSibMix.sig) → Buf (Elt Bits) ℓ) : Prop :=
  True

def Pre_KernelSibMixIdeal (m : (ℓ : Loc Cert.KernelSibMixIdeal.nD Cert.KernelSibMixIdeal.τ Cert.KernelSibMixIdeal.sig) → Buf (Elt Ideal) ℓ) : Prop :=
  True

def Pre_ReferenceSibMixIdeal (m : (ℓ : Loc Cert.ReferenceSibMixIdeal.nD Cert.ReferenceSibMixIdeal.τ Cert.ReferenceSibMixIdeal.sig) → Buf (Elt Ideal) ℓ) : Prop :=
  True

def Pre_KernelSibFfn (m : (ℓ : Loc Cert.KernelSibFfn.nD Cert.KernelSibFfn.τ Cert.KernelSibFfn.sig) → Buf (Elt Bits) ℓ) : Prop :=
  True

def Pre_KernelSibFfnIdeal (m : (ℓ : Loc Cert.KernelSibFfnIdeal.nD Cert.KernelSibFfnIdeal.τ Cert.KernelSibFfnIdeal.sig) → Buf (Elt Ideal) ℓ) : Prop :=
  True

def Pre_ReferenceSibFfnIdeal (m : (ℓ : Loc Cert.ReferenceSibFfnIdeal.nD Cert.ReferenceSibFfnIdeal.τ Cert.ReferenceSibFfnIdeal.sig) → Buf (Elt Ideal) ℓ) : Prop :=
  True

def Pre_KernelAdaFwd (m : (ℓ : Loc Cert.KernelAdaFwd.nD Cert.KernelAdaFwd.τ Cert.KernelAdaFwd.sig) → Buf (Elt Bits) ℓ) : Prop :=
  True

def Pre_KernelAdaFwdIdeal (m : (ℓ : Loc Cert.KernelAdaFwdIdeal.nD Cert.KernelAdaFwdIdeal.τ Cert.KernelAdaFwdIdeal.sig) → Buf (Elt Ideal) ℓ) : Prop :=
  True

def Pre_ReferenceAdaFwdIdeal (m : (ℓ : Loc Cert.ReferenceAdaFwdIdeal.nD Cert.ReferenceAdaFwdIdeal.τ Cert.ReferenceAdaFwdIdeal.sig) → Buf (Elt Ideal) ℓ) : Prop :=
  True

def Pre_KernelLossSum (m : (ℓ : Loc Cert.KernelLossSum.nD Cert.KernelLossSum.τ Cert.KernelLossSum.sig) → Buf (Elt Bits) ℓ) : Prop :=
  True

def Pre_KernelLossSumIdeal (m : (ℓ : Loc Cert.KernelLossSumIdeal.nD Cert.KernelLossSumIdeal.τ Cert.KernelLossSumIdeal.sig) → Buf (Elt Ideal) ℓ) : Prop :=
  True

def Pre_ReferenceLossSumIdeal (m : (ℓ : Loc Cert.ReferenceLossSumIdeal.nD Cert.ReferenceLossSumIdeal.τ Cert.ReferenceLossSumIdeal.sig) → Buf (Elt Ideal) ℓ) : Prop :=
  True

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1))
      ∧ r.2.sem = fun _ => 0)

def quiescent_KernelFfnAct [hKernelFfnAct : Cert.KernelFfnAct.Facts] : Prop :=
  ∀ (m : (ℓ : Loc Cert.KernelFfnAct.nD Cert.KernelFfnAct.τ Cert.KernelFfnAct.sig) → Buf (Elt Bits) ℓ) (g : Dev Cert.KernelFfnAct.nD → PrngReg), Pre_KernelFfnAct m →
    θ_run (Cert.KernelFfnAct.defs (F := Bits)) (onTc (τ := Cert.KernelFfnAct.τ) (Cert.KernelFfnAct.main (F := Bits))) ⟨m, fun _ => 0, g⟩ (fun r => (∀ c : Dev Cert.KernelFfnAct.nD,
      r.2.mem ((c.tc : Thread Cert.KernelFfnAct.nD Cert.KernelFfnAct.τ).loc Cert.KernelFfnAct.main_arg0) = m ((c.tc : Thread Cert.KernelFfnAct.nD Cert.KernelFfnAct.τ).loc Cert.KernelFfnAct.main_arg0)
      ∧ r.2.mem ((c.tc : Thread Cert.KernelFfnAct.nD Cert.KernelFfnAct.τ).loc Cert.KernelFfnAct.main_arg1) = m ((c.tc : Thread Cert.KernelFfnAct.nD Cert.KernelFfnAct.τ).loc Cert.KernelFfnAct.main_arg1)
      ∧ r.2.mem ((c.tc : Thread Cert.KernelFfnAct.nD Cert.KernelFfnAct.τ).loc Cert.KernelFfnAct.main_arg2) = m ((c.tc : Thread Cert.KernelFfnAct.nD Cert.KernelFfnAct.τ).loc Cert.KernelFfnAct.main_arg2))
      ∧ r.2.sem = fun _ => 0)

def quiescent_KernelFfnActIdeal [hKernelFfnActIdeal : Cert.KernelFfnActIdeal.Facts] : Prop :=
  ∀ (m : (ℓ : Loc Cert.KernelFfnActIdeal.nD Cert.KernelFfnActIdeal.τ Cert.KernelFfnActIdeal.sig) → Buf (Elt Ideal) ℓ) (g : Dev Cert.KernelFfnActIdeal.nD → PrngReg), Pre_KernelFfnActIdeal m →
    θ_run (Cert.KernelFfnActIdeal.defs (F := Ideal)) (onTc (τ := Cert.KernelFfnActIdeal.τ) (Cert.KernelFfnActIdeal.main (F := Ideal))) ⟨m, fun _ => 0, g⟩ (fun r => (∀ c : Dev Cert.KernelFfnActIdeal.nD,
      r.2.mem ((c.tc : Thread Cert.KernelFfnActIdeal.nD Cert.KernelFfnActIdeal.τ).loc Cert.KernelFfnActIdeal.main_arg0) = m ((c.tc : Thread Cert.KernelFfnActIdeal.nD Cert.KernelFfnActIdeal.τ).loc Cert.KernelFfnActIdeal.main_arg0)
      ∧ r.2.mem ((c.tc : Thread Cert.KernelFfnActIdeal.nD Cert.KernelFfnActIdeal.τ).loc Cert.KernelFfnActIdeal.main_arg1) = m ((c.tc : Thread Cert.KernelFfnActIdeal.nD Cert.KernelFfnActIdeal.τ).loc Cert.KernelFfnActIdeal.main_arg1)
      ∧ r.2.mem ((c.tc : Thread Cert.KernelFfnActIdeal.nD Cert.KernelFfnActIdeal.τ).loc Cert.KernelFfnActIdeal.main_arg2) = m ((c.tc : Thread Cert.KernelFfnActIdeal.nD Cert.KernelFfnActIdeal.τ).loc Cert.KernelFfnActIdeal.main_arg2))
      ∧ r.2.sem = fun _ => 0)

def quiescent_KernelFfnActIdeal_pre_finite_ffn [hKernelFfnActIdeal : Cert.KernelFfnActIdeal.Facts] [hPre_finite_ffn : Cert.Pre_finite_ffn.Facts] : Prop :=
  ∀ (m : (ℓ : Loc Cert.KernelFfnActIdeal.nD Cert.KernelFfnActIdeal.τ Cert.KernelFfnActIdeal.sig) → Buf (Elt Ideal) ℓ) (g : Dev Cert.KernelFfnActIdeal.nD → PrngReg), Pre_KernelFfnActIdeal_finite_ffn m →
    θ_run (Cert.KernelFfnActIdeal.defs (F := Ideal)) (onTc (τ := Cert.KernelFfnActIdeal.τ) (Cert.KernelFfnActIdeal.main (F := Ideal))) ⟨m, fun _ => 0, g⟩ (fun r => (∀ c : Dev Cert.KernelFfnActIdeal.nD,
      r.2.mem ((c.tc : Thread Cert.KernelFfnActIdeal.nD Cert.KernelFfnActIdeal.τ).loc Cert.KernelFfnActIdeal.main_arg0) = m ((c.tc : Thread Cert.KernelFfnActIdeal.nD Cert.KernelFfnActIdeal.τ).loc Cert.KernelFfnActIdeal.main_arg0)
      ∧ r.2.mem ((c.tc : Thread Cert.KernelFfnActIdeal.nD Cert.KernelFfnActIdeal.τ).loc Cert.KernelFfnActIdeal.main_arg1) = m ((c.tc : Thread Cert.KernelFfnActIdeal.nD Cert.KernelFfnActIdeal.τ).loc Cert.KernelFfnActIdeal.main_arg1)
      ∧ r.2.mem ((c.tc : Thread Cert.KernelFfnActIdeal.nD Cert.KernelFfnActIdeal.τ).loc Cert.KernelFfnActIdeal.main_arg2) = m ((c.tc : Thread Cert.KernelFfnActIdeal.nD Cert.KernelFfnActIdeal.τ).loc Cert.KernelFfnActIdeal.main_arg2))
      ∧ r.2.sem = fun _ => 0)

def quiescent_ReferenceFfnActIdeal [hReferenceFfnActIdeal : Cert.ReferenceFfnActIdeal.Facts] : Prop :=
  ∀ (m : (ℓ : Loc Cert.ReferenceFfnActIdeal.nD Cert.ReferenceFfnActIdeal.τ Cert.ReferenceFfnActIdeal.sig) → Buf (Elt Ideal) ℓ) (g : Dev Cert.ReferenceFfnActIdeal.nD → PrngReg), Pre_ReferenceFfnActIdeal m →
    θ_run (Cert.ReferenceFfnActIdeal.defs (F := Ideal)) (onTc (τ := Cert.ReferenceFfnActIdeal.τ) (Cert.ReferenceFfnActIdeal.main (F := Ideal))) ⟨m, fun _ => 0, g⟩ (fun r => (∀ c : Dev Cert.ReferenceFfnActIdeal.nD,
      r.2.mem ((c.tc : Thread Cert.ReferenceFfnActIdeal.nD Cert.ReferenceFfnActIdeal.τ).loc Cert.ReferenceFfnActIdeal.main_arg0) = m ((c.tc : Thread Cert.ReferenceFfnActIdeal.nD Cert.ReferenceFfnActIdeal.τ).loc Cert.ReferenceFfnActIdeal.main_arg0)
      ∧ r.2.mem ((c.tc : Thread Cert.ReferenceFfnActIdeal.nD Cert.ReferenceFfnActIdeal.τ).loc Cert.ReferenceFfnActIdeal.main_arg1) = m ((c.tc : Thread Cert.ReferenceFfnActIdeal.nD Cert.ReferenceFfnActIdeal.τ).loc Cert.ReferenceFfnActIdeal.main_arg1)
      ∧ r.2.mem ((c.tc : Thread Cert.ReferenceFfnActIdeal.nD Cert.ReferenceFfnActIdeal.τ).loc Cert.ReferenceFfnActIdeal.main_arg2) = m ((c.tc : Thread Cert.ReferenceFfnActIdeal.nD Cert.ReferenceFfnActIdeal.τ).loc Cert.ReferenceFfnActIdeal.main_arg2))
      ∧ r.2.sem = fun _ => 0)

def quiescent_ReferenceFfnActIdeal_pre_finite_ffn [hReferenceFfnActIdeal : Cert.ReferenceFfnActIdeal.Facts] [hPre_finite_ffn : Cert.Pre_finite_ffn.Facts] : Prop :=
  ∀ (m : (ℓ : Loc Cert.ReferenceFfnActIdeal.nD Cert.ReferenceFfnActIdeal.τ Cert.ReferenceFfnActIdeal.sig) → Buf (Elt Ideal) ℓ) (g : Dev Cert.ReferenceFfnActIdeal.nD → PrngReg), Pre_ReferenceFfnActIdeal_finite_ffn m →
    θ_run (Cert.ReferenceFfnActIdeal.defs (F := Ideal)) (onTc (τ := Cert.ReferenceFfnActIdeal.τ) (Cert.ReferenceFfnActIdeal.main (F := Ideal))) ⟨m, fun _ => 0, g⟩ (fun r => (∀ c : Dev Cert.ReferenceFfnActIdeal.nD,
      r.2.mem ((c.tc : Thread Cert.ReferenceFfnActIdeal.nD Cert.ReferenceFfnActIdeal.τ).loc Cert.ReferenceFfnActIdeal.main_arg0) = m ((c.tc : Thread Cert.ReferenceFfnActIdeal.nD Cert.ReferenceFfnActIdeal.τ).loc Cert.ReferenceFfnActIdeal.main_arg0)
      ∧ r.2.mem ((c.tc : Thread Cert.ReferenceFfnActIdeal.nD Cert.ReferenceFfnActIdeal.τ).loc Cert.ReferenceFfnActIdeal.main_arg1) = m ((c.tc : Thread Cert.ReferenceFfnActIdeal.nD Cert.ReferenceFfnActIdeal.τ).loc Cert.ReferenceFfnActIdeal.main_arg1)
      ∧ r.2.mem ((c.tc : Thread Cert.ReferenceFfnActIdeal.nD Cert.ReferenceFfnActIdeal.τ).loc Cert.ReferenceFfnActIdeal.main_arg2) = m ((c.tc : Thread Cert.ReferenceFfnActIdeal.nD Cert.ReferenceFfnActIdeal.τ).loc Cert.ReferenceFfnActIdeal.main_arg2))
      ∧ r.2.sem = fun _ => 0)

def quiescent_KernelFfnOutDw [hKernelFfnOutDw : Cert.KernelFfnOutDw.Facts] : Prop :=
  ∀ (m : (ℓ : Loc Cert.KernelFfnOutDw.nD Cert.KernelFfnOutDw.τ Cert.KernelFfnOutDw.sig) → Buf (Elt Bits) ℓ) (g : Dev Cert.KernelFfnOutDw.nD → PrngReg), Pre_KernelFfnOutDw m →
    θ_run (Cert.KernelFfnOutDw.defs (F := Bits)) (onTc (τ := Cert.KernelFfnOutDw.τ) (Cert.KernelFfnOutDw.main (F := Bits))) ⟨m, fun _ => 0, g⟩ (fun r => (∀ c : Dev Cert.KernelFfnOutDw.nD,
      r.2.mem ((c.tc : Thread Cert.KernelFfnOutDw.nD Cert.KernelFfnOutDw.τ).loc Cert.KernelFfnOutDw.main_arg0) = m ((c.tc : Thread Cert.KernelFfnOutDw.nD Cert.KernelFfnOutDw.τ).loc Cert.KernelFfnOutDw.main_arg0)
      ∧ r.2.mem ((c.tc : Thread Cert.KernelFfnOutDw.nD Cert.KernelFfnOutDw.τ).loc Cert.KernelFfnOutDw.main_arg1) = m ((c.tc : Thread Cert.KernelFfnOutDw.nD Cert.KernelFfnOutDw.τ).loc Cert.KernelFfnOutDw.main_arg1))
      ∧ r.2.sem = fun _ => 0)

def quiescent_KernelFfnOutDwIdeal [hKernelFfnOutDwIdeal : Cert.KernelFfnOutDwIdeal.Facts] : Prop :=
  ∀ (m : (ℓ : Loc Cert.KernelFfnOutDwIdeal.nD Cert.KernelFfnOutDwIdeal.τ Cert.KernelFfnOutDwIdeal.sig) → Buf (Elt Ideal) ℓ) (g : Dev Cert.KernelFfnOutDwIdeal.nD → PrngReg), Pre_KernelFfnOutDwIdeal m →
    θ_run (Cert.KernelFfnOutDwIdeal.defs (F := Ideal)) (onTc (τ := Cert.KernelFfnOutDwIdeal.τ) (Cert.KernelFfnOutDwIdeal.main (F := Ideal))) ⟨m, fun _ => 0, g⟩ (fun r => (∀ c : Dev Cert.KernelFfnOutDwIdeal.nD,
      r.2.mem ((c.tc : Thread Cert.KernelFfnOutDwIdeal.nD Cert.KernelFfnOutDwIdeal.τ).loc Cert.KernelFfnOutDwIdeal.main_arg0) = m ((c.tc : Thread Cert.KernelFfnOutDwIdeal.nD Cert.KernelFfnOutDwIdeal.τ).loc Cert.KernelFfnOutDwIdeal.main_arg0)
      ∧ r.2.mem ((c.tc : Thread Cert.KernelFfnOutDwIdeal.nD Cert.KernelFfnOutDwIdeal.τ).loc Cert.KernelFfnOutDwIdeal.main_arg1) = m ((c.tc : Thread Cert.KernelFfnOutDwIdeal.nD Cert.KernelFfnOutDwIdeal.τ).loc Cert.KernelFfnOutDwIdeal.main_arg1))
      ∧ r.2.sem = fun _ => 0)

def quiescent_ReferenceFfnOutDwIdeal [hReferenceFfnOutDwIdeal : Cert.ReferenceFfnOutDwIdeal.Facts] : Prop :=
  ∀ (m : (ℓ : Loc Cert.ReferenceFfnOutDwIdeal.nD Cert.ReferenceFfnOutDwIdeal.τ Cert.ReferenceFfnOutDwIdeal.sig) → Buf (Elt Ideal) ℓ) (g : Dev Cert.ReferenceFfnOutDwIdeal.nD → PrngReg), Pre_ReferenceFfnOutDwIdeal m →
    θ_run (Cert.ReferenceFfnOutDwIdeal.defs (F := Ideal)) (onTc (τ := Cert.ReferenceFfnOutDwIdeal.τ) (Cert.ReferenceFfnOutDwIdeal.main (F := Ideal))) ⟨m, fun _ => 0, g⟩ (fun r => (∀ c : Dev Cert.ReferenceFfnOutDwIdeal.nD,
      r.2.mem ((c.tc : Thread Cert.ReferenceFfnOutDwIdeal.nD Cert.ReferenceFfnOutDwIdeal.τ).loc Cert.ReferenceFfnOutDwIdeal.main_arg0) = m ((c.tc : Thread Cert.ReferenceFfnOutDwIdeal.nD Cert.ReferenceFfnOutDwIdeal.τ).loc Cert.ReferenceFfnOutDwIdeal.main_arg0)
      ∧ r.2.mem ((c.tc : Thread Cert.ReferenceFfnOutDwIdeal.nD Cert.ReferenceFfnOutDwIdeal.τ).loc Cert.ReferenceFfnOutDwIdeal.main_arg1) = m ((c.tc : Thread Cert.ReferenceFfnOutDwIdeal.nD Cert.ReferenceFfnOutDwIdeal.τ).loc Cert.ReferenceFfnOutDwIdeal.main_arg1))
      ∧ r.2.sem = fun _ => 0)

def quiescent_KernelFfnInDx [hKernelFfnInDx : Cert.KernelFfnInDx.Facts] : Prop :=
  ∀ (m : (ℓ : Loc Cert.KernelFfnInDx.nD Cert.KernelFfnInDx.τ Cert.KernelFfnInDx.sig) → Buf (Elt Bits) ℓ) (g : Dev Cert.KernelFfnInDx.nD → PrngReg), Pre_KernelFfnInDx m →
    θ_run (Cert.KernelFfnInDx.defs (F := Bits)) (onTc (τ := Cert.KernelFfnInDx.τ) (Cert.KernelFfnInDx.main (F := Bits))) ⟨m, fun _ => 0, g⟩ (fun r => (∀ c : Dev Cert.KernelFfnInDx.nD,
      r.2.mem ((c.tc : Thread Cert.KernelFfnInDx.nD Cert.KernelFfnInDx.τ).loc Cert.KernelFfnInDx.main_arg0) = m ((c.tc : Thread Cert.KernelFfnInDx.nD Cert.KernelFfnInDx.τ).loc Cert.KernelFfnInDx.main_arg0)
      ∧ r.2.mem ((c.tc : Thread Cert.KernelFfnInDx.nD Cert.KernelFfnInDx.τ).loc Cert.KernelFfnInDx.main_arg1) = m ((c.tc : Thread Cert.KernelFfnInDx.nD Cert.KernelFfnInDx.τ).loc Cert.KernelFfnInDx.main_arg1))
      ∧ r.2.sem = fun _ => 0)

def quiescent_KernelFfnInDxIdeal [hKernelFfnInDxIdeal : Cert.KernelFfnInDxIdeal.Facts] : Prop :=
  ∀ (m : (ℓ : Loc Cert.KernelFfnInDxIdeal.nD Cert.KernelFfnInDxIdeal.τ Cert.KernelFfnInDxIdeal.sig) → Buf (Elt Ideal) ℓ) (g : Dev Cert.KernelFfnInDxIdeal.nD → PrngReg), Pre_KernelFfnInDxIdeal m →
    θ_run (Cert.KernelFfnInDxIdeal.defs (F := Ideal)) (onTc (τ := Cert.KernelFfnInDxIdeal.τ) (Cert.KernelFfnInDxIdeal.main (F := Ideal))) ⟨m, fun _ => 0, g⟩ (fun r => (∀ c : Dev Cert.KernelFfnInDxIdeal.nD,
      r.2.mem ((c.tc : Thread Cert.KernelFfnInDxIdeal.nD Cert.KernelFfnInDxIdeal.τ).loc Cert.KernelFfnInDxIdeal.main_arg0) = m ((c.tc : Thread Cert.KernelFfnInDxIdeal.nD Cert.KernelFfnInDxIdeal.τ).loc Cert.KernelFfnInDxIdeal.main_arg0)
      ∧ r.2.mem ((c.tc : Thread Cert.KernelFfnInDxIdeal.nD Cert.KernelFfnInDxIdeal.τ).loc Cert.KernelFfnInDxIdeal.main_arg1) = m ((c.tc : Thread Cert.KernelFfnInDxIdeal.nD Cert.KernelFfnInDxIdeal.τ).loc Cert.KernelFfnInDxIdeal.main_arg1))
      ∧ r.2.sem = fun _ => 0)

def quiescent_ReferenceFfnInDxIdeal [hReferenceFfnInDxIdeal : Cert.ReferenceFfnInDxIdeal.Facts] : Prop :=
  ∀ (m : (ℓ : Loc Cert.ReferenceFfnInDxIdeal.nD Cert.ReferenceFfnInDxIdeal.τ Cert.ReferenceFfnInDxIdeal.sig) → Buf (Elt Ideal) ℓ) (g : Dev Cert.ReferenceFfnInDxIdeal.nD → PrngReg), Pre_ReferenceFfnInDxIdeal m →
    θ_run (Cert.ReferenceFfnInDxIdeal.defs (F := Ideal)) (onTc (τ := Cert.ReferenceFfnInDxIdeal.τ) (Cert.ReferenceFfnInDxIdeal.main (F := Ideal))) ⟨m, fun _ => 0, g⟩ (fun r => (∀ c : Dev Cert.ReferenceFfnInDxIdeal.nD,
      r.2.mem ((c.tc : Thread Cert.ReferenceFfnInDxIdeal.nD Cert.ReferenceFfnInDxIdeal.τ).loc Cert.ReferenceFfnInDxIdeal.main_arg0) = m ((c.tc : Thread Cert.ReferenceFfnInDxIdeal.nD Cert.ReferenceFfnInDxIdeal.τ).loc Cert.ReferenceFfnInDxIdeal.main_arg0)
      ∧ r.2.mem ((c.tc : Thread Cert.ReferenceFfnInDxIdeal.nD Cert.ReferenceFfnInDxIdeal.τ).loc Cert.ReferenceFfnInDxIdeal.main_arg1) = m ((c.tc : Thread Cert.ReferenceFfnInDxIdeal.nD Cert.ReferenceFfnInDxIdeal.τ).loc Cert.ReferenceFfnInDxIdeal.main_arg1))
      ∧ r.2.sem = fun _ => 0)

def quiescent_KernelFfnInDw [hKernelFfnInDw : Cert.KernelFfnInDw.Facts] : Prop :=
  ∀ (m : (ℓ : Loc Cert.KernelFfnInDw.nD Cert.KernelFfnInDw.τ Cert.KernelFfnInDw.sig) → Buf (Elt Bits) ℓ) (g : Dev Cert.KernelFfnInDw.nD → PrngReg), Pre_KernelFfnInDw m →
    θ_run (Cert.KernelFfnInDw.defs (F := Bits)) (onTc (τ := Cert.KernelFfnInDw.τ) (Cert.KernelFfnInDw.main (F := Bits))) ⟨m, fun _ => 0, g⟩ (fun r => (∀ c : Dev Cert.KernelFfnInDw.nD,
      r.2.mem ((c.tc : Thread Cert.KernelFfnInDw.nD Cert.KernelFfnInDw.τ).loc Cert.KernelFfnInDw.main_arg0) = m ((c.tc : Thread Cert.KernelFfnInDw.nD Cert.KernelFfnInDw.τ).loc Cert.KernelFfnInDw.main_arg0)
      ∧ r.2.mem ((c.tc : Thread Cert.KernelFfnInDw.nD Cert.KernelFfnInDw.τ).loc Cert.KernelFfnInDw.main_arg1) = m ((c.tc : Thread Cert.KernelFfnInDw.nD Cert.KernelFfnInDw.τ).loc Cert.KernelFfnInDw.main_arg1))
      ∧ r.2.sem = fun _ => 0)

def quiescent_KernelFfnInDwIdeal [hKernelFfnInDwIdeal : Cert.KernelFfnInDwIdeal.Facts] : Prop :=
  ∀ (m : (ℓ : Loc Cert.KernelFfnInDwIdeal.nD Cert.KernelFfnInDwIdeal.τ Cert.KernelFfnInDwIdeal.sig) → Buf (Elt Ideal) ℓ) (g : Dev Cert.KernelFfnInDwIdeal.nD → PrngReg), Pre_KernelFfnInDwIdeal m →
    θ_run (Cert.KernelFfnInDwIdeal.defs (F := Ideal)) (onTc (τ := Cert.KernelFfnInDwIdeal.τ) (Cert.KernelFfnInDwIdeal.main (F := Ideal))) ⟨m, fun _ => 0, g⟩ (fun r => (∀ c : Dev Cert.KernelFfnInDwIdeal.nD,
      r.2.mem ((c.tc : Thread Cert.KernelFfnInDwIdeal.nD Cert.KernelFfnInDwIdeal.τ).loc Cert.KernelFfnInDwIdeal.main_arg0) = m ((c.tc : Thread Cert.KernelFfnInDwIdeal.nD Cert.KernelFfnInDwIdeal.τ).loc Cert.KernelFfnInDwIdeal.main_arg0)
      ∧ r.2.mem ((c.tc : Thread Cert.KernelFfnInDwIdeal.nD Cert.KernelFfnInDwIdeal.τ).loc Cert.KernelFfnInDwIdeal.main_arg1) = m ((c.tc : Thread Cert.KernelFfnInDwIdeal.nD Cert.KernelFfnInDwIdeal.τ).loc Cert.KernelFfnInDwIdeal.main_arg1))
      ∧ r.2.sem = fun _ => 0)

def quiescent_ReferenceFfnInDwIdeal [hReferenceFfnInDwIdeal : Cert.ReferenceFfnInDwIdeal.Facts] : Prop :=
  ∀ (m : (ℓ : Loc Cert.ReferenceFfnInDwIdeal.nD Cert.ReferenceFfnInDwIdeal.τ Cert.ReferenceFfnInDwIdeal.sig) → Buf (Elt Ideal) ℓ) (g : Dev Cert.ReferenceFfnInDwIdeal.nD → PrngReg), Pre_ReferenceFfnInDwIdeal m →
    θ_run (Cert.ReferenceFfnInDwIdeal.defs (F := Ideal)) (onTc (τ := Cert.ReferenceFfnInDwIdeal.τ) (Cert.ReferenceFfnInDwIdeal.main (F := Ideal))) ⟨m, fun _ => 0, g⟩ (fun r => (∀ c : Dev Cert.ReferenceFfnInDwIdeal.nD,
      r.2.mem ((c.tc : Thread Cert.ReferenceFfnInDwIdeal.nD Cert.ReferenceFfnInDwIdeal.τ).loc Cert.ReferenceFfnInDwIdeal.main_arg0) = m ((c.tc : Thread Cert.ReferenceFfnInDwIdeal.nD Cert.ReferenceFfnInDwIdeal.τ).loc Cert.ReferenceFfnInDwIdeal.main_arg0)
      ∧ r.2.mem ((c.tc : Thread Cert.ReferenceFfnInDwIdeal.nD Cert.ReferenceFfnInDwIdeal.τ).loc Cert.ReferenceFfnInDwIdeal.main_arg1) = m ((c.tc : Thread Cert.ReferenceFfnInDwIdeal.nD Cert.ReferenceFfnInDwIdeal.τ).loc Cert.ReferenceFfnInDwIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelAdaBwd [hKernelAdaBwd : Cert.KernelAdaBwd.Facts] : Prop :=
  ∀ (m : (ℓ : Loc Cert.KernelAdaBwd.nD Cert.KernelAdaBwd.τ Cert.KernelAdaBwd.sig) → Buf (Elt Bits) ℓ) (g : Dev Cert.KernelAdaBwd.nD → PrngReg), Pre_KernelAdaBwd m →
    θ_run (Cert.KernelAdaBwd.defs (F := Bits)) (onTc (τ := Cert.KernelAdaBwd.τ) (Cert.KernelAdaBwd.main (F := Bits))) ⟨m, fun _ => 0, g⟩ (fun r => (∀ c : Dev Cert.KernelAdaBwd.nD,
      r.2.mem ((c.tc : Thread Cert.KernelAdaBwd.nD Cert.KernelAdaBwd.τ).loc Cert.KernelAdaBwd.main_arg0) = m ((c.tc : Thread Cert.KernelAdaBwd.nD Cert.KernelAdaBwd.τ).loc Cert.KernelAdaBwd.main_arg0)
      ∧ r.2.mem ((c.tc : Thread Cert.KernelAdaBwd.nD Cert.KernelAdaBwd.τ).loc Cert.KernelAdaBwd.main_arg1) = m ((c.tc : Thread Cert.KernelAdaBwd.nD Cert.KernelAdaBwd.τ).loc Cert.KernelAdaBwd.main_arg1))
      ∧ r.2.sem = fun _ => 0)

def quiescent_KernelAdaBwdIdeal [hKernelAdaBwdIdeal : Cert.KernelAdaBwdIdeal.Facts] : Prop :=
  ∀ (m : (ℓ : Loc Cert.KernelAdaBwdIdeal.nD Cert.KernelAdaBwdIdeal.τ Cert.KernelAdaBwdIdeal.sig) → Buf (Elt Ideal) ℓ) (g : Dev Cert.KernelAdaBwdIdeal.nD → PrngReg), Pre_KernelAdaBwdIdeal m →
    θ_run (Cert.KernelAdaBwdIdeal.defs (F := Ideal)) (onTc (τ := Cert.KernelAdaBwdIdeal.τ) (Cert.KernelAdaBwdIdeal.main (F := Ideal))) ⟨m, fun _ => 0, g⟩ (fun r => (∀ c : Dev Cert.KernelAdaBwdIdeal.nD,
      r.2.mem ((c.tc : Thread Cert.KernelAdaBwdIdeal.nD Cert.KernelAdaBwdIdeal.τ).loc Cert.KernelAdaBwdIdeal.main_arg0) = m ((c.tc : Thread Cert.KernelAdaBwdIdeal.nD Cert.KernelAdaBwdIdeal.τ).loc Cert.KernelAdaBwdIdeal.main_arg0)
      ∧ r.2.mem ((c.tc : Thread Cert.KernelAdaBwdIdeal.nD Cert.KernelAdaBwdIdeal.τ).loc Cert.KernelAdaBwdIdeal.main_arg1) = m ((c.tc : Thread Cert.KernelAdaBwdIdeal.nD Cert.KernelAdaBwdIdeal.τ).loc Cert.KernelAdaBwdIdeal.main_arg1))
      ∧ r.2.sem = fun _ => 0)

def quiescent_ReferenceAdaBwdIdeal [hReferenceAdaBwdIdeal : Cert.ReferenceAdaBwdIdeal.Facts] : Prop :=
  ∀ (m : (ℓ : Loc Cert.ReferenceAdaBwdIdeal.nD Cert.ReferenceAdaBwdIdeal.τ Cert.ReferenceAdaBwdIdeal.sig) → Buf (Elt Ideal) ℓ) (g : Dev Cert.ReferenceAdaBwdIdeal.nD → PrngReg), Pre_ReferenceAdaBwdIdeal m →
    θ_run (Cert.ReferenceAdaBwdIdeal.defs (F := Ideal)) (onTc (τ := Cert.ReferenceAdaBwdIdeal.τ) (Cert.ReferenceAdaBwdIdeal.main (F := Ideal))) ⟨m, fun _ => 0, g⟩ (fun r => (∀ c : Dev Cert.ReferenceAdaBwdIdeal.nD,
      r.2.mem ((c.tc : Thread Cert.ReferenceAdaBwdIdeal.nD Cert.ReferenceAdaBwdIdeal.τ).loc Cert.ReferenceAdaBwdIdeal.main_arg0) = m ((c.tc : Thread Cert.ReferenceAdaBwdIdeal.nD Cert.ReferenceAdaBwdIdeal.τ).loc Cert.ReferenceAdaBwdIdeal.main_arg0)
      ∧ r.2.mem ((c.tc : Thread Cert.ReferenceAdaBwdIdeal.nD Cert.ReferenceAdaBwdIdeal.τ).loc Cert.ReferenceAdaBwdIdeal.main_arg1) = m ((c.tc : Thread Cert.ReferenceAdaBwdIdeal.nD Cert.ReferenceAdaBwdIdeal.τ).loc Cert.ReferenceAdaBwdIdeal.main_arg1))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelAdamB [hKernelAdamB : Cert.KernelAdamB.Facts] : Prop :=
  ∀ (m : (ℓ : Loc Cert.KernelAdamB.nD Cert.KernelAdamB.τ Cert.KernelAdamB.sig) → Buf (Elt Bits) ℓ) (g : Dev Cert.KernelAdamB.nD → PrngReg), Pre_KernelAdamB m →
    θ_run (Cert.KernelAdamB.defs (F := Bits)) (onTc (τ := Cert.KernelAdamB.τ) (Cert.KernelAdamB.main (F := Bits))) ⟨m, fun _ => 0, g⟩ (fun r => (∀ c : Dev Cert.KernelAdamB.nD,
      r.2.mem ((c.tc : Thread Cert.KernelAdamB.nD Cert.KernelAdamB.τ).loc Cert.KernelAdamB.main_arg0) = m ((c.tc : Thread Cert.KernelAdamB.nD Cert.KernelAdamB.τ).loc Cert.KernelAdamB.main_arg0)
      ∧ r.2.mem ((c.tc : Thread Cert.KernelAdamB.nD Cert.KernelAdamB.τ).loc Cert.KernelAdamB.main_arg1) = m ((c.tc : Thread Cert.KernelAdamB.nD Cert.KernelAdamB.τ).loc Cert.KernelAdamB.main_arg1)
      ∧ r.2.mem ((c.tc : Thread Cert.KernelAdamB.nD Cert.KernelAdamB.τ).loc Cert.KernelAdamB.main_arg2) = m ((c.tc : Thread Cert.KernelAdamB.nD Cert.KernelAdamB.τ).loc Cert.KernelAdamB.main_arg2)
      ∧ r.2.mem ((c.tc : Thread Cert.KernelAdamB.nD Cert.KernelAdamB.τ).loc Cert.KernelAdamB.main_arg3) = m ((c.tc : Thread Cert.KernelAdamB.nD Cert.KernelAdamB.τ).loc Cert.KernelAdamB.main_arg3))
      ∧ r.2.sem = fun _ => 0)

def quiescent_KernelAdamBIdeal [hKernelAdamBIdeal : Cert.KernelAdamBIdeal.Facts] : Prop :=
  ∀ (m : (ℓ : Loc Cert.KernelAdamBIdeal.nD Cert.KernelAdamBIdeal.τ Cert.KernelAdamBIdeal.sig) → Buf (Elt Ideal) ℓ) (g : Dev Cert.KernelAdamBIdeal.nD → PrngReg), Pre_KernelAdamBIdeal m →
    θ_run (Cert.KernelAdamBIdeal.defs (F := Ideal)) (onTc (τ := Cert.KernelAdamBIdeal.τ) (Cert.KernelAdamBIdeal.main (F := Ideal))) ⟨m, fun _ => 0, g⟩ (fun r => (∀ c : Dev Cert.KernelAdamBIdeal.nD,
      r.2.mem ((c.tc : Thread Cert.KernelAdamBIdeal.nD Cert.KernelAdamBIdeal.τ).loc Cert.KernelAdamBIdeal.main_arg0) = m ((c.tc : Thread Cert.KernelAdamBIdeal.nD Cert.KernelAdamBIdeal.τ).loc Cert.KernelAdamBIdeal.main_arg0)
      ∧ r.2.mem ((c.tc : Thread Cert.KernelAdamBIdeal.nD Cert.KernelAdamBIdeal.τ).loc Cert.KernelAdamBIdeal.main_arg1) = m ((c.tc : Thread Cert.KernelAdamBIdeal.nD Cert.KernelAdamBIdeal.τ).loc Cert.KernelAdamBIdeal.main_arg1)
      ∧ r.2.mem ((c.tc : Thread Cert.KernelAdamBIdeal.nD Cert.KernelAdamBIdeal.τ).loc Cert.KernelAdamBIdeal.main_arg2) = m ((c.tc : Thread Cert.KernelAdamBIdeal.nD Cert.KernelAdamBIdeal.τ).loc Cert.KernelAdamBIdeal.main_arg2)
      ∧ r.2.mem ((c.tc : Thread Cert.KernelAdamBIdeal.nD Cert.KernelAdamBIdeal.τ).loc Cert.KernelAdamBIdeal.main_arg3) = m ((c.tc : Thread Cert.KernelAdamBIdeal.nD Cert.KernelAdamBIdeal.τ).loc Cert.KernelAdamBIdeal.main_arg3))
      ∧ r.2.sem = fun _ => 0)

def quiescent_ReferenceAdamBIdeal [hReferenceAdamBIdeal : Cert.ReferenceAdamBIdeal.Facts] : Prop :=
  ∀ (m : (ℓ : Loc Cert.ReferenceAdamBIdeal.nD Cert.ReferenceAdamBIdeal.τ Cert.ReferenceAdamBIdeal.sig) → Buf (Elt Ideal) ℓ) (g : Dev Cert.ReferenceAdamBIdeal.nD → PrngReg), Pre_ReferenceAdamBIdeal m →
    θ_run (Cert.ReferenceAdamBIdeal.defs (F := Ideal)) (onTc (τ := Cert.ReferenceAdamBIdeal.τ) (Cert.ReferenceAdamBIdeal.main (F := Ideal))) ⟨m, fun _ => 0, g⟩ (fun r => (∀ c : Dev Cert.ReferenceAdamBIdeal.nD,
      r.2.mem ((c.tc : Thread Cert.ReferenceAdamBIdeal.nD Cert.ReferenceAdamBIdeal.τ).loc Cert.ReferenceAdamBIdeal.main_arg0) = m ((c.tc : Thread Cert.ReferenceAdamBIdeal.nD Cert.ReferenceAdamBIdeal.τ).loc Cert.ReferenceAdamBIdeal.main_arg0)
      ∧ r.2.mem ((c.tc : Thread Cert.ReferenceAdamBIdeal.nD Cert.ReferenceAdamBIdeal.τ).loc Cert.ReferenceAdamBIdeal.main_arg1) = m ((c.tc : Thread Cert.ReferenceAdamBIdeal.nD Cert.ReferenceAdamBIdeal.τ).loc Cert.ReferenceAdamBIdeal.main_arg1)
      ∧ r.2.mem ((c.tc : Thread Cert.ReferenceAdamBIdeal.nD Cert.ReferenceAdamBIdeal.τ).loc Cert.ReferenceAdamBIdeal.main_arg2) = m ((c.tc : Thread Cert.ReferenceAdamBIdeal.nD Cert.ReferenceAdamBIdeal.τ).loc Cert.ReferenceAdamBIdeal.main_arg2)
      ∧ r.2.mem ((c.tc : Thread Cert.ReferenceAdamBIdeal.nD Cert.ReferenceAdamBIdeal.τ).loc Cert.ReferenceAdamBIdeal.main_arg3) = m ((c.tc : Thread Cert.ReferenceAdamBIdeal.nD Cert.ReferenceAdamBIdeal.τ).loc Cert.ReferenceAdamBIdeal.main_arg3))
      ∧ r.2.sem = fun _ => 0)

def quiescent_KernelAdamW1 [hKernelAdamW1 : Cert.KernelAdamW1.Facts] : Prop :=
  ∀ (m : (ℓ : Loc Cert.KernelAdamW1.nD Cert.KernelAdamW1.τ Cert.KernelAdamW1.sig) → Buf (Elt Bits) ℓ) (g : Dev Cert.KernelAdamW1.nD → PrngReg), Pre_KernelAdamW1 m →
    θ_run (Cert.KernelAdamW1.defs (F := Bits)) (onTc (τ := Cert.KernelAdamW1.τ) (Cert.KernelAdamW1.main (F := Bits))) ⟨m, fun _ => 0, g⟩ (fun r => (∀ c : Dev Cert.KernelAdamW1.nD,
      r.2.mem ((c.tc : Thread Cert.KernelAdamW1.nD Cert.KernelAdamW1.τ).loc Cert.KernelAdamW1.main_arg0) = m ((c.tc : Thread Cert.KernelAdamW1.nD Cert.KernelAdamW1.τ).loc Cert.KernelAdamW1.main_arg0)
      ∧ r.2.mem ((c.tc : Thread Cert.KernelAdamW1.nD Cert.KernelAdamW1.τ).loc Cert.KernelAdamW1.main_arg1) = m ((c.tc : Thread Cert.KernelAdamW1.nD Cert.KernelAdamW1.τ).loc Cert.KernelAdamW1.main_arg1)
      ∧ r.2.mem ((c.tc : Thread Cert.KernelAdamW1.nD Cert.KernelAdamW1.τ).loc Cert.KernelAdamW1.main_arg2) = m ((c.tc : Thread Cert.KernelAdamW1.nD Cert.KernelAdamW1.τ).loc Cert.KernelAdamW1.main_arg2)
      ∧ r.2.mem ((c.tc : Thread Cert.KernelAdamW1.nD Cert.KernelAdamW1.τ).loc Cert.KernelAdamW1.main_arg3) = m ((c.tc : Thread Cert.KernelAdamW1.nD Cert.KernelAdamW1.τ).loc Cert.KernelAdamW1.main_arg3)
      ∧ r.2.mem ((c.tc : Thread Cert.KernelAdamW1.nD Cert.KernelAdamW1.τ).loc Cert.KernelAdamW1.main_arg4) = m ((c.tc : Thread Cert.KernelAdamW1.nD Cert.KernelAdamW1.τ).loc Cert.KernelAdamW1.main_arg4)
      ∧ r.2.mem ((c.tc : Thread Cert.KernelAdamW1.nD Cert.KernelAdamW1.τ).loc Cert.KernelAdamW1.main_arg5) = m ((c.tc : Thread Cert.KernelAdamW1.nD Cert.KernelAdamW1.τ).loc Cert.KernelAdamW1.main_arg5)
      ∧ r.2.mem ((c.tc : Thread Cert.KernelAdamW1.nD Cert.KernelAdamW1.τ).loc Cert.KernelAdamW1.main_arg6) = m ((c.tc : Thread Cert.KernelAdamW1.nD Cert.KernelAdamW1.τ).loc Cert.KernelAdamW1.main_arg6)
      ∧ r.2.mem ((c.tc : Thread Cert.KernelAdamW1.nD Cert.KernelAdamW1.τ).loc Cert.KernelAdamW1.main_arg7) = m ((c.tc : Thread Cert.KernelAdamW1.nD Cert.KernelAdamW1.τ).loc Cert.KernelAdamW1.main_arg7)
      ∧ r.2.mem ((c.tc : Thread Cert.KernelAdamW1.nD Cert.KernelAdamW1.τ).loc Cert.KernelAdamW1.main_arg8) = m ((c.tc : Thread Cert.KernelAdamW1.nD Cert.KernelAdamW1.τ).loc Cert.KernelAdamW1.main_arg8)
      ∧ r.2.mem ((c.tc : Thread Cert.KernelAdamW1.nD Cert.KernelAdamW1.τ).loc Cert.KernelAdamW1.main_arg9) = m ((c.tc : Thread Cert.KernelAdamW1.nD Cert.KernelAdamW1.τ).loc Cert.KernelAdamW1.main_arg9)
      ∧ r.2.mem ((c.tc : Thread Cert.KernelAdamW1.nD Cert.KernelAdamW1.τ).loc Cert.KernelAdamW1.main_arg10) = m ((c.tc : Thread Cert.KernelAdamW1.nD Cert.KernelAdamW1.τ).loc Cert.KernelAdamW1.main_arg10)
      ∧ r.2.mem ((c.tc : Thread Cert.KernelAdamW1.nD Cert.KernelAdamW1.τ).loc Cert.KernelAdamW1.main_arg11) = m ((c.tc : Thread Cert.KernelAdamW1.nD Cert.KernelAdamW1.τ).loc Cert.KernelAdamW1.main_arg11))
      ∧ r.2.sem = fun _ => 0)

def quiescent_KernelAdamW1Ideal [hKernelAdamW1Ideal : Cert.KernelAdamW1Ideal.Facts] : Prop :=
  ∀ (m : (ℓ : Loc Cert.KernelAdamW1Ideal.nD Cert.KernelAdamW1Ideal.τ Cert.KernelAdamW1Ideal.sig) → Buf (Elt Ideal) ℓ) (g : Dev Cert.KernelAdamW1Ideal.nD → PrngReg), Pre_KernelAdamW1Ideal m →
    θ_run (Cert.KernelAdamW1Ideal.defs (F := Ideal)) (onTc (τ := Cert.KernelAdamW1Ideal.τ) (Cert.KernelAdamW1Ideal.main (F := Ideal))) ⟨m, fun _ => 0, g⟩ (fun r => (∀ c : Dev Cert.KernelAdamW1Ideal.nD,
      r.2.mem ((c.tc : Thread Cert.KernelAdamW1Ideal.nD Cert.KernelAdamW1Ideal.τ).loc Cert.KernelAdamW1Ideal.main_arg0) = m ((c.tc : Thread Cert.KernelAdamW1Ideal.nD Cert.KernelAdamW1Ideal.τ).loc Cert.KernelAdamW1Ideal.main_arg0)
      ∧ r.2.mem ((c.tc : Thread Cert.KernelAdamW1Ideal.nD Cert.KernelAdamW1Ideal.τ).loc Cert.KernelAdamW1Ideal.main_arg1) = m ((c.tc : Thread Cert.KernelAdamW1Ideal.nD Cert.KernelAdamW1Ideal.τ).loc Cert.KernelAdamW1Ideal.main_arg1)
      ∧ r.2.mem ((c.tc : Thread Cert.KernelAdamW1Ideal.nD Cert.KernelAdamW1Ideal.τ).loc Cert.KernelAdamW1Ideal.main_arg2) = m ((c.tc : Thread Cert.KernelAdamW1Ideal.nD Cert.KernelAdamW1Ideal.τ).loc Cert.KernelAdamW1Ideal.main_arg2)
      ∧ r.2.mem ((c.tc : Thread Cert.KernelAdamW1Ideal.nD Cert.KernelAdamW1Ideal.τ).loc Cert.KernelAdamW1Ideal.main_arg3) = m ((c.tc : Thread Cert.KernelAdamW1Ideal.nD Cert.KernelAdamW1Ideal.τ).loc Cert.KernelAdamW1Ideal.main_arg3)
      ∧ r.2.mem ((c.tc : Thread Cert.KernelAdamW1Ideal.nD Cert.KernelAdamW1Ideal.τ).loc Cert.KernelAdamW1Ideal.main_arg4) = m ((c.tc : Thread Cert.KernelAdamW1Ideal.nD Cert.KernelAdamW1Ideal.τ).loc Cert.KernelAdamW1Ideal.main_arg4)
      ∧ r.2.mem ((c.tc : Thread Cert.KernelAdamW1Ideal.nD Cert.KernelAdamW1Ideal.τ).loc Cert.KernelAdamW1Ideal.main_arg5) = m ((c.tc : Thread Cert.KernelAdamW1Ideal.nD Cert.KernelAdamW1Ideal.τ).loc Cert.KernelAdamW1Ideal.main_arg5)
      ∧ r.2.mem ((c.tc : Thread Cert.KernelAdamW1Ideal.nD Cert.KernelAdamW1Ideal.τ).loc Cert.KernelAdamW1Ideal.main_arg6) = m ((c.tc : Thread Cert.KernelAdamW1Ideal.nD Cert.KernelAdamW1Ideal.τ).loc Cert.KernelAdamW1Ideal.main_arg6)
      ∧ r.2.mem ((c.tc : Thread Cert.KernelAdamW1Ideal.nD Cert.KernelAdamW1Ideal.τ).loc Cert.KernelAdamW1Ideal.main_arg7) = m ((c.tc : Thread Cert.KernelAdamW1Ideal.nD Cert.KernelAdamW1Ideal.τ).loc Cert.KernelAdamW1Ideal.main_arg7)
      ∧ r.2.mem ((c.tc : Thread Cert.KernelAdamW1Ideal.nD Cert.KernelAdamW1Ideal.τ).loc Cert.KernelAdamW1Ideal.main_arg8) = m ((c.tc : Thread Cert.KernelAdamW1Ideal.nD Cert.KernelAdamW1Ideal.τ).loc Cert.KernelAdamW1Ideal.main_arg8)
      ∧ r.2.mem ((c.tc : Thread Cert.KernelAdamW1Ideal.nD Cert.KernelAdamW1Ideal.τ).loc Cert.KernelAdamW1Ideal.main_arg9) = m ((c.tc : Thread Cert.KernelAdamW1Ideal.nD Cert.KernelAdamW1Ideal.τ).loc Cert.KernelAdamW1Ideal.main_arg9)
      ∧ r.2.mem ((c.tc : Thread Cert.KernelAdamW1Ideal.nD Cert.KernelAdamW1Ideal.τ).loc Cert.KernelAdamW1Ideal.main_arg10) = m ((c.tc : Thread Cert.KernelAdamW1Ideal.nD Cert.KernelAdamW1Ideal.τ).loc Cert.KernelAdamW1Ideal.main_arg10)
      ∧ r.2.mem ((c.tc : Thread Cert.KernelAdamW1Ideal.nD Cert.KernelAdamW1Ideal.τ).loc Cert.KernelAdamW1Ideal.main_arg11) = m ((c.tc : Thread Cert.KernelAdamW1Ideal.nD Cert.KernelAdamW1Ideal.τ).loc Cert.KernelAdamW1Ideal.main_arg11))
      ∧ r.2.sem = fun _ => 0)

def quiescent_ReferenceAdamW1Ideal [hReferenceAdamW1Ideal : Cert.ReferenceAdamW1Ideal.Facts] : Prop :=
  ∀ (m : (ℓ : Loc Cert.ReferenceAdamW1Ideal.nD Cert.ReferenceAdamW1Ideal.τ Cert.ReferenceAdamW1Ideal.sig) → Buf (Elt Ideal) ℓ) (g : Dev Cert.ReferenceAdamW1Ideal.nD → PrngReg), Pre_ReferenceAdamW1Ideal m →
    θ_run (Cert.ReferenceAdamW1Ideal.defs (F := Ideal)) (onTc (τ := Cert.ReferenceAdamW1Ideal.τ) (Cert.ReferenceAdamW1Ideal.main (F := Ideal))) ⟨m, fun _ => 0, g⟩ (fun r => (∀ c : Dev Cert.ReferenceAdamW1Ideal.nD,
      r.2.mem ((c.tc : Thread Cert.ReferenceAdamW1Ideal.nD Cert.ReferenceAdamW1Ideal.τ).loc Cert.ReferenceAdamW1Ideal.main_arg0) = m ((c.tc : Thread Cert.ReferenceAdamW1Ideal.nD Cert.ReferenceAdamW1Ideal.τ).loc Cert.ReferenceAdamW1Ideal.main_arg0)
      ∧ r.2.mem ((c.tc : Thread Cert.ReferenceAdamW1Ideal.nD Cert.ReferenceAdamW1Ideal.τ).loc Cert.ReferenceAdamW1Ideal.main_arg1) = m ((c.tc : Thread Cert.ReferenceAdamW1Ideal.nD Cert.ReferenceAdamW1Ideal.τ).loc Cert.ReferenceAdamW1Ideal.main_arg1)
      ∧ r.2.mem ((c.tc : Thread Cert.ReferenceAdamW1Ideal.nD Cert.ReferenceAdamW1Ideal.τ).loc Cert.ReferenceAdamW1Ideal.main_arg2) = m ((c.tc : Thread Cert.ReferenceAdamW1Ideal.nD Cert.ReferenceAdamW1Ideal.τ).loc Cert.ReferenceAdamW1Ideal.main_arg2)
      ∧ r.2.mem ((c.tc : Thread Cert.ReferenceAdamW1Ideal.nD Cert.ReferenceAdamW1Ideal.τ).loc Cert.ReferenceAdamW1Ideal.main_arg3) = m ((c.tc : Thread Cert.ReferenceAdamW1Ideal.nD Cert.ReferenceAdamW1Ideal.τ).loc Cert.ReferenceAdamW1Ideal.main_arg3)
      ∧ r.2.mem ((c.tc : Thread Cert.ReferenceAdamW1Ideal.nD Cert.ReferenceAdamW1Ideal.τ).loc Cert.ReferenceAdamW1Ideal.main_arg4) = m ((c.tc : Thread Cert.ReferenceAdamW1Ideal.nD Cert.ReferenceAdamW1Ideal.τ).loc Cert.ReferenceAdamW1Ideal.main_arg4)
      ∧ r.2.mem ((c.tc : Thread Cert.ReferenceAdamW1Ideal.nD Cert.ReferenceAdamW1Ideal.τ).loc Cert.ReferenceAdamW1Ideal.main_arg5) = m ((c.tc : Thread Cert.ReferenceAdamW1Ideal.nD Cert.ReferenceAdamW1Ideal.τ).loc Cert.ReferenceAdamW1Ideal.main_arg5)
      ∧ r.2.mem ((c.tc : Thread Cert.ReferenceAdamW1Ideal.nD Cert.ReferenceAdamW1Ideal.τ).loc Cert.ReferenceAdamW1Ideal.main_arg6) = m ((c.tc : Thread Cert.ReferenceAdamW1Ideal.nD Cert.ReferenceAdamW1Ideal.τ).loc Cert.ReferenceAdamW1Ideal.main_arg6)
      ∧ r.2.mem ((c.tc : Thread Cert.ReferenceAdamW1Ideal.nD Cert.ReferenceAdamW1Ideal.τ).loc Cert.ReferenceAdamW1Ideal.main_arg7) = m ((c.tc : Thread Cert.ReferenceAdamW1Ideal.nD Cert.ReferenceAdamW1Ideal.τ).loc Cert.ReferenceAdamW1Ideal.main_arg7)
      ∧ r.2.mem ((c.tc : Thread Cert.ReferenceAdamW1Ideal.nD Cert.ReferenceAdamW1Ideal.τ).loc Cert.ReferenceAdamW1Ideal.main_arg8) = m ((c.tc : Thread Cert.ReferenceAdamW1Ideal.nD Cert.ReferenceAdamW1Ideal.τ).loc Cert.ReferenceAdamW1Ideal.main_arg8)
      ∧ r.2.mem ((c.tc : Thread Cert.ReferenceAdamW1Ideal.nD Cert.ReferenceAdamW1Ideal.τ).loc Cert.ReferenceAdamW1Ideal.main_arg9) = m ((c.tc : Thread Cert.ReferenceAdamW1Ideal.nD Cert.ReferenceAdamW1Ideal.τ).loc Cert.ReferenceAdamW1Ideal.main_arg9)
      ∧ r.2.mem ((c.tc : Thread Cert.ReferenceAdamW1Ideal.nD Cert.ReferenceAdamW1Ideal.τ).loc Cert.ReferenceAdamW1Ideal.main_arg10) = m ((c.tc : Thread Cert.ReferenceAdamW1Ideal.nD Cert.ReferenceAdamW1Ideal.τ).loc Cert.ReferenceAdamW1Ideal.main_arg10)
      ∧ r.2.mem ((c.tc : Thread Cert.ReferenceAdamW1Ideal.nD Cert.ReferenceAdamW1Ideal.τ).loc Cert.ReferenceAdamW1Ideal.main_arg11) = m ((c.tc : Thread Cert.ReferenceAdamW1Ideal.nD Cert.ReferenceAdamW1Ideal.τ).loc Cert.ReferenceAdamW1Ideal.main_arg11))
      ∧ r.2.sem = fun _ => 0)

def quiescent_KernelAdamW2 [hKernelAdamW2 : Cert.KernelAdamW2.Facts] : Prop :=
  ∀ (m : (ℓ : Loc Cert.KernelAdamW2.nD Cert.KernelAdamW2.τ Cert.KernelAdamW2.sig) → Buf (Elt Bits) ℓ) (g : Dev Cert.KernelAdamW2.nD → PrngReg), Pre_KernelAdamW2 m →
    θ_run (Cert.KernelAdamW2.defs (F := Bits)) (onTc (τ := Cert.KernelAdamW2.τ) (Cert.KernelAdamW2.main (F := Bits))) ⟨m, fun _ => 0, g⟩ (fun r => (∀ c : Dev Cert.KernelAdamW2.nD,
      r.2.mem ((c.tc : Thread Cert.KernelAdamW2.nD Cert.KernelAdamW2.τ).loc Cert.KernelAdamW2.main_arg0) = m ((c.tc : Thread Cert.KernelAdamW2.nD Cert.KernelAdamW2.τ).loc Cert.KernelAdamW2.main_arg0)
      ∧ r.2.mem ((c.tc : Thread Cert.KernelAdamW2.nD Cert.KernelAdamW2.τ).loc Cert.KernelAdamW2.main_arg1) = m ((c.tc : Thread Cert.KernelAdamW2.nD Cert.KernelAdamW2.τ).loc Cert.KernelAdamW2.main_arg1)
      ∧ r.2.mem ((c.tc : Thread Cert.KernelAdamW2.nD Cert.KernelAdamW2.τ).loc Cert.KernelAdamW2.main_arg2) = m ((c.tc : Thread Cert.KernelAdamW2.nD Cert.KernelAdamW2.τ).loc Cert.KernelAdamW2.main_arg2)
      ∧ r.2.mem ((c.tc : Thread Cert.KernelAdamW2.nD Cert.KernelAdamW2.τ).loc Cert.KernelAdamW2.main_arg3) = m ((c.tc : Thread Cert.KernelAdamW2.nD Cert.KernelAdamW2.τ).loc Cert.KernelAdamW2.main_arg3)
      ∧ r.2.mem ((c.tc : Thread Cert.KernelAdamW2.nD Cert.KernelAdamW2.τ).loc Cert.KernelAdamW2.main_arg4) = m ((c.tc : Thread Cert.KernelAdamW2.nD Cert.KernelAdamW2.τ).loc Cert.KernelAdamW2.main_arg4)
      ∧ r.2.mem ((c.tc : Thread Cert.KernelAdamW2.nD Cert.KernelAdamW2.τ).loc Cert.KernelAdamW2.main_arg5) = m ((c.tc : Thread Cert.KernelAdamW2.nD Cert.KernelAdamW2.τ).loc Cert.KernelAdamW2.main_arg5)
      ∧ r.2.mem ((c.tc : Thread Cert.KernelAdamW2.nD Cert.KernelAdamW2.τ).loc Cert.KernelAdamW2.main_arg6) = m ((c.tc : Thread Cert.KernelAdamW2.nD Cert.KernelAdamW2.τ).loc Cert.KernelAdamW2.main_arg6)
      ∧ r.2.mem ((c.tc : Thread Cert.KernelAdamW2.nD Cert.KernelAdamW2.τ).loc Cert.KernelAdamW2.main_arg7) = m ((c.tc : Thread Cert.KernelAdamW2.nD Cert.KernelAdamW2.τ).loc Cert.KernelAdamW2.main_arg7))
      ∧ r.2.sem = fun _ => 0)

def quiescent_KernelAdamW2Ideal [hKernelAdamW2Ideal : Cert.KernelAdamW2Ideal.Facts] : Prop :=
  ∀ (m : (ℓ : Loc Cert.KernelAdamW2Ideal.nD Cert.KernelAdamW2Ideal.τ Cert.KernelAdamW2Ideal.sig) → Buf (Elt Ideal) ℓ) (g : Dev Cert.KernelAdamW2Ideal.nD → PrngReg), Pre_KernelAdamW2Ideal m →
    θ_run (Cert.KernelAdamW2Ideal.defs (F := Ideal)) (onTc (τ := Cert.KernelAdamW2Ideal.τ) (Cert.KernelAdamW2Ideal.main (F := Ideal))) ⟨m, fun _ => 0, g⟩ (fun r => (∀ c : Dev Cert.KernelAdamW2Ideal.nD,
      r.2.mem ((c.tc : Thread Cert.KernelAdamW2Ideal.nD Cert.KernelAdamW2Ideal.τ).loc Cert.KernelAdamW2Ideal.main_arg0) = m ((c.tc : Thread Cert.KernelAdamW2Ideal.nD Cert.KernelAdamW2Ideal.τ).loc Cert.KernelAdamW2Ideal.main_arg0)
      ∧ r.2.mem ((c.tc : Thread Cert.KernelAdamW2Ideal.nD Cert.KernelAdamW2Ideal.τ).loc Cert.KernelAdamW2Ideal.main_arg1) = m ((c.tc : Thread Cert.KernelAdamW2Ideal.nD Cert.KernelAdamW2Ideal.τ).loc Cert.KernelAdamW2Ideal.main_arg1)
      ∧ r.2.mem ((c.tc : Thread Cert.KernelAdamW2Ideal.nD Cert.KernelAdamW2Ideal.τ).loc Cert.KernelAdamW2Ideal.main_arg2) = m ((c.tc : Thread Cert.KernelAdamW2Ideal.nD Cert.KernelAdamW2Ideal.τ).loc Cert.KernelAdamW2Ideal.main_arg2)
      ∧ r.2.mem ((c.tc : Thread Cert.KernelAdamW2Ideal.nD Cert.KernelAdamW2Ideal.τ).loc Cert.KernelAdamW2Ideal.main_arg3) = m ((c.tc : Thread Cert.KernelAdamW2Ideal.nD Cert.KernelAdamW2Ideal.τ).loc Cert.KernelAdamW2Ideal.main_arg3)
      ∧ r.2.mem ((c.tc : Thread Cert.KernelAdamW2Ideal.nD Cert.KernelAdamW2Ideal.τ).loc Cert.KernelAdamW2Ideal.main_arg4) = m ((c.tc : Thread Cert.KernelAdamW2Ideal.nD Cert.KernelAdamW2Ideal.τ).loc Cert.KernelAdamW2Ideal.main_arg4)
      ∧ r.2.mem ((c.tc : Thread Cert.KernelAdamW2Ideal.nD Cert.KernelAdamW2Ideal.τ).loc Cert.KernelAdamW2Ideal.main_arg5) = m ((c.tc : Thread Cert.KernelAdamW2Ideal.nD Cert.KernelAdamW2Ideal.τ).loc Cert.KernelAdamW2Ideal.main_arg5)
      ∧ r.2.mem ((c.tc : Thread Cert.KernelAdamW2Ideal.nD Cert.KernelAdamW2Ideal.τ).loc Cert.KernelAdamW2Ideal.main_arg6) = m ((c.tc : Thread Cert.KernelAdamW2Ideal.nD Cert.KernelAdamW2Ideal.τ).loc Cert.KernelAdamW2Ideal.main_arg6)
      ∧ r.2.mem ((c.tc : Thread Cert.KernelAdamW2Ideal.nD Cert.KernelAdamW2Ideal.τ).loc Cert.KernelAdamW2Ideal.main_arg7) = m ((c.tc : Thread Cert.KernelAdamW2Ideal.nD Cert.KernelAdamW2Ideal.τ).loc Cert.KernelAdamW2Ideal.main_arg7))
      ∧ r.2.sem = fun _ => 0)

def quiescent_ReferenceAdamW2Ideal [hReferenceAdamW2Ideal : Cert.ReferenceAdamW2Ideal.Facts] : Prop :=
  ∀ (m : (ℓ : Loc Cert.ReferenceAdamW2Ideal.nD Cert.ReferenceAdamW2Ideal.τ Cert.ReferenceAdamW2Ideal.sig) → Buf (Elt Ideal) ℓ) (g : Dev Cert.ReferenceAdamW2Ideal.nD → PrngReg), Pre_ReferenceAdamW2Ideal m →
    θ_run (Cert.ReferenceAdamW2Ideal.defs (F := Ideal)) (onTc (τ := Cert.ReferenceAdamW2Ideal.τ) (Cert.ReferenceAdamW2Ideal.main (F := Ideal))) ⟨m, fun _ => 0, g⟩ (fun r => (∀ c : Dev Cert.ReferenceAdamW2Ideal.nD,
      r.2.mem ((c.tc : Thread Cert.ReferenceAdamW2Ideal.nD Cert.ReferenceAdamW2Ideal.τ).loc Cert.ReferenceAdamW2Ideal.main_arg0) = m ((c.tc : Thread Cert.ReferenceAdamW2Ideal.nD Cert.ReferenceAdamW2Ideal.τ).loc Cert.ReferenceAdamW2Ideal.main_arg0)
      ∧ r.2.mem ((c.tc : Thread Cert.ReferenceAdamW2Ideal.nD Cert.ReferenceAdamW2Ideal.τ).loc Cert.ReferenceAdamW2Ideal.main_arg1) = m ((c.tc : Thread Cert.ReferenceAdamW2Ideal.nD Cert.ReferenceAdamW2Ideal.τ).loc Cert.ReferenceAdamW2Ideal.main_arg1)
      ∧ r.2.mem ((c.tc : Thread Cert.ReferenceAdamW2Ideal.nD Cert.ReferenceAdamW2Ideal.τ).loc Cert.ReferenceAdamW2Ideal.main_arg2) = m ((c.tc : Thread Cert.ReferenceAdamW2Ideal.nD Cert.ReferenceAdamW2Ideal.τ).loc Cert.ReferenceAdamW2Ideal.main_arg2)
      ∧ r.2.mem ((c.tc : Thread Cert.ReferenceAdamW2Ideal.nD Cert.ReferenceAdamW2Ideal.τ).loc Cert.ReferenceAdamW2Ideal.main_arg3) = m ((c.tc : Thread Cert.ReferenceAdamW2Ideal.nD Cert.ReferenceAdamW2Ideal.τ).loc Cert.ReferenceAdamW2Ideal.main_arg3)
      ∧ r.2.mem ((c.tc : Thread Cert.ReferenceAdamW2Ideal.nD Cert.ReferenceAdamW2Ideal.τ).loc Cert.ReferenceAdamW2Ideal.main_arg4) = m ((c.tc : Thread Cert.ReferenceAdamW2Ideal.nD Cert.ReferenceAdamW2Ideal.τ).loc Cert.ReferenceAdamW2Ideal.main_arg4)
      ∧ r.2.mem ((c.tc : Thread Cert.ReferenceAdamW2Ideal.nD Cert.ReferenceAdamW2Ideal.τ).loc Cert.ReferenceAdamW2Ideal.main_arg5) = m ((c.tc : Thread Cert.ReferenceAdamW2Ideal.nD Cert.ReferenceAdamW2Ideal.τ).loc Cert.ReferenceAdamW2Ideal.main_arg5)
      ∧ r.2.mem ((c.tc : Thread Cert.ReferenceAdamW2Ideal.nD Cert.ReferenceAdamW2Ideal.τ).loc Cert.ReferenceAdamW2Ideal.main_arg6) = m ((c.tc : Thread Cert.ReferenceAdamW2Ideal.nD Cert.ReferenceAdamW2Ideal.τ).loc Cert.ReferenceAdamW2Ideal.main_arg6)
      ∧ r.2.mem ((c.tc : Thread Cert.ReferenceAdamW2Ideal.nD Cert.ReferenceAdamW2Ideal.τ).loc Cert.ReferenceAdamW2Ideal.main_arg7) = m ((c.tc : Thread Cert.ReferenceAdamW2Ideal.nD Cert.ReferenceAdamW2Ideal.τ).loc Cert.ReferenceAdamW2Ideal.main_arg7))
      ∧ r.2.sem = fun _ => 0)

def quiescent_KernelAdamW3 [hKernelAdamW3 : Cert.KernelAdamW3.Facts] : Prop :=
  ∀ (m : (ℓ : Loc Cert.KernelAdamW3.nD Cert.KernelAdamW3.τ Cert.KernelAdamW3.sig) → Buf (Elt Bits) ℓ) (g : Dev Cert.KernelAdamW3.nD → PrngReg), Pre_KernelAdamW3 m →
    θ_run (Cert.KernelAdamW3.defs (F := Bits)) (onTc (τ := Cert.KernelAdamW3.τ) (Cert.KernelAdamW3.main (F := Bits))) ⟨m, fun _ => 0, g⟩ (fun r => (∀ c : Dev Cert.KernelAdamW3.nD,
      r.2.mem ((c.tc : Thread Cert.KernelAdamW3.nD Cert.KernelAdamW3.τ).loc Cert.KernelAdamW3.main_arg0) = m ((c.tc : Thread Cert.KernelAdamW3.nD Cert.KernelAdamW3.τ).loc Cert.KernelAdamW3.main_arg0)
      ∧ r.2.mem ((c.tc : Thread Cert.KernelAdamW3.nD Cert.KernelAdamW3.τ).loc Cert.KernelAdamW3.main_arg1) = m ((c.tc : Thread Cert.KernelAdamW3.nD Cert.KernelAdamW3.τ).loc Cert.KernelAdamW3.main_arg1)
      ∧ r.2.mem ((c.tc : Thread Cert.KernelAdamW3.nD Cert.KernelAdamW3.τ).loc Cert.KernelAdamW3.main_arg2) = m ((c.tc : Thread Cert.KernelAdamW3.nD Cert.KernelAdamW3.τ).loc Cert.KernelAdamW3.main_arg2)
      ∧ r.2.mem ((c.tc : Thread Cert.KernelAdamW3.nD Cert.KernelAdamW3.τ).loc Cert.KernelAdamW3.main_arg3) = m ((c.tc : Thread Cert.KernelAdamW3.nD Cert.KernelAdamW3.τ).loc Cert.KernelAdamW3.main_arg3)
      ∧ r.2.mem ((c.tc : Thread Cert.KernelAdamW3.nD Cert.KernelAdamW3.τ).loc Cert.KernelAdamW3.main_arg4) = m ((c.tc : Thread Cert.KernelAdamW3.nD Cert.KernelAdamW3.τ).loc Cert.KernelAdamW3.main_arg4)
      ∧ r.2.mem ((c.tc : Thread Cert.KernelAdamW3.nD Cert.KernelAdamW3.τ).loc Cert.KernelAdamW3.main_arg5) = m ((c.tc : Thread Cert.KernelAdamW3.nD Cert.KernelAdamW3.τ).loc Cert.KernelAdamW3.main_arg5)
      ∧ r.2.mem ((c.tc : Thread Cert.KernelAdamW3.nD Cert.KernelAdamW3.τ).loc Cert.KernelAdamW3.main_arg6) = m ((c.tc : Thread Cert.KernelAdamW3.nD Cert.KernelAdamW3.τ).loc Cert.KernelAdamW3.main_arg6)
      ∧ r.2.mem ((c.tc : Thread Cert.KernelAdamW3.nD Cert.KernelAdamW3.τ).loc Cert.KernelAdamW3.main_arg7) = m ((c.tc : Thread Cert.KernelAdamW3.nD Cert.KernelAdamW3.τ).loc Cert.KernelAdamW3.main_arg7))
      ∧ r.2.sem = fun _ => 0)

def quiescent_KernelAdamW3Ideal [hKernelAdamW3Ideal : Cert.KernelAdamW3Ideal.Facts] : Prop :=
  ∀ (m : (ℓ : Loc Cert.KernelAdamW3Ideal.nD Cert.KernelAdamW3Ideal.τ Cert.KernelAdamW3Ideal.sig) → Buf (Elt Ideal) ℓ) (g : Dev Cert.KernelAdamW3Ideal.nD → PrngReg), Pre_KernelAdamW3Ideal m →
    θ_run (Cert.KernelAdamW3Ideal.defs (F := Ideal)) (onTc (τ := Cert.KernelAdamW3Ideal.τ) (Cert.KernelAdamW3Ideal.main (F := Ideal))) ⟨m, fun _ => 0, g⟩ (fun r => (∀ c : Dev Cert.KernelAdamW3Ideal.nD,
      r.2.mem ((c.tc : Thread Cert.KernelAdamW3Ideal.nD Cert.KernelAdamW3Ideal.τ).loc Cert.KernelAdamW3Ideal.main_arg0) = m ((c.tc : Thread Cert.KernelAdamW3Ideal.nD Cert.KernelAdamW3Ideal.τ).loc Cert.KernelAdamW3Ideal.main_arg0)
      ∧ r.2.mem ((c.tc : Thread Cert.KernelAdamW3Ideal.nD Cert.KernelAdamW3Ideal.τ).loc Cert.KernelAdamW3Ideal.main_arg1) = m ((c.tc : Thread Cert.KernelAdamW3Ideal.nD Cert.KernelAdamW3Ideal.τ).loc Cert.KernelAdamW3Ideal.main_arg1)
      ∧ r.2.mem ((c.tc : Thread Cert.KernelAdamW3Ideal.nD Cert.KernelAdamW3Ideal.τ).loc Cert.KernelAdamW3Ideal.main_arg2) = m ((c.tc : Thread Cert.KernelAdamW3Ideal.nD Cert.KernelAdamW3Ideal.τ).loc Cert.KernelAdamW3Ideal.main_arg2)
      ∧ r.2.mem ((c.tc : Thread Cert.KernelAdamW3Ideal.nD Cert.KernelAdamW3Ideal.τ).loc Cert.KernelAdamW3Ideal.main_arg3) = m ((c.tc : Thread Cert.KernelAdamW3Ideal.nD Cert.KernelAdamW3Ideal.τ).loc Cert.KernelAdamW3Ideal.main_arg3)
      ∧ r.2.mem ((c.tc : Thread Cert.KernelAdamW3Ideal.nD Cert.KernelAdamW3Ideal.τ).loc Cert.KernelAdamW3Ideal.main_arg4) = m ((c.tc : Thread Cert.KernelAdamW3Ideal.nD Cert.KernelAdamW3Ideal.τ).loc Cert.KernelAdamW3Ideal.main_arg4)
      ∧ r.2.mem ((c.tc : Thread Cert.KernelAdamW3Ideal.nD Cert.KernelAdamW3Ideal.τ).loc Cert.KernelAdamW3Ideal.main_arg5) = m ((c.tc : Thread Cert.KernelAdamW3Ideal.nD Cert.KernelAdamW3Ideal.τ).loc Cert.KernelAdamW3Ideal.main_arg5)
      ∧ r.2.mem ((c.tc : Thread Cert.KernelAdamW3Ideal.nD Cert.KernelAdamW3Ideal.τ).loc Cert.KernelAdamW3Ideal.main_arg6) = m ((c.tc : Thread Cert.KernelAdamW3Ideal.nD Cert.KernelAdamW3Ideal.τ).loc Cert.KernelAdamW3Ideal.main_arg6)
      ∧ r.2.mem ((c.tc : Thread Cert.KernelAdamW3Ideal.nD Cert.KernelAdamW3Ideal.τ).loc Cert.KernelAdamW3Ideal.main_arg7) = m ((c.tc : Thread Cert.KernelAdamW3Ideal.nD Cert.KernelAdamW3Ideal.τ).loc Cert.KernelAdamW3Ideal.main_arg7))
      ∧ r.2.sem = fun _ => 0)

def quiescent_ReferenceAdamW3Ideal [hReferenceAdamW3Ideal : Cert.ReferenceAdamW3Ideal.Facts] : Prop :=
  ∀ (m : (ℓ : Loc Cert.ReferenceAdamW3Ideal.nD Cert.ReferenceAdamW3Ideal.τ Cert.ReferenceAdamW3Ideal.sig) → Buf (Elt Ideal) ℓ) (g : Dev Cert.ReferenceAdamW3Ideal.nD → PrngReg), Pre_ReferenceAdamW3Ideal m →
    θ_run (Cert.ReferenceAdamW3Ideal.defs (F := Ideal)) (onTc (τ := Cert.ReferenceAdamW3Ideal.τ) (Cert.ReferenceAdamW3Ideal.main (F := Ideal))) ⟨m, fun _ => 0, g⟩ (fun r => (∀ c : Dev Cert.ReferenceAdamW3Ideal.nD,
      r.2.mem ((c.tc : Thread Cert.ReferenceAdamW3Ideal.nD Cert.ReferenceAdamW3Ideal.τ).loc Cert.ReferenceAdamW3Ideal.main_arg0) = m ((c.tc : Thread Cert.ReferenceAdamW3Ideal.nD Cert.ReferenceAdamW3Ideal.τ).loc Cert.ReferenceAdamW3Ideal.main_arg0)
      ∧ r.2.mem ((c.tc : Thread Cert.ReferenceAdamW3Ideal.nD Cert.ReferenceAdamW3Ideal.τ).loc Cert.ReferenceAdamW3Ideal.main_arg1) = m ((c.tc : Thread Cert.ReferenceAdamW3Ideal.nD Cert.ReferenceAdamW3Ideal.τ).loc Cert.ReferenceAdamW3Ideal.main_arg1)
      ∧ r.2.mem ((c.tc : Thread Cert.ReferenceAdamW3Ideal.nD Cert.ReferenceAdamW3Ideal.τ).loc Cert.ReferenceAdamW3Ideal.main_arg2) = m ((c.tc : Thread Cert.ReferenceAdamW3Ideal.nD Cert.ReferenceAdamW3Ideal.τ).loc Cert.ReferenceAdamW3Ideal.main_arg2)
      ∧ r.2.mem ((c.tc : Thread Cert.ReferenceAdamW3Ideal.nD Cert.ReferenceAdamW3Ideal.τ).loc Cert.ReferenceAdamW3Ideal.main_arg3) = m ((c.tc : Thread Cert.ReferenceAdamW3Ideal.nD Cert.ReferenceAdamW3Ideal.τ).loc Cert.ReferenceAdamW3Ideal.main_arg3)
      ∧ r.2.mem ((c.tc : Thread Cert.ReferenceAdamW3Ideal.nD Cert.ReferenceAdamW3Ideal.τ).loc Cert.ReferenceAdamW3Ideal.main_arg4) = m ((c.tc : Thread Cert.ReferenceAdamW3Ideal.nD Cert.ReferenceAdamW3Ideal.τ).loc Cert.ReferenceAdamW3Ideal.main_arg4)
      ∧ r.2.mem ((c.tc : Thread Cert.ReferenceAdamW3Ideal.nD Cert.ReferenceAdamW3Ideal.τ).loc Cert.ReferenceAdamW3Ideal.main_arg5) = m ((c.tc : Thread Cert.ReferenceAdamW3Ideal.nD Cert.ReferenceAdamW3Ideal.τ).loc Cert.ReferenceAdamW3Ideal.main_arg5)
      ∧ r.2.mem ((c.tc : Thread Cert.ReferenceAdamW3Ideal.nD Cert.ReferenceAdamW3Ideal.τ).loc Cert.ReferenceAdamW3Ideal.main_arg6) = m ((c.tc : Thread Cert.ReferenceAdamW3Ideal.nD Cert.ReferenceAdamW3Ideal.τ).loc Cert.ReferenceAdamW3Ideal.main_arg6)
      ∧ r.2.mem ((c.tc : Thread Cert.ReferenceAdamW3Ideal.nD Cert.ReferenceAdamW3Ideal.τ).loc Cert.ReferenceAdamW3Ideal.main_arg7) = m ((c.tc : Thread Cert.ReferenceAdamW3Ideal.nD Cert.ReferenceAdamW3Ideal.τ).loc Cert.ReferenceAdamW3Ideal.main_arg7))
      ∧ r.2.sem = fun _ => 0)

def quiescent_KernelFinalLoss [hKernelFinalLoss : Cert.KernelFinalLoss.Facts] : Prop :=
  ∀ (m : (ℓ : Loc Cert.KernelFinalLoss.nD Cert.KernelFinalLoss.τ Cert.KernelFinalLoss.sig) → Buf (Elt Bits) ℓ) (g : Dev Cert.KernelFinalLoss.nD → PrngReg), Pre_KernelFinalLoss m →
    θ_run (Cert.KernelFinalLoss.defs (F := Bits)) (onTc (τ := Cert.KernelFinalLoss.τ) (Cert.KernelFinalLoss.main (F := Bits))) ⟨m, fun _ => 0, g⟩ (fun r => (∀ c : Dev Cert.KernelFinalLoss.nD,
      r.2.mem ((c.tc : Thread Cert.KernelFinalLoss.nD Cert.KernelFinalLoss.τ).loc Cert.KernelFinalLoss.main_arg0) = m ((c.tc : Thread Cert.KernelFinalLoss.nD Cert.KernelFinalLoss.τ).loc Cert.KernelFinalLoss.main_arg0)
      ∧ r.2.mem ((c.tc : Thread Cert.KernelFinalLoss.nD Cert.KernelFinalLoss.τ).loc Cert.KernelFinalLoss.main_arg1) = m ((c.tc : Thread Cert.KernelFinalLoss.nD Cert.KernelFinalLoss.τ).loc Cert.KernelFinalLoss.main_arg1)
      ∧ r.2.mem ((c.tc : Thread Cert.KernelFinalLoss.nD Cert.KernelFinalLoss.τ).loc Cert.KernelFinalLoss.main_arg2) = m ((c.tc : Thread Cert.KernelFinalLoss.nD Cert.KernelFinalLoss.τ).loc Cert.KernelFinalLoss.main_arg2)
      ∧ r.2.mem ((c.tc : Thread Cert.KernelFinalLoss.nD Cert.KernelFinalLoss.τ).loc Cert.KernelFinalLoss.main_arg3) = m ((c.tc : Thread Cert.KernelFinalLoss.nD Cert.KernelFinalLoss.τ).loc Cert.KernelFinalLoss.main_arg3)
      ∧ r.2.mem ((c.tc : Thread Cert.KernelFinalLoss.nD Cert.KernelFinalLoss.τ).loc Cert.KernelFinalLoss.main_arg4) = m ((c.tc : Thread Cert.KernelFinalLoss.nD Cert.KernelFinalLoss.τ).loc Cert.KernelFinalLoss.main_arg4)
      ∧ r.2.mem ((c.tc : Thread Cert.KernelFinalLoss.nD Cert.KernelFinalLoss.τ).loc Cert.KernelFinalLoss.main_arg5) = m ((c.tc : Thread Cert.KernelFinalLoss.nD Cert.KernelFinalLoss.τ).loc Cert.KernelFinalLoss.main_arg5))
      ∧ r.2.sem = fun _ => 0)

def quiescent_KernelFinalLossIdeal [hKernelFinalLossIdeal : Cert.KernelFinalLossIdeal.Facts] : Prop :=
  ∀ (m : (ℓ : Loc Cert.KernelFinalLossIdeal.nD Cert.KernelFinalLossIdeal.τ Cert.KernelFinalLossIdeal.sig) → Buf (Elt Ideal) ℓ) (g : Dev Cert.KernelFinalLossIdeal.nD → PrngReg), Pre_KernelFinalLossIdeal m →
    θ_run (Cert.KernelFinalLossIdeal.defs (F := Ideal)) (onTc (τ := Cert.KernelFinalLossIdeal.τ) (Cert.KernelFinalLossIdeal.main (F := Ideal))) ⟨m, fun _ => 0, g⟩ (fun r => (∀ c : Dev Cert.KernelFinalLossIdeal.nD,
      r.2.mem ((c.tc : Thread Cert.KernelFinalLossIdeal.nD Cert.KernelFinalLossIdeal.τ).loc Cert.KernelFinalLossIdeal.main_arg0) = m ((c.tc : Thread Cert.KernelFinalLossIdeal.nD Cert.KernelFinalLossIdeal.τ).loc Cert.KernelFinalLossIdeal.main_arg0)
      ∧ r.2.mem ((c.tc : Thread Cert.KernelFinalLossIdeal.nD Cert.KernelFinalLossIdeal.τ).loc Cert.KernelFinalLossIdeal.main_arg1) = m ((c.tc : Thread Cert.KernelFinalLossIdeal.nD Cert.KernelFinalLossIdeal.τ).loc Cert.KernelFinalLossIdeal.main_arg1)
      ∧ r.2.mem ((c.tc : Thread Cert.KernelFinalLossIdeal.nD Cert.KernelFinalLossIdeal.τ).loc Cert.KernelFinalLossIdeal.main_arg2) = m ((c.tc : Thread Cert.KernelFinalLossIdeal.nD Cert.KernelFinalLossIdeal.τ).loc Cert.KernelFinalLossIdeal.main_arg2)
      ∧ r.2.mem ((c.tc : Thread Cert.KernelFinalLossIdeal.nD Cert.KernelFinalLossIdeal.τ).loc Cert.KernelFinalLossIdeal.main_arg3) = m ((c.tc : Thread Cert.KernelFinalLossIdeal.nD Cert.KernelFinalLossIdeal.τ).loc Cert.KernelFinalLossIdeal.main_arg3)
      ∧ r.2.mem ((c.tc : Thread Cert.KernelFinalLossIdeal.nD Cert.KernelFinalLossIdeal.τ).loc Cert.KernelFinalLossIdeal.main_arg4) = m ((c.tc : Thread Cert.KernelFinalLossIdeal.nD Cert.KernelFinalLossIdeal.τ).loc Cert.KernelFinalLossIdeal.main_arg4)
      ∧ r.2.mem ((c.tc : Thread Cert.KernelFinalLossIdeal.nD Cert.KernelFinalLossIdeal.τ).loc Cert.KernelFinalLossIdeal.main_arg5) = m ((c.tc : Thread Cert.KernelFinalLossIdeal.nD Cert.KernelFinalLossIdeal.τ).loc Cert.KernelFinalLossIdeal.main_arg5))
      ∧ r.2.sem = fun _ => 0)

def quiescent_ReferenceFinalLossIdeal [hReferenceFinalLossIdeal : Cert.ReferenceFinalLossIdeal.Facts] : Prop :=
  ∀ (m : (ℓ : Loc Cert.ReferenceFinalLossIdeal.nD Cert.ReferenceFinalLossIdeal.τ Cert.ReferenceFinalLossIdeal.sig) → Buf (Elt Ideal) ℓ) (g : Dev Cert.ReferenceFinalLossIdeal.nD → PrngReg), Pre_ReferenceFinalLossIdeal m →
    θ_run (Cert.ReferenceFinalLossIdeal.defs (F := Ideal)) (onTc (τ := Cert.ReferenceFinalLossIdeal.τ) (Cert.ReferenceFinalLossIdeal.main (F := Ideal))) ⟨m, fun _ => 0, g⟩ (fun r => (∀ c : Dev Cert.ReferenceFinalLossIdeal.nD,
      r.2.mem ((c.tc : Thread Cert.ReferenceFinalLossIdeal.nD Cert.ReferenceFinalLossIdeal.τ).loc Cert.ReferenceFinalLossIdeal.main_arg0) = m ((c.tc : Thread Cert.ReferenceFinalLossIdeal.nD Cert.ReferenceFinalLossIdeal.τ).loc Cert.ReferenceFinalLossIdeal.main_arg0)
      ∧ r.2.mem ((c.tc : Thread Cert.ReferenceFinalLossIdeal.nD Cert.ReferenceFinalLossIdeal.τ).loc Cert.ReferenceFinalLossIdeal.main_arg1) = m ((c.tc : Thread Cert.ReferenceFinalLossIdeal.nD Cert.ReferenceFinalLossIdeal.τ).loc Cert.ReferenceFinalLossIdeal.main_arg1)
      ∧ r.2.mem ((c.tc : Thread Cert.ReferenceFinalLossIdeal.nD Cert.ReferenceFinalLossIdeal.τ).loc Cert.ReferenceFinalLossIdeal.main_arg2) = m ((c.tc : Thread Cert.ReferenceFinalLossIdeal.nD Cert.ReferenceFinalLossIdeal.τ).loc Cert.ReferenceFinalLossIdeal.main_arg2)
      ∧ r.2.mem ((c.tc : Thread Cert.ReferenceFinalLossIdeal.nD Cert.ReferenceFinalLossIdeal.τ).loc Cert.ReferenceFinalLossIdeal.main_arg3) = m ((c.tc : Thread Cert.ReferenceFinalLossIdeal.nD Cert.ReferenceFinalLossIdeal.τ).loc Cert.ReferenceFinalLossIdeal.main_arg3)
      ∧ r.2.mem ((c.tc : Thread Cert.ReferenceFinalLossIdeal.nD Cert.ReferenceFinalLossIdeal.τ).loc Cert.ReferenceFinalLossIdeal.main_arg4) = m ((c.tc : Thread Cert.ReferenceFinalLossIdeal.nD Cert.ReferenceFinalLossIdeal.τ).loc Cert.ReferenceFinalLossIdeal.main_arg4)
      ∧ r.2.mem ((c.tc : Thread Cert.ReferenceFinalLossIdeal.nD Cert.ReferenceFinalLossIdeal.τ).loc Cert.ReferenceFinalLossIdeal.main_arg5) = m ((c.tc : Thread Cert.ReferenceFinalLossIdeal.nD Cert.ReferenceFinalLossIdeal.τ).loc Cert.ReferenceFinalLossIdeal.main_arg5))
      ∧ r.2.sem = fun _ => 0)

def quiescent_KernelAdaln1 [hKernelAdaln1 : Cert.KernelAdaln1.Facts] : Prop :=
  ∀ (m : (ℓ : Loc Cert.KernelAdaln1.nD Cert.KernelAdaln1.τ Cert.KernelAdaln1.sig) → Buf (Elt Bits) ℓ) (g : Dev Cert.KernelAdaln1.nD → PrngReg), Pre_KernelAdaln1 m →
    θ_run (Cert.KernelAdaln1.defs (F := Bits)) (onTc (τ := Cert.KernelAdaln1.τ) (Cert.KernelAdaln1.main (F := Bits))) ⟨m, fun _ => 0, g⟩ (fun r => (∀ c : Dev Cert.KernelAdaln1.nD,
      r.2.mem ((c.tc : Thread Cert.KernelAdaln1.nD Cert.KernelAdaln1.τ).loc Cert.KernelAdaln1.main_arg0) = m ((c.tc : Thread Cert.KernelAdaln1.nD Cert.KernelAdaln1.τ).loc Cert.KernelAdaln1.main_arg0)
      ∧ r.2.mem ((c.tc : Thread Cert.KernelAdaln1.nD Cert.KernelAdaln1.τ).loc Cert.KernelAdaln1.main_arg1) = m ((c.tc : Thread Cert.KernelAdaln1.nD Cert.KernelAdaln1.τ).loc Cert.KernelAdaln1.main_arg1)
      ∧ r.2.mem ((c.tc : Thread Cert.KernelAdaln1.nD Cert.KernelAdaln1.τ).loc Cert.KernelAdaln1.main_arg2) = m ((c.tc : Thread Cert.KernelAdaln1.nD Cert.KernelAdaln1.τ).loc Cert.KernelAdaln1.main_arg2)
      ∧ r.2.mem ((c.tc : Thread Cert.KernelAdaln1.nD Cert.KernelAdaln1.τ).loc Cert.KernelAdaln1.main_arg3) = m ((c.tc : Thread Cert.KernelAdaln1.nD Cert.KernelAdaln1.τ).loc Cert.KernelAdaln1.main_arg3)
      ∧ r.2.mem ((c.tc : Thread Cert.KernelAdaln1.nD Cert.KernelAdaln1.τ).loc Cert.KernelAdaln1.main_arg4) = m ((c.tc : Thread Cert.KernelAdaln1.nD Cert.KernelAdaln1.τ).loc Cert.KernelAdaln1.main_arg4))
      ∧ r.2.sem = fun _ => 0)

def quiescent_KernelAdaln1Ideal [hKernelAdaln1Ideal : Cert.KernelAdaln1Ideal.Facts] : Prop :=
  ∀ (m : (ℓ : Loc Cert.KernelAdaln1Ideal.nD Cert.KernelAdaln1Ideal.τ Cert.KernelAdaln1Ideal.sig) → Buf (Elt Ideal) ℓ) (g : Dev Cert.KernelAdaln1Ideal.nD → PrngReg), Pre_KernelAdaln1Ideal m →
    θ_run (Cert.KernelAdaln1Ideal.defs (F := Ideal)) (onTc (τ := Cert.KernelAdaln1Ideal.τ) (Cert.KernelAdaln1Ideal.main (F := Ideal))) ⟨m, fun _ => 0, g⟩ (fun r => (∀ c : Dev Cert.KernelAdaln1Ideal.nD,
      r.2.mem ((c.tc : Thread Cert.KernelAdaln1Ideal.nD Cert.KernelAdaln1Ideal.τ).loc Cert.KernelAdaln1Ideal.main_arg0) = m ((c.tc : Thread Cert.KernelAdaln1Ideal.nD Cert.KernelAdaln1Ideal.τ).loc Cert.KernelAdaln1Ideal.main_arg0)
      ∧ r.2.mem ((c.tc : Thread Cert.KernelAdaln1Ideal.nD Cert.KernelAdaln1Ideal.τ).loc Cert.KernelAdaln1Ideal.main_arg1) = m ((c.tc : Thread Cert.KernelAdaln1Ideal.nD Cert.KernelAdaln1Ideal.τ).loc Cert.KernelAdaln1Ideal.main_arg1)
      ∧ r.2.mem ((c.tc : Thread Cert.KernelAdaln1Ideal.nD Cert.KernelAdaln1Ideal.τ).loc Cert.KernelAdaln1Ideal.main_arg2) = m ((c.tc : Thread Cert.KernelAdaln1Ideal.nD Cert.KernelAdaln1Ideal.τ).loc Cert.KernelAdaln1Ideal.main_arg2)
      ∧ r.2.mem ((c.tc : Thread Cert.KernelAdaln1Ideal.nD Cert.KernelAdaln1Ideal.τ).loc Cert.KernelAdaln1Ideal.main_arg3) = m ((c.tc : Thread Cert.KernelAdaln1Ideal.nD Cert.KernelAdaln1Ideal.τ).loc Cert.KernelAdaln1Ideal.main_arg3)
      ∧ r.2.mem ((c.tc : Thread Cert.KernelAdaln1Ideal.nD Cert.KernelAdaln1Ideal.τ).loc Cert.KernelAdaln1Ideal.main_arg4) = m ((c.tc : Thread Cert.KernelAdaln1Ideal.nD Cert.KernelAdaln1Ideal.τ).loc Cert.KernelAdaln1Ideal.main_arg4))
      ∧ r.2.sem = fun _ => 0)

def quiescent_ReferenceAdaln1Ideal [hReferenceAdaln1Ideal : Cert.ReferenceAdaln1Ideal.Facts] : Prop :=
  ∀ (m : (ℓ : Loc Cert.ReferenceAdaln1Ideal.nD Cert.ReferenceAdaln1Ideal.τ Cert.ReferenceAdaln1Ideal.sig) → Buf (Elt Ideal) ℓ) (g : Dev Cert.ReferenceAdaln1Ideal.nD → PrngReg), Pre_ReferenceAdaln1Ideal m →
    θ_run (Cert.ReferenceAdaln1Ideal.defs (F := Ideal)) (onTc (τ := Cert.ReferenceAdaln1Ideal.τ) (Cert.ReferenceAdaln1Ideal.main (F := Ideal))) ⟨m, fun _ => 0, g⟩ (fun r => (∀ c : Dev Cert.ReferenceAdaln1Ideal.nD,
      r.2.mem ((c.tc : Thread Cert.ReferenceAdaln1Ideal.nD Cert.ReferenceAdaln1Ideal.τ).loc Cert.ReferenceAdaln1Ideal.main_arg0) = m ((c.tc : Thread Cert.ReferenceAdaln1Ideal.nD Cert.ReferenceAdaln1Ideal.τ).loc Cert.ReferenceAdaln1Ideal.main_arg0)
      ∧ r.2.mem ((c.tc : Thread Cert.ReferenceAdaln1Ideal.nD Cert.ReferenceAdaln1Ideal.τ).loc Cert.ReferenceAdaln1Ideal.main_arg1) = m ((c.tc : Thread Cert.ReferenceAdaln1Ideal.nD Cert.ReferenceAdaln1Ideal.τ).loc Cert.ReferenceAdaln1Ideal.main_arg1)
      ∧ r.2.mem ((c.tc : Thread Cert.ReferenceAdaln1Ideal.nD Cert.ReferenceAdaln1Ideal.τ).loc Cert.ReferenceAdaln1Ideal.main_arg2) = m ((c.tc : Thread Cert.ReferenceAdaln1Ideal.nD Cert.ReferenceAdaln1Ideal.τ).loc Cert.ReferenceAdaln1Ideal.main_arg2)
      ∧ r.2.mem ((c.tc : Thread Cert.ReferenceAdaln1Ideal.nD Cert.ReferenceAdaln1Ideal.τ).loc Cert.ReferenceAdaln1Ideal.main_arg3) = m ((c.tc : Thread Cert.ReferenceAdaln1Ideal.nD Cert.ReferenceAdaln1Ideal.τ).loc Cert.ReferenceAdaln1Ideal.main_arg3)
      ∧ r.2.mem ((c.tc : Thread Cert.ReferenceAdaln1Ideal.nD Cert.ReferenceAdaln1Ideal.τ).loc Cert.ReferenceAdaln1Ideal.main_arg4) = m ((c.tc : Thread Cert.ReferenceAdaln1Ideal.nD Cert.ReferenceAdaln1Ideal.τ).loc Cert.ReferenceAdaln1Ideal.main_arg4))
      ∧ r.2.sem = fun _ => 0)

def quiescent_KernelAdaln2 [hKernelAdaln2 : Cert.KernelAdaln2.Facts] : Prop :=
  ∀ (m : (ℓ : Loc Cert.KernelAdaln2.nD Cert.KernelAdaln2.τ Cert.KernelAdaln2.sig) → Buf (Elt Bits) ℓ) (g : Dev Cert.KernelAdaln2.nD → PrngReg), Pre_KernelAdaln2 m →
    θ_run (Cert.KernelAdaln2.defs (F := Bits)) (onTc (τ := Cert.KernelAdaln2.τ) (Cert.KernelAdaln2.main (F := Bits))) ⟨m, fun _ => 0, g⟩ (fun r => (∀ c : Dev Cert.KernelAdaln2.nD,
      r.2.mem ((c.tc : Thread Cert.KernelAdaln2.nD Cert.KernelAdaln2.τ).loc Cert.KernelAdaln2.main_arg0) = m ((c.tc : Thread Cert.KernelAdaln2.nD Cert.KernelAdaln2.τ).loc Cert.KernelAdaln2.main_arg0)
      ∧ r.2.mem ((c.tc : Thread Cert.KernelAdaln2.nD Cert.KernelAdaln2.τ).loc Cert.KernelAdaln2.main_arg1) = m ((c.tc : Thread Cert.KernelAdaln2.nD Cert.KernelAdaln2.τ).loc Cert.KernelAdaln2.main_arg1)
      ∧ r.2.mem ((c.tc : Thread Cert.KernelAdaln2.nD Cert.KernelAdaln2.τ).loc Cert.KernelAdaln2.main_arg2) = m ((c.tc : Thread Cert.KernelAdaln2.nD Cert.KernelAdaln2.τ).loc Cert.KernelAdaln2.main_arg2)
      ∧ r.2.mem ((c.tc : Thread Cert.KernelAdaln2.nD Cert.KernelAdaln2.τ).loc Cert.KernelAdaln2.main_arg3) = m ((c.tc : Thread Cert.KernelAdaln2.nD Cert.KernelAdaln2.τ).loc Cert.KernelAdaln2.main_arg3)
      ∧ r.2.mem ((c.tc : Thread Cert.KernelAdaln2.nD Cert.KernelAdaln2.τ).loc Cert.KernelAdaln2.main_arg4) = m ((c.tc : Thread Cert.KernelAdaln2.nD Cert.KernelAdaln2.τ).loc Cert.KernelAdaln2.main_arg4)
      ∧ r.2.mem ((c.tc : Thread Cert.KernelAdaln2.nD Cert.KernelAdaln2.τ).loc Cert.KernelAdaln2.main_arg5) = m ((c.tc : Thread Cert.KernelAdaln2.nD Cert.KernelAdaln2.τ).loc Cert.KernelAdaln2.main_arg5)
      ∧ r.2.mem ((c.tc : Thread Cert.KernelAdaln2.nD Cert.KernelAdaln2.τ).loc Cert.KernelAdaln2.main_arg6) = m ((c.tc : Thread Cert.KernelAdaln2.nD Cert.KernelAdaln2.τ).loc Cert.KernelAdaln2.main_arg6))
      ∧ r.2.sem = fun _ => 0)

def quiescent_KernelAdaln2Ideal [hKernelAdaln2Ideal : Cert.KernelAdaln2Ideal.Facts] : Prop :=
  ∀ (m : (ℓ : Loc Cert.KernelAdaln2Ideal.nD Cert.KernelAdaln2Ideal.τ Cert.KernelAdaln2Ideal.sig) → Buf (Elt Ideal) ℓ) (g : Dev Cert.KernelAdaln2Ideal.nD → PrngReg), Pre_KernelAdaln2Ideal m →
    θ_run (Cert.KernelAdaln2Ideal.defs (F := Ideal)) (onTc (τ := Cert.KernelAdaln2Ideal.τ) (Cert.KernelAdaln2Ideal.main (F := Ideal))) ⟨m, fun _ => 0, g⟩ (fun r => (∀ c : Dev Cert.KernelAdaln2Ideal.nD,
      r.2.mem ((c.tc : Thread Cert.KernelAdaln2Ideal.nD Cert.KernelAdaln2Ideal.τ).loc Cert.KernelAdaln2Ideal.main_arg0) = m ((c.tc : Thread Cert.KernelAdaln2Ideal.nD Cert.KernelAdaln2Ideal.τ).loc Cert.KernelAdaln2Ideal.main_arg0)
      ∧ r.2.mem ((c.tc : Thread Cert.KernelAdaln2Ideal.nD Cert.KernelAdaln2Ideal.τ).loc Cert.KernelAdaln2Ideal.main_arg1) = m ((c.tc : Thread Cert.KernelAdaln2Ideal.nD Cert.KernelAdaln2Ideal.τ).loc Cert.KernelAdaln2Ideal.main_arg1)
      ∧ r.2.mem ((c.tc : Thread Cert.KernelAdaln2Ideal.nD Cert.KernelAdaln2Ideal.τ).loc Cert.KernelAdaln2Ideal.main_arg2) = m ((c.tc : Thread Cert.KernelAdaln2Ideal.nD Cert.KernelAdaln2Ideal.τ).loc Cert.KernelAdaln2Ideal.main_arg2)
      ∧ r.2.mem ((c.tc : Thread Cert.KernelAdaln2Ideal.nD Cert.KernelAdaln2Ideal.τ).loc Cert.KernelAdaln2Ideal.main_arg3) = m ((c.tc : Thread Cert.KernelAdaln2Ideal.nD Cert.KernelAdaln2Ideal.τ).loc Cert.KernelAdaln2Ideal.main_arg3)
      ∧ r.2.mem ((c.tc : Thread Cert.KernelAdaln2Ideal.nD Cert.KernelAdaln2Ideal.τ).loc Cert.KernelAdaln2Ideal.main_arg4) = m ((c.tc : Thread Cert.KernelAdaln2Ideal.nD Cert.KernelAdaln2Ideal.τ).loc Cert.KernelAdaln2Ideal.main_arg4)
      ∧ r.2.mem ((c.tc : Thread Cert.KernelAdaln2Ideal.nD Cert.KernelAdaln2Ideal.τ).loc Cert.KernelAdaln2Ideal.main_arg5) = m ((c.tc : Thread Cert.KernelAdaln2Ideal.nD Cert.KernelAdaln2Ideal.τ).loc Cert.KernelAdaln2Ideal.main_arg5)
      ∧ r.2.mem ((c.tc : Thread Cert.KernelAdaln2Ideal.nD Cert.KernelAdaln2Ideal.τ).loc Cert.KernelAdaln2Ideal.main_arg6) = m ((c.tc : Thread Cert.KernelAdaln2Ideal.nD Cert.KernelAdaln2Ideal.τ).loc Cert.KernelAdaln2Ideal.main_arg6))
      ∧ r.2.sem = fun _ => 0)

def quiescent_ReferenceAdaln2Ideal [hReferenceAdaln2Ideal : Cert.ReferenceAdaln2Ideal.Facts] : Prop :=
  ∀ (m : (ℓ : Loc Cert.ReferenceAdaln2Ideal.nD Cert.ReferenceAdaln2Ideal.τ Cert.ReferenceAdaln2Ideal.sig) → Buf (Elt Ideal) ℓ) (g : Dev Cert.ReferenceAdaln2Ideal.nD → PrngReg), Pre_ReferenceAdaln2Ideal m →
    θ_run (Cert.ReferenceAdaln2Ideal.defs (F := Ideal)) (onTc (τ := Cert.ReferenceAdaln2Ideal.τ) (Cert.ReferenceAdaln2Ideal.main (F := Ideal))) ⟨m, fun _ => 0, g⟩ (fun r => (∀ c : Dev Cert.ReferenceAdaln2Ideal.nD,
      r.2.mem ((c.tc : Thread Cert.ReferenceAdaln2Ideal.nD Cert.ReferenceAdaln2Ideal.τ).loc Cert.ReferenceAdaln2Ideal.main_arg0) = m ((c.tc : Thread Cert.ReferenceAdaln2Ideal.nD Cert.ReferenceAdaln2Ideal.τ).loc Cert.ReferenceAdaln2Ideal.main_arg0)
      ∧ r.2.mem ((c.tc : Thread Cert.ReferenceAdaln2Ideal.nD Cert.ReferenceAdaln2Ideal.τ).loc Cert.ReferenceAdaln2Ideal.main_arg1) = m ((c.tc : Thread Cert.ReferenceAdaln2Ideal.nD Cert.ReferenceAdaln2Ideal.τ).loc Cert.ReferenceAdaln2Ideal.main_arg1)
      ∧ r.2.mem ((c.tc : Thread Cert.ReferenceAdaln2Ideal.nD Cert.ReferenceAdaln2Ideal.τ).loc Cert.ReferenceAdaln2Ideal.main_arg2) = m ((c.tc : Thread Cert.ReferenceAdaln2Ideal.nD Cert.ReferenceAdaln2Ideal.τ).loc Cert.ReferenceAdaln2Ideal.main_arg2)
      ∧ r.2.mem ((c.tc : Thread Cert.ReferenceAdaln2Ideal.nD Cert.ReferenceAdaln2Ideal.τ).loc Cert.ReferenceAdaln2Ideal.main_arg3) = m ((c.tc : Thread Cert.ReferenceAdaln2Ideal.nD Cert.ReferenceAdaln2Ideal.τ).loc Cert.ReferenceAdaln2Ideal.main_arg3)
      ∧ r.2.mem ((c.tc : Thread Cert.ReferenceAdaln2Ideal.nD Cert.ReferenceAdaln2Ideal.τ).loc Cert.ReferenceAdaln2Ideal.main_arg4) = m ((c.tc : Thread Cert.ReferenceAdaln2Ideal.nD Cert.ReferenceAdaln2Ideal.τ).loc Cert.ReferenceAdaln2Ideal.main_arg4)
      ∧ r.2.mem ((c.tc : Thread Cert.ReferenceAdaln2Ideal.nD Cert.ReferenceAdaln2Ideal.τ).loc Cert.ReferenceAdaln2Ideal.main_arg5) = m ((c.tc : Thread Cert.ReferenceAdaln2Ideal.nD Cert.ReferenceAdaln2Ideal.τ).loc Cert.ReferenceAdaln2Ideal.main_arg5)
      ∧ r.2.mem ((c.tc : Thread Cert.ReferenceAdaln2Ideal.nD Cert.ReferenceAdaln2Ideal.τ).loc Cert.ReferenceAdaln2Ideal.main_arg6) = m ((c.tc : Thread Cert.ReferenceAdaln2Ideal.nD Cert.ReferenceAdaln2Ideal.τ).loc Cert.ReferenceAdaln2Ideal.main_arg6))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1)
      ∧ r.2.mem ((c.tc : Thread Cert.KernelInProj.nD Cert.KernelInProj.τ).loc Cert.KernelInProj.main_arg2) = m ((c.tc : Thread Cert.KernelInProj.nD Cert.KernelInProj.τ).loc Cert.KernelInProj.main_arg2)
      ∧ r.2.mem ((c.tc : Thread Cert.KernelInProj.nD Cert.KernelInProj.τ).loc Cert.KernelInProj.main_arg3) = m ((c.tc : Thread Cert.KernelInProj.nD Cert.KernelInProj.τ).loc Cert.KernelInProj.main_arg3)
      ∧ r.2.mem ((c.tc : Thread Cert.KernelInProj.nD Cert.KernelInProj.τ).loc Cert.KernelInProj.main_arg4) = m ((c.tc : Thread Cert.KernelInProj.nD Cert.KernelInProj.τ).loc Cert.KernelInProj.main_arg4)
      ∧ r.2.mem ((c.tc : Thread Cert.KernelInProj.nD Cert.KernelInProj.τ).loc Cert.KernelInProj.main_arg5) = m ((c.tc : Thread Cert.KernelInProj.nD Cert.KernelInProj.τ).loc Cert.KernelInProj.main_arg5)
      ∧ r.2.mem ((c.tc : Thread Cert.KernelInProj.nD Cert.KernelInProj.τ).loc Cert.KernelInProj.main_arg6) = m ((c.tc : Thread Cert.KernelInProj.nD Cert.KernelInProj.τ).loc Cert.KernelInProj.main_arg6)
      ∧ r.2.mem ((c.tc : Thread Cert.KernelInProj.nD Cert.KernelInProj.τ).loc Cert.KernelInProj.main_arg7) = m ((c.tc : Thread Cert.KernelInProj.nD Cert.KernelInProj.τ).loc Cert.KernelInProj.main_arg7))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
      ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2)
      ∧ r.2.mem ((c.tc : Thread Cert.KernelInProjIdeal.nD Cert.KernelInProjIdeal.τ).loc Cert.KernelInProjIdeal.main_arg3) = m ((c.tc : Thread Cert.KernelInProjIdeal.nD Cert.KernelInProjIdeal.τ).loc Cert.KernelInProjIdeal.main_arg3)
      ∧ r.2.mem ((c.tc : Thread Cert.KernelInProjIdeal.nD Cert.KernelInProjIdeal.τ).loc Cert.KernelInProjIdeal.main_arg4) = m ((c.tc : Thread Cert.KernelInProjIdeal.nD Cert.KernelInProjIdeal.τ).loc Cert.KernelInProjIdeal.main_arg4)
      ∧ r.2.mem ((c.tc : Thread Cert.KernelInProjIdeal.nD Cert.KernelInProjIdeal.τ).loc Cert.KernelInProjIdeal.main_arg5) = m ((c.tc : Thread Cert.KernelInProjIdeal.nD Cert.KernelInProjIdeal.τ).loc Cert.KernelInProjIdeal.main_arg5)
      ∧ r.2.mem ((c.tc : Thread Cert.KernelInProjIdeal.nD Cert.KernelInProjIdeal.τ).loc Cert.KernelInProjIdeal.main_arg6) = m ((c.tc : Thread Cert.KernelInProjIdeal.nD Cert.KernelInProjIdeal.τ).loc Cert.KernelInProjIdeal.main_arg6)
      ∧ r.2.mem ((c.tc : Thread Cert.KernelInProjIdeal.nD Cert.KernelInProjIdeal.τ).loc Cert.KernelInProjIdeal.main_arg7) = m ((c.tc : Thread Cert.KernelInProjIdeal.nD Cert.KernelInProjIdeal.τ).loc Cert.KernelInProjIdeal.main_arg7))
      ∧ r.2.sem = fun _ => 0)

def quiescent_ReferenceInProjIdeal [hReferenceInProjIdeal : Cert.ReferenceInProjIdeal.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1)
      ∧ r.2.mem ((c.tc : Thread Cert.ReferenceInProjIdeal.nD Cert.ReferenceInProjIdeal.τ).loc Cert.ReferenceInProjIdeal.main_arg2) = m ((c.tc : Thread Cert.ReferenceInProjIdeal.nD Cert.ReferenceInProjIdeal.τ).loc Cert.ReferenceInProjIdeal.main_arg2)
      ∧ r.2.mem ((c.tc : Thread Cert.ReferenceInProjIdeal.nD Cert.ReferenceInProjIdeal.τ).loc Cert.ReferenceInProjIdeal.main_arg3) = m ((c.tc : Thread Cert.ReferenceInProjIdeal.nD Cert.ReferenceInProjIdeal.τ).loc Cert.ReferenceInProjIdeal.main_arg3)
      ∧ r.2.mem ((c.tc : Thread Cert.ReferenceInProjIdeal.nD Cert.ReferenceInProjIdeal.τ).loc Cert.ReferenceInProjIdeal.main_arg4) = m ((c.tc : Thread Cert.ReferenceInProjIdeal.nD Cert.ReferenceInProjIdeal.τ).loc Cert.ReferenceInProjIdeal.main_arg4)
      ∧ r.2.mem ((c.tc : Thread Cert.ReferenceInProjIdeal.nD Cert.ReferenceInProjIdeal.τ).loc Cert.ReferenceInProjIdeal.main_arg5) = m ((c.tc : Thread Cert.ReferenceInProjIdeal.nD Cert.ReferenceInProjIdeal.τ).loc Cert.ReferenceInProjIdeal.main_arg5)
      ∧ r.2.mem ((c.tc : Thread Cert.ReferenceInProjIdeal.nD Cert.ReferenceInProjIdeal.τ).loc Cert.ReferenceInProjIdeal.main_arg6) = m ((c.tc : Thread Cert.ReferenceInProjIdeal.nD Cert.ReferenceInProjIdeal.τ).loc Cert.ReferenceInProjIdeal.main_arg6)
      ∧ r.2.mem ((c.tc : Thread Cert.ReferenceInProjIdeal.nD Cert.ReferenceInProjIdeal.τ).loc Cert.ReferenceInProjIdeal.main_arg7) = m ((c.tc : Thread Cert.ReferenceInProjIdeal.nD Cert.ReferenceInProjIdeal.τ).loc Cert.ReferenceInProjIdeal.main_arg7))
      ∧ r.2.sem = fun _ => 0)

def quiescent_KernelMixerOut [hKernelMixerOut : Cert.KernelMixerOut.Facts] : Prop :=
  ∀ (m : (ℓ : Loc Cert.KernelMixerOut.nD Cert.KernelMixerOut.τ Cert.KernelMixerOut.sig) → Buf (Elt Bits) ℓ) (g : Dev Cert.KernelMixerOut.nD → PrngReg), Pre_KernelMixerOut m →
    θ_run (Cert.KernelMixerOut.defs (F := Bits)) (onTc (τ := Cert.KernelMixerOut.τ) (Cert.KernelMixerOut.main (F := Bits))) ⟨m, fun _ => 0, g⟩ (fun r => (∀ c : Dev Cert.KernelMixerOut.nD,
      r.2.mem ((c.tc : Thread Cert.KernelMixerOut.nD Cert.KernelMixerOut.τ).loc Cert.KernelMixerOut.main_arg0) = m ((c.tc : Thread Cert.KernelMixerOut.nD Cert.KernelMixerOut.τ).loc Cert.KernelMixerOut.main_arg0)
      ∧ r.2.mem ((c.tc : Thread Cert.KernelMixerOut.nD Cert.KernelMixerOut.τ).loc Cert.KernelMixerOut.main_arg1) = m ((c.tc : Thread Cert.KernelMixerOut.nD Cert.KernelMixerOut.τ).loc Cert.KernelMixerOut.main_arg1)
      ∧ r.2.mem ((c.tc : Thread Cert.KernelMixerOut.nD Cert.KernelMixerOut.τ).loc Cert.KernelMixerOut.main_arg2) = m ((c.tc : Thread Cert.KernelMixerOut.nD Cert.KernelMixerOut.τ).loc Cert.KernelMixerOut.main_arg2)
      ∧ r.2.mem ((c.tc : Thread Cert.KernelMixerOut.nD Cert.KernelMixerOut.τ).loc Cert.KernelMixerOut.main_arg3) = m ((c.tc : Thread Cert.KernelMixerOut.nD Cert.KernelMixerOut.τ).loc Cert.KernelMixerOut.main_arg3)
      ∧ r.2.mem ((c.tc : Thread Cert.KernelMixerOut.nD Cert.KernelMixerOut.τ).loc Cert.KernelMixerOut.main_arg4) = m ((c.tc : Thread Cert.KernelMixerOut.nD Cert.KernelMixerOut.τ).loc Cert.KernelMixerOut.main_arg4)
      ∧ r.2.mem ((c.tc : Thread Cert.KernelMixerOut.nD Cert.KernelMixerOut.τ).loc Cert.KernelMixerOut.main_arg5) = m ((c.tc : Thread Cert.KernelMixerOut.nD Cert.KernelMixerOut.τ).loc Cert.KernelMixerOut.main_arg5)
      ∧ r.2.mem ((c.tc : Thread Cert.KernelMixerOut.nD Cert.KernelMixerOut.τ).loc Cert.KernelMixerOut.main_arg6) = m ((c.tc : Thread Cert.KernelMixerOut.nD Cert.KernelMixerOut.τ).loc Cert.KernelMixerOut.main_arg6)
      ∧ r.2.mem ((c.tc : Thread Cert.KernelMixerOut.nD Cert.KernelMixerOut.τ).loc Cert.KernelMixerOut.main_arg7) = m ((c.tc : Thread Cert.KernelMixerOut.nD Cert.KernelMixerOut.τ).loc Cert.KernelMixerOut.main_arg7)
      ∧ r.2.mem ((c.tc : Thread Cert.KernelMixerOut.nD Cert.KernelMixerOut.τ).loc Cert.KernelMixerOut.main_arg8) = m ((c.tc : Thread Cert.KernelMixerOut.nD Cert.KernelMixerOut.τ).loc Cert.KernelMixerOut.main_arg8)
      ∧ r.2.mem ((c.tc : Thread Cert.KernelMixerOut.nD Cert.KernelMixerOut.τ).loc Cert.KernelMixerOut.main_arg9) = m ((c.tc : Thread Cert.KernelMixerOut.nD Cert.KernelMixerOut.τ).loc Cert.KernelMixerOut.main_arg9))
      ∧ r.2.sem = fun _ => 0)

def quiescent_KernelMixerOutIdeal [hKernelMixerOutIdeal : Cert.KernelMixerOutIdeal.Facts] : Prop :=
  ∀ (m : (ℓ : Loc Cert.KernelMixerOutIdeal.nD Cert.KernelMixerOutIdeal.τ Cert.KernelMixerOutIdeal.sig) → Buf (Elt Ideal) ℓ) (g : Dev Cert.KernelMixerOutIdeal.nD → PrngReg), Pre_KernelMixerOutIdeal m →
    θ_run (Cert.KernelMixerOutIdeal.defs (F := Ideal)) (onTc (τ := Cert.KernelMixerOutIdeal.τ) (Cert.KernelMixerOutIdeal.main (F := Ideal))) ⟨m, fun _ => 0, g⟩ (fun r => (∀ c : Dev Cert.KernelMixerOutIdeal.nD,
      r.2.mem ((c.tc : Thread Cert.KernelMixerOutIdeal.nD Cert.KernelMixerOutIdeal.τ).loc Cert.KernelMixerOutIdeal.main_arg0) = m ((c.tc : Thread Cert.KernelMixerOutIdeal.nD Cert.KernelMixerOutIdeal.τ).loc Cert.KernelMixerOutIdeal.main_arg0)
      ∧ r.2.mem ((c.tc : Thread Cert.KernelMixerOutIdeal.nD Cert.KernelMixerOutIdeal.τ).loc Cert.KernelMixerOutIdeal.main_arg1) = m ((c.tc : Thread Cert.KernelMixerOutIdeal.nD Cert.KernelMixerOutIdeal.τ).loc Cert.KernelMixerOutIdeal.main_arg1)
      ∧ r.2.mem ((c.tc : Thread Cert.KernelMixerOutIdeal.nD Cert.KernelMixerOutIdeal.τ).loc Cert.KernelMixerOutIdeal.main_arg2) = m ((c.tc : Thread Cert.KernelMixerOutIdeal.nD Cert.KernelMixerOutIdeal.τ).loc Cert.KernelMixerOutIdeal.main_arg2)
      ∧ r.2.mem ((c.tc : Thread Cert.KernelMixerOutIdeal.nD Cert.KernelMixerOutIdeal.τ).loc Cert.KernelMixerOutIdeal.main_arg3) = m ((c.tc : Thread Cert.KernelMixerOutIdeal.nD Cert.KernelMixerOutIdeal.τ).loc Cert.KernelMixerOutIdeal.main_arg3)
      ∧ r.2.mem ((c.tc : Thread Cert.KernelMixerOutIdeal.nD Cert.KernelMixerOutIdeal.τ).loc Cert.KernelMixerOutIdeal.main_arg4) = m ((c.tc : Thread Cert.KernelMixerOutIdeal.nD Cert.KernelMixerOutIdeal.τ).loc Cert.KernelMixerOutIdeal.main_arg4)
      ∧ r.2.mem ((c.tc : Thread Cert.KernelMixerOutIdeal.nD Cert.KernelMixerOutIdeal.τ).loc Cert.KernelMixerOutIdeal.main_arg5) = m ((c.tc : Thread Cert.KernelMixerOutIdeal.nD Cert.KernelMixerOutIdeal.τ).loc Cert.KernelMixerOutIdeal.main_arg5)
      ∧ r.2.mem ((c.tc : Thread Cert.KernelMixerOutIdeal.nD Cert.KernelMixerOutIdeal.τ).loc Cert.KernelMixerOutIdeal.main_arg6) = m ((c.tc : Thread Cert.KernelMixerOutIdeal.nD Cert.KernelMixerOutIdeal.τ).loc Cert.KernelMixerOutIdeal.main_arg6)
      ∧ r.2.mem ((c.tc : Thread Cert.KernelMixerOutIdeal.nD Cert.KernelMixerOutIdeal.τ).loc Cert.KernelMixerOutIdeal.main_arg7) = m ((c.tc : Thread Cert.KernelMixerOutIdeal.nD Cert.KernelMixerOutIdeal.τ).loc Cert.KernelMixerOutIdeal.main_arg7)
      ∧ r.2.mem ((c.tc : Thread Cert.KernelMixerOutIdeal.nD Cert.KernelMixerOutIdeal.τ).loc Cert.KernelMixerOutIdeal.main_arg8) = m ((c.tc : Thread Cert.KernelMixerOutIdeal.nD Cert.KernelMixerOutIdeal.τ).loc Cert.KernelMixerOutIdeal.main_arg8)
      ∧ r.2.mem ((c.tc : Thread Cert.KernelMixerOutIdeal.nD Cert.KernelMixerOutIdeal.τ).loc Cert.KernelMixerOutIdeal.main_arg9) = m ((c.tc : Thread Cert.KernelMixerOutIdeal.nD Cert.KernelMixerOutIdeal.τ).loc Cert.KernelMixerOutIdeal.main_arg9))
      ∧ r.2.sem = fun _ => 0)

def quiescent_ReferenceMixerOutIdeal [hReferenceMixerOutIdeal : Cert.ReferenceMixerOutIdeal.Facts] : Prop :=
  ∀ (m : (ℓ : Loc Cert.ReferenceMixerOutIdeal.nD Cert.ReferenceMixerOutIdeal.τ Cert.ReferenceMixerOutIdeal.sig) → Buf (Elt Ideal) ℓ) (g : Dev Cert.ReferenceMixerOutIdeal.nD → PrngReg), Pre_ReferenceMixerOutIdeal m →
    θ_run (Cert.ReferenceMixerOutIdeal.defs (F := Ideal)) (onTc (τ := Cert.ReferenceMixerOutIdeal.τ) (Cert.ReferenceMixerOutIdeal.main (F := Ideal))) ⟨m, fun _ => 0, g⟩ (fun r => (∀ c : Dev Cert.ReferenceMixerOutIdeal.nD,
      r.2.mem ((c.tc : Thread Cert.ReferenceMixerOutIdeal.nD Cert.ReferenceMixerOutIdeal.τ).loc Cert.ReferenceMixerOutIdeal.main_arg0) = m ((c.tc : Thread Cert.ReferenceMixerOutIdeal.nD Cert.ReferenceMixerOutIdeal.τ).loc Cert.ReferenceMixerOutIdeal.main_arg0)
      ∧ r.2.mem ((c.tc : Thread Cert.ReferenceMixerOutIdeal.nD Cert.ReferenceMixerOutIdeal.τ).loc Cert.ReferenceMixerOutIdeal.main_arg1) = m ((c.tc : Thread Cert.ReferenceMixerOutIdeal.nD Cert.ReferenceMixerOutIdeal.τ).loc Cert.ReferenceMixerOutIdeal.main_arg1)
      ∧ r.2.mem ((c.tc : Thread Cert.ReferenceMixerOutIdeal.nD Cert.ReferenceMixerOutIdeal.τ).loc Cert.ReferenceMixerOutIdeal.main_arg2) = m ((c.tc : Thread Cert.ReferenceMixerOutIdeal.nD Cert.ReferenceMixerOutIdeal.τ).loc Cert.ReferenceMixerOutIdeal.main_arg2)
      ∧ r.2.mem ((c.tc : Thread Cert.ReferenceMixerOutIdeal.nD Cert.ReferenceMixerOutIdeal.τ).loc Cert.ReferenceMixerOutIdeal.main_arg3) = m ((c.tc : Thread Cert.ReferenceMixerOutIdeal.nD Cert.ReferenceMixerOutIdeal.τ).loc Cert.ReferenceMixerOutIdeal.main_arg3)
      ∧ r.2.mem ((c.tc : Thread Cert.ReferenceMixerOutIdeal.nD Cert.ReferenceMixerOutIdeal.τ).loc Cert.ReferenceMixerOutIdeal.main_arg4) = m ((c.tc : Thread Cert.ReferenceMixerOutIdeal.nD Cert.ReferenceMixerOutIdeal.τ).loc Cert.ReferenceMixerOutIdeal.main_arg4)
      ∧ r.2.mem ((c.tc : Thread Cert.ReferenceMixerOutIdeal.nD Cert.ReferenceMixerOutIdeal.τ).loc Cert.ReferenceMixerOutIdeal.main_arg5) = m ((c.tc : Thread Cert.ReferenceMixerOutIdeal.nD Cert.ReferenceMixerOutIdeal.τ).loc Cert.ReferenceMixerOutIdeal.main_arg5)
      ∧ r.2.mem ((c.tc : Thread Cert.ReferenceMixerOutIdeal.nD Cert.ReferenceMixerOutIdeal.τ).loc Cert.ReferenceMixerOutIdeal.main_arg6) = m ((c.tc : Thread Cert.ReferenceMixerOutIdeal.nD Cert.ReferenceMixerOutIdeal.τ).loc Cert.ReferenceMixerOutIdeal.main_arg6)
      ∧ r.2.mem ((c.tc : Thread Cert.ReferenceMixerOutIdeal.nD Cert.ReferenceMixerOutIdeal.τ).loc Cert.ReferenceMixerOutIdeal.main_arg7) = m ((c.tc : Thread Cert.ReferenceMixerOutIdeal.nD Cert.ReferenceMixerOutIdeal.τ).loc Cert.ReferenceMixerOutIdeal.main_arg7)
      ∧ r.2.mem ((c.tc : Thread Cert.ReferenceMixerOutIdeal.nD Cert.ReferenceMixerOutIdeal.τ).loc Cert.ReferenceMixerOutIdeal.main_arg8) = m ((c.tc : Thread Cert.ReferenceMixerOutIdeal.nD Cert.ReferenceMixerOutIdeal.τ).loc Cert.ReferenceMixerOutIdeal.main_arg8)
      ∧ r.2.mem ((c.tc : Thread Cert.ReferenceMixerOutIdeal.nD Cert.ReferenceMixerOutIdeal.τ).loc Cert.ReferenceMixerOutIdeal.main_arg9) = m ((c.tc : Thread Cert.ReferenceMixerOutIdeal.nD Cert.ReferenceMixerOutIdeal.τ).loc Cert.ReferenceMixerOutIdeal.main_arg9))
      ∧ r.2.sem = fun _ => 0)

def quiescent_KernelMixerOutBwd [hKernelMixerOutBwd : Cert.KernelMixerOutBwd.Facts] : Prop :=
  ∀ (m : (ℓ : Loc Cert.KernelMixerOutBwd.nD Cert.KernelMixerOutBwd.τ Cert.KernelMixerOutBwd.sig) → Buf (Elt Bits) ℓ) (g : Dev Cert.KernelMixerOutBwd.nD → PrngReg), Pre_KernelMixerOutBwd m →
    θ_run (Cert.KernelMixerOutBwd.defs (F := Bits)) (onTc (τ := Cert.KernelMixerOutBwd.τ) (Cert.KernelMixerOutBwd.main (F := Bits))) ⟨m, fun _ => 0, g⟩ (fun r => (∀ c : Dev Cert.KernelMixerOutBwd.nD,
      r.2.mem ((c.tc : Thread Cert.KernelMixerOutBwd.nD Cert.KernelMixerOutBwd.τ).loc Cert.KernelMixerOutBwd.main_arg0) = m ((c.tc : Thread Cert.KernelMixerOutBwd.nD Cert.KernelMixerOutBwd.τ).loc Cert.KernelMixerOutBwd.main_arg0)
      ∧ r.2.mem ((c.tc : Thread Cert.KernelMixerOutBwd.nD Cert.KernelMixerOutBwd.τ).loc Cert.KernelMixerOutBwd.main_arg1) = m ((c.tc : Thread Cert.KernelMixerOutBwd.nD Cert.KernelMixerOutBwd.τ).loc Cert.KernelMixerOutBwd.main_arg1)
      ∧ r.2.mem ((c.tc : Thread Cert.KernelMixerOutBwd.nD Cert.KernelMixerOutBwd.τ).loc Cert.KernelMixerOutBwd.main_arg2) = m ((c.tc : Thread Cert.KernelMixerOutBwd.nD Cert.KernelMixerOutBwd.τ).loc Cert.KernelMixerOutBwd.main_arg2)
      ∧ r.2.mem ((c.tc : Thread Cert.KernelMixerOutBwd.nD Cert.KernelMixerOutBwd.τ).loc Cert.KernelMixerOutBwd.main_arg3) = m ((c.tc : Thread Cert.KernelMixerOutBwd.nD Cert.KernelMixerOutBwd.τ).loc Cert.KernelMixerOutBwd.main_arg3)
      ∧ r.2.mem ((c.tc : Thread Cert.KernelMixerOutBwd.nD Cert.KernelMixerOutBwd.τ).loc Cert.KernelMixerOutBwd.main_arg4) = m ((c.tc : Thread Cert.KernelMixerOutBwd.nD Cert.KernelMixerOutBwd.τ).loc Cert.KernelMixerOutBwd.main_arg4)
      ∧ r.2.mem ((c.tc : Thread Cert.KernelMixerOutBwd.nD Cert.KernelMixerOutBwd.τ).loc Cert.KernelMixerOutBwd.main_arg5) = m ((c.tc : Thread Cert.KernelMixerOutBwd.nD Cert.KernelMixerOutBwd.τ).loc Cert.KernelMixerOutBwd.main_arg5))
      ∧ r.2.sem = fun _ => 0)

def quiescent_KernelMixerOutBwdIdeal [hKernelMixerOutBwdIdeal : Cert.KernelMixerOutBwdIdeal.Facts] : Prop :=
  ∀ (m : (ℓ : Loc Cert.KernelMixerOutBwdIdeal.nD Cert.KernelMixerOutBwdIdeal.τ Cert.KernelMixerOutBwdIdeal.sig) → Buf (Elt Ideal) ℓ) (g : Dev Cert.KernelMixerOutBwdIdeal.nD → PrngReg), Pre_KernelMixerOutBwdIdeal m →
    θ_run (Cert.KernelMixerOutBwdIdeal.defs (F := Ideal)) (onTc (τ := Cert.KernelMixerOutBwdIdeal.τ) (Cert.KernelMixerOutBwdIdeal.main (F := Ideal))) ⟨m, fun _ => 0, g⟩ (fun r => (∀ c : Dev Cert.KernelMixerOutBwdIdeal.nD,
      r.2.mem ((c.tc : Thread Cert.KernelMixerOutBwdIdeal.nD Cert.KernelMixerOutBwdIdeal.τ).loc Cert.KernelMixerOutBwdIdeal.main_arg0) = m ((c.tc : Thread Cert.KernelMixerOutBwdIdeal.nD Cert.KernelMixerOutBwdIdeal.τ).loc Cert.KernelMixerOutBwdIdeal.main_arg0)
      ∧ r.2.mem ((c.tc : Thread Cert.KernelMixerOutBwdIdeal.nD Cert.KernelMixerOutBwdIdeal.τ).loc Cert.KernelMixerOutBwdIdeal.main_arg1) = m ((c.tc : Thread Cert.KernelMixerOutBwdIdeal.nD Cert.KernelMixerOutBwdIdeal.τ).loc Cert.KernelMixerOutBwdIdeal.main_arg1)
      ∧ r.2.mem ((c.tc : Thread Cert.KernelMixerOutBwdIdeal.nD Cert.KernelMixerOutBwdIdeal.τ).loc Cert.KernelMixerOutBwdIdeal.main_arg2) = m ((c.tc : Thread Cert.KernelMixerOutBwdIdeal.nD Cert.KernelMixerOutBwdIdeal.τ).loc Cert.KernelMixerOutBwdIdeal.main_arg2)
      ∧ r.2.mem ((c.tc : Thread Cert.KernelMixerOutBwdIdeal.nD Cert.KernelMixerOutBwdIdeal.τ).loc Cert.KernelMixerOutBwdIdeal.main_arg3) = m ((c.tc : Thread Cert.KernelMixerOutBwdIdeal.nD Cert.KernelMixerOutBwdIdeal.τ).loc Cert.KernelMixerOutBwdIdeal.main_arg3)
      ∧ r.2.mem ((c.tc : Thread Cert.KernelMixerOutBwdIdeal.nD Cert.KernelMixerOutBwdIdeal.τ).loc Cert.KernelMixerOutBwdIdeal.main_arg4) = m ((c.tc : Thread Cert.KernelMixerOutBwdIdeal.nD Cert.KernelMixerOutBwdIdeal.τ).loc Cert.KernelMixerOutBwdIdeal.main_arg4)
      ∧ r.2.mem ((c.tc : Thread Cert.KernelMixerOutBwdIdeal.nD Cert.KernelMixerOutBwdIdeal.τ).loc Cert.KernelMixerOutBwdIdeal.main_arg5) = m ((c.tc : Thread Cert.KernelMixerOutBwdIdeal.nD Cert.KernelMixerOutBwdIdeal.τ).loc Cert.KernelMixerOutBwdIdeal.main_arg5))
      ∧ r.2.sem = fun _ => 0)

def quiescent_ReferenceMixerOutBwdIdeal [hReferenceMixerOutBwdIdeal : Cert.ReferenceMixerOutBwdIdeal.Facts] : Prop :=
  ∀ (m : (ℓ : Loc Cert.ReferenceMixerOutBwdIdeal.nD Cert.ReferenceMixerOutBwdIdeal.τ Cert.ReferenceMixerOutBwdIdeal.sig) → Buf (Elt Ideal) ℓ) (g : Dev Cert.ReferenceMixerOutBwdIdeal.nD → PrngReg), Pre_ReferenceMixerOutBwdIdeal m →
    θ_run (Cert.ReferenceMixerOutBwdIdeal.defs (F := Ideal)) (onTc (τ := Cert.ReferenceMixerOutBwdIdeal.τ) (Cert.ReferenceMixerOutBwdIdeal.main (F := Ideal))) ⟨m, fun _ => 0, g⟩ (fun r => (∀ c : Dev Cert.ReferenceMixerOutBwdIdeal.nD,
      r.2.mem ((c.tc : Thread Cert.ReferenceMixerOutBwdIdeal.nD Cert.ReferenceMixerOutBwdIdeal.τ).loc Cert.ReferenceMixerOutBwdIdeal.main_arg0) = m ((c.tc : Thread Cert.ReferenceMixerOutBwdIdeal.nD Cert.ReferenceMixerOutBwdIdeal.τ).loc Cert.ReferenceMixerOutBwdIdeal.main_arg0)
      ∧ r.2.mem ((c.tc : Thread Cert.ReferenceMixerOutBwdIdeal.nD Cert.ReferenceMixerOutBwdIdeal.τ).loc Cert.ReferenceMixerOutBwdIdeal.main_arg1) = m ((c.tc : Thread Cert.ReferenceMixerOutBwdIdeal.nD Cert.ReferenceMixerOutBwdIdeal.τ).loc Cert.ReferenceMixerOutBwdIdeal.main_arg1)
      ∧ r.2.mem ((c.tc : Thread Cert.ReferenceMixerOutBwdIdeal.nD Cert.ReferenceMixerOutBwdIdeal.τ).loc Cert.ReferenceMixerOutBwdIdeal.main_arg2) = m ((c.tc : Thread Cert.ReferenceMixerOutBwdIdeal.nD Cert.ReferenceMixerOutBwdIdeal.τ).loc Cert.ReferenceMixerOutBwdIdeal.main_arg2)
      ∧ r.2.mem ((c.tc : Thread Cert.ReferenceMixerOutBwdIdeal.nD Cert.ReferenceMixerOutBwdIdeal.τ).loc Cert.ReferenceMixerOutBwdIdeal.main_arg3) = m ((c.tc : Thread Cert.ReferenceMixerOutBwdIdeal.nD Cert.ReferenceMixerOutBwdIdeal.τ).loc Cert.ReferenceMixerOutBwdIdeal.main_arg3)
      ∧ r.2.mem ((c.tc : Thread Cert.ReferenceMixerOutBwdIdeal.nD Cert.ReferenceMixerOutBwdIdeal.τ).loc Cert.ReferenceMixerOutBwdIdeal.main_arg4) = m ((c.tc : Thread Cert.ReferenceMixerOutBwdIdeal.nD Cert.ReferenceMixerOutBwdIdeal.τ).loc Cert.ReferenceMixerOutBwdIdeal.main_arg4)
      ∧ r.2.mem ((c.tc : Thread Cert.ReferenceMixerOutBwdIdeal.nD Cert.ReferenceMixerOutBwdIdeal.τ).loc Cert.ReferenceMixerOutBwdIdeal.main_arg5) = m ((c.tc : Thread Cert.ReferenceMixerOutBwdIdeal.nD Cert.ReferenceMixerOutBwdIdeal.τ).loc Cert.ReferenceMixerOutBwdIdeal.main_arg5))
      ∧ r.2.sem = fun _ => 0)

def quiescent_KernelRsMix [hKernelRsMix : Cert.KernelRsMix.Facts] : Prop :=
  ∀ (m : (ℓ : Loc Cert.KernelRsMix.nD Cert.KernelRsMix.τ Cert.KernelRsMix.sig) → Buf (Elt Bits) ℓ) (g : Dev Cert.KernelRsMix.nD → PrngReg), Pre_KernelRsMix m →
    θ_run (Cert.KernelRsMix.defs (F := Bits)) (onTc (τ := Cert.KernelRsMix.τ) (Cert.KernelRsMix.main (F := Bits))) ⟨m, fun _ => 0, g⟩ (fun r => (∀ c : Dev Cert.KernelRsMix.nD,
      r.2.mem ((c.tc : Thread Cert.KernelRsMix.nD Cert.KernelRsMix.τ).loc Cert.KernelRsMix.main_arg0) = m ((c.tc : Thread Cert.KernelRsMix.nD Cert.KernelRsMix.τ).loc Cert.KernelRsMix.main_arg0)
      ∧ r.2.mem ((c.tc : Thread Cert.KernelRsMix.nD Cert.KernelRsMix.τ).loc Cert.KernelRsMix.main_arg1) = m ((c.tc : Thread Cert.KernelRsMix.nD Cert.KernelRsMix.τ).loc Cert.KernelRsMix.main_arg1)
      ∧ r.2.mem ((c.tc : Thread Cert.KernelRsMix.nD Cert.KernelRsMix.τ).loc Cert.KernelRsMix.main_arg2) = m ((c.tc : Thread Cert.KernelRsMix.nD Cert.KernelRsMix.τ).loc Cert.KernelRsMix.main_arg2)
      ∧ r.2.mem ((c.tc : Thread Cert.KernelRsMix.nD Cert.KernelRsMix.τ).loc Cert.KernelRsMix.main_arg3) = m ((c.tc : Thread Cert.KernelRsMix.nD Cert.KernelRsMix.τ).loc Cert.KernelRsMix.main_arg3)
      ∧ r.2.mem ((c.tc : Thread Cert.KernelRsMix.nD Cert.KernelRsMix.τ).loc Cert.KernelRsMix.main_arg4) = m ((c.tc : Thread Cert.KernelRsMix.nD Cert.KernelRsMix.τ).loc Cert.KernelRsMix.main_arg4)
      ∧ r.2.mem ((c.tc : Thread Cert.KernelRsMix.nD Cert.KernelRsMix.τ).loc Cert.KernelRsMix.main_arg5) = m ((c.tc : Thread Cert.KernelRsMix.nD Cert.KernelRsMix.τ).loc Cert.KernelRsMix.main_arg5))
      ∧ r.2.sem = fun _ => 0)

def quiescent_KernelRsMixIdeal [hKernelRsMixIdeal : Cert.KernelRsMixIdeal.Facts] : Prop :=
  ∀ (m : (ℓ : Loc Cert.KernelRsMixIdeal.nD Cert.KernelRsMixIdeal.τ Cert.KernelRsMixIdeal.sig) → Buf (Elt Ideal) ℓ) (g : Dev Cert.KernelRsMixIdeal.nD → PrngReg), Pre_KernelRsMixIdeal m →
    θ_run (Cert.KernelRsMixIdeal.defs (F := Ideal)) (onTc (τ := Cert.KernelRsMixIdeal.τ) (Cert.KernelRsMixIdeal.main (F := Ideal))) ⟨m, fun _ => 0, g⟩ (fun r => (∀ c : Dev Cert.KernelRsMixIdeal.nD,
      r.2.mem ((c.tc : Thread Cert.KernelRsMixIdeal.nD Cert.KernelRsMixIdeal.τ).loc Cert.KernelRsMixIdeal.main_arg0) = m ((c.tc : Thread Cert.KernelRsMixIdeal.nD Cert.KernelRsMixIdeal.τ).loc Cert.KernelRsMixIdeal.main_arg0)
      ∧ r.2.mem ((c.tc : Thread Cert.KernelRsMixIdeal.nD Cert.KernelRsMixIdeal.τ).loc Cert.KernelRsMixIdeal.main_arg1) = m ((c.tc : Thread Cert.KernelRsMixIdeal.nD Cert.KernelRsMixIdeal.τ).loc Cert.KernelRsMixIdeal.main_arg1)
      ∧ r.2.mem ((c.tc : Thread Cert.KernelRsMixIdeal.nD Cert.KernelRsMixIdeal.τ).loc Cert.KernelRsMixIdeal.main_arg2) = m ((c.tc : Thread Cert.KernelRsMixIdeal.nD Cert.KernelRsMixIdeal.τ).loc Cert.KernelRsMixIdeal.main_arg2)
      ∧ r.2.mem ((c.tc : Thread Cert.KernelRsMixIdeal.nD Cert.KernelRsMixIdeal.τ).loc Cert.KernelRsMixIdeal.main_arg3) = m ((c.tc : Thread Cert.KernelRsMixIdeal.nD Cert.KernelRsMixIdeal.τ).loc Cert.KernelRsMixIdeal.main_arg3)
      ∧ r.2.mem ((c.tc : Thread Cert.KernelRsMixIdeal.nD Cert.KernelRsMixIdeal.τ).loc Cert.KernelRsMixIdeal.main_arg4) = m ((c.tc : Thread Cert.KernelRsMixIdeal.nD Cert.KernelRsMixIdeal.τ).loc Cert.KernelRsMixIdeal.main_arg4)
      ∧ r.2.mem ((c.tc : Thread Cert.KernelRsMixIdeal.nD Cert.KernelRsMixIdeal.τ).loc Cert.KernelRsMixIdeal.main_arg5) = m ((c.tc : Thread Cert.KernelRsMixIdeal.nD Cert.KernelRsMixIdeal.τ).loc Cert.KernelRsMixIdeal.main_arg5))
      ∧ r.2.sem = fun _ => 0)

def quiescent_ReferenceRsMixIdeal [hReferenceRsMixIdeal : Cert.ReferenceRsMixIdeal.Facts] : Prop :=
  ∀ (m : (ℓ : Loc Cert.ReferenceRsMixIdeal.nD Cert.ReferenceRsMixIdeal.τ Cert.ReferenceRsMixIdeal.sig) → Buf (Elt Ideal) ℓ) (g : Dev Cert.ReferenceRsMixIdeal.nD → PrngReg), Pre_ReferenceRsMixIdeal m →
    θ_run (Cert.ReferenceRsMixIdeal.defs (F := Ideal)) (onTc (τ := Cert.ReferenceRsMixIdeal.τ) (Cert.ReferenceRsMixIdeal.main (F := Ideal))) ⟨m, fun _ => 0, g⟩ (fun r => (∀ c : Dev Cert.ReferenceRsMixIdeal.nD,
      r.2.mem ((c.tc : Thread Cert.ReferenceRsMixIdeal.nD Cert.ReferenceRsMixIdeal.τ).loc Cert.ReferenceRsMixIdeal.main_arg0) = m ((c.tc : Thread Cert.ReferenceRsMixIdeal.nD Cert.ReferenceRsMixIdeal.τ).loc Cert.ReferenceRsMixIdeal.main_arg0)
      ∧ r.2.mem ((c.tc : Thread Cert.ReferenceRsMixIdeal.nD Cert.ReferenceRsMixIdeal.τ).loc Cert.ReferenceRsMixIdeal.main_arg1) = m ((c.tc : Thread Cert.ReferenceRsMixIdeal.nD Cert.ReferenceRsMixIdeal.τ).loc Cert.ReferenceRsMixIdeal.main_arg1)
      ∧ r.2.mem ((c.tc : Thread Cert.ReferenceRsMixIdeal.nD Cert.ReferenceRsMixIdeal.τ).loc Cert.ReferenceRsMixIdeal.main_arg2) = m ((c.tc : Thread Cert.ReferenceRsMixIdeal.nD Cert.ReferenceRsMixIdeal.τ).loc Cert.ReferenceRsMixIdeal.main_arg2)
      ∧ r.2.mem ((c.tc : Thread Cert.ReferenceRsMixIdeal.nD Cert.ReferenceRsMixIdeal.τ).loc Cert.ReferenceRsMixIdeal.main_arg3) = m ((c.tc : Thread Cert.ReferenceRsMixIdeal.nD Cert.ReferenceRsMixIdeal.τ).loc Cert.ReferenceRsMixIdeal.main_arg3)
      ∧ r.2.mem ((c.tc : Thread Cert.ReferenceRsMixIdeal.nD Cert.ReferenceRsMixIdeal.τ).loc Cert.ReferenceRsMixIdeal.main_arg4) = m ((c.tc : Thread Cert.ReferenceRsMixIdeal.nD Cert.ReferenceRsMixIdeal.τ).loc Cert.ReferenceRsMixIdeal.main_arg4)
      ∧ r.2.mem ((c.tc : Thread Cert.ReferenceRsMixIdeal.nD Cert.ReferenceRsMixIdeal.τ).loc Cert.ReferenceRsMixIdeal.main_arg5) = m ((c.tc : Thread Cert.ReferenceRsMixIdeal.nD Cert.ReferenceRsMixIdeal.τ).loc Cert.ReferenceRsMixIdeal.main_arg5))
      ∧ r.2.sem = fun _ => 0)

def quiescent_KernelRsFfn [hKernelRsFfn : Cert.KernelRsFfn.Facts] : Prop :=
  ∀ (m : (ℓ : Loc Cert.KernelRsFfn.nD Cert.KernelRsFfn.τ Cert.KernelRsFfn.sig) → Buf (Elt Bits) ℓ) (g : Dev Cert.KernelRsFfn.nD → PrngReg), Pre_KernelRsFfn m →
    θ_run (Cert.KernelRsFfn.defs (F := Bits)) (onTc (τ := Cert.KernelRsFfn.τ) (Cert.KernelRsFfn.main (F := Bits))) ⟨m, fun _ => 0, g⟩ (fun r => (∀ c : Dev Cert.KernelRsFfn.nD,
      r.2.mem ((c.tc : Thread Cert.KernelRsFfn.nD Cert.KernelRsFfn.τ).loc Cert.KernelRsFfn.main_arg0) = m ((c.tc : Thread Cert.KernelRsFfn.nD Cert.KernelRsFfn.τ).loc Cert.KernelRsFfn.main_arg0)
      ∧ r.2.mem ((c.tc : Thread Cert.KernelRsFfn.nD Cert.KernelRsFfn.τ).loc Cert.KernelRsFfn.main_arg1) = m ((c.tc : Thread Cert.KernelRsFfn.nD Cert.KernelRsFfn.τ).loc Cert.KernelRsFfn.main_arg1)
      ∧ r.2.mem ((c.tc : Thread Cert.KernelRsFfn.nD Cert.KernelRsFfn.τ).loc Cert.KernelRsFfn.main_arg2) = m ((c.tc : Thread Cert.KernelRsFfn.nD Cert.KernelRsFfn.τ).loc Cert.KernelRsFfn.main_arg2)
      ∧ r.2.mem ((c.tc : Thread Cert.KernelRsFfn.nD Cert.KernelRsFfn.τ).loc Cert.KernelRsFfn.main_arg3) = m ((c.tc : Thread Cert.KernelRsFfn.nD Cert.KernelRsFfn.τ).loc Cert.KernelRsFfn.main_arg3)
      ∧ r.2.mem ((c.tc : Thread Cert.KernelRsFfn.nD Cert.KernelRsFfn.τ).loc Cert.KernelRsFfn.main_arg4) = m ((c.tc : Thread Cert.KernelRsFfn.nD Cert.KernelRsFfn.τ).loc Cert.KernelRsFfn.main_arg4)
      ∧ r.2.mem ((c.tc : Thread Cert.KernelRsFfn.nD Cert.KernelRsFfn.τ).loc Cert.KernelRsFfn.main_arg5) = m ((c.tc : Thread Cert.KernelRsFfn.nD Cert.KernelRsFfn.τ).loc Cert.KernelRsFfn.main_arg5))
      ∧ r.2.sem = fun _ => 0)

def quiescent_KernelRsFfnIdeal [hKernelRsFfnIdeal : Cert.KernelRsFfnIdeal.Facts] : Prop :=
  ∀ (m : (ℓ : Loc Cert.KernelRsFfnIdeal.nD Cert.KernelRsFfnIdeal.τ Cert.KernelRsFfnIdeal.sig) → Buf (Elt Ideal) ℓ) (g : Dev Cert.KernelRsFfnIdeal.nD → PrngReg), Pre_KernelRsFfnIdeal m →
    θ_run (Cert.KernelRsFfnIdeal.defs (F := Ideal)) (onTc (τ := Cert.KernelRsFfnIdeal.τ) (Cert.KernelRsFfnIdeal.main (F := Ideal))) ⟨m, fun _ => 0, g⟩ (fun r => (∀ c : Dev Cert.KernelRsFfnIdeal.nD,
      r.2.mem ((c.tc : Thread Cert.KernelRsFfnIdeal.nD Cert.KernelRsFfnIdeal.τ).loc Cert.KernelRsFfnIdeal.main_arg0) = m ((c.tc : Thread Cert.KernelRsFfnIdeal.nD Cert.KernelRsFfnIdeal.τ).loc Cert.KernelRsFfnIdeal.main_arg0)
      ∧ r.2.mem ((c.tc : Thread Cert.KernelRsFfnIdeal.nD Cert.KernelRsFfnIdeal.τ).loc Cert.KernelRsFfnIdeal.main_arg1) = m ((c.tc : Thread Cert.KernelRsFfnIdeal.nD Cert.KernelRsFfnIdeal.τ).loc Cert.KernelRsFfnIdeal.main_arg1)
      ∧ r.2.mem ((c.tc : Thread Cert.KernelRsFfnIdeal.nD Cert.KernelRsFfnIdeal.τ).loc Cert.KernelRsFfnIdeal.main_arg2) = m ((c.tc : Thread Cert.KernelRsFfnIdeal.nD Cert.KernelRsFfnIdeal.τ).loc Cert.KernelRsFfnIdeal.main_arg2)
      ∧ r.2.mem ((c.tc : Thread Cert.KernelRsFfnIdeal.nD Cert.KernelRsFfnIdeal.τ).loc Cert.KernelRsFfnIdeal.main_arg3) = m ((c.tc : Thread Cert.KernelRsFfnIdeal.nD Cert.KernelRsFfnIdeal.τ).loc Cert.KernelRsFfnIdeal.main_arg3)
      ∧ r.2.mem ((c.tc : Thread Cert.KernelRsFfnIdeal.nD Cert.KernelRsFfnIdeal.τ).loc Cert.KernelRsFfnIdeal.main_arg4) = m ((c.tc : Thread Cert.KernelRsFfnIdeal.nD Cert.KernelRsFfnIdeal.τ).loc Cert.KernelRsFfnIdeal.main_arg4)
      ∧ r.2.mem ((c.tc : Thread Cert.KernelRsFfnIdeal.nD Cert.KernelRsFfnIdeal.τ).loc Cert.KernelRsFfnIdeal.main_arg5) = m ((c.tc : Thread Cert.KernelRsFfnIdeal.nD Cert.KernelRsFfnIdeal.τ).loc Cert.KernelRsFfnIdeal.main_arg5))
      ∧ r.2.sem = fun _ => 0)

def quiescent_ReferenceRsFfnIdeal [hReferenceRsFfnIdeal : Cert.ReferenceRsFfnIdeal.Facts] : Prop :=
  ∀ (m : (ℓ : Loc Cert.ReferenceRsFfnIdeal.nD Cert.ReferenceRsFfnIdeal.τ Cert.ReferenceRsFfnIdeal.sig) → Buf (Elt Ideal) ℓ) (g : Dev Cert.ReferenceRsFfnIdeal.nD → PrngReg), Pre_ReferenceRsFfnIdeal m →
    θ_run (Cert.ReferenceRsFfnIdeal.defs (F := Ideal)) (onTc (τ := Cert.ReferenceRsFfnIdeal.τ) (Cert.ReferenceRsFfnIdeal.main (F := Ideal))) ⟨m, fun _ => 0, g⟩ (fun r => (∀ c : Dev Cert.ReferenceRsFfnIdeal.nD,
      r.2.mem ((c.tc : Thread Cert.ReferenceRsFfnIdeal.nD Cert.ReferenceRsFfnIdeal.τ).loc Cert.ReferenceRsFfnIdeal.main_arg0) = m ((c.tc : Thread Cert.ReferenceRsFfnIdeal.nD Cert.ReferenceRsFfnIdeal.τ).loc Cert.ReferenceRsFfnIdeal.main_arg0)
      ∧ r.2.mem ((c.tc : Thread Cert.ReferenceRsFfnIdeal.nD Cert.ReferenceRsFfnIdeal.τ).loc Cert.ReferenceRsFfnIdeal.main_arg1) = m ((c.tc : Thread Cert.ReferenceRsFfnIdeal.nD Cert.ReferenceRsFfnIdeal.τ).loc Cert.ReferenceRsFfnIdeal.main_arg1)
      ∧ r.2.mem ((c.tc : Thread Cert.ReferenceRsFfnIdeal.nD Cert.ReferenceRsFfnIdeal.τ).loc Cert.ReferenceRsFfnIdeal.main_arg2) = m ((c.tc : Thread Cert.ReferenceRsFfnIdeal.nD Cert.ReferenceRsFfnIdeal.τ).loc Cert.ReferenceRsFfnIdeal.main_arg2)
      ∧ r.2.mem ((c.tc : Thread Cert.ReferenceRsFfnIdeal.nD Cert.ReferenceRsFfnIdeal.τ).loc Cert.ReferenceRsFfnIdeal.main_arg3) = m ((c.tc : Thread Cert.ReferenceRsFfnIdeal.nD Cert.ReferenceRsFfnIdeal.τ).loc Cert.ReferenceRsFfnIdeal.main_arg3)
      ∧ r.2.mem ((c.tc : Thread Cert.ReferenceRsFfnIdeal.nD Cert.ReferenceRsFfnIdeal.τ).loc Cert.ReferenceRsFfnIdeal.main_arg4) = m ((c.tc : Thread Cert.ReferenceRsFfnIdeal.nD Cert.ReferenceRsFfnIdeal.τ).loc Cert.ReferenceRsFfnIdeal.main_arg4)
      ∧ r.2.mem ((c.tc : Thread Cert.ReferenceRsFfnIdeal.nD Cert.ReferenceRsFfnIdeal.τ).loc Cert.ReferenceRsFfnIdeal.main_arg5) = m ((c.tc : Thread Cert.ReferenceRsFfnIdeal.nD Cert.ReferenceRsFfnIdeal.τ).loc Cert.ReferenceRsFfnIdeal.main_arg5))
      ∧ r.2.sem = fun _ => 0)

def quiescent_KernelSibMix [hKernelSibMix : Cert.KernelSibMix.Facts] : Prop :=
  ∀ (m : (ℓ : Loc Cert.KernelSibMix.nD Cert.KernelSibMix.τ Cert.KernelSibMix.sig) → Buf (Elt Bits) ℓ) (g : Dev Cert.KernelSibMix.nD → PrngReg), Pre_KernelSibMix m →
    θ_run (Cert.KernelSibMix.defs (F := Bits)) (onTc (τ := Cert.KernelSibMix.τ) (Cert.KernelSibMix.main (F := Bits))) ⟨m, fun _ => 0, g⟩ (fun r => (∀ c : Dev Cert.KernelSibMix.nD,
      r.2.mem ((c.tc : Thread Cert.KernelSibMix.nD Cert.KernelSibMix.τ).loc Cert.KernelSibMix.main_arg0) = m ((c.tc : Thread Cert.KernelSibMix.nD Cert.KernelSibMix.τ).loc Cert.KernelSibMix.main_arg0)
      ∧ r.2.mem ((c.tc : Thread Cert.KernelSibMix.nD Cert.KernelSibMix.τ).loc Cert.KernelSibMix.main_arg1) = m ((c.tc : Thread Cert.KernelSibMix.nD Cert.KernelSibMix.τ).loc Cert.KernelSibMix.main_arg1)
      ∧ r.2.mem ((c.tc : Thread Cert.KernelSibMix.nD Cert.KernelSibMix.τ).loc Cert.KernelSibMix.main_arg2) = m ((c.tc : Thread Cert.KernelSibMix.nD Cert.KernelSibMix.τ).loc Cert.KernelSibMix.main_arg2)
      ∧ r.2.mem ((c.tc : Thread Cert.KernelSibMix.nD Cert.KernelSibMix.τ).loc Cert.KernelSibMix.main_arg3) = m ((c.tc : Thread Cert.KernelSibMix.nD Cert.KernelSibMix.τ).loc Cert.KernelSibMix.main_arg3)
      ∧ r.2.mem ((c.tc : Thread Cert.KernelSibMix.nD Cert.KernelSibMix.τ).loc Cert.KernelSibMix.main_arg4) = m ((c.tc : Thread Cert.KernelSibMix.nD Cert.KernelSibMix.τ).loc Cert.KernelSibMix.main_arg4)
      ∧ r.2.mem ((c.tc : Thread Cert.KernelSibMix.nD Cert.KernelSibMix.τ).loc Cert.KernelSibMix.main_arg5) = m ((c.tc : Thread Cert.KernelSibMix.nD Cert.KernelSibMix.τ).loc Cert.KernelSibMix.main_arg5)
      ∧ r.2.mem ((c.tc : Thread Cert.KernelSibMix.nD Cert.KernelSibMix.τ).loc Cert.KernelSibMix.main_arg6) = m ((c.tc : Thread Cert.KernelSibMix.nD Cert.KernelSibMix.τ).loc Cert.KernelSibMix.main_arg6)
      ∧ r.2.mem ((c.tc : Thread Cert.KernelSibMix.nD Cert.KernelSibMix.τ).loc Cert.KernelSibMix.main_arg7) = m ((c.tc : Thread Cert.KernelSibMix.nD Cert.KernelSibMix.τ).loc Cert.KernelSibMix.main_arg7))
      ∧ r.2.sem = fun _ => 0)

def quiescent_KernelSibMixIdeal [hKernelSibMixIdeal : Cert.KernelSibMixIdeal.Facts] : Prop :=
  ∀ (m : (ℓ : Loc Cert.KernelSibMixIdeal.nD Cert.KernelSibMixIdeal.τ Cert.KernelSibMixIdeal.sig) → Buf (Elt Ideal) ℓ) (g : Dev Cert.KernelSibMixIdeal.nD → PrngReg), Pre_KernelSibMixIdeal m →
    θ_run (Cert.KernelSibMixIdeal.defs (F := Ideal)) (onTc (τ := Cert.KernelSibMixIdeal.τ) (Cert.KernelSibMixIdeal.main (F := Ideal))) ⟨m, fun _ => 0, g⟩ (fun r => (∀ c : Dev Cert.KernelSibMixIdeal.nD,
      r.2.mem ((c.tc : Thread Cert.KernelSibMixIdeal.nD Cert.KernelSibMixIdeal.τ).loc Cert.KernelSibMixIdeal.main_arg0) = m ((c.tc : Thread Cert.KernelSibMixIdeal.nD Cert.KernelSibMixIdeal.τ).loc Cert.KernelSibMixIdeal.main_arg0)
      ∧ r.2.mem ((c.tc : Thread Cert.KernelSibMixIdeal.nD Cert.KernelSibMixIdeal.τ).loc Cert.KernelSibMixIdeal.main_arg1) = m ((c.tc : Thread Cert.KernelSibMixIdeal.nD Cert.KernelSibMixIdeal.τ).loc Cert.KernelSibMixIdeal.main_arg1)
      ∧ r.2.mem ((c.tc : Thread Cert.KernelSibMixIdeal.nD Cert.KernelSibMixIdeal.τ).loc Cert.KernelSibMixIdeal.main_arg2) = m ((c.tc : Thread Cert.KernelSibMixIdeal.nD Cert.KernelSibMixIdeal.τ).loc Cert.KernelSibMixIdeal.main_arg2)
      ∧ r.2.mem ((c.tc : Thread Cert.KernelSibMixIdeal.nD Cert.KernelSibMixIdeal.τ).loc Cert.KernelSibMixIdeal.main_arg3) = m ((c.tc : Thread Cert.KernelSibMixIdeal.nD Cert.KernelSibMixIdeal.τ).loc Cert.KernelSibMixIdeal.main_arg3)
      ∧ r.2.mem ((c.tc : Thread Cert.KernelSibMixIdeal.nD Cert.KernelSibMixIdeal.τ).loc Cert.KernelSibMixIdeal.main_arg4) = m ((c.tc : Thread Cert.KernelSibMixIdeal.nD Cert.KernelSibMixIdeal.τ).loc Cert.KernelSibMixIdeal.main_arg4)
      ∧ r.2.mem ((c.tc : Thread Cert.KernelSibMixIdeal.nD Cert.KernelSibMixIdeal.τ).loc Cert.KernelSibMixIdeal.main_arg5) = m ((c.tc : Thread Cert.KernelSibMixIdeal.nD Cert.KernelSibMixIdeal.τ).loc Cert.KernelSibMixIdeal.main_arg5)
      ∧ r.2.mem ((c.tc : Thread Cert.KernelSibMixIdeal.nD Cert.KernelSibMixIdeal.τ).loc Cert.KernelSibMixIdeal.main_arg6) = m ((c.tc : Thread Cert.KernelSibMixIdeal.nD Cert.KernelSibMixIdeal.τ).loc Cert.KernelSibMixIdeal.main_arg6)
      ∧ r.2.mem ((c.tc : Thread Cert.KernelSibMixIdeal.nD Cert.KernelSibMixIdeal.τ).loc Cert.KernelSibMixIdeal.main_arg7) = m ((c.tc : Thread Cert.KernelSibMixIdeal.nD Cert.KernelSibMixIdeal.τ).loc Cert.KernelSibMixIdeal.main_arg7))
      ∧ r.2.sem = fun _ => 0)

def quiescent_ReferenceSibMixIdeal [hReferenceSibMixIdeal : Cert.ReferenceSibMixIdeal.Facts] : Prop :=
  ∀ (m : (ℓ : Loc Cert.ReferenceSibMixIdeal.nD Cert.ReferenceSibMixIdeal.τ Cert.ReferenceSibMixIdeal.sig) → Buf (Elt Ideal) ℓ) (g : Dev Cert.ReferenceSibMixIdeal.nD → PrngReg), Pre_ReferenceSibMixIdeal m →
    θ_run (Cert.ReferenceSibMixIdeal.defs (F := Ideal)) (onTc (τ := Cert.ReferenceSibMixIdeal.τ) (Cert.ReferenceSibMixIdeal.main (F := Ideal))) ⟨m, fun _ => 0, g⟩ (fun r => (∀ c : Dev Cert.ReferenceSibMixIdeal.nD,
      r.2.mem ((c.tc : Thread Cert.ReferenceSibMixIdeal.nD Cert.ReferenceSibMixIdeal.τ).loc Cert.ReferenceSibMixIdeal.main_arg0) = m ((c.tc : Thread Cert.ReferenceSibMixIdeal.nD Cert.ReferenceSibMixIdeal.τ).loc Cert.ReferenceSibMixIdeal.main_arg0)
      ∧ r.2.mem ((c.tc : Thread Cert.ReferenceSibMixIdeal.nD Cert.ReferenceSibMixIdeal.τ).loc Cert.ReferenceSibMixIdeal.main_arg1) = m ((c.tc : Thread Cert.ReferenceSibMixIdeal.nD Cert.ReferenceSibMixIdeal.τ).loc Cert.ReferenceSibMixIdeal.main_arg1)
      ∧ r.2.mem ((c.tc : Thread Cert.ReferenceSibMixIdeal.nD Cert.ReferenceSibMixIdeal.τ).loc Cert.ReferenceSibMixIdeal.main_arg2) = m ((c.tc : Thread Cert.ReferenceSibMixIdeal.nD Cert.ReferenceSibMixIdeal.τ).loc Cert.ReferenceSibMixIdeal.main_arg2)
      ∧ r.2.mem ((c.tc : Thread Cert.ReferenceSibMixIdeal.nD Cert.ReferenceSibMixIdeal.τ).loc Cert.ReferenceSibMixIdeal.main_arg3) = m ((c.tc : Thread Cert.ReferenceSibMixIdeal.nD Cert.ReferenceSibMixIdeal.τ).loc Cert.ReferenceSibMixIdeal.main_arg3)
      ∧ r.2.mem ((c.tc : Thread Cert.ReferenceSibMixIdeal.nD Cert.ReferenceSibMixIdeal.τ).loc Cert.ReferenceSibMixIdeal.main_arg4) = m ((c.tc : Thread Cert.ReferenceSibMixIdeal.nD Cert.ReferenceSibMixIdeal.τ).loc Cert.ReferenceSibMixIdeal.main_arg4)
      ∧ r.2.mem ((c.tc : Thread Cert.ReferenceSibMixIdeal.nD Cert.ReferenceSibMixIdeal.τ).loc Cert.ReferenceSibMixIdeal.main_arg5) = m ((c.tc : Thread Cert.ReferenceSibMixIdeal.nD Cert.ReferenceSibMixIdeal.τ).loc Cert.ReferenceSibMixIdeal.main_arg5)
      ∧ r.2.mem ((c.tc : Thread Cert.ReferenceSibMixIdeal.nD Cert.ReferenceSibMixIdeal.τ).loc Cert.ReferenceSibMixIdeal.main_arg6) = m ((c.tc : Thread Cert.ReferenceSibMixIdeal.nD Cert.ReferenceSibMixIdeal.τ).loc Cert.ReferenceSibMixIdeal.main_arg6)
      ∧ r.2.mem ((c.tc : Thread Cert.ReferenceSibMixIdeal.nD Cert.ReferenceSibMixIdeal.τ).loc Cert.ReferenceSibMixIdeal.main_arg7) = m ((c.tc : Thread Cert.ReferenceSibMixIdeal.nD Cert.ReferenceSibMixIdeal.τ).loc Cert.ReferenceSibMixIdeal.main_arg7))
      ∧ r.2.sem = fun _ => 0)

def quiescent_KernelSibFfn [hKernelSibFfn : Cert.KernelSibFfn.Facts] : Prop :=
  ∀ (m : (ℓ : Loc Cert.KernelSibFfn.nD Cert.KernelSibFfn.τ Cert.KernelSibFfn.sig) → Buf (Elt Bits) ℓ) (g : Dev Cert.KernelSibFfn.nD → PrngReg), Pre_KernelSibFfn m →
    θ_run (Cert.KernelSibFfn.defs (F := Bits)) (onTc (τ := Cert.KernelSibFfn.τ) (Cert.KernelSibFfn.main (F := Bits))) ⟨m, fun _ => 0, g⟩ (fun r => (∀ c : Dev Cert.KernelSibFfn.nD,
      r.2.mem ((c.tc : Thread Cert.KernelSibFfn.nD Cert.KernelSibFfn.τ).loc Cert.KernelSibFfn.main_arg0) = m ((c.tc : Thread Cert.KernelSibFfn.nD Cert.KernelSibFfn.τ).loc Cert.KernelSibFfn.main_arg0)
      ∧ r.2.mem ((c.tc : Thread Cert.KernelSibFfn.nD Cert.KernelSibFfn.τ).loc Cert.KernelSibFfn.main_arg1) = m ((c.tc : Thread Cert.KernelSibFfn.nD Cert.KernelSibFfn.τ).loc Cert.KernelSibFfn.main_arg1)
      ∧ r.2.mem ((c.tc : Thread Cert.KernelSibFfn.nD Cert.KernelSibFfn.τ).loc Cert.KernelSibFfn.main_arg2) = m ((c.tc : Thread Cert.KernelSibFfn.nD Cert.KernelSibFfn.τ).loc Cert.KernelSibFfn.main_arg2)
      ∧ r.2.mem ((c.tc : Thread Cert.KernelSibFfn.nD Cert.KernelSibFfn.τ).loc Cert.KernelSibFfn.main_arg3) = m ((c.tc : Thread Cert.KernelSibFfn.nD Cert.KernelSibFfn.τ).loc Cert.KernelSibFfn.main_arg3))
      ∧ r.2.sem = fun _ => 0)

def quiescent_KernelSibFfnIdeal [hKernelSibFfnIdeal : Cert.KernelSibFfnIdeal.Facts] : Prop :=
  ∀ (m : (ℓ : Loc Cert.KernelSibFfnIdeal.nD Cert.KernelSibFfnIdeal.τ Cert.KernelSibFfnIdeal.sig) → Buf (Elt Ideal) ℓ) (g : Dev Cert.KernelSibFfnIdeal.nD → PrngReg), Pre_KernelSibFfnIdeal m →
    θ_run (Cert.KernelSibFfnIdeal.defs (F := Ideal)) (onTc (τ := Cert.KernelSibFfnIdeal.τ) (Cert.KernelSibFfnIdeal.main (F := Ideal))) ⟨m, fun _ => 0, g⟩ (fun r => (∀ c : Dev Cert.KernelSibFfnIdeal.nD,
      r.2.mem ((c.tc : Thread Cert.KernelSibFfnIdeal.nD Cert.KernelSibFfnIdeal.τ).loc Cert.KernelSibFfnIdeal.main_arg0) = m ((c.tc : Thread Cert.KernelSibFfnIdeal.nD Cert.KernelSibFfnIdeal.τ).loc Cert.KernelSibFfnIdeal.main_arg0)
      ∧ r.2.mem ((c.tc : Thread Cert.KernelSibFfnIdeal.nD Cert.KernelSibFfnIdeal.τ).loc Cert.KernelSibFfnIdeal.main_arg1) = m ((c.tc : Thread Cert.KernelSibFfnIdeal.nD Cert.KernelSibFfnIdeal.τ).loc Cert.KernelSibFfnIdeal.main_arg1)
      ∧ r.2.mem ((c.tc : Thread Cert.KernelSibFfnIdeal.nD Cert.KernelSibFfnIdeal.τ).loc Cert.KernelSibFfnIdeal.main_arg2) = m ((c.tc : Thread Cert.KernelSibFfnIdeal.nD Cert.KernelSibFfnIdeal.τ).loc Cert.KernelSibFfnIdeal.main_arg2)
      ∧ r.2.mem ((c.tc : Thread Cert.KernelSibFfnIdeal.nD Cert.KernelSibFfnIdeal.τ).loc Cert.KernelSibFfnIdeal.main_arg3) = m ((c.tc : Thread Cert.KernelSibFfnIdeal.nD Cert.KernelSibFfnIdeal.τ).loc Cert.KernelSibFfnIdeal.main_arg3))
      ∧ r.2.sem = fun _ => 0)

def quiescent_ReferenceSibFfnIdeal [hReferenceSibFfnIdeal : Cert.ReferenceSibFfnIdeal.Facts] : Prop :=
  ∀ (m : (ℓ : Loc Cert.ReferenceSibFfnIdeal.nD Cert.ReferenceSibFfnIdeal.τ Cert.ReferenceSibFfnIdeal.sig) → Buf (Elt Ideal) ℓ) (g : Dev Cert.ReferenceSibFfnIdeal.nD → PrngReg), Pre_ReferenceSibFfnIdeal m →
    θ_run (Cert.ReferenceSibFfnIdeal.defs (F := Ideal)) (onTc (τ := Cert.ReferenceSibFfnIdeal.τ) (Cert.ReferenceSibFfnIdeal.main (F := Ideal))) ⟨m, fun _ => 0, g⟩ (fun r => (∀ c : Dev Cert.ReferenceSibFfnIdeal.nD,
      r.2.mem ((c.tc : Thread Cert.ReferenceSibFfnIdeal.nD Cert.ReferenceSibFfnIdeal.τ).loc Cert.ReferenceSibFfnIdeal.main_arg0) = m ((c.tc : Thread Cert.ReferenceSibFfnIdeal.nD Cert.ReferenceSibFfnIdeal.τ).loc Cert.ReferenceSibFfnIdeal.main_arg0)
      ∧ r.2.mem ((c.tc : Thread Cert.ReferenceSibFfnIdeal.nD Cert.ReferenceSibFfnIdeal.τ).loc Cert.ReferenceSibFfnIdeal.main_arg1) = m ((c.tc : Thread Cert.ReferenceSibFfnIdeal.nD Cert.ReferenceSibFfnIdeal.τ).loc Cert.ReferenceSibFfnIdeal.main_arg1)
      ∧ r.2.mem ((c.tc : Thread Cert.ReferenceSibFfnIdeal.nD Cert.ReferenceSibFfnIdeal.τ).loc Cert.ReferenceSibFfnIdeal.main_arg2) = m ((c.tc : Thread Cert.ReferenceSibFfnIdeal.nD Cert.ReferenceSibFfnIdeal.τ).loc Cert.ReferenceSibFfnIdeal.main_arg2)
      ∧ r.2.mem ((c.tc : Thread Cert.ReferenceSibFfnIdeal.nD Cert.ReferenceSibFfnIdeal.τ).loc Cert.ReferenceSibFfnIdeal.main_arg3) = m ((c.tc : Thread Cert.ReferenceSibFfnIdeal.nD Cert.ReferenceSibFfnIdeal.τ).loc Cert.ReferenceSibFfnIdeal.main_arg3))
      ∧ r.2.sem = fun _ => 0)

def quiescent_KernelAdaFwd [hKernelAdaFwd : Cert.KernelAdaFwd.Facts] : Prop :=
  ∀ (m : (ℓ : Loc Cert.KernelAdaFwd.nD Cert.KernelAdaFwd.τ Cert.KernelAdaFwd.sig) → Buf (Elt Bits) ℓ) (g : Dev Cert.KernelAdaFwd.nD → PrngReg), Pre_KernelAdaFwd m →
    θ_run (Cert.KernelAdaFwd.defs (F := Bits)) (onTc (τ := Cert.KernelAdaFwd.τ) (Cert.KernelAdaFwd.main (F := Bits))) ⟨m, fun _ => 0, g⟩ (fun r => (∀ c : Dev Cert.KernelAdaFwd.nD,
      r.2.mem ((c.tc : Thread Cert.KernelAdaFwd.nD Cert.KernelAdaFwd.τ).loc Cert.KernelAdaFwd.main_arg0) = m ((c.tc : Thread Cert.KernelAdaFwd.nD Cert.KernelAdaFwd.τ).loc Cert.KernelAdaFwd.main_arg0)
      ∧ r.2.mem ((c.tc : Thread Cert.KernelAdaFwd.nD Cert.KernelAdaFwd.τ).loc Cert.KernelAdaFwd.main_arg1) = m ((c.tc : Thread Cert.KernelAdaFwd.nD Cert.KernelAdaFwd.τ).loc Cert.KernelAdaFwd.main_arg1)
      ∧ r.2.mem ((c.tc : Thread Cert.KernelAdaFwd.nD Cert.KernelAdaFwd.τ).loc Cert.KernelAdaFwd.main_arg2) = m ((c.tc : Thread Cert.KernelAdaFwd.nD Cert.KernelAdaFwd.τ).loc Cert.KernelAdaFwd.main_arg2))
      ∧ r.2.sem = fun _ => 0)

def quiescent_KernelAdaFwdIdeal [hKernelAdaFwdIdeal : Cert.KernelAdaFwdIdeal.Facts] : Prop :=
  ∀ (m : (ℓ : Loc Cert.KernelAdaFwdIdeal.nD Cert.KernelAdaFwdIdeal.τ Cert.KernelAdaFwdIdeal.sig) → Buf (Elt Ideal) ℓ) (g : Dev Cert.KernelAdaFwdIdeal.nD → PrngReg), Pre_KernelAdaFwdIdeal m →
    θ_run (Cert.KernelAdaFwdIdeal.defs (F := Ideal)) (onTc (τ := Cert.KernelAdaFwdIdeal.τ) (Cert.KernelAdaFwdIdeal.main (F := Ideal))) ⟨m, fun _ => 0, g⟩ (fun r => (∀ c : Dev Cert.KernelAdaFwdIdeal.nD,
      r.2.mem ((c.tc : Thread Cert.KernelAdaFwdIdeal.nD Cert.KernelAdaFwdIdeal.τ).loc Cert.KernelAdaFwdIdeal.main_arg0) = m ((c.tc : Thread Cert.KernelAdaFwdIdeal.nD Cert.KernelAdaFwdIdeal.τ).loc Cert.KernelAdaFwdIdeal.main_arg0)
      ∧ r.2.mem ((c.tc : Thread Cert.KernelAdaFwdIdeal.nD Cert.KernelAdaFwdIdeal.τ).loc Cert.KernelAdaFwdIdeal.main_arg1) = m ((c.tc : Thread Cert.KernelAdaFwdIdeal.nD Cert.KernelAdaFwdIdeal.τ).loc Cert.KernelAdaFwdIdeal.main_arg1)
      ∧ r.2.mem ((c.tc : Thread Cert.KernelAdaFwdIdeal.nD Cert.KernelAdaFwdIdeal.τ).loc Cert.KernelAdaFwdIdeal.main_arg2) = m ((c.tc : Thread Cert.KernelAdaFwdIdeal.nD Cert.KernelAdaFwdIdeal.τ).loc Cert.KernelAdaFwdIdeal.main_arg2))
      ∧ r.2.sem = fun _ => 0)

def quiescent_ReferenceAdaFwdIdeal [hReferenceAdaFwdIdeal : Cert.ReferenceAdaFwdIdeal.Facts] : Prop :=
  ∀ (m : (ℓ : Loc Cert.ReferenceAdaFwdIdeal.nD Cert.ReferenceAdaFwdIdeal.τ Cert.ReferenceAdaFwdIdeal.sig) → Buf (Elt Ideal) ℓ) (g : Dev Cert.ReferenceAdaFwdIdeal.nD → PrngReg), Pre_ReferenceAdaFwdIdeal m →
    θ_run (Cert.ReferenceAdaFwdIdeal.defs (F := Ideal)) (onTc (τ := Cert.ReferenceAdaFwdIdeal.τ) (Cert.ReferenceAdaFwdIdeal.main (F := Ideal))) ⟨m, fun _ => 0, g⟩ (fun r => (∀ c : Dev Cert.ReferenceAdaFwdIdeal.nD,
      r.2.mem ((c.tc : Thread Cert.ReferenceAdaFwdIdeal.nD Cert.ReferenceAdaFwdIdeal.τ).loc Cert.ReferenceAdaFwdIdeal.main_arg0) = m ((c.tc : Thread Cert.ReferenceAdaFwdIdeal.nD Cert.ReferenceAdaFwdIdeal.τ).loc Cert.ReferenceAdaFwdIdeal.main_arg0)
      ∧ r.2.mem ((c.tc : Thread Cert.ReferenceAdaFwdIdeal.nD Cert.ReferenceAdaFwdIdeal.τ).loc Cert.ReferenceAdaFwdIdeal.main_arg1) = m ((c.tc : Thread Cert.ReferenceAdaFwdIdeal.nD Cert.ReferenceAdaFwdIdeal.τ).loc Cert.ReferenceAdaFwdIdeal.main_arg1)
      ∧ r.2.mem ((c.tc : Thread Cert.ReferenceAdaFwdIdeal.nD Cert.ReferenceAdaFwdIdeal.τ).loc Cert.ReferenceAdaFwdIdeal.main_arg2) = m ((c.tc : Thread Cert.ReferenceAdaFwdIdeal.nD Cert.ReferenceAdaFwdIdeal.τ).loc Cert.ReferenceAdaFwdIdeal.main_arg2))
      ∧ r.2.sem = fun _ => 0)

def quiescent_KernelLossSum [hKernelLossSum : Cert.KernelLossSum.Facts] : Prop :=
  ∀ (m : (ℓ : Loc Cert.KernelLossSum.nD Cert.KernelLossSum.τ Cert.KernelLossSum.sig) → Buf (Elt Bits) ℓ) (g : Dev Cert.KernelLossSum.nD → PrngReg), Pre_KernelLossSum m →
    θ_run (Cert.KernelLossSum.defs (F := Bits)) (onTc (τ := Cert.KernelLossSum.τ) (Cert.KernelLossSum.main (F := Bits))) ⟨m, fun _ => 0, g⟩ (fun r => (∀ c : Dev Cert.KernelLossSum.nD,
      r.2.mem ((c.tc : Thread Cert.KernelLossSum.nD Cert.KernelLossSum.τ).loc Cert.KernelLossSum.main_arg0) = m ((c.tc : Thread Cert.KernelLossSum.nD Cert.KernelLossSum.τ).loc Cert.KernelLossSum.main_arg0))
      ∧ r.2.sem = fun _ => 0)

def quiescent_KernelLossSumIdeal [hKernelLossSumIdeal : Cert.KernelLossSumIdeal.Facts] : Prop :=
  ∀ (m : (ℓ : Loc Cert.KernelLossSumIdeal.nD Cert.KernelLossSumIdeal.τ Cert.KernelLossSumIdeal.sig) → Buf (Elt Ideal) ℓ) (g : Dev Cert.KernelLossSumIdeal.nD → PrngReg), Pre_KernelLossSumIdeal m →
    θ_run (Cert.KernelLossSumIdeal.defs (F := Ideal)) (onTc (τ := Cert.KernelLossSumIdeal.τ) (Cert.KernelLossSumIdeal.main (F := Ideal))) ⟨m, fun _ => 0, g⟩ (fun r => (∀ c : Dev Cert.KernelLossSumIdeal.nD,
      r.2.mem ((c.tc : Thread Cert.KernelLossSumIdeal.nD Cert.KernelLossSumIdeal.τ).loc Cert.KernelLossSumIdeal.main_arg0) = m ((c.tc : Thread Cert.KernelLossSumIdeal.nD Cert.KernelLossSumIdeal.τ).loc Cert.KernelLossSumIdeal.main_arg0))
      ∧ r.2.sem = fun _ => 0)

def quiescent_ReferenceLossSumIdeal [hReferenceLossSumIdeal : Cert.ReferenceLossSumIdeal.Facts] : Prop :=
  ∀ (m : (ℓ : Loc Cert.ReferenceLossSumIdeal.nD Cert.ReferenceLossSumIdeal.τ Cert.ReferenceLossSumIdeal.sig) → Buf (Elt Ideal) ℓ) (g : Dev Cert.ReferenceLossSumIdeal.nD → PrngReg), Pre_ReferenceLossSumIdeal m →
    θ_run (Cert.ReferenceLossSumIdeal.defs (F := Ideal)) (onTc (τ := Cert.ReferenceLossSumIdeal.τ) (Cert.ReferenceLossSumIdeal.main (F := Ideal))) ⟨m, fun _ => 0, g⟩ (fun r => (∀ c : Dev Cert.ReferenceLossSumIdeal.nD,
      r.2.mem ((c.tc : Thread Cert.ReferenceLossSumIdeal.nD Cert.ReferenceLossSumIdeal.τ).loc Cert.ReferenceLossSumIdeal.main_arg0) = m ((c.tc : Thread Cert.ReferenceLossSumIdeal.nD Cert.ReferenceLossSumIdeal.τ).loc Cert.ReferenceLossSumIdeal.main_arg0))
      ∧ r.2.sem = fun _ => 0)

def preserves_KernelFfnIn_KernelFfnInIdeal : Prop :=
  True

def algebraic_KernelFfnInIdeal_ReferenceFfnInIdeal [hKernelFfnInIdeal : Cert.KernelFfnInIdeal.Facts] [hReferenceFfnInIdeal : Cert.ReferenceFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)) →
    ∃ (v0 : (c : Dev Cert.KernelFfnInIdeal.nD) → Buf (Elt Ideal) ((c.tc : Thread Cert.KernelFfnInIdeal.nD Cert.KernelFfnInIdeal.τ).loc Cert.KernelFfnInIdeal.main_v2_0)) (v1 : (c : Dev Cert.KernelFfnInIdeal.nD) → Buf (Elt Ideal) ((c.tc : Thread Cert.KernelFfnInIdeal.nD Cert.KernelFfnInIdeal.τ).loc Cert.KernelFfnInIdeal.main_v2_1)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v2_0) = v0 c
          ∧ r.2.mem ((c.tc : Thread Cert.KernelFfnInIdeal.nD Cert.KernelFfnInIdeal.τ).loc Cert.KernelFfnInIdeal.main_v2_1) = v1 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v6) = v0 c
          ∧ r.2.mem ((c.tc : Thread Cert.ReferenceFfnInIdeal.nD Cert.ReferenceFfnInIdeal.τ).loc Cert.ReferenceFfnInIdeal.main_v9) = v1 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1))

def preserves_KernelFfnAct_KernelFfnActIdeal : Prop :=
  True

def algebraic_KernelFfnActIdeal_ReferenceFfnActIdeal_pre_finite_ffn [hKernelFfnActIdeal : Cert.KernelFfnActIdeal.Facts] [hReferenceFfnActIdeal : Cert.ReferenceFfnActIdeal.Facts] [hPre_finite_ffn : Cert.Pre_finite_ffn.Facts] : Prop :=
  ∀ (m : (ℓ : Loc Cert.KernelFfnActIdeal.nD Cert.KernelFfnActIdeal.τ Cert.KernelFfnActIdeal.sig) → Buf (Elt Ideal) ℓ) (g : Dev Cert.KernelFfnActIdeal.nD → PrngReg)
    (m' : (ℓ : Loc Cert.ReferenceFfnActIdeal.nD Cert.ReferenceFfnActIdeal.τ Cert.ReferenceFfnActIdeal.sig) → Buf (Elt Ideal) ℓ) (g' : Dev Cert.ReferenceFfnActIdeal.nD → PrngReg), Pre_KernelFfnActIdeal_finite_ffn m →
    (∀ c : Dev Cert.KernelFfnActIdeal.nD,
      m' ((c.tc : Thread Cert.ReferenceFfnActIdeal.nD Cert.ReferenceFfnActIdeal.τ).loc Cert.ReferenceFfnActIdeal.main_arg0) = m ((c.tc : Thread Cert.KernelFfnActIdeal.nD Cert.KernelFfnActIdeal.τ).loc Cert.KernelFfnActIdeal.main_arg0)
      ∧ m' ((c.tc : Thread Cert.ReferenceFfnActIdeal.nD Cert.ReferenceFfnActIdeal.τ).loc Cert.ReferenceFfnActIdeal.main_arg1) = m ((c.tc : Thread Cert.KernelFfnActIdeal.nD Cert.KernelFfnActIdeal.τ).loc Cert.KernelFfnActIdeal.main_arg1)
      ∧ m' ((c.tc : Thread Cert.ReferenceFfnActIdeal.nD Cert.ReferenceFfnActIdeal.τ).loc Cert.ReferenceFfnActIdeal.main_arg2) = m ((c.tc : Thread Cert.KernelFfnActIdeal.nD Cert.KernelFfnActIdeal.τ).loc Cert.KernelFfnActIdeal.main_arg2)) →
    ∃ (v0 : (c : Dev Cert.KernelFfnActIdeal.nD) → Buf (Elt Ideal) ((c.tc : Thread Cert.KernelFfnActIdeal.nD Cert.KernelFfnActIdeal.τ).loc Cert.KernelFfnActIdeal.main_v0)),
      θ_run (Cert.KernelFfnActIdeal.defs (F := Ideal)) (onTc (τ := Cert.KernelFfnActIdeal.τ) (Cert.KernelFfnActIdeal.main (F := Ideal))) ⟨m, fun _ => 0, g⟩ (fun r => ∀ c : Dev Cert.KernelFfnActIdeal.nD,
          r.2.mem ((c.tc : Thread Cert.KernelFfnActIdeal.nD Cert.KernelFfnActIdeal.τ).loc Cert.KernelFfnActIdeal.main_v0) = v0 c
          ∧ r.2.mem ((c.tc : Thread Cert.KernelFfnActIdeal.nD Cert.KernelFfnActIdeal.τ).loc Cert.KernelFfnActIdeal.main_arg0) = m ((c.tc : Thread Cert.KernelFfnActIdeal.nD Cert.KernelFfnActIdeal.τ).loc Cert.KernelFfnActIdeal.main_arg0)
          ∧ r.2.mem ((c.tc : Thread Cert.KernelFfnActIdeal.nD Cert.KernelFfnActIdeal.τ).loc Cert.KernelFfnActIdeal.main_arg1) = m ((c.tc : Thread Cert.KernelFfnActIdeal.nD Cert.KernelFfnActIdeal.τ).loc Cert.KernelFfnActIdeal.main_arg1)
          ∧ r.2.mem ((c.tc : Thread Cert.KernelFfnActIdeal.nD Cert.KernelFfnActIdeal.τ).loc Cert.KernelFfnActIdeal.main_arg2) = m ((c.tc : Thread Cert.KernelFfnActIdeal.nD Cert.KernelFfnActIdeal.τ).loc Cert.KernelFfnActIdeal.main_arg2))
      ∧ θ_run (Cert.ReferenceFfnActIdeal.defs (F := Ideal)) (onTc (τ := Cert.ReferenceFfnActIdeal.τ) (Cert.ReferenceFfnActIdeal.main (F := Ideal))) ⟨m', fun _ => 0, g'⟩ (fun r => ∀ c : Dev Cert.ReferenceFfnActIdeal.nD,
          r.2.mem ((c.tc : Thread Cert.ReferenceFfnActIdeal.nD Cert.ReferenceFfnActIdeal.τ).loc Cert.ReferenceFfnActIdeal.main_v17) = v0 c
          ∧ r.2.mem ((c.tc : Thread Cert.ReferenceFfnActIdeal.nD Cert.ReferenceFfnActIdeal.τ).loc Cert.ReferenceFfnActIdeal.main_arg0) = m' ((c.tc : Thread Cert.ReferenceFfnActIdeal.nD Cert.ReferenceFfnActIdeal.τ).loc Cert.ReferenceFfnActIdeal.main_arg0)
          ∧ r.2.mem ((c.tc : Thread Cert.ReferenceFfnActIdeal.nD Cert.ReferenceFfnActIdeal.τ).loc Cert.ReferenceFfnActIdeal.main_arg1) = m' ((c.tc : Thread Cert.ReferenceFfnActIdeal.nD Cert.ReferenceFfnActIdeal.τ).loc Cert.ReferenceFfnActIdeal.main_arg1)
          ∧ r.2.mem ((c.tc : Thread Cert.ReferenceFfnActIdeal.nD Cert.ReferenceFfnActIdeal.τ).loc Cert.ReferenceFfnActIdeal.main_arg2) = m' ((c.tc : Thread Cert.ReferenceFfnActIdeal.nD Cert.ReferenceFfnActIdeal.τ).loc Cert.ReferenceFfnActIdeal.main_arg2))

def preserves_KernelFfnOutDw_KernelFfnOutDwIdeal : Prop :=
  True

def algebraic_KernelFfnOutDwIdeal_ReferenceFfnOutDwIdeal [hKernelFfnOutDwIdeal : Cert.KernelFfnOutDwIdeal.Facts] [hReferenceFfnOutDwIdeal : Cert.ReferenceFfnOutDwIdeal.Facts] : Prop :=
  ∀ (m : (ℓ : Loc Cert.KernelFfnOutDwIdeal.nD Cert.KernelFfnOutDwIdeal.τ Cert.KernelFfnOutDwIdeal.sig) → Buf (Elt Ideal) ℓ) (g : Dev Cert.KernelFfnOutDwIdeal.nD → PrngReg)
    (m' : (ℓ : Loc Cert.ReferenceFfnOutDwIdeal.nD Cert.ReferenceFfnOutDwIdeal.τ Cert.ReferenceFfnOutDwIdeal.sig) → Buf (Elt Ideal) ℓ) (g' : Dev Cert.ReferenceFfnOutDwIdeal.nD → PrngReg), Pre_KernelFfnOutDwIdeal m →
    (∀ c : Dev Cert.KernelFfnOutDwIdeal.nD,
      m' ((c.tc : Thread Cert.ReferenceFfnOutDwIdeal.nD Cert.ReferenceFfnOutDwIdeal.τ).loc Cert.ReferenceFfnOutDwIdeal.main_arg0) = m ((c.tc : Thread Cert.KernelFfnOutDwIdeal.nD Cert.KernelFfnOutDwIdeal.τ).loc Cert.KernelFfnOutDwIdeal.main_arg0)
      ∧ m' ((c.tc : Thread Cert.ReferenceFfnOutDwIdeal.nD Cert.ReferenceFfnOutDwIdeal.τ).loc Cert.ReferenceFfnOutDwIdeal.main_arg1) = m ((c.tc : Thread Cert.KernelFfnOutDwIdeal.nD Cert.KernelFfnOutDwIdeal.τ).loc Cert.KernelFfnOutDwIdeal.main_arg1)) →
    ∃ (v0 : (c : Dev Cert.KernelFfnOutDwIdeal.nD) → Buf (Elt Ideal) ((c.tc : Thread Cert.KernelFfnOutDwIdeal.nD Cert.KernelFfnOutDwIdeal.τ).loc Cert.KernelFfnOutDwIdeal.main_v0)),
      θ_run (Cert.KernelFfnOutDwIdeal.defs (F := Ideal)) (onTc (τ := Cert.KernelFfnOutDwIdeal.τ) (Cert.KernelFfnOutDwIdeal.main (F := Ideal))) ⟨m, fun _ => 0, g⟩ (fun r => ∀ c : Dev Cert.KernelFfnOutDwIdeal.nD,
          r.2.mem ((c.tc : Thread Cert.KernelFfnOutDwIdeal.nD Cert.KernelFfnOutDwIdeal.τ).loc Cert.KernelFfnOutDwIdeal.main_v0) = v0 c
          ∧ r.2.mem ((c.tc : Thread Cert.KernelFfnOutDwIdeal.nD Cert.KernelFfnOutDwIdeal.τ).loc Cert.KernelFfnOutDwIdeal.main_arg0) = m ((c.tc : Thread Cert.KernelFfnOutDwIdeal.nD Cert.KernelFfnOutDwIdeal.τ).loc Cert.KernelFfnOutDwIdeal.main_arg0)
          ∧ r.2.mem ((c.tc : Thread Cert.KernelFfnOutDwIdeal.nD Cert.KernelFfnOutDwIdeal.τ).loc Cert.KernelFfnOutDwIdeal.main_arg1) = m ((c.tc : Thread Cert.KernelFfnOutDwIdeal.nD Cert.KernelFfnOutDwIdeal.τ).loc Cert.KernelFfnOutDwIdeal.main_arg1))
      ∧ θ_run (Cert.ReferenceFfnOutDwIdeal.defs (F := Ideal)) (onTc (τ := Cert.ReferenceFfnOutDwIdeal.τ) (Cert.ReferenceFfnOutDwIdeal.main (F := Ideal))) ⟨m', fun _ => 0, g'⟩ (fun r => ∀ c : Dev Cert.ReferenceFfnOutDwIdeal.nD,
          r.2.mem ((c.tc : Thread Cert.ReferenceFfnOutDwIdeal.nD Cert.ReferenceFfnOutDwIdeal.τ).loc Cert.ReferenceFfnOutDwIdeal.main_v5) = v0 c
          ∧ r.2.mem ((c.tc : Thread Cert.ReferenceFfnOutDwIdeal.nD Cert.ReferenceFfnOutDwIdeal.τ).loc Cert.ReferenceFfnOutDwIdeal.main_arg0) = m' ((c.tc : Thread Cert.ReferenceFfnOutDwIdeal.nD Cert.ReferenceFfnOutDwIdeal.τ).loc Cert.ReferenceFfnOutDwIdeal.main_arg0)
          ∧ r.2.mem ((c.tc : Thread Cert.ReferenceFfnOutDwIdeal.nD Cert.ReferenceFfnOutDwIdeal.τ).loc Cert.ReferenceFfnOutDwIdeal.main_arg1) = m' ((c.tc : Thread Cert.ReferenceFfnOutDwIdeal.nD Cert.ReferenceFfnOutDwIdeal.τ).loc Cert.ReferenceFfnOutDwIdeal.main_arg1))

def preserves_KernelFfnInDx_KernelFfnInDxIdeal : Prop :=
  True

def algebraic_KernelFfnInDxIdeal_ReferenceFfnInDxIdeal [hKernelFfnInDxIdeal : Cert.KernelFfnInDxIdeal.Facts] [hReferenceFfnInDxIdeal : Cert.ReferenceFfnInDxIdeal.Facts] : Prop :=
  ∀ (m : (ℓ : Loc Cert.KernelFfnInDxIdeal.nD Cert.KernelFfnInDxIdeal.τ Cert.KernelFfnInDxIdeal.sig) → Buf (Elt Ideal) ℓ) (g : Dev Cert.KernelFfnInDxIdeal.nD → PrngReg)
    (m' : (ℓ : Loc Cert.ReferenceFfnInDxIdeal.nD Cert.ReferenceFfnInDxIdeal.τ Cert.ReferenceFfnInDxIdeal.sig) → Buf (Elt Ideal) ℓ) (g' : Dev Cert.ReferenceFfnInDxIdeal.nD → PrngReg), Pre_KernelFfnInDxIdeal m →
    (∀ c : Dev Cert.KernelFfnInDxIdeal.nD,
      m' ((c.tc : Thread Cert.ReferenceFfnInDxIdeal.nD Cert.ReferenceFfnInDxIdeal.τ).loc Cert.ReferenceFfnInDxIdeal.main_arg0) = m ((c.tc : Thread Cert.KernelFfnInDxIdeal.nD Cert.KernelFfnInDxIdeal.τ).loc Cert.KernelFfnInDxIdeal.main_arg0)
      ∧ m' ((c.tc : Thread Cert.ReferenceFfnInDxIdeal.nD Cert.ReferenceFfnInDxIdeal.τ).loc Cert.ReferenceFfnInDxIdeal.main_arg1) = m ((c.tc : Thread Cert.KernelFfnInDxIdeal.nD Cert.KernelFfnInDxIdeal.τ).loc Cert.KernelFfnInDxIdeal.main_arg1)) →
    ∃ (v0 : (c : Dev Cert.KernelFfnInDxIdeal.nD) → Buf (Elt Ideal) ((c.tc : Thread Cert.KernelFfnInDxIdeal.nD Cert.KernelFfnInDxIdeal.τ).loc Cert.KernelFfnInDxIdeal.main_v7)),
      θ_run (Cert.KernelFfnInDxIdeal.defs (F := Ideal)) (onTc (τ := Cert.KernelFfnInDxIdeal.τ) (Cert.KernelFfnInDxIdeal.main (F := Ideal))) ⟨m, fun _ => 0, g⟩ (fun r => ∀ c : Dev Cert.KernelFfnInDxIdeal.nD,
          r.2.mem ((c.tc : Thread Cert.KernelFfnInDxIdeal.nD Cert.KernelFfnInDxIdeal.τ).loc Cert.KernelFfnInDxIdeal.main_v7) = v0 c
          ∧ r.2.mem ((c.tc : Thread Cert.KernelFfnInDxIdeal.nD Cert.KernelFfnInDxIdeal.τ).loc Cert.KernelFfnInDxIdeal.main_arg0) = m ((c.tc : Thread Cert.KernelFfnInDxIdeal.nD Cert.KernelFfnInDxIdeal.τ).loc Cert.KernelFfnInDxIdeal.main_arg0)
          ∧ r.2.mem ((c.tc : Thread Cert.KernelFfnInDxIdeal.nD Cert.KernelFfnInDxIdeal.τ).loc Cert.KernelFfnInDxIdeal.main_arg1) = m ((c.tc : Thread Cert.KernelFfnInDxIdeal.nD Cert.KernelFfnInDxIdeal.τ).loc Cert.KernelFfnInDxIdeal.main_arg1))
      ∧ θ_run (Cert.ReferenceFfnInDxIdeal.defs (F := Ideal)) (onTc (τ := Cert.ReferenceFfnInDxIdeal.τ) (Cert.ReferenceFfnInDxIdeal.main (F := Ideal))) ⟨m', fun _ => 0, g'⟩ (fun r => ∀ c : Dev Cert.ReferenceFfnInDxIdeal.nD,
          r.2.mem ((c.tc : Thread Cert.ReferenceFfnInDxIdeal.nD Cert.ReferenceFfnInDxIdeal.τ).loc Cert.ReferenceFfnInDxIdeal.main_v4) = v0 c
          ∧ r.2.mem ((c.tc : Thread Cert.ReferenceFfnInDxIdeal.nD Cert.ReferenceFfnInDxIdeal.τ).loc Cert.ReferenceFfnInDxIdeal.main_arg0) = m' ((c.tc : Thread Cert.ReferenceFfnInDxIdeal.nD Cert.ReferenceFfnInDxIdeal.τ).loc Cert.ReferenceFfnInDxIdeal.main_arg0)
          ∧ r.2.mem ((c.tc : Thread Cert.ReferenceFfnInDxIdeal.nD Cert.ReferenceFfnInDxIdeal.τ).loc Cert.ReferenceFfnInDxIdeal.main_arg1) = m' ((c.tc : Thread Cert.ReferenceFfnInDxIdeal.nD Cert.ReferenceFfnInDxIdeal.τ).loc Cert.ReferenceFfnInDxIdeal.main_arg1))

def preserves_KernelFfnInDw_KernelFfnInDwIdeal : Prop :=
  True

def algebraic_KernelFfnInDwIdeal_ReferenceFfnInDwIdeal [hKernelFfnInDwIdeal : Cert.KernelFfnInDwIdeal.Facts] [hReferenceFfnInDwIdeal : Cert.ReferenceFfnInDwIdeal.Facts] : Prop :=
  ∀ (m : (ℓ : Loc Cert.KernelFfnInDwIdeal.nD Cert.KernelFfnInDwIdeal.τ Cert.KernelFfnInDwIdeal.sig) → Buf (Elt Ideal) ℓ) (g : Dev Cert.KernelFfnInDwIdeal.nD → PrngReg)
    (m' : (ℓ : Loc Cert.ReferenceFfnInDwIdeal.nD Cert.ReferenceFfnInDwIdeal.τ Cert.ReferenceFfnInDwIdeal.sig) → Buf (Elt Ideal) ℓ) (g' : Dev Cert.ReferenceFfnInDwIdeal.nD → PrngReg), Pre_KernelFfnInDwIdeal m →
    (∀ c : Dev Cert.KernelFfnInDwIdeal.nD,
      m' ((c.tc : Thread Cert.ReferenceFfnInDwIdeal.nD Cert.ReferenceFfnInDwIdeal.τ).loc Cert.ReferenceFfnInDwIdeal.main_arg0) = m ((c.tc : Thread Cert.KernelFfnInDwIdeal.nD Cert.KernelFfnInDwIdeal.τ).loc Cert.KernelFfnInDwIdeal.main_arg0)
      ∧ m' ((c.tc : Thread Cert.ReferenceFfnInDwIdeal.nD Cert.ReferenceFfnInDwIdeal.τ).loc Cert.ReferenceFfnInDwIdeal.main_arg1) = m ((c.tc : Thread Cert.KernelFfnInDwIdeal.nD Cert.KernelFfnInDwIdeal.τ).loc Cert.KernelFfnInDwIdeal.main_arg1)) →
    ∃ (v0 : (c : Dev Cert.KernelFfnInDwIdeal.nD) → Buf (Elt Ideal) ((c.tc : Thread Cert.KernelFfnInDwIdeal.nD Cert.KernelFfnInDwIdeal.τ).loc Cert.KernelFfnInDwIdeal.main_v5)),
      θ_run (Cert.KernelFfnInDwIdeal.defs (F := Ideal)) (onTc (τ := Cert.KernelFfnInDwIdeal.τ) (Cert.KernelFfnInDwIdeal.main (F := Ideal))) ⟨m, fun _ => 0, g⟩ (fun r => ∀ c : Dev Cert.KernelFfnInDwIdeal.nD,
          r.2.mem ((c.tc : Thread Cert.KernelFfnInDwIdeal.nD Cert.KernelFfnInDwIdeal.τ).loc Cert.KernelFfnInDwIdeal.main_v5) = v0 c
          ∧ r.2.mem ((c.tc : Thread Cert.KernelFfnInDwIdeal.nD Cert.KernelFfnInDwIdeal.τ).loc Cert.KernelFfnInDwIdeal.main_arg0) = m ((c.tc : Thread Cert.KernelFfnInDwIdeal.nD Cert.KernelFfnInDwIdeal.τ).loc Cert.KernelFfnInDwIdeal.main_arg0)
          ∧ r.2.mem ((c.tc : Thread Cert.KernelFfnInDwIdeal.nD Cert.KernelFfnInDwIdeal.τ).loc Cert.KernelFfnInDwIdeal.main_arg1) = m ((c.tc : Thread Cert.KernelFfnInDwIdeal.nD Cert.KernelFfnInDwIdeal.τ).loc Cert.KernelFfnInDwIdeal.main_arg1))
      ∧ θ_run (Cert.ReferenceFfnInDwIdeal.defs (F := Ideal)) (onTc (τ := Cert.ReferenceFfnInDwIdeal.τ) (Cert.ReferenceFfnInDwIdeal.main (F := Ideal))) ⟨m', fun _ => 0, g'⟩ (fun r => ∀ c : Dev Cert.ReferenceFfnInDwIdeal.nD,
          r.2.mem ((c.tc : Thread Cert.ReferenceFfnInDwIdeal.nD Cert.ReferenceFfnInDwIdeal.τ).loc Cert.ReferenceFfnInDwIdeal.main_v7) = v0 c
          ∧ r.2.mem ((c.tc : Thread Cert.ReferenceFfnInDwIdeal.nD Cert.ReferenceFfnInDwIdeal.τ).loc Cert.ReferenceFfnInDwIdeal.main_arg0) = m' ((c.tc : Thread Cert.ReferenceFfnInDwIdeal.nD Cert.ReferenceFfnInDwIdeal.τ).loc Cert.ReferenceFfnInDwIdeal.main_arg0)
          ∧ r.2.mem ((c.tc : Thread Cert.ReferenceFfnInDwIdeal.nD Cert.ReferenceFfnInDwIdeal.τ).loc Cert.ReferenceFfnInDwIdeal.main_arg1) = m' ((c.tc : Thread Cert.ReferenceFfnInDwIdeal.nD Cert.ReferenceFfnInDwIdeal.τ).loc Cert.ReferenceFfnInDwIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v0)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v4) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v5) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v5) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelAdaBwd_KernelAdaBwdIdeal : Prop :=
  True

def algebraic_KernelAdaBwdIdeal_ReferenceAdaBwdIdeal [hKernelAdaBwdIdeal : Cert.KernelAdaBwdIdeal.Facts] [hReferenceAdaBwdIdeal : Cert.ReferenceAdaBwdIdeal.Facts] : Prop :=
  ∀ (m : (ℓ : Loc Cert.KernelAdaBwdIdeal.nD Cert.KernelAdaBwdIdeal.τ Cert.KernelAdaBwdIdeal.sig) → Buf (Elt Ideal) ℓ) (g : Dev Cert.KernelAdaBwdIdeal.nD → PrngReg)
    (m' : (ℓ : Loc Cert.ReferenceAdaBwdIdeal.nD Cert.ReferenceAdaBwdIdeal.τ Cert.ReferenceAdaBwdIdeal.sig) → Buf (Elt Ideal) ℓ) (g' : Dev Cert.ReferenceAdaBwdIdeal.nD → PrngReg), Pre_KernelAdaBwdIdeal m →
    (∀ c : Dev Cert.KernelAdaBwdIdeal.nD,
      m' ((c.tc : Thread Cert.ReferenceAdaBwdIdeal.nD Cert.ReferenceAdaBwdIdeal.τ).loc Cert.ReferenceAdaBwdIdeal.main_arg0) = m ((c.tc : Thread Cert.KernelAdaBwdIdeal.nD Cert.KernelAdaBwdIdeal.τ).loc Cert.KernelAdaBwdIdeal.main_arg0)
      ∧ m' ((c.tc : Thread Cert.ReferenceAdaBwdIdeal.nD Cert.ReferenceAdaBwdIdeal.τ).loc Cert.ReferenceAdaBwdIdeal.main_arg1) = m ((c.tc : Thread Cert.KernelAdaBwdIdeal.nD Cert.KernelAdaBwdIdeal.τ).loc Cert.KernelAdaBwdIdeal.main_arg1)) →
    ∃ (v0 : (c : Dev Cert.KernelAdaBwdIdeal.nD) → Buf (Elt Ideal) ((c.tc : Thread Cert.KernelAdaBwdIdeal.nD Cert.KernelAdaBwdIdeal.τ).loc Cert.KernelAdaBwdIdeal.main_v0)),
      θ_run (Cert.KernelAdaBwdIdeal.defs (F := Ideal)) (onTc (τ := Cert.KernelAdaBwdIdeal.τ) (Cert.KernelAdaBwdIdeal.main (F := Ideal))) ⟨m, fun _ => 0, g⟩ (fun r => ∀ c : Dev Cert.KernelAdaBwdIdeal.nD,
          r.2.mem ((c.tc : Thread Cert.KernelAdaBwdIdeal.nD Cert.KernelAdaBwdIdeal.τ).loc Cert.KernelAdaBwdIdeal.main_v0) = v0 c
          ∧ r.2.mem ((c.tc : Thread Cert.KernelAdaBwdIdeal.nD Cert.KernelAdaBwdIdeal.τ).loc Cert.KernelAdaBwdIdeal.main_arg0) = m ((c.tc : Thread Cert.KernelAdaBwdIdeal.nD Cert.KernelAdaBwdIdeal.τ).loc Cert.KernelAdaBwdIdeal.main_arg0)
          ∧ r.2.mem ((c.tc : Thread Cert.KernelAdaBwdIdeal.nD Cert.KernelAdaBwdIdeal.τ).loc Cert.KernelAdaBwdIdeal.main_arg1) = m ((c.tc : Thread Cert.KernelAdaBwdIdeal.nD Cert.KernelAdaBwdIdeal.τ).loc Cert.KernelAdaBwdIdeal.main_arg1))
      ∧ θ_run (Cert.ReferenceAdaBwdIdeal.defs (F := Ideal)) (onTc (τ := Cert.ReferenceAdaBwdIdeal.τ) (Cert.ReferenceAdaBwdIdeal.main (F := Ideal))) ⟨m', fun _ => 0, g'⟩ (fun r => ∀ c : Dev Cert.ReferenceAdaBwdIdeal.nD,
          r.2.mem ((c.tc : Thread Cert.ReferenceAdaBwdIdeal.nD Cert.ReferenceAdaBwdIdeal.τ).loc Cert.ReferenceAdaBwdIdeal.main_v4) = v0 c
          ∧ r.2.mem ((c.tc : Thread Cert.ReferenceAdaBwdIdeal.nD Cert.ReferenceAdaBwdIdeal.τ).loc Cert.ReferenceAdaBwdIdeal.main_arg0) = m' ((c.tc : Thread Cert.ReferenceAdaBwdIdeal.nD Cert.ReferenceAdaBwdIdeal.τ).loc Cert.ReferenceAdaBwdIdeal.main_arg0)
          ∧ r.2.mem ((c.tc : Thread Cert.ReferenceAdaBwdIdeal.nD Cert.ReferenceAdaBwdIdeal.τ).loc Cert.ReferenceAdaBwdIdeal.main_arg1) = m' ((c.tc : Thread Cert.ReferenceAdaBwdIdeal.nD Cert.ReferenceAdaBwdIdeal.τ).loc Cert.ReferenceAdaBwdIdeal.main_arg1))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v4_0)) (v1 : (c : Dev Cert.KernelAdamSmallIdeal.nD) → Buf (Elt Ideal) ((c.tc : Thread Cert.KernelAdamSmallIdeal.nD Cert.KernelAdamSmallIdeal.τ).loc Cert.KernelAdamSmallIdeal.main_v4_1)) (v2 : (c : Dev Cert.KernelAdamSmallIdeal.nD) → Buf (Elt Ideal) ((c.tc : Thread Cert.KernelAdamSmallIdeal.nD Cert.KernelAdamSmallIdeal.τ).loc Cert.KernelAdamSmallIdeal.main_v4_2)) (v3 : (c : Dev Cert.KernelAdamSmallIdeal.nD) → Buf (Elt Ideal) ((c.tc : Thread Cert.KernelAdamSmallIdeal.nD Cert.KernelAdamSmallIdeal.τ).loc Cert.KernelAdamSmallIdeal.main_v4_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v4_0) = v0 c
          ∧ r.2.mem ((c.tc : Thread Cert.KernelAdamSmallIdeal.nD Cert.KernelAdamSmallIdeal.τ).loc Cert.KernelAdamSmallIdeal.main_v4_1) = v1 c
          ∧ r.2.mem ((c.tc : Thread Cert.KernelAdamSmallIdeal.nD Cert.KernelAdamSmallIdeal.τ).loc Cert.KernelAdamSmallIdeal.main_v4_2) = v2 c
          ∧ r.2.mem ((c.tc : Thread Cert.KernelAdamSmallIdeal.nD Cert.KernelAdamSmallIdeal.τ).loc Cert.KernelAdamSmallIdeal.main_v4_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v28) = v0 c
          ∧ r.2.mem ((c.tc : Thread Cert.ReferenceAdamSmallIdeal.nD Cert.ReferenceAdamSmallIdeal.τ).loc Cert.ReferenceAdamSmallIdeal.main_v29) = v1 c
          ∧ r.2.mem ((c.tc : Thread Cert.ReferenceAdamSmallIdeal.nD Cert.ReferenceAdamSmallIdeal.τ).loc Cert.ReferenceAdamSmallIdeal.main_v30) = v2 c
          ∧ r.2.mem ((c.tc : Thread Cert.ReferenceAdamSmallIdeal.nD Cert.ReferenceAdamSmallIdeal.τ).loc Cert.ReferenceAdamSmallIdeal.main_v31) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelAdamB_KernelAdamBIdeal : Prop :=
  True

def algebraic_KernelAdamBIdeal_ReferenceAdamBIdeal [hKernelAdamBIdeal : Cert.KernelAdamBIdeal.Facts] [hReferenceAdamBIdeal : Cert.ReferenceAdamBIdeal.Facts] : Prop :=
  ∀ (m : (ℓ : Loc Cert.KernelAdamBIdeal.nD Cert.KernelAdamBIdeal.τ Cert.KernelAdamBIdeal.sig) → Buf (Elt Ideal) ℓ) (g : Dev Cert.KernelAdamBIdeal.nD → PrngReg)
    (m' : (ℓ : Loc Cert.ReferenceAdamBIdeal.nD Cert.ReferenceAdamBIdeal.τ Cert.ReferenceAdamBIdeal.sig) → Buf (Elt Ideal) ℓ) (g' : Dev Cert.ReferenceAdamBIdeal.nD → PrngReg), Pre_KernelAdamBIdeal m →
    (∀ c : Dev Cert.KernelAdamBIdeal.nD,
      m' ((c.tc : Thread Cert.ReferenceAdamBIdeal.nD Cert.ReferenceAdamBIdeal.τ).loc Cert.ReferenceAdamBIdeal.main_arg0) = m ((c.tc : Thread Cert.KernelAdamBIdeal.nD Cert.KernelAdamBIdeal.τ).loc Cert.KernelAdamBIdeal.main_arg0)
      ∧ m' ((c.tc : Thread Cert.ReferenceAdamBIdeal.nD Cert.ReferenceAdamBIdeal.τ).loc Cert.ReferenceAdamBIdeal.main_arg1) = m ((c.tc : Thread Cert.KernelAdamBIdeal.nD Cert.KernelAdamBIdeal.τ).loc Cert.KernelAdamBIdeal.main_arg1)
      ∧ m' ((c.tc : Thread Cert.ReferenceAdamBIdeal.nD Cert.ReferenceAdamBIdeal.τ).loc Cert.ReferenceAdamBIdeal.main_arg2) = m ((c.tc : Thread Cert.KernelAdamBIdeal.nD Cert.KernelAdamBIdeal.τ).loc Cert.KernelAdamBIdeal.main_arg2)
      ∧ m' ((c.tc : Thread Cert.ReferenceAdamBIdeal.nD Cert.ReferenceAdamBIdeal.τ).loc Cert.ReferenceAdamBIdeal.main_arg3) = m ((c.tc : Thread Cert.KernelAdamBIdeal.nD Cert.KernelAdamBIdeal.τ).loc Cert.KernelAdamBIdeal.main_arg3)) →
    ∃ (v0 : (c : Dev Cert.KernelAdamBIdeal.nD) → Buf (Elt Ideal) ((c.tc : Thread Cert.KernelAdamBIdeal.nD Cert.KernelAdamBIdeal.τ).loc Cert.KernelAdamBIdeal.main_v4_0)) (v1 : (c : Dev Cert.KernelAdamBIdeal.nD) → Buf (Elt Ideal) ((c.tc : Thread Cert.KernelAdamBIdeal.nD Cert.KernelAdamBIdeal.τ).loc Cert.KernelAdamBIdeal.main_v4_1)) (v2 : (c : Dev Cert.KernelAdamBIdeal.nD) → Buf (Elt Ideal) ((c.tc : Thread Cert.KernelAdamBIdeal.nD Cert.KernelAdamBIdeal.τ).loc Cert.KernelAdamBIdeal.main_v4_2)) (v3 : (c : Dev Cert.KernelAdamBIdeal.nD) → Buf (Elt Ideal) ((c.tc : Thread Cert.KernelAdamBIdeal.nD Cert.KernelAdamBIdeal.τ).loc Cert.KernelAdamBIdeal.main_v4_3)),
      θ_run (Cert.KernelAdamBIdeal.defs (F := Ideal)) (onTc (τ := Cert.KernelAdamBIdeal.τ) (Cert.KernelAdamBIdeal.main (F := Ideal))) ⟨m, fun _ => 0, g⟩ (fun r => ∀ c : Dev Cert.KernelAdamBIdeal.nD,
          r.2.mem ((c.tc : Thread Cert.KernelAdamBIdeal.nD Cert.KernelAdamBIdeal.τ).loc Cert.KernelAdamBIdeal.main_v4_0) = v0 c
          ∧ r.2.mem ((c.tc : Thread Cert.KernelAdamBIdeal.nD Cert.KernelAdamBIdeal.τ).loc Cert.KernelAdamBIdeal.main_v4_1) = v1 c
          ∧ r.2.mem ((c.tc : Thread Cert.KernelAdamBIdeal.nD Cert.KernelAdamBIdeal.τ).loc Cert.KernelAdamBIdeal.main_v4_2) = v2 c
          ∧ r.2.mem ((c.tc : Thread Cert.KernelAdamBIdeal.nD Cert.KernelAdamBIdeal.τ).loc Cert.KernelAdamBIdeal.main_v4_3) = v3 c
          ∧ r.2.mem ((c.tc : Thread Cert.KernelAdamBIdeal.nD Cert.KernelAdamBIdeal.τ).loc Cert.KernelAdamBIdeal.main_arg0) = m ((c.tc : Thread Cert.KernelAdamBIdeal.nD Cert.KernelAdamBIdeal.τ).loc Cert.KernelAdamBIdeal.main_arg0)
          ∧ r.2.mem ((c.tc : Thread Cert.KernelAdamBIdeal.nD Cert.KernelAdamBIdeal.τ).loc Cert.KernelAdamBIdeal.main_arg1) = m ((c.tc : Thread Cert.KernelAdamBIdeal.nD Cert.KernelAdamBIdeal.τ).loc Cert.KernelAdamBIdeal.main_arg1)
          ∧ r.2.mem ((c.tc : Thread Cert.KernelAdamBIdeal.nD Cert.KernelAdamBIdeal.τ).loc Cert.KernelAdamBIdeal.main_arg2) = m ((c.tc : Thread Cert.KernelAdamBIdeal.nD Cert.KernelAdamBIdeal.τ).loc Cert.KernelAdamBIdeal.main_arg2)
          ∧ r.2.mem ((c.tc : Thread Cert.KernelAdamBIdeal.nD Cert.KernelAdamBIdeal.τ).loc Cert.KernelAdamBIdeal.main_arg3) = m ((c.tc : Thread Cert.KernelAdamBIdeal.nD Cert.KernelAdamBIdeal.τ).loc Cert.KernelAdamBIdeal.main_arg3))
      ∧ θ_run (Cert.ReferenceAdamBIdeal.defs (F := Ideal)) (onTc (τ := Cert.ReferenceAdamBIdeal.τ) (Cert.ReferenceAdamBIdeal.main (F := Ideal))) ⟨m', fun _ => 0, g'⟩ (fun r => ∀ c : Dev Cert.ReferenceAdamBIdeal.nD,
          r.2.mem ((c.tc : Thread Cert.ReferenceAdamBIdeal.nD Cert.ReferenceAdamBIdeal.τ).loc Cert.ReferenceAdamBIdeal.main_v28) = v0 c
          ∧ r.2.mem ((c.tc : Thread Cert.ReferenceAdamBIdeal.nD Cert.ReferenceAdamBIdeal.τ).loc Cert.ReferenceAdamBIdeal.main_v29) = v1 c
          ∧ r.2.mem ((c.tc : Thread Cert.ReferenceAdamBIdeal.nD Cert.ReferenceAdamBIdeal.τ).loc Cert.ReferenceAdamBIdeal.main_v30) = v2 c
          ∧ r.2.mem ((c.tc : Thread Cert.ReferenceAdamBIdeal.nD Cert.ReferenceAdamBIdeal.τ).loc Cert.ReferenceAdamBIdeal.main_v31) = v3 c
          ∧ r.2.mem ((c.tc : Thread Cert.ReferenceAdamBIdeal.nD Cert.ReferenceAdamBIdeal.τ).loc Cert.ReferenceAdamBIdeal.main_arg0) = m' ((c.tc : Thread Cert.ReferenceAdamBIdeal.nD Cert.ReferenceAdamBIdeal.τ).loc Cert.ReferenceAdamBIdeal.main_arg0)
          ∧ r.2.mem ((c.tc : Thread Cert.ReferenceAdamBIdeal.nD Cert.ReferenceAdamBIdeal.τ).loc Cert.ReferenceAdamBIdeal.main_arg1) = m' ((c.tc : Thread Cert.ReferenceAdamBIdeal.nD Cert.ReferenceAdamBIdeal.τ).loc Cert.ReferenceAdamBIdeal.main_arg1)
          ∧ r.2.mem ((c.tc : Thread Cert.ReferenceAdamBIdeal.nD Cert.ReferenceAdamBIdeal.τ).loc Cert.ReferenceAdamBIdeal.main_arg2) = m' ((c.tc : Thread Cert.ReferenceAdamBIdeal.nD Cert.ReferenceAdamBIdeal.τ).loc Cert.ReferenceAdamBIdeal.main_arg2)
          ∧ r.2.mem ((c.tc : Thread Cert.ReferenceAdamBIdeal.nD Cert.ReferenceAdamBIdeal.τ).loc Cert.ReferenceAdamBIdeal.main_arg3) = m' ((c.tc : Thread Cert.ReferenceAdamBIdeal.nD Cert.ReferenceAdamBIdeal.τ).loc Cert.ReferenceAdamBIdeal.main_arg3))

def preserves_KernelAdamW1_KernelAdamW1Ideal : Prop :=
  True

def algebraic_KernelAdamW1Ideal_ReferenceAdamW1Ideal [hKernelAdamW1Ideal : Cert.KernelAdamW1Ideal.Facts] [hReferenceAdamW1Ideal : Cert.ReferenceAdamW1Ideal.Facts] : Prop :=
  ∀ (m : (ℓ : Loc Cert.KernelAdamW1Ideal.nD Cert.KernelAdamW1Ideal.τ Cert.KernelAdamW1Ideal.sig) → Buf (Elt Ideal) ℓ) (g : Dev Cert.KernelAdamW1Ideal.nD → PrngReg)
    (m' : (ℓ : Loc Cert.ReferenceAdamW1Ideal.nD Cert.ReferenceAdamW1Ideal.τ Cert.ReferenceAdamW1Ideal.sig) → Buf (Elt Ideal) ℓ) (g' : Dev Cert.ReferenceAdamW1Ideal.nD → PrngReg), Pre_KernelAdamW1Ideal m →
    (∀ c : Dev Cert.KernelAdamW1Ideal.nD,
      m' ((c.tc : Thread Cert.ReferenceAdamW1Ideal.nD Cert.ReferenceAdamW1Ideal.τ).loc Cert.ReferenceAdamW1Ideal.main_arg0) = m ((c.tc : Thread Cert.KernelAdamW1Ideal.nD Cert.KernelAdamW1Ideal.τ).loc Cert.KernelAdamW1Ideal.main_arg0)
      ∧ m' ((c.tc : Thread Cert.ReferenceAdamW1Ideal.nD Cert.ReferenceAdamW1Ideal.τ).loc Cert.ReferenceAdamW1Ideal.main_arg1) = m ((c.tc : Thread Cert.KernelAdamW1Ideal.nD Cert.KernelAdamW1Ideal.τ).loc Cert.KernelAdamW1Ideal.main_arg1)
      ∧ m' ((c.tc : Thread Cert.ReferenceAdamW1Ideal.nD Cert.ReferenceAdamW1Ideal.τ).loc Cert.ReferenceAdamW1Ideal.main_arg2) = m ((c.tc : Thread Cert.KernelAdamW1Ideal.nD Cert.KernelAdamW1Ideal.τ).loc Cert.KernelAdamW1Ideal.main_arg2)
      ∧ m' ((c.tc : Thread Cert.ReferenceAdamW1Ideal.nD Cert.ReferenceAdamW1Ideal.τ).loc Cert.ReferenceAdamW1Ideal.main_arg3) = m ((c.tc : Thread Cert.KernelAdamW1Ideal.nD Cert.KernelAdamW1Ideal.τ).loc Cert.KernelAdamW1Ideal.main_arg3)
      ∧ m' ((c.tc : Thread Cert.ReferenceAdamW1Ideal.nD Cert.ReferenceAdamW1Ideal.τ).loc Cert.ReferenceAdamW1Ideal.main_arg4) = m ((c.tc : Thread Cert.KernelAdamW1Ideal.nD Cert.KernelAdamW1Ideal.τ).loc Cert.KernelAdamW1Ideal.main_arg4)
      ∧ m' ((c.tc : Thread Cert.ReferenceAdamW1Ideal.nD Cert.ReferenceAdamW1Ideal.τ).loc Cert.ReferenceAdamW1Ideal.main_arg5) = m ((c.tc : Thread Cert.KernelAdamW1Ideal.nD Cert.KernelAdamW1Ideal.τ).loc Cert.KernelAdamW1Ideal.main_arg5)
      ∧ m' ((c.tc : Thread Cert.ReferenceAdamW1Ideal.nD Cert.ReferenceAdamW1Ideal.τ).loc Cert.ReferenceAdamW1Ideal.main_arg6) = m ((c.tc : Thread Cert.KernelAdamW1Ideal.nD Cert.KernelAdamW1Ideal.τ).loc Cert.KernelAdamW1Ideal.main_arg6)
      ∧ m' ((c.tc : Thread Cert.ReferenceAdamW1Ideal.nD Cert.ReferenceAdamW1Ideal.τ).loc Cert.ReferenceAdamW1Ideal.main_arg7) = m ((c.tc : Thread Cert.KernelAdamW1Ideal.nD Cert.KernelAdamW1Ideal.τ).loc Cert.KernelAdamW1Ideal.main_arg7)
      ∧ m' ((c.tc : Thread Cert.ReferenceAdamW1Ideal.nD Cert.ReferenceAdamW1Ideal.τ).loc Cert.ReferenceAdamW1Ideal.main_arg8) = m ((c.tc : Thread Cert.KernelAdamW1Ideal.nD Cert.KernelAdamW1Ideal.τ).loc Cert.KernelAdamW1Ideal.main_arg8)
      ∧ m' ((c.tc : Thread Cert.ReferenceAdamW1Ideal.nD Cert.ReferenceAdamW1Ideal.τ).loc Cert.ReferenceAdamW1Ideal.main_arg9) = m ((c.tc : Thread Cert.KernelAdamW1Ideal.nD Cert.KernelAdamW1Ideal.τ).loc Cert.KernelAdamW1Ideal.main_arg9)
      ∧ m' ((c.tc : Thread Cert.ReferenceAdamW1Ideal.nD Cert.ReferenceAdamW1Ideal.τ).loc Cert.ReferenceAdamW1Ideal.main_arg10) = m ((c.tc : Thread Cert.KernelAdamW1Ideal.nD Cert.KernelAdamW1Ideal.τ).loc Cert.KernelAdamW1Ideal.main_arg10)
      ∧ m' ((c.tc : Thread Cert.ReferenceAdamW1Ideal.nD Cert.ReferenceAdamW1Ideal.τ).loc Cert.ReferenceAdamW1Ideal.main_arg11) = m ((c.tc : Thread Cert.KernelAdamW1Ideal.nD Cert.KernelAdamW1Ideal.τ).loc Cert.KernelAdamW1Ideal.main_arg11)) →
    ∃ (v0 : (c : Dev Cert.KernelAdamW1Ideal.nD) → Buf (Elt Ideal) ((c.tc : Thread Cert.KernelAdamW1Ideal.nD Cert.KernelAdamW1Ideal.τ).loc Cert.KernelAdamW1Ideal.main_v0_0)) (v1 : (c : Dev Cert.KernelAdamW1Ideal.nD) → Buf (Elt Ideal) ((c.tc : Thread Cert.KernelAdamW1Ideal.nD Cert.KernelAdamW1Ideal.τ).loc Cert.KernelAdamW1Ideal.main_v0_1)) (v2 : (c : Dev Cert.KernelAdamW1Ideal.nD) → Buf (Elt Ideal) ((c.tc : Thread Cert.KernelAdamW1Ideal.nD Cert.KernelAdamW1Ideal.τ).loc Cert.KernelAdamW1Ideal.main_v0_2)) (v3 : (c : Dev Cert.KernelAdamW1Ideal.nD) → Buf (Elt Ideal) ((c.tc : Thread Cert.KernelAdamW1Ideal.nD Cert.KernelAdamW1Ideal.τ).loc Cert.KernelAdamW1Ideal.main_v0_3)) (v4 : (c : Dev Cert.KernelAdamW1Ideal.nD) → Buf (Elt Ideal) ((c.tc : Thread Cert.KernelAdamW1Ideal.nD Cert.KernelAdamW1Ideal.τ).loc Cert.KernelAdamW1Ideal.main_v0_4)) (v5 : (c : Dev Cert.KernelAdamW1Ideal.nD) → Buf (Elt Ideal) ((c.tc : Thread Cert.KernelAdamW1Ideal.nD Cert.KernelAdamW1Ideal.τ).loc Cert.KernelAdamW1Ideal.main_v0_5)) (v6 : (c : Dev Cert.KernelAdamW1Ideal.nD) → Buf (Elt Ideal) ((c.tc : Thread Cert.KernelAdamW1Ideal.nD Cert.KernelAdamW1Ideal.τ).loc Cert.KernelAdamW1Ideal.main_v0_6)) (v7 : (c : Dev Cert.KernelAdamW1Ideal.nD) → Buf (Elt Ideal) ((c.tc : Thread Cert.KernelAdamW1Ideal.nD Cert.KernelAdamW1Ideal.τ).loc Cert.KernelAdamW1Ideal.main_v0_7)) (v8 : (c : Dev Cert.KernelAdamW1Ideal.nD) → Buf (Elt Ideal) ((c.tc : Thread Cert.KernelAdamW1Ideal.nD Cert.KernelAdamW1Ideal.τ).loc Cert.KernelAdamW1Ideal.main_v0_8)),
      θ_run (Cert.KernelAdamW1Ideal.defs (F := Ideal)) (onTc (τ := Cert.KernelAdamW1Ideal.τ) (Cert.KernelAdamW1Ideal.main (F := Ideal))) ⟨m, fun _ => 0, g⟩ (fun r => ∀ c : Dev Cert.KernelAdamW1Ideal.nD,
          r.2.mem ((c.tc : Thread Cert.KernelAdamW1Ideal.nD Cert.KernelAdamW1Ideal.τ).loc Cert.KernelAdamW1Ideal.main_v0_0) = v0 c
          ∧ r.2.mem ((c.tc : Thread Cert.KernelAdamW1Ideal.nD Cert.KernelAdamW1Ideal.τ).loc Cert.KernelAdamW1Ideal.main_v0_1) = v1 c
          ∧ r.2.mem ((c.tc : Thread Cert.KernelAdamW1Ideal.nD Cert.KernelAdamW1Ideal.τ).loc Cert.KernelAdamW1Ideal.main_v0_2) = v2 c
          ∧ r.2.mem ((c.tc : Thread Cert.KernelAdamW1Ideal.nD Cert.KernelAdamW1Ideal.τ).loc Cert.KernelAdamW1Ideal.main_v0_3) = v3 c
          ∧ r.2.mem ((c.tc : Thread Cert.KernelAdamW1Ideal.nD Cert.KernelAdamW1Ideal.τ).loc Cert.KernelAdamW1Ideal.main_v0_4) = v4 c
          ∧ r.2.mem ((c.tc : Thread Cert.KernelAdamW1Ideal.nD Cert.KernelAdamW1Ideal.τ).loc Cert.KernelAdamW1Ideal.main_v0_5) = v5 c
          ∧ r.2.mem ((c.tc : Thread Cert.KernelAdamW1Ideal.nD Cert.KernelAdamW1Ideal.τ).loc Cert.KernelAdamW1Ideal.main_v0_6) = v6 c
          ∧ r.2.mem ((c.tc : Thread Cert.KernelAdamW1Ideal.nD Cert.KernelAdamW1Ideal.τ).loc Cert.KernelAdamW1Ideal.main_v0_7) = v7 c
          ∧ r.2.mem ((c.tc : Thread Cert.KernelAdamW1Ideal.nD Cert.KernelAdamW1Ideal.τ).loc Cert.KernelAdamW1Ideal.main_v0_8) = v8 c
          ∧ r.2.mem ((c.tc : Thread Cert.KernelAdamW1Ideal.nD Cert.KernelAdamW1Ideal.τ).loc Cert.KernelAdamW1Ideal.main_arg0) = m ((c.tc : Thread Cert.KernelAdamW1Ideal.nD Cert.KernelAdamW1Ideal.τ).loc Cert.KernelAdamW1Ideal.main_arg0)
          ∧ r.2.mem ((c.tc : Thread Cert.KernelAdamW1Ideal.nD Cert.KernelAdamW1Ideal.τ).loc Cert.KernelAdamW1Ideal.main_arg1) = m ((c.tc : Thread Cert.KernelAdamW1Ideal.nD Cert.KernelAdamW1Ideal.τ).loc Cert.KernelAdamW1Ideal.main_arg1)
          ∧ r.2.mem ((c.tc : Thread Cert.KernelAdamW1Ideal.nD Cert.KernelAdamW1Ideal.τ).loc Cert.KernelAdamW1Ideal.main_arg2) = m ((c.tc : Thread Cert.KernelAdamW1Ideal.nD Cert.KernelAdamW1Ideal.τ).loc Cert.KernelAdamW1Ideal.main_arg2)
          ∧ r.2.mem ((c.tc : Thread Cert.KernelAdamW1Ideal.nD Cert.KernelAdamW1Ideal.τ).loc Cert.KernelAdamW1Ideal.main_arg3) = m ((c.tc : Thread Cert.KernelAdamW1Ideal.nD Cert.KernelAdamW1Ideal.τ).loc Cert.KernelAdamW1Ideal.main_arg3)
          ∧ r.2.mem ((c.tc : Thread Cert.KernelAdamW1Ideal.nD Cert.KernelAdamW1Ideal.τ).loc Cert.KernelAdamW1Ideal.main_arg4) = m ((c.tc : Thread Cert.KernelAdamW1Ideal.nD Cert.KernelAdamW1Ideal.τ).loc Cert.KernelAdamW1Ideal.main_arg4)
          ∧ r.2.mem ((c.tc : Thread Cert.KernelAdamW1Ideal.nD Cert.KernelAdamW1Ideal.τ).loc Cert.KernelAdamW1Ideal.main_arg5) = m ((c.tc : Thread Cert.KernelAdamW1Ideal.nD Cert.KernelAdamW1Ideal.τ).loc Cert.KernelAdamW1Ideal.main_arg5)
          ∧ r.2.mem ((c.tc : Thread Cert.KernelAdamW1Ideal.nD Cert.KernelAdamW1Ideal.τ).loc Cert.KernelAdamW1Ideal.main_arg6) = m ((c.tc : Thread Cert.KernelAdamW1Ideal.nD Cert.KernelAdamW1Ideal.τ).loc Cert.KernelAdamW1Ideal.main_arg6)
          ∧ r.2.mem ((c.tc : Thread Cert.KernelAdamW1Ideal.nD Cert.KernelAdamW1Ideal.τ).loc Cert.KernelAdamW1Ideal.main_arg7) = m ((c.tc : Thread Cert.KernelAdamW1Ideal.nD Cert.KernelAdamW1Ideal.τ).loc Cert.KernelAdamW1Ideal.main_arg7)
          ∧ r.2.mem ((c.tc : Thread Cert.KernelAdamW1Ideal.nD Cert.KernelAdamW1Ideal.τ).loc Cert.KernelAdamW1Ideal.main_arg8) = m ((c.tc : Thread Cert.KernelAdamW1Ideal.nD Cert.KernelAdamW1Ideal.τ).loc Cert.KernelAdamW1Ideal.main_arg8)
          ∧ r.2.mem ((c.tc : Thread Cert.KernelAdamW1Ideal.nD Cert.KernelAdamW1Ideal.τ).loc Cert.KernelAdamW1Ideal.main_arg9) = m ((c.tc : Thread Cert.KernelAdamW1Ideal.nD Cert.KernelAdamW1Ideal.τ).loc Cert.KernelAdamW1Ideal.main_arg9)
          ∧ r.2.mem ((c.tc : Thread Cert.KernelAdamW1Ideal.nD Cert.KernelAdamW1Ideal.τ).loc Cert.KernelAdamW1Ideal.main_arg10) = m ((c.tc : Thread Cert.KernelAdamW1Ideal.nD Cert.KernelAdamW1Ideal.τ).loc Cert.KernelAdamW1Ideal.main_arg10)
          ∧ r.2.mem ((c.tc : Thread Cert.KernelAdamW1Ideal.nD Cert.KernelAdamW1Ideal.τ).loc Cert.KernelAdamW1Ideal.main_arg11) = m ((c.tc : Thread Cert.KernelAdamW1Ideal.nD Cert.KernelAdamW1Ideal.τ).loc Cert.KernelAdamW1Ideal.main_arg11))
      ∧ θ_run (Cert.ReferenceAdamW1Ideal.defs (F := Ideal)) (onTc (τ := Cert.ReferenceAdamW1Ideal.τ) (Cert.ReferenceAdamW1Ideal.main (F := Ideal))) ⟨m', fun _ => 0, g'⟩ (fun r => ∀ c : Dev Cert.ReferenceAdamW1Ideal.nD,
          r.2.mem ((c.tc : Thread Cert.ReferenceAdamW1Ideal.nD Cert.ReferenceAdamW1Ideal.τ).loc Cert.ReferenceAdamW1Ideal.main_v23) = v0 c
          ∧ r.2.mem ((c.tc : Thread Cert.ReferenceAdamW1Ideal.nD Cert.ReferenceAdamW1Ideal.τ).loc Cert.ReferenceAdamW1Ideal.main_v4) = v1 c
          ∧ r.2.mem ((c.tc : Thread Cert.ReferenceAdamW1Ideal.nD Cert.ReferenceAdamW1Ideal.τ).loc Cert.ReferenceAdamW1Ideal.main_v10) = v2 c
          ∧ r.2.mem ((c.tc : Thread Cert.ReferenceAdamW1Ideal.nD Cert.ReferenceAdamW1Ideal.τ).loc Cert.ReferenceAdamW1Ideal.main_v47) = v3 c
          ∧ r.2.mem ((c.tc : Thread Cert.ReferenceAdamW1Ideal.nD Cert.ReferenceAdamW1Ideal.τ).loc Cert.ReferenceAdamW1Ideal.main_v28) = v4 c
          ∧ r.2.mem ((c.tc : Thread Cert.ReferenceAdamW1Ideal.nD Cert.ReferenceAdamW1Ideal.τ).loc Cert.ReferenceAdamW1Ideal.main_v34) = v5 c
          ∧ r.2.mem ((c.tc : Thread Cert.ReferenceAdamW1Ideal.nD Cert.ReferenceAdamW1Ideal.τ).loc Cert.ReferenceAdamW1Ideal.main_v71) = v6 c
          ∧ r.2.mem ((c.tc : Thread Cert.ReferenceAdamW1Ideal.nD Cert.ReferenceAdamW1Ideal.τ).loc Cert.ReferenceAdamW1Ideal.main_v52) = v7 c
          ∧ r.2.mem ((c.tc : Thread Cert.ReferenceAdamW1Ideal.nD Cert.ReferenceAdamW1Ideal.τ).loc Cert.ReferenceAdamW1Ideal.main_v58) = v8 c
          ∧ r.2.mem ((c.tc : Thread Cert.ReferenceAdamW1Ideal.nD Cert.ReferenceAdamW1Ideal.τ).loc Cert.ReferenceAdamW1Ideal.main_arg0) = m' ((c.tc : Thread Cert.ReferenceAdamW1Ideal.nD Cert.ReferenceAdamW1Ideal.τ).loc Cert.ReferenceAdamW1Ideal.main_arg0)
          ∧ r.2.mem ((c.tc : Thread Cert.ReferenceAdamW1Ideal.nD Cert.ReferenceAdamW1Ideal.τ).loc Cert.ReferenceAdamW1Ideal.main_arg1) = m' ((c.tc : Thread Cert.ReferenceAdamW1Ideal.nD Cert.ReferenceAdamW1Ideal.τ).loc Cert.ReferenceAdamW1Ideal.main_arg1)
          ∧ r.2.mem ((c.tc : Thread Cert.ReferenceAdamW1Ideal.nD Cert.ReferenceAdamW1Ideal.τ).loc Cert.ReferenceAdamW1Ideal.main_arg2) = m' ((c.tc : Thread Cert.ReferenceAdamW1Ideal.nD Cert.ReferenceAdamW1Ideal.τ).loc Cert.ReferenceAdamW1Ideal.main_arg2)
          ∧ r.2.mem ((c.tc : Thread Cert.ReferenceAdamW1Ideal.nD Cert.ReferenceAdamW1Ideal.τ).loc Cert.ReferenceAdamW1Ideal.main_arg3) = m' ((c.tc : Thread Cert.ReferenceAdamW1Ideal.nD Cert.ReferenceAdamW1Ideal.τ).loc Cert.ReferenceAdamW1Ideal.main_arg3)
          ∧ r.2.mem ((c.tc : Thread Cert.ReferenceAdamW1Ideal.nD Cert.ReferenceAdamW1Ideal.τ).loc Cert.ReferenceAdamW1Ideal.main_arg4) = m' ((c.tc : Thread Cert.ReferenceAdamW1Ideal.nD Cert.ReferenceAdamW1Ideal.τ).loc Cert.ReferenceAdamW1Ideal.main_arg4)
          ∧ r.2.mem ((c.tc : Thread Cert.ReferenceAdamW1Ideal.nD Cert.ReferenceAdamW1Ideal.τ).loc Cert.ReferenceAdamW1Ideal.main_arg5) = m' ((c.tc : Thread Cert.ReferenceAdamW1Ideal.nD Cert.ReferenceAdamW1Ideal.τ).loc Cert.ReferenceAdamW1Ideal.main_arg5)
          ∧ r.2.mem ((c.tc : Thread Cert.ReferenceAdamW1Ideal.nD Cert.ReferenceAdamW1Ideal.τ).loc Cert.ReferenceAdamW1Ideal.main_arg6) = m' ((c.tc : Thread Cert.ReferenceAdamW1Ideal.nD Cert.ReferenceAdamW1Ideal.τ).loc Cert.ReferenceAdamW1Ideal.main_arg6)
          ∧ r.2.mem ((c.tc : Thread Cert.ReferenceAdamW1Ideal.nD Cert.ReferenceAdamW1Ideal.τ).loc Cert.ReferenceAdamW1Ideal.main_arg7) = m' ((c.tc : Thread Cert.ReferenceAdamW1Ideal.nD Cert.ReferenceAdamW1Ideal.τ).loc Cert.ReferenceAdamW1Ideal.main_arg7)
          ∧ r.2.mem ((c.tc : Thread Cert.ReferenceAdamW1Ideal.nD Cert.ReferenceAdamW1Ideal.τ).loc Cert.ReferenceAdamW1Ideal.main_arg8) = m' ((c.tc : Thread Cert.ReferenceAdamW1Ideal.nD Cert.ReferenceAdamW1Ideal.τ).loc Cert.ReferenceAdamW1Ideal.main_arg8)
          ∧ r.2.mem ((c.tc : Thread Cert.ReferenceAdamW1Ideal.nD Cert.ReferenceAdamW1Ideal.τ).loc Cert.ReferenceAdamW1Ideal.main_arg9) = m' ((c.tc : Thread Cert.ReferenceAdamW1Ideal.nD Cert.ReferenceAdamW1Ideal.τ).loc Cert.ReferenceAdamW1Ideal.main_arg9)
          ∧ r.2.mem ((c.tc : Thread Cert.ReferenceAdamW1Ideal.nD Cert.ReferenceAdamW1Ideal.τ).loc Cert.ReferenceAdamW1Ideal.main_arg10) = m' ((c.tc : Thread Cert.ReferenceAdamW1Ideal.nD Cert.ReferenceAdamW1Ideal.τ).loc Cert.ReferenceAdamW1Ideal.main_arg10)
          ∧ r.2.mem ((c.tc : Thread Cert.ReferenceAdamW1Ideal.nD Cert.ReferenceAdamW1Ideal.τ).loc Cert.ReferenceAdamW1Ideal.main_arg11) = m' ((c.tc : Thread Cert.ReferenceAdamW1Ideal.nD Cert.ReferenceAdamW1Ideal.τ).loc Cert.ReferenceAdamW1Ideal.main_arg11))

def preserves_KernelAdamW2_KernelAdamW2Ideal : Prop :=
  True

def algebraic_KernelAdamW2Ideal_ReferenceAdamW2Ideal [hKernelAdamW2Ideal : Cert.KernelAdamW2Ideal.Facts] [hReferenceAdamW2Ideal : Cert.ReferenceAdamW2Ideal.Facts] : Prop :=
  ∀ (m : (ℓ : Loc Cert.KernelAdamW2Ideal.nD Cert.KernelAdamW2Ideal.τ Cert.KernelAdamW2Ideal.sig) → Buf (Elt Ideal) ℓ) (g : Dev Cert.KernelAdamW2Ideal.nD → PrngReg)
    (m' : (ℓ : Loc Cert.ReferenceAdamW2Ideal.nD Cert.ReferenceAdamW2Ideal.τ Cert.ReferenceAdamW2Ideal.sig) → Buf (Elt Ideal) ℓ) (g' : Dev Cert.ReferenceAdamW2Ideal.nD → PrngReg), Pre_KernelAdamW2Ideal m →
    (∀ c : Dev Cert.KernelAdamW2Ideal.nD,
      m' ((c.tc : Thread Cert.ReferenceAdamW2Ideal.nD Cert.ReferenceAdamW2Ideal.τ).loc Cert.ReferenceAdamW2Ideal.main_arg0) = m ((c.tc : Thread Cert.KernelAdamW2Ideal.nD Cert.KernelAdamW2Ideal.τ).loc Cert.KernelAdamW2Ideal.main_arg0)
      ∧ m' ((c.tc : Thread Cert.ReferenceAdamW2Ideal.nD Cert.ReferenceAdamW2Ideal.τ).loc Cert.ReferenceAdamW2Ideal.main_arg1) = m ((c.tc : Thread Cert.KernelAdamW2Ideal.nD Cert.KernelAdamW2Ideal.τ).loc Cert.KernelAdamW2Ideal.main_arg1)
      ∧ m' ((c.tc : Thread Cert.ReferenceAdamW2Ideal.nD Cert.ReferenceAdamW2Ideal.τ).loc Cert.ReferenceAdamW2Ideal.main_arg2) = m ((c.tc : Thread Cert.KernelAdamW2Ideal.nD Cert.KernelAdamW2Ideal.τ).loc Cert.KernelAdamW2Ideal.main_arg2)
      ∧ m' ((c.tc : Thread Cert.ReferenceAdamW2Ideal.nD Cert.ReferenceAdamW2Ideal.τ).loc Cert.ReferenceAdamW2Ideal.main_arg3) = m ((c.tc : Thread Cert.KernelAdamW2Ideal.nD Cert.KernelAdamW2Ideal.τ).loc Cert.KernelAdamW2Ideal.main_arg3)
      ∧ m' ((c.tc : Thread Cert.ReferenceAdamW2Ideal.nD Cert.ReferenceAdamW2Ideal.τ).loc Cert.ReferenceAdamW2Ideal.main_arg4) = m ((c.tc : Thread Cert.KernelAdamW2Ideal.nD Cert.KernelAdamW2Ideal.τ).loc Cert.KernelAdamW2Ideal.main_arg4)
      ∧ m' ((c.tc : Thread Cert.ReferenceAdamW2Ideal.nD Cert.ReferenceAdamW2Ideal.τ).loc Cert.ReferenceAdamW2Ideal.main_arg5) = m ((c.tc : Thread Cert.KernelAdamW2Ideal.nD Cert.KernelAdamW2Ideal.τ).loc Cert.KernelAdamW2Ideal.main_arg5)
      ∧ m' ((c.tc : Thread Cert.ReferenceAdamW2Ideal.nD Cert.ReferenceAdamW2Ideal.τ).loc Cert.ReferenceAdamW2Ideal.main_arg6) = m ((c.tc : Thread Cert.KernelAdamW2Ideal.nD Cert.KernelAdamW2Ideal.τ).loc Cert.KernelAdamW2Ideal.main_arg6)
      ∧ m' ((c.tc : Thread Cert.ReferenceAdamW2Ideal.nD Cert.ReferenceAdamW2Ideal.τ).loc Cert.ReferenceAdamW2Ideal.main_arg7) = m ((c.tc : Thread Cert.KernelAdamW2Ideal.nD Cert.KernelAdamW2Ideal.τ).loc Cert.KernelAdamW2Ideal.main_arg7)) →
    ∃ (v0 : (c : Dev Cert.KernelAdamW2Ideal.nD) → Buf (Elt Ideal) ((c.tc : Thread Cert.KernelAdamW2Ideal.nD Cert.KernelAdamW2Ideal.τ).loc Cert.KernelAdamW2Ideal.main_v0_0)) (v1 : (c : Dev Cert.KernelAdamW2Ideal.nD) → Buf (Elt Ideal) ((c.tc : Thread Cert.KernelAdamW2Ideal.nD Cert.KernelAdamW2Ideal.τ).loc Cert.KernelAdamW2Ideal.main_v0_1)) (v2 : (c : Dev Cert.KernelAdamW2Ideal.nD) → Buf (Elt Ideal) ((c.tc : Thread Cert.KernelAdamW2Ideal.nD Cert.KernelAdamW2Ideal.τ).loc Cert.KernelAdamW2Ideal.main_v0_2)) (v3 : (c : Dev Cert.KernelAdamW2Ideal.nD) → Buf (Elt Ideal) ((c.tc : Thread Cert.KernelAdamW2Ideal.nD Cert.KernelAdamW2Ideal.τ).loc Cert.KernelAdamW2Ideal.main_v0_3)) (v4 : (c : Dev Cert.KernelAdamW2Ideal.nD) → Buf (Elt Ideal) ((c.tc : Thread Cert.KernelAdamW2Ideal.nD Cert.KernelAdamW2Ideal.τ).loc Cert.KernelAdamW2Ideal.main_v0_4)) (v5 : (c : Dev Cert.KernelAdamW2Ideal.nD) → Buf (Elt Ideal) ((c.tc : Thread Cert.KernelAdamW2Ideal.nD Cert.KernelAdamW2Ideal.τ).loc Cert.KernelAdamW2Ideal.main_v0_5)),
      θ_run (Cert.KernelAdamW2Ideal.defs (F := Ideal)) (onTc (τ := Cert.KernelAdamW2Ideal.τ) (Cert.KernelAdamW2Ideal.main (F := Ideal))) ⟨m, fun _ => 0, g⟩ (fun r => ∀ c : Dev Cert.KernelAdamW2Ideal.nD,
          r.2.mem ((c.tc : Thread Cert.KernelAdamW2Ideal.nD Cert.KernelAdamW2Ideal.τ).loc Cert.KernelAdamW2Ideal.main_v0_0) = v0 c
          ∧ r.2.mem ((c.tc : Thread Cert.KernelAdamW2Ideal.nD Cert.KernelAdamW2Ideal.τ).loc Cert.KernelAdamW2Ideal.main_v0_1) = v1 c
          ∧ r.2.mem ((c.tc : Thread Cert.KernelAdamW2Ideal.nD Cert.KernelAdamW2Ideal.τ).loc Cert.KernelAdamW2Ideal.main_v0_2) = v2 c
          ∧ r.2.mem ((c.tc : Thread Cert.KernelAdamW2Ideal.nD Cert.KernelAdamW2Ideal.τ).loc Cert.KernelAdamW2Ideal.main_v0_3) = v3 c
          ∧ r.2.mem ((c.tc : Thread Cert.KernelAdamW2Ideal.nD Cert.KernelAdamW2Ideal.τ).loc Cert.KernelAdamW2Ideal.main_v0_4) = v4 c
          ∧ r.2.mem ((c.tc : Thread Cert.KernelAdamW2Ideal.nD Cert.KernelAdamW2Ideal.τ).loc Cert.KernelAdamW2Ideal.main_v0_5) = v5 c
          ∧ r.2.mem ((c.tc : Thread Cert.KernelAdamW2Ideal.nD Cert.KernelAdamW2Ideal.τ).loc Cert.KernelAdamW2Ideal.main_arg0) = m ((c.tc : Thread Cert.KernelAdamW2Ideal.nD Cert.KernelAdamW2Ideal.τ).loc Cert.KernelAdamW2Ideal.main_arg0)
          ∧ r.2.mem ((c.tc : Thread Cert.KernelAdamW2Ideal.nD Cert.KernelAdamW2Ideal.τ).loc Cert.KernelAdamW2Ideal.main_arg1) = m ((c.tc : Thread Cert.KernelAdamW2Ideal.nD Cert.KernelAdamW2Ideal.τ).loc Cert.KernelAdamW2Ideal.main_arg1)
          ∧ r.2.mem ((c.tc : Thread Cert.KernelAdamW2Ideal.nD Cert.KernelAdamW2Ideal.τ).loc Cert.KernelAdamW2Ideal.main_arg2) = m ((c.tc : Thread Cert.KernelAdamW2Ideal.nD Cert.KernelAdamW2Ideal.τ).loc Cert.KernelAdamW2Ideal.main_arg2)
          ∧ r.2.mem ((c.tc : Thread Cert.KernelAdamW2Ideal.nD Cert.KernelAdamW2Ideal.τ).loc Cert.KernelAdamW2Ideal.main_arg3) = m ((c.tc : Thread Cert.KernelAdamW2Ideal.nD Cert.KernelAdamW2Ideal.τ).loc Cert.KernelAdamW2Ideal.main_arg3)
          ∧ r.2.mem ((c.tc : Thread Cert.KernelAdamW2Ideal.nD Cert.KernelAdamW2Ideal.τ).loc Cert.KernelAdamW2Ideal.main_arg4) = m ((c.tc : Thread Cert.KernelAdamW2Ideal.nD Cert.KernelAdamW2Ideal.τ).loc Cert.KernelAdamW2Ideal.main_arg4)
          ∧ r.2.mem ((c.tc : Thread Cert.KernelAdamW2Ideal.nD Cert.KernelAdamW2Ideal.τ).loc Cert.KernelAdamW2Ideal.main_arg5) = m ((c.tc : Thread Cert.KernelAdamW2Ideal.nD Cert.KernelAdamW2Ideal.τ).loc Cert.KernelAdamW2Ideal.main_arg5)
          ∧ r.2.mem ((c.tc : Thread Cert.KernelAdamW2Ideal.nD Cert.KernelAdamW2Ideal.τ).loc Cert.KernelAdamW2Ideal.main_arg6) = m ((c.tc : Thread Cert.KernelAdamW2Ideal.nD Cert.KernelAdamW2Ideal.τ).loc Cert.KernelAdamW2Ideal.main_arg6)
          ∧ r.2.mem ((c.tc : Thread Cert.KernelAdamW2Ideal.nD Cert.KernelAdamW2Ideal.τ).loc Cert.KernelAdamW2Ideal.main_arg7) = m ((c.tc : Thread Cert.KernelAdamW2Ideal.nD Cert.KernelAdamW2Ideal.τ).loc Cert.KernelAdamW2Ideal.main_arg7))
      ∧ θ_run (Cert.ReferenceAdamW2Ideal.defs (F := Ideal)) (onTc (τ := Cert.ReferenceAdamW2Ideal.τ) (Cert.ReferenceAdamW2Ideal.main (F := Ideal))) ⟨m', fun _ => 0, g'⟩ (fun r => ∀ c : Dev Cert.ReferenceAdamW2Ideal.nD,
          r.2.mem ((c.tc : Thread Cert.ReferenceAdamW2Ideal.nD Cert.ReferenceAdamW2Ideal.τ).loc Cert.ReferenceAdamW2Ideal.main_v23) = v0 c
          ∧ r.2.mem ((c.tc : Thread Cert.ReferenceAdamW2Ideal.nD Cert.ReferenceAdamW2Ideal.τ).loc Cert.ReferenceAdamW2Ideal.main_v4) = v1 c
          ∧ r.2.mem ((c.tc : Thread Cert.ReferenceAdamW2Ideal.nD Cert.ReferenceAdamW2Ideal.τ).loc Cert.ReferenceAdamW2Ideal.main_v10) = v2 c
          ∧ r.2.mem ((c.tc : Thread Cert.ReferenceAdamW2Ideal.nD Cert.ReferenceAdamW2Ideal.τ).loc Cert.ReferenceAdamW2Ideal.main_v47) = v3 c
          ∧ r.2.mem ((c.tc : Thread Cert.ReferenceAdamW2Ideal.nD Cert.ReferenceAdamW2Ideal.τ).loc Cert.ReferenceAdamW2Ideal.main_v28) = v4 c
          ∧ r.2.mem ((c.tc : Thread Cert.ReferenceAdamW2Ideal.nD Cert.ReferenceAdamW2Ideal.τ).loc Cert.ReferenceAdamW2Ideal.main_v34) = v5 c
          ∧ r.2.mem ((c.tc : Thread Cert.ReferenceAdamW2Ideal.nD Cert.ReferenceAdamW2Ideal.τ).loc Cert.ReferenceAdamW2Ideal.main_arg0) = m' ((c.tc : Thread Cert.ReferenceAdamW2Ideal.nD Cert.ReferenceAdamW2Ideal.τ).loc Cert.ReferenceAdamW2Ideal.main_arg0)
          ∧ r.2.mem ((c.tc : Thread Cert.ReferenceAdamW2Ideal.nD Cert.ReferenceAdamW2Ideal.τ).loc Cert.ReferenceAdamW2Ideal.main_arg1) = m' ((c.tc : Thread Cert.ReferenceAdamW2Ideal.nD Cert.ReferenceAdamW2Ideal.τ).loc Cert.ReferenceAdamW2Ideal.main_arg1)
          ∧ r.2.mem ((c.tc : Thread Cert.ReferenceAdamW2Ideal.nD Cert.ReferenceAdamW2Ideal.τ).loc Cert.ReferenceAdamW2Ideal.main_arg2) = m' ((c.tc : Thread Cert.ReferenceAdamW2Ideal.nD Cert.ReferenceAdamW2Ideal.τ).loc Cert.ReferenceAdamW2Ideal.main_arg2)
          ∧ r.2.mem ((c.tc : Thread Cert.ReferenceAdamW2Ideal.nD Cert.ReferenceAdamW2Ideal.τ).loc Cert.ReferenceAdamW2Ideal.main_arg3) = m' ((c.tc : Thread Cert.ReferenceAdamW2Ideal.nD Cert.ReferenceAdamW2Ideal.τ).loc Cert.ReferenceAdamW2Ideal.main_arg3)
          ∧ r.2.mem ((c.tc : Thread Cert.ReferenceAdamW2Ideal.nD Cert.ReferenceAdamW2Ideal.τ).loc Cert.ReferenceAdamW2Ideal.main_arg4) = m' ((c.tc : Thread Cert.ReferenceAdamW2Ideal.nD Cert.ReferenceAdamW2Ideal.τ).loc Cert.ReferenceAdamW2Ideal.main_arg4)
          ∧ r.2.mem ((c.tc : Thread Cert.ReferenceAdamW2Ideal.nD Cert.ReferenceAdamW2Ideal.τ).loc Cert.ReferenceAdamW2Ideal.main_arg5) = m' ((c.tc : Thread Cert.ReferenceAdamW2Ideal.nD Cert.ReferenceAdamW2Ideal.τ).loc Cert.ReferenceAdamW2Ideal.main_arg5)
          ∧ r.2.mem ((c.tc : Thread Cert.ReferenceAdamW2Ideal.nD Cert.ReferenceAdamW2Ideal.τ).loc Cert.ReferenceAdamW2Ideal.main_arg6) = m' ((c.tc : Thread Cert.ReferenceAdamW2Ideal.nD Cert.ReferenceAdamW2Ideal.τ).loc Cert.ReferenceAdamW2Ideal.main_arg6)
          ∧ r.2.mem ((c.tc : Thread Cert.ReferenceAdamW2Ideal.nD Cert.ReferenceAdamW2Ideal.τ).loc Cert.ReferenceAdamW2Ideal.main_arg7) = m' ((c.tc : Thread Cert.ReferenceAdamW2Ideal.nD Cert.ReferenceAdamW2Ideal.τ).loc Cert.ReferenceAdamW2Ideal.main_arg7))

def preserves_KernelAdamW3_KernelAdamW3Ideal : Prop :=
  True

def algebraic_KernelAdamW3Ideal_ReferenceAdamW3Ideal [hKernelAdamW3Ideal : Cert.KernelAdamW3Ideal.Facts] [hReferenceAdamW3Ideal : Cert.ReferenceAdamW3Ideal.Facts] : Prop :=
  ∀ (m : (ℓ : Loc Cert.KernelAdamW3Ideal.nD Cert.KernelAdamW3Ideal.τ Cert.KernelAdamW3Ideal.sig) → Buf (Elt Ideal) ℓ) (g : Dev Cert.KernelAdamW3Ideal.nD → PrngReg)
    (m' : (ℓ : Loc Cert.ReferenceAdamW3Ideal.nD Cert.ReferenceAdamW3Ideal.τ Cert.ReferenceAdamW3Ideal.sig) → Buf (Elt Ideal) ℓ) (g' : Dev Cert.ReferenceAdamW3Ideal.nD → PrngReg), Pre_KernelAdamW3Ideal m →
    (∀ c : Dev Cert.KernelAdamW3Ideal.nD,
      m' ((c.tc : Thread Cert.ReferenceAdamW3Ideal.nD Cert.ReferenceAdamW3Ideal.τ).loc Cert.ReferenceAdamW3Ideal.main_arg0) = m ((c.tc : Thread Cert.KernelAdamW3Ideal.nD Cert.KernelAdamW3Ideal.τ).loc Cert.KernelAdamW3Ideal.main_arg0)
      ∧ m' ((c.tc : Thread Cert.ReferenceAdamW3Ideal.nD Cert.ReferenceAdamW3Ideal.τ).loc Cert.ReferenceAdamW3Ideal.main_arg1) = m ((c.tc : Thread Cert.KernelAdamW3Ideal.nD Cert.KernelAdamW3Ideal.τ).loc Cert.KernelAdamW3Ideal.main_arg1)
      ∧ m' ((c.tc : Thread Cert.ReferenceAdamW3Ideal.nD Cert.ReferenceAdamW3Ideal.τ).loc Cert.ReferenceAdamW3Ideal.main_arg2) = m ((c.tc : Thread Cert.KernelAdamW3Ideal.nD Cert.KernelAdamW3Ideal.τ).loc Cert.KernelAdamW3Ideal.main_arg2)
      ∧ m' ((c.tc : Thread Cert.ReferenceAdamW3Ideal.nD Cert.ReferenceAdamW3Ideal.τ).loc Cert.ReferenceAdamW3Ideal.main_arg3) = m ((c.tc : Thread Cert.KernelAdamW3Ideal.nD Cert.KernelAdamW3Ideal.τ).loc Cert.KernelAdamW3Ideal.main_arg3)
      ∧ m' ((c.tc : Thread Cert.ReferenceAdamW3Ideal.nD Cert.ReferenceAdamW3Ideal.τ).loc Cert.ReferenceAdamW3Ideal.main_arg4) = m ((c.tc : Thread Cert.KernelAdamW3Ideal.nD Cert.KernelAdamW3Ideal.τ).loc Cert.KernelAdamW3Ideal.main_arg4)
      ∧ m' ((c.tc : Thread Cert.ReferenceAdamW3Ideal.nD Cert.ReferenceAdamW3Ideal.τ).loc Cert.ReferenceAdamW3Ideal.main_arg5) = m ((c.tc : Thread Cert.KernelAdamW3Ideal.nD Cert.KernelAdamW3Ideal.τ).loc Cert.KernelAdamW3Ideal.main_arg5)
      ∧ m' ((c.tc : Thread Cert.ReferenceAdamW3Ideal.nD Cert.ReferenceAdamW3Ideal.τ).loc Cert.ReferenceAdamW3Ideal.main_arg6) = m ((c.tc : Thread Cert.KernelAdamW3Ideal.nD Cert.KernelAdamW3Ideal.τ).loc Cert.KernelAdamW3Ideal.main_arg6)
      ∧ m' ((c.tc : Thread Cert.ReferenceAdamW3Ideal.nD Cert.ReferenceAdamW3Ideal.τ).loc Cert.ReferenceAdamW3Ideal.main_arg7) = m ((c.tc : Thread Cert.KernelAdamW3Ideal.nD Cert.KernelAdamW3Ideal.τ).loc Cert.KernelAdamW3Ideal.main_arg7)) →
    ∃ (v0 : (c : Dev Cert.KernelAdamW3Ideal.nD) → Buf (Elt Ideal) ((c.tc : Thread Cert.KernelAdamW3Ideal.nD Cert.KernelAdamW3Ideal.τ).loc Cert.KernelAdamW3Ideal.main_v0_0)) (v1 : (c : Dev Cert.KernelAdamW3Ideal.nD) → Buf (Elt Ideal) ((c.tc : Thread Cert.KernelAdamW3Ideal.nD Cert.KernelAdamW3Ideal.τ).loc Cert.KernelAdamW3Ideal.main_v0_1)) (v2 : (c : Dev Cert.KernelAdamW3Ideal.nD) → Buf (Elt Ideal) ((c.tc : Thread Cert.KernelAdamW3Ideal.nD Cert.KernelAdamW3Ideal.τ).loc Cert.KernelAdamW3Ideal.main_v0_2)) (v3 : (c : Dev Cert.KernelAdamW3Ideal.nD) → Buf (Elt Ideal) ((c.tc : Thread Cert.KernelAdamW3Ideal.nD Cert.KernelAdamW3Ideal.τ).loc Cert.KernelAdamW3Ideal.main_v0_3)) (v4 : (c : Dev Cert.KernelAdamW3Ideal.nD) → Buf (Elt Ideal) ((c.tc : Thread Cert.KernelAdamW3Ideal.nD Cert.KernelAdamW3Ideal.τ).loc Cert.KernelAdamW3Ideal.main_v0_4)) (v5 : (c : Dev Cert.KernelAdamW3Ideal.nD) → Buf (Elt Ideal) ((c.tc : Thread Cert.KernelAdamW3Ideal.nD Cert.KernelAdamW3Ideal.τ).loc Cert.KernelAdamW3Ideal.main_v0_5)),
      θ_run (Cert.KernelAdamW3Ideal.defs (F := Ideal)) (onTc (τ := Cert.KernelAdamW3Ideal.τ) (Cert.KernelAdamW3Ideal.main (F := Ideal))) ⟨m, fun _ => 0, g⟩ (fun r => ∀ c : Dev Cert.KernelAdamW3Ideal.nD,
          r.2.mem ((c.tc : Thread Cert.KernelAdamW3Ideal.nD Cert.KernelAdamW3Ideal.τ).loc Cert.KernelAdamW3Ideal.main_v0_0) = v0 c
          ∧ r.2.mem ((c.tc : Thread Cert.KernelAdamW3Ideal.nD Cert.KernelAdamW3Ideal.τ).loc Cert.KernelAdamW3Ideal.main_v0_1) = v1 c
          ∧ r.2.mem ((c.tc : Thread Cert.KernelAdamW3Ideal.nD Cert.KernelAdamW3Ideal.τ).loc Cert.KernelAdamW3Ideal.main_v0_2) = v2 c
          ∧ r.2.mem ((c.tc : Thread Cert.KernelAdamW3Ideal.nD Cert.KernelAdamW3Ideal.τ).loc Cert.KernelAdamW3Ideal.main_v0_3) = v3 c
          ∧ r.2.mem ((c.tc : Thread Cert.KernelAdamW3Ideal.nD Cert.KernelAdamW3Ideal.τ).loc Cert.KernelAdamW3Ideal.main_v0_4) = v4 c
          ∧ r.2.mem ((c.tc : Thread Cert.KernelAdamW3Ideal.nD Cert.KernelAdamW3Ideal.τ).loc Cert.KernelAdamW3Ideal.main_v0_5) = v5 c
          ∧ r.2.mem ((c.tc : Thread Cert.KernelAdamW3Ideal.nD Cert.KernelAdamW3Ideal.τ).loc Cert.KernelAdamW3Ideal.main_arg0) = m ((c.tc : Thread Cert.KernelAdamW3Ideal.nD Cert.KernelAdamW3Ideal.τ).loc Cert.KernelAdamW3Ideal.main_arg0)
          ∧ r.2.mem ((c.tc : Thread Cert.KernelAdamW3Ideal.nD Cert.KernelAdamW3Ideal.τ).loc Cert.KernelAdamW3Ideal.main_arg1) = m ((c.tc : Thread Cert.KernelAdamW3Ideal.nD Cert.KernelAdamW3Ideal.τ).loc Cert.KernelAdamW3Ideal.main_arg1)
          ∧ r.2.mem ((c.tc : Thread Cert.KernelAdamW3Ideal.nD Cert.KernelAdamW3Ideal.τ).loc Cert.KernelAdamW3Ideal.main_arg2) = m ((c.tc : Thread Cert.KernelAdamW3Ideal.nD Cert.KernelAdamW3Ideal.τ).loc Cert.KernelAdamW3Ideal.main_arg2)
          ∧ r.2.mem ((c.tc : Thread Cert.KernelAdamW3Ideal.nD Cert.KernelAdamW3Ideal.τ).loc Cert.KernelAdamW3Ideal.main_arg3) = m ((c.tc : Thread Cert.KernelAdamW3Ideal.nD Cert.KernelAdamW3Ideal.τ).loc Cert.KernelAdamW3Ideal.main_arg3)
          ∧ r.2.mem ((c.tc : Thread Cert.KernelAdamW3Ideal.nD Cert.KernelAdamW3Ideal.τ).loc Cert.KernelAdamW3Ideal.main_arg4) = m ((c.tc : Thread Cert.KernelAdamW3Ideal.nD Cert.KernelAdamW3Ideal.τ).loc Cert.KernelAdamW3Ideal.main_arg4)
          ∧ r.2.mem ((c.tc : Thread Cert.KernelAdamW3Ideal.nD Cert.KernelAdamW3Ideal.τ).loc Cert.KernelAdamW3Ideal.main_arg5) = m ((c.tc : Thread Cert.KernelAdamW3Ideal.nD Cert.KernelAdamW3Ideal.τ).loc Cert.KernelAdamW3Ideal.main_arg5)
          ∧ r.2.mem ((c.tc : Thread Cert.KernelAdamW3Ideal.nD Cert.KernelAdamW3Ideal.τ).loc Cert.KernelAdamW3Ideal.main_arg6) = m ((c.tc : Thread Cert.KernelAdamW3Ideal.nD Cert.KernelAdamW3Ideal.τ).loc Cert.KernelAdamW3Ideal.main_arg6)
          ∧ r.2.mem ((c.tc : Thread Cert.KernelAdamW3Ideal.nD Cert.KernelAdamW3Ideal.τ).loc Cert.KernelAdamW3Ideal.main_arg7) = m ((c.tc : Thread Cert.KernelAdamW3Ideal.nD Cert.KernelAdamW3Ideal.τ).loc Cert.KernelAdamW3Ideal.main_arg7))
      ∧ θ_run (Cert.ReferenceAdamW3Ideal.defs (F := Ideal)) (onTc (τ := Cert.ReferenceAdamW3Ideal.τ) (Cert.ReferenceAdamW3Ideal.main (F := Ideal))) ⟨m', fun _ => 0, g'⟩ (fun r => ∀ c : Dev Cert.ReferenceAdamW3Ideal.nD,
          r.2.mem ((c.tc : Thread Cert.ReferenceAdamW3Ideal.nD Cert.ReferenceAdamW3Ideal.τ).loc Cert.ReferenceAdamW3Ideal.main_v23) = v0 c
          ∧ r.2.mem ((c.tc : Thread Cert.ReferenceAdamW3Ideal.nD Cert.ReferenceAdamW3Ideal.τ).loc Cert.ReferenceAdamW3Ideal.main_v4) = v1 c
          ∧ r.2.mem ((c.tc : Thread Cert.ReferenceAdamW3Ideal.nD Cert.ReferenceAdamW3Ideal.τ).loc Cert.ReferenceAdamW3Ideal.main_v10) = v2 c
          ∧ r.2.mem ((c.tc : Thread Cert.ReferenceAdamW3Ideal.nD Cert.ReferenceAdamW3Ideal.τ).loc Cert.ReferenceAdamW3Ideal.main_v47) = v3 c
          ∧ r.2.mem ((c.tc : Thread Cert.ReferenceAdamW3Ideal.nD Cert.ReferenceAdamW3Ideal.τ).loc Cert.ReferenceAdamW3Ideal.main_v28) = v4 c
          ∧ r.2.mem ((c.tc : Thread Cert.ReferenceAdamW3Ideal.nD Cert.ReferenceAdamW3Ideal.τ).loc Cert.ReferenceAdamW3Ideal.main_v34) = v5 c
          ∧ r.2.mem ((c.tc : Thread Cert.ReferenceAdamW3Ideal.nD Cert.ReferenceAdamW3Ideal.τ).loc Cert.ReferenceAdamW3Ideal.main_arg0) = m' ((c.tc : Thread Cert.ReferenceAdamW3Ideal.nD Cert.ReferenceAdamW3Ideal.τ).loc Cert.ReferenceAdamW3Ideal.main_arg0)
          ∧ r.2.mem ((c.tc : Thread Cert.ReferenceAdamW3Ideal.nD Cert.ReferenceAdamW3Ideal.τ).loc Cert.ReferenceAdamW3Ideal.main_arg1) = m' ((c.tc : Thread Cert.ReferenceAdamW3Ideal.nD Cert.ReferenceAdamW3Ideal.τ).loc Cert.ReferenceAdamW3Ideal.main_arg1)
          ∧ r.2.mem ((c.tc : Thread Cert.ReferenceAdamW3Ideal.nD Cert.ReferenceAdamW3Ideal.τ).loc Cert.ReferenceAdamW3Ideal.main_arg2) = m' ((c.tc : Thread Cert.ReferenceAdamW3Ideal.nD Cert.ReferenceAdamW3Ideal.τ).loc Cert.ReferenceAdamW3Ideal.main_arg2)
          ∧ r.2.mem ((c.tc : Thread Cert.ReferenceAdamW3Ideal.nD Cert.ReferenceAdamW3Ideal.τ).loc Cert.ReferenceAdamW3Ideal.main_arg3) = m' ((c.tc : Thread Cert.ReferenceAdamW3Ideal.nD Cert.ReferenceAdamW3Ideal.τ).loc Cert.ReferenceAdamW3Ideal.main_arg3)
          ∧ r.2.mem ((c.tc : Thread Cert.ReferenceAdamW3Ideal.nD Cert.ReferenceAdamW3Ideal.τ).loc Cert.ReferenceAdamW3Ideal.main_arg4) = m' ((c.tc : Thread Cert.ReferenceAdamW3Ideal.nD Cert.ReferenceAdamW3Ideal.τ).loc Cert.ReferenceAdamW3Ideal.main_arg4)
          ∧ r.2.mem ((c.tc : Thread Cert.ReferenceAdamW3Ideal.nD Cert.ReferenceAdamW3Ideal.τ).loc Cert.ReferenceAdamW3Ideal.main_arg5) = m' ((c.tc : Thread Cert.ReferenceAdamW3Ideal.nD Cert.ReferenceAdamW3Ideal.τ).loc Cert.ReferenceAdamW3Ideal.main_arg5)
          ∧ r.2.mem ((c.tc : Thread Cert.ReferenceAdamW3Ideal.nD Cert.ReferenceAdamW3Ideal.τ).loc Cert.ReferenceAdamW3Ideal.main_arg6) = m' ((c.tc : Thread Cert.ReferenceAdamW3Ideal.nD Cert.ReferenceAdamW3Ideal.τ).loc Cert.ReferenceAdamW3Ideal.main_arg6)
          ∧ r.2.mem ((c.tc : Thread Cert.ReferenceAdamW3Ideal.nD Cert.ReferenceAdamW3Ideal.τ).loc Cert.ReferenceAdamW3Ideal.main_arg7) = m' ((c.tc : Thread Cert.ReferenceAdamW3Ideal.nD Cert.ReferenceAdamW3Ideal.τ).loc Cert.ReferenceAdamW3Ideal.main_arg7))

def preserves_KernelFinalLoss_KernelFinalLossIdeal : Prop :=
  True

def algebraic_KernelFinalLossIdeal_ReferenceFinalLossIdeal [hKernelFinalLossIdeal : Cert.KernelFinalLossIdeal.Facts] [hReferenceFinalLossIdeal : Cert.ReferenceFinalLossIdeal.Facts] : Prop :=
  ∀ (m : (ℓ : Loc Cert.KernelFinalLossIdeal.nD Cert.KernelFinalLossIdeal.τ Cert.KernelFinalLossIdeal.sig) → Buf (Elt Ideal) ℓ) (g : Dev Cert.KernelFinalLossIdeal.nD → PrngReg)
    (m' : (ℓ : Loc Cert.ReferenceFinalLossIdeal.nD Cert.ReferenceFinalLossIdeal.τ Cert.ReferenceFinalLossIdeal.sig) → Buf (Elt Ideal) ℓ) (g' : Dev Cert.ReferenceFinalLossIdeal.nD → PrngReg), Pre_KernelFinalLossIdeal m →
    (∀ c : Dev Cert.KernelFinalLossIdeal.nD,
      m' ((c.tc : Thread Cert.ReferenceFinalLossIdeal.nD Cert.ReferenceFinalLossIdeal.τ).loc Cert.ReferenceFinalLossIdeal.main_arg0) = m ((c.tc : Thread Cert.KernelFinalLossIdeal.nD Cert.KernelFinalLossIdeal.τ).loc Cert.KernelFinalLossIdeal.main_arg0)
      ∧ m' ((c.tc : Thread Cert.ReferenceFinalLossIdeal.nD Cert.ReferenceFinalLossIdeal.τ).loc Cert.ReferenceFinalLossIdeal.main_arg1) = m ((c.tc : Thread Cert.KernelFinalLossIdeal.nD Cert.KernelFinalLossIdeal.τ).loc Cert.KernelFinalLossIdeal.main_arg1)
      ∧ m' ((c.tc : Thread Cert.ReferenceFinalLossIdeal.nD Cert.ReferenceFinalLossIdeal.τ).loc Cert.ReferenceFinalLossIdeal.main_arg2) = m ((c.tc : Thread Cert.KernelFinalLossIdeal.nD Cert.KernelFinalLossIdeal.τ).loc Cert.KernelFinalLossIdeal.main_arg2)
      ∧ m' ((c.tc : Thread Cert.ReferenceFinalLossIdeal.nD Cert.ReferenceFinalLossIdeal.τ).loc Cert.ReferenceFinalLossIdeal.main_arg3) = m ((c.tc : Thread Cert.KernelFinalLossIdeal.nD Cert.KernelFinalLossIdeal.τ).loc Cert.KernelFinalLossIdeal.main_arg3)
      ∧ m' ((c.tc : Thread Cert.ReferenceFinalLossIdeal.nD Cert.ReferenceFinalLossIdeal.τ).loc Cert.ReferenceFinalLossIdeal.main_arg4) = m ((c.tc : Thread Cert.KernelFinalLossIdeal.nD Cert.KernelFinalLossIdeal.τ).loc Cert.KernelFinalLossIdeal.main_arg4)
      ∧ m' ((c.tc : Thread Cert.ReferenceFinalLossIdeal.nD Cert.ReferenceFinalLossIdeal.τ).loc Cert.ReferenceFinalLossIdeal.main_arg5) = m ((c.tc : Thread Cert.KernelFinalLossIdeal.nD Cert.KernelFinalLossIdeal.τ).loc Cert.KernelFinalLossIdeal.main_arg5)) →
    ∃ (v0 : (c : Dev Cert.KernelFinalLossIdeal.nD) → Buf (Elt Ideal) ((c.tc : Thread Cert.KernelFinalLossIdeal.nD Cert.KernelFinalLossIdeal.τ).loc Cert.KernelFinalLossIdeal.main_v0_0)) (v1 : (c : Dev Cert.KernelFinalLossIdeal.nD) → Buf (Elt Ideal) ((c.tc : Thread Cert.KernelFinalLossIdeal.nD Cert.KernelFinalLossIdeal.τ).loc Cert.KernelFinalLossIdeal.main_v0_1)) (v2 : (c : Dev Cert.KernelFinalLossIdeal.nD) → Buf (Elt Ideal) ((c.tc : Thread Cert.KernelFinalLossIdeal.nD Cert.KernelFinalLossIdeal.τ).loc Cert.KernelFinalLossIdeal.main_v0_2)) (v3 : (c : Dev Cert.KernelFinalLossIdeal.nD) → Buf (Elt Ideal) ((c.tc : Thread Cert.KernelFinalLossIdeal.nD Cert.KernelFinalLossIdeal.τ).loc Cert.KernelFinalLossIdeal.main_v0_3)) (v4 : (c : Dev Cert.KernelFinalLossIdeal.nD) → Buf (Elt Ideal) ((c.tc : Thread Cert.KernelFinalLossIdeal.nD Cert.KernelFinalLossIdeal.τ).loc Cert.KernelFinalLossIdeal.main_v0_4)),
      θ_run (Cert.KernelFinalLossIdeal.defs (F := Ideal)) (onTc (τ := Cert.KernelFinalLossIdeal.τ) (Cert.KernelFinalLossIdeal.main (F := Ideal))) ⟨m, fun _ => 0, g⟩ (fun r => ∀ c : Dev Cert.KernelFinalLossIdeal.nD,
          r.2.mem ((c.tc : Thread Cert.KernelFinalLossIdeal.nD Cert.KernelFinalLossIdeal.τ).loc Cert.KernelFinalLossIdeal.main_v0_0) = v0 c
          ∧ r.2.mem ((c.tc : Thread Cert.KernelFinalLossIdeal.nD Cert.KernelFinalLossIdeal.τ).loc Cert.KernelFinalLossIdeal.main_v0_1) = v1 c
          ∧ r.2.mem ((c.tc : Thread Cert.KernelFinalLossIdeal.nD Cert.KernelFinalLossIdeal.τ).loc Cert.KernelFinalLossIdeal.main_v0_2) = v2 c
          ∧ r.2.mem ((c.tc : Thread Cert.KernelFinalLossIdeal.nD Cert.KernelFinalLossIdeal.τ).loc Cert.KernelFinalLossIdeal.main_v0_3) = v3 c
          ∧ r.2.mem ((c.tc : Thread Cert.KernelFinalLossIdeal.nD Cert.KernelFinalLossIdeal.τ).loc Cert.KernelFinalLossIdeal.main_v0_4) = v4 c
          ∧ r.2.mem ((c.tc : Thread Cert.KernelFinalLossIdeal.nD Cert.KernelFinalLossIdeal.τ).loc Cert.KernelFinalLossIdeal.main_arg0) = m ((c.tc : Thread Cert.KernelFinalLossIdeal.nD Cert.KernelFinalLossIdeal.τ).loc Cert.KernelFinalLossIdeal.main_arg0)
          ∧ r.2.mem ((c.tc : Thread Cert.KernelFinalLossIdeal.nD Cert.KernelFinalLossIdeal.τ).loc Cert.KernelFinalLossIdeal.main_arg1) = m ((c.tc : Thread Cert.KernelFinalLossIdeal.nD Cert.KernelFinalLossIdeal.τ).loc Cert.KernelFinalLossIdeal.main_arg1)
          ∧ r.2.mem ((c.tc : Thread Cert.KernelFinalLossIdeal.nD Cert.KernelFinalLossIdeal.τ).loc Cert.KernelFinalLossIdeal.main_arg2) = m ((c.tc : Thread Cert.KernelFinalLossIdeal.nD Cert.KernelFinalLossIdeal.τ).loc Cert.KernelFinalLossIdeal.main_arg2)
          ∧ r.2.mem ((c.tc : Thread Cert.KernelFinalLossIdeal.nD Cert.KernelFinalLossIdeal.τ).loc Cert.KernelFinalLossIdeal.main_arg3) = m ((c.tc : Thread Cert.KernelFinalLossIdeal.nD Cert.KernelFinalLossIdeal.τ).loc Cert.KernelFinalLossIdeal.main_arg3)
          ∧ r.2.mem ((c.tc : Thread Cert.KernelFinalLossIdeal.nD Cert.KernelFinalLossIdeal.τ).loc Cert.KernelFinalLossIdeal.main_arg4) = m ((c.tc : Thread Cert.KernelFinalLossIdeal.nD Cert.KernelFinalLossIdeal.τ).loc Cert.KernelFinalLossIdeal.main_arg4)
          ∧ r.2.mem ((c.tc : Thread Cert.KernelFinalLossIdeal.nD Cert.KernelFinalLossIdeal.τ).loc Cert.KernelFinalLossIdeal.main_arg5) = m ((c.tc : Thread Cert.KernelFinalLossIdeal.nD Cert.KernelFinalLossIdeal.τ).loc Cert.KernelFinalLossIdeal.main_arg5))
      ∧ θ_run (Cert.ReferenceFinalLossIdeal.defs (F := Ideal)) (onTc (τ := Cert.ReferenceFinalLossIdeal.τ) (Cert.ReferenceFinalLossIdeal.main (F := Ideal))) ⟨m', fun _ => 0, g'⟩ (fun r => ∀ c : Dev Cert.ReferenceFinalLossIdeal.nD,
          r.2.mem ((c.tc : Thread Cert.ReferenceFinalLossIdeal.nD Cert.ReferenceFinalLossIdeal.τ).loc Cert.ReferenceFinalLossIdeal.main_v56) = v0 c
          ∧ r.2.mem ((c.tc : Thread Cert.ReferenceFinalLossIdeal.nD Cert.ReferenceFinalLossIdeal.τ).loc Cert.ReferenceFinalLossIdeal.main_v62) = v1 c
          ∧ r.2.mem ((c.tc : Thread Cert.ReferenceFinalLossIdeal.nD Cert.ReferenceFinalLossIdeal.τ).loc Cert.ReferenceFinalLossIdeal.main_v61) = v2 c
          ∧ r.2.mem ((c.tc : Thread Cert.ReferenceFinalLossIdeal.nD Cert.ReferenceFinalLossIdeal.τ).loc Cert.ReferenceFinalLossIdeal.main_v42) = v3 c
          ∧ r.2.mem ((c.tc : Thread Cert.ReferenceFinalLossIdeal.nD Cert.ReferenceFinalLossIdeal.τ).loc Cert.ReferenceFinalLossIdeal.main_v63) = v4 c
          ∧ r.2.mem ((c.tc : Thread Cert.ReferenceFinalLossIdeal.nD Cert.ReferenceFinalLossIdeal.τ).loc Cert.ReferenceFinalLossIdeal.main_arg0) = m' ((c.tc : Thread Cert.ReferenceFinalLossIdeal.nD Cert.ReferenceFinalLossIdeal.τ).loc Cert.ReferenceFinalLossIdeal.main_arg0)
          ∧ r.2.mem ((c.tc : Thread Cert.ReferenceFinalLossIdeal.nD Cert.ReferenceFinalLossIdeal.τ).loc Cert.ReferenceFinalLossIdeal.main_arg1) = m' ((c.tc : Thread Cert.ReferenceFinalLossIdeal.nD Cert.ReferenceFinalLossIdeal.τ).loc Cert.ReferenceFinalLossIdeal.main_arg1)
          ∧ r.2.mem ((c.tc : Thread Cert.ReferenceFinalLossIdeal.nD Cert.ReferenceFinalLossIdeal.τ).loc Cert.ReferenceFinalLossIdeal.main_arg2) = m' ((c.tc : Thread Cert.ReferenceFinalLossIdeal.nD Cert.ReferenceFinalLossIdeal.τ).loc Cert.ReferenceFinalLossIdeal.main_arg2)
          ∧ r.2.mem ((c.tc : Thread Cert.ReferenceFinalLossIdeal.nD Cert.ReferenceFinalLossIdeal.τ).loc Cert.ReferenceFinalLossIdeal.main_arg3) = m' ((c.tc : Thread Cert.ReferenceFinalLossIdeal.nD Cert.ReferenceFinalLossIdeal.τ).loc Cert.ReferenceFinalLossIdeal.main_arg3)
          ∧ r.2.mem ((c.tc : Thread Cert.ReferenceFinalLossIdeal.nD Cert.ReferenceFinalLossIdeal.τ).loc Cert.ReferenceFinalLossIdeal.main_arg4) = m' ((c.tc : Thread Cert.ReferenceFinalLossIdeal.nD Cert.ReferenceFinalLossIdeal.τ).loc Cert.ReferenceFinalLossIdeal.main_arg4)
          ∧ r.2.mem ((c.tc : Thread Cert.ReferenceFinalLossIdeal.nD Cert.ReferenceFinalLossIdeal.τ).loc Cert.ReferenceFinalLossIdeal.main_arg5) = m' ((c.tc : Thread Cert.ReferenceFinalLossIdeal.nD Cert.ReferenceFinalLossIdeal.τ).loc Cert.ReferenceFinalLossIdeal.main_arg5))

def preserves_KernelAdaln1_KernelAdaln1Ideal : Prop :=
  True

def algebraic_KernelAdaln1Ideal_ReferenceAdaln1Ideal [hKernelAdaln1Ideal : Cert.KernelAdaln1Ideal.Facts] [hReferenceAdaln1Ideal : Cert.ReferenceAdaln1Ideal.Facts] : Prop :=
  ∀ (m : (ℓ : Loc Cert.KernelAdaln1Ideal.nD Cert.KernelAdaln1Ideal.τ Cert.KernelAdaln1Ideal.sig) → Buf (Elt Ideal) ℓ) (g : Dev Cert.KernelAdaln1Ideal.nD → PrngReg)
    (m' : (ℓ : Loc Cert.ReferenceAdaln1Ideal.nD Cert.ReferenceAdaln1Ideal.τ Cert.ReferenceAdaln1Ideal.sig) → Buf (Elt Ideal) ℓ) (g' : Dev Cert.ReferenceAdaln1Ideal.nD → PrngReg), Pre_KernelAdaln1Ideal m →
    (∀ c : Dev Cert.KernelAdaln1Ideal.nD,
      m' ((c.tc : Thread Cert.ReferenceAdaln1Ideal.nD Cert.ReferenceAdaln1Ideal.τ).loc Cert.ReferenceAdaln1Ideal.main_arg0) = m ((c.tc : Thread Cert.KernelAdaln1Ideal.nD Cert.KernelAdaln1Ideal.τ).loc Cert.KernelAdaln1Ideal.main_arg0)
      ∧ m' ((c.tc : Thread Cert.ReferenceAdaln1Ideal.nD Cert.ReferenceAdaln1Ideal.τ).loc Cert.ReferenceAdaln1Ideal.main_arg1) = m ((c.tc : Thread Cert.KernelAdaln1Ideal.nD Cert.KernelAdaln1Ideal.τ).loc Cert.KernelAdaln1Ideal.main_arg1)
      ∧ m' ((c.tc : Thread Cert.ReferenceAdaln1Ideal.nD Cert.ReferenceAdaln1Ideal.τ).loc Cert.ReferenceAdaln1Ideal.main_arg2) = m ((c.tc : Thread Cert.KernelAdaln1Ideal.nD Cert.KernelAdaln1Ideal.τ).loc Cert.KernelAdaln1Ideal.main_arg2)
      ∧ m' ((c.tc : Thread Cert.ReferenceAdaln1Ideal.nD Cert.ReferenceAdaln1Ideal.τ).loc Cert.ReferenceAdaln1Ideal.main_arg3) = m ((c.tc : Thread Cert.KernelAdaln1Ideal.nD Cert.KernelAdaln1Ideal.τ).loc Cert.KernelAdaln1Ideal.main_arg3)
      ∧ m' ((c.tc : Thread Cert.ReferenceAdaln1Ideal.nD Cert.ReferenceAdaln1Ideal.τ).loc Cert.ReferenceAdaln1Ideal.main_arg4) = m ((c.tc : Thread Cert.KernelAdaln1Ideal.nD Cert.KernelAdaln1Ideal.τ).loc Cert.KernelAdaln1Ideal.main_arg4)) →
    ∃ (v0 : (c : Dev Cert.KernelAdaln1Ideal.nD) → Buf (Elt Ideal) ((c.tc : Thread Cert.KernelAdaln1Ideal.nD Cert.KernelAdaln1Ideal.τ).loc Cert.KernelAdaln1Ideal.main_v0_0)) (v1 : (c : Dev Cert.KernelAdaln1Ideal.nD) → Buf (Elt Ideal) ((c.tc : Thread Cert.KernelAdaln1Ideal.nD Cert.KernelAdaln1Ideal.τ).loc Cert.KernelAdaln1Ideal.main_v0_1)) (v2 : (c : Dev Cert.KernelAdaln1Ideal.nD) → Buf (Elt Ideal) ((c.tc : Thread Cert.KernelAdaln1Ideal.nD Cert.KernelAdaln1Ideal.τ).loc Cert.KernelAdaln1Ideal.main_v0_2)) (v3 : (c : Dev Cert.KernelAdaln1Ideal.nD) → Buf (Elt Ideal) ((c.tc : Thread Cert.KernelAdaln1Ideal.nD Cert.KernelAdaln1Ideal.τ).loc Cert.KernelAdaln1Ideal.main_v0_3)),
      θ_run (Cert.KernelAdaln1Ideal.defs (F := Ideal)) (onTc (τ := Cert.KernelAdaln1Ideal.τ) (Cert.KernelAdaln1Ideal.main (F := Ideal))) ⟨m, fun _ => 0, g⟩ (fun r => ∀ c : Dev Cert.KernelAdaln1Ideal.nD,
          r.2.mem ((c.tc : Thread Cert.KernelAdaln1Ideal.nD Cert.KernelAdaln1Ideal.τ).loc Cert.KernelAdaln1Ideal.main_v0_0) = v0 c
          ∧ r.2.mem ((c.tc : Thread Cert.KernelAdaln1Ideal.nD Cert.KernelAdaln1Ideal.τ).loc Cert.KernelAdaln1Ideal.main_v0_1) = v1 c
          ∧ r.2.mem ((c.tc : Thread Cert.KernelAdaln1Ideal.nD Cert.KernelAdaln1Ideal.τ).loc Cert.KernelAdaln1Ideal.main_v0_2) = v2 c
          ∧ r.2.mem ((c.tc : Thread Cert.KernelAdaln1Ideal.nD Cert.KernelAdaln1Ideal.τ).loc Cert.KernelAdaln1Ideal.main_v0_3) = v3 c
          ∧ r.2.mem ((c.tc : Thread Cert.KernelAdaln1Ideal.nD Cert.KernelAdaln1Ideal.τ).loc Cert.KernelAdaln1Ideal.main_arg0) = m ((c.tc : Thread Cert.KernelAdaln1Ideal.nD Cert.KernelAdaln1Ideal.τ).loc Cert.KernelAdaln1Ideal.main_arg0)
          ∧ r.2.mem ((c.tc : Thread Cert.KernelAdaln1Ideal.nD Cert.KernelAdaln1Ideal.τ).loc Cert.KernelAdaln1Ideal.main_arg1) = m ((c.tc : Thread Cert.KernelAdaln1Ideal.nD Cert.KernelAdaln1Ideal.τ).loc Cert.KernelAdaln1Ideal.main_arg1)
          ∧ r.2.mem ((c.tc : Thread Cert.KernelAdaln1Ideal.nD Cert.KernelAdaln1Ideal.τ).loc Cert.KernelAdaln1Ideal.main_arg2) = m ((c.tc : Thread Cert.KernelAdaln1Ideal.nD Cert.KernelAdaln1Ideal.τ).loc Cert.KernelAdaln1Ideal.main_arg2)
          ∧ r.2.mem ((c.tc : Thread Cert.KernelAdaln1Ideal.nD Cert.KernelAdaln1Ideal.τ).loc Cert.KernelAdaln1Ideal.main_arg3) = m ((c.tc : Thread Cert.KernelAdaln1Ideal.nD Cert.KernelAdaln1Ideal.τ).loc Cert.KernelAdaln1Ideal.main_arg3)
          ∧ r.2.mem ((c.tc : Thread Cert.KernelAdaln1Ideal.nD Cert.KernelAdaln1Ideal.τ).loc Cert.KernelAdaln1Ideal.main_arg4) = m ((c.tc : Thread Cert.KernelAdaln1Ideal.nD Cert.KernelAdaln1Ideal.τ).loc Cert.KernelAdaln1Ideal.main_arg4))
      ∧ θ_run (Cert.ReferenceAdaln1Ideal.defs (F := Ideal)) (onTc (τ := Cert.ReferenceAdaln1Ideal.τ) (Cert.ReferenceAdaln1Ideal.main (F := Ideal))) ⟨m', fun _ => 0, g'⟩ (fun r => ∀ c : Dev Cert.ReferenceAdaln1Ideal.nD,
          r.2.mem ((c.tc : Thread Cert.ReferenceAdaln1Ideal.nD Cert.ReferenceAdaln1Ideal.τ).loc Cert.ReferenceAdaln1Ideal.main_v52) = v0 c
          ∧ r.2.mem ((c.tc : Thread Cert.ReferenceAdaln1Ideal.nD Cert.ReferenceAdaln1Ideal.τ).loc Cert.ReferenceAdaln1Ideal.main_v25) = v1 c
          ∧ r.2.mem ((c.tc : Thread Cert.ReferenceAdaln1Ideal.nD Cert.ReferenceAdaln1Ideal.τ).loc Cert.ReferenceAdaln1Ideal.main_v28) = v2 c
          ∧ r.2.mem ((c.tc : Thread Cert.ReferenceAdaln1Ideal.nD Cert.ReferenceAdaln1Ideal.τ).loc Cert.ReferenceAdaln1Ideal.main_v37) = v3 c
          ∧ r.2.mem ((c.tc : Thread Cert.ReferenceAdaln1Ideal.nD Cert.ReferenceAdaln1Ideal.τ).loc Cert.ReferenceAdaln1Ideal.main_arg0) = m' ((c.tc : Thread Cert.ReferenceAdaln1Ideal.nD Cert.ReferenceAdaln1Ideal.τ).loc Cert.ReferenceAdaln1Ideal.main_arg0)
          ∧ r.2.mem ((c.tc : Thread Cert.ReferenceAdaln1Ideal.nD Cert.ReferenceAdaln1Ideal.τ).loc Cert.ReferenceAdaln1Ideal.main_arg1) = m' ((c.tc : Thread Cert.ReferenceAdaln1Ideal.nD Cert.ReferenceAdaln1Ideal.τ).loc Cert.ReferenceAdaln1Ideal.main_arg1)
          ∧ r.2.mem ((c.tc : Thread Cert.ReferenceAdaln1Ideal.nD Cert.ReferenceAdaln1Ideal.τ).loc Cert.ReferenceAdaln1Ideal.main_arg2) = m' ((c.tc : Thread Cert.ReferenceAdaln1Ideal.nD Cert.ReferenceAdaln1Ideal.τ).loc Cert.ReferenceAdaln1Ideal.main_arg2)
          ∧ r.2.mem ((c.tc : Thread Cert.ReferenceAdaln1Ideal.nD Cert.ReferenceAdaln1Ideal.τ).loc Cert.ReferenceAdaln1Ideal.main_arg3) = m' ((c.tc : Thread Cert.ReferenceAdaln1Ideal.nD Cert.ReferenceAdaln1Ideal.τ).loc Cert.ReferenceAdaln1Ideal.main_arg3)
          ∧ r.2.mem ((c.tc : Thread Cert.ReferenceAdaln1Ideal.nD Cert.ReferenceAdaln1Ideal.τ).loc Cert.ReferenceAdaln1Ideal.main_arg4) = m' ((c.tc : Thread Cert.ReferenceAdaln1Ideal.nD Cert.ReferenceAdaln1Ideal.τ).loc Cert.ReferenceAdaln1Ideal.main_arg4))

def preserves_KernelAdaln2_KernelAdaln2Ideal : Prop :=
  True

def algebraic_KernelAdaln2Ideal_ReferenceAdaln2Ideal [hKernelAdaln2Ideal : Cert.KernelAdaln2Ideal.Facts] [hReferenceAdaln2Ideal : Cert.ReferenceAdaln2Ideal.Facts] : Prop :=
  ∀ (m : (ℓ : Loc Cert.KernelAdaln2Ideal.nD Cert.KernelAdaln2Ideal.τ Cert.KernelAdaln2Ideal.sig) → Buf (Elt Ideal) ℓ) (g : Dev Cert.KernelAdaln2Ideal.nD → PrngReg)
    (m' : (ℓ : Loc Cert.ReferenceAdaln2Ideal.nD Cert.ReferenceAdaln2Ideal.τ Cert.ReferenceAdaln2Ideal.sig) → Buf (Elt Ideal) ℓ) (g' : Dev Cert.ReferenceAdaln2Ideal.nD → PrngReg), Pre_KernelAdaln2Ideal m →
    (∀ c : Dev Cert.KernelAdaln2Ideal.nD,
      m' ((c.tc : Thread Cert.ReferenceAdaln2Ideal.nD Cert.ReferenceAdaln2Ideal.τ).loc Cert.ReferenceAdaln2Ideal.main_arg0) = m ((c.tc : Thread Cert.KernelAdaln2Ideal.nD Cert.KernelAdaln2Ideal.τ).loc Cert.KernelAdaln2Ideal.main_arg0)
      ∧ m' ((c.tc : Thread Cert.ReferenceAdaln2Ideal.nD Cert.ReferenceAdaln2Ideal.τ).loc Cert.ReferenceAdaln2Ideal.main_arg1) = m ((c.tc : Thread Cert.KernelAdaln2Ideal.nD Cert.KernelAdaln2Ideal.τ).loc Cert.KernelAdaln2Ideal.main_arg1)
      ∧ m' ((c.tc : Thread Cert.ReferenceAdaln2Ideal.nD Cert.ReferenceAdaln2Ideal.τ).loc Cert.ReferenceAdaln2Ideal.main_arg2) = m ((c.tc : Thread Cert.KernelAdaln2Ideal.nD Cert.KernelAdaln2Ideal.τ).loc Cert.KernelAdaln2Ideal.main_arg2)
      ∧ m' ((c.tc : Thread Cert.ReferenceAdaln2Ideal.nD Cert.ReferenceAdaln2Ideal.τ).loc Cert.ReferenceAdaln2Ideal.main_arg3) = m ((c.tc : Thread Cert.KernelAdaln2Ideal.nD Cert.KernelAdaln2Ideal.τ).loc Cert.KernelAdaln2Ideal.main_arg3)
      ∧ m' ((c.tc : Thread Cert.ReferenceAdaln2Ideal.nD Cert.ReferenceAdaln2Ideal.τ).loc Cert.ReferenceAdaln2Ideal.main_arg4) = m ((c.tc : Thread Cert.KernelAdaln2Ideal.nD Cert.KernelAdaln2Ideal.τ).loc Cert.KernelAdaln2Ideal.main_arg4)
      ∧ m' ((c.tc : Thread Cert.ReferenceAdaln2Ideal.nD Cert.ReferenceAdaln2Ideal.τ).loc Cert.ReferenceAdaln2Ideal.main_arg5) = m ((c.tc : Thread Cert.KernelAdaln2Ideal.nD Cert.KernelAdaln2Ideal.τ).loc Cert.KernelAdaln2Ideal.main_arg5)
      ∧ m' ((c.tc : Thread Cert.ReferenceAdaln2Ideal.nD Cert.ReferenceAdaln2Ideal.τ).loc Cert.ReferenceAdaln2Ideal.main_arg6) = m ((c.tc : Thread Cert.KernelAdaln2Ideal.nD Cert.KernelAdaln2Ideal.τ).loc Cert.KernelAdaln2Ideal.main_arg6)) →
    ∃ (v0 : (c : Dev Cert.KernelAdaln2Ideal.nD) → Buf (Elt Ideal) ((c.tc : Thread Cert.KernelAdaln2Ideal.nD Cert.KernelAdaln2Ideal.τ).loc Cert.KernelAdaln2Ideal.main_v0_0)) (v1 : (c : Dev Cert.KernelAdaln2Ideal.nD) → Buf (Elt Ideal) ((c.tc : Thread Cert.KernelAdaln2Ideal.nD Cert.KernelAdaln2Ideal.τ).loc Cert.KernelAdaln2Ideal.main_v0_1)) (v2 : (c : Dev Cert.KernelAdaln2Ideal.nD) → Buf (Elt Ideal) ((c.tc : Thread Cert.KernelAdaln2Ideal.nD Cert.KernelAdaln2Ideal.τ).loc Cert.KernelAdaln2Ideal.main_v0_2)) (v3 : (c : Dev Cert.KernelAdaln2Ideal.nD) → Buf (Elt Ideal) ((c.tc : Thread Cert.KernelAdaln2Ideal.nD Cert.KernelAdaln2Ideal.τ).loc Cert.KernelAdaln2Ideal.main_v0_3)) (v4 : (c : Dev Cert.KernelAdaln2Ideal.nD) → Buf (Elt Ideal) ((c.tc : Thread Cert.KernelAdaln2Ideal.nD Cert.KernelAdaln2Ideal.τ).loc Cert.KernelAdaln2Ideal.main_v0_4)) (v5 : (c : Dev Cert.KernelAdaln2Ideal.nD) → Buf (Elt Ideal) ((c.tc : Thread Cert.KernelAdaln2Ideal.nD Cert.KernelAdaln2Ideal.τ).loc Cert.KernelAdaln2Ideal.main_v0_5)),
      θ_run (Cert.KernelAdaln2Ideal.defs (F := Ideal)) (onTc (τ := Cert.KernelAdaln2Ideal.τ) (Cert.KernelAdaln2Ideal.main (F := Ideal))) ⟨m, fun _ => 0, g⟩ (fun r => ∀ c : Dev Cert.KernelAdaln2Ideal.nD,
          r.2.mem ((c.tc : Thread Cert.KernelAdaln2Ideal.nD Cert.KernelAdaln2Ideal.τ).loc Cert.KernelAdaln2Ideal.main_v0_0) = v0 c
          ∧ r.2.mem ((c.tc : Thread Cert.KernelAdaln2Ideal.nD Cert.KernelAdaln2Ideal.τ).loc Cert.KernelAdaln2Ideal.main_v0_1) = v1 c
          ∧ r.2.mem ((c.tc : Thread Cert.KernelAdaln2Ideal.nD Cert.KernelAdaln2Ideal.τ).loc Cert.KernelAdaln2Ideal.main_v0_2) = v2 c
          ∧ r.2.mem ((c.tc : Thread Cert.KernelAdaln2Ideal.nD Cert.KernelAdaln2Ideal.τ).loc Cert.KernelAdaln2Ideal.main_v0_3) = v3 c
          ∧ r.2.mem ((c.tc : Thread Cert.KernelAdaln2Ideal.nD Cert.KernelAdaln2Ideal.τ).loc Cert.KernelAdaln2Ideal.main_v0_4) = v4 c
          ∧ r.2.mem ((c.tc : Thread Cert.KernelAdaln2Ideal.nD Cert.KernelAdaln2Ideal.τ).loc Cert.KernelAdaln2Ideal.main_v0_5) = v5 c
          ∧ r.2.mem ((c.tc : Thread Cert.KernelAdaln2Ideal.nD Cert.KernelAdaln2Ideal.τ).loc Cert.KernelAdaln2Ideal.main_arg0) = m ((c.tc : Thread Cert.KernelAdaln2Ideal.nD Cert.KernelAdaln2Ideal.τ).loc Cert.KernelAdaln2Ideal.main_arg0)
          ∧ r.2.mem ((c.tc : Thread Cert.KernelAdaln2Ideal.nD Cert.KernelAdaln2Ideal.τ).loc Cert.KernelAdaln2Ideal.main_arg1) = m ((c.tc : Thread Cert.KernelAdaln2Ideal.nD Cert.KernelAdaln2Ideal.τ).loc Cert.KernelAdaln2Ideal.main_arg1)
          ∧ r.2.mem ((c.tc : Thread Cert.KernelAdaln2Ideal.nD Cert.KernelAdaln2Ideal.τ).loc Cert.KernelAdaln2Ideal.main_arg2) = m ((c.tc : Thread Cert.KernelAdaln2Ideal.nD Cert.KernelAdaln2Ideal.τ).loc Cert.KernelAdaln2Ideal.main_arg2)
          ∧ r.2.mem ((c.tc : Thread Cert.KernelAdaln2Ideal.nD Cert.KernelAdaln2Ideal.τ).loc Cert.KernelAdaln2Ideal.main_arg3) = m ((c.tc : Thread Cert.KernelAdaln2Ideal.nD Cert.KernelAdaln2Ideal.τ).loc Cert.KernelAdaln2Ideal.main_arg3)
          ∧ r.2.mem ((c.tc : Thread Cert.KernelAdaln2Ideal.nD Cert.KernelAdaln2Ideal.τ).loc Cert.KernelAdaln2Ideal.main_arg4) = m ((c.tc : Thread Cert.KernelAdaln2Ideal.nD Cert.KernelAdaln2Ideal.τ).loc Cert.KernelAdaln2Ideal.main_arg4)
          ∧ r.2.mem ((c.tc : Thread Cert.KernelAdaln2Ideal.nD Cert.KernelAdaln2Ideal.τ).loc Cert.KernelAdaln2Ideal.main_arg5) = m ((c.tc : Thread Cert.KernelAdaln2Ideal.nD Cert.KernelAdaln2Ideal.τ).loc Cert.KernelAdaln2Ideal.main_arg5)
          ∧ r.2.mem ((c.tc : Thread Cert.KernelAdaln2Ideal.nD Cert.KernelAdaln2Ideal.τ).loc Cert.KernelAdaln2Ideal.main_arg6) = m ((c.tc : Thread Cert.KernelAdaln2Ideal.nD Cert.KernelAdaln2Ideal.τ).loc Cert.KernelAdaln2Ideal.main_arg6))
      ∧ θ_run (Cert.ReferenceAdaln2Ideal.defs (F := Ideal)) (onTc (τ := Cert.ReferenceAdaln2Ideal.τ) (Cert.ReferenceAdaln2Ideal.main (F := Ideal))) ⟨m', fun _ => 0, g'⟩ (fun r => ∀ c : Dev Cert.ReferenceAdaln2Ideal.nD,
          r.2.mem ((c.tc : Thread Cert.ReferenceAdaln2Ideal.nD Cert.ReferenceAdaln2Ideal.τ).loc Cert.ReferenceAdaln2Ideal.main_v52) = v0 c
          ∧ r.2.mem ((c.tc : Thread Cert.ReferenceAdaln2Ideal.nD Cert.ReferenceAdaln2Ideal.τ).loc Cert.ReferenceAdaln2Ideal.main_v25) = v1 c
          ∧ r.2.mem ((c.tc : Thread Cert.ReferenceAdaln2Ideal.nD Cert.ReferenceAdaln2Ideal.τ).loc Cert.ReferenceAdaln2Ideal.main_v28) = v2 c
          ∧ r.2.mem ((c.tc : Thread Cert.ReferenceAdaln2Ideal.nD Cert.ReferenceAdaln2Ideal.τ).loc Cert.ReferenceAdaln2Ideal.main_v37) = v3 c
          ∧ r.2.mem ((c.tc : Thread Cert.ReferenceAdaln2Ideal.nD Cert.ReferenceAdaln2Ideal.τ).loc Cert.ReferenceAdaln2Ideal.main_v59) = v4 c
          ∧ r.2.mem ((c.tc : Thread Cert.ReferenceAdaln2Ideal.nD Cert.ReferenceAdaln2Ideal.τ).loc Cert.ReferenceAdaln2Ideal.main_v60) = v5 c
          ∧ r.2.mem ((c.tc : Thread Cert.ReferenceAdaln2Ideal.nD Cert.ReferenceAdaln2Ideal.τ).loc Cert.ReferenceAdaln2Ideal.main_arg0) = m' ((c.tc : Thread Cert.ReferenceAdaln2Ideal.nD Cert.ReferenceAdaln2Ideal.τ).loc Cert.ReferenceAdaln2Ideal.main_arg0)
          ∧ r.2.mem ((c.tc : Thread Cert.ReferenceAdaln2Ideal.nD Cert.ReferenceAdaln2Ideal.τ).loc Cert.ReferenceAdaln2Ideal.main_arg1) = m' ((c.tc : Thread Cert.ReferenceAdaln2Ideal.nD Cert.ReferenceAdaln2Ideal.τ).loc Cert.ReferenceAdaln2Ideal.main_arg1)
          ∧ r.2.mem ((c.tc : Thread Cert.ReferenceAdaln2Ideal.nD Cert.ReferenceAdaln2Ideal.τ).loc Cert.ReferenceAdaln2Ideal.main_arg2) = m' ((c.tc : Thread Cert.ReferenceAdaln2Ideal.nD Cert.ReferenceAdaln2Ideal.τ).loc Cert.ReferenceAdaln2Ideal.main_arg2)
          ∧ r.2.mem ((c.tc : Thread Cert.ReferenceAdaln2Ideal.nD Cert.ReferenceAdaln2Ideal.τ).loc Cert.ReferenceAdaln2Ideal.main_arg3) = m' ((c.tc : Thread Cert.ReferenceAdaln2Ideal.nD Cert.ReferenceAdaln2Ideal.τ).loc Cert.ReferenceAdaln2Ideal.main_arg3)
          ∧ r.2.mem ((c.tc : Thread Cert.ReferenceAdaln2Ideal.nD Cert.ReferenceAdaln2Ideal.τ).loc Cert.ReferenceAdaln2Ideal.main_arg4) = m' ((c.tc : Thread Cert.ReferenceAdaln2Ideal.nD Cert.ReferenceAdaln2Ideal.τ).loc Cert.ReferenceAdaln2Ideal.main_arg4)
          ∧ r.2.mem ((c.tc : Thread Cert.ReferenceAdaln2Ideal.nD Cert.ReferenceAdaln2Ideal.τ).loc Cert.ReferenceAdaln2Ideal.main_arg5) = m' ((c.tc : Thread Cert.ReferenceAdaln2Ideal.nD Cert.ReferenceAdaln2Ideal.τ).loc Cert.ReferenceAdaln2Ideal.main_arg5)
          ∧ r.2.mem ((c.tc : Thread Cert.ReferenceAdaln2Ideal.nD Cert.ReferenceAdaln2Ideal.τ).loc Cert.ReferenceAdaln2Ideal.main_arg6) = m' ((c.tc : Thread Cert.ReferenceAdaln2Ideal.nD Cert.ReferenceAdaln2Ideal.τ).loc Cert.ReferenceAdaln2Ideal.main_arg6))

def preserves_KernelInProj_KernelInProjIdeal : Prop :=
  True

def algebraic_KernelInProjIdeal_ReferenceInProjIdeal [hKernelInProjIdeal : Cert.KernelInProjIdeal.Facts] [hReferenceInProjIdeal : Cert.ReferenceInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg)
    (m' : (ℓ : Loc Cert.ReferenceInProjIdeal.nD Cert.ReferenceInProjIdeal.τ Cert.ReferenceInProjIdeal.sig) → Buf (Elt Ideal) ℓ) (g' : Dev Cert.ReferenceInProjIdeal.nD → PrngReg), Pre_KernelInProjIdeal m →
    (∀ c : Dev Cert.KernelInProjIdeal.nD,
      m' ((c.tc : Thread Cert.ReferenceInProjIdeal.nD Cert.ReferenceInProjIdeal.τ).loc Cert.ReferenceInProjIdeal.main_arg0) = m ((c.tc : Thread Cert.KernelInProjIdeal.nD Cert.KernelInProjIdeal.τ).loc Cert.KernelInProjIdeal.main_arg0)
      ∧ m' ((c.tc : Thread Cert.ReferenceInProjIdeal.nD Cert.ReferenceInProjIdeal.τ).loc Cert.ReferenceInProjIdeal.main_arg1) = m ((c.tc : Thread Cert.KernelInProjIdeal.nD Cert.KernelInProjIdeal.τ).loc Cert.KernelInProjIdeal.main_arg1)
      ∧ m' ((c.tc : Thread Cert.ReferenceInProjIdeal.nD Cert.ReferenceInProjIdeal.τ).loc Cert.ReferenceInProjIdeal.main_arg2) = m ((c.tc : Thread Cert.KernelInProjIdeal.nD Cert.KernelInProjIdeal.τ).loc Cert.KernelInProjIdeal.main_arg2)
      ∧ m' ((c.tc : Thread Cert.ReferenceInProjIdeal.nD Cert.ReferenceInProjIdeal.τ).loc Cert.ReferenceInProjIdeal.main_arg3) = m ((c.tc : Thread Cert.KernelInProjIdeal.nD Cert.KernelInProjIdeal.τ).loc Cert.KernelInProjIdeal.main_arg3)
      ∧ m' ((c.tc : Thread Cert.ReferenceInProjIdeal.nD Cert.ReferenceInProjIdeal.τ).loc Cert.ReferenceInProjIdeal.main_arg4) = m ((c.tc : Thread Cert.KernelInProjIdeal.nD Cert.KernelInProjIdeal.τ).loc Cert.KernelInProjIdeal.main_arg4)
      ∧ m' ((c.tc : Thread Cert.ReferenceInProjIdeal.nD Cert.ReferenceInProjIdeal.τ).loc Cert.ReferenceInProjIdeal.main_arg5) = m ((c.tc : Thread Cert.KernelInProjIdeal.nD Cert.KernelInProjIdeal.τ).loc Cert.KernelInProjIdeal.main_arg5)
      ∧ m' ((c.tc : Thread Cert.ReferenceInProjIdeal.nD Cert.ReferenceInProjIdeal.τ).loc Cert.ReferenceInProjIdeal.main_arg6) = m ((c.tc : Thread Cert.KernelInProjIdeal.nD Cert.KernelInProjIdeal.τ).loc Cert.KernelInProjIdeal.main_arg6)
      ∧ m' ((c.tc : Thread Cert.ReferenceInProjIdeal.nD Cert.ReferenceInProjIdeal.τ).loc Cert.ReferenceInProjIdeal.main_arg7) = m ((c.tc : Thread Cert.KernelInProjIdeal.nD Cert.KernelInProjIdeal.τ).loc Cert.KernelInProjIdeal.main_arg7)) →
    ∃ (v0 : (c : Dev Cert.KernelInProjIdeal.nD) → Buf (Elt Ideal) ((c.tc : Thread Cert.KernelInProjIdeal.nD Cert.KernelInProjIdeal.τ).loc Cert.KernelInProjIdeal.main_v0_0)) (v1 : (c : Dev Cert.KernelInProjIdeal.nD) → Buf (Elt Ideal) ((c.tc : Thread Cert.KernelInProjIdeal.nD Cert.KernelInProjIdeal.τ).loc Cert.KernelInProjIdeal.main_v0_1)) (v2 : (c : Dev Cert.KernelInProjIdeal.nD) → Buf (Elt Ideal) ((c.tc : Thread Cert.KernelInProjIdeal.nD Cert.KernelInProjIdeal.τ).loc Cert.KernelInProjIdeal.main_v0_2)) (v3 : (c : Dev Cert.KernelInProjIdeal.nD) → Buf (Elt Ideal) ((c.tc : Thread Cert.KernelInProjIdeal.nD Cert.KernelInProjIdeal.τ).loc Cert.KernelInProjIdeal.main_v0_3)) (v4 : (c : Dev Cert.KernelInProjIdeal.nD) → Buf (Elt Ideal) ((c.tc : Thread Cert.KernelInProjIdeal.nD Cert.KernelInProjIdeal.τ).loc Cert.KernelInProjIdeal.main_v0_4)) (v5 : (c : Dev Cert.KernelInProjIdeal.nD) → Buf (Elt Ideal) ((c.tc : Thread Cert.KernelInProjIdeal.nD Cert.KernelInProjIdeal.τ).loc Cert.KernelInProjIdeal.main_v0_5)) (v6 : (c : Dev Cert.KernelInProjIdeal.nD) → Buf (Elt Ideal) ((c.tc : Thread Cert.KernelInProjIdeal.nD Cert.KernelInProjIdeal.τ).loc Cert.KernelInProjIdeal.main_v0_6)),
      θ_run (Cert.KernelInProjIdeal.defs (F := Ideal)) (onTc (τ := Cert.KernelInProjIdeal.τ) (Cert.KernelInProjIdeal.main (F := Ideal))) ⟨m, fun _ => 0, g⟩ (fun r => ∀ c : Dev Cert.KernelInProjIdeal.nD,
          r.2.mem ((c.tc : Thread Cert.KernelInProjIdeal.nD Cert.KernelInProjIdeal.τ).loc Cert.KernelInProjIdeal.main_v0_0) = v0 c
          ∧ r.2.mem ((c.tc : Thread Cert.KernelInProjIdeal.nD Cert.KernelInProjIdeal.τ).loc Cert.KernelInProjIdeal.main_v0_1) = v1 c
          ∧ r.2.mem ((c.tc : Thread Cert.KernelInProjIdeal.nD Cert.KernelInProjIdeal.τ).loc Cert.KernelInProjIdeal.main_v0_2) = v2 c
          ∧ r.2.mem ((c.tc : Thread Cert.KernelInProjIdeal.nD Cert.KernelInProjIdeal.τ).loc Cert.KernelInProjIdeal.main_v0_3) = v3 c
          ∧ r.2.mem ((c.tc : Thread Cert.KernelInProjIdeal.nD Cert.KernelInProjIdeal.τ).loc Cert.KernelInProjIdeal.main_v0_4) = v4 c
          ∧ r.2.mem ((c.tc : Thread Cert.KernelInProjIdeal.nD Cert.KernelInProjIdeal.τ).loc Cert.KernelInProjIdeal.main_v0_5) = v5 c
          ∧ r.2.mem ((c.tc : Thread Cert.KernelInProjIdeal.nD Cert.KernelInProjIdeal.τ).loc Cert.KernelInProjIdeal.main_v0_6) = v6 c
          ∧ r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
          ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
          ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2)
          ∧ r.2.mem ((c.tc : Thread Cert.KernelInProjIdeal.nD Cert.KernelInProjIdeal.τ).loc Cert.KernelInProjIdeal.main_arg3) = m ((c.tc : Thread Cert.KernelInProjIdeal.nD Cert.KernelInProjIdeal.τ).loc Cert.KernelInProjIdeal.main_arg3)
          ∧ r.2.mem ((c.tc : Thread Cert.KernelInProjIdeal.nD Cert.KernelInProjIdeal.τ).loc Cert.KernelInProjIdeal.main_arg4) = m ((c.tc : Thread Cert.KernelInProjIdeal.nD Cert.KernelInProjIdeal.τ).loc Cert.KernelInProjIdeal.main_arg4)
          ∧ r.2.mem ((c.tc : Thread Cert.KernelInProjIdeal.nD Cert.KernelInProjIdeal.τ).loc Cert.KernelInProjIdeal.main_arg5) = m ((c.tc : Thread Cert.KernelInProjIdeal.nD Cert.KernelInProjIdeal.τ).loc Cert.KernelInProjIdeal.main_arg5)
          ∧ r.2.mem ((c.tc : Thread Cert.KernelInProjIdeal.nD Cert.KernelInProjIdeal.τ).loc Cert.KernelInProjIdeal.main_arg6) = m ((c.tc : Thread Cert.KernelInProjIdeal.nD Cert.KernelInProjIdeal.τ).loc Cert.KernelInProjIdeal.main_arg6)
          ∧ r.2.mem ((c.tc : Thread Cert.KernelInProjIdeal.nD Cert.KernelInProjIdeal.τ).loc Cert.KernelInProjIdeal.main_arg7) = m ((c.tc : Thread Cert.KernelInProjIdeal.nD Cert.KernelInProjIdeal.τ).loc Cert.KernelInProjIdeal.main_arg7))
      ∧ θ_run (Cert.ReferenceInProjIdeal.defs (F := Ideal)) (onTc (τ := Cert.ReferenceInProjIdeal.τ) (Cert.ReferenceInProjIdeal.main (F := Ideal))) ⟨m', fun _ => 0, g'⟩ (fun r => ∀ c : Dev Cert.ReferenceInProjIdeal.nD,
          r.2.mem ((c.tc : Thread Cert.ReferenceInProjIdeal.nD Cert.ReferenceInProjIdeal.τ).loc Cert.ReferenceInProjIdeal.main_v30) = v0 c
          ∧ r.2.mem ((c.tc : Thread Cert.ReferenceInProjIdeal.nD Cert.ReferenceInProjIdeal.τ).loc Cert.ReferenceInProjIdeal.main_v23) = v1 c
          ∧ r.2.mem ((c.tc : Thread Cert.ReferenceInProjIdeal.nD Cert.ReferenceInProjIdeal.τ).loc Cert.ReferenceInProjIdeal.main_v25) = v2 c
          ∧ r.2.mem ((c.tc : Thread Cert.ReferenceInProjIdeal.nD Cert.ReferenceInProjIdeal.τ).loc Cert.ReferenceInProjIdeal.main_v27) = v3 c
          ∧ r.2.mem ((c.tc : Thread Cert.ReferenceInProjIdeal.nD Cert.ReferenceInProjIdeal.τ).loc Cert.ReferenceInProjIdeal.main_v22) = v4 c
          ∧ r.2.mem ((c.tc : Thread Cert.ReferenceInProjIdeal.nD Cert.ReferenceInProjIdeal.τ).loc Cert.ReferenceInProjIdeal.main_v45) = v5 c
          ∧ r.2.mem ((c.tc : Thread Cert.ReferenceInProjIdeal.nD Cert.ReferenceInProjIdeal.τ).loc Cert.ReferenceInProjIdeal.main_v60) = v6 c
          ∧ r.2.mem ((c.tc : Thread Cert.ReferenceInProjIdeal.nD Cert.ReferenceInProjIdeal.τ).loc Cert.ReferenceInProjIdeal.main_arg0) = m' ((c.tc : Thread Cert.ReferenceInProjIdeal.nD Cert.ReferenceInProjIdeal.τ).loc Cert.ReferenceInProjIdeal.main_arg0)
          ∧ r.2.mem ((c.tc : Thread Cert.ReferenceInProjIdeal.nD Cert.ReferenceInProjIdeal.τ).loc Cert.ReferenceInProjIdeal.main_arg1) = m' ((c.tc : Thread Cert.ReferenceInProjIdeal.nD Cert.ReferenceInProjIdeal.τ).loc Cert.ReferenceInProjIdeal.main_arg1)
          ∧ r.2.mem ((c.tc : Thread Cert.ReferenceInProjIdeal.nD Cert.ReferenceInProjIdeal.τ).loc Cert.ReferenceInProjIdeal.main_arg2) = m' ((c.tc : Thread Cert.ReferenceInProjIdeal.nD Cert.ReferenceInProjIdeal.τ).loc Cert.ReferenceInProjIdeal.main_arg2)
          ∧ r.2.mem ((c.tc : Thread Cert.ReferenceInProjIdeal.nD Cert.ReferenceInProjIdeal.τ).loc Cert.ReferenceInProjIdeal.main_arg3) = m' ((c.tc : Thread Cert.ReferenceInProjIdeal.nD Cert.ReferenceInProjIdeal.τ).loc Cert.ReferenceInProjIdeal.main_arg3)
          ∧ r.2.mem ((c.tc : Thread Cert.ReferenceInProjIdeal.nD Cert.ReferenceInProjIdeal.τ).loc Cert.ReferenceInProjIdeal.main_arg4) = m' ((c.tc : Thread Cert.ReferenceInProjIdeal.nD Cert.ReferenceInProjIdeal.τ).loc Cert.ReferenceInProjIdeal.main_arg4)
          ∧ r.2.mem ((c.tc : Thread Cert.ReferenceInProjIdeal.nD Cert.ReferenceInProjIdeal.τ).loc Cert.ReferenceInProjIdeal.main_arg5) = m' ((c.tc : Thread Cert.ReferenceInProjIdeal.nD Cert.ReferenceInProjIdeal.τ).loc Cert.ReferenceInProjIdeal.main_arg5)
          ∧ r.2.mem ((c.tc : Thread Cert.ReferenceInProjIdeal.nD Cert.ReferenceInProjIdeal.τ).loc Cert.ReferenceInProjIdeal.main_arg6) = m' ((c.tc : Thread Cert.ReferenceInProjIdeal.nD Cert.ReferenceInProjIdeal.τ).loc Cert.ReferenceInProjIdeal.main_arg6)
          ∧ r.2.mem ((c.tc : Thread Cert.ReferenceInProjIdeal.nD Cert.ReferenceInProjIdeal.τ).loc Cert.ReferenceInProjIdeal.main_arg7) = m' ((c.tc : Thread Cert.ReferenceInProjIdeal.nD Cert.ReferenceInProjIdeal.τ).loc Cert.ReferenceInProjIdeal.main_arg7))

def preserves_KernelMixerOut_KernelMixerOutIdeal : Prop :=
  True

def algebraic_KernelMixerOutIdeal_ReferenceMixerOutIdeal [hKernelMixerOutIdeal : Cert.KernelMixerOutIdeal.Facts] [hReferenceMixerOutIdeal : Cert.ReferenceMixerOutIdeal.Facts] : Prop :=
  ∀ (m : (ℓ : Loc Cert.KernelMixerOutIdeal.nD Cert.KernelMixerOutIdeal.τ Cert.KernelMixerOutIdeal.sig) → Buf (Elt Ideal) ℓ) (g : Dev Cert.KernelMixerOutIdeal.nD → PrngReg)
    (m' : (ℓ : Loc Cert.ReferenceMixerOutIdeal.nD Cert.ReferenceMixerOutIdeal.τ Cert.ReferenceMixerOutIdeal.sig) → Buf (Elt Ideal) ℓ) (g' : Dev Cert.ReferenceMixerOutIdeal.nD → PrngReg), Pre_KernelMixerOutIdeal m →
    (∀ c : Dev Cert.KernelMixerOutIdeal.nD,
      m' ((c.tc : Thread Cert.ReferenceMixerOutIdeal.nD Cert.ReferenceMixerOutIdeal.τ).loc Cert.ReferenceMixerOutIdeal.main_arg0) = m ((c.tc : Thread Cert.KernelMixerOutIdeal.nD Cert.KernelMixerOutIdeal.τ).loc Cert.KernelMixerOutIdeal.main_arg0)
      ∧ m' ((c.tc : Thread Cert.ReferenceMixerOutIdeal.nD Cert.ReferenceMixerOutIdeal.τ).loc Cert.ReferenceMixerOutIdeal.main_arg1) = m ((c.tc : Thread Cert.KernelMixerOutIdeal.nD Cert.KernelMixerOutIdeal.τ).loc Cert.KernelMixerOutIdeal.main_arg1)
      ∧ m' ((c.tc : Thread Cert.ReferenceMixerOutIdeal.nD Cert.ReferenceMixerOutIdeal.τ).loc Cert.ReferenceMixerOutIdeal.main_arg2) = m ((c.tc : Thread Cert.KernelMixerOutIdeal.nD Cert.KernelMixerOutIdeal.τ).loc Cert.KernelMixerOutIdeal.main_arg2)
      ∧ m' ((c.tc : Thread Cert.ReferenceMixerOutIdeal.nD Cert.ReferenceMixerOutIdeal.τ).loc Cert.ReferenceMixerOutIdeal.main_arg3) = m ((c.tc : Thread Cert.KernelMixerOutIdeal.nD Cert.KernelMixerOutIdeal.τ).loc Cert.KernelMixerOutIdeal.main_arg3)
      ∧ m' ((c.tc : Thread Cert.ReferenceMixerOutIdeal.nD Cert.ReferenceMixerOutIdeal.τ).loc Cert.ReferenceMixerOutIdeal.main_arg4) = m ((c.tc : Thread Cert.KernelMixerOutIdeal.nD Cert.KernelMixerOutIdeal.τ).loc Cert.KernelMixerOutIdeal.main_arg4)
      ∧ m' ((c.tc : Thread Cert.ReferenceMixerOutIdeal.nD Cert.ReferenceMixerOutIdeal.τ).loc Cert.ReferenceMixerOutIdeal.main_arg5) = m ((c.tc : Thread Cert.KernelMixerOutIdeal.nD Cert.KernelMixerOutIdeal.τ).loc Cert.KernelMixerOutIdeal.main_arg5)
      ∧ m' ((c.tc : Thread Cert.ReferenceMixerOutIdeal.nD Cert.ReferenceMixerOutIdeal.τ).loc Cert.ReferenceMixerOutIdeal.main_arg6) = m ((c.tc : Thread Cert.KernelMixerOutIdeal.nD Cert.KernelMixerOutIdeal.τ).loc Cert.KernelMixerOutIdeal.main_arg6)
      ∧ m' ((c.tc : Thread Cert.ReferenceMixerOutIdeal.nD Cert.ReferenceMixerOutIdeal.τ).loc Cert.ReferenceMixerOutIdeal.main_arg7) = m ((c.tc : Thread Cert.KernelMixerOutIdeal.nD Cert.KernelMixerOutIdeal.τ).loc Cert.KernelMixerOutIdeal.main_arg7)
      ∧ m' ((c.tc : Thread Cert.ReferenceMixerOutIdeal.nD Cert.ReferenceMixerOutIdeal.τ).loc Cert.ReferenceMixerOutIdeal.main_arg8) = m ((c.tc : Thread Cert.KernelMixerOutIdeal.nD Cert.KernelMixerOutIdeal.τ).loc Cert.KernelMixerOutIdeal.main_arg8)
      ∧ m' ((c.tc : Thread Cert.ReferenceMixerOutIdeal.nD Cert.ReferenceMixerOutIdeal.τ).loc Cert.ReferenceMixerOutIdeal.main_arg9) = m ((c.tc : Thread Cert.KernelMixerOutIdeal.nD Cert.KernelMixerOutIdeal.τ).loc Cert.KernelMixerOutIdeal.main_arg9)) →
    ∃ (v0 : (c : Dev Cert.KernelMixerOutIdeal.nD) → Buf (Elt Ideal) ((c.tc : Thread Cert.KernelMixerOutIdeal.nD Cert.KernelMixerOutIdeal.τ).loc Cert.KernelMixerOutIdeal.main_v0_0)) (v1 : (c : Dev Cert.KernelMixerOutIdeal.nD) → Buf (Elt Ideal) ((c.tc : Thread Cert.KernelMixerOutIdeal.nD Cert.KernelMixerOutIdeal.τ).loc Cert.KernelMixerOutIdeal.main_v0_1)) (v2 : (c : Dev Cert.KernelMixerOutIdeal.nD) → Buf (Elt Ideal) ((c.tc : Thread Cert.KernelMixerOutIdeal.nD Cert.KernelMixerOutIdeal.τ).loc Cert.KernelMixerOutIdeal.main_v0_2)) (v3 : (c : Dev Cert.KernelMixerOutIdeal.nD) → Buf (Elt Ideal) ((c.tc : Thread Cert.KernelMixerOutIdeal.nD Cert.KernelMixerOutIdeal.τ).loc Cert.KernelMixerOutIdeal.main_v0_3)),
      θ_run (Cert.KernelMixerOutIdeal.defs (F := Ideal)) (onTc (τ := Cert.KernelMixerOutIdeal.τ) (Cert.KernelMixerOutIdeal.main (F := Ideal))) ⟨m, fun _ => 0, g⟩ (fun r => ∀ c : Dev Cert.KernelMixerOutIdeal.nD,
          r.2.mem ((c.tc : Thread Cert.KernelMixerOutIdeal.nD Cert.KernelMixerOutIdeal.τ).loc Cert.KernelMixerOutIdeal.main_v0_0) = v0 c
          ∧ r.2.mem ((c.tc : Thread Cert.KernelMixerOutIdeal.nD Cert.KernelMixerOutIdeal.τ).loc Cert.KernelMixerOutIdeal.main_v0_1) = v1 c
          ∧ r.2.mem ((c.tc : Thread Cert.KernelMixerOutIdeal.nD Cert.KernelMixerOutIdeal.τ).loc Cert.KernelMixerOutIdeal.main_v0_2) = v2 c
          ∧ r.2.mem ((c.tc : Thread Cert.KernelMixerOutIdeal.nD Cert.KernelMixerOutIdeal.τ).loc Cert.KernelMixerOutIdeal.main_v0_3) = v3 c
          ∧ r.2.mem ((c.tc : Thread Cert.KernelMixerOutIdeal.nD Cert.KernelMixerOutIdeal.τ).loc Cert.KernelMixerOutIdeal.main_arg0) = m ((c.tc : Thread Cert.KernelMixerOutIdeal.nD Cert.KernelMixerOutIdeal.τ).loc Cert.KernelMixerOutIdeal.main_arg0)
          ∧ r.2.mem ((c.tc : Thread Cert.KernelMixerOutIdeal.nD Cert.KernelMixerOutIdeal.τ).loc Cert.KernelMixerOutIdeal.main_arg1) = m ((c.tc : Thread Cert.KernelMixerOutIdeal.nD Cert.KernelMixerOutIdeal.τ).loc Cert.KernelMixerOutIdeal.main_arg1)
          ∧ r.2.mem ((c.tc : Thread Cert.KernelMixerOutIdeal.nD Cert.KernelMixerOutIdeal.τ).loc Cert.KernelMixerOutIdeal.main_arg2) = m ((c.tc : Thread Cert.KernelMixerOutIdeal.nD Cert.KernelMixerOutIdeal.τ).loc Cert.KernelMixerOutIdeal.main_arg2)
          ∧ r.2.mem ((c.tc : Thread Cert.KernelMixerOutIdeal.nD Cert.KernelMixerOutIdeal.τ).loc Cert.KernelMixerOutIdeal.main_arg3) = m ((c.tc : Thread Cert.KernelMixerOutIdeal.nD Cert.KernelMixerOutIdeal.τ).loc Cert.KernelMixerOutIdeal.main_arg3)
          ∧ r.2.mem ((c.tc : Thread Cert.KernelMixerOutIdeal.nD Cert.KernelMixerOutIdeal.τ).loc Cert.KernelMixerOutIdeal.main_arg4) = m ((c.tc : Thread Cert.KernelMixerOutIdeal.nD Cert.KernelMixerOutIdeal.τ).loc Cert.KernelMixerOutIdeal.main_arg4)
          ∧ r.2.mem ((c.tc : Thread Cert.KernelMixerOutIdeal.nD Cert.KernelMixerOutIdeal.τ).loc Cert.KernelMixerOutIdeal.main_arg5) = m ((c.tc : Thread Cert.KernelMixerOutIdeal.nD Cert.KernelMixerOutIdeal.τ).loc Cert.KernelMixerOutIdeal.main_arg5)
          ∧ r.2.mem ((c.tc : Thread Cert.KernelMixerOutIdeal.nD Cert.KernelMixerOutIdeal.τ).loc Cert.KernelMixerOutIdeal.main_arg6) = m ((c.tc : Thread Cert.KernelMixerOutIdeal.nD Cert.KernelMixerOutIdeal.τ).loc Cert.KernelMixerOutIdeal.main_arg6)
          ∧ r.2.mem ((c.tc : Thread Cert.KernelMixerOutIdeal.nD Cert.KernelMixerOutIdeal.τ).loc Cert.KernelMixerOutIdeal.main_arg7) = m ((c.tc : Thread Cert.KernelMixerOutIdeal.nD Cert.KernelMixerOutIdeal.τ).loc Cert.KernelMixerOutIdeal.main_arg7)
          ∧ r.2.mem ((c.tc : Thread Cert.KernelMixerOutIdeal.nD Cert.KernelMixerOutIdeal.τ).loc Cert.KernelMixerOutIdeal.main_arg8) = m ((c.tc : Thread Cert.KernelMixerOutIdeal.nD Cert.KernelMixerOutIdeal.τ).loc Cert.KernelMixerOutIdeal.main_arg8)
          ∧ r.2.mem ((c.tc : Thread Cert.KernelMixerOutIdeal.nD Cert.KernelMixerOutIdeal.τ).loc Cert.KernelMixerOutIdeal.main_arg9) = m ((c.tc : Thread Cert.KernelMixerOutIdeal.nD Cert.KernelMixerOutIdeal.τ).loc Cert.KernelMixerOutIdeal.main_arg9))
      ∧ θ_run (Cert.ReferenceMixerOutIdeal.defs (F := Ideal)) (onTc (τ := Cert.ReferenceMixerOutIdeal.τ) (Cert.ReferenceMixerOutIdeal.main (F := Ideal))) ⟨m', fun _ => 0, g'⟩ (fun r => ∀ c : Dev Cert.ReferenceMixerOutIdeal.nD,
          r.2.mem ((c.tc : Thread Cert.ReferenceMixerOutIdeal.nD Cert.ReferenceMixerOutIdeal.τ).loc Cert.ReferenceMixerOutIdeal.main_v52) = v0 c
          ∧ r.2.mem ((c.tc : Thread Cert.ReferenceMixerOutIdeal.nD Cert.ReferenceMixerOutIdeal.τ).loc Cert.ReferenceMixerOutIdeal.main_v28) = v1 c
          ∧ r.2.mem ((c.tc : Thread Cert.ReferenceMixerOutIdeal.nD Cert.ReferenceMixerOutIdeal.τ).loc Cert.ReferenceMixerOutIdeal.main_v31) = v2 c
          ∧ r.2.mem ((c.tc : Thread Cert.ReferenceMixerOutIdeal.nD Cert.ReferenceMixerOutIdeal.τ).loc Cert.ReferenceMixerOutIdeal.main_v53) = v3 c
          ∧ r.2.mem ((c.tc : Thread Cert.ReferenceMixerOutIdeal.nD Cert.ReferenceMixerOutIdeal.τ).loc Cert.ReferenceMixerOutIdeal.main_arg0) = m' ((c.tc : Thread Cert.ReferenceMixerOutIdeal.nD Cert.ReferenceMixerOutIdeal.τ).loc Cert.ReferenceMixerOutIdeal.main_arg0)
          ∧ r.2.mem ((c.tc : Thread Cert.ReferenceMixerOutIdeal.nD Cert.ReferenceMixerOutIdeal.τ).loc Cert.ReferenceMixerOutIdeal.main_arg1) = m' ((c.tc : Thread Cert.ReferenceMixerOutIdeal.nD Cert.ReferenceMixerOutIdeal.τ).loc Cert.ReferenceMixerOutIdeal.main_arg1)
          ∧ r.2.mem ((c.tc : Thread Cert.ReferenceMixerOutIdeal.nD Cert.ReferenceMixerOutIdeal.τ).loc Cert.ReferenceMixerOutIdeal.main_arg2) = m' ((c.tc : Thread Cert.ReferenceMixerOutIdeal.nD Cert.ReferenceMixerOutIdeal.τ).loc Cert.ReferenceMixerOutIdeal.main_arg2)
          ∧ r.2.mem ((c.tc : Thread Cert.ReferenceMixerOutIdeal.nD Cert.ReferenceMixerOutIdeal.τ).loc Cert.ReferenceMixerOutIdeal.main_arg3) = m' ((c.tc : Thread Cert.ReferenceMixerOutIdeal.nD Cert.ReferenceMixerOutIdeal.τ).loc Cert.ReferenceMixerOutIdeal.main_arg3)
          ∧ r.2.mem ((c.tc : Thread Cert.ReferenceMixerOutIdeal.nD Cert.ReferenceMixerOutIdeal.τ).loc Cert.ReferenceMixerOutIdeal.main_arg4) = m' ((c.tc : Thread Cert.ReferenceMixerOutIdeal.nD Cert.ReferenceMixerOutIdeal.τ).loc Cert.ReferenceMixerOutIdeal.main_arg4)
          ∧ r.2.mem ((c.tc : Thread Cert.ReferenceMixerOutIdeal.nD Cert.ReferenceMixerOutIdeal.τ).loc Cert.ReferenceMixerOutIdeal.main_arg5) = m' ((c.tc : Thread Cert.ReferenceMixerOutIdeal.nD Cert.ReferenceMixerOutIdeal.τ).loc Cert.ReferenceMixerOutIdeal.main_arg5)
          ∧ r.2.mem ((c.tc : Thread Cert.ReferenceMixerOutIdeal.nD Cert.ReferenceMixerOutIdeal.τ).loc Cert.ReferenceMixerOutIdeal.main_arg6) = m' ((c.tc : Thread Cert.ReferenceMixerOutIdeal.nD Cert.ReferenceMixerOutIdeal.τ).loc Cert.ReferenceMixerOutIdeal.main_arg6)
          ∧ r.2.mem ((c.tc : Thread Cert.ReferenceMixerOutIdeal.nD Cert.ReferenceMixerOutIdeal.τ).loc Cert.ReferenceMixerOutIdeal.main_arg7) = m' ((c.tc : Thread Cert.ReferenceMixerOutIdeal.nD Cert.ReferenceMixerOutIdeal.τ).loc Cert.ReferenceMixerOutIdeal.main_arg7)
          ∧ r.2.mem ((c.tc : Thread Cert.ReferenceMixerOutIdeal.nD Cert.ReferenceMixerOutIdeal.τ).loc Cert.ReferenceMixerOutIdeal.main_arg8) = m' ((c.tc : Thread Cert.ReferenceMixerOutIdeal.nD Cert.ReferenceMixerOutIdeal.τ).loc Cert.ReferenceMixerOutIdeal.main_arg8)
          ∧ r.2.mem ((c.tc : Thread Cert.ReferenceMixerOutIdeal.nD Cert.ReferenceMixerOutIdeal.τ).loc Cert.ReferenceMixerOutIdeal.main_arg9) = m' ((c.tc : Thread Cert.ReferenceMixerOutIdeal.nD Cert.ReferenceMixerOutIdeal.τ).loc Cert.ReferenceMixerOutIdeal.main_arg9))

def preserves_KernelMixerOutBwd_KernelMixerOutBwdIdeal : Prop :=
  True

def algebraic_KernelMixerOutBwdIdeal_ReferenceMixerOutBwdIdeal [hKernelMixerOutBwdIdeal : Cert.KernelMixerOutBwdIdeal.Facts] [hReferenceMixerOutBwdIdeal : Cert.ReferenceMixerOutBwdIdeal.Facts] : Prop :=
  ∀ (m : (ℓ : Loc Cert.KernelMixerOutBwdIdeal.nD Cert.KernelMixerOutBwdIdeal.τ Cert.KernelMixerOutBwdIdeal.sig) → Buf (Elt Ideal) ℓ) (g : Dev Cert.KernelMixerOutBwdIdeal.nD → PrngReg)
    (m' : (ℓ : Loc Cert.ReferenceMixerOutBwdIdeal.nD Cert.ReferenceMixerOutBwdIdeal.τ Cert.ReferenceMixerOutBwdIdeal.sig) → Buf (Elt Ideal) ℓ) (g' : Dev Cert.ReferenceMixerOutBwdIdeal.nD → PrngReg), Pre_KernelMixerOutBwdIdeal m →
    (∀ c : Dev Cert.KernelMixerOutBwdIdeal.nD,
      m' ((c.tc : Thread Cert.ReferenceMixerOutBwdIdeal.nD Cert.ReferenceMixerOutBwdIdeal.τ).loc Cert.ReferenceMixerOutBwdIdeal.main_arg0) = m ((c.tc : Thread Cert.KernelMixerOutBwdIdeal.nD Cert.KernelMixerOutBwdIdeal.τ).loc Cert.KernelMixerOutBwdIdeal.main_arg0)
      ∧ m' ((c.tc : Thread Cert.ReferenceMixerOutBwdIdeal.nD Cert.ReferenceMixerOutBwdIdeal.τ).loc Cert.ReferenceMixerOutBwdIdeal.main_arg1) = m ((c.tc : Thread Cert.KernelMixerOutBwdIdeal.nD Cert.KernelMixerOutBwdIdeal.τ).loc Cert.KernelMixerOutBwdIdeal.main_arg1)
      ∧ m' ((c.tc : Thread Cert.ReferenceMixerOutBwdIdeal.nD Cert.ReferenceMixerOutBwdIdeal.τ).loc Cert.ReferenceMixerOutBwdIdeal.main_arg2) = m ((c.tc : Thread Cert.KernelMixerOutBwdIdeal.nD Cert.KernelMixerOutBwdIdeal.τ).loc Cert.KernelMixerOutBwdIdeal.main_arg2)
      ∧ m' ((c.tc : Thread Cert.ReferenceMixerOutBwdIdeal.nD Cert.ReferenceMixerOutBwdIdeal.τ).loc Cert.ReferenceMixerOutBwdIdeal.main_arg3) = m ((c.tc : Thread Cert.KernelMixerOutBwdIdeal.nD Cert.KernelMixerOutBwdIdeal.τ).loc Cert.KernelMixerOutBwdIdeal.main_arg3)
      ∧ m' ((c.tc : Thread Cert.ReferenceMixerOutBwdIdeal.nD Cert.ReferenceMixerOutBwdIdeal.τ).loc Cert.ReferenceMixerOutBwdIdeal.main_arg4) = m ((c.tc : Thread Cert.KernelMixerOutBwdIdeal.nD Cert.KernelMixerOutBwdIdeal.τ).loc Cert.KernelMixerOutBwdIdeal.main_arg4)
      ∧ m' ((c.tc : Thread Cert.ReferenceMixerOutBwdIdeal.nD Cert.ReferenceMixerOutBwdIdeal.τ).loc Cert.ReferenceMixerOutBwdIdeal.main_arg5) = m ((c.tc : Thread Cert.KernelMixerOutBwdIdeal.nD Cert.KernelMixerOutBwdIdeal.τ).loc Cert.KernelMixerOutBwdIdeal.main_arg5)) →
    ∃ (v0 : (c : Dev Cert.KernelMixerOutBwdIdeal.nD) → Buf (Elt Ideal) ((c.tc : Thread Cert.KernelMixerOutBwdIdeal.nD Cert.KernelMixerOutBwdIdeal.τ).loc Cert.KernelMixerOutBwdIdeal.main_v0_0)) (v1 : (c : Dev Cert.KernelMixerOutBwdIdeal.nD) → Buf (Elt Ideal) ((c.tc : Thread Cert.KernelMixerOutBwdIdeal.nD Cert.KernelMixerOutBwdIdeal.τ).loc Cert.KernelMixerOutBwdIdeal.main_v0_1)) (v2 : (c : Dev Cert.KernelMixerOutBwdIdeal.nD) → Buf (Elt Ideal) ((c.tc : Thread Cert.KernelMixerOutBwdIdeal.nD Cert.KernelMixerOutBwdIdeal.τ).loc Cert.KernelMixerOutBwdIdeal.main_v0_2)) (v3 : (c : Dev Cert.KernelMixerOutBwdIdeal.nD) → Buf (Elt Ideal) ((c.tc : Thread Cert.KernelMixerOutBwdIdeal.nD Cert.KernelMixerOutBwdIdeal.τ).loc Cert.KernelMixerOutBwdIdeal.main_v0_3)) (v4 : (c : Dev Cert.KernelMixerOutBwdIdeal.nD) → Buf (Elt Ideal) ((c.tc : Thread Cert.KernelMixerOutBwdIdeal.nD Cert.KernelMixerOutBwdIdeal.τ).loc Cert.KernelMixerOutBwdIdeal.main_v0_4)) (v5 : (c : Dev Cert.KernelMixerOutBwdIdeal.nD) → Buf (Elt Ideal) ((c.tc : Thread Cert.KernelMixerOutBwdIdeal.nD Cert.KernelMixerOutBwdIdeal.τ).loc Cert.KernelMixerOutBwdIdeal.main_v0_5)),
      θ_run (Cert.KernelMixerOutBwdIdeal.defs (F := Ideal)) (onTc (τ := Cert.KernelMixerOutBwdIdeal.τ) (Cert.KernelMixerOutBwdIdeal.main (F := Ideal))) ⟨m, fun _ => 0, g⟩ (fun r => ∀ c : Dev Cert.KernelMixerOutBwdIdeal.nD,
          r.2.mem ((c.tc : Thread Cert.KernelMixerOutBwdIdeal.nD Cert.KernelMixerOutBwdIdeal.τ).loc Cert.KernelMixerOutBwdIdeal.main_v0_0) = v0 c
          ∧ r.2.mem ((c.tc : Thread Cert.KernelMixerOutBwdIdeal.nD Cert.KernelMixerOutBwdIdeal.τ).loc Cert.KernelMixerOutBwdIdeal.main_v0_1) = v1 c
          ∧ r.2.mem ((c.tc : Thread Cert.KernelMixerOutBwdIdeal.nD Cert.KernelMixerOutBwdIdeal.τ).loc Cert.KernelMixerOutBwdIdeal.main_v0_2) = v2 c
          ∧ r.2.mem ((c.tc : Thread Cert.KernelMixerOutBwdIdeal.nD Cert.KernelMixerOutBwdIdeal.τ).loc Cert.KernelMixerOutBwdIdeal.main_v0_3) = v3 c
          ∧ r.2.mem ((c.tc : Thread Cert.KernelMixerOutBwdIdeal.nD Cert.KernelMixerOutBwdIdeal.τ).loc Cert.KernelMixerOutBwdIdeal.main_v0_4) = v4 c
          ∧ r.2.mem ((c.tc : Thread Cert.KernelMixerOutBwdIdeal.nD Cert.KernelMixerOutBwdIdeal.τ).loc Cert.KernelMixerOutBwdIdeal.main_v0_5) = v5 c
          ∧ r.2.mem ((c.tc : Thread Cert.KernelMixerOutBwdIdeal.nD Cert.KernelMixerOutBwdIdeal.τ).loc Cert.KernelMixerOutBwdIdeal.main_arg0) = m ((c.tc : Thread Cert.KernelMixerOutBwdIdeal.nD Cert.KernelMixerOutBwdIdeal.τ).loc Cert.KernelMixerOutBwdIdeal.main_arg0)
          ∧ r.2.mem ((c.tc : Thread Cert.KernelMixerOutBwdIdeal.nD Cert.KernelMixerOutBwdIdeal.τ).loc Cert.KernelMixerOutBwdIdeal.main_arg1) = m ((c.tc : Thread Cert.KernelMixerOutBwdIdeal.nD Cert.KernelMixerOutBwdIdeal.τ).loc Cert.KernelMixerOutBwdIdeal.main_arg1)
          ∧ r.2.mem ((c.tc : Thread Cert.KernelMixerOutBwdIdeal.nD Cert.KernelMixerOutBwdIdeal.τ).loc Cert.KernelMixerOutBwdIdeal.main_arg2) = m ((c.tc : Thread Cert.KernelMixerOutBwdIdeal.nD Cert.KernelMixerOutBwdIdeal.τ).loc Cert.KernelMixerOutBwdIdeal.main_arg2)
          ∧ r.2.mem ((c.tc : Thread Cert.KernelMixerOutBwdIdeal.nD Cert.KernelMixerOutBwdIdeal.τ).loc Cert.KernelMixerOutBwdIdeal.main_arg3) = m ((c.tc : Thread Cert.KernelMixerOutBwdIdeal.nD Cert.KernelMixerOutBwdIdeal.τ).loc Cert.KernelMixerOutBwdIdeal.main_arg3)
          ∧ r.2.mem ((c.tc : Thread Cert.KernelMixerOutBwdIdeal.nD Cert.KernelMixerOutBwdIdeal.τ).loc Cert.KernelMixerOutBwdIdeal.main_arg4) = m ((c.tc : Thread Cert.KernelMixerOutBwdIdeal.nD Cert.KernelMixerOutBwdIdeal.τ).loc Cert.KernelMixerOutBwdIdeal.main_arg4)
          ∧ r.2.mem ((c.tc : Thread Cert.KernelMixerOutBwdIdeal.nD Cert.KernelMixerOutBwdIdeal.τ).loc Cert.KernelMixerOutBwdIdeal.main_arg5) = m ((c.tc : Thread Cert.KernelMixerOutBwdIdeal.nD Cert.KernelMixerOutBwdIdeal.τ).loc Cert.KernelMixerOutBwdIdeal.main_arg5))
      ∧ θ_run (Cert.ReferenceMixerOutBwdIdeal.defs (F := Ideal)) (onTc (τ := Cert.ReferenceMixerOutBwdIdeal.τ) (Cert.ReferenceMixerOutBwdIdeal.main (F := Ideal))) ⟨m', fun _ => 0, g'⟩ (fun r => ∀ c : Dev Cert.ReferenceMixerOutBwdIdeal.nD,
          r.2.mem ((c.tc : Thread Cert.ReferenceMixerOutBwdIdeal.nD Cert.ReferenceMixerOutBwdIdeal.τ).loc Cert.ReferenceMixerOutBwdIdeal.main_v81) = v0 c
          ∧ r.2.mem ((c.tc : Thread Cert.ReferenceMixerOutBwdIdeal.nD Cert.ReferenceMixerOutBwdIdeal.τ).loc Cert.ReferenceMixerOutBwdIdeal.main_v83) = v1 c
          ∧ r.2.mem ((c.tc : Thread Cert.ReferenceMixerOutBwdIdeal.nD Cert.ReferenceMixerOutBwdIdeal.τ).loc Cert.ReferenceMixerOutBwdIdeal.main_v85) = v2 c
          ∧ r.2.mem ((c.tc : Thread Cert.ReferenceMixerOutBwdIdeal.nD Cert.ReferenceMixerOutBwdIdeal.τ).loc Cert.ReferenceMixerOutBwdIdeal.main_v66) = v3 c
          ∧ r.2.mem ((c.tc : Thread Cert.ReferenceMixerOutBwdIdeal.nD Cert.ReferenceMixerOutBwdIdeal.τ).loc Cert.ReferenceMixerOutBwdIdeal.main_v86) = v4 c
          ∧ r.2.mem ((c.tc : Thread Cert.ReferenceMixerOutBwdIdeal.nD Cert.ReferenceMixerOutBwdIdeal.τ).loc Cert.ReferenceMixerOutBwdIdeal.main_v45) = v5 c
          ∧ r.2.mem ((c.tc : Thread Cert.ReferenceMixerOutBwdIdeal.nD Cert.ReferenceMixerOutBwdIdeal.τ).loc Cert.ReferenceMixerOutBwdIdeal.main_arg0) = m' ((c.tc : Thread Cert.ReferenceMixerOutBwdIdeal.nD Cert.ReferenceMixerOutBwdIdeal.τ).loc Cert.ReferenceMixerOutBwdIdeal.main_arg0)
          ∧ r.2.mem ((c.tc : Thread Cert.ReferenceMixerOutBwdIdeal.nD Cert.ReferenceMixerOutBwdIdeal.τ).loc Cert.ReferenceMixerOutBwdIdeal.main_arg1) = m' ((c.tc : Thread Cert.ReferenceMixerOutBwdIdeal.nD Cert.ReferenceMixerOutBwdIdeal.τ).loc Cert.ReferenceMixerOutBwdIdeal.main_arg1)
          ∧ r.2.mem ((c.tc : Thread Cert.ReferenceMixerOutBwdIdeal.nD Cert.ReferenceMixerOutBwdIdeal.τ).loc Cert.ReferenceMixerOutBwdIdeal.main_arg2) = m' ((c.tc : Thread Cert.ReferenceMixerOutBwdIdeal.nD Cert.ReferenceMixerOutBwdIdeal.τ).loc Cert.ReferenceMixerOutBwdIdeal.main_arg2)
          ∧ r.2.mem ((c.tc : Thread Cert.ReferenceMixerOutBwdIdeal.nD Cert.ReferenceMixerOutBwdIdeal.τ).loc Cert.ReferenceMixerOutBwdIdeal.main_arg3) = m' ((c.tc : Thread Cert.ReferenceMixerOutBwdIdeal.nD Cert.ReferenceMixerOutBwdIdeal.τ).loc Cert.ReferenceMixerOutBwdIdeal.main_arg3)
          ∧ r.2.mem ((c.tc : Thread Cert.ReferenceMixerOutBwdIdeal.nD Cert.ReferenceMixerOutBwdIdeal.τ).loc Cert.ReferenceMixerOutBwdIdeal.main_arg4) = m' ((c.tc : Thread Cert.ReferenceMixerOutBwdIdeal.nD Cert.ReferenceMixerOutBwdIdeal.τ).loc Cert.ReferenceMixerOutBwdIdeal.main_arg4)
          ∧ r.2.mem ((c.tc : Thread Cert.ReferenceMixerOutBwdIdeal.nD Cert.ReferenceMixerOutBwdIdeal.τ).loc Cert.ReferenceMixerOutBwdIdeal.main_arg5) = m' ((c.tc : Thread Cert.ReferenceMixerOutBwdIdeal.nD Cert.ReferenceMixerOutBwdIdeal.τ).loc Cert.ReferenceMixerOutBwdIdeal.main_arg5))

def preserves_KernelRsMix_KernelRsMixIdeal : Prop :=
  True

def algebraic_KernelRsMixIdeal_ReferenceRsMixIdeal [hKernelRsMixIdeal : Cert.KernelRsMixIdeal.Facts] [hReferenceRsMixIdeal : Cert.ReferenceRsMixIdeal.Facts] : Prop :=
  ∀ (m : (ℓ : Loc Cert.KernelRsMixIdeal.nD Cert.KernelRsMixIdeal.τ Cert.KernelRsMixIdeal.sig) → Buf (Elt Ideal) ℓ) (g : Dev Cert.KernelRsMixIdeal.nD → PrngReg)
    (m' : (ℓ : Loc Cert.ReferenceRsMixIdeal.nD Cert.ReferenceRsMixIdeal.τ Cert.ReferenceRsMixIdeal.sig) → Buf (Elt Ideal) ℓ) (g' : Dev Cert.ReferenceRsMixIdeal.nD → PrngReg), Pre_KernelRsMixIdeal m →
    (∀ c : Dev Cert.KernelRsMixIdeal.nD,
      m' ((c.tc : Thread Cert.ReferenceRsMixIdeal.nD Cert.ReferenceRsMixIdeal.τ).loc Cert.ReferenceRsMixIdeal.main_arg0) = m ((c.tc : Thread Cert.KernelRsMixIdeal.nD Cert.KernelRsMixIdeal.τ).loc Cert.KernelRsMixIdeal.main_arg0)
      ∧ m' ((c.tc : Thread Cert.ReferenceRsMixIdeal.nD Cert.ReferenceRsMixIdeal.τ).loc Cert.ReferenceRsMixIdeal.main_arg1) = m ((c.tc : Thread Cert.KernelRsMixIdeal.nD Cert.KernelRsMixIdeal.τ).loc Cert.KernelRsMixIdeal.main_arg1)
      ∧ m' ((c.tc : Thread Cert.ReferenceRsMixIdeal.nD Cert.ReferenceRsMixIdeal.τ).loc Cert.ReferenceRsMixIdeal.main_arg2) = m ((c.tc : Thread Cert.KernelRsMixIdeal.nD Cert.KernelRsMixIdeal.τ).loc Cert.KernelRsMixIdeal.main_arg2)
      ∧ m' ((c.tc : Thread Cert.ReferenceRsMixIdeal.nD Cert.ReferenceRsMixIdeal.τ).loc Cert.ReferenceRsMixIdeal.main_arg3) = m ((c.tc : Thread Cert.KernelRsMixIdeal.nD Cert.KernelRsMixIdeal.τ).loc Cert.KernelRsMixIdeal.main_arg3)
      ∧ m' ((c.tc : Thread Cert.ReferenceRsMixIdeal.nD Cert.ReferenceRsMixIdeal.τ).loc Cert.ReferenceRsMixIdeal.main_arg4) = m ((c.tc : Thread Cert.KernelRsMixIdeal.nD Cert.KernelRsMixIdeal.τ).loc Cert.KernelRsMixIdeal.main_arg4)
      ∧ m' ((c.tc : Thread Cert.ReferenceRsMixIdeal.nD Cert.ReferenceRsMixIdeal.τ).loc Cert.ReferenceRsMixIdeal.main_arg5) = m ((c.tc : Thread Cert.KernelRsMixIdeal.nD Cert.KernelRsMixIdeal.τ).loc Cert.KernelRsMixIdeal.main_arg5)) →
    ∃ (v0 : (c : Dev Cert.KernelRsMixIdeal.nD) → Buf (Elt Ideal) ((c.tc : Thread Cert.KernelRsMixIdeal.nD Cert.KernelRsMixIdeal.τ).loc Cert.KernelRsMixIdeal.main_v5)) (v1 : (c : Dev Cert.KernelRsMixIdeal.nD) → Buf (Elt Ideal) ((c.tc : Thread Cert.KernelRsMixIdeal.nD Cert.KernelRsMixIdeal.τ).loc Cert.KernelRsMixIdeal.main_v7)) (v2 : (c : Dev Cert.KernelRsMixIdeal.nD) → Buf (Elt Ideal) ((c.tc : Thread Cert.KernelRsMixIdeal.nD Cert.KernelRsMixIdeal.τ).loc Cert.KernelRsMixIdeal.main_v9)),
      θ_run (Cert.KernelRsMixIdeal.defs (F := Ideal)) (onTc (τ := Cert.KernelRsMixIdeal.τ) (Cert.KernelRsMixIdeal.main (F := Ideal))) ⟨m, fun _ => 0, g⟩ (fun r => ∀ c : Dev Cert.KernelRsMixIdeal.nD,
          r.2.mem ((c.tc : Thread Cert.KernelRsMixIdeal.nD Cert.KernelRsMixIdeal.τ).loc Cert.KernelRsMixIdeal.main_v5) = v0 c
          ∧ r.2.mem ((c.tc : Thread Cert.KernelRsMixIdeal.nD Cert.KernelRsMixIdeal.τ).loc Cert.KernelRsMixIdeal.main_v7) = v1 c
          ∧ r.2.mem ((c.tc : Thread Cert.KernelRsMixIdeal.nD Cert.KernelRsMixIdeal.τ).loc Cert.KernelRsMixIdeal.main_v9) = v2 c
          ∧ r.2.mem ((c.tc : Thread Cert.KernelRsMixIdeal.nD Cert.KernelRsMixIdeal.τ).loc Cert.KernelRsMixIdeal.main_arg0) = m ((c.tc : Thread Cert.KernelRsMixIdeal.nD Cert.KernelRsMixIdeal.τ).loc Cert.KernelRsMixIdeal.main_arg0)
          ∧ r.2.mem ((c.tc : Thread Cert.KernelRsMixIdeal.nD Cert.KernelRsMixIdeal.τ).loc Cert.KernelRsMixIdeal.main_arg1) = m ((c.tc : Thread Cert.KernelRsMixIdeal.nD Cert.KernelRsMixIdeal.τ).loc Cert.KernelRsMixIdeal.main_arg1)
          ∧ r.2.mem ((c.tc : Thread Cert.KernelRsMixIdeal.nD Cert.KernelRsMixIdeal.τ).loc Cert.KernelRsMixIdeal.main_arg2) = m ((c.tc : Thread Cert.KernelRsMixIdeal.nD Cert.KernelRsMixIdeal.τ).loc Cert.KernelRsMixIdeal.main_arg2)
          ∧ r.2.mem ((c.tc : Thread Cert.KernelRsMixIdeal.nD Cert.KernelRsMixIdeal.τ).loc Cert.KernelRsMixIdeal.main_arg3) = m ((c.tc : Thread Cert.KernelRsMixIdeal.nD Cert.KernelRsMixIdeal.τ).loc Cert.KernelRsMixIdeal.main_arg3)
          ∧ r.2.mem ((c.tc : Thread Cert.KernelRsMixIdeal.nD Cert.KernelRsMixIdeal.τ).loc Cert.KernelRsMixIdeal.main_arg4) = m ((c.tc : Thread Cert.KernelRsMixIdeal.nD Cert.KernelRsMixIdeal.τ).loc Cert.KernelRsMixIdeal.main_arg4)
          ∧ r.2.mem ((c.tc : Thread Cert.KernelRsMixIdeal.nD Cert.KernelRsMixIdeal.τ).loc Cert.KernelRsMixIdeal.main_arg5) = m ((c.tc : Thread Cert.KernelRsMixIdeal.nD Cert.KernelRsMixIdeal.τ).loc Cert.KernelRsMixIdeal.main_arg5))
      ∧ θ_run (Cert.ReferenceRsMixIdeal.defs (F := Ideal)) (onTc (τ := Cert.ReferenceRsMixIdeal.τ) (Cert.ReferenceRsMixIdeal.main (F := Ideal))) ⟨m', fun _ => 0, g'⟩ (fun r => ∀ c : Dev Cert.ReferenceRsMixIdeal.nD,
          r.2.mem ((c.tc : Thread Cert.ReferenceRsMixIdeal.nD Cert.ReferenceRsMixIdeal.τ).loc Cert.ReferenceRsMixIdeal.main_v4) = v0 c
          ∧ r.2.mem ((c.tc : Thread Cert.ReferenceRsMixIdeal.nD Cert.ReferenceRsMixIdeal.τ).loc Cert.ReferenceRsMixIdeal.main_v9) = v1 c
          ∧ r.2.mem ((c.tc : Thread Cert.ReferenceRsMixIdeal.nD Cert.ReferenceRsMixIdeal.τ).loc Cert.ReferenceRsMixIdeal.main_v14) = v2 c
          ∧ r.2.mem ((c.tc : Thread Cert.ReferenceRsMixIdeal.nD Cert.ReferenceRsMixIdeal.τ).loc Cert.ReferenceRsMixIdeal.main_arg0) = m' ((c.tc : Thread Cert.ReferenceRsMixIdeal.nD Cert.ReferenceRsMixIdeal.τ).loc Cert.ReferenceRsMixIdeal.main_arg0)
          ∧ r.2.mem ((c.tc : Thread Cert.ReferenceRsMixIdeal.nD Cert.ReferenceRsMixIdeal.τ).loc Cert.ReferenceRsMixIdeal.main_arg1) = m' ((c.tc : Thread Cert.ReferenceRsMixIdeal.nD Cert.ReferenceRsMixIdeal.τ).loc Cert.ReferenceRsMixIdeal.main_arg1)
          ∧ r.2.mem ((c.tc : Thread Cert.ReferenceRsMixIdeal.nD Cert.ReferenceRsMixIdeal.τ).loc Cert.ReferenceRsMixIdeal.main_arg2) = m' ((c.tc : Thread Cert.ReferenceRsMixIdeal.nD Cert.ReferenceRsMixIdeal.τ).loc Cert.ReferenceRsMixIdeal.main_arg2)
          ∧ r.2.mem ((c.tc : Thread Cert.ReferenceRsMixIdeal.nD Cert.ReferenceRsMixIdeal.τ).loc Cert.ReferenceRsMixIdeal.main_arg3) = m' ((c.tc : Thread Cert.ReferenceRsMixIdeal.nD Cert.ReferenceRsMixIdeal.τ).loc Cert.ReferenceRsMixIdeal.main_arg3)
          ∧ r.2.mem ((c.tc : Thread Cert.ReferenceRsMixIdeal.nD Cert.ReferenceRsMixIdeal.τ).loc Cert.ReferenceRsMixIdeal.main_arg4) = m' ((c.tc : Thread Cert.ReferenceRsMixIdeal.nD Cert.ReferenceRsMixIdeal.τ).loc Cert.ReferenceRsMixIdeal.main_arg4)
          ∧ r.2.mem ((c.tc : Thread Cert.ReferenceRsMixIdeal.nD Cert.ReferenceRsMixIdeal.τ).loc Cert.ReferenceRsMixIdeal.main_arg5) = m' ((c.tc : Thread Cert.ReferenceRsMixIdeal.nD Cert.ReferenceRsMixIdeal.τ).loc Cert.ReferenceRsMixIdeal.main_arg5))

def preserves_KernelRsFfn_KernelRsFfnIdeal : Prop :=
  True

def algebraic_KernelRsFfnIdeal_ReferenceRsFfnIdeal [hKernelRsFfnIdeal : Cert.KernelRsFfnIdeal.Facts] [hReferenceRsFfnIdeal : Cert.ReferenceRsFfnIdeal.Facts] : Prop :=
  ∀ (m : (ℓ : Loc Cert.KernelRsFfnIdeal.nD Cert.KernelRsFfnIdeal.τ Cert.KernelRsFfnIdeal.sig) → Buf (Elt Ideal) ℓ) (g : Dev Cert.KernelRsFfnIdeal.nD → PrngReg)
    (m' : (ℓ : Loc Cert.ReferenceRsFfnIdeal.nD Cert.ReferenceRsFfnIdeal.τ Cert.ReferenceRsFfnIdeal.sig) → Buf (Elt Ideal) ℓ) (g' : Dev Cert.ReferenceRsFfnIdeal.nD → PrngReg), Pre_KernelRsFfnIdeal m →
    (∀ c : Dev Cert.KernelRsFfnIdeal.nD,
      m' ((c.tc : Thread Cert.ReferenceRsFfnIdeal.nD Cert.ReferenceRsFfnIdeal.τ).loc Cert.ReferenceRsFfnIdeal.main_arg0) = m ((c.tc : Thread Cert.KernelRsFfnIdeal.nD Cert.KernelRsFfnIdeal.τ).loc Cert.KernelRsFfnIdeal.main_arg0)
      ∧ m' ((c.tc : Thread Cert.ReferenceRsFfnIdeal.nD Cert.ReferenceRsFfnIdeal.τ).loc Cert.ReferenceRsFfnIdeal.main_arg1) = m ((c.tc : Thread Cert.KernelRsFfnIdeal.nD Cert.KernelRsFfnIdeal.τ).loc Cert.KernelRsFfnIdeal.main_arg1)
      ∧ m' ((c.tc : Thread Cert.ReferenceRsFfnIdeal.nD Cert.ReferenceRsFfnIdeal.τ).loc Cert.ReferenceRsFfnIdeal.main_arg2) = m ((c.tc : Thread Cert.KernelRsFfnIdeal.nD Cert.KernelRsFfnIdeal.τ).loc Cert.KernelRsFfnIdeal.main_arg2)
      ∧ m' ((c.tc : Thread Cert.ReferenceRsFfnIdeal.nD Cert.ReferenceRsFfnIdeal.τ).loc Cert.ReferenceRsFfnIdeal.main_arg3) = m ((c.tc : Thread Cert.KernelRsFfnIdeal.nD Cert.KernelRsFfnIdeal.τ).loc Cert.KernelRsFfnIdeal.main_arg3)
      ∧ m' ((c.tc : Thread Cert.ReferenceRsFfnIdeal.nD Cert.ReferenceRsFfnIdeal.τ).loc Cert.ReferenceRsFfnIdeal.main_arg4) = m ((c.tc : Thread Cert.KernelRsFfnIdeal.nD Cert.KernelRsFfnIdeal.τ).loc Cert.KernelRsFfnIdeal.main_arg4)
      ∧ m' ((c.tc : Thread Cert.ReferenceRsFfnIdeal.nD Cert.ReferenceRsFfnIdeal.τ).loc Cert.ReferenceRsFfnIdeal.main_arg5) = m ((c.tc : Thread Cert.KernelRsFfnIdeal.nD Cert.KernelRsFfnIdeal.τ).loc Cert.KernelRsFfnIdeal.main_arg5)) →
    ∃ (v0 : (c : Dev Cert.KernelRsFfnIdeal.nD) → Buf (Elt Ideal) ((c.tc : Thread Cert.KernelRsFfnIdeal.nD Cert.KernelRsFfnIdeal.τ).loc Cert.KernelRsFfnIdeal.main_v5)) (v1 : (c : Dev Cert.KernelRsFfnIdeal.nD) → Buf (Elt Ideal) ((c.tc : Thread Cert.KernelRsFfnIdeal.nD Cert.KernelRsFfnIdeal.τ).loc Cert.KernelRsFfnIdeal.main_v7)) (v2 : (c : Dev Cert.KernelRsFfnIdeal.nD) → Buf (Elt Ideal) ((c.tc : Thread Cert.KernelRsFfnIdeal.nD Cert.KernelRsFfnIdeal.τ).loc Cert.KernelRsFfnIdeal.main_v9)),
      θ_run (Cert.KernelRsFfnIdeal.defs (F := Ideal)) (onTc (τ := Cert.KernelRsFfnIdeal.τ) (Cert.KernelRsFfnIdeal.main (F := Ideal))) ⟨m, fun _ => 0, g⟩ (fun r => ∀ c : Dev Cert.KernelRsFfnIdeal.nD,
          r.2.mem ((c.tc : Thread Cert.KernelRsFfnIdeal.nD Cert.KernelRsFfnIdeal.τ).loc Cert.KernelRsFfnIdeal.main_v5) = v0 c
          ∧ r.2.mem ((c.tc : Thread Cert.KernelRsFfnIdeal.nD Cert.KernelRsFfnIdeal.τ).loc Cert.KernelRsFfnIdeal.main_v7) = v1 c
          ∧ r.2.mem ((c.tc : Thread Cert.KernelRsFfnIdeal.nD Cert.KernelRsFfnIdeal.τ).loc Cert.KernelRsFfnIdeal.main_v9) = v2 c
          ∧ r.2.mem ((c.tc : Thread Cert.KernelRsFfnIdeal.nD Cert.KernelRsFfnIdeal.τ).loc Cert.KernelRsFfnIdeal.main_arg0) = m ((c.tc : Thread Cert.KernelRsFfnIdeal.nD Cert.KernelRsFfnIdeal.τ).loc Cert.KernelRsFfnIdeal.main_arg0)
          ∧ r.2.mem ((c.tc : Thread Cert.KernelRsFfnIdeal.nD Cert.KernelRsFfnIdeal.τ).loc Cert.KernelRsFfnIdeal.main_arg1) = m ((c.tc : Thread Cert.KernelRsFfnIdeal.nD Cert.KernelRsFfnIdeal.τ).loc Cert.KernelRsFfnIdeal.main_arg1)
          ∧ r.2.mem ((c.tc : Thread Cert.KernelRsFfnIdeal.nD Cert.KernelRsFfnIdeal.τ).loc Cert.KernelRsFfnIdeal.main_arg2) = m ((c.tc : Thread Cert.KernelRsFfnIdeal.nD Cert.KernelRsFfnIdeal.τ).loc Cert.KernelRsFfnIdeal.main_arg2)
          ∧ r.2.mem ((c.tc : Thread Cert.KernelRsFfnIdeal.nD Cert.KernelRsFfnIdeal.τ).loc Cert.KernelRsFfnIdeal.main_arg3) = m ((c.tc : Thread Cert.KernelRsFfnIdeal.nD Cert.KernelRsFfnIdeal.τ).loc Cert.KernelRsFfnIdeal.main_arg3)
          ∧ r.2.mem ((c.tc : Thread Cert.KernelRsFfnIdeal.nD Cert.KernelRsFfnIdeal.τ).loc Cert.KernelRsFfnIdeal.main_arg4) = m ((c.tc : Thread Cert.KernelRsFfnIdeal.nD Cert.KernelRsFfnIdeal.τ).loc Cert.KernelRsFfnIdeal.main_arg4)
          ∧ r.2.mem ((c.tc : Thread Cert.KernelRsFfnIdeal.nD Cert.KernelRsFfnIdeal.τ).loc Cert.KernelRsFfnIdeal.main_arg5) = m ((c.tc : Thread Cert.KernelRsFfnIdeal.nD Cert.KernelRsFfnIdeal.τ).loc Cert.KernelRsFfnIdeal.main_arg5))
      ∧ θ_run (Cert.ReferenceRsFfnIdeal.defs (F := Ideal)) (onTc (τ := Cert.ReferenceRsFfnIdeal.τ) (Cert.ReferenceRsFfnIdeal.main (F := Ideal))) ⟨m', fun _ => 0, g'⟩ (fun r => ∀ c : Dev Cert.ReferenceRsFfnIdeal.nD,
          r.2.mem ((c.tc : Thread Cert.ReferenceRsFfnIdeal.nD Cert.ReferenceRsFfnIdeal.τ).loc Cert.ReferenceRsFfnIdeal.main_v4) = v0 c
          ∧ r.2.mem ((c.tc : Thread Cert.ReferenceRsFfnIdeal.nD Cert.ReferenceRsFfnIdeal.τ).loc Cert.ReferenceRsFfnIdeal.main_v9) = v1 c
          ∧ r.2.mem ((c.tc : Thread Cert.ReferenceRsFfnIdeal.nD Cert.ReferenceRsFfnIdeal.τ).loc Cert.ReferenceRsFfnIdeal.main_v14) = v2 c
          ∧ r.2.mem ((c.tc : Thread Cert.ReferenceRsFfnIdeal.nD Cert.ReferenceRsFfnIdeal.τ).loc Cert.ReferenceRsFfnIdeal.main_arg0) = m' ((c.tc : Thread Cert.ReferenceRsFfnIdeal.nD Cert.ReferenceRsFfnIdeal.τ).loc Cert.ReferenceRsFfnIdeal.main_arg0)
          ∧ r.2.mem ((c.tc : Thread Cert.ReferenceRsFfnIdeal.nD Cert.ReferenceRsFfnIdeal.τ).loc Cert.ReferenceRsFfnIdeal.main_arg1) = m' ((c.tc : Thread Cert.ReferenceRsFfnIdeal.nD Cert.ReferenceRsFfnIdeal.τ).loc Cert.ReferenceRsFfnIdeal.main_arg1)
          ∧ r.2.mem ((c.tc : Thread Cert.ReferenceRsFfnIdeal.nD Cert.ReferenceRsFfnIdeal.τ).loc Cert.ReferenceRsFfnIdeal.main_arg2) = m' ((c.tc : Thread Cert.ReferenceRsFfnIdeal.nD Cert.ReferenceRsFfnIdeal.τ).loc Cert.ReferenceRsFfnIdeal.main_arg2)
          ∧ r.2.mem ((c.tc : Thread Cert.ReferenceRsFfnIdeal.nD Cert.ReferenceRsFfnIdeal.τ).loc Cert.ReferenceRsFfnIdeal.main_arg3) = m' ((c.tc : Thread Cert.ReferenceRsFfnIdeal.nD Cert.ReferenceRsFfnIdeal.τ).loc Cert.ReferenceRsFfnIdeal.main_arg3)
          ∧ r.2.mem ((c.tc : Thread Cert.ReferenceRsFfnIdeal.nD Cert.ReferenceRsFfnIdeal.τ).loc Cert.ReferenceRsFfnIdeal.main_arg4) = m' ((c.tc : Thread Cert.ReferenceRsFfnIdeal.nD Cert.ReferenceRsFfnIdeal.τ).loc Cert.ReferenceRsFfnIdeal.main_arg4)
          ∧ r.2.mem ((c.tc : Thread Cert.ReferenceRsFfnIdeal.nD Cert.ReferenceRsFfnIdeal.τ).loc Cert.ReferenceRsFfnIdeal.main_arg5) = m' ((c.tc : Thread Cert.ReferenceRsFfnIdeal.nD Cert.ReferenceRsFfnIdeal.τ).loc Cert.ReferenceRsFfnIdeal.main_arg5))

def preserves_KernelSibMix_KernelSibMixIdeal : Prop :=
  True

def algebraic_KernelSibMixIdeal_ReferenceSibMixIdeal [hKernelSibMixIdeal : Cert.KernelSibMixIdeal.Facts] [hReferenceSibMixIdeal : Cert.ReferenceSibMixIdeal.Facts] : Prop :=
  ∀ (m : (ℓ : Loc Cert.KernelSibMixIdeal.nD Cert.KernelSibMixIdeal.τ Cert.KernelSibMixIdeal.sig) → Buf (Elt Ideal) ℓ) (g : Dev Cert.KernelSibMixIdeal.nD → PrngReg)
    (m' : (ℓ : Loc Cert.ReferenceSibMixIdeal.nD Cert.ReferenceSibMixIdeal.τ Cert.ReferenceSibMixIdeal.sig) → Buf (Elt Ideal) ℓ) (g' : Dev Cert.ReferenceSibMixIdeal.nD → PrngReg), Pre_KernelSibMixIdeal m →
    (∀ c : Dev Cert.KernelSibMixIdeal.nD,
      m' ((c.tc : Thread Cert.ReferenceSibMixIdeal.nD Cert.ReferenceSibMixIdeal.τ).loc Cert.ReferenceSibMixIdeal.main_arg0) = m ((c.tc : Thread Cert.KernelSibMixIdeal.nD Cert.KernelSibMixIdeal.τ).loc Cert.KernelSibMixIdeal.main_arg0)
      ∧ m' ((c.tc : Thread Cert.ReferenceSibMixIdeal.nD Cert.ReferenceSibMixIdeal.τ).loc Cert.ReferenceSibMixIdeal.main_arg1) = m ((c.tc : Thread Cert.KernelSibMixIdeal.nD Cert.KernelSibMixIdeal.τ).loc Cert.KernelSibMixIdeal.main_arg1)
      ∧ m' ((c.tc : Thread Cert.ReferenceSibMixIdeal.nD Cert.ReferenceSibMixIdeal.τ).loc Cert.ReferenceSibMixIdeal.main_arg2) = m ((c.tc : Thread Cert.KernelSibMixIdeal.nD Cert.KernelSibMixIdeal.τ).loc Cert.KernelSibMixIdeal.main_arg2)
      ∧ m' ((c.tc : Thread Cert.ReferenceSibMixIdeal.nD Cert.ReferenceSibMixIdeal.τ).loc Cert.ReferenceSibMixIdeal.main_arg3) = m ((c.tc : Thread Cert.KernelSibMixIdeal.nD Cert.KernelSibMixIdeal.τ).loc Cert.KernelSibMixIdeal.main_arg3)
      ∧ m' ((c.tc : Thread Cert.ReferenceSibMixIdeal.nD Cert.ReferenceSibMixIdeal.τ).loc Cert.ReferenceSibMixIdeal.main_arg4) = m ((c.tc : Thread Cert.KernelSibMixIdeal.nD Cert.KernelSibMixIdeal.τ).loc Cert.KernelSibMixIdeal.main_arg4)
      ∧ m' ((c.tc : Thread Cert.ReferenceSibMixIdeal.nD Cert.ReferenceSibMixIdeal.τ).loc Cert.ReferenceSibMixIdeal.main_arg5) = m ((c.tc : Thread Cert.KernelSibMixIdeal.nD Cert.KernelSibMixIdeal.τ).loc Cert.KernelSibMixIdeal.main_arg5)
      ∧ m' ((c.tc : Thread Cert.ReferenceSibMixIdeal.nD Cert.ReferenceSibMixIdeal.τ).loc Cert.ReferenceSibMixIdeal.main_arg6) = m ((c.tc : Thread Cert.KernelSibMixIdeal.nD Cert.KernelSibMixIdeal.τ).loc Cert.KernelSibMixIdeal.main_arg6)
      ∧ m' ((c.tc : Thread Cert.ReferenceSibMixIdeal.nD Cert.ReferenceSibMixIdeal.τ).loc Cert.ReferenceSibMixIdeal.main_arg7) = m ((c.tc : Thread Cert.KernelSibMixIdeal.nD Cert.KernelSibMixIdeal.τ).loc Cert.KernelSibMixIdeal.main_arg7)) →
    ∃ (v0 : (c : Dev Cert.KernelSibMixIdeal.nD) → Buf (Elt Ideal) ((c.tc : Thread Cert.KernelSibMixIdeal.nD Cert.KernelSibMixIdeal.τ).loc Cert.KernelSibMixIdeal.main_v1_0)) (v1 : (c : Dev Cert.KernelSibMixIdeal.nD) → Buf (Elt Ideal) ((c.tc : Thread Cert.KernelSibMixIdeal.nD Cert.KernelSibMixIdeal.τ).loc Cert.KernelSibMixIdeal.main_v1_1)) (v2 : (c : Dev Cert.KernelSibMixIdeal.nD) → Buf (Elt Ideal) ((c.tc : Thread Cert.KernelSibMixIdeal.nD Cert.KernelSibMixIdeal.τ).loc Cert.KernelSibMixIdeal.main_v1_2)) (v3 : (c : Dev Cert.KernelSibMixIdeal.nD) → Buf (Elt Ideal) ((c.tc : Thread Cert.KernelSibMixIdeal.nD Cert.KernelSibMixIdeal.τ).loc Cert.KernelSibMixIdeal.main_v1_3)) (v4 : (c : Dev Cert.KernelSibMixIdeal.nD) → Buf (Elt Ideal) ((c.tc : Thread Cert.KernelSibMixIdeal.nD Cert.KernelSibMixIdeal.τ).loc Cert.KernelSibMixIdeal.main_v1_4)) (v5 : (c : Dev Cert.KernelSibMixIdeal.nD) → Buf (Elt Ideal) ((c.tc : Thread Cert.KernelSibMixIdeal.nD Cert.KernelSibMixIdeal.τ).loc Cert.KernelSibMixIdeal.main_v1_5)) (v6 : (c : Dev Cert.KernelSibMixIdeal.nD) → Buf (Elt Ideal) ((c.tc : Thread Cert.KernelSibMixIdeal.nD Cert.KernelSibMixIdeal.τ).loc Cert.KernelSibMixIdeal.main_v1_6)) (v7 : (c : Dev Cert.KernelSibMixIdeal.nD) → Buf (Elt Ideal) ((c.tc : Thread Cert.KernelSibMixIdeal.nD Cert.KernelSibMixIdeal.τ).loc Cert.KernelSibMixIdeal.main_v1_7)),
      θ_run (Cert.KernelSibMixIdeal.defs (F := Ideal)) (onTc (τ := Cert.KernelSibMixIdeal.τ) (Cert.KernelSibMixIdeal.main (F := Ideal))) ⟨m, fun _ => 0, g⟩ (fun r => ∀ c : Dev Cert.KernelSibMixIdeal.nD,
          r.2.mem ((c.tc : Thread Cert.KernelSibMixIdeal.nD Cert.KernelSibMixIdeal.τ).loc Cert.KernelSibMixIdeal.main_v1_0) = v0 c
          ∧ r.2.mem ((c.tc : Thread Cert.KernelSibMixIdeal.nD Cert.KernelSibMixIdeal.τ).loc Cert.KernelSibMixIdeal.main_v1_1) = v1 c
          ∧ r.2.mem ((c.tc : Thread Cert.KernelSibMixIdeal.nD Cert.KernelSibMixIdeal.τ).loc Cert.KernelSibMixIdeal.main_v1_2) = v2 c
          ∧ r.2.mem ((c.tc : Thread Cert.KernelSibMixIdeal.nD Cert.KernelSibMixIdeal.τ).loc Cert.KernelSibMixIdeal.main_v1_3) = v3 c
          ∧ r.2.mem ((c.tc : Thread Cert.KernelSibMixIdeal.nD Cert.KernelSibMixIdeal.τ).loc Cert.KernelSibMixIdeal.main_v1_4) = v4 c
          ∧ r.2.mem ((c.tc : Thread Cert.KernelSibMixIdeal.nD Cert.KernelSibMixIdeal.τ).loc Cert.KernelSibMixIdeal.main_v1_5) = v5 c
          ∧ r.2.mem ((c.tc : Thread Cert.KernelSibMixIdeal.nD Cert.KernelSibMixIdeal.τ).loc Cert.KernelSibMixIdeal.main_v1_6) = v6 c
          ∧ r.2.mem ((c.tc : Thread Cert.KernelSibMixIdeal.nD Cert.KernelSibMixIdeal.τ).loc Cert.KernelSibMixIdeal.main_v1_7) = v7 c
          ∧ r.2.mem ((c.tc : Thread Cert.KernelSibMixIdeal.nD Cert.KernelSibMixIdeal.τ).loc Cert.KernelSibMixIdeal.main_arg0) = m ((c.tc : Thread Cert.KernelSibMixIdeal.nD Cert.KernelSibMixIdeal.τ).loc Cert.KernelSibMixIdeal.main_arg0)
          ∧ r.2.mem ((c.tc : Thread Cert.KernelSibMixIdeal.nD Cert.KernelSibMixIdeal.τ).loc Cert.KernelSibMixIdeal.main_arg1) = m ((c.tc : Thread Cert.KernelSibMixIdeal.nD Cert.KernelSibMixIdeal.τ).loc Cert.KernelSibMixIdeal.main_arg1)
          ∧ r.2.mem ((c.tc : Thread Cert.KernelSibMixIdeal.nD Cert.KernelSibMixIdeal.τ).loc Cert.KernelSibMixIdeal.main_arg2) = m ((c.tc : Thread Cert.KernelSibMixIdeal.nD Cert.KernelSibMixIdeal.τ).loc Cert.KernelSibMixIdeal.main_arg2)
          ∧ r.2.mem ((c.tc : Thread Cert.KernelSibMixIdeal.nD Cert.KernelSibMixIdeal.τ).loc Cert.KernelSibMixIdeal.main_arg3) = m ((c.tc : Thread Cert.KernelSibMixIdeal.nD Cert.KernelSibMixIdeal.τ).loc Cert.KernelSibMixIdeal.main_arg3)
          ∧ r.2.mem ((c.tc : Thread Cert.KernelSibMixIdeal.nD Cert.KernelSibMixIdeal.τ).loc Cert.KernelSibMixIdeal.main_arg4) = m ((c.tc : Thread Cert.KernelSibMixIdeal.nD Cert.KernelSibMixIdeal.τ).loc Cert.KernelSibMixIdeal.main_arg4)
          ∧ r.2.mem ((c.tc : Thread Cert.KernelSibMixIdeal.nD Cert.KernelSibMixIdeal.τ).loc Cert.KernelSibMixIdeal.main_arg5) = m ((c.tc : Thread Cert.KernelSibMixIdeal.nD Cert.KernelSibMixIdeal.τ).loc Cert.KernelSibMixIdeal.main_arg5)
          ∧ r.2.mem ((c.tc : Thread Cert.KernelSibMixIdeal.nD Cert.KernelSibMixIdeal.τ).loc Cert.KernelSibMixIdeal.main_arg6) = m ((c.tc : Thread Cert.KernelSibMixIdeal.nD Cert.KernelSibMixIdeal.τ).loc Cert.KernelSibMixIdeal.main_arg6)
          ∧ r.2.mem ((c.tc : Thread Cert.KernelSibMixIdeal.nD Cert.KernelSibMixIdeal.τ).loc Cert.KernelSibMixIdeal.main_arg7) = m ((c.tc : Thread Cert.KernelSibMixIdeal.nD Cert.KernelSibMixIdeal.τ).loc Cert.KernelSibMixIdeal.main_arg7))
      ∧ θ_run (Cert.ReferenceSibMixIdeal.defs (F := Ideal)) (onTc (τ := Cert.ReferenceSibMixIdeal.τ) (Cert.ReferenceSibMixIdeal.main (F := Ideal))) ⟨m', fun _ => 0, g'⟩ (fun r => ∀ c : Dev Cert.ReferenceSibMixIdeal.nD,
          r.2.mem ((c.tc : Thread Cert.ReferenceSibMixIdeal.nD Cert.ReferenceSibMixIdeal.τ).loc Cert.ReferenceSibMixIdeal.main_v1) = v0 c
          ∧ r.2.mem ((c.tc : Thread Cert.ReferenceSibMixIdeal.nD Cert.ReferenceSibMixIdeal.τ).loc Cert.ReferenceSibMixIdeal.main_v3) = v1 c
          ∧ r.2.mem ((c.tc : Thread Cert.ReferenceSibMixIdeal.nD Cert.ReferenceSibMixIdeal.τ).loc Cert.ReferenceSibMixIdeal.main_v5) = v2 c
          ∧ r.2.mem ((c.tc : Thread Cert.ReferenceSibMixIdeal.nD Cert.ReferenceSibMixIdeal.τ).loc Cert.ReferenceSibMixIdeal.main_v7) = v3 c
          ∧ r.2.mem ((c.tc : Thread Cert.ReferenceSibMixIdeal.nD Cert.ReferenceSibMixIdeal.τ).loc Cert.ReferenceSibMixIdeal.main_v8) = v4 c
          ∧ r.2.mem ((c.tc : Thread Cert.ReferenceSibMixIdeal.nD Cert.ReferenceSibMixIdeal.τ).loc Cert.ReferenceSibMixIdeal.main_v9) = v5 c
          ∧ r.2.mem ((c.tc : Thread Cert.ReferenceSibMixIdeal.nD Cert.ReferenceSibMixIdeal.τ).loc Cert.ReferenceSibMixIdeal.main_v10) = v6 c
          ∧ r.2.mem ((c.tc : Thread Cert.ReferenceSibMixIdeal.nD Cert.ReferenceSibMixIdeal.τ).loc Cert.ReferenceSibMixIdeal.main_v11) = v7 c
          ∧ r.2.mem ((c.tc : Thread Cert.ReferenceSibMixIdeal.nD Cert.ReferenceSibMixIdeal.τ).loc Cert.ReferenceSibMixIdeal.main_arg0) = m' ((c.tc : Thread Cert.ReferenceSibMixIdeal.nD Cert.ReferenceSibMixIdeal.τ).loc Cert.ReferenceSibMixIdeal.main_arg0)
          ∧ r.2.mem ((c.tc : Thread Cert.ReferenceSibMixIdeal.nD Cert.ReferenceSibMixIdeal.τ).loc Cert.ReferenceSibMixIdeal.main_arg1) = m' ((c.tc : Thread Cert.ReferenceSibMixIdeal.nD Cert.ReferenceSibMixIdeal.τ).loc Cert.ReferenceSibMixIdeal.main_arg1)
          ∧ r.2.mem ((c.tc : Thread Cert.ReferenceSibMixIdeal.nD Cert.ReferenceSibMixIdeal.τ).loc Cert.ReferenceSibMixIdeal.main_arg2) = m' ((c.tc : Thread Cert.ReferenceSibMixIdeal.nD Cert.ReferenceSibMixIdeal.τ).loc Cert.ReferenceSibMixIdeal.main_arg2)
          ∧ r.2.mem ((c.tc : Thread Cert.ReferenceSibMixIdeal.nD Cert.ReferenceSibMixIdeal.τ).loc Cert.ReferenceSibMixIdeal.main_arg3) = m' ((c.tc : Thread Cert.ReferenceSibMixIdeal.nD Cert.ReferenceSibMixIdeal.τ).loc Cert.ReferenceSibMixIdeal.main_arg3)
          ∧ r.2.mem ((c.tc : Thread Cert.ReferenceSibMixIdeal.nD Cert.ReferenceSibMixIdeal.τ).loc Cert.ReferenceSibMixIdeal.main_arg4) = m' ((c.tc : Thread Cert.ReferenceSibMixIdeal.nD Cert.ReferenceSibMixIdeal.τ).loc Cert.ReferenceSibMixIdeal.main_arg4)
          ∧ r.2.mem ((c.tc : Thread Cert.ReferenceSibMixIdeal.nD Cert.ReferenceSibMixIdeal.τ).loc Cert.ReferenceSibMixIdeal.main_arg5) = m' ((c.tc : Thread Cert.ReferenceSibMixIdeal.nD Cert.ReferenceSibMixIdeal.τ).loc Cert.ReferenceSibMixIdeal.main_arg5)
          ∧ r.2.mem ((c.tc : Thread Cert.ReferenceSibMixIdeal.nD Cert.ReferenceSibMixIdeal.τ).loc Cert.ReferenceSibMixIdeal.main_arg6) = m' ((c.tc : Thread Cert.ReferenceSibMixIdeal.nD Cert.ReferenceSibMixIdeal.τ).loc Cert.ReferenceSibMixIdeal.main_arg6)
          ∧ r.2.mem ((c.tc : Thread Cert.ReferenceSibMixIdeal.nD Cert.ReferenceSibMixIdeal.τ).loc Cert.ReferenceSibMixIdeal.main_arg7) = m' ((c.tc : Thread Cert.ReferenceSibMixIdeal.nD Cert.ReferenceSibMixIdeal.τ).loc Cert.ReferenceSibMixIdeal.main_arg7))

def preserves_KernelSibFfn_KernelSibFfnIdeal : Prop :=
  True

def algebraic_KernelSibFfnIdeal_ReferenceSibFfnIdeal [hKernelSibFfnIdeal : Cert.KernelSibFfnIdeal.Facts] [hReferenceSibFfnIdeal : Cert.ReferenceSibFfnIdeal.Facts] : Prop :=
  ∀ (m : (ℓ : Loc Cert.KernelSibFfnIdeal.nD Cert.KernelSibFfnIdeal.τ Cert.KernelSibFfnIdeal.sig) → Buf (Elt Ideal) ℓ) (g : Dev Cert.KernelSibFfnIdeal.nD → PrngReg)
    (m' : (ℓ : Loc Cert.ReferenceSibFfnIdeal.nD Cert.ReferenceSibFfnIdeal.τ Cert.ReferenceSibFfnIdeal.sig) → Buf (Elt Ideal) ℓ) (g' : Dev Cert.ReferenceSibFfnIdeal.nD → PrngReg), Pre_KernelSibFfnIdeal m →
    (∀ c : Dev Cert.KernelSibFfnIdeal.nD,
      m' ((c.tc : Thread Cert.ReferenceSibFfnIdeal.nD Cert.ReferenceSibFfnIdeal.τ).loc Cert.ReferenceSibFfnIdeal.main_arg0) = m ((c.tc : Thread Cert.KernelSibFfnIdeal.nD Cert.KernelSibFfnIdeal.τ).loc Cert.KernelSibFfnIdeal.main_arg0)
      ∧ m' ((c.tc : Thread Cert.ReferenceSibFfnIdeal.nD Cert.ReferenceSibFfnIdeal.τ).loc Cert.ReferenceSibFfnIdeal.main_arg1) = m ((c.tc : Thread Cert.KernelSibFfnIdeal.nD Cert.KernelSibFfnIdeal.τ).loc Cert.KernelSibFfnIdeal.main_arg1)
      ∧ m' ((c.tc : Thread Cert.ReferenceSibFfnIdeal.nD Cert.ReferenceSibFfnIdeal.τ).loc Cert.ReferenceSibFfnIdeal.main_arg2) = m ((c.tc : Thread Cert.KernelSibFfnIdeal.nD Cert.KernelSibFfnIdeal.τ).loc Cert.KernelSibFfnIdeal.main_arg2)
      ∧ m' ((c.tc : Thread Cert.ReferenceSibFfnIdeal.nD Cert.ReferenceSibFfnIdeal.τ).loc Cert.ReferenceSibFfnIdeal.main_arg3) = m ((c.tc : Thread Cert.KernelSibFfnIdeal.nD Cert.KernelSibFfnIdeal.τ).loc Cert.KernelSibFfnIdeal.main_arg3)) →
    ∃ (v0 : (c : Dev Cert.KernelSibFfnIdeal.nD) → Buf (Elt Ideal) ((c.tc : Thread Cert.KernelSibFfnIdeal.nD Cert.KernelSibFfnIdeal.τ).loc Cert.KernelSibFfnIdeal.main_v1_0)) (v1 : (c : Dev Cert.KernelSibFfnIdeal.nD) → Buf (Elt Ideal) ((c.tc : Thread Cert.KernelSibFfnIdeal.nD Cert.KernelSibFfnIdeal.τ).loc Cert.KernelSibFfnIdeal.main_v1_1)) (v2 : (c : Dev Cert.KernelSibFfnIdeal.nD) → Buf (Elt Ideal) ((c.tc : Thread Cert.KernelSibFfnIdeal.nD Cert.KernelSibFfnIdeal.τ).loc Cert.KernelSibFfnIdeal.main_v1_2)) (v3 : (c : Dev Cert.KernelSibFfnIdeal.nD) → Buf (Elt Ideal) ((c.tc : Thread Cert.KernelSibFfnIdeal.nD Cert.KernelSibFfnIdeal.τ).loc Cert.KernelSibFfnIdeal.main_v1_3)),
      θ_run (Cert.KernelSibFfnIdeal.defs (F := Ideal)) (onTc (τ := Cert.KernelSibFfnIdeal.τ) (Cert.KernelSibFfnIdeal.main (F := Ideal))) ⟨m, fun _ => 0, g⟩ (fun r => ∀ c : Dev Cert.KernelSibFfnIdeal.nD,
          r.2.mem ((c.tc : Thread Cert.KernelSibFfnIdeal.nD Cert.KernelSibFfnIdeal.τ).loc Cert.KernelSibFfnIdeal.main_v1_0) = v0 c
          ∧ r.2.mem ((c.tc : Thread Cert.KernelSibFfnIdeal.nD Cert.KernelSibFfnIdeal.τ).loc Cert.KernelSibFfnIdeal.main_v1_1) = v1 c
          ∧ r.2.mem ((c.tc : Thread Cert.KernelSibFfnIdeal.nD Cert.KernelSibFfnIdeal.τ).loc Cert.KernelSibFfnIdeal.main_v1_2) = v2 c
          ∧ r.2.mem ((c.tc : Thread Cert.KernelSibFfnIdeal.nD Cert.KernelSibFfnIdeal.τ).loc Cert.KernelSibFfnIdeal.main_v1_3) = v3 c
          ∧ r.2.mem ((c.tc : Thread Cert.KernelSibFfnIdeal.nD Cert.KernelSibFfnIdeal.τ).loc Cert.KernelSibFfnIdeal.main_arg0) = m ((c.tc : Thread Cert.KernelSibFfnIdeal.nD Cert.KernelSibFfnIdeal.τ).loc Cert.KernelSibFfnIdeal.main_arg0)
          ∧ r.2.mem ((c.tc : Thread Cert.KernelSibFfnIdeal.nD Cert.KernelSibFfnIdeal.τ).loc Cert.KernelSibFfnIdeal.main_arg1) = m ((c.tc : Thread Cert.KernelSibFfnIdeal.nD Cert.KernelSibFfnIdeal.τ).loc Cert.KernelSibFfnIdeal.main_arg1)
          ∧ r.2.mem ((c.tc : Thread Cert.KernelSibFfnIdeal.nD Cert.KernelSibFfnIdeal.τ).loc Cert.KernelSibFfnIdeal.main_arg2) = m ((c.tc : Thread Cert.KernelSibFfnIdeal.nD Cert.KernelSibFfnIdeal.τ).loc Cert.KernelSibFfnIdeal.main_arg2)
          ∧ r.2.mem ((c.tc : Thread Cert.KernelSibFfnIdeal.nD Cert.KernelSibFfnIdeal.τ).loc Cert.KernelSibFfnIdeal.main_arg3) = m ((c.tc : Thread Cert.KernelSibFfnIdeal.nD Cert.KernelSibFfnIdeal.τ).loc Cert.KernelSibFfnIdeal.main_arg3))
      ∧ θ_run (Cert.ReferenceSibFfnIdeal.defs (F := Ideal)) (onTc (τ := Cert.ReferenceSibFfnIdeal.τ) (Cert.ReferenceSibFfnIdeal.main (F := Ideal))) ⟨m', fun _ => 0, g'⟩ (fun r => ∀ c : Dev Cert.ReferenceSibFfnIdeal.nD,
          r.2.mem ((c.tc : Thread Cert.ReferenceSibFfnIdeal.nD Cert.ReferenceSibFfnIdeal.τ).loc Cert.ReferenceSibFfnIdeal.main_v1) = v0 c
          ∧ r.2.mem ((c.tc : Thread Cert.ReferenceSibFfnIdeal.nD Cert.ReferenceSibFfnIdeal.τ).loc Cert.ReferenceSibFfnIdeal.main_v3) = v1 c
          ∧ r.2.mem ((c.tc : Thread Cert.ReferenceSibFfnIdeal.nD Cert.ReferenceSibFfnIdeal.τ).loc Cert.ReferenceSibFfnIdeal.main_v4) = v2 c
          ∧ r.2.mem ((c.tc : Thread Cert.ReferenceSibFfnIdeal.nD Cert.ReferenceSibFfnIdeal.τ).loc Cert.ReferenceSibFfnIdeal.main_v5) = v3 c
          ∧ r.2.mem ((c.tc : Thread Cert.ReferenceSibFfnIdeal.nD Cert.ReferenceSibFfnIdeal.τ).loc Cert.ReferenceSibFfnIdeal.main_arg0) = m' ((c.tc : Thread Cert.ReferenceSibFfnIdeal.nD Cert.ReferenceSibFfnIdeal.τ).loc Cert.ReferenceSibFfnIdeal.main_arg0)
          ∧ r.2.mem ((c.tc : Thread Cert.ReferenceSibFfnIdeal.nD Cert.ReferenceSibFfnIdeal.τ).loc Cert.ReferenceSibFfnIdeal.main_arg1) = m' ((c.tc : Thread Cert.ReferenceSibFfnIdeal.nD Cert.ReferenceSibFfnIdeal.τ).loc Cert.ReferenceSibFfnIdeal.main_arg1)
          ∧ r.2.mem ((c.tc : Thread Cert.ReferenceSibFfnIdeal.nD Cert.ReferenceSibFfnIdeal.τ).loc Cert.ReferenceSibFfnIdeal.main_arg2) = m' ((c.tc : Thread Cert.ReferenceSibFfnIdeal.nD Cert.ReferenceSibFfnIdeal.τ).loc Cert.ReferenceSibFfnIdeal.main_arg2)
          ∧ r.2.mem ((c.tc : Thread Cert.ReferenceSibFfnIdeal.nD Cert.ReferenceSibFfnIdeal.τ).loc Cert.ReferenceSibFfnIdeal.main_arg3) = m' ((c.tc : Thread Cert.ReferenceSibFfnIdeal.nD Cert.ReferenceSibFfnIdeal.τ).loc Cert.ReferenceSibFfnIdeal.main_arg3))

def preserves_KernelAdaFwd_KernelAdaFwdIdeal : Prop :=
  True

def algebraic_KernelAdaFwdIdeal_ReferenceAdaFwdIdeal [hKernelAdaFwdIdeal : Cert.KernelAdaFwdIdeal.Facts] [hReferenceAdaFwdIdeal : Cert.ReferenceAdaFwdIdeal.Facts] : Prop :=
  ∀ (m : (ℓ : Loc Cert.KernelAdaFwdIdeal.nD Cert.KernelAdaFwdIdeal.τ Cert.KernelAdaFwdIdeal.sig) → Buf (Elt Ideal) ℓ) (g : Dev Cert.KernelAdaFwdIdeal.nD → PrngReg)
    (m' : (ℓ : Loc Cert.ReferenceAdaFwdIdeal.nD Cert.ReferenceAdaFwdIdeal.τ Cert.ReferenceAdaFwdIdeal.sig) → Buf (Elt Ideal) ℓ) (g' : Dev Cert.ReferenceAdaFwdIdeal.nD → PrngReg), Pre_KernelAdaFwdIdeal m →
    (∀ c : Dev Cert.KernelAdaFwdIdeal.nD,
      m' ((c.tc : Thread Cert.ReferenceAdaFwdIdeal.nD Cert.ReferenceAdaFwdIdeal.τ).loc Cert.ReferenceAdaFwdIdeal.main_arg0) = m ((c.tc : Thread Cert.KernelAdaFwdIdeal.nD Cert.KernelAdaFwdIdeal.τ).loc Cert.KernelAdaFwdIdeal.main_arg0)
      ∧ m' ((c.tc : Thread Cert.ReferenceAdaFwdIdeal.nD Cert.ReferenceAdaFwdIdeal.τ).loc Cert.ReferenceAdaFwdIdeal.main_arg1) = m ((c.tc : Thread Cert.KernelAdaFwdIdeal.nD Cert.KernelAdaFwdIdeal.τ).loc Cert.KernelAdaFwdIdeal.main_arg1)
      ∧ m' ((c.tc : Thread Cert.ReferenceAdaFwdIdeal.nD Cert.ReferenceAdaFwdIdeal.τ).loc Cert.ReferenceAdaFwdIdeal.main_arg2) = m ((c.tc : Thread Cert.KernelAdaFwdIdeal.nD Cert.KernelAdaFwdIdeal.τ).loc Cert.KernelAdaFwdIdeal.main_arg2)) →
    ∃ (v0 : (c : Dev Cert.KernelAdaFwdIdeal.nD) → Buf (Elt Ideal) ((c.tc : Thread Cert.KernelAdaFwdIdeal.nD Cert.KernelAdaFwdIdeal.τ).loc Cert.KernelAdaFwdIdeal.main_v0)),
      θ_run (Cert.KernelAdaFwdIdeal.defs (F := Ideal)) (onTc (τ := Cert.KernelAdaFwdIdeal.τ) (Cert.KernelAdaFwdIdeal.main (F := Ideal))) ⟨m, fun _ => 0, g⟩ (fun r => ∀ c : Dev Cert.KernelAdaFwdIdeal.nD,
          r.2.mem ((c.tc : Thread Cert.KernelAdaFwdIdeal.nD Cert.KernelAdaFwdIdeal.τ).loc Cert.KernelAdaFwdIdeal.main_v0) = v0 c
          ∧ r.2.mem ((c.tc : Thread Cert.KernelAdaFwdIdeal.nD Cert.KernelAdaFwdIdeal.τ).loc Cert.KernelAdaFwdIdeal.main_arg0) = m ((c.tc : Thread Cert.KernelAdaFwdIdeal.nD Cert.KernelAdaFwdIdeal.τ).loc Cert.KernelAdaFwdIdeal.main_arg0)
          ∧ r.2.mem ((c.tc : Thread Cert.KernelAdaFwdIdeal.nD Cert.KernelAdaFwdIdeal.τ).loc Cert.KernelAdaFwdIdeal.main_arg1) = m ((c.tc : Thread Cert.KernelAdaFwdIdeal.nD Cert.KernelAdaFwdIdeal.τ).loc Cert.KernelAdaFwdIdeal.main_arg1)
          ∧ r.2.mem ((c.tc : Thread Cert.KernelAdaFwdIdeal.nD Cert.KernelAdaFwdIdeal.τ).loc Cert.KernelAdaFwdIdeal.main_arg2) = m ((c.tc : Thread Cert.KernelAdaFwdIdeal.nD Cert.KernelAdaFwdIdeal.τ).loc Cert.KernelAdaFwdIdeal.main_arg2))
      ∧ θ_run (Cert.ReferenceAdaFwdIdeal.defs (F := Ideal)) (onTc (τ := Cert.ReferenceAdaFwdIdeal.τ) (Cert.ReferenceAdaFwdIdeal.main (F := Ideal))) ⟨m', fun _ => 0, g'⟩ (fun r => ∀ c : Dev Cert.ReferenceAdaFwdIdeal.nD,
          r.2.mem ((c.tc : Thread Cert.ReferenceAdaFwdIdeal.nD Cert.ReferenceAdaFwdIdeal.τ).loc Cert.ReferenceAdaFwdIdeal.main_v5) = v0 c
          ∧ r.2.mem ((c.tc : Thread Cert.ReferenceAdaFwdIdeal.nD Cert.ReferenceAdaFwdIdeal.τ).loc Cert.ReferenceAdaFwdIdeal.main_arg0) = m' ((c.tc : Thread Cert.ReferenceAdaFwdIdeal.nD Cert.ReferenceAdaFwdIdeal.τ).loc Cert.ReferenceAdaFwdIdeal.main_arg0)
          ∧ r.2.mem ((c.tc : Thread Cert.ReferenceAdaFwdIdeal.nD Cert.ReferenceAdaFwdIdeal.τ).loc Cert.ReferenceAdaFwdIdeal.main_arg1) = m' ((c.tc : Thread Cert.ReferenceAdaFwdIdeal.nD Cert.ReferenceAdaFwdIdeal.τ).loc Cert.ReferenceAdaFwdIdeal.main_arg1)
          ∧ r.2.mem ((c.tc : Thread Cert.ReferenceAdaFwdIdeal.nD Cert.ReferenceAdaFwdIdeal.τ).loc Cert.ReferenceAdaFwdIdeal.main_arg2) = m' ((c.tc : Thread Cert.ReferenceAdaFwdIdeal.nD Cert.ReferenceAdaFwdIdeal.τ).loc Cert.ReferenceAdaFwdIdeal.main_arg2))

def preserves_KernelLossSum_KernelLossSumIdeal : Prop :=
  True

def algebraic_KernelLossSumIdeal_ReferenceLossSumIdeal [hKernelLossSumIdeal : Cert.KernelLossSumIdeal.Facts] [hReferenceLossSumIdeal : Cert.ReferenceLossSumIdeal.Facts] : Prop :=
  ∀ (m : (ℓ : Loc Cert.KernelLossSumIdeal.nD Cert.KernelLossSumIdeal.τ Cert.KernelLossSumIdeal.sig) → Buf (Elt Ideal) ℓ) (g : Dev Cert.KernelLossSumIdeal.nD → PrngReg)
    (m' : (ℓ : Loc Cert.ReferenceLossSumIdeal.nD Cert.ReferenceLossSumIdeal.τ Cert.ReferenceLossSumIdeal.sig) → Buf (Elt Ideal) ℓ) (g' : Dev Cert.ReferenceLossSumIdeal.nD → PrngReg), Pre_KernelLossSumIdeal m →
    (∀ c : Dev Cert.KernelLossSumIdeal.nD,
      m ((c.tc : Thread Cert.KernelLossSumIdeal.nD Cert.KernelLossSumIdeal.τ).loc Cert.KernelLossSumIdeal.main_arg0) = Layout.block ⟨2, ![1, 128]⟩ ⟨2, ![8, 128]⟩ 0 8 c (m' (((0 : Dev Cert.ReferenceLossSumIdeal.nD).tc : Thread Cert.ReferenceLossSumIdeal.nD Cert.ReferenceLossSumIdeal.τ).loc Cert.ReferenceLossSumIdeal.main_arg0))) →
    ∃ (v0 : Buf (Elt Ideal) (((0 : Dev Cert.ReferenceLossSumIdeal.nD).tc : Thread Cert.ReferenceLossSumIdeal.nD Cert.ReferenceLossSumIdeal.τ).loc Cert.ReferenceLossSumIdeal.main_v2)),
      θ_run (Cert.KernelLossSumIdeal.defs (F := Ideal)) (onTc (τ := Cert.KernelLossSumIdeal.τ) (Cert.KernelLossSumIdeal.main (F := Ideal))) ⟨m, fun _ => 0, g⟩ (fun r => ∀ c : Dev Cert.KernelLossSumIdeal.nD,
          r.2.mem ((c.tc : Thread Cert.KernelLossSumIdeal.nD Cert.KernelLossSumIdeal.τ).loc Cert.KernelLossSumIdeal.main_v3) = v0
          ∧ r.2.mem ((c.tc : Thread Cert.KernelLossSumIdeal.nD Cert.KernelLossSumIdeal.τ).loc Cert.KernelLossSumIdeal.main_arg0) = m ((c.tc : Thread Cert.KernelLossSumIdeal.nD Cert.KernelLossSumIdeal.τ).loc Cert.KernelLossSumIdeal.main_arg0))
      ∧ θ_run (Cert.ReferenceLossSumIdeal.defs (F := Ideal)) (onTc (τ := Cert.ReferenceLossSumIdeal.τ) (Cert.ReferenceLossSumIdeal.main (F := Ideal))) ⟨m', fun _ => 0, g'⟩ (fun r =>
          r.2.mem (((0 : Dev Cert.ReferenceLossSumIdeal.nD).tc : Thread Cert.ReferenceLossSumIdeal.nD Cert.ReferenceLossSumIdeal.τ).loc Cert.ReferenceLossSumIdeal.main_v2) = v0
          ∧ r.2.mem (((0 : Dev Cert.ReferenceLossSumIdeal.nD).tc : Thread Cert.ReferenceLossSumIdeal.nD Cert.ReferenceLossSumIdeal.τ).loc Cert.ReferenceLossSumIdeal.main_arg0) = m' (((0 : Dev Cert.ReferenceLossSumIdeal.nD).tc : Thread Cert.ReferenceLossSumIdeal.nD Cert.ReferenceLossSumIdeal.τ).loc Cert.ReferenceLossSumIdeal.main_arg0))

def Claim : Prop :=
  ∃ (hKernelFfnIn : Cert.KernelFfnIn.Facts) (hKernelFfnInIdeal : Cert.KernelFfnInIdeal.Facts) (hReferenceFfnInIdeal : Cert.ReferenceFfnInIdeal.Facts) (hKernelFfnAct : Cert.KernelFfnAct.Facts) (hKernelFfnActIdeal : Cert.KernelFfnActIdeal.Facts) (hReferenceFfnActIdeal : Cert.ReferenceFfnActIdeal.Facts) (hKernelFfnOutDw : Cert.KernelFfnOutDw.Facts) (hKernelFfnOutDwIdeal : Cert.KernelFfnOutDwIdeal.Facts) (hReferenceFfnOutDwIdeal : Cert.ReferenceFfnOutDwIdeal.Facts) (hKernelFfnInDx : Cert.KernelFfnInDx.Facts) (hKernelFfnInDxIdeal : Cert.KernelFfnInDxIdeal.Facts) (hReferenceFfnInDxIdeal : Cert.ReferenceFfnInDxIdeal.Facts) (hKernelFfnInDw : Cert.KernelFfnInDw.Facts) (hKernelFfnInDwIdeal : Cert.KernelFfnInDwIdeal.Facts) (hReferenceFfnInDwIdeal : Cert.ReferenceFfnInDwIdeal.Facts) (hKernelInDx : Cert.KernelInDx.Facts) (hKernelInDxIdeal : Cert.KernelInDxIdeal.Facts) (hReferenceInDxIdeal : Cert.ReferenceInDxIdeal.Facts) (hKernelInDw : Cert.KernelInDw.Facts) (hKernelInDwIdeal : Cert.KernelInDwIdeal.Facts) (hReferenceInDwIdeal : Cert.ReferenceInDwIdeal.Facts) (hKernelOutDw : Cert.KernelOutDw.Facts) (hKernelOutDwIdeal : Cert.KernelOutDwIdeal.Facts) (hReferenceOutDwIdeal : Cert.ReferenceOutDwIdeal.Facts) (hKernelAdaBwd : Cert.KernelAdaBwd.Facts) (hKernelAdaBwdIdeal : Cert.KernelAdaBwdIdeal.Facts) (hReferenceAdaBwdIdeal : Cert.ReferenceAdaBwdIdeal.Facts) (hKernelAdamSmall : Cert.KernelAdamSmall.Facts) (hKernelAdamSmallIdeal : Cert.KernelAdamSmallIdeal.Facts) (hReferenceAdamSmallIdeal : Cert.ReferenceAdamSmallIdeal.Facts) (hKernelAdamB : Cert.KernelAdamB.Facts) (hKernelAdamBIdeal : Cert.KernelAdamBIdeal.Facts) (hReferenceAdamBIdeal : Cert.ReferenceAdamBIdeal.Facts) (hKernelAdamW1 : Cert.KernelAdamW1.Facts) (hKernelAdamW1Ideal : Cert.KernelAdamW1Ideal.Facts) (hReferenceAdamW1Ideal : Cert.ReferenceAdamW1Ideal.Facts) (hKernelAdamW2 : Cert.KernelAdamW2.Facts) (hKernelAdamW2Ideal : Cert.KernelAdamW2Ideal.Facts) (hReferenceAdamW2Ideal : Cert.ReferenceAdamW2Ideal.Facts) (hKernelAdamW3 : Cert.KernelAdamW3.Facts) (hKernelAdamW3Ideal : Cert.KernelAdamW3Ideal.Facts) (hReferenceAdamW3Ideal : Cert.ReferenceAdamW3Ideal.Facts) (hKernelFinalLoss : Cert.KernelFinalLoss.Facts) (hKernelFinalLossIdeal : Cert.KernelFinalLossIdeal.Facts) (hReferenceFinalLossIdeal : Cert.ReferenceFinalLossIdeal.Facts) (hKernelAdaln1 : Cert.KernelAdaln1.Facts) (hKernelAdaln1Ideal : Cert.KernelAdaln1Ideal.Facts) (hReferenceAdaln1Ideal : Cert.ReferenceAdaln1Ideal.Facts) (hKernelAdaln2 : Cert.KernelAdaln2.Facts) (hKernelAdaln2Ideal : Cert.KernelAdaln2Ideal.Facts) (hReferenceAdaln2Ideal : Cert.ReferenceAdaln2Ideal.Facts) (hKernelInProj : Cert.KernelInProj.Facts) (hKernelInProjIdeal : Cert.KernelInProjIdeal.Facts) (hReferenceInProjIdeal : Cert.ReferenceInProjIdeal.Facts) (hKernelMixerOut : Cert.KernelMixerOut.Facts) (hKernelMixerOutIdeal : Cert.KernelMixerOutIdeal.Facts) (hReferenceMixerOutIdeal : Cert.ReferenceMixerOutIdeal.Facts) (hKernelMixerOutBwd : Cert.KernelMixerOutBwd.Facts) (hKernelMixerOutBwdIdeal : Cert.KernelMixerOutBwdIdeal.Facts) (hReferenceMixerOutBwdIdeal : Cert.ReferenceMixerOutBwdIdeal.Facts) (hKernelRsMix : Cert.KernelRsMix.Facts) (hKernelRsMixIdeal : Cert.KernelRsMixIdeal.Facts) (hReferenceRsMixIdeal : Cert.ReferenceRsMixIdeal.Facts) (hKernelRsFfn : Cert.KernelRsFfn.Facts) (hKernelRsFfnIdeal : Cert.KernelRsFfnIdeal.Facts) (hReferenceRsFfnIdeal : Cert.ReferenceRsFfnIdeal.Facts) (hKernelSibMix : Cert.KernelSibMix.Facts) (hKernelSibMixIdeal : Cert.KernelSibMixIdeal.Facts) (hReferenceSibMixIdeal : Cert.ReferenceSibMixIdeal.Facts) (hKernelSibFfn : Cert.KernelSibFfn.Facts) (hKernelSibFfnIdeal : Cert.KernelSibFfnIdeal.Facts) (hReferenceSibFfnIdeal : Cert.ReferenceSibFfnIdeal.Facts) (hKernelAdaFwd : Cert.KernelAdaFwd.Facts) (hKernelAdaFwdIdeal : Cert.KernelAdaFwdIdeal.Facts) (hReferenceAdaFwdIdeal : Cert.ReferenceAdaFwdIdeal.Facts) (hKernelLossSum : Cert.KernelLossSum.Facts) (hKernelLossSumIdeal : Cert.KernelLossSumIdeal.Facts) (hReferenceLossSumIdeal : Cert.ReferenceLossSumIdeal.Facts) (hPre_finite_ffn : Cert.Pre_finite_ffn.Facts),
    quiescent_KernelFfnIn (hKernelFfnIn := hKernelFfnIn)
    ∧ quiescent_KernelFfnInIdeal (hKernelFfnInIdeal := hKernelFfnInIdeal)
    ∧ quiescent_ReferenceFfnInIdeal (hReferenceFfnInIdeal := hReferenceFfnInIdeal)
    ∧ quiescent_KernelFfnAct (hKernelFfnAct := hKernelFfnAct)
    ∧ quiescent_KernelFfnActIdeal (hKernelFfnActIdeal := hKernelFfnActIdeal)
    ∧ quiescent_KernelFfnActIdeal_pre_finite_ffn (hKernelFfnActIdeal := hKernelFfnActIdeal) (hPre_finite_ffn := hPre_finite_ffn)
    ∧ quiescent_ReferenceFfnActIdeal (hReferenceFfnActIdeal := hReferenceFfnActIdeal)
    ∧ quiescent_ReferenceFfnActIdeal_pre_finite_ffn (hReferenceFfnActIdeal := hReferenceFfnActIdeal) (hPre_finite_ffn := hPre_finite_ffn)
    ∧ quiescent_KernelFfnOutDw (hKernelFfnOutDw := hKernelFfnOutDw)
    ∧ quiescent_KernelFfnOutDwIdeal (hKernelFfnOutDwIdeal := hKernelFfnOutDwIdeal)
    ∧ quiescent_ReferenceFfnOutDwIdeal (hReferenceFfnOutDwIdeal := hReferenceFfnOutDwIdeal)
    ∧ quiescent_KernelFfnInDx (hKernelFfnInDx := hKernelFfnInDx)
    ∧ quiescent_KernelFfnInDxIdeal (hKernelFfnInDxIdeal := hKernelFfnInDxIdeal)
    ∧ quiescent_ReferenceFfnInDxIdeal (hReferenceFfnInDxIdeal := hReferenceFfnInDxIdeal)
    ∧ quiescent_KernelFfnInDw (hKernelFfnInDw := hKernelFfnInDw)
    ∧ quiescent_KernelFfnInDwIdeal (hKernelFfnInDwIdeal := hKernelFfnInDwIdeal)
    ∧ quiescent_ReferenceFfnInDwIdeal (hReferenceFfnInDwIdeal := hReferenceFfnInDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelAdaBwd (hKernelAdaBwd := hKernelAdaBwd)
    ∧ quiescent_KernelAdaBwdIdeal (hKernelAdaBwdIdeal := hKernelAdaBwdIdeal)
    ∧ quiescent_ReferenceAdaBwdIdeal (hReferenceAdaBwdIdeal := hReferenceAdaBwdIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelAdamB (hKernelAdamB := hKernelAdamB)
    ∧ quiescent_KernelAdamBIdeal (hKernelAdamBIdeal := hKernelAdamBIdeal)
    ∧ quiescent_ReferenceAdamBIdeal (hReferenceAdamBIdeal := hReferenceAdamBIdeal)
    ∧ quiescent_KernelAdamW1 (hKernelAdamW1 := hKernelAdamW1)
    ∧ quiescent_KernelAdamW1Ideal (hKernelAdamW1Ideal := hKernelAdamW1Ideal)
    ∧ quiescent_ReferenceAdamW1Ideal (hReferenceAdamW1Ideal := hReferenceAdamW1Ideal)
    ∧ quiescent_KernelAdamW2 (hKernelAdamW2 := hKernelAdamW2)
    ∧ quiescent_KernelAdamW2Ideal (hKernelAdamW2Ideal := hKernelAdamW2Ideal)
    ∧ quiescent_ReferenceAdamW2Ideal (hReferenceAdamW2Ideal := hReferenceAdamW2Ideal)
    ∧ quiescent_KernelAdamW3 (hKernelAdamW3 := hKernelAdamW3)
    ∧ quiescent_KernelAdamW3Ideal (hKernelAdamW3Ideal := hKernelAdamW3Ideal)
    ∧ quiescent_ReferenceAdamW3Ideal (hReferenceAdamW3Ideal := hReferenceAdamW3Ideal)
    ∧ quiescent_KernelFinalLoss (hKernelFinalLoss := hKernelFinalLoss)
    ∧ quiescent_KernelFinalLossIdeal (hKernelFinalLossIdeal := hKernelFinalLossIdeal)
    ∧ quiescent_ReferenceFinalLossIdeal (hReferenceFinalLossIdeal := hReferenceFinalLossIdeal)
    ∧ quiescent_KernelAdaln1 (hKernelAdaln1 := hKernelAdaln1)
    ∧ quiescent_KernelAdaln1Ideal (hKernelAdaln1Ideal := hKernelAdaln1Ideal)
    ∧ quiescent_ReferenceAdaln1Ideal (hReferenceAdaln1Ideal := hReferenceAdaln1Ideal)
    ∧ quiescent_KernelAdaln2 (hKernelAdaln2 := hKernelAdaln2)
    ∧ quiescent_KernelAdaln2Ideal (hKernelAdaln2Ideal := hKernelAdaln2Ideal)
    ∧ quiescent_ReferenceAdaln2Ideal (hReferenceAdaln2Ideal := hReferenceAdaln2Ideal)
    ∧ quiescent_KernelInProj (hKernelInProj := hKernelInProj)
    ∧ quiescent_KernelInProjIdeal (hKernelInProjIdeal := hKernelInProjIdeal)
    ∧ quiescent_ReferenceInProjIdeal (hReferenceInProjIdeal := hReferenceInProjIdeal)
    ∧ quiescent_KernelMixerOut (hKernelMixerOut := hKernelMixerOut)
    ∧ quiescent_KernelMixerOutIdeal (hKernelMixerOutIdeal := hKernelMixerOutIdeal)
    ∧ quiescent_ReferenceMixerOutIdeal (hReferenceMixerOutIdeal := hReferenceMixerOutIdeal)
    ∧ quiescent_KernelMixerOutBwd (hKernelMixerOutBwd := hKernelMixerOutBwd)
    ∧ quiescent_KernelMixerOutBwdIdeal (hKernelMixerOutBwdIdeal := hKernelMixerOutBwdIdeal)
    ∧ quiescent_ReferenceMixerOutBwdIdeal (hReferenceMixerOutBwdIdeal := hReferenceMixerOutBwdIdeal)
    ∧ quiescent_KernelRsMix (hKernelRsMix := hKernelRsMix)
    ∧ quiescent_KernelRsMixIdeal (hKernelRsMixIdeal := hKernelRsMixIdeal)
    ∧ quiescent_ReferenceRsMixIdeal (hReferenceRsMixIdeal := hReferenceRsMixIdeal)
    ∧ quiescent_KernelRsFfn (hKernelRsFfn := hKernelRsFfn)
    ∧ quiescent_KernelRsFfnIdeal (hKernelRsFfnIdeal := hKernelRsFfnIdeal)
    ∧ quiescent_ReferenceRsFfnIdeal (hReferenceRsFfnIdeal := hReferenceRsFfnIdeal)
    ∧ quiescent_KernelSibMix (hKernelSibMix := hKernelSibMix)
    ∧ quiescent_KernelSibMixIdeal (hKernelSibMixIdeal := hKernelSibMixIdeal)
    ∧ quiescent_ReferenceSibMixIdeal (hReferenceSibMixIdeal := hReferenceSibMixIdeal)
    ∧ quiescent_KernelSibFfn (hKernelSibFfn := hKernelSibFfn)
    ∧ quiescent_KernelSibFfnIdeal (hKernelSibFfnIdeal := hKernelSibFfnIdeal)
    ∧ quiescent_ReferenceSibFfnIdeal (hReferenceSibFfnIdeal := hReferenceSibFfnIdeal)
    ∧ quiescent_KernelAdaFwd (hKernelAdaFwd := hKernelAdaFwd)
    ∧ quiescent_KernelAdaFwdIdeal (hKernelAdaFwdIdeal := hKernelAdaFwdIdeal)
    ∧ quiescent_ReferenceAdaFwdIdeal (hReferenceAdaFwdIdeal := hReferenceAdaFwdIdeal)
    ∧ quiescent_KernelLossSum (hKernelLossSum := hKernelLossSum)
    ∧ quiescent_KernelLossSumIdeal (hKernelLossSumIdeal := hKernelLossSumIdeal)
    ∧ quiescent_ReferenceLossSumIdeal (hReferenceLossSumIdeal := hReferenceLossSumIdeal)
    ∧ preserves_KernelFfnIn_KernelFfnInIdeal
    ∧ algebraic_KernelFfnInIdeal_ReferenceFfnInIdeal (hKernelFfnInIdeal := hKernelFfnInIdeal) (hReferenceFfnInIdeal := hReferenceFfnInIdeal)
    ∧ preserves_KernelFfnAct_KernelFfnActIdeal
    ∧ algebraic_KernelFfnActIdeal_ReferenceFfnActIdeal_pre_finite_ffn (hKernelFfnActIdeal := hKernelFfnActIdeal) (hReferenceFfnActIdeal := hReferenceFfnActIdeal) (hPre_finite_ffn := hPre_finite_ffn)
    ∧ preserves_KernelFfnOutDw_KernelFfnOutDwIdeal
    ∧ algebraic_KernelFfnOutDwIdeal_ReferenceFfnOutDwIdeal (hKernelFfnOutDwIdeal := hKernelFfnOutDwIdeal) (hReferenceFfnOutDwIdeal := hReferenceFfnOutDwIdeal)
    ∧ preserves_KernelFfnInDx_KernelFfnInDxIdeal
    ∧ algebraic_KernelFfnInDxIdeal_ReferenceFfnInDxIdeal (hKernelFfnInDxIdeal := hKernelFfnInDxIdeal) (hReferenceFfnInDxIdeal := hReferenceFfnInDxIdeal)
    ∧ preserves_KernelFfnInDw_KernelFfnInDwIdeal
    ∧ algebraic_KernelFfnInDwIdeal_ReferenceFfnInDwIdeal (hKernelFfnInDwIdeal := hKernelFfnInDwIdeal) (hReferenceFfnInDwIdeal := hReferenceFfnInDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelAdaBwd_KernelAdaBwdIdeal
    ∧ algebraic_KernelAdaBwdIdeal_ReferenceAdaBwdIdeal (hKernelAdaBwdIdeal := hKernelAdaBwdIdeal) (hReferenceAdaBwdIdeal := hReferenceAdaBwdIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelAdamB_KernelAdamBIdeal
    ∧ algebraic_KernelAdamBIdeal_ReferenceAdamBIdeal (hKernelAdamBIdeal := hKernelAdamBIdeal) (hReferenceAdamBIdeal := hReferenceAdamBIdeal)
    ∧ preserves_KernelAdamW1_KernelAdamW1Ideal
    ∧ algebraic_KernelAdamW1Ideal_ReferenceAdamW1Ideal (hKernelAdamW1Ideal := hKernelAdamW1Ideal) (hReferenceAdamW1Ideal := hReferenceAdamW1Ideal)
    ∧ preserves_KernelAdamW2_KernelAdamW2Ideal
    ∧ algebraic_KernelAdamW2Ideal_ReferenceAdamW2Ideal (hKernelAdamW2Ideal := hKernelAdamW2Ideal) (hReferenceAdamW2Ideal := hReferenceAdamW2Ideal)
    ∧ preserves_KernelAdamW3_KernelAdamW3Ideal
    ∧ algebraic_KernelAdamW3Ideal_ReferenceAdamW3Ideal (hKernelAdamW3Ideal := hKernelAdamW3Ideal) (hReferenceAdamW3Ideal := hReferenceAdamW3Ideal)
    ∧ preserves_KernelFinalLoss_KernelFinalLossIdeal
    ∧ algebraic_KernelFinalLossIdeal_ReferenceFinalLossIdeal (hKernelFinalLossIdeal := hKernelFinalLossIdeal) (hReferenceFinalLossIdeal := hReferenceFinalLossIdeal)
    ∧ preserves_KernelAdaln1_KernelAdaln1Ideal
    ∧ algebraic_KernelAdaln1Ideal_ReferenceAdaln1Ideal (hKernelAdaln1Ideal := hKernelAdaln1Ideal) (hReferenceAdaln1Ideal := hReferenceAdaln1Ideal)
    ∧ preserves_KernelAdaln2_KernelAdaln2Ideal
    ∧ algebraic_KernelAdaln2Ideal_ReferenceAdaln2Ideal (hKernelAdaln2Ideal := hKernelAdaln2Ideal) (hReferenceAdaln2Ideal := hReferenceAdaln2Ideal)
    ∧ preserves_KernelInProj_KernelInProjIdeal
    ∧ algebraic_KernelInProjIdeal_ReferenceInProjIdeal (hKernelInProjIdeal := hKernelInProjIdeal) (hReferenceInProjIdeal := hReferenceInProjIdeal)
    ∧ preserves_KernelMixerOut_KernelMixerOutIdeal
    ∧ algebraic_KernelMixerOutIdeal_ReferenceMixerOutIdeal (hKernelMixerOutIdeal := hKernelMixerOutIdeal) (hReferenceMixerOutIdeal := hReferenceMixerOutIdeal)
    ∧ preserves_KernelMixerOutBwd_KernelMixerOutBwdIdeal
    ∧ algebraic_KernelMixerOutBwdIdeal_ReferenceMixerOutBwdIdeal (hKernelMixerOutBwdIdeal := hKernelMixerOutBwdIdeal) (hReferenceMixerOutBwdIdeal := hReferenceMixerOutBwdIdeal)
    ∧ preserves_KernelRsMix_KernelRsMixIdeal
    ∧ algebraic_KernelRsMixIdeal_ReferenceRsMixIdeal (hKernelRsMixIdeal := hKernelRsMixIdeal) (hReferenceRsMixIdeal := hReferenceRsMixIdeal)
    ∧ preserves_KernelRsFfn_KernelRsFfnIdeal
    ∧ algebraic_KernelRsFfnIdeal_ReferenceRsFfnIdeal (hKernelRsFfnIdeal := hKernelRsFfnIdeal) (hReferenceRsFfnIdeal := hReferenceRsFfnIdeal)
    ∧ preserves_KernelSibMix_KernelSibMixIdeal
    ∧ algebraic_KernelSibMixIdeal_ReferenceSibMixIdeal (hKernelSibMixIdeal := hKernelSibMixIdeal) (hReferenceSibMixIdeal := hReferenceSibMixIdeal)
    ∧ preserves_KernelSibFfn_KernelSibFfnIdeal
    ∧ algebraic_KernelSibFfnIdeal_ReferenceSibFfnIdeal (hKernelSibFfnIdeal := hKernelSibFfnIdeal) (hReferenceSibFfnIdeal := hReferenceSibFfnIdeal)
    ∧ preserves_KernelAdaFwd_KernelAdaFwdIdeal
    ∧ algebraic_KernelAdaFwdIdeal_ReferenceAdaFwdIdeal (hKernelAdaFwdIdeal := hKernelAdaFwdIdeal) (hReferenceAdaFwdIdeal := hReferenceAdaFwdIdeal)
    ∧ preserves_KernelLossSum_KernelLossSumIdeal
    ∧ algebraic_KernelLossSumIdeal_ReferenceLossSumIdeal (hKernelLossSumIdeal := hKernelLossSumIdeal) (hReferenceLossSumIdeal := hReferenceLossSumIdeal)
-- ==== Pre_finite_ffn.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .bf16) (main_arg2 : FVec F S2x4096x2816 .bf16) : IVec S4096x1024 1 × IVec S2816x1024 1 × IVec S2x4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2x4096x2816 .f32 := (extf .f32 · bitsLt_bf16_f32) main_arg2
  let main_v9 : FVec F S2x4096x2816 .f32 := Host.absf main_v8
  let main_cst_1 : FVec F S_ .f32 := constant S_ .f32 0x7F800000#32
  let main_v10 : FVec F S2x4096x2816 .f32 := broadcastInDim S2x4096x2816 ![] bcast_S_S2x4096x2816 main_cst_1
  let main_v11 : IVec S2x4096x2816 1 := cmpf .olt main_v9 main_v10
  (main_v3, main_v7, main_v11)
-- ==== KernelFfnIn.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S2x4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfnInIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== KernelFfnAct.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFfnActIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S4096x1024, .f32⟩
  | .hbm, ⟨4, _⟩ => ⟨S2816x1024, .f32⟩
  | .hbm, ⟨5, _⟩ => ⟨S2x4096x2816, .f32⟩
  | .hbm, ⟨6, _⟩ => ⟨S1x4096x2816, .f32⟩
  | .hbm, ⟨7, _⟩ => ⟨S4096x2816, .f32⟩
  | .hbm, ⟨8, _⟩ => ⟨S1x4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== KernelFfnOutDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnOutDwIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFfnInDx.lean ====
abbrev S4096x5632 : Shape := ⟨2, ![4096, 5632]⟩
abbrev S1024x5632 : Shape := ⟨2, ![1024, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S1x4096x2816, .bf16⟩
  | .hbm, ⟨5, _⟩ => ⟨S1x4096x2816, .bf16⟩
  | .hbm, ⟨6, _⟩ => ⟨S2x4096x2816, .bf16⟩
  | .hbm, ⟨7, _⟩ => ⟨S1024x4x1408, .bf16⟩
  | .hbm, ⟨8, _⟩ => ⟨S4x1024x1408, .bf16⟩
  | .hbm, ⟨9, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnInDxIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S1024x5632, .f32⟩
  | .hbm, ⟨3, _⟩ => ⟨S_, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFfnInDw.lean ====
abbrev S4096x1024 : Shape := ⟨2, ![4096, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x2816, .bf16⟩
  | .hbm, ⟨3, _⟩ => ⟨S4096x2816, .bf16⟩
  | .hbm, ⟨4, _⟩ => ⟨S1x4096x2816, .bf16⟩
  | .hbm, ⟨5, _⟩ => ⟨S1x4096x2816, .bf16⟩
  | .hbm, ⟨6, _⟩ => ⟨S2x4096x2816, .bf16⟩
  | .hbm, ⟨7, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnInDwIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelInDx.lean ====
abbrev S4096x2304 : Shape := ⟨2, ![4096, 2304]⟩
abbrev S1024x2304 : Shape := ⟨2, ![1024, 2304]⟩
abbrev S4096x1024 : Shape := ⟨2, ![4096, 1024]⟩
abbrev S1024x1152 : Shape := ⟨2, ![1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S4096x2304 : Shape := ⟨2, ![4096, 2304]⟩
abbrev S1024x2304 : Shape := ⟨2, ![1024, 2304]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S1024x2304, .f32⟩
  | .hbm, ⟨3, _⟩ => ⟨S_, .f32⟩
  | .hbm, ⟨4, _⟩ => ⟨S4096x1024, .f32⟩
  | .hbm, ⟨5, _⟩ => ⟨S4096x2304, .f32⟩
  | .hbm, ⟨6, _⟩ => ⟨S4096x2304, .f32⟩
  | .hbm, ⟨7, _⟩ => ⟨S4096x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelInDw.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S4096x1024 : Shape := ⟨2, ![4096, 1024]⟩
abbrev S4096x2304 : Shape := ⟨2, ![4096, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S4096x1024, .f32⟩
  | .hbm, ⟨3, _⟩ => ⟨S_, .f32⟩
  | .hbm, ⟨4, _⟩ => ⟨S1024x2304, .f32⟩
  | .hbm, ⟨5, _⟩ => ⟨S4096x2304, .f32⟩
  | .hbm, ⟨6, _⟩ => ⟨S4096x2304, .f32⟩
  | .hbm, ⟨7, _⟩ => ⟨S2304x1024, .f32⟩
  | .hbm, ⟨8, _⟩ => ⟨S1024x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutDwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAdaBwd.lean ====
abbrev S16x1024 : Shape := ⟨2, ![16, 1024]⟩
abbrev S16x1536 : Shape := ⟨2, ![16, 1536]⟩
abbrev S1024x1536 : Shape := ⟨2, ![1024, 1536]⟩
abbrev S16x512 : Shape := ⟨2, ![16, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x512, .f32⟩
  | .local _ .vmem, ⟨2, _⟩ => ⟨S16x512, .f32⟩
  | .local _ .vmem, ⟨3, _⟩ => ⟨S1024x512, .f32⟩
  | .local _ .vmem, ⟨4, _⟩ => ⟨S1024x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceAdaBwdIdeal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1536, .f32⟩
  | .hbm, ⟨14, _⟩ => ⟨S1536x1024, .f32⟩
  | .hbm, ⟨15, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelAdamSmall.lean ====
abbrev S1x5120 : Shape := ⟨2, ![1, 5120]⟩
abbrev S8x5120 : Shape := ⟨2, ![8, 5120]⟩
abbrev S8x640 : Shape := ⟨2, ![8, 640]⟩
abbrev S8x8x640 : Shape := ⟨3, ![8, 8, 640]⟩
abbrev S1x8x640 : Shape := ⟨3, ![1, 8, 640]⟩

abbrev nBuf : Space → Nat
  | .hbm => 12
  | .vmem => 8
  | .smem => 0
  | _ => 0

abbrev bufTy : (tb : Table) → Fin (tcTables nBuf tb) → BufTy
  | .hbm, ⟨0, _⟩ => ⟨S1x5120, .f32⟩
  | .hbm, ⟨1, _⟩ => ⟨S8x5120, .f32⟩
  | .hbm, ⟨2, _⟩ => ⟨S1x5120, .f32⟩
  | .hbm, ⟨3, _⟩ => ⟨S1x5120, .f32⟩
  | .hbm, ⟨4, _⟩ => ⟨S8x640, .f32⟩
  | .hbm, ⟨5, _⟩ => ⟨S8x8x640, .f32⟩
  | .hbm, ⟨6, _⟩ => ⟨S8x640, .f32⟩
  | .hbm, ⟨7, _⟩ => ⟨S8x640, .f32⟩
  | .hbm, ⟨8, _⟩ => ⟨S8x640, .f32⟩
  | .hbm, ⟨9, _⟩ => ⟨S8x640, .f32⟩
  | .hbm, ⟨10, _⟩ => ⟨S8x640, .f32⟩
  | .hbm, ⟨11, _⟩ => ⟨S8x640, .f32⟩
  | .local _ .vmem, ⟨0, _⟩ => ⟨S8x640, .f32⟩
  | .local _ .vmem, ⟨1, _⟩ => ⟨S8x8x640, .f32⟩
  | .local _ .vmem, ⟨2, _⟩ => ⟨S8x640, .f32⟩
  | .local _ .vmem, ⟨3, _⟩ => ⟨S8x640, .f32⟩
  | .local _ .vmem, ⟨4, _⟩ => ⟨S8x640, .f32⟩
  | .local _ .vmem, ⟨5, _⟩ => ⟨S8x640, .f32⟩
  | .local _ .vmem, ⟨6, _⟩ => ⟨S8x640, .f32⟩
  | .local _ .vmem, ⟨7, _⟩ => ⟨S8x640, .f32⟩
  | _, _ => ⟨S1x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceAdamSmallIdeal.lean ====
abbrev S1x5120 : Shape := ⟨2, ![1, 5120]⟩
abbrev S8x5120 : Shape := ⟨2, ![8, 5120]⟩
abbrev S_ : Shape := ⟨0, ![]⟩
abbrev S5120 : Shape := ⟨1, ![5120]⟩
abbrev S8x640 : Shape := ⟨2, ![8, 640]⟩

abbrev nBuf : Space → Nat
  | .hbm => 46
  | .vmem => 0
  | .smem => 0
  | _ => 0

abbrev bufTy : (tb : Table) → Fin (tcTables nBuf tb) → BufTy
  | .hbm, ⟨0, _⟩ => ⟨S1x5120, .f32⟩
  | .hbm, ⟨1, _⟩ => ⟨S8x5120, .f32⟩
  | .hbm, ⟨2, _⟩ => ⟨S1x5120, .f32⟩
  | .hbm, ⟨3, _⟩ => ⟨S1x5120, .f32⟩
  | .hbm, ⟨4, _⟩ => ⟨S_, .f32⟩
  | .hbm, ⟨5, _⟩ => ⟨S5120, .f32⟩
  | .hbm, ⟨6, _⟩ => ⟨S5120, .f32⟩
  | .hbm, ⟨7, _⟩ => ⟨S5120, .f32⟩
  | .hbm, ⟨8, _⟩ => ⟨S5120, .f32⟩
  | .hbm, ⟨9, _⟩ => ⟨S_, .f32⟩
  | .hbm, ⟨10, _⟩ => ⟨S5120, .f32⟩
  | .hbm, ⟨11, _⟩ => ⟨S5120, .f32⟩
  | .hbm, ⟨12, _⟩ => ⟨S_, .f32⟩
  | .hbm, ⟨13, _⟩ => ⟨S5120, .f32⟩
  | .hbm, ⟨14, _⟩ => ⟨S5120, .f32⟩
  | .hbm, ⟨15, _⟩ => ⟨S5120, .f32⟩
  | .hbm, ⟨16, _⟩ => ⟨S_, .f32⟩
  | .hbm, ⟨17, _⟩ => ⟨S5120, .f32⟩
  | .hbm, ⟨18, _⟩ => ⟨S5120, .f32⟩
  | .hbm, ⟨19, _⟩ => ⟨S5120, .f32⟩
  | .hbm, ⟨20, _⟩ => ⟨S_, .f32⟩
  | .hbm, ⟨21, _⟩ => ⟨S5120, .f32⟩
  | .hbm, ⟨22, _⟩ => ⟨S5120, .f32⟩
  | .hbm, ⟨23, _⟩ => ⟨S5120, .f32⟩
  | .hbm, ⟨24, _⟩ => ⟨S_, .f32⟩
  | .hbm, ⟨25, _⟩ => ⟨S5120, .f32⟩
  | .hbm, ⟨26, _⟩ => ⟨S5120, .f32⟩
  | .hbm, ⟨27, _⟩ => ⟨S_, .f32⟩
  | .hbm, ⟨28, _⟩ => ⟨S5120, .f32⟩
  | .hbm, ⟨29, _⟩ => ⟨S5120, .f32⟩
  | .hbm, ⟨30, _⟩ => ⟨S5120, .f32⟩
  | .hbm, ⟨31, _⟩ => ⟨S_, .f32⟩
  | .hbm, ⟨32, _⟩ => ⟨S5120, .f32⟩
  | .hbm, ⟨33, _⟩ => ⟨S5120, .f32⟩
  | .hbm, ⟨34, _⟩ => ⟨S5120, .f32⟩
  | .hbm, ⟨35, _⟩ => ⟨S_, .f32⟩
  | .hbm, ⟨36, _⟩ => ⟨S5120, .f32⟩
  | .hbm, ⟨37, _⟩ => ⟨S5120, .f32⟩
  | .hbm, ⟨38, _⟩ => ⟨S5120, .f32⟩
  | .hbm, ⟨39, _⟩ => ⟨S_, .f32⟩
  | .hbm, ⟨40, _⟩ => ⟨S5120, .f32⟩
  | .hbm, ⟨41, _⟩ => ⟨S5120, .f32⟩
  | .hbm, ⟨42, _⟩ => ⟨S8x640, .f32⟩
  | .hbm, ⟨43, _⟩ => ⟨S8x640, .f32⟩
  | .hbm, ⟨44, _⟩ => ⟨S8x640, .f32⟩
  | .hbm, ⟨45, _⟩ => ⟨S8x640, .f32⟩
  | _, _ => ⟨S1x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelAdamB.lean ====
abbrev S1x6144 : Shape := ⟨2, ![1, 6144]⟩
abbrev S16x6144 : Shape := ⟨2, ![16, 6144]⟩
abbrev S8x768 : Shape := ⟨2, ![8, 768]⟩
abbrev S16x8x768 : Shape := ⟨3, ![16, 8, 768]⟩
abbrev S1x8x768 : Shape := ⟨3, ![1, 8, 768]⟩

abbrev nBuf : Space → Nat
  | .hbm => 12
  | .vmem => 8
  | .smem => 0
  | _ => 0

abbrev bufTy : (tb : Table) → Fin (tcTables nBuf tb) → BufTy
  | .hbm, ⟨0, _⟩ => ⟨S1x6144, .f32⟩
  | .hbm, ⟨1, _⟩ => ⟨S16x6144, .f32⟩
  | .hbm, ⟨2, _⟩ => ⟨S1x6144, .f32⟩
  | .hbm, ⟨3, _⟩ => ⟨S1x6144, .f32⟩
  | .hbm, ⟨4, _⟩ => ⟨S8x768, .f32⟩
  | .hbm, ⟨5, _⟩ => ⟨S16x8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S8x768, .f32⟩
  | .local _ .vmem, ⟨0, _⟩ => ⟨S8x768, .f32⟩
  | .local _ .vmem, ⟨1, _⟩ => ⟨S16x8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceAdamBIdeal.lean ====
abbrev S1x6144 : Shape := ⟨2, ![1, 6144]⟩
abbrev S16x6144 : Shape := ⟨2, ![16, 6144]⟩
abbrev S_ : Shape := ⟨0, ![]⟩
abbrev S6144 : Shape := ⟨1, ![6144]⟩
abbrev S8x768 : Shape := ⟨2, ![8, 768]⟩

abbrev nBuf : Space → Nat
  | .hbm => 46
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S16x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S6144, .f32⟩
  | .hbm, ⟨6, _⟩ => ⟨S6144, .f32⟩
  | .hbm, ⟨7, _⟩ => ⟨S6144, .f32⟩
  | .hbm, ⟨8, _⟩ => ⟨S6144, .f32⟩
  | .hbm, ⟨9, _⟩ => ⟨S_, .f32⟩
  | .hbm, ⟨10, _⟩ => ⟨S6144, .f32⟩
  | .hbm, ⟨11, _⟩ => ⟨S6144, .f32⟩
  | .hbm, ⟨12, _⟩ => ⟨S_, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S_, .f32⟩
  | .hbm, ⟨17, _⟩ => ⟨S6144, .f32⟩
  | .hbm, ⟨18, _⟩ => ⟨S6144, .f32⟩
  | .hbm, ⟨19, _⟩ => ⟨S6144, .f32⟩
  | .hbm, ⟨20, _⟩ => ⟨S_, .f32⟩
  | .hbm, ⟨21, _⟩ => ⟨S6144, .f32⟩
  | .hbm, ⟨22, _⟩ => ⟨S6144, .f32⟩
  | .hbm, ⟨23, _⟩ => ⟨S6144, .f32⟩
  | .hbm, ⟨24, _⟩ => ⟨S_, .f32⟩
  | .hbm, ⟨25, _⟩ => ⟨S6144, .f32⟩
  | .hbm, ⟨26, _⟩ => ⟨S6144, .f32⟩
  | .hbm, ⟨27, _⟩ => ⟨S_, .f32⟩
  | .hbm, ⟨28, _⟩ => ⟨S6144, .f32⟩
  | .hbm, ⟨29, _⟩ => ⟨S6144, .f32⟩
  | .hbm, ⟨30, _⟩ => ⟨S6144, .f32⟩
  | .hbm, ⟨31, _⟩ => ⟨S_, .f32⟩
  | .hbm, ⟨32, _⟩ => ⟨S6144, .f32⟩
  | .hbm, ⟨33, _⟩ => ⟨S6144, .f32⟩
  | .hbm, ⟨34, _⟩ => ⟨S6144, .f32⟩
  | .hbm, ⟨35, _⟩ => ⟨S_, .f32⟩
  | .hbm, ⟨36, _⟩ => ⟨S6144, .f32⟩
  | .hbm, ⟨37, _⟩ => ⟨S6144, .f32⟩
  | .hbm, ⟨38, _⟩ => ⟨S6144, .f32⟩
  | .hbm, ⟨39, _⟩ => ⟨S_, .f32⟩
  | .hbm, ⟨40, _⟩ => ⟨S6144, .f32⟩
  | .hbm, ⟨41, _⟩ => ⟨S6144, .f32⟩
  | .hbm, ⟨42, _⟩ => ⟨S8x768, .f32⟩
  | .hbm, ⟨43, _⟩ => ⟨S8x768, .f32⟩
  | .hbm, ⟨44, _⟩ => ⟨S8x768, .f32⟩
  | .hbm, ⟨45, _⟩ => ⟨S8x768, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelAdamW1.lean ====
abbrev S1024x1536 : Shape := ⟨2, ![1024, 1536]⟩
abbrev S1024x552 : Shape := ⟨2, ![1024, 552]⟩
abbrev S384x192 : Shape := ⟨2, ![384, 192]⟩
abbrev S128x1536 : Shape := ⟨2, ![128, 1536]⟩
abbrev S128x552 : Shape := ⟨2, ![128, 552]⟩
abbrev S48x192 : Shape := ⟨2, ![48, 192]⟩

abbrev nBuf : Space → Nat
  | .hbm => 21
  | .vmem => 42
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x552, .f32⟩
  | .hbm, ⟨5, _⟩ => ⟨S1024x552, .f32⟩
  | .hbm, ⟨6, _⟩ => ⟨S1024x552, .f32⟩
  | .hbm, ⟨7, _⟩ => ⟨S1024x552, .f32⟩
  | .hbm, ⟨8, _⟩ => ⟨S384x192, .f32⟩
  | .hbm, ⟨9, _⟩ => ⟨S384x192, .f32⟩
  | .hbm, ⟨10, _⟩ => ⟨S384x192, .f32⟩
  | .hbm, ⟨11, _⟩ => ⟨S384x192, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S1024x552, .f32⟩
  | .hbm, ⟨16, _⟩ => ⟨S1024x552, .f32⟩
  | .hbm, ⟨17, _⟩ => ⟨S1024x552, .f32⟩
  | .hbm, ⟨18, _⟩ => ⟨S384x192, .f32⟩
  | .hbm, ⟨19, _⟩ => ⟨S384x192, .f32⟩
  | .hbm, ⟨20, _⟩ => ⟨S384x192, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x552, .f32⟩
  | .local _ .vmem, ⟨9, _⟩ => ⟨S128x552, .f32⟩
  | .local _ .vmem, ⟨10, _⟩ => ⟨S128x552, .f32⟩
  | .local _ .vmem, ⟨11, _⟩ => ⟨S128x552, .f32⟩
  | .local _ .vmem, ⟨12, _⟩ => ⟨S128x552, .f32⟩
  | .local _ .vmem, ⟨13, _⟩ => ⟨S128x552, .f32⟩
  | .local _ .vmem, ⟨14, _⟩ => ⟨S128x552, .f32⟩
  | .local _ .vmem, ⟨15, _⟩ => ⟨S128x552, .f32⟩
  | .local _ .vmem, ⟨16, _⟩ => ⟨S48x192, .f32⟩
  | .local _ .vmem, ⟨17, _⟩ => ⟨S48x192, .f32⟩
  | .local _ .vmem, ⟨18, _⟩ => ⟨S48x192, .f32⟩
  | .local _ .vmem, ⟨19, _⟩ => ⟨S48x192, .f32⟩
  | .local _ .vmem, ⟨20, _⟩ => ⟨S48x192, .f32⟩
  | .local _ .vmem, ⟨21, _⟩ => ⟨S48x192, .f32⟩
  | .local _ .vmem, ⟨22, _⟩ => ⟨S48x192, .f32⟩
  | .local _ .vmem, ⟨23, _⟩ => ⟨S48x192, .f32⟩
  | .local _ .vmem, ⟨24, _⟩ => ⟨S128x1536, .f32⟩
  | .local _ .vmem, ⟨25, _⟩ => ⟨S128x1536, .f32⟩
  | .local _ .vmem, ⟨26, _⟩ => ⟨S128x1536, .f32⟩
  | .local _ .vmem, ⟨27, _⟩ => ⟨S128x1536, .f32⟩
  | .local _ .vmem, ⟨28, _⟩ => ⟨S128x1536, .f32⟩
  | .local _ .vmem, ⟨29, _⟩ => ⟨S128x1536, .f32⟩
  | .local _ .vmem, ⟨30, _⟩ => ⟨S128x552, .f32⟩
  | .local _ .vmem, ⟨31, _⟩ => ⟨S128x552, .f32⟩
  | .local _ .vmem, ⟨32, _⟩ => ⟨S128x552, .f32⟩
  | .local _ .vmem, ⟨33, _⟩ => ⟨S128x552, .f32⟩
  | .local _ .vmem, ⟨34, _⟩ => ⟨S128x552, .f32⟩
  | .local _ .vmem, ⟨35, _⟩ => ⟨S128x552, .f32⟩
  | .local _ .vmem, ⟨36, _⟩ => ⟨S48x192, .f32⟩
  | .local _ .vmem, ⟨37, _⟩ => ⟨S48x192, .f32⟩
  | .local _ .vmem, ⟨38, _⟩ => ⟨S48x192, .f32⟩
  | .local _ .vmem, ⟨39, _⟩ => ⟨S48x192, .f32⟩
  | .local _ .vmem, ⟨40, _⟩ => ⟨S48x192, .f32⟩
  | .local _ .vmem, ⟨41, _⟩ => ⟨S48x192, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x552 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x552 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x552 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x552 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S48x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S48x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S48x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S48x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x552 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x552 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x552 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S48x192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S48x192 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S48x192 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceAdamW1Ideal.lean ====
abbrev S1024x1536 : Shape := ⟨2, ![1024, 1536]⟩
abbrev S1024x552 : Shape := ⟨2, ![1024, 552]⟩
abbrev S384x192 : Shape := ⟨2, ![384, 192]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x552, .f32⟩
  | .hbm, ⟨5, _⟩ => ⟨S1024x552, .f32⟩
  | .hbm, ⟨6, _⟩ => ⟨S1024x552, .f32⟩
  | .hbm, ⟨7, _⟩ => ⟨S1024x552, .f32⟩
  | .hbm, ⟨8, _⟩ => ⟨S384x192, .f32⟩
  | .hbm, ⟨9, _⟩ => ⟨S384x192, .f32⟩
  | .hbm, ⟨10, _⟩ => ⟨S384x192, .f32⟩
  | .hbm, ⟨11, _⟩ => ⟨S384x192, .f32⟩
  | .hbm, ⟨12, _⟩ => ⟨S_, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S1024x1536, .f32⟩
  | .hbm, ⟨27, _⟩ => ⟨S_, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S1024x1536, .f32⟩
  | .hbm, ⟨38, _⟩ => ⟨S_, .f32⟩
  | .hbm, ⟨39, _⟩ => ⟨S1024x1536, .f32⟩
  | .hbm, ⟨40, _⟩ => ⟨S1024x1536, .f32⟩
  | .hbm, ⟨41, _⟩ => ⟨S1024x1536, .f32⟩
  | .hbm, ⟨42, _⟩ => ⟨S_, .f32⟩
  | .hbm, ⟨43, _⟩ => ⟨S1024x1536, .f32⟩
  | .hbm, ⟨44, _⟩ => ⟨S1024x1536, .f32⟩
  | .hbm, ⟨45, _⟩ => ⟨S_, .f32⟩
  | .hbm, ⟨46, _⟩ => ⟨S1024x552, .f32⟩
  | .hbm, ⟨47, _⟩ => ⟨S1024x552, .f32⟩
  | .hbm, ⟨48, _⟩ => ⟨S_, .f32⟩
  | .hbm, ⟨49, _⟩ => ⟨S1024x552, .f32⟩
  | .hbm, ⟨50, _⟩ => ⟨S1024x552, .f32⟩
  | .hbm, ⟨51, _⟩ => ⟨S1024x552, .f32⟩
  | .hbm, ⟨52, _⟩ => ⟨S_, .f32⟩
  | .hbm, ⟨53, _⟩ => ⟨S1024x552, .f32⟩
  | .hbm, ⟨54, _⟩ => ⟨S1024x552, .f32⟩
  | .hbm, ⟨55, _⟩ => ⟨S1024x552, .f32⟩
  | .hbm, ⟨56, _⟩ => ⟨S_, .f32⟩
  | .hbm, ⟨57, _⟩ => ⟨S1024x552, .f32⟩
  | .hbm, ⟨58, _⟩ => ⟨S1024x552, .f32⟩
  | .hbm, ⟨59, _⟩ => ⟨S1024x552, .f32⟩
  | .hbm, ⟨60, _⟩ => ⟨S_, .f32⟩
  | .hbm, ⟨61, _⟩ => ⟨S1024x552, .f32⟩
  | .hbm, ⟨62, _⟩ => ⟨S1024x552, .f32⟩
  | .hbm, ⟨63, _⟩ => ⟨S_, .f32⟩
  | .hbm, ⟨64, _⟩ => ⟨S1024x552, .f32⟩
  | .hbm, ⟨65, _⟩ => ⟨S1024x552, .f32⟩
  | .hbm, ⟨66, _⟩ => ⟨S1024x552, .f32⟩
  | .hbm, ⟨67, _⟩ => ⟨S_, .f32⟩
  | .hbm, ⟨68, _⟩ => ⟨S1024x552, .f32⟩
  | .hbm, ⟨69, _⟩ => ⟨S1024x552, .f32⟩
  | .hbm, ⟨70, _⟩ => ⟨S1024x552, .f32⟩
  | .hbm, ⟨71, _⟩ => ⟨S_, .f32⟩
  | .hbm, ⟨72, _⟩ => ⟨S1024x552, .f32⟩
  | .hbm, ⟨73, _⟩ => ⟨S1024x552, .f32⟩
  | .hbm, ⟨74, _⟩ => ⟨S1024x552, .f32⟩
  | .hbm, ⟨75, _⟩ => ⟨S_, .f32⟩
  | .hbm, ⟨76, _⟩ => ⟨S1024x552, .f32⟩
  | .hbm, ⟨77, _⟩ => ⟨S1024x552, .f32⟩
  | .hbm, ⟨78, _⟩ => ⟨S_, .f32⟩
  | .hbm, ⟨79, _⟩ => ⟨S384x192, .f32⟩
  | .hbm, ⟨80, _⟩ => ⟨S384x192, .f32⟩
  | .hbm, ⟨81, _⟩ => ⟨S_, .f32⟩
  | .hbm, ⟨82, _⟩ => ⟨S384x192, .f32⟩
  | .hbm, ⟨83, _⟩ => ⟨S384x192, .f32⟩
  | .hbm, ⟨84, _⟩ => ⟨S384x192, .f32⟩
  | .hbm, ⟨85, _⟩ => ⟨S_, .f32⟩
  | .hbm, ⟨86, _⟩ => ⟨S384x192, .f32⟩
  | .hbm, ⟨87, _⟩ => ⟨S384x192, .f32⟩
  | .hbm, ⟨88, _⟩ => ⟨S384x192, .f32⟩
  | .hbm, ⟨89, _⟩ => ⟨S_, .f32⟩
  | .hbm, ⟨90, _⟩ => ⟨S384x192, .f32⟩
  | .hbm, ⟨91, _⟩ => ⟨S384x192, .f32⟩
  | .hbm, ⟨92, _⟩ => ⟨S384x192, .f32⟩
  | .hbm, ⟨93, _⟩ => ⟨S_, .f32⟩
  | .hbm, ⟨94, _⟩ => ⟨S384x192, .f32⟩
  | .hbm, ⟨95, _⟩ => ⟨S384x192, .f32⟩
  | .hbm, ⟨96, _⟩ => ⟨S_, .f32⟩
  | .hbm, ⟨97, _⟩ => ⟨S384x192, .f32⟩
  | .hbm, ⟨98, _⟩ => ⟨S384x192, .f32⟩
  | .hbm, ⟨99, _⟩ => ⟨S384x192, .f32⟩
  | .hbm, ⟨100, _⟩ => ⟨S_, .f32⟩
  | .hbm, ⟨101, _⟩ => ⟨S384x192, .f32⟩
  | .hbm, ⟨102, _⟩ => ⟨S384x192, .f32⟩
  | .hbm, ⟨103, _⟩ => ⟨S384x192, .f32⟩
  | .hbm, ⟨104, _⟩ => ⟨S_, .f32⟩
  | .hbm, ⟨105, _⟩ => ⟨S384x192, .f32⟩
  | .hbm, ⟨106, _⟩ => ⟨S384x192, .f32⟩
  | .hbm, ⟨107, _⟩ => ⟨S384x192, .f32⟩
  | .hbm, ⟨108, _⟩ => ⟨S_, .f32⟩
  | .hbm, ⟨109, _⟩ => ⟨S384x192, .f32⟩
  | .hbm, ⟨110, _⟩ => ⟨S384x192, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== KernelAdamW2.lean ====
abbrev S256x256 : Shape := ⟨2, ![256, 256]⟩
abbrev S256x1024 : Shape := ⟨2, ![256, 1024]⟩
abbrev S32x256 : Shape := ⟨2, ![32, 256]⟩
abbrev S32x1024 : Shape := ⟨2, ![32, 1024]⟩

abbrev nBuf : Space → Nat
  | .hbm => 14
  | .vmem => 28
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x1024, .f32⟩
  | .hbm, ⟨12, _⟩ => ⟨S256x1024, .f32⟩
  | .hbm, ⟨13, _⟩ => ⟨S256x1024, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x256, .f32⟩
  | .local _ .vmem, ⟨17, _⟩ => ⟨S32x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceAdamW2Ideal.lean ====
abbrev S256x256 : Shape := ⟨2, ![256, 256]⟩
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== KernelAdamW3.lean ====
abbrev S1024x1408 : Shape := ⟨2, ![1024, 1408]⟩
abbrev S704x1024 : Shape := ⟨2, ![704, 1024]⟩
abbrev S128x1408 : Shape := ⟨2, ![128, 1408]⟩
abbrev S88x1024 : Shape := ⟨2, ![88, 1024]⟩

abbrev nBuf : Space → Nat
  | .hbm => 14
  | .vmem => 28
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S704x1024, .f32⟩
  | .hbm, ⟨12, _⟩ => ⟨S704x1024, .f32⟩
  | .hbm, ⟨13, _⟩ => ⟨S704x1024, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S128x1408, .f32⟩
  | .local _ .vmem, ⟨17, _⟩ => ⟨S128x1408, .f32⟩
  | .local _ .vmem, ⟨18, _⟩ => ⟨S128x1408, .f32⟩
  | .local _ .vmem, ⟨19, _⟩ => ⟨S128x1408, .f32⟩
  | .local _ .vmem, ⟨20, _⟩ => ⟨S128x1408, .f32⟩
  | .local _ .vmem, ⟨21, _⟩ => ⟨S128x1408, .f32⟩
  | .local _ .vmem, ⟨22, _⟩ => ⟨S88x1024, .f32⟩
  | .local _ .vmem, ⟨23, _⟩ => ⟨S88x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceAdamW3Ideal.lean ====
abbrev S1024x1408 : Shape := ⟨2, ![1024, 1408]⟩
abbrev S704x1024 : Shape := ⟨2, ![704, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S_, .f32⟩
  | .hbm, ⟨60, _⟩ => ⟨S704x1024, .f32⟩
  | .hbm, ⟨61, _⟩ => ⟨S704x1024, .f32⟩
  | .hbm, ⟨62, _⟩ => ⟨S704x1024, .f32⟩
  | .hbm, ⟨63, _⟩ => ⟨S_, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S_, .f32⟩
  | .hbm, ⟨68, _⟩ => ⟨S704x1024, .f32⟩
  | .hbm, ⟨69, _⟩ => ⟨S704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== KernelFinalLoss.lean ====
abbrev S2x2048x1024 : Shape := ⟨3, ![2, 2048, 1024]⟩
abbrev S4096x2816 : Shape := ⟨2, ![4096, 2816]⟩
abbrev S2816x1024 : Shape := ⟨2, ![2816, 1024]⟩
abbrev S2x1x1024 : Shape := ⟨3, ![2, 1, 1024]⟩
abbrev S1x1024 : Shape := ⟨2, ![1, 1024]⟩
abbrev S1x128 : Shape := ⟨2, ![1, 128]⟩
abbrev S1x512x1024 : Shape := ⟨3, ![1, 512, 1024]⟩
abbrev S512x2816 : Shape := ⟨2, ![512, 2816]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 11
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S4096x2816, .bf16⟩
  | .hbm, ⟨2, _⟩ => ⟨S2816x1024, .bf16⟩
  | .hbm, ⟨3, _⟩ => ⟨S2x1x1024, .f32⟩
  | .hbm, ⟨4, _⟩ => ⟨S1x1024, .f32⟩
  | .hbm, ⟨5, _⟩ => ⟨S2x2048x1024, .f32⟩
  | .hbm, ⟨6, _⟩ => ⟨S2x2048x1024, .f32⟩
  | .hbm, ⟨7, _⟩ => ⟨S2x2048x1024, .bf16⟩
  | .hbm, ⟨8, _⟩ => ⟨S2x1x1024, .f32⟩
  | .hbm, ⟨9, _⟩ => ⟨S1x1024, .f32⟩
  | .hbm, ⟨10, _⟩ => ⟨S1x128, .f32⟩
  | .local _ .vmem, ⟨0, _⟩ => ⟨S1x512x1024, .f32⟩
  | .local _ .vmem, ⟨1, _⟩ => ⟨S1x512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceFinalLossIdeal.lean ====
abbrev S2x2048x1024 : Shape := ⟨3, ![2, 2048, 1024]⟩
abbrev S4096x2816 : Shape := ⟨2, ![4096, 2816]⟩
abbrev S2816x1024 : Shape := ⟨2, ![2816, 1024]⟩
abbrev S2x1x1024 : Shape := ⟨3, ![2, 1, 1024]⟩
abbrev S1x1024 : Shape := ⟨2, ![1, 1024]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩
abbrev S2x1024 : Shape := ⟨2, ![2, 1024]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x2816, .bf16⟩
  | .hbm, ⟨2, _⟩ => ⟨S2816x1024, .bf16⟩
  | .hbm, ⟨3, _⟩ => ⟨S2x1x1024, .f32⟩
  | .hbm, ⟨4, _⟩ => ⟨S1x1024, .f32⟩
  | .hbm, ⟨5, _⟩ => ⟨S2x2048x1024, .f32⟩
  | .hbm, ⟨6, _⟩ => ⟨S4096x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S_, .f32⟩
  | .hbm, ⟨39, _⟩ => ⟨S2x2048, .f32⟩
  | .hbm, ⟨40, _⟩ => ⟨S2x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2x2048x1024, .f32⟩
  | .hbm, ⟨64, _⟩ => ⟨S_, .f32⟩
  | .hbm, ⟨65, _⟩ => ⟨S2x2048, .f32⟩
  | .hbm, ⟨66, _⟩ => ⟨S2x2048x1, .f32⟩
  | .hbm, ⟨67, _⟩ => ⟨S2x2048x1024, .f32⟩
  | .hbm, ⟨68, _⟩ => ⟨S2x2048x1024, .f32⟩
  | .hbm, ⟨69, _⟩ => ⟨S2x2048x1, .f32⟩
  | .hbm, ⟨70, _⟩ => ⟨S_, .f32⟩
  | .hbm, ⟨71, _⟩ => ⟨S2x2048x1, .f32⟩
  | .hbm, ⟨72, _⟩ => ⟨S2x2048x1, .f32⟩
  | .hbm, ⟨73, _⟩ => ⟨S_, .f32⟩
  | .hbm, ⟨74, _⟩ => ⟨S2x2048, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S_, .f32⟩
  | .hbm, ⟨84, _⟩ => ⟨S2x1024, .f32⟩
  | .hbm, ⟨85, _⟩ => ⟨S2x1x1024, .f32⟩
  | .hbm, ⟨86, _⟩ => ⟨S2x2048x1024, .bf16⟩
  | .hbm, ⟨87, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== KernelAdaln1.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S2x1x1024, .f32⟩
  | .hbm, ⟨4, _⟩ => ⟨S2x2048x1024, .f32⟩
  | .hbm, ⟨5, _⟩ => ⟨S2x2048x1024, .f32⟩
  | .hbm, ⟨6, _⟩ => ⟨S2x1x1024, .f32⟩
  | .hbm, ⟨7, _⟩ => ⟨S2x1x1024, .f32⟩
  | .hbm, ⟨8, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceAdaln1Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S2x1x1024, .f32⟩
  | .hbm, ⟨4, _⟩ => ⟨S2x2048x1024, .f32⟩
  | .hbm, ⟨5, _⟩ => ⟨S_, .f32⟩
  | .hbm, ⟨6, _⟩ => ⟨S2x1x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x1024, .f32⟩
  | .hbm, ⟨37, _⟩ => ⟨S2x1x1024, .f32⟩
  | .hbm, ⟨38, _⟩ => ⟨S2x2048x1024, .f32⟩
  | .hbm, ⟨39, _⟩ => ⟨S_, .f32⟩
  | .hbm, ⟨40, _⟩ => ⟨S2x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2x2048x1024, .f32⟩
  | .hbm, ⟨54, _⟩ => ⟨S_, .f32⟩
  | .hbm, ⟨55, _⟩ => ⟨S2x2048, .f32⟩
  | .hbm, ⟨56, _⟩ => ⟨S2x2048x1, .f32⟩
  | .hbm, ⟨57, _⟩ => ⟨S2x2048x1024, .f32⟩
  | .hbm, ⟨58, _⟩ => ⟨S2x2048x1024, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S_, .f32⟩
  | .hbm, ⟨64, _⟩ => ⟨S2x2048, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== KernelAdaln2.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S2x1x1024, .f32⟩
  | .hbm, ⟨4, _⟩ => ⟨S2x2048x1024, .f32⟩
  | .hbm, ⟨5, _⟩ => ⟨S2x2048x1024, .f32⟩
  | .hbm, ⟨6, _⟩ => ⟨S2x1x1024, .f32⟩
  | .hbm, ⟨7, _⟩ => ⟨S2x2048x1024, .f32⟩
  | .hbm, ⟨8, _⟩ => ⟨S2x1x1024, .f32⟩
  | .hbm, ⟨9, _⟩ => ⟨S2x1x1024, .f32⟩
  | .hbm, ⟨10, _⟩ => ⟨S1x1024, .f32⟩
  | .hbm, ⟨11, _⟩ => ⟨S2x1x1024, .f32⟩
  | .hbm, ⟨12, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x512x1024, .bf16⟩
  | .local _ .vmem, ⟨23, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceAdaln2Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S2x1x1024, .f32⟩
  | .hbm, ⟨4, _⟩ => ⟨S2x2048x1024, .f32⟩
  | .hbm, ⟨5, _⟩ => ⟨S2x2048x1024, .f32⟩
  | .hbm, ⟨6, _⟩ => ⟨S2x1x1024, .f32⟩
  | .hbm, ⟨7, _⟩ => ⟨S_, .f32⟩
  | .hbm, ⟨8, _⟩ => ⟨S2x1x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x1024, .f32⟩
  | .hbm, ⟨39, _⟩ => ⟨S2x1x1024, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2x2048x1024, .f32⟩
  | .hbm, ⟨56, _⟩ => ⟨S_, .f32⟩
  | .hbm, ⟨57, _⟩ => ⟨S2x2048, .f32⟩
  | .hbm, ⟨58, _⟩ => ⟨S2x2048x1, .f32⟩
  | .hbm, ⟨59, _⟩ => ⟨S2x2048x1024, .f32⟩
  | .hbm, ⟨60, _⟩ => ⟨S2x2048x1024, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S_, .f32⟩
  | .hbm, ⟨79, _⟩ => ⟨S2x1024, .f32⟩
  | .hbm, ⟨80, _⟩ => ⟨S2x1x1024, .f32⟩
  | .hbm, ⟨81, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== KernelInProj.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x1536 : Shape := ⟨2, ![1024, 1536]⟩
abbrev S1024x768 : Shape := ⟨2, ![1024, 768]⟩
abbrev S1x384 : Shape := ⟨2, ![1, 384]⟩
abbrev S1x256 : Shape := ⟨2, ![1, 256]⟩
abbrev S2x2048x1536 : Shape := ⟨3, ![2, 2048, 1536]⟩
abbrev S2x512x6144 : Shape := ⟨3, ![2, 512, 6144]⟩
abbrev S2x128x24576 : Shape := ⟨3, ![2, 128, 24576]⟩
abbrev S2x2048x768 : Shape := ⟨3, ![2, 2048, 768]⟩
abbrev S4096x384 : Shape := ⟨2, ![4096, 384]⟩
abbrev S4096x256 : Shape := ⟨2, ![4096, 256]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x128x6144 : Shape := ⟨3, ![1, 128, 6144]⟩
abbrev S1x32x24576 : Shape := ⟨3, ![1, 32, 24576]⟩
abbrev S1x512x768 : Shape := ⟨3, ![1, 512, 768]⟩
abbrev S512x384 : Shape := ⟨2, ![512, 384]⟩
abbrev S512x256 : Shape := ⟨2, ![512, 256]⟩
abbrev S12x512x128 : Shape := ⟨3, ![12, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S32x128 : Shape := ⟨2, ![32, 128]⟩
abbrev S1x32x128 : Shape := ⟨3, ![1, 32, 128]⟩
abbrev S512x768 : Shape := ⟨2, ![512, 768]⟩

abbrev nBuf : Space → Nat
  | .hbm => 15
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x1536, .bf16⟩
  | .hbm, ⟨5, _⟩ => ⟨S1024x768, .bf16⟩
  | .hbm, ⟨6, _⟩ => ⟨S1x384, .f32⟩
  | .hbm, ⟨7, _⟩ => ⟨S1x256, .f32⟩
  | .hbm, ⟨8, _⟩ => ⟨S2x2048x1024, .bf16⟩
  | .hbm, ⟨9, _⟩ => ⟨S2x2048x1536, .bf16⟩
  | .hbm, ⟨10, _⟩ => ⟨S2x512x6144, .bf16⟩
  | .hbm, ⟨11, _⟩ => ⟨S2x128x24576, .bf16⟩
  | .hbm, ⟨12, _⟩ => ⟨S2x2048x768, .f32⟩
  | .hbm, ⟨13, _⟩ => ⟨S4096x384, .bf16⟩
  | .hbm, ⟨14, _⟩ => ⟨S4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1024x768, .bf16⟩
  | .local _ .vmem, ⟨9, _⟩ => ⟨S1x384, .f32⟩
  | .local _ .vmem, ⟨10, _⟩ => ⟨S1x256, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1536, .bf16⟩
  | .local _ .vmem, ⟨14, _⟩ => ⟨S1x512x1536, .bf16⟩
  | .local _ .vmem, ⟨15, _⟩ => ⟨S1x128x6144, .bf16⟩
  | .local _ .vmem, ⟨16, _⟩ => ⟨S1x128x6144, .bf16⟩
  | .local _ .vmem, ⟨17, _⟩ => ⟨S1x32x24576, .bf16⟩
  | .local _ .vmem, ⟨18, _⟩ => ⟨S1x32x24576, .bf16⟩
  | .local _ .vmem, ⟨19, _⟩ => ⟨S1x512x768, .f32⟩
  | .local _ .vmem, ⟨20, _⟩ => ⟨S1x512x768, .f32⟩
  | .local _ .vmem, ⟨21, _⟩ => ⟨S512x384, .bf16⟩
  | .local _ .vmem, ⟨22, _⟩ => ⟨S512x384, .bf16⟩
  | .local _ .vmem, ⟨23, _⟩ => ⟨S512x256, .bf16⟩
  | .local _ .vmem, ⟨24, _⟩ => ⟨S512x256, .bf16⟩
  | .local _ .vmem, ⟨25, _⟩ => ⟨S12x512x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x24576 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceInProjIdeal.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x1536 : Shape := ⟨2, ![1024, 1536]⟩
abbrev S1024x768 : Shape := ⟨2, ![1024, 768]⟩
abbrev S1x384 : Shape := ⟨2, ![1, 384]⟩
abbrev S1x256 : Shape := ⟨2, ![1, 256]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x1536 : Shape := ⟨3, ![2, 2048, 1536]⟩
abbrev S2x2048x768 : Shape := ⟨3, ![2, 2048, 768]⟩
abbrev S2x512x6144 : Shape := ⟨3, ![2, 512, 6144]⟩
abbrev S2x128x24576 : Shape := ⟨3, ![2, 128, 24576]⟩
abbrev S2x2048x256 : Shape := ⟨3, ![2, 2048, 256]⟩
abbrev S2x2048x384 : Shape := ⟨3, ![2, 2048, 384]⟩
abbrev S1x1x384 : Shape := ⟨3, ![1, 1, 384]⟩
abbrev S4096x384 : Shape := ⟨2, ![4096, 384]⟩
abbrev S1x1x256 : Shape := ⟨3, ![1, 1, 256]⟩
abbrev S4096x256 : Shape := ⟨2, ![4096, 256]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x1536, .bf16⟩
  | .hbm, ⟨5, _⟩ => ⟨S1024x768, .bf16⟩
  | .hbm, ⟨6, _⟩ => ⟨S1x384, .f32⟩
  | .hbm, ⟨7, _⟩ => ⟨S1x256, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S1024x1536, .f32⟩
  | .hbm, ⟨32, _⟩ => ⟨S2x2048x1536, .f32⟩
  | .hbm, ⟨33, _⟩ => ⟨S1024x768, .f32⟩
  | .hbm, ⟨34, _⟩ => ⟨S2x2048x768, .f32⟩
  | .hbm, ⟨35, _⟩ => ⟨S2x2048x1536, .bf16⟩
  | .hbm, ⟨36, _⟩ => ⟨S2x512x6144, .f32⟩
  | .hbm, ⟨37, _⟩ => ⟨S2x512x6144, .bf16⟩
  | .hbm, ⟨38, _⟩ => ⟨S2x128x24576, .f32⟩
  | .hbm, ⟨39, _⟩ => ⟨S2x128x24576, .bf16⟩
  | .hbm, ⟨40, _⟩ => ⟨S2x2048x256, .f32⟩
  | .hbm, ⟨41, _⟩ => ⟨S2x2048x384, .f32⟩
  | .hbm, ⟨42, _⟩ => ⟨S2x2048x1024, .bf16⟩
  | .hbm, ⟨43, _⟩ => ⟨S2x2048x384, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S_, .f32⟩
  | .hbm, ⟨51, _⟩ => ⟨S2x2048x1, .f32⟩
  | .hbm, ⟨52, _⟩ => ⟨S2x2048x1, .f32⟩
  | .hbm, ⟨53, _⟩ => ⟨S2x2048x1, .f32⟩
  | .hbm, ⟨54, _⟩ => ⟨S2x2048x384, .f32⟩
  | .hbm, ⟨55, _⟩ => ⟨S2x2048x384, .f32⟩
  | .hbm, ⟨56, _⟩ => ⟨S1x1x384, .f32⟩
  | .hbm, ⟨57, _⟩ => ⟨S2x2048x384, .f32⟩
  | .hbm, ⟨58, _⟩ => ⟨S2x2048x384, .f32⟩
  | .hbm, ⟨59, _⟩ => ⟨S4096x384, .f32⟩
  | .hbm, ⟨60, _⟩ => ⟨S4096x384, .bf16⟩
  | .hbm, ⟨61, _⟩ => ⟨S2x2048x256, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S2x2048x1, .f32⟩
  | .hbm, ⟨72, _⟩ => ⟨S2x2048x256, .f32⟩
  | .hbm, ⟨73, _⟩ => ⟨S2x2048x256, .f32⟩
  | .hbm, ⟨74, _⟩ => ⟨S1x1x256, .f32⟩
  | .hbm, ⟨75, _⟩ => ⟨S2x2048x256, .f32⟩
  | .hbm, ⟨76, _⟩ => ⟨S2x2048x256, .f32⟩
  | .hbm, ⟨77, _⟩ => ⟨S4096x256, .f32⟩
  | .hbm, ⟨78, _⟩ => ⟨S4096x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== KernelMixerOut.lean ====
abbrev S2x2048x512 : Shape := ⟨3, ![2, 2048, 512]⟩
abbrev S1x512 : Shape := ⟨2, ![1, 512]⟩
abbrev S1024x1024 : Shape := ⟨2, ![1024, 1024]⟩
abbrev S2x2048x1024 : Shape := ⟨3, ![2, 2048, 1024]⟩
abbrev S2x1x1024 : Shape := ⟨3, ![2, 1, 1024]⟩
abbrev S1x1024 : Shape := ⟨2, ![1, 1024]⟩
abbrev S4096x1024 : Shape := ⟨2, ![4096, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S2x2048x1024, .f32⟩
  | .hbm, ⟨6, _⟩ => ⟨S2x1x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S4096x1024, .bf16⟩
  | .hbm, ⟨11, _⟩ => ⟨S2x2048x1024, .f32⟩
  | .hbm, ⟨12, _⟩ => ⟨S2x2048x1024, .f32⟩
  | .hbm, ⟨13, _⟩ => ⟨S2x2048x1024, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .bf16⟩
  | .local _ .vmem, ⟨17, _⟩ => ⟨S512x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .bf16⟩
  | .local _ .vmem, ⟨23, _⟩ => ⟨S1x512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceMixerOutIdeal.lean ====
abbrev S2x2048x512 : Shape := ⟨3, ![2, 2048, 512]⟩
abbrev S1x512 : Shape := ⟨2, ![1, 512]⟩
abbrev S1024x1024 : Shape := ⟨2, ![1024, 1024]⟩
abbrev S2x2048x1024 : Shape := ⟨3, ![2, 2048, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S1x1x1024 : Shape := ⟨3, ![1, 1, 1024]⟩
abbrev S4096x1024 : Shape := ⟨2, ![4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S2x2048x1024, .f32⟩
  | .hbm, ⟨6, _⟩ => ⟨S2x1x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S2x2048x512, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x512, .f32⟩
  | .hbm, ⟨22, _⟩ => ⟨S2x2048x512, .f32⟩
  | .hbm, ⟨23, _⟩ => ⟨S1x1x512, .f32⟩
  | .hbm, ⟨24, _⟩ => ⟨S2x2048x512, .f32⟩
  | .hbm, ⟨25, _⟩ => ⟨S2x2048x512, .f32⟩
  | .hbm, ⟨26, _⟩ => ⟨S2x2048x512, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S2x2048x512, .f32⟩
  | .hbm, ⟨38, _⟩ => ⟨S2x2048x512, .f32⟩
  | .hbm, ⟨39, _⟩ => ⟨S1x1x512, .f32⟩
  | .hbm, ⟨40, _⟩ => ⟨S2x2048x512, .f32⟩
  | .hbm, ⟨41, _⟩ => ⟨S2x2048x512, .f32⟩
  | .hbm, ⟨42, _⟩ => ⟨S2x2048x1024, .f32⟩
  | .hbm, ⟨43, _⟩ => ⟨S1024x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x2048, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S_, .f32⟩
  | .hbm, ⟨56, _⟩ => ⟨S2x2048x1, .f32⟩
  | .hbm, ⟨57, _⟩ => ⟨S2x2048x1, .f32⟩
  | .hbm, ⟨58, _⟩ => ⟨S2x2048x1, .f32⟩
  | .hbm, ⟨59, _⟩ => ⟨S2x2048x1024, .f32⟩
  | .hbm, ⟨60, _⟩ => ⟨S2x2048x1024, .f32⟩
  | .hbm, ⟨61, _⟩ => ⟨S1x1x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S2x1x1024, .f32⟩
  | .hbm, ⟨66, _⟩ => ⟨S2x1x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S4096x1024, .bf16⟩
  | .hbm, ⟨73, _⟩ => ⟨S2x2048x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KernelMixerOutBwd.lean ====
abbrev S2x2048x1024 : Shape := ⟨3, ![2, 2048, 1024]⟩
abbrev S1024x1024 : Shape := ⟨2, ![1024, 1024]⟩
abbrev S2x2048x512 : Shape := ⟨3, ![2, 2048, 512]⟩
abbrev S1x512 : Shape := ⟨2, ![1, 512]⟩
abbrev S2x512x2048 : Shape := ⟨3, ![2, 512, 2048]⟩
abbrev S2x128x8192 : Shape := ⟨3, ![2, 128, 8192]⟩
abbrev S2x4x8x8x256 : Shape := ⟨5, ![2, 4, 8, 8, 256]⟩
abbrev S1x512x1024 : Shape := ⟨3, ![1, 512, 1024]⟩
abbrev S1x512x512 : Shape := ⟨3, ![1, 512, 512]⟩
abbrev S1x128x2048 : Shape := ⟨3, ![1, 128, 2048]⟩
abbrev S1x32x8192 : Shape := ⟨3, ![1, 32, 8192]⟩
abbrev S1x4x2x8x256 : Shape := ⟨5, ![1, 4, 2, 8, 256]⟩
abbrev S4x512x128 : Shape := ⟨3, ![4, 512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S32x128 : Shape := ⟨2, ![32, 128]⟩
abbrev S1x32x128 : Shape := ⟨3, ![1, 32, 128]⟩
abbrev S256x128 : Shape := ⟨2, ![256, 128]⟩
abbrev S128x256 : Shape := ⟨2, ![128, 256]⟩
abbrev S64x256 : Shape := ⟨2, ![64, 256]⟩
abbrev S256 : Shape := ⟨1, ![256]⟩
abbrev S1x256 : Shape := ⟨2, ![1, 256]⟩
abbrev S1x1x1x1x256 : Shape := ⟨5, ![1, 1, 1, 1, 256]⟩

abbrev nBuf : Space → Nat
  | .hbm => 13
  | .vmem => 22
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x512, .f32⟩
  | .hbm, ⟨3, _⟩ => ⟨S2x2048x512, .f32⟩
  | .hbm, ⟨4, _⟩ => ⟨S1x512, .f32⟩
  | .hbm, ⟨5, _⟩ => ⟨S1x512, .f32⟩
  | .hbm, ⟨6, _⟩ => ⟨S2x2048x512, .bf16⟩
  | .hbm, ⟨7, _⟩ => ⟨S2x512x2048, .bf16⟩
  | .hbm, ⟨8, _⟩ => ⟨S2x128x8192, .bf16⟩
  | .hbm, ⟨9, _⟩ => ⟨S1x512, .f32⟩
  | .hbm, ⟨10, _⟩ => ⟨S2x2048x512, .bf16⟩
  | .hbm, ⟨11, _⟩ => ⟨S1x512, .f32⟩
  | .hbm, ⟨12, _⟩ => ⟨S2x4x8x8x256, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512, .f32⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x32x8192, .bf16⟩
  | .local _ .vmem, ⟨14, _⟩ => ⟨S1x32x8192, .bf16⟩
  | .local _ .vmem, ⟨15, _⟩ => ⟨S1x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512, .f32⟩
  | .local _ .vmem, ⟨19, _⟩ => ⟨S1x4x2x8x256, .f32⟩
  | .local _ .vmem, ⟨20, _⟩ => ⟨S1x4x2x8x256, .f32⟩
  | .local _ .vmem, ⟨21, _⟩ => ⟨S4x512x128, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x2x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceMixerOutBwdIdeal.lean ====
abbrev S2x2048x1024 : Shape := ⟨3, ![2, 2048, 1024]⟩
abbrev S1024x1024 : Shape := ⟨2, ![1024, 1024]⟩
abbrev S2x2048x512 : Shape := ⟨3, ![2, 2048, 512]⟩
abbrev S1x512 : Shape := ⟨2, ![1, 512]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S512 : Shape := ⟨1, ![512]⟩
abbrev S2x512x2048 : Shape := ⟨3, ![2, 512, 2048]⟩
abbrev S2x128x8192 : Shape := ⟨3, ![2, 128, 8192]⟩

abbrev nBuf : Space → Nat
  | .hbm => 111
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x512, .f32⟩
  | .hbm, ⟨3, _⟩ => ⟨S2x2048x512, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S2x2048x512, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x512, .f32⟩
  | .hbm, ⟨23, _⟩ => ⟨S2x2048x512, .f32⟩
  | .hbm, ⟨24, _⟩ => ⟨S1x1x512, .f32⟩
  | .hbm, ⟨25, _⟩ => ⟨S2x2048x512, .f32⟩
  | .hbm, ⟨26, _⟩ => ⟨S2x2048x512, .f32⟩
  | .hbm, ⟨27, _⟩ => ⟨S2x2048x512, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x512, .f32⟩
  | .hbm, ⟨43, _⟩ => ⟨S2x2048x512, .f32⟩
  | .hbm, ⟨44, _⟩ => ⟨S1x1x512, .f32⟩
  | .hbm, ⟨45, _⟩ => ⟨S2x2048x512, .f32⟩
  | .hbm, ⟨46, _⟩ => ⟨S2x2048x512, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x512, .f32⟩
  | .hbm, ⟨52, _⟩ => ⟨S2x2048x512, .f32⟩
  | .hbm, ⟨53, _⟩ => ⟨S2x2048x512, .f32⟩
  | .hbm, ⟨54, _⟩ => ⟨S_, .f32⟩
  | .hbm, ⟨55, _⟩ => ⟨S512, .f32⟩
  | .hbm, ⟨56, _⟩ => ⟨S1x1x512, .f32⟩
  | .hbm, ⟨57, _⟩ => ⟨S2x2048x512, .f32⟩
  | .hbm, ⟨58, _⟩ => ⟨S2x2048x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S2x2048x512, .f32⟩
  | .hbm, ⟨63, _⟩ => ⟨S_, .f32⟩
  | .hbm, ⟨64, _⟩ => ⟨S2x2048, .f32⟩
  | .hbm, ⟨65, _⟩ => ⟨S2x2048x1, .f32⟩
  | .hbm, ⟨66, _⟩ => ⟨S2x2048x512, .f32⟩
  | .hbm, ⟨67, _⟩ => ⟨S2x2048x512, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x512, .f32⟩
  | .hbm, ⟨75, _⟩ => ⟨S2x2048x512, .f32⟩
  | .hbm, ⟨76, _⟩ => ⟨S2x2048x512, .f32⟩
  | .hbm, ⟨77, _⟩ => ⟨S2x2048x512, .f32⟩
  | .hbm, ⟨78, _⟩ => ⟨S2x2048x512, .f32⟩
  | .hbm, ⟨79, _⟩ => ⟨S2x2048x512, .f32⟩
  | .hbm, ⟨80, _⟩ => ⟨S_, .f32⟩
  | .hbm, ⟨81, _⟩ => ⟨S512, .f32⟩
  | .hbm, ⟨82, _⟩ => ⟨S1x1x512, .f32⟩
  | .hbm, ⟨83, _⟩ => ⟨S2x2048x512, .f32⟩
  | .hbm, ⟨84, _⟩ => ⟨S2x2048x512, .f32⟩
  | .hbm, ⟨85, _⟩ => ⟨S_, .f32⟩
  | .hbm, ⟨86, _⟩ => ⟨S512, .f32⟩
  | .hbm, ⟨87, _⟩ => ⟨S1x512, .f32⟩
  | .hbm, ⟨88, _⟩ => ⟨S2x2048x512, .f32⟩
  | .hbm, ⟨89, _⟩ => ⟨S_, .f32⟩
  | .hbm, ⟨90, _⟩ => ⟨S2x2048, .f32⟩
  | .hbm, ⟨91, _⟩ => ⟨S2x2048x1, .f32⟩
  | .hbm, ⟨92, _⟩ => ⟨S2x2048x512, .f32⟩
  | .hbm, ⟨93, _⟩ => ⟨S2x2048x512, .f32⟩
  | .hbm, ⟨94, _⟩ => ⟨S2x2048x1, .f32⟩
  | .hbm, ⟨95, _⟩ => ⟨S_, .f32⟩
  | .hbm, ⟨96, _⟩ => ⟨S2x2048x1, .f32⟩
  | .hbm, ⟨97, _⟩ => ⟨S2x2048x1, .f32⟩
  | .hbm, ⟨98, _⟩ => ⟨S_, .f32⟩
  | .hbm, ⟨99, _⟩ => ⟨S2x2048, .f32⟩
  | .hbm, ⟨100, _⟩ => ⟨S2x2048x512, .f32⟩
  | .hbm, ⟨101, _⟩ => ⟨S2x2048x512, .f32⟩
  | .hbm, ⟨102, _⟩ => ⟨S2x2048x512, .f32⟩
  | .hbm, ⟨103, _⟩ => ⟨S2x2048x512, .f32⟩
  | .hbm, ⟨104, _⟩ => ⟨S2x2048x512, .f32⟩
  | .hbm, ⟨105, _⟩ => ⟨S2x2048x512, .bf16⟩
  | .hbm, ⟨106, _⟩ => ⟨S2x512x2048, .f32⟩
  | .hbm, ⟨107, _⟩ => ⟨S2x512x2048, .bf16⟩
  | .hbm, ⟨108, _⟩ => ⟨S2x128x8192, .f32⟩
  | .hbm, ⟨109, _⟩ => ⟨S2x128x8192, .bf16⟩
  | .hbm, ⟨110, _⟩ => ⟨S2x2048x512, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== KernelRsMix.lean ====
abbrev S4x512x552 : Shape := ⟨3, ![4, 512, 552]⟩
abbrev S3x512x552 : Shape := ⟨3, ![3, 512, 552]⟩
abbrev S4x192x192 : Shape := ⟨3, ![4, 192, 192]⟩
abbrev S3x192x192 : Shape := ⟨3, ![3, 192, 192]⟩
abbrev S4x128x256 : Shape := ⟨3, ![4, 128, 256]⟩
abbrev S3x128x256 : Shape := ⟨3, ![3, 128, 256]⟩
abbrev S_ : Shape := ⟨0, ![]⟩
abbrev S1 : Shape := ⟨1, ![1]⟩
abbrev S2 : Shape := ⟨1, ![2]⟩
abbrev S2x512x552 : Shape := ⟨3, ![2, 512, 552]⟩
abbrev S2x192x192 : Shape := ⟨3, ![2, 192, 192]⟩
abbrev S2x128x256 : Shape := ⟨3, ![2, 128, 256]⟩
abbrev S1x256x552 : Shape := ⟨3, ![1, 256, 552]⟩
abbrev S1x96x192 : Shape := ⟨3, ![1, 96, 192]⟩
abbrev S1x64x256 : Shape := ⟨3, ![1, 64, 256]⟩
abbrev S256x552 : Shape := ⟨2, ![256, 552]⟩
abbrev S96x192 : Shape := ⟨2, ![96, 192]⟩
abbrev S64x256 : Shape := ⟨2, ![64, 256]⟩
abbrev S1x512x552 : Shape := ⟨3, ![1, 512, 552]⟩
abbrev S512x552 : Shape := ⟨2, ![512, 552]⟩
abbrev S1x192x192 : Shape := ⟨3, ![1, 192, 192]⟩
abbrev S192x192 : Shape := ⟨2, ![192, 192]⟩
abbrev S1x128x256 : Shape := ⟨3, ![1, 128, 256]⟩
abbrev S128x256 : Shape := ⟨2, ![128, 256]⟩

abbrev nBuf : Space → Nat
  | .hbm => 19
  | .vmem => 30
  | .smem => 1
  | _ => 0

abbrev bufTy : (tb : Table) → Fin (tcTables nBuf tb) → BufTy
  | .hbm, ⟨0, _⟩ => ⟨S4x512x552, .f32⟩
  | .hbm, ⟨1, _⟩ => ⟨S3x512x552, .bf16⟩
  | .hbm, ⟨2, _⟩ => ⟨S4x192x192, .f32⟩
  | .hbm, ⟨3, _⟩ => ⟨S3x192x192, .bf16⟩
  | .hbm, ⟨4, _⟩ => ⟨S4x128x256, .f32⟩
  | .hbm, ⟨5, _⟩ => ⟨S3x128x256, .bf16⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2x512x552, .f32⟩
  | .hbm, ⟨11, _⟩ => ⟨S2x192x192, .f32⟩
  | .hbm, ⟨12, _⟩ => ⟨S2x128x256, .f32⟩
  | .hbm, ⟨13, _⟩ => ⟨S1x512x552, .f32⟩
  | .hbm, ⟨14, _⟩ => ⟨S512x552, .f32⟩
  | .hbm, ⟨15, _⟩ => ⟨S1x192x192, .f32⟩
  | .hbm, ⟨16, _⟩ => ⟨S192x192, .f32⟩
  | .hbm, ⟨17, _⟩ => ⟨S1x128x256, .f32⟩
  | .hbm, ⟨18, _⟩ => ⟨S128x256, .f32⟩
  | .local _ .vmem, ⟨0, _⟩ => ⟨S1x256x552, .f32⟩
  | .local _ .vmem, ⟨1, _⟩ => ⟨S1x256x552, .f32⟩
  | .local _ .vmem, ⟨2, _⟩ => ⟨S1x256x552, .bf16⟩
  | .local _ .vmem, ⟨3, _⟩ => ⟨S1x256x552, .bf16⟩
  | .local _ .vmem, ⟨4, _⟩ => ⟨S1x256x552, .bf16⟩
  | .local _ .vmem, ⟨5, _⟩ => ⟨S1x256x552, .bf16⟩
  | .local _ .vmem, ⟨6, _⟩ => ⟨S1x256x552, .bf16⟩
  | .local _ .vmem, ⟨7, _⟩ => ⟨S1x256x552, .bf16⟩
  | .local _ .vmem, ⟨8, _⟩ => ⟨S1x96x192, .f32⟩
  | .local _ .vmem, ⟨9, _⟩ => ⟨S1x96x192, .f32⟩
  | .local _ .vmem, ⟨10, _⟩ => ⟨S1x96x192, .bf16⟩
  | .local _ .vmem, ⟨11, _⟩ => ⟨S1x96x192, .bf16⟩
  | .local _ .vmem, ⟨12, _⟩ => ⟨S1x96x192, .bf16⟩
  | .local _ .vmem, ⟨13, _⟩ => ⟨S1x96x192, .bf16⟩
  | .local _ .vmem, ⟨14, _⟩ => ⟨S1x96x192, .bf16⟩
  | .local _ .vmem, ⟨15, _⟩ => ⟨S1x96x192, .bf16⟩
  | .local _ .vmem, ⟨16, _⟩ => ⟨S1x64x256, .f32⟩
  | .local _ .vmem, ⟨17, _⟩ => ⟨S1x64x256, .f32⟩
  | .local _ .vmem, ⟨18, _⟩ => ⟨S1x64x256, .bf16⟩
  | .local _ .vmem, ⟨19, _⟩ => ⟨S1x64x256, .bf16⟩
  | .local _ .vmem, ⟨20, _⟩ => ⟨S1x64x256, .bf16⟩
  | .local _ .vmem, ⟨21, _⟩ => ⟨S1x64x256, .bf16⟩
  | .local _ .vmem, ⟨22, _⟩ => ⟨S1x64x256, .bf16⟩
  | .local _ .vmem, ⟨23, _⟩ => ⟨S1x64x256, .bf16⟩
  | .local _ .vmem, ⟨24, _⟩ => ⟨S1x256x552, .f32⟩
  | .local _ .vmem, ⟨25, _⟩ => ⟨S1x256x552, .f32⟩
  | .local _ .vmem, ⟨26, _⟩ => ⟨S1x96x192, .f32⟩
  | .local _ .vmem, ⟨27, _⟩ => ⟨S1x96x192, .f32⟩
  | .local _ .vmem, ⟨28, _⟩ => ⟨S1x64x256, .f32⟩
  | .local _ .vmem, ⟨29, _⟩ => ⟨S1x64x256, .f32⟩
  | .local _ .smem, ⟨0, _⟩ => ⟨S2, .i32⟩
  | _, _ => ⟨S4x512x552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_8 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_12 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg1.toNat, c0_i32.toNat]

def cc0_transform_13 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg1.toNat, c0_i32.toNat]

def cc0_transform_14 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg1.toNat, c0_i32.toNat]

abbrev stage0_0 : Fin 2 → Memref sig .tc .vmem S1x256x552 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x552 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x552 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x552 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x96x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x96x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x96x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x96x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256x552 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x96x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]
-- ==== ReferenceRsMixIdeal.lean ====
abbrev S4x512x552 : Shape := ⟨3, ![4, 512, 552]⟩
abbrev S3x512x552 : Shape := ⟨3, ![3, 512, 552]⟩
abbrev S4x192x192 : Shape := ⟨3, ![4, 192, 192]⟩
abbrev S3x192x192 : Shape := ⟨3, ![3, 192, 192]⟩
abbrev S4x128x256 : Shape := ⟨3, ![4, 128, 256]⟩
abbrev S3x128x256 : Shape := ⟨3, ![3, 128, 256]⟩
abbrev S1x512x552 : Shape := ⟨3, ![1, 512, 552]⟩
abbrev S512x552 : Shape := ⟨2, ![512, 552]⟩
abbrev S_ : Shape := ⟨0, ![]⟩
abbrev S1x192x192 : Shape := ⟨3, ![1, 192, 192]⟩
abbrev S192x192 : Shape := ⟨2, ![192, 192]⟩
abbrev S1x128x256 : Shape := ⟨3, ![1, 128, 256]⟩
abbrev S128x256 : Shape := ⟨2, ![128, 256]⟩

abbrev nBuf : Space → Nat
  | .hbm => 24
  | .vmem => 0
  | .smem => 0
  | _ => 0

abbrev bufTy : (tb : Table) → Fin (tcTables nBuf tb) → BufTy
  | .hbm, ⟨0, _⟩ => ⟨S4x512x552, .f32⟩
  | .hbm, ⟨1, _⟩ => ⟨S3x512x552, .bf16⟩
  | .hbm, ⟨2, _⟩ => ⟨S4x192x192, .f32⟩
  | .hbm, ⟨3, _⟩ => ⟨S3x192x192, .bf16⟩
  | .hbm, ⟨4, _⟩ => ⟨S4x128x256, .f32⟩
  | .hbm, ⟨5, _⟩ => ⟨S3x128x256, .bf16⟩
  | .hbm, ⟨6, _⟩ => ⟨S1x512x552, .f32⟩
  | .hbm, ⟨7, _⟩ => ⟨S512x552, .f32⟩
  | .hbm, ⟨8, _⟩ => ⟨S3x512x552, .f32⟩
  | .hbm, ⟨9, _⟩ => ⟨S_, .f32⟩
  | .hbm, ⟨10, _⟩ => ⟨S512x552, .f32⟩
  | .hbm, ⟨11, _⟩ => ⟨S512x552, .f32⟩
  | .hbm, ⟨12, _⟩ => ⟨S1x192x192, .f32⟩
  | .hbm, ⟨13, _⟩ => ⟨S192x192, .f32⟩
  | .hbm, ⟨14, _⟩ => ⟨S3x192x192, .f32⟩
  | .hbm, ⟨15, _⟩ => ⟨S_, .f32⟩
  | .hbm, ⟨16, _⟩ => ⟨S192x192, .f32⟩
  | .hbm, ⟨17, _⟩ => ⟨S192x192, .f32⟩
  | .hbm, ⟨18, _⟩ => ⟨S1x128x256, .f32⟩
  | .hbm, ⟨19, _⟩ => ⟨S128x256, .f32⟩
  | .hbm, ⟨20, _⟩ => ⟨S3x128x256, .f32⟩
  | .hbm, ⟨21, _⟩ => ⟨S_, .f32⟩
  | .hbm, ⟨22, _⟩ => ⟨S128x256, .f32⟩
  | .hbm, ⟨23, _⟩ => ⟨S128x256, .f32⟩
  | _, _ => ⟨S4x512x552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelRsFfn.lean ====
abbrev S4x128x1024 : Shape := ⟨3, ![4, 128, 1024]⟩
abbrev S3x128x1024 : Shape := ⟨3, ![3, 128, 1024]⟩
abbrev S4x512x1408 : Shape := ⟨3, ![4, 512, 1408]⟩
abbrev S3x512x1408 : Shape := ⟨3, ![3, 512, 1408]⟩
abbrev S4x352x1024 : Shape := ⟨3, ![4, 352, 1024]⟩
abbrev S3x352x1024 : Shape := ⟨3, ![3, 352, 1024]⟩
abbrev S_ : Shape := ⟨0, ![]⟩
abbrev S1 : Shape := ⟨1, ![1]⟩
abbrev S2 : Shape := ⟨1, ![2]⟩
abbrev S2x128x1024 : Shape := ⟨3, ![2, 128, 1024]⟩
abbrev S2x512x1408 : Shape := ⟨3, ![2, 512, 1408]⟩
abbrev S2x352x1024 : Shape := ⟨3, ![2, 352, 1024]⟩
abbrev S1x64x1024 : Shape := ⟨3, ![1, 64, 1024]⟩
abbrev S1x256x1408 : Shape := ⟨3, ![1, 256, 1408]⟩
abbrev S1x176x1024 : Shape := ⟨3, ![1, 176, 1024]⟩
abbrev S64x1024 : Shape := ⟨2, ![64, 1024]⟩
abbrev S256x1408 : Shape := ⟨2, ![256, 1408]⟩
abbrev S176x1024 : Shape := ⟨2, ![176, 1024]⟩
abbrev S1x128x1024 : Shape := ⟨3, ![1, 128, 1024]⟩
abbrev S128x1024 : Shape := ⟨2, ![128, 1024]⟩
abbrev S1x512x1408 : Shape := ⟨3, ![1, 512, 1408]⟩
abbrev S512x1408 : Shape := ⟨2, ![512, 1408]⟩
abbrev S1x352x1024 : Shape := ⟨3, ![1, 352, 1024]⟩
abbrev S352x1024 : Shape := ⟨2, ![352, 1024]⟩

abbrev nBuf : Space → Nat
  | .hbm => 19
  | .vmem => 30
  | .smem => 1
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S4x512x1408, .f32⟩
  | .hbm, ⟨3, _⟩ => ⟨S3x512x1408, .bf16⟩
  | .hbm, ⟨4, _⟩ => ⟨S4x352x1024, .f32⟩
  | .hbm, ⟨5, _⟩ => ⟨S3x352x1024, .bf16⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2x128x1024, .f32⟩
  | .hbm, ⟨11, _⟩ => ⟨S2x512x1408, .f32⟩
  | .hbm, ⟨12, _⟩ => ⟨S2x352x1024, .f32⟩
  | .hbm, ⟨13, _⟩ => ⟨S1x128x1024, .f32⟩
  | .hbm, ⟨14, _⟩ => ⟨S128x1024, .f32⟩
  | .hbm, ⟨15, _⟩ => ⟨S1x512x1408, .f32⟩
  | .hbm, ⟨16, _⟩ => ⟨S512x1408, .f32⟩
  | .hbm, ⟨17, _⟩ => ⟨S1x352x1024, .f32⟩
  | .hbm, ⟨18, _⟩ => ⟨S352x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x256x1408, .f32⟩
  | .local _ .vmem, ⟨9, _⟩ => ⟨S1x256x1408, .f32⟩
  | .local _ .vmem, ⟨10, _⟩ => ⟨S1x256x1408, .bf16⟩
  | .local _ .vmem, ⟨11, _⟩ => ⟨S1x256x1408, .bf16⟩
  | .local _ .vmem, ⟨12, _⟩ => ⟨S1x256x1408, .bf16⟩
  | .local _ .vmem, ⟨13, _⟩ => ⟨S1x256x1408, .bf16⟩
  | .local _ .vmem, ⟨14, _⟩ => ⟨S1x256x1408, .bf16⟩
  | .local _ .vmem, ⟨15, _⟩ => ⟨S1x256x1408, .bf16⟩
  | .local _ .vmem, ⟨16, _⟩ => ⟨S1x176x1024, .f32⟩
  | .local _ .vmem, ⟨17, _⟩ => ⟨S1x176x1024, .f32⟩
  | .local _ .vmem, ⟨18, _⟩ => ⟨S1x176x1024, .bf16⟩
  | .local _ .vmem, ⟨19, _⟩ => ⟨S1x176x1024, .bf16⟩
  | .local _ .vmem, ⟨20, _⟩ => ⟨S1x176x1024, .bf16⟩
  | .local _ .vmem, ⟨21, _⟩ => ⟨S1x176x1024, .bf16⟩
  | .local _ .vmem, ⟨22, _⟩ => ⟨S1x176x1024, .bf16⟩
  | .local _ .vmem, ⟨23, _⟩ => ⟨S1x176x1024, .bf16⟩
  | .local _ .vmem, ⟨24, _⟩ => ⟨S1x64x1024, .f32⟩
  | .local _ .vmem, ⟨25, _⟩ => ⟨S1x64x1024, .f32⟩
  | .local _ .vmem, ⟨26, _⟩ => ⟨S1x256x1408, .f32⟩
  | .local _ .vmem, ⟨27, _⟩ => ⟨S1x256x1408, .f32⟩
  | .local _ .vmem, ⟨28, _⟩ => ⟨S1x176x1024, .f32⟩
  | .local _ .vmem, ⟨29, _⟩ => ⟨S1x176x1024, .f32⟩
  | .local _ .smem, ⟨0, _⟩ => ⟨S2, .i32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_8 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_12 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg1.toNat, c0_i32.toNat]

def cc0_transform_13 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg1.toNat, c0_i32.toNat]

def cc0_transform_14 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x176x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x176x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]
-- ==== ReferenceRsFfnIdeal.lean ====
abbrev S4x128x1024 : Shape := ⟨3, ![4, 128, 1024]⟩
abbrev S3x128x1024 : Shape := ⟨3, ![3, 128, 1024]⟩
abbrev S4x512x1408 : Shape := ⟨3, ![4, 512, 1408]⟩
abbrev S3x512x1408 : Shape := ⟨3, ![3, 512, 1408]⟩
abbrev S4x352x1024 : Shape := ⟨3, ![4, 352, 1024]⟩
abbrev S3x352x1024 : Shape := ⟨3, ![3, 352, 1024]⟩
abbrev S1x128x1024 : Shape := ⟨3, ![1, 128, 1024]⟩
abbrev S128x1024 : Shape := ⟨2, ![128, 1024]⟩
abbrev S_ : Shape := ⟨0, ![]⟩
abbrev S1x512x1408 : Shape := ⟨3, ![1, 512, 1408]⟩
abbrev S512x1408 : Shape := ⟨2, ![512, 1408]⟩
abbrev S1x352x1024 : Shape := ⟨3, ![1, 352, 1024]⟩
abbrev S352x1024 : Shape := ⟨2, ![352, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S4x512x1408, .f32⟩
  | .hbm, ⟨3, _⟩ => ⟨S3x512x1408, .bf16⟩
  | .hbm, ⟨4, _⟩ => ⟨S4x352x1024, .f32⟩
  | .hbm, ⟨5, _⟩ => ⟨S3x352x1024, .bf16⟩
  | .hbm, ⟨6, _⟩ => ⟨S1x128x1024, .f32⟩
  | .hbm, ⟨7, _⟩ => ⟨S128x1024, .f32⟩
  | .hbm, ⟨8, _⟩ => ⟨S3x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S1x512x1408, .f32⟩
  | .hbm, ⟨13, _⟩ => ⟨S512x1408, .f32⟩
  | .hbm, ⟨14, _⟩ => ⟨S3x512x1408, .f32⟩
  | .hbm, ⟨15, _⟩ => ⟨S_, .f32⟩
  | .hbm, ⟨16, _⟩ => ⟨S512x1408, .f32⟩
  | .hbm, ⟨17, _⟩ => ⟨S512x1408, .f32⟩
  | .hbm, ⟨18, _⟩ => ⟨S1x352x1024, .f32⟩
  | .hbm, ⟨19, _⟩ => ⟨S352x1024, .f32⟩
  | .hbm, ⟨20, _⟩ => ⟨S3x352x1024, .f32⟩
  | .hbm, ⟨21, _⟩ => ⟨S_, .f32⟩
  | .hbm, ⟨22, _⟩ => ⟨S352x1024, .f32⟩
  | .hbm, ⟨23, _⟩ => ⟨S352x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelSibMix.lean ====
abbrev S8x512x552 : Shape := ⟨3, ![8, 512, 552]⟩
abbrev S4x512x552 : Shape := ⟨3, ![4, 512, 552]⟩
abbrev S8x192x192 : Shape := ⟨3, ![8, 192, 192]⟩
abbrev S4x192x192 : Shape := ⟨3, ![4, 192, 192]⟩
abbrev S8x128x256 : Shape := ⟨3, ![8, 128, 256]⟩
abbrev S4x128x256 : Shape := ⟨3, ![4, 128, 256]⟩
abbrev S8x128x1024 : Shape := ⟨3, ![8, 128, 1024]⟩
abbrev S4x128x1024 : Shape := ⟨3, ![4, 128, 1024]⟩
abbrev S_ : Shape := ⟨0, ![]⟩
abbrev S1 : Shape := ⟨1, ![1]⟩
abbrev S1x256x552 : Shape := ⟨3, ![1, 256, 552]⟩
abbrev S1x96x192 : Shape := ⟨3, ![1, 96, 192]⟩
abbrev S1x64x256 : Shape := ⟨3, ![1, 64, 256]⟩
abbrev S1x64x1024 : Shape := ⟨3, ![1, 64, 1024]⟩
abbrev S256x552 : Shape := ⟨2, ![256, 552]⟩
abbrev S96x192 : Shape := ⟨2, ![96, 192]⟩
abbrev S64x256 : Shape := ⟨2, ![64, 256]⟩
abbrev S64x1024 : Shape := ⟨2, ![64, 1024]⟩

abbrev nBuf : Space → Nat
  | .hbm => 17
  | .vmem => 32
  | .smem => 1
  | _ => 0

abbrev bufTy : (tb : Table) → Fin (tcTables nBuf tb) → BufTy
  | .hbm, ⟨0, _⟩ => ⟨S8x512x552, .f32⟩
  | .hbm, ⟨1, _⟩ => ⟨S4x512x552, .f32⟩
  | .hbm, ⟨2, _⟩ => ⟨S8x192x192, .f32⟩
  | .hbm, ⟨3, _⟩ => ⟨S4x192x192, .f32⟩
  | .hbm, ⟨4, _⟩ => ⟨S8x128x256, .f32⟩
  | .hbm, ⟨5, _⟩ => ⟨S4x128x256, .f32⟩
  | .hbm, ⟨6, _⟩ => ⟨S8x128x1024, .f32⟩
  | .hbm, ⟨7, _⟩ => ⟨S4x128x1024, .f32⟩
  | .hbm, ⟨8, _⟩ => ⟨S_, .i32⟩
  | .hbm, ⟨9, _⟩ => ⟨S4x512x552, .f32⟩
  | .hbm, ⟨10, _⟩ => ⟨S4x192x192, .f32⟩
  | .hbm, ⟨11, _⟩ => ⟨S4x128x256, .f32⟩
  | .hbm, ⟨12, _⟩ => ⟨S4x128x1024, .f32⟩
  | .hbm, ⟨13, _⟩ => ⟨S4x512x552, .bf16⟩
  | .hbm, ⟨14, _⟩ => ⟨S4x192x192, .bf16⟩
  | .hbm, ⟨15, _⟩ => ⟨S4x128x256, .bf16⟩
  | .hbm, ⟨16, _⟩ => ⟨S4x128x1024, .bf16⟩
  | .local _ .vmem, ⟨0, _⟩ => ⟨S1x256x552, .f32⟩
  | .local _ .vmem, ⟨1, _⟩ => ⟨S1x256x552, .f32⟩
  | .local _ .vmem, ⟨2, _⟩ => ⟨S1x256x552, .f32⟩
  | .local _ .vmem, ⟨3, _⟩ => ⟨S1x256x552, .f32⟩
  | .local _ .vmem, ⟨4, _⟩ => ⟨S1x96x192, .f32⟩
  | .local _ .vmem, ⟨5, _⟩ => ⟨S1x96x192, .f32⟩
  | .local _ .vmem, ⟨6, _⟩ => ⟨S1x96x192, .f32⟩
  | .local _ .vmem, ⟨7, _⟩ => ⟨S1x96x192, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x256x552, .f32⟩
  | .local _ .vmem, ⟨17, _⟩ => ⟨S1x256x552, .f32⟩
  | .local _ .vmem, ⟨18, _⟩ => ⟨S1x96x192, .f32⟩
  | .local _ .vmem, ⟨19, _⟩ => ⟨S1x96x192, .f32⟩
  | .local _ .vmem, ⟨20, _⟩ => ⟨S1x64x256, .f32⟩
  | .local _ .vmem, ⟨21, _⟩ => ⟨S1x64x256, .f32⟩
  | .local _ .vmem, ⟨22, _⟩ => ⟨S1x64x1024, .f32⟩
  | .local _ .vmem, ⟨23, _⟩ => ⟨S1x64x1024, .f32⟩
  | .local _ .vmem, ⟨24, _⟩ => ⟨S1x256x552, .bf16⟩
  | .local _ .vmem, ⟨25, _⟩ => ⟨S1x256x552, .bf16⟩
  | .local _ .vmem, ⟨26, _⟩ => ⟨S1x96x192, .bf16⟩
  | .local _ .vmem, ⟨27, _⟩ => ⟨S1x96x192, .bf16⟩
  | .local _ .vmem, ⟨28, _⟩ => ⟨S1x64x256, .bf16⟩
  | .local _ .vmem, ⟨29, _⟩ => ⟨S1x64x256, .bf16⟩
  | .local _ .vmem, ⟨30, _⟩ => ⟨S1x64x1024, .bf16⟩
  | .local _ .vmem, ⟨31, _⟩ => ⟨S1x64x1024, .bf16⟩
  | .local _ .smem, ⟨0, _⟩ => ⟨S1, .i32⟩
  | _, _ => ⟨S8x512x552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x552 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x552 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x552 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x96x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x552 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x96x192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceSibMixIdeal.lean ====
abbrev S8x512x552 : Shape := ⟨3, ![8, 512, 552]⟩
abbrev S4x512x552 : Shape := ⟨3, ![4, 512, 552]⟩
abbrev S8x192x192 : Shape := ⟨3, ![8, 192, 192]⟩
abbrev S4x192x192 : Shape := ⟨3, ![4, 192, 192]⟩
abbrev S8x128x256 : Shape := ⟨3, ![8, 128, 256]⟩
abbrev S4x128x256 : Shape := ⟨3, ![4, 128, 256]⟩
abbrev S8x128x1024 : Shape := ⟨3, ![8, 128, 1024]⟩
abbrev S4x128x1024 : Shape := ⟨3, ![4, 128, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x512x552, .f32⟩
  | .hbm, ⟨1, _⟩ => ⟨S4x512x552, .f32⟩
  | .hbm, ⟨2, _⟩ => ⟨S8x192x192, .f32⟩
  | .hbm, ⟨3, _⟩ => ⟨S4x192x192, .f32⟩
  | .hbm, ⟨4, _⟩ => ⟨S8x128x256, .f32⟩
  | .hbm, ⟨5, _⟩ => ⟨S4x128x256, .f32⟩
  | .hbm, ⟨6, _⟩ => ⟨S8x128x1024, .f32⟩
  | .hbm, ⟨7, _⟩ => ⟨S4x128x1024, .f32⟩
  | .hbm, ⟨8, _⟩ => ⟨S4x512x552, .f32⟩
  | .hbm, ⟨9, _⟩ => ⟨S4x512x552, .f32⟩
  | .hbm, ⟨10, _⟩ => ⟨S4x192x192, .f32⟩
  | .hbm, ⟨11, _⟩ => ⟨S4x192x192, .f32⟩
  | .hbm, ⟨12, _⟩ => ⟨S4x128x256, .f32⟩
  | .hbm, ⟨13, _⟩ => ⟨S4x128x256, .f32⟩
  | .hbm, ⟨14, _⟩ => ⟨S4x128x1024, .f32⟩
  | .hbm, ⟨15, _⟩ => ⟨S4x128x1024, .f32⟩
  | .hbm, ⟨16, _⟩ => ⟨S4x512x552, .bf16⟩
  | .hbm, ⟨17, _⟩ => ⟨S4x192x192, .bf16⟩
  | .hbm, ⟨18, _⟩ => ⟨S4x128x256, .bf16⟩
  | .hbm, ⟨19, _⟩ => ⟨S4x128x1024, .bf16⟩
  | _, _ => ⟨S8x512x552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== KernelSibFfn.lean ====
abbrev S8x512x1408 : Shape := ⟨3, ![8, 512, 1408]⟩
abbrev S4x512x1408 : Shape := ⟨3, ![4, 512, 1408]⟩
abbrev S8x352x1024 : Shape := ⟨3, ![8, 352, 1024]⟩
abbrev S4x352x1024 : Shape := ⟨3, ![4, 352, 1024]⟩
abbrev S_ : Shape := ⟨0, ![]⟩
abbrev S1 : Shape := ⟨1, ![1]⟩
abbrev S1x256x1408 : Shape := ⟨3, ![1, 256, 1408]⟩
abbrev S1x176x1024 : Shape := ⟨3, ![1, 176, 1024]⟩
abbrev S256x1408 : Shape := ⟨2, ![256, 1408]⟩
abbrev S176x1024 : Shape := ⟨2, ![176, 1024]⟩

abbrev nBuf : Space → Nat
  | .hbm => 9
  | .vmem => 16
  | .smem => 1
  | _ => 0

abbrev bufTy : (tb : Table) → Fin (tcTables nBuf tb) → BufTy
  | .hbm, ⟨0, _⟩ => ⟨S8x512x1408, .f32⟩
  | .hbm, ⟨1, _⟩ => ⟨S4x512x1408, .f32⟩
  | .hbm, ⟨2, _⟩ => ⟨S8x352x1024, .f32⟩
  | .hbm, ⟨3, _⟩ => ⟨S4x352x1024, .f32⟩
  | .hbm, ⟨4, _⟩ => ⟨S_, .i32⟩
  | .hbm, ⟨5, _⟩ => ⟨S4x512x1408, .f32⟩
  | .hbm, ⟨6, _⟩ => ⟨S4x352x1024, .f32⟩
  | .hbm, ⟨7, _⟩ => ⟨S4x512x1408, .bf16⟩
  | .hbm, ⟨8, _⟩ => ⟨S4x352x1024, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x256x1408, .f32⟩
  | .local _ .vmem, ⟨9, _⟩ => ⟨S1x256x1408, .f32⟩
  | .local _ .vmem, ⟨10, _⟩ => ⟨S1x176x1024, .f32⟩
  | .local _ .vmem, ⟨11, _⟩ => ⟨S1x176x1024, .f32⟩
  | .local _ .vmem, ⟨12, _⟩ => ⟨S1x256x1408, .bf16⟩
  | .local _ .vmem, ⟨13, _⟩ => ⟨S1x256x1408, .bf16⟩
  | .local _ .vmem, ⟨14, _⟩ => ⟨S1x176x1024, .bf16⟩
  | .local _ .vmem, ⟨15, _⟩ => ⟨S1x176x1024, .bf16⟩
  | .local _ .smem, ⟨0, _⟩ => ⟨S1, .i32⟩
  | _, _ => ⟨S8x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceSibFfnIdeal.lean ====
abbrev S8x512x1408 : Shape := ⟨3, ![8, 512, 1408]⟩
abbrev S4x512x1408 : Shape := ⟨3, ![4, 512, 1408]⟩
abbrev S8x352x1024 : Shape := ⟨3, ![8, 352, 1024]⟩
abbrev S4x352x1024 : Shape := ⟨3, ![4, 352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x512x1408, .f32⟩
  | .hbm, ⟨1, _⟩ => ⟨S4x512x1408, .f32⟩
  | .hbm, ⟨2, _⟩ => ⟨S8x352x1024, .f32⟩
  | .hbm, ⟨3, _⟩ => ⟨S4x352x1024, .f32⟩
  | .hbm, ⟨4, _⟩ => ⟨S4x512x1408, .f32⟩
  | .hbm, ⟨5, _⟩ => ⟨S4x512x1408, .f32⟩
  | .hbm, ⟨6, _⟩ => ⟨S4x352x1024, .f32⟩
  | .hbm, ⟨7, _⟩ => ⟨S4x352x1024, .f32⟩
  | .hbm, ⟨8, _⟩ => ⟨S4x512x1408, .bf16⟩
  | .hbm, ⟨9, _⟩ => ⟨S4x352x1024, .bf16⟩
  | _, _ => ⟨S8x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelAdaFwd.lean ====
abbrev S16x1024 : Shape := ⟨2, ![16, 1024]⟩
abbrev S1024x1536 : Shape := ⟨2, ![1024, 1536]⟩
abbrev S1x1536 : Shape := ⟨2, ![1, 1536]⟩
abbrev S16x1536 : Shape := ⟨2, ![16, 1536]⟩
abbrev S1024x512 : Shape := ⟨2, ![1024, 512]⟩
abbrev S1x512 : Shape := ⟨2, ![1, 512]⟩
abbrev S16x512 : Shape := ⟨2, ![16, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1536, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAdaFwdIdeal.lean ====
abbrev S16x1024 : Shape := ⟨2, ![16, 1024]⟩
abbrev S1024x1536 : Shape := ⟨2, ![1024, 1536]⟩
abbrev S1x1536 : Shape := ⟨2, ![1, 1536]⟩
abbrev S_ : Shape := ⟨0, ![]⟩
abbrev S16x1536 : Shape := ⟨2, ![16, 1536]⟩
abbrev S1536 : Shape := ⟨1, ![1536]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1536, .f32⟩
  | .hbm, ⟨13, _⟩ => ⟨S1536, .f32⟩
  | .hbm, ⟨14, _⟩ => ⟨S1x1536, .f32⟩
  | .hbm, ⟨15, _⟩ => ⟨S16x1536, .f32⟩
  | .hbm, ⟨16, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== KernelLossSum.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== ReferenceLossSumIdeal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.FfnIn.lean ====
module

public import proofs.«01_k».proof.Proof.Gen.KernelFfnInIdeal.Frame
public import proofs.«01_k».proof.Proof.Gen.ReferenceFfnInIdeal.Read
public import Idealize.ShloMosaic.Lib.Pipeline.ValueKit
public import Idealize.ShloMosaic.Lib.Pipeline.ReadBack
public import Idealize.ShloMosaic.Lib.Pointwise
public import Idealize.ShloMosaic.Lib.Claim

/-! The forward pass of the gated feed-forward block: both halves of `h · w_ffn_in`, and `silu g · u`. -/

@[expose] public section

set_option maxRecDepth 16384

noncomputable section

open Idealize.ShloMosaic Idealize.ShloMosaic.TcCoe Idealize.SL.Sem
open scoped BigOperators

namespace Cert.FfnIn

open Cert.KernelFfnInIdeal Cert.KernelFfnInIdeal.Gen

variable (m : (ℓ : Loc nD τ sig) → Buf (Elt Ideal) ℓ)

/-- The two halves of the product as the reference program computes them. -/
abbrev halves := Cert.ReferenceFfnInIdeal.Read.val_main_v6 (F := Ideal)

/-- The gated activation as the reference program computes it. -/
abbrev gated := Cert.ReferenceFfnInIdeal.Read.val_main_v9 (F := Ideal)

/-- Which tile each window holds at each grid step. -/
theorem idx : ∀ t : Fin cfg0.N, win0_0.index t = ![t.val % 8, 0]
    ∧ win0_1.index t = ![t.val / 8, 0, 0]
    ∧ win0_2.index t = ![t.val / 8 + 2, 0, 0]
    ∧ win0_3.index t = ![0, t.val % 8, t.val / 8]
    ∧ win0_4.index t = ![t.val % 8, t.val / 8] :=
  (by decide +kernel : ∀ t : Fin grid0.N, _)

/-- The operand that the host cuts into four blocks of columns of `w_ffn_in`, read at an index. -/
theorem blocks_apply (c : Dev nD) (y : S4x1024x1408.Idx) :
    V m c main_v1 y = m ((c : Thread nD τ).loc main_arg1) (ix2 (y 1) ⟨(y 0).val * 1408 + (y 2).val, by have := (y 0).isLt; have := (y 2).isLt; simp at *; omega⟩) := by
  entry_read
  pointwise

/-- The product that the reference computes, element by element. -/
theorem prod_apply (X : FVec Ideal S4096x1024 .bf16) (W : FVec Ideal S1024x5632 .bf16) (r : Fin 4096) (q : Fin 5632) :
    Cert.ReferenceFfnInIdeal.Read.val_main_v0 (F := Ideal) X W (ix2 r q) = ∑ k : Fin 1024, X (ix2 r k) * W (ix2 k q) := by
  pointwise [Cert.ReferenceFfnInIdeal.Read.val_main_v0]

/-- The first product of a grid step is a tile of the left half of the reference's product. -/
theorem gate_tile (c : Dev nD) (t : Fin cfg0.N) (r : Fin 512) (q : Fin 1408) :
    (∑ k : Fin 1024, HMul.hMul (α := EReal) (β := EReal) (γ := EReal) (iblk m c 0 t (ix2 r k)) (iblk m c 1 t (ix3 0 k q)))
      = Cert.ReferenceFfnInIdeal.Read.val_main_v0 (F := Ideal) (m ((c : Thread nD τ).loc main_arg0))
          (m ((c : Thread nD τ).loc main_arg1))
          (ix2 ⟨t.val % 8 * 512 + r.val, by omega⟩ ⟨t.val / 8 * 1408 + q.val, by have : t.val < 16 := t.isLt; omega⟩) := by
  rw [prod_apply]
  refine Finset.sum_congr rfl fun k _ => ?_
  blk_simp [iblk]
  refine (congrArg (fun b : EReal => _ * b) (blocks_apply m c _)).trans ?_
  blk_point [V, idx t]

/-- The second product of a grid step is a tile of the right half of the reference's product. -/
theorem up_tile (c : Dev nD) (t : Fin cfg0.N) (r : Fin 512) (q : Fin 1408) :
    (∑ k : Fin 1024, HMul.hMul (α := EReal) (β := EReal) (γ := EReal) (iblk m c 0 t (ix2 r k)) (iblk m c 2 t (ix3 0 k q)))
      = Cert.ReferenceFfnInIdeal.Read.val_main_v0 (F := Ideal) (m ((c : Thread nD τ).loc main_arg0))
          (m ((c : Thread nD τ).loc main_arg1))
          (ix2 ⟨t.val % 8 * 512 + r.val, by omega⟩ ⟨2816 + (t.val / 8 * 1408 + q.val), by have : t.val < 16 := t.isLt; omega⟩) := by
  rw [prod_apply]
  refine Finset.sum_congr rfl fun k _ => ?_
  blk_simp [iblk]
  refine (congrArg (fun b : EReal => _ * b) (blocks_apply m c _)).trans ?_
  blk_point [V, idx t]

/-- The activation that the call returns is the reference's. -/
theorem final_act (c : Dev nD) : (dats m 0 c).arrAt 4 (cfgs 0).N
    = gated (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  canon_tiles y h
  pointwise [k0_pay5, k0_pay1, k0_pay2, gated, Cert.ReferenceFfnInIdeal.Read.val_main_v9, Cert.ReferenceFfnInIdeal.Read.val_main_v8, Cert.ReferenceFfnInIdeal.Read.val_main_v7, Cert.ReferenceFfnInIdeal.Read.val_main_v1, Cert.ReferenceFfnInIdeal.Read.val_main_v2, Cert.ReferenceFfnInIdeal.Read.val_main_call0_v5, Cert.ReferenceFfnInIdeal.Read.val_main_call0_v4, Cert.ReferenceFfnInIdeal.Read.val_main_call0_v3, Cert.ReferenceFfnInIdeal.Read.val_main_call0_v2, Cert.ReferenceFfnInIdeal.Read.val_main_call0_v1, Cert.ReferenceFfnInIdeal.Read.val_main_call0_v0, Cert.ReferenceFfnInIdeal.Read.val_main_call0_cst, Cert.ReferenceFfnInIdeal.Read.val_main_call0_cst_0]
  refine (congrArg₂ (fun g u : EReal => g * Ideal.div 1 (1 + Ideal.exp (-g)) * u) (gate_tile m c t (y 0) (y 1)) (up_tile m c t (y 0) (y 1))).trans ?_
  blk_point [idx t]

/-- The two halves that the call returns are the reference's. -/
theorem final_gu (c : Dev nD) : (dats m 0 c).arrAt 3 (cfgs 0).N
    = halves (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  canon_tiles y h
  all_goals pointwise [k0_pay4, k0_pay3, k0_pay1, k0_pay2, halves, Cert.ReferenceFfnInIdeal.Read.val_main_v6, Cert.ReferenceFfnInIdeal.Read.val_main_v5, Cert.ReferenceFfnInIdeal.Read.val_main_v4, Cert.ReferenceFfnInIdeal.Read.val_main_v3, Cert.ReferenceFfnInIdeal.Read.val_main_v1, Cert.ReferenceFfnInIdeal.Read.val_main_v2]
  · refine (up_tile m c t (y 1) (y 2)).trans ?_
    rw [dif_neg (by blk_simp [idx t]; omega)]
    blk_point [idx t]
  · refine (gate_tile m c t (y 1) (y 2)).trans ?_
    rw [dif_pos (by blk_simp [idx t]; omega)]
    blk_point [idx t]

end Cert.FfnIn

end
-- ==== Proof.Finite.lean ====
module

public import Idealize.ShloMosaic.Lib.Pipeline.ValueKit
public import Idealize.ShloMosaic.Lib.Pointwise

/-! Extended reals that are reals: how a program's test `|x| < ∞` gives them, and the gradient of the gate on them. -/

@[expose] public section

noncomputable section

open Idealize.ShloMosaic
open scoped BigOperators

namespace Cert.Finite

/-- The word of infinity reads as `⊤`. -/
theorem inf_word : Ideal.ofBits .f32 0x7F800000#32 = ⊤ := by simp [Ideal.ofBits, Ideal.ieee]

/-- An extended real whose absolute value is below `⊤` is a real. -/
theorem real_of_abs_lt {x : EReal} (h : max x (-x) < ⊤) : ∃ r : ℝ, x = r := by
  induction x with
  | bot => simp at h
  | coe r => exact ⟨r, rfl⟩
  | top => simp at h

/-- The test `|x| < ∞` of a program, passed, says that the extended real is a real. -/
theorem real_of_test {x : EReal} (h : BitVec.ofBool (decide (FloatOps.absf (F := Ideal) (φ := .f32) x
    < Ideal.ofBits .f32 0x7F800000#32)) = 1#1) : ∃ r : ℝ, x = r := by
  rw [inf_word] at h
  refine real_of_abs_lt ?_
  by_contra hc
  have : decide (FloatOps.absf (F := Ideal) (φ := .f32) x < ⊤) = false := decide_eq_false hc
  rw [this] at h
  exact absurd h (by decide)

/-- Every element of the array is a real. -/
def IsReal {ι : Type} (x : ι → EReal) : Prop := ∀ i, ∃ r : ℝ, x i = r

/-- An array of which every element is real is an array of reals. -/
theorem real_array {ι : Type} {x : ι → EReal} (h : ∀ i, max (x i) (-x i) < ⊤) : ∃ r : ι → ℝ, x = fun i => (r i : EReal) := by
  choose r hr using fun i => real_of_abs_lt (h i)
  exact ⟨r, funext hr⟩

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem real_dot {n : ℕ} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [coe_sum]
  exact Finset.sum_congr rfl fun k _ => by rw [ha, hb, EReal.coe_mul]

/-- The derivative of `g · σ(g)` in the form that factors `σ(g)` out, and as the product rule gives it. -/
theorem silu_grad {a u g : EReal} (ha : ∃ r : ℝ, a = r) (hu : ∃ r : ℝ, u = r) (hg : ∃ r : ℝ, g = r) :
    a * u * (Ideal.div 1 (1 + Ideal.exp (-g)) * (1 + g * (1 - Ideal.div 1 (1 + Ideal.exp (-g)))))
      = a * u * Ideal.div 1 (1 + Ideal.exp (-g))
        + g * (a * u) * (Ideal.div 1 (1 + Ideal.exp (-g)) * (1 - Ideal.div 1 (1 + Ideal.exp (-g)))) := by
  obtain ⟨a, rfl⟩ := ha
  obtain ⟨u, rfl⟩ := hu
  obtain ⟨g, rfl⟩ := hg
  have h : Ideal.div 1 (1 + Ideal.exp (-(g : EReal))) = (((1 + Real.exp (-g))⁻¹ : ℝ) : EReal) := Ideal.logistic_coe g
  rw [h]
  generalize ((1 + Real.exp (-g))⁻¹ : ℝ) = s
  norm_cast
  ring

end Cert.Finite

end
-- ==== Proof.FfnAct.lean ====
module

public import proofs.«01_k».proof.Proof.Finite
public import proofs.«01_k».proof.Proof.Gen.KernelFfnActIdeal.Frame
public import proofs.«01_k».proof.Proof.Gen.ReferenceFfnActIdeal.Read
public import proofs.«01_k».proof.Pre_finite_ffn
public import proofs.«01_k».proof.Proof.Gen.Pre_finite_ffn
public import Idealize.ShloMosaic.Lib.Pipeline.ReadBack
public import Idealize.ShloMosaic.Lib.Claim

/-! The backward pass of the gated feed-forward block through its second product and its gate. -/

@[expose] public section

set_option maxRecDepth 16384

noncomputable section

open Idealize.ShloMosaic Idealize.ShloMosaic.TcCoe Idealize.SL.Sem
open scoped BigOperators

namespace Cert.FfnAct

open Cert.KernelFfnActIdeal Cert.KernelFfnActIdeal.Gen

variable (m : (ℓ : Loc nD τ sig) → Buf (Elt Ideal) ℓ)

/-- The gradients of the two halves as the reference program computes them. -/
abbrev grad := Cert.ReferenceFfnActIdeal.Read.val_main_v17 (F := Ideal)

/-- The gradient of the activation, `df · w_ffn_outᵀ`, as the reference program computes it. -/
abbrev dact := Cert.ReferenceFfnActIdeal.Read.val_main_v10 (F := Ideal)

/-- Which tile each window holds at each grid step. -/
theorem idx : ∀ t : Fin cfg0.N, win0_0.index t = ![t.val % 8, 0]
    ∧ win0_1.index t = ![t.val / 8, 0]
    ∧ win0_2.index t = ![0, t.val % 8, t.val / 8]
    ∧ win0_3.index t = ![0, t.val % 8, t.val / 8] :=
  (by decide +kernel : ∀ t : Fin grid0.N, _)

/-- The gradient of the activation, element by element. -/
theorem dact_apply (X : FVec Ideal S4096x1024 .bf16) (W : FVec Ideal S2816x1024 .bf16) (r : Fin 4096) (q : Fin 2816) :
    dact X W (ix2 r q) = ∑ k : Fin 1024, X (ix2 r k) * W (ix2 q k) := by
  pointwise [dact, Cert.ReferenceFfnActIdeal.Read.val_main_v10, Cert.ReferenceFfnActIdeal.Read.val_main_v0, Cert.ReferenceFfnActIdeal.Read.val_main_v1]

/-- The product of a grid step is a tile of the gradient of the activation. -/
theorem dact_tile (c : Dev nD) (t : Fin cfg0.N) (r : Fin 512) (q : Fin 1408) :
    (∑ k : Fin 1024, HMul.hMul (α := EReal) (β := EReal) (γ := EReal) (iblk m c 0 t (ix2 r k)) (iblk m c 1 t (ix2 q k)))
      = dact (m ((c : Thread nD τ).loc main_arg0)) (m ((c : Thread nD τ).loc main_arg1))
          (ix2 ⟨t.val % 8 * 512 + r.val, by omega⟩ ⟨t.val / 8 * 1408 + q.val, by have : t.val < 16 := t.isLt; omega⟩) := by
  rw [dact_apply]
  refine Finset.sum_congr rfl fun k _ => ?_
  blk_point [iblk, V, idx t]

/-- The gradient of the activation is real where the arguments are. -/
theorem dact_real {X : FVec Ideal S4096x1024 .bf16} {W : FVec Ideal S2816x1024 .bf16} (hX : Cert.Finite.IsReal X)
    (hW : Cert.Finite.IsReal W) : Cert.Finite.IsReal (dact X W) := by
  intro i
  obtain ⟨r, q, rfl⟩ : ∃ r q, i = ix2 r q := ⟨i 0, i 1, by funext a; fin_cases a <;> rfl⟩
  rw [dact_apply]
  exact Cert.Finite.real_dot _ _ (fun k => hX _) (fun k => hW _)

/-- What the precondition says: every element of every argument is a real. -/
theorem real_args {X : FVec Ideal S4096x1024 .bf16} {W : FVec Ideal S2816x1024 .bf16} {U : FVec Ideal S2x4096x2816 .bf16}
    (h : (Cert.Pre_finite_ffn.fn X W U).1 = (fun _ => 1#1) ∧ (Cert.Pre_finite_ffn.fn X W U).2.1 = (fun _ => 1#1)
      ∧ (Cert.Pre_finite_ffn.fn X W U).2.2 = (fun _ => 1#1)) :
    Cert.Finite.IsReal X ∧ Cert.Finite.IsReal W ∧ Cert.Finite.IsReal U := by
  refine ⟨fun i => ?_, fun i => ?_, fun i => ?_⟩
  · have := congrFun h.1 i
    pointwise [Cert.Pre_finite_ffn.fn] at this
    exact Cert.Finite.real_of_test this
  · have := congrFun h.2.1 i
    pointwise [Cert.Pre_finite_ffn.fn] at this
    exact Cert.Finite.real_of_test this
  · have := congrFun h.2.2 i
    pointwise [Cert.Pre_finite_ffn.fn] at this
    exact Cert.Finite.real_of_test this

/-- The array that the call returns holds the two gradients. -/
theorem final (c : Dev nD)
    (hX : Cert.Finite.IsReal (ι := S4096x1024.Idx) (m ((c : Thread nD τ).loc main_arg0)))
    (hW : Cert.Finite.IsReal (ι := S2816x1024.Idx) (m ((c : Thread nD τ).loc main_arg1)))
    (hU : Cert.Finite.IsReal (ι := S2x4096x2816.Idx) (m ((c : Thread nD τ).loc main_arg2))) :
    (dats m 0 c).arrAt 3 (cfgs 0).N = grad (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  canon_tiles y h
  all_goals pointwise [k0_pay5, k0_pay4, k0_pay3, k0_pay1, k0_pay2, grad, Cert.ReferenceFfnActIdeal.Read.val_main_v17, Cert.ReferenceFfnActIdeal.Read.val_main_v16, Cert.ReferenceFfnActIdeal.Read.val_main_v15, Cert.ReferenceFfnActIdeal.Read.val_main_v14, Cert.ReferenceFfnActIdeal.Read.val_main_v13, Cert.ReferenceFfnActIdeal.Read.val_main_call1_v2, Cert.ReferenceFfnActIdeal.Read.val_main_call1_v1, Cert.ReferenceFfnActIdeal.Read.val_main_call1_v0, Cert.ReferenceFfnActIdeal.Read.val_main_v12, Cert.ReferenceFfnActIdeal.Read.val_main_v11, Cert.ReferenceFfnActIdeal.Read.val_main_v7_0, Cert.ReferenceFfnActIdeal.Read.val_main_v7_1, Cert.ReferenceFfnActIdeal.Read.val_main_v7_2, Cert.ReferenceFfnActIdeal.Read.val_main_call0_v7, Cert.ReferenceFfnActIdeal.Read.val_main_call0_v6, Cert.ReferenceFfnActIdeal.Read.val_main_call0_v4, Cert.ReferenceFfnActIdeal.Read.val_main_call0_v3, Cert.ReferenceFfnActIdeal.Read.val_main_call0_v2, Cert.ReferenceFfnActIdeal.Read.val_main_call0_v1, Cert.ReferenceFfnActIdeal.Read.val_main_call0_v0, Cert.ReferenceFfnActIdeal.Read.val_main_call0_cst, Cert.ReferenceFfnActIdeal.Read.val_main_call0_cst_0, Cert.ReferenceFfnActIdeal.Read.val_main_call0_cst_1, Cert.ReferenceFfnActIdeal.Read.val_main_v6, Cert.ReferenceFfnActIdeal.Read.val_main_v5, Cert.ReferenceFfnActIdeal.Read.val_main_v4, Cert.ReferenceFfnActIdeal.Read.val_main_v3, Cert.ReferenceFfnActIdeal.Read.val_main_v2]
  · rw [dif_neg (by blk_simp [idx t]; omega)]
    simp only [Ideal.logistic]
    refine (congrArg (fun d : EReal => d * _) (dact_tile m c t (y 1) (y 2))).trans ?_
    rw [mul_comm]
    blk_point [iblk, V, idx t]
  · rw [dif_pos (by blk_simp [idx t]; omega)]
    simp only [Ideal.logistic]
    refine Eq.trans ?_ (Cert.Finite.silu_grad (dact_real hX hW _) (hU _) (hU _))
    refine (congrArg (fun d : EReal => d * _ * _) (dact_tile m c t (y 1) (y 2))).trans ?_
    blk_point [iblk, V, idx t]

end Cert.FfnAct

end
-- ==== Proof.FfnOutDw.lean ====
module

public import proofs.«01_k».proof.Proof.Gen.KernelFfnOutDwIdeal.Frame
public import proofs.«01_k».proof.Proof.Gen.ReferenceFfnOutDwIdeal.Read
public import Idealize.ShloMosaic.Lib.Pipeline.ValueKit
public import Idealize.ShloMosaic.Lib.Pipeline.ReadBack
public import Idealize.ShloMosaic.Lib.Pointwise
public import Idealize.ShloMosaic.Lib.Claim

/-! The product of the backward pass that gives the gradient of `w_ffn_out`: the gated activation transposed times `df`, by 1408 rows of the result and 1024 rows of the contracted axis a grid step. -/

@[expose] public section

set_option maxRecDepth 16384

noncomputable section

open Idealize.ShloMosaic Idealize.ShloMosaic.TcCoe Idealize.SL.Sem
open scoped BigOperators

namespace Cert.FfnOutDw

open Cert.KernelFfnOutDwIdeal Cert.KernelFfnOutDwIdeal.Gen

variable (m : (ℓ : Loc nD τ sig) → Buf (Elt Ideal) ℓ)

/-- The gradient of `w_ffn_out` as the reference program computes it. -/
abbrev grad := Cert.ReferenceFfnOutDwIdeal.Read.val_main_v5 (F := Ideal)

/-- The accumulator starts from zero. -/
theorem fill (j : S1408x1024.Idx) : k0_pay1 (F := Ideal) j = 0 := by pointwise [k0_pay1]

/-- One grid step adds the product of its two tiles to the accumulator. -/
theorem step (acc : FVec Ideal S1408x1024 .f32) (x : FVec Ideal S1024x1408 .bf16) (y : FVec Ideal S1024x1024 .bf16)
    (j : S1408x1024.Idx) : k0_pay2 (F := Ideal) acc x y j
      = acc j + ∑ k : Fin 1024, x (ix2 k (j 0)) * y (ix2 k (j 1)) := by
  pointwise [k0_pay2]

/-- The derivative of the product, element by element, is one sum over the contracted axis. -/
theorem grad_apply (X : FVec Ideal S4096x2816 .bf16) (Y : FVec Ideal S4096x1024 .bf16) (j : S2816x1024.Idx) :
    grad X Y j = ∑ k : Fin 4096, X (ix2 k (j 0)) * Y (ix2 k (j 1)) := by
  pointwise [grad, Cert.ReferenceFfnOutDwIdeal.Read.val_main_v5, Cert.ReferenceFfnOutDwIdeal.Read.val_main_v4, Cert.ReferenceFfnOutDwIdeal.Read.val_main_v3, Cert.ReferenceFfnOutDwIdeal.Read.val_main_v0]
  exact Finset.sum_congr rfl fun _ _ => mul_comm _ _

/-- Which tile each window holds at each grid step. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The last step of a run writes the accumulator out. -/
theorem stored (c : Dev nD) (t : Fin cfg0.N) (h : t.val % 4 = 3) :
    (outsAt0 m c t.val t.isLt).1 = (outsAt0 m c t.val t.isLt).2 := by
  rw [outsAt0_C m c t (by omega) h]
  funext j
  frame_out

/-- The array that the call returns is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 4 (fun _ => 0) _
      (fun t h j => by rw [outsAt0_A m c t h (by omega)]; frame_out; rw [step, fill])
      (fun t h j => by
        by_cases h3 : t.val % 4 = 3
        · rw [outsAt0_C m c t h h3]; frame_out; rw [step, read_unread_whole]
        · rw [outsAt0_B m c t h h3]; frame_out; rw [step, read_unread_whole])
      t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.FfnOutDw

end
-- ==== Proof.FfnInDx.lean ====
module

public import proofs.«01_k».proof.Proof.Gen.KernelFfnInDxIdeal.Frame
public import proofs.«01_k».proof.Proof.Gen.ReferenceFfnInDxIdeal.Read
public import Idealize.ShloMosaic.Lib.Pipeline.ValueKit
public import Idealize.ShloMosaic.Lib.Pipeline.ReadBack
public import Idealize.ShloMosaic.Lib.Pointwise
public import Idealize.ShloMosaic.Lib.Claim

/-! The product of the backward pass that gives the gradient of the input of the feed-forward block: `dgu` times the transposed `w_ffn_in`, one block of 1408 columns a grid step. The host hands `dgu` over as its two halves and `w_ffn_in` as four blocks of columns. -/

@[expose] public section

set_option maxRecDepth 16384

noncomputable section

open Idealize.ShloMosaic Idealize.ShloMosaic.TcCoe Idealize.SL.Sem
open scoped BigOperators

namespace Cert.FfnInDx

open Cert.KernelFfnInDxIdeal Cert.KernelFfnInDxIdeal.Gen

variable (m : (ℓ : Loc nD τ sig) → Buf (Elt Ideal) ℓ)

/-- The gradient of the input of the feed-forward block as the reference program computes it. -/
abbrev grad := Cert.ReferenceFfnInDxIdeal.Read.val_main_v4 (F := Ideal)

/-- The accumulator starts from zero. -/
theorem fill (j : S1024x1024.Idx) : k0_pay1 (F := Ideal) j = 0 := by pointwise [k0_pay1]

/-- One grid step adds the product of its two tiles to the accumulator. -/
theorem step (acc : FVec Ideal S1024x1024 .f32) (x : FVec Ideal S1x1024x1408 .bf16) (y : FVec Ideal S1x1024x1408 .bf16)
    (j : S1024x1024.Idx) : k0_pay2 (F := Ideal) acc x y j
      = acc j + ∑ k : Fin 1408, x (ix3 0 (j 0) k) * y (ix3 0 (j 1) k) := by
  pointwise [k0_pay2]

/-- The derivative of the product, element by element, is one sum over the contracted axis. -/
theorem grad_apply (X : FVec Ideal S4096x5632 .bf16) (Y : FVec Ideal S1024x5632 .bf16) (j : S4096x1024.Idx) :
    grad X Y j = ∑ k : Fin 5632, X (ix2 (j 0) k) * Y (ix2 (j 1) k) := by
  pointwise [grad, Cert.ReferenceFfnInDxIdeal.Read.val_main_v4, Cert.ReferenceFfnInDxIdeal.Read.val_main_v3, Cert.ReferenceFfnInDxIdeal.Read.val_main_v0]

/-- Which tile each window holds at each grid step. -/
theorem idx : ∀ t : Fin cfg0.N, win0_0.index t = ![t.val % 4 / 2, t.val / 4, t.val % 4 % 2]
    ∧ win0_1.index t = ![t.val % 4, 0, 0]
    ∧ win0_2.index t = ![t.val / 4, 0] :=
  (by decide +kernel : ∀ t : Fin grid0.N, _)

/-- The operand that the host stacks from the left and the right half of the columns of `dgu`, read at an index. -/
theorem halves_apply (c : Dev nD) (y : S2x4096x2816.Idx) :
    V m c main_v4 y = m ((c : Thread nD τ).loc main_arg0) (ix2 (y 1) ⟨(y 0).val * 2816 + (y 2).val, by have := (y 0).isLt; have := (y 2).isLt; simp at *; omega⟩) := by
  entry_read
  pointwise
  fin_vals (y 0) with hk <;> blk_point

/-- The operand that the host cuts into four blocks of columns of `w_ffn_in`, read at an index. -/
theorem blocks_apply (c : Dev nD) (y : S4x1024x1408.Idx) :
    V m c main_v6 y = m ((c : Thread nD τ).loc main_arg1) (ix2 (y 1) ⟨(y 0).val * 1408 + (y 2).val, by have := (y 0).isLt; have := (y 2).isLt; simp at *; omega⟩) := by
  entry_read
  pointwise

/-- The last step of a run writes the accumulator out. -/
theorem stored (c : Dev nD) (t : Fin cfg0.N) (h : t.val % 4 = 3) :
    (outsAt0 m c t.val t.isLt).1 = (outsAt0 m c t.val t.isLt).2 := by
  rw [outsAt0_C m c t (by omega) h]
  funext j
  frame_out

/-- The array that the call returns is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 4 (fun _ => 0) _
      (fun t h j => by rw [outsAt0_A m c t h (by omega)]; frame_out; rw [step, fill])
      (fun t h j => by
        by_cases h3 : t.val % 4 = 3
        · rw [outsAt0_C m c t h h3]; frame_out; rw [step, read_unread_whole]
        · rw [outsAt0_B m c t h h3]; frame_out; rw [step, read_unread_whole])
      t ((flush0_2 t).mp hf) _, zero_add, grad_apply]
  refine Fin.sum_mul_add_congr fun s k hl => ?_
  blk_simp [iblk]
  refine (congrArg₂ (fun a b : EReal => a * b) (halves_apply m c _) (blocks_apply m c _)).trans ?_
  blk_point [V, idx t, idx ⟨_, Pipeline.run_point_lt_of_flush t ((flush0_2 t).mp hf) s⟩]

end Cert.FfnInDx

end
-- ==== Proof.FfnInDw.lean ====
module

public import proofs.«01_k».proof.Proof.Gen.KernelFfnInDwIdeal.Frame
public import proofs.«01_k».proof.Proof.Gen.ReferenceFfnInDwIdeal.Read
public import Idealize.ShloMosaic.Lib.Pipeline.ValueKit
public import Idealize.ShloMosaic.Lib.Pipeline.ReadBack
public import Idealize.ShloMosaic.Lib.Pointwise
public import Idealize.ShloMosaic.Lib.Claim

/-! The product of the backward pass that gives the gradient of `w_ffn_in`: `h` transposed times `dgu`, one block of 1408 columns at a time and 1024 rows of the contracted axis a grid step. The host hands `dgu` over as its two halves, and the result is held as four blocks of columns. -/

@[expose] public section

set_option maxRecDepth 16384

noncomputable section

open Idealize.ShloMosaic Idealize.ShloMosaic.TcCoe Idealize.SL.Sem
open scoped BigOperators

namespace Cert.FfnInDw

open Cert.KernelFfnInDwIdeal Cert.KernelFfnInDwIdeal.Gen

variable (m : (ℓ : Loc nD τ sig) → Buf (Elt Ideal) ℓ)

/-- The gradient of `w_ffn_in`, as four blocks of columns, as the reference program computes it. -/
abbrev grad := Cert.ReferenceFfnInDwIdeal.Read.val_main_v7 (F := Ideal)

/-- The accumulator starts from zero. -/
theorem fill (j : S1024x1408.Idx) : k0_pay1 (F := Ideal) j = 0 := by pointwise [k0_pay1]

/-- One grid step adds the product of its two tiles to the accumulator. -/
theorem step (acc : FVec Ideal S1024x1408 .f32) (x : FVec Ideal S1024x1024 .bf16) (y : FVec Ideal S1x1024x1408 .bf16)
    (j : S1024x1408.Idx) : k0_pay2 (F := Ideal) acc x y j
      = acc j + ∑ k : Fin 1024, x (ix2 k (j 0)) * y (ix3 0 k (j 1)) := by
  pointwise [k0_pay2]

/-- The derivative of the product, element by element, is one sum over the contracted axis. -/
theorem grad_apply (X : FVec Ideal S4096x1024 .bf16) (Y : FVec Ideal S4096x5632 .bf16) (j : S4x1024x1408.Idx) :
    grad X Y j = ∑ k : Fin 4096, X (ix2 k (j 1)) * Y (ix2 k ⟨(j 0).val * 1408 + (j 2).val, by have := (j 0).isLt; have := (j 2).isLt; simp at *; omega⟩) := by
  pointwise [grad, Cert.ReferenceFfnInDwIdeal.Read.val_main_v7, Cert.ReferenceFfnInDwIdeal.Read.val_main_v6, Cert.ReferenceFfnInDwIdeal.Read.val_main_v5, Cert.ReferenceFfnInDwIdeal.Read.val_main_v4, Cert.ReferenceFfnInDwIdeal.Read.val_main_v3, Cert.ReferenceFfnInDwIdeal.Read.val_main_v0]
  exact Finset.sum_congr rfl fun _ _ => mul_comm _ _

/-- Which tile each window holds at each grid step. -/
theorem idx : ∀ t : Fin cfg0.N, win0_0.index t = ![t.val % 4, 0]
    ∧ win0_1.index t = ![t.val / 4 / 2, t.val % 4, t.val / 4 % 2]
    ∧ win0_2.index t = ![t.val / 4, 0, 0] :=
  (by decide +kernel : ∀ t : Fin grid0.N, _)

/-- The operand that the host stacks from the left and the right half of the columns of `dgu`, read at an index. -/
theorem halves_apply (c : Dev nD) (y : S2x4096x2816.Idx) :
    V m c main_v4 y = m ((c : Thread nD τ).loc main_arg1) (ix2 (y 1) ⟨(y 0).val * 2816 + (y 2).val, by have := (y 0).isLt; have := (y 2).isLt; simp at *; omega⟩) := by
  entry_read
  pointwise
  fin_vals (y 0) with hk <;> blk_point

/-- The last step of a run writes the accumulator out. -/
theorem stored (c : Dev nD) (t : Fin cfg0.N) (h : t.val % 4 = 3) (j : S1x1024x1408.Idx) :
    (outsAt0 m c t.val t.isLt).1 j = (outsAt0 m c t.val t.isLt).2 (ix2 (j 1) (j 2)) := by
  rw [outsAt0_C m c t (by omega) h]
  frame_out
  pointwise [k0_pay3]

/-- The array that the call returns is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 4 (fun _ => 0) _
      (fun t h j => by rw [outsAt0_A m c t h (by omega)]; frame_out; rw [step, fill])
      (fun t h j => by
        by_cases h3 : t.val % 4 = 3
        · rw [outsAt0_C m c t h h3]; frame_out; rw [step, read_unread_whole]
        · rw [outsAt0_B m c t h h3]; frame_out; rw [step, read_unread_whole])
      t ((flush0_2 t).mp hf) _, zero_add, grad_apply]
  refine Fin.sum_mul_add_congr fun s k hl => ?_
  blk_simp [iblk]
  refine (congrArg (fun b : EReal => _ * b) (halves_apply m c _)).trans ?_
  blk_point [V, idx t, idx ⟨_, Pipeline.run_point_lt_of_flush t ((flush0_2 t).mp hf) s⟩]

end Cert.FfnInDw

end
-- ==== Proof.InDx.lean ====
module

public import proofs.«01_k».proof.Proof.Gen.KernelInDxIdeal.Frame
public import proofs.«01_k».proof.Proof.Gen.ReferenceInDxIdeal.Read
public import Idealize.ShloMosaic.Lib.Pipeline.ValueKit
public import Idealize.ShloMosaic.Lib.Pipeline.ReadBack
public import Idealize.ShloMosaic.Lib.Pointwise
public import Idealize.ShloMosaic.Lib.Claim

/-! The product of the backward pass that gives the gradient of the input of the projections: `dproj` times the transposed weights, by 1024 rows of the result and 1152 of the contracted columns a grid step. -/

@[expose] public section

set_option maxRecDepth 16384

noncomputable section

open Idealize.ShloMosaic Idealize.ShloMosaic.TcCoe Idealize.SL.Sem
open scoped BigOperators

namespace Cert.InDx

open Cert.KernelInDxIdeal Cert.KernelInDxIdeal.Gen

variable (m : (ℓ : Loc nD τ sig) → Buf (Elt Ideal) ℓ)

/-- The gradient of the input of the projections as the reference program computes it. -/
abbrev grad := Cert.ReferenceInDxIdeal.Read.val_main_v4 (F := Ideal)

/-- The accumulator starts from zero. -/
theorem fill (j : S1024x1024.Idx) : k0_pay1 (F := Ideal) j = 0 := by pointwise [k0_pay1]

/-- One grid step adds the product of its two tiles to the accumulator. -/
theorem step (acc : FVec Ideal S1024x1024 .f32) (x : FVec Ideal S1024x1152 .bf16) (y : FVec Ideal S1024x1152 .bf16)
    (j : S1024x1024.Idx) : k0_pay2 (F := Ideal) acc x y j
      = acc j + ∑ k : Fin 1152, x (ix2 (j 0) k) * y (ix2 (j 1) k) := by
  pointwise [k0_pay2]

/-- The derivative of the product, element by element, is one sum over the contracted axis. -/
theorem grad_apply (X : FVec Ideal S4096x2304 .bf16) (Y : FVec Ideal S1024x2304 .bf16) (j : S4096x1024.Idx) :
    grad X Y j = ∑ k : Fin 2304, X (ix2 (j 0) k) * Y (ix2 (j 1) k) := by
  pointwise [grad, Cert.ReferenceInDxIdeal.Read.val_main_v4, Cert.ReferenceInDxIdeal.Read.val_main_v3, Cert.ReferenceInDxIdeal.Read.val_main_v0]

/-- Which tile each window holds at each grid step. -/
theorem idx : ∀ t : Fin cfg0.N, win0_0.index t = ![t.val / 2, t.val % 2]
    ∧ win0_1.index t = ![0, t.val % 2]
    ∧ win0_2.index t = ![t.val / 2, 0] :=
  (by decide +kernel : ∀ t : Fin grid0.N, _)

/-- The last step of a run writes the accumulator out. -/
theorem stored (c : Dev nD) (t : Fin cfg0.N) (h : t.val % 2 = 1) :
    (outsAt0 m c t.val t.isLt).1 = (outsAt0 m c t.val t.isLt).2 := by
  rw [outsAt0_B m c t (by omega) h]
  funext j
  frame_out

/-- The array that the call returns is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 2 (fun _ => 0) _
      (fun t h j => by rw [outsAt0_A m c t h (by omega)]; frame_out; rw [step, fill])
      (fun t h j => by rw [outsAt0_B m c t h (by omega)]; frame_out; rw [step, read_unread_whole])
      t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.InDx

end
-- ==== Proof.InDw.lean ====
module

public import proofs.«01_k».proof.Proof.Gen.KernelInDwIdeal.Frame
public import proofs.«01_k».proof.Proof.Gen.ReferenceInDwIdeal.Read
public import Idealize.ShloMosaic.Lib.Pipeline.ValueKit
public import Idealize.ShloMosaic.Lib.Pipeline.ReadBack
public import Idealize.ShloMosaic.Lib.Pointwise
public import Idealize.ShloMosaic.Lib.Claim

/-! The product of the backward pass that gives the gradient of the input projections of the mixers: `h` transposed times `dproj`, by 768 columns and 1024 rows of the contracted axis a grid step. -/

@[expose] public section

set_option maxRecDepth 16384

noncomputable section

open Idealize.ShloMosaic Idealize.ShloMosaic.TcCoe Idealize.SL.Sem
open scoped BigOperators

namespace Cert.InDw

open Cert.KernelInDwIdeal Cert.KernelInDwIdeal.Gen

variable (m : (ℓ : Loc nD τ sig) → Buf (Elt Ideal) ℓ)

/-- The gradient of the input projections as the reference program computes it. -/
abbrev grad := Cert.ReferenceInDwIdeal.Read.val_main_v5 (F := Ideal)

/-- The accumulator starts from zero. -/
theorem fill (j : S1024x768.Idx) : k0_pay1 (F := Ideal) j = 0 := by pointwise [k0_pay1]

/-- One grid step adds the product of its two tiles to the accumulator. -/
theorem step (acc : FVec Ideal S1024x768 .f32) (x : FVec Ideal S1024x1024 .bf16) (y : FVec Ideal S1024x768 .bf16)
    (j : S1024x768.Idx) : k0_pay2 (F := Ideal) acc x y j
      = acc j + ∑ k : Fin 1024, x (ix2 k (j 0)) * y (ix2 k (j 1)) := by
  pointwise [k0_pay2]

/-- The derivative of the product, element by element, is one sum over the contracted axis. -/
theorem grad_apply (X : FVec Ideal S4096x1024 .bf16) (Y : FVec Ideal S4096x2304 .bf16) (j : S1024x2304.Idx) :
    grad X Y j = ∑ k : Fin 4096, X (ix2 k (j 0)) * Y (ix2 k (j 1)) := by
  pointwise [grad, Cert.ReferenceInDwIdeal.Read.val_main_v5, Cert.ReferenceInDwIdeal.Read.val_main_v4, Cert.ReferenceInDwIdeal.Read.val_main_v3, Cert.ReferenceInDwIdeal.Read.val_main_v0]
  exact Finset.sum_congr rfl fun _ _ => mul_comm _ _

/-- Which tile each window holds at each grid step. -/
theorem idx : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- The last step of a run writes the accumulator out. -/
theorem stored (c : Dev nD) (t : Fin cfg0.N) (h : t.val % 4 = 3) :
    (outsAt0 m c t.val t.isLt).1 = (outsAt0 m c t.val t.isLt).2 := by
  rw [outsAt0_C m c t (by omega) h]
  funext j
  frame_out

/-- The array that the call returns is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 4 (fun _ => 0) _
      (fun t h j => by rw [outsAt0_A m c t h (by omega)]; frame_out; rw [step, fill])
      (fun t h j => by
        by_cases h3 : t.val % 4 = 3
        · rw [outsAt0_C m c t h h3]; frame_out; rw [step, read_unread_whole]
        · rw [outsAt0_B m c t h h3]; frame_out; rw [step, read_unread_whole])
      t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.InDw

end
-- ==== Proof.OutDw.lean ====
module

public import proofs.«01_k».proof.Proof.Gen.KernelOutDwIdeal.Frame
public import proofs.«01_k».proof.Proof.Gen.ReferenceOutDwIdeal.Read
public import Idealize.ShloMosaic.Lib.Pipeline.ValueKit
public import Idealize.ShloMosaic.Lib.Pipeline.ReadBack
public import Idealize.ShloMosaic.Lib.Pointwise
public import Idealize.ShloMosaic.Lib.Claim

/-! The product of the backward pass that gives the gradient of the output projection of the mixer: `y` transposed times `dmix`, a block of 1024 rows of the contracted axis a grid step. -/

@[expose] public section

set_option maxRecDepth 16384

noncomputable section

open Idealize.ShloMosaic Idealize.ShloMosaic.TcCoe Idealize.SL.Sem
open scoped BigOperators

namespace Cert.OutDw

open Cert.KernelOutDwIdeal Cert.KernelOutDwIdeal.Gen

variable (m : (ℓ : Loc nD τ sig) → Buf (Elt Ideal) ℓ)

/-- The gradient of `w_out` as the reference program computes it. -/
abbrev grad := Cert.ReferenceOutDwIdeal.Read.val_main_v5 (F := Ideal)

/-- The accumulator starts from zero. -/
theorem fill (j : S1024x1024.Idx) : k0_pay1 (F := Ideal) j = 0 := by pointwise [k0_pay1]

/-- One grid step adds the product of its two tiles to the accumulator. -/
theorem step (acc : FVec Ideal S1024x1024 .f32) (x : FVec Ideal S1024x1024 .bf16) (y : FVec Ideal S1024x1024 .bf16)
    (j : S1024x1024.Idx) : k0_pay2 (F := Ideal) acc x y j
      = acc j + ∑ k : Fin 1024, x (ix2 k (j 0)) * y (ix2 k (j 1)) := by
  pointwise [k0_pay2]

/-- The derivative of the product, element by element, is one sum over the contracted axis. -/
theorem grad_apply (X : FVec Ideal S4096x1024 .bf16) (Y : FVec Ideal S4096x1024 .bf16) (j : S1024x1024.Idx) :
    grad X Y j = ∑ k : Fin 4096, X (ix2 k (j 0)) * Y (ix2 k (j 1)) := by
  pointwise [grad, Cert.ReferenceOutDwIdeal.Read.val_main_v5, Cert.ReferenceOutDwIdeal.Read.val_main_v4, Cert.ReferenceOutDwIdeal.Read.val_main_v3, Cert.ReferenceOutDwIdeal.Read.val_main_v0]
  exact Finset.sum_congr rfl fun _ _ => mul_comm _ _

/-- Which tile each window holds at each grid step. -/
theorem idx : ∀ t : Fin cfg0.N, win0_0.index t = ![t.val % 4, 0]
    ∧ win0_1.index t = ![t.val % 4, 0]
    ∧ win0_2.index t = ![0, 0] :=
  (by decide +kernel : ∀ t : Fin grid0.N, _)

/-- The last step of a run writes the accumulator out. -/
theorem stored (c : Dev nD) (t : Fin cfg0.N) (h : t.val % 4 = 3) :
    (outsAt0 m c t.val t.isLt).1 = (outsAt0 m c t.val t.isLt).2 := by
  rw [outsAt0_C m c t (by omega) h]
  funext j
  frame_out

/-- The array that the call returns is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf),
    Pipeline.eq_sum_fin_of_reset_step_apply_of_flush (fun n h => (outsAt0 m c n h).2) 4 (fun _ => 0) _
      (fun t h j => by rw [outsAt0_A m c t h (by omega)]; frame_out; rw [step, fill])
      (fun t h j => by
        by_cases h3 : t.val % 4 = 3
        · rw [outsAt0_C m c t h h3]; frame_out; rw [step, read_unread_whole]
        · rw [outsAt0_B m c t h h3]; frame_out; rw [step, read_unread_whole])
      t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.OutDw

end
-- ==== Proof.Products.lean ====
module

public import proofs.«01_k».proof.Defs
public import proofs.«01_k».proof.Proof.FfnIn
public import proofs.«01_k».proof.Proof.Gen.ReferenceFfnInIdeal.Run
public import proofs.«01_k».proof.Proof.FfnAct
public import proofs.«01_k».proof.Proof.Gen.ReferenceFfnActIdeal.Run
public import proofs.«01_k».proof.Proof.FfnOutDw
public import proofs.«01_k».proof.Proof.Gen.ReferenceFfnOutDwIdeal.Run
public import proofs.«01_k».proof.Proof.FfnInDx
public import proofs.«01_k».proof.Proof.Gen.ReferenceFfnInDxIdeal.Run
public import proofs.«01_k».proof.Proof.FfnInDw
public import proofs.«01_k».proof.Proof.Gen.ReferenceFfnInDwIdeal.Run
public import proofs.«01_k».proof.Proof.InDx
public import proofs.«01_k».proof.Proof.Gen.ReferenceInDxIdeal.Run
public import proofs.«01_k».proof.Proof.InDw
public import proofs.«01_k».proof.Proof.Gen.ReferenceInDwIdeal.Run
public import proofs.«01_k».proof.Proof.OutDw
public import proofs.«01_k».proof.Proof.Gen.ReferenceOutDwIdeal.Run
public import Idealize.ShloMosaic.Lib.Claim

/-! The products of the feed-forward block and of the mixers' projections: each call computes, over the extended reals,
what its reference does; and each reference terminates and leaves everything in order. -/

@[expose] public section

noncomputable section

open Idealize.ShloMosaic Idealize.ShloMosaic.TcCoe Idealize.SL.Sem

namespace Cert.Products

theorem value_FfnIn : Cert.algebraic_KernelFfnInIdeal_ReferenceFfnInIdeal := by
  pair_intro
  · run_from Cert.KernelFfnInIdeal.Gen.run_main m g
  · run_from Cert.ReferenceFfnInIdeal.Value.run m' g'
    · exact (Cert.FfnIn.final_gu m c).symm
    · exact (Cert.FfnIn.final_act m c).symm

theorem frame_ReferenceFfnIn : Cert.quiescent_ReferenceFfnInIdeal := fun m g _ =>
  (θ_run Cert.ReferenceFfnInIdeal.defs _ _).mono (fun r h => ⟨fun c => (h c).2.2, sem_eq_zero_of_no_sems (by decide) r.2⟩)
    (Cert.ReferenceFfnInIdeal.Value.run (F := Ideal) m g)

theorem value_FfnAct : Cert.algebraic_KernelFfnActIdeal_ReferenceFfnActIdeal_pre_finite_ffn := by
  pair_intro
  · run_from Cert.KernelFfnActIdeal.Gen.run_main m g
  · refine (θ_run Cert.ReferenceFfnActIdeal.defs _ _).mono (fun r h c => ⟨?_, (h c).2⟩) (Cert.ReferenceFfnActIdeal.Value.run (F := Ideal) m' g')
    obtain ⟨hX, hW, hU⟩ := Cert.FfnAct.real_args (hpre c)
    refine (h c).1.trans (Eq.trans ?_ (Cert.FfnAct.final m c hX hW hU).symm)
    exact (Cert.ReferenceFfnActIdeal.Read.val_main_v17_eq _ _ _).trans
      (congr (congrArg₂ Cert.FfnAct.grad (hagree c).1 (hagree c).2.1) (hagree c).2.2)

theorem frame_ReferenceFfnAct : Cert.quiescent_ReferenceFfnActIdeal := fun m g _ =>
  (θ_run Cert.ReferenceFfnActIdeal.defs _ _).mono (fun r h => ⟨fun c => (h c).2, sem_eq_zero_of_no_sems (by decide) r.2⟩)
    (Cert.ReferenceFfnActIdeal.Value.run (F := Ideal) m g)

theorem value_FfnOutDw : Cert.algebraic_KernelFfnOutDwIdeal_ReferenceFfnOutDwIdeal := by
  pair_intro
  · run_from Cert.KernelFfnOutDwIdeal.Gen.run_main m g
  · run_from Cert.ReferenceFfnOutDwIdeal.Value.run m' g'
    exact (Cert.FfnOutDw.final m c).symm

theorem frame_ReferenceFfnOutDw : Cert.quiescent_ReferenceFfnOutDwIdeal := fun m g _ =>
  (θ_run Cert.ReferenceFfnOutDwIdeal.defs _ _).mono (fun r h => ⟨fun c => (h c).2, sem_eq_zero_of_no_sems (by decide) r.2⟩)
    (Cert.ReferenceFfnOutDwIdeal.Value.run (F := Ideal) m g)

set_option maxRecDepth 20000 in
theorem value_FfnInDx : Cert.algebraic_KernelFfnInDxIdeal_ReferenceFfnInDxIdeal := by
  pair_intro
  · run_from Cert.KernelFfnInDxIdeal.Gen.run_main m g
  · run_from Cert.ReferenceFfnInDxIdeal.Value.run m' g'
    exact (Cert.FfnInDx.final m c).symm

theorem frame_ReferenceFfnInDx : Cert.quiescent_ReferenceFfnInDxIdeal := fun m g _ =>
  (θ_run Cert.ReferenceFfnInDxIdeal.defs _ _).mono (fun r h => ⟨fun c => (h c).2, sem_eq_zero_of_no_sems (by decide) r.2⟩)
    (Cert.ReferenceFfnInDxIdeal.Value.run (F := Ideal) m g)

theorem value_FfnInDw : Cert.algebraic_KernelFfnInDwIdeal_ReferenceFfnInDwIdeal := by
  pair_intro
  · run_from Cert.KernelFfnInDwIdeal.Gen.run_main m g
  · run_from Cert.ReferenceFfnInDwIdeal.Value.run m' g'
    exact (Cert.FfnInDw.final m c).symm

theorem frame_ReferenceFfnInDw : Cert.quiescent_ReferenceFfnInDwIdeal := fun m g _ =>
  (θ_run Cert.ReferenceFfnInDwIdeal.defs _ _).mono (fun r h => ⟨fun c => (h c).2, sem_eq_zero_of_no_sems (by decide) r.2⟩)
    (Cert.ReferenceFfnInDwIdeal.Value.run (F := Ideal) m g)

theorem value_InDx : Cert.algebraic_KernelInDxIdeal_ReferenceInDxIdeal := by
  pair_intro
  · run_from Cert.KernelInDxIdeal.Gen.run_main m g
  · run_from Cert.ReferenceInDxIdeal.Value.run m' g'
    exact (Cert.InDx.final m c).symm

theorem frame_ReferenceInDx : Cert.quiescent_ReferenceInDxIdeal := fun m g _ =>
  (θ_run Cert.ReferenceInDxIdeal.defs _ _).mono (fun r h => ⟨fun c => (h c).2, sem_eq_zero_of_no_sems (by decide) r.2⟩)
    (Cert.ReferenceInDxIdeal.Value.run (F := Ideal) m g)

theorem value_InDw : Cert.algebraic_KernelInDwIdeal_ReferenceInDwIdeal := by
  pair_intro
  · run_from Cert.KernelInDwIdeal.Gen.run_main m g
  · run_from Cert.ReferenceInDwIdeal.Value.run m' g'
    exact (Cert.InDw.final m c).symm

theorem frame_ReferenceInDw : Cert.quiescent_ReferenceInDwIdeal := fun m g _ =>
  (θ_run Cert.ReferenceInDwIdeal.defs _ _).mono (fun r h => ⟨fun c => (h c).2, sem_eq_zero_of_no_sems (by decide) r.2⟩)
    (Cert.ReferenceInDwIdeal.Value.run (F := Ideal) m g)

theorem value_OutDw : Cert.algebraic_KernelOutDwIdeal_ReferenceOutDwIdeal := by
  pair_intro
  · run_from Cert.KernelOutDwIdeal.Gen.run_main m g
  · run_from Cert.ReferenceOutDwIdeal.Value.run m' g'
    exact (Cert.OutDw.final m c).symm

theorem frame_ReferenceOutDw : Cert.quiescent_ReferenceOutDwIdeal := fun m g _ =>
  (θ_run Cert.ReferenceOutDwIdeal.defs _ _).mono (fun r h => ⟨fun c => (h c).2, sem_eq_zero_of_no_sems (by decide) r.2⟩)
    (Cert.ReferenceOutDwIdeal.Value.run (F := Ideal) m g)

end Cert.Products

end
-- ==== Proof.AdaBwd.lean ====
module

public import proofs.«01_k».proof.Proof.Gen.KernelAdaBwdIdeal.Frame
public import proofs.«01_k».proof.Proof.Gen.ReferenceAdaBwdIdeal.Read
public import Idealize.ShloMosaic.Lib.Pipeline.ValueKit
public import Idealize.ShloMosaic.Lib.Pointwise
public import Idealize.ShloMosaic.Lib.Claim

/-! The gradient of the weight of the modulation: the product of the transposed condition with the gradient of the modulation, by 512 columns a grid step. -/

@[expose] public section

set_option maxRecDepth 16384

noncomputable section

open Idealize.ShloMosaic Idealize.ShloMosaic.TcCoe Idealize.SL.Sem
open scoped BigOperators

namespace Cert.AdaBwd

open Cert.KernelAdaBwdIdeal Cert.KernelAdaBwdIdeal.Gen

variable (m : (ℓ : Loc nD τ sig) → Buf (Elt Ideal) ℓ)

/-- The gradient of the weight as the reference program computes it. -/
abbrev grad := Cert.ReferenceAdaBwdIdeal.Read.val_main_v4 (F := Ideal)

/-- Which tile each window holds at each grid step. -/
theorem idx : ∀ t : Fin cfg0.N, win0_0.index t = ![0, 0] ∧ win0_1.index t = ![0, t.val] ∧ win0_2.index t = ![0, t.val] :=
  (by decide +kernel : ∀ t : Fin grid0.N, _)

/-- The array that the call returns is the gradient. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  canon_tiles y h
  pointwise [k0_pay1, grad, Cert.ReferenceAdaBwdIdeal.Read.val_main_v4, Cert.ReferenceAdaBwdIdeal.Read.val_main_v3, Cert.ReferenceAdaBwdIdeal.Read.val_main_v1, Cert.ReferenceAdaBwdIdeal.Read.val_main_call0_v0, Cert.ReferenceAdaBwdIdeal.Read.val_main_call0_v1, Cert.ReferenceAdaBwdIdeal.Read.val_main_call0_v2, Cert.ReferenceAdaBwdIdeal.Read.val_main_call0_v3, Cert.ReferenceAdaBwdIdeal.Read.val_main_call0_v4, Cert.ReferenceAdaBwdIdeal.Read.val_main_call0_v5, Cert.ReferenceAdaBwdIdeal.Read.val_main_call0_cst, Cert.ReferenceAdaBwdIdeal.Read.val_main_call0_cst_0]
  refine Finset.sum_congr rfl fun k _ => ?_
  simp only [Ideal.logistic]
  rw [mul_comm]
  blk_point [iblk, V, idx t]

end Cert.AdaBwd

end
-- ==== Proof.Update.lean ====
module

public import Idealize.ShloMosaic.Lib.Pointwise

/-! The update of one weight by the optimiser, on one number: what the calls of the optimiser compute for every element. -/

@[expose] public section

noncomputable section

open Idealize.ShloMosaic

namespace Cert.Update

/-- The new first moment of an element with gradient `g` and first moment `m`. -/
def first (g m : EReal) : EReal :=
  Ideal.ofBits .f32 0x3F666666#32 * m + Ideal.ofBits .f32 0x3DCCCCCD#32 * g

/-- The new second moment of an element with gradient `g` and second moment `v`. -/
def second (g v : EReal) : EReal :=
  Ideal.ofBits .f32 0x3F7FBE77#32 * v + Ideal.ofBits .f32 0x3A83126F#32 * (g * g)

/-- The change of an element `w` with gradient `g` and moments `m` and `v`. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

/-- Equal numbers have equal changes. -/
theorem change_congr {w w' g g' m m' v v' : EReal} (hw : w = w') (hg : g = g') (hm : m = m') (hv : v = v') :
    change w g m v = change w' g' m' v' := by rw [hw, hg, hm, hv]

end Cert.Update

end
-- ==== Proof.AdamSmall.lean ====
module

public import proofs.«01_k».proof.Proof.Gen.KernelAdamSmallIdeal.Frame
public import proofs.«01_k».proof.Proof.Gen.ReferenceAdamSmallIdeal.Read
public import Idealize.ShloMosaic.Lib.Pipeline.ValueKit
public import Idealize.ShloMosaic.Lib.Pointwise
public import Idealize.ShloMosaic.Lib.Claim
public import proofs.«01_k».proof.Proof.Update

/-! The optimiser on the small weights, which are laid in one row: the sum of the parts of their gradient, and the update of every element. -/

@[expose] public section

set_option maxRecDepth 16384

noncomputable section

open Idealize.ShloMosaic Idealize.ShloMosaic.TcCoe Idealize.SL.Sem
open scoped BigOperators

namespace Cert.AdamSmall

open Cert.KernelAdamSmallIdeal Cert.KernelAdamSmallIdeal.Gen Cert.Update

variable (m : (ℓ : Loc nD τ sig) → Buf (Elt Ideal) ℓ)

/-- The gradient, the change and the two moments as the reference program computes them. -/
abbrev gradient := Cert.ReferenceAdamSmallIdeal.Read.val_main_v28 (F := Ideal)
abbrev delta := Cert.ReferenceAdamSmallIdeal.Read.val_main_v29 (F := Ideal)
abbrev moment1 := Cert.ReferenceAdamSmallIdeal.Read.val_main_v30 (F := Ideal)
abbrev moment2 := Cert.ReferenceAdamSmallIdeal.Read.val_main_v31 (F := Ideal)

/-- Every window is one whole array. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- What the body leaves for the gradient: the sum of the parts. -/
theorem out_g (x0 : FVec Ideal S8x640 .f32) (x1 : FVec Ideal S8x8x640 .f32) (x2 x3 : FVec Ideal S8x640 .f32) (y : S8x640.Idx) : out0_4 (F := Ideal) x0 x1 x2 x3 y = (∑ k : Fin 8, x1 (ix3 k (y 0) (y 1))) := by
  rw [Fin.sum_univ_eight]
  unfold out0_4 k0_pay8
  canon_tiles z h
  obtain rfl : y = z := by funext a; fin_cases a; exacts [Fin.ext h0, Fin.ext h1]
  pointwise [k0_pay1, k0_pay2, k0_pay3, k0_pay4, k0_pay5, k0_pay6, k0_pay7]

/-- What the body leaves for the change. -/
theorem out_d (x0 : FVec Ideal S8x640 .f32) (x1 : FVec Ideal S8x8x640 .f32) (x2 x3 : FVec Ideal S8x640 .f32) (y : S8x640.Idx) : out0_5 (F := Ideal) x0 x1 x2 x3 y = change (x0 y) (∑ k : Fin 8, x1 (ix3 k (y 0) (y 1))) (x2 y) (x3 y) := by
  rw [Fin.sum_univ_eight]
  unfold out0_5 k0_pay10 k0_pay9 k0_pay8
  canon_tiles z h
  obtain rfl : y = z := by funext a; fin_cases a; exacts [Fin.ext h0, Fin.ext h1]
  pointwise [k0_pay1, k0_pay2, k0_pay3, k0_pay4, k0_pay5, k0_pay6, k0_pay7, change, first, second]

/-- What the body leaves for the first moment. -/
theorem out_m (x0 : FVec Ideal S8x640 .f32) (x1 : FVec Ideal S8x8x640 .f32) (x2 x3 : FVec Ideal S8x640 .f32) (y : S8x640.Idx) : out0_6 (F := Ideal) x0 x1 x2 x3 y = first (∑ k : Fin 8, x1 (ix3 k (y 0) (y 1))) (x2 y) := by
  rw [Fin.sum_univ_eight]
  unfold out0_6 k0_pay9 k0_pay8
  canon_tiles z h
  obtain rfl : y = z := by funext a; fin_cases a; exacts [Fin.ext h0, Fin.ext h1]
  pointwise [k0_pay1, k0_pay2, k0_pay3, k0_pay4, k0_pay5, k0_pay6, k0_pay7, first]

/-- What the body leaves for the second moment. -/
theorem out_v (x0 : FVec Ideal S8x640 .f32) (x1 : FVec Ideal S8x8x640 .f32) (x2 x3 : FVec Ideal S8x640 .f32) (y : S8x640.Idx) : out0_7 (F := Ideal) x0 x1 x2 x3 y = second (∑ k : Fin 8, x1 (ix3 k (y 0) (y 1))) (x3 y) := by
  rw [Fin.sum_univ_eight]
  unfold out0_7 k0_pay10 k0_pay8
  canon_tiles z h
  obtain rfl : y = z := by funext a; fin_cases a; exacts [Fin.ext h0, Fin.ext h1]
  pointwise [k0_pay1, k0_pay2, k0_pay3, k0_pay4, k0_pay5, k0_pay6, k0_pay7, second]

/-- The reference's gradient, element by element. -/
theorem gradient_apply (X1 : FVec Ideal S8x5120 .f32) (y : S8x640.Idx) : gradient X1 y = (∑ k : Fin 8, X1 (ix2 k ⟨(y 0).val * 640 + (y 1).val, by have := (y 0).isLt; have := (y 1).isLt; simp at *; omega⟩)) := by
  pointwise [gradient, Cert.ReferenceAdamSmallIdeal.Read.val_main_v0, Cert.ReferenceAdamSmallIdeal.Read.val_main_v1, Cert.ReferenceAdamSmallIdeal.Read.val_main_v2, Cert.ReferenceAdamSmallIdeal.Read.val_main_v3, Cert.ReferenceAdamSmallIdeal.Read.val_main_v4, Cert.ReferenceAdamSmallIdeal.Read.val_main_v5, Cert.ReferenceAdamSmallIdeal.Read.val_main_v6, Cert.ReferenceAdamSmallIdeal.Read.val_main_v7, Cert.ReferenceAdamSmallIdeal.Read.val_main_v8, Cert.ReferenceAdamSmallIdeal.Read.val_main_v9, Cert.ReferenceAdamSmallIdeal.Read.val_main_v10, Cert.ReferenceAdamSmallIdeal.Read.val_main_v11, Cert.ReferenceAdamSmallIdeal.Read.val_main_v12, Cert.ReferenceAdamSmallIdeal.Read.val_main_v13, Cert.ReferenceAdamSmallIdeal.Read.val_main_v14, Cert.ReferenceAdamSmallIdeal.Read.val_main_v15, Cert.ReferenceAdamSmallIdeal.Read.val_main_v16, Cert.ReferenceAdamSmallIdeal.Read.val_main_v17, Cert.ReferenceAdamSmallIdeal.Read.val_main_v18, Cert.ReferenceAdamSmallIdeal.Read.val_main_v19, Cert.ReferenceAdamSmallIdeal.Read.val_main_v20, Cert.ReferenceAdamSmallIdeal.Read.val_main_v21, Cert.ReferenceAdamSmallIdeal.Read.val_main_v22, Cert.ReferenceAdamSmallIdeal.Read.val_main_v23, Cert.ReferenceAdamSmallIdeal.Read.val_main_v24, Cert.ReferenceAdamSmallIdeal.Read.val_main_v25, Cert.ReferenceAdamSmallIdeal.Read.val_main_v26, Cert.ReferenceAdamSmallIdeal.Read.val_main_v27, Cert.ReferenceAdamSmallIdeal.Read.val_main_v28, Cert.ReferenceAdamSmallIdeal.Read.val_main_v29, Cert.ReferenceAdamSmallIdeal.Read.val_main_v30, Cert.ReferenceAdamSmallIdeal.Read.val_main_v31, Cert.ReferenceAdamSmallIdeal.Read.val_main_cst, Cert.ReferenceAdamSmallIdeal.Read.val_main_cst_0, Cert.ReferenceAdamSmallIdeal.Read.val_main_cst_1, Cert.ReferenceAdamSmallIdeal.Read.val_main_cst_2, Cert.ReferenceAdamSmallIdeal.Read.val_main_cst_3, Cert.ReferenceAdamSmallIdeal.Read.val_main_cst_4, Cert.ReferenceAdamSmallIdeal.Read.val_main_cst_5, Cert.ReferenceAdamSmallIdeal.Read.val_main_cst_6, Cert.ReferenceAdamSmallIdeal.Read.val_main_cst_7, Cert.ReferenceAdamSmallIdeal.Read.val_main_cst_8]

/-- The reference's change, element by element. -/
theorem delta_apply (X0 : FVec Ideal S1x5120 .f32) (X1 : FVec Ideal S8x5120 .f32) (X2 X3 : FVec Ideal S1x5120 .f32) (y : S8x640.Idx) : delta X0 X1 X2 X3 y = change (X0 (ix2 0 ⟨(y 0).val * 640 + (y 1).val, by have := (y 0).isLt; have := (y 1).isLt; simp at *; omega⟩)) (∑ k : Fin 8, X1 (ix2 k ⟨(y 0).val * 640 + (y 1).val, by have := (y 0).isLt; have := (y 1).isLt; simp at *; omega⟩)) (X2 (ix2 0 ⟨(y 0).val * 640 + (y 1).val, by have := (y 0).isLt; have := (y 1).isLt; simp at *; omega⟩)) (X3 (ix2 0 ⟨(y 0).val * 640 + (y 1).val, by have := (y 0).isLt; have := (y 1).isLt; simp at *; omega⟩)) := by
  pointwise [delta, change, first, second, Cert.ReferenceAdamSmallIdeal.Read.val_main_v0, Cert.ReferenceAdamSmallIdeal.Read.val_main_v1, Cert.ReferenceAdamSmallIdeal.Read.val_main_v2, Cert.ReferenceAdamSmallIdeal.Read.val_main_v3, Cert.ReferenceAdamSmallIdeal.Read.val_main_v4, Cert.ReferenceAdamSmallIdeal.Read.val_main_v5, Cert.ReferenceAdamSmallIdeal.Read.val_main_v6, Cert.ReferenceAdamSmallIdeal.Read.val_main_v7, Cert.ReferenceAdamSmallIdeal.Read.val_main_v8, Cert.ReferenceAdamSmallIdeal.Read.val_main_v9, Cert.ReferenceAdamSmallIdeal.Read.val_main_v10, Cert.ReferenceAdamSmallIdeal.Read.val_main_v11, Cert.ReferenceAdamSmallIdeal.Read.val_main_v12, Cert.ReferenceAdamSmallIdeal.Read.val_main_v13, Cert.ReferenceAdamSmallIdeal.Read.val_main_v14, Cert.ReferenceAdamSmallIdeal.Read.val_main_v15, Cert.ReferenceAdamSmallIdeal.Read.val_main_v16, Cert.ReferenceAdamSmallIdeal.Read.val_main_v17, Cert.ReferenceAdamSmallIdeal.Read.val_main_v18, Cert.ReferenceAdamSmallIdeal.Read.val_main_v19, Cert.ReferenceAdamSmallIdeal.Read.val_main_v20, Cert.ReferenceAdamSmallIdeal.Read.val_main_v21, Cert.ReferenceAdamSmallIdeal.Read.val_main_v22, Cert.ReferenceAdamSmallIdeal.Read.val_main_v23, Cert.ReferenceAdamSmallIdeal.Read.val_main_v24, Cert.ReferenceAdamSmallIdeal.Read.val_main_v25, Cert.ReferenceAdamSmallIdeal.Read.val_main_v26, Cert.ReferenceAdamSmallIdeal.Read.val_main_v27, Cert.ReferenceAdamSmallIdeal.Read.val_main_v28, Cert.ReferenceAdamSmallIdeal.Read.val_main_v29, Cert.ReferenceAdamSmallIdeal.Read.val_main_v30, Cert.ReferenceAdamSmallIdeal.Read.val_main_v31, Cert.ReferenceAdamSmallIdeal.Read.val_main_cst, Cert.ReferenceAdamSmallIdeal.Read.val_main_cst_0, Cert.ReferenceAdamSmallIdeal.Read.val_main_cst_1, Cert.ReferenceAdamSmallIdeal.Read.val_main_cst_2, Cert.ReferenceAdamSmallIdeal.Read.val_main_cst_3, Cert.ReferenceAdamSmallIdeal.Read.val_main_cst_4, Cert.ReferenceAdamSmallIdeal.Read.val_main_cst_5, Cert.ReferenceAdamSmallIdeal.Read.val_main_cst_6, Cert.ReferenceAdamSmallIdeal.Read.val_main_cst_7, Cert.ReferenceAdamSmallIdeal.Read.val_main_cst_8]

/-- The reference's first moment, element by element. -/
theorem moment1_apply (X1 : FVec Ideal S8x5120 .f32) (X2 : FVec Ideal S1x5120 .f32) (y : S8x640.Idx) : moment1 X1 X2 y = first (∑ k : Fin 8, X1 (ix2 k ⟨(y 0).val * 640 + (y 1).val, by have := (y 0).isLt; have := (y 1).isLt; simp at *; omega⟩)) (X2 (ix2 0 ⟨(y 0).val * 640 + (y 1).val, by have := (y 0).isLt; have := (y 1).isLt; simp at *; omega⟩)) := by
  pointwise [moment1, first, Cert.ReferenceAdamSmallIdeal.Read.val_main_v0, Cert.ReferenceAdamSmallIdeal.Read.val_main_v1, Cert.ReferenceAdamSmallIdeal.Read.val_main_v2, Cert.ReferenceAdamSmallIdeal.Read.val_main_v3, Cert.ReferenceAdamSmallIdeal.Read.val_main_v4, Cert.ReferenceAdamSmallIdeal.Read.val_main_v5, Cert.ReferenceAdamSmallIdeal.Read.val_main_v6, Cert.ReferenceAdamSmallIdeal.Read.val_main_v7, Cert.ReferenceAdamSmallIdeal.Read.val_main_v8, Cert.ReferenceAdamSmallIdeal.Read.val_main_v9, Cert.ReferenceAdamSmallIdeal.Read.val_main_v10, Cert.ReferenceAdamSmallIdeal.Read.val_main_v11, Cert.ReferenceAdamSmallIdeal.Read.val_main_v12, Cert.ReferenceAdamSmallIdeal.Read.val_main_v13, Cert.ReferenceAdamSmallIdeal.Read.val_main_v14, Cert.ReferenceAdamSmallIdeal.Read.val_main_v15, Cert.ReferenceAdamSmallIdeal.Read.val_main_v16, Cert.ReferenceAdamSmallIdeal.Read.val_main_v17, Cert.ReferenceAdamSmallIdeal.Read.val_main_v18, Cert.ReferenceAdamSmallIdeal.Read.val_main_v19, Cert.ReferenceAdamSmallIdeal.Read.val_main_v20, Cert.ReferenceAdamSmallIdeal.Read.val_main_v21, Cert.ReferenceAdamSmallIdeal.Read.val_main_v22, Cert.ReferenceAdamSmallIdeal.Read.val_main_v23, Cert.ReferenceAdamSmallIdeal.Read.val_main_v24, Cert.ReferenceAdamSmallIdeal.Read.val_main_v25, Cert.ReferenceAdamSmallIdeal.Read.val_main_v26, Cert.ReferenceAdamSmallIdeal.Read.val_main_v27, Cert.ReferenceAdamSmallIdeal.Read.val_main_v28, Cert.ReferenceAdamSmallIdeal.Read.val_main_v29, Cert.ReferenceAdamSmallIdeal.Read.val_main_v30, Cert.ReferenceAdamSmallIdeal.Read.val_main_v31, Cert.ReferenceAdamSmallIdeal.Read.val_main_cst, Cert.ReferenceAdamSmallIdeal.Read.val_main_cst_0, Cert.ReferenceAdamSmallIdeal.Read.val_main_cst_1, Cert.ReferenceAdamSmallIdeal.Read.val_main_cst_2, Cert.ReferenceAdamSmallIdeal.Read.val_main_cst_3, Cert.ReferenceAdamSmallIdeal.Read.val_main_cst_4, Cert.ReferenceAdamSmallIdeal.Read.val_main_cst_5, Cert.ReferenceAdamSmallIdeal.Read.val_main_cst_6, Cert.ReferenceAdamSmallIdeal.Read.val_main_cst_7, Cert.ReferenceAdamSmallIdeal.Read.val_main_cst_8]

/-- The reference's second moment, element by element. -/
theorem moment2_apply (X1 : FVec Ideal S8x5120 .f32) (X3 : FVec Ideal S1x5120 .f32) (y : S8x640.Idx) : moment2 X1 X3 y = second (∑ k : Fin 8, X1 (ix2 k ⟨(y 0).val * 640 + (y 1).val, by have := (y 0).isLt; have := (y 1).isLt; simp at *; omega⟩)) (X3 (ix2 0 ⟨(y 0).val * 640 + (y 1).val, by have := (y 0).isLt; have := (y 1).isLt; simp at *; omega⟩)) := by
  pointwise [moment2, second, Cert.ReferenceAdamSmallIdeal.Read.val_main_v0, Cert.ReferenceAdamSmallIdeal.Read.val_main_v1, Cert.ReferenceAdamSmallIdeal.Read.val_main_v2, Cert.ReferenceAdamSmallIdeal.Read.val_main_v3, Cert.ReferenceAdamSmallIdeal.Read.val_main_v4, Cert.ReferenceAdamSmallIdeal.Read.val_main_v5, Cert.ReferenceAdamSmallIdeal.Read.val_main_v6, Cert.ReferenceAdamSmallIdeal.Read.val_main_v7, Cert.ReferenceAdamSmallIdeal.Read.val_main_v8, Cert.ReferenceAdamSmallIdeal.Read.val_main_v9, Cert.ReferenceAdamSmallIdeal.Read.val_main_v10, Cert.ReferenceAdamSmallIdeal.Read.val_main_v11, Cert.ReferenceAdamSmallIdeal.Read.val_main_v12, Cert.ReferenceAdamSmallIdeal.Read.val_main_v13, Cert.ReferenceAdamSmallIdeal.Read.val_main_v14, Cert.ReferenceAdamSmallIdeal.Read.val_main_v15, Cert.ReferenceAdamSmallIdeal.Read.val_main_v16, Cert.ReferenceAdamSmallIdeal.Read.val_main_v17, Cert.ReferenceAdamSmallIdeal.Read.val_main_v18, Cert.ReferenceAdamSmallIdeal.Read.val_main_v19, Cert.ReferenceAdamSmallIdeal.Read.val_main_v20, Cert.ReferenceAdamSmallIdeal.Read.val_main_v21, Cert.ReferenceAdamSmallIdeal.Read.val_main_v22, Cert.ReferenceAdamSmallIdeal.Read.val_main_v23, Cert.ReferenceAdamSmallIdeal.Read.val_main_v24, Cert.ReferenceAdamSmallIdeal.Read.val_main_v25, Cert.ReferenceAdamSmallIdeal.Read.val_main_v26, Cert.ReferenceAdamSmallIdeal.Read.val_main_v27, Cert.ReferenceAdamSmallIdeal.Read.val_main_v28, Cert.ReferenceAdamSmallIdeal.Read.val_main_v29, Cert.ReferenceAdamSmallIdeal.Read.val_main_v30, Cert.ReferenceAdamSmallIdeal.Read.val_main_v31, Cert.ReferenceAdamSmallIdeal.Read.val_main_cst, Cert.ReferenceAdamSmallIdeal.Read.val_main_cst_0, Cert.ReferenceAdamSmallIdeal.Read.val_main_cst_1, Cert.ReferenceAdamSmallIdeal.Read.val_main_cst_2, Cert.ReferenceAdamSmallIdeal.Read.val_main_cst_3, Cert.ReferenceAdamSmallIdeal.Read.val_main_cst_4, Cert.ReferenceAdamSmallIdeal.Read.val_main_cst_5, Cert.ReferenceAdamSmallIdeal.Read.val_main_cst_6, Cert.ReferenceAdamSmallIdeal.Read.val_main_cst_7, Cert.ReferenceAdamSmallIdeal.Read.val_main_cst_8]

/-- The weight, read through its window. -/
theorem read0 (c : Dev nD) (t : Fin cfg0.N) (y : S8x640.Idx) : iblk m c 0 t y
    = m ((c : Thread nD τ).loc main_arg0) (ix2 0 ⟨(y 0).val * 640 + (y 1).val, by have := (y 0).isLt; have := (y 1).isLt; simp at *; omega⟩) := by
  have hV : ∀ y : S8x640.Idx, V m c main_v0 y = m ((c : Thread nD τ).loc main_arg0) (ix2 0 ⟨(y 0).val * 640 + (y 1).val, by have := (y 0).isLt; have := (y 1).isLt; simp at *; omega⟩) := by
    intro y
    entry_read
    pointwise
  blk_simp [iblk]
  refine (hV _).trans ?_
  blk_point [idx t]

/-- The first moment, read through its window. -/
theorem read2 (c : Dev nD) (t : Fin cfg0.N) (y : S8x640.Idx) : iblk m c 2 t y
    = m ((c : Thread nD τ).loc main_arg2) (ix2 0 ⟨(y 0).val * 640 + (y 1).val, by have := (y 0).isLt; have := (y 1).isLt; simp at *; omega⟩) := by
  have hV : ∀ y : S8x640.Idx, V m c main_v2 y = m ((c : Thread nD τ).loc main_arg2) (ix2 0 ⟨(y 0).val * 640 + (y 1).val, by have := (y 0).isLt; have := (y 1).isLt; simp at *; omega⟩) := by
    intro y
    entry_read
    pointwise
  blk_simp [iblk]
  refine (hV _).trans ?_
  blk_point [idx t]

/-- The second moment, read through its window. -/
theorem read3 (c : Dev nD) (t : Fin cfg0.N) (y : S8x640.Idx) : iblk m c 3 t y
    = m ((c : Thread nD τ).loc main_arg3) (ix2 0 ⟨(y 0).val * 640 + (y 1).val, by have := (y 0).isLt; have := (y 1).isLt; simp at *; omega⟩) := by
  have hV : ∀ y : S8x640.Idx, V m c main_v3 y = m ((c : Thread nD τ).loc main_arg3) (ix2 0 ⟨(y 0).val * 640 + (y 1).val, by have := (y 0).isLt; have := (y 1).isLt; simp at *; omega⟩) := by
    intro y
    entry_read
    pointwise
  blk_simp [iblk]
  refine (hV _).trans ?_
  blk_point [idx t]

/-- The parts of the gradient, read through their window. -/
theorem read1 (c : Dev nD) (t : Fin cfg0.N) (y : S8x8x640.Idx) : iblk m c 1 t y
    = m ((c : Thread nD τ).loc main_arg1) (ix2 (y 0) ⟨(y 1).val * 640 + (y 2).val, by have := (y 1).isLt; have := (y 2).isLt; simp at *; omega⟩) := by
  have hV : ∀ y : S8x8x640.Idx, V m c main_v1 y = m ((c : Thread nD τ).loc main_arg1) (ix2 (y 0) ⟨(y 1).val * 640 + (y 2).val, by have := (y 1).isLt; have := (y 2).isLt; simp at *; omega⟩) := by
    intro y
    entry_read
    pointwise
  blk_simp [iblk]
  refine (hV _).trans ?_
  blk_point [idx t]

/-- The gradient that the call returns is the reference's. -/
theorem final_g (c : Dev nD) : (dats m 0 c).arrAt 4 (cfgs 0).N = gradient (m ((c : Thread nD τ).loc main_arg1)) := by
  refine (dats m 0 c).arrAt_eq_of_covers 4 _ (by decide +kernel) fun t hf y => ?_
  blk_simp
  rw [after0_4]
  refine ((out_g _ _ _ _ _).trans ?_).trans (gradient_apply _ _).symm
  refine Finset.sum_congr rfl fun k _ => (read1 m c t _).trans ?_
  blk_point [idx t]

/-- The change that the call returns is the reference's. -/
theorem final_d (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine ((out_d _ _ _ _ _).trans ?_).trans (delta_apply _ _ _ _ _).symm
  refine change_congr ((read0 m c t _).trans ?_) (Finset.sum_congr rfl fun k _ => (read1 m c t _).trans ?_)
    ((read2 m c t _).trans ?_) ((read3 m c t _).trans ?_) <;> blk_point [idx t]

/-- The first moment that the call returns is the reference's. -/
theorem final_m (c : Dev nD) : (dats m 0 c).arrAt 6 (cfgs 0).N = moment1 (m ((c : Thread nD τ).loc main_arg1)) (m ((c : Thread nD τ).loc main_arg2)) := by
  refine (dats m 0 c).arrAt_eq_of_covers 6 _ (by decide +kernel) fun t hf y => ?_
  blk_simp
  rw [after0_6]
  refine ((out_m _ _ _ _ _).trans ?_).trans (moment1_apply _ _ _).symm
  refine congrArg₂ first (Finset.sum_congr rfl fun k _ => (read1 m c t _).trans ?_) ((read2 m c t _).trans ?_)
    <;> blk_point [idx t]

/-- The second moment that the call returns is the reference's. -/
theorem final_v (c : Dev nD) : (dats m 0 c).arrAt 7 (cfgs 0).N = moment2 (m ((c : Thread nD τ).loc main_arg1)) (m ((c : Thread nD τ).loc main_arg3)) := by
  refine (dats m 0 c).arrAt_eq_of_covers 7 _ (by decide +kernel) fun t hf y => ?_
  blk_simp
  rw [after0_7]
  refine ((out_v _ _ _ _ _).trans ?_).trans (moment2_apply _ _ _).symm
  refine congrArg₂ second (Finset.sum_congr rfl fun k _ => (read1 m c t _).trans ?_) ((read3 m c t _).trans ?_)
    <;> blk_point [idx t]

end Cert.AdamSmall

end
-- ==== Proof.AdamB.lean ====
module

public import proofs.«01_k».proof.Proof.Gen.KernelAdamBIdeal.Frame
public import proofs.«01_k».proof.Proof.Gen.ReferenceAdamBIdeal.Read
public import Idealize.ShloMosaic.Lib.Pipeline.ValueKit
public import Idealize.ShloMosaic.Lib.Pointwise
public import Idealize.ShloMosaic.Lib.Claim
public import proofs.«01_k».proof.Proof.Update

/-! The optimiser on the bias of the modulation, laid in one row: the sum of the parts of its gradient, and the update of every element. -/

@[expose] public section

set_option maxRecDepth 16384

noncomputable section

open Idealize.ShloMosaic Idealize.ShloMosaic.TcCoe Idealize.SL.Sem
open scoped BigOperators

namespace Cert.AdamB

open Cert.KernelAdamBIdeal Cert.KernelAdamBIdeal.Gen Cert.Update

variable (m : (ℓ : Loc nD τ sig) → Buf (Elt Ideal) ℓ)

/-- The gradient, the change and the two moments as the reference program computes them. -/
abbrev gradient := Cert.ReferenceAdamBIdeal.Read.val_main_v28 (F := Ideal)
abbrev delta := Cert.ReferenceAdamBIdeal.Read.val_main_v29 (F := Ideal)
abbrev moment1 := Cert.ReferenceAdamBIdeal.Read.val_main_v30 (F := Ideal)
abbrev moment2 := Cert.ReferenceAdamBIdeal.Read.val_main_v31 (F := Ideal)

/-- A sum of sixteen numbers, written out. -/
theorem sum_sixteen (f : Fin 16 → EReal) : ∑ k, f k = f 0 + f 1 + f 2 + f 3 + f 4 + f 5 + f 6 + f 7 + f 8 + f 9 + f 10
    + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- Every window is one whole array. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- What the body leaves for the gradient: the sum of the parts. -/
theorem out_g (x0 : FVec Ideal S8x768 .f32) (x1 : FVec Ideal S16x8x768 .f32) (x2 x3 : FVec Ideal S8x768 .f32) (y : S8x768.Idx) : out0_4 (F := Ideal) x0 x1 x2 x3 y = (∑ k : Fin 16, x1 (ix3 k (y 0) (y 1))) := by
  rw [sum_sixteen]
  unfold out0_4 k0_pay9
  canon_tiles z h
  obtain rfl : y = z := by funext a; fin_cases a; exacts [Fin.ext h0, Fin.ext h1]
  pointwise [k0_pay1, k0_pay2, k0_pay3, k0_pay4, k0_pay5, k0_pay6, k0_pay7, k0_pay8]

/-- What the body leaves for the change. -/
theorem out_d (x0 : FVec Ideal S8x768 .f32) (x1 : FVec Ideal S16x8x768 .f32) (x2 x3 : FVec Ideal S8x768 .f32) (y : S8x768.Idx) : out0_5 (F := Ideal) x0 x1 x2 x3 y = change (x0 y) (∑ k : Fin 16, x1 (ix3 k (y 0) (y 1))) (x2 y) (x3 y) := by
  rw [sum_sixteen]
  unfold out0_5 k0_pay12 k0_pay11 k0_pay10 k0_pay9
  canon_tiles z h
  obtain rfl : y = z := by funext a; fin_cases a; exacts [Fin.ext h0, Fin.ext h1]
  pointwise [k0_pay1, k0_pay2, k0_pay3, k0_pay4, k0_pay5, k0_pay6, k0_pay7, k0_pay8, change, first, second]

/-- What the body leaves for the first moment. -/
theorem out_m (x0 : FVec Ideal S8x768 .f32) (x1 : FVec Ideal S16x8x768 .f32) (x2 x3 : FVec Ideal S8x768 .f32) (y : S8x768.Idx) : out0_6 (F := Ideal) x0 x1 x2 x3 y = first (∑ k : Fin 16, x1 (ix3 k (y 0) (y 1))) (x2 y) := by
  rw [sum_sixteen]
  unfold out0_6 k0_pay10 k0_pay9
  canon_tiles z h
  obtain rfl : y = z := by funext a; fin_cases a; exacts [Fin.ext h0, Fin.ext h1]
  pointwise [k0_pay1, k0_pay2, k0_pay3, k0_pay4, k0_pay5, k0_pay6, k0_pay7, k0_pay8, first]

/-- What the body leaves for the second moment. -/
theorem out_v (x0 : FVec Ideal S8x768 .f32) (x1 : FVec Ideal S16x8x768 .f32) (x2 x3 : FVec Ideal S8x768 .f32) (y : S8x768.Idx) : out0_7 (F := Ideal) x0 x1 x2 x3 y = second (∑ k : Fin 16, x1 (ix3 k (y 0) (y 1))) (x3 y) := by
  rw [sum_sixteen]
  unfold out0_7 k0_pay12 k0_pay11 k0_pay9
  canon_tiles z h
  obtain rfl : y = z := by funext a; fin_cases a; exacts [Fin.ext h0, Fin.ext h1]
  pointwise [k0_pay1, k0_pay2, k0_pay3, k0_pay4, k0_pay5, k0_pay6, k0_pay7, k0_pay8, second]

/-- The reference's gradient, element by element. -/
theorem gradient_apply (X1 : FVec Ideal S16x6144 .f32) (y : S8x768.Idx) : gradient X1 y = (∑ k : Fin 16, X1 (ix2 k ⟨(y 0).val * 768 + (y 1).val, by have := (y 0).isLt; have := (y 1).isLt; simp at *; omega⟩)) := by
  pointwise [gradient, Cert.ReferenceAdamBIdeal.Read.val_main_v0, Cert.ReferenceAdamBIdeal.Read.val_main_v1, Cert.ReferenceAdamBIdeal.Read.val_main_v2, Cert.ReferenceAdamBIdeal.Read.val_main_v3, Cert.ReferenceAdamBIdeal.Read.val_main_v4, Cert.ReferenceAdamBIdeal.Read.val_main_v5, Cert.ReferenceAdamBIdeal.Read.val_main_v6, Cert.ReferenceAdamBIdeal.Read.val_main_v7, Cert.ReferenceAdamBIdeal.Read.val_main_v8, Cert.ReferenceAdamBIdeal.Read.val_main_v9, Cert.ReferenceAdamBIdeal.Read.val_main_v10, Cert.ReferenceAdamBIdeal.Read.val_main_v11, Cert.ReferenceAdamBIdeal.Read.val_main_v12, Cert.ReferenceAdamBIdeal.Read.val_main_v13, Cert.ReferenceAdamBIdeal.Read.val_main_v14, Cert.ReferenceAdamBIdeal.Read.val_main_v15, Cert.ReferenceAdamBIdeal.Read.val_main_v16, Cert.ReferenceAdamBIdeal.Read.val_main_v17, Cert.ReferenceAdamBIdeal.Read.val_main_v18, Cert.ReferenceAdamBIdeal.Read.val_main_v19, Cert.ReferenceAdamBIdeal.Read.val_main_v20, Cert.ReferenceAdamBIdeal.Read.val_main_v21, Cert.ReferenceAdamBIdeal.Read.val_main_v22, Cert.ReferenceAdamBIdeal.Read.val_main_v23, Cert.ReferenceAdamBIdeal.Read.val_main_v24, Cert.ReferenceAdamBIdeal.Read.val_main_v25, Cert.ReferenceAdamBIdeal.Read.val_main_v26, Cert.ReferenceAdamBIdeal.Read.val_main_v27, Cert.ReferenceAdamBIdeal.Read.val_main_v28, Cert.ReferenceAdamBIdeal.Read.val_main_v29, Cert.ReferenceAdamBIdeal.Read.val_main_v30, Cert.ReferenceAdamBIdeal.Read.val_main_v31, Cert.ReferenceAdamBIdeal.Read.val_main_cst, Cert.ReferenceAdamBIdeal.Read.val_main_cst_0, Cert.ReferenceAdamBIdeal.Read.val_main_cst_1, Cert.ReferenceAdamBIdeal.Read.val_main_cst_2, Cert.ReferenceAdamBIdeal.Read.val_main_cst_3, Cert.ReferenceAdamBIdeal.Read.val_main_cst_4, Cert.ReferenceAdamBIdeal.Read.val_main_cst_5, Cert.ReferenceAdamBIdeal.Read.val_main_cst_6, Cert.ReferenceAdamBIdeal.Read.val_main_cst_7, Cert.ReferenceAdamBIdeal.Read.val_main_cst_8]

/-- The reference's change, element by element. -/
theorem delta_apply (X0 : FVec Ideal S1x6144 .f32) (X1 : FVec Ideal S16x6144 .f32) (X2 X3 : FVec Ideal S1x6144 .f32) (y : S8x768.Idx) : delta X0 X1 X2 X3 y = change (X0 (ix2 0 ⟨(y 0).val * 768 + (y 1).val, by have := (y 0).isLt; have := (y 1).isLt; simp at *; omega⟩)) (∑ k : Fin 16, X1 (ix2 k ⟨(y 0).val * 768 + (y 1).val, by have := (y 0).isLt; have := (y 1).isLt; simp at *; omega⟩)) (X2 (ix2 0 ⟨(y 0).val * 768 + (y 1).val, by have := (y 0).isLt; have := (y 1).isLt; simp at *; omega⟩)) (X3 (ix2 0 ⟨(y 0).val * 768 + (y 1).val, by have := (y 0).isLt; have := (y 1).isLt; simp at *; omega⟩)) := by
  pointwise [delta, change, first, second, Cert.ReferenceAdamBIdeal.Read.val_main_v0, Cert.ReferenceAdamBIdeal.Read.val_main_v1, Cert.ReferenceAdamBIdeal.Read.val_main_v2, Cert.ReferenceAdamBIdeal.Read.val_main_v3, Cert.ReferenceAdamBIdeal.Read.val_main_v4, Cert.ReferenceAdamBIdeal.Read.val_main_v5, Cert.ReferenceAdamBIdeal.Read.val_main_v6, Cert.ReferenceAdamBIdeal.Read.val_main_v7, Cert.ReferenceAdamBIdeal.Read.val_main_v8, Cert.ReferenceAdamBIdeal.Read.val_main_v9, Cert.ReferenceAdamBIdeal.Read.val_main_v10, Cert.ReferenceAdamBIdeal.Read.val_main_v11, Cert.ReferenceAdamBIdeal.Read.val_main_v12, Cert.ReferenceAdamBIdeal.Read.val_main_v13, Cert.ReferenceAdamBIdeal.Read.val_main_v14, Cert.ReferenceAdamBIdeal.Read.val_main_v15, Cert.ReferenceAdamBIdeal.Read.val_main_v16, Cert.ReferenceAdamBIdeal.Read.val_main_v17, Cert.ReferenceAdamBIdeal.Read.val_main_v18, Cert.ReferenceAdamBIdeal.Read.val_main_v19, Cert.ReferenceAdamBIdeal.Read.val_main_v20, Cert.ReferenceAdamBIdeal.Read.val_main_v21, Cert.ReferenceAdamBIdeal.Read.val_main_v22, Cert.ReferenceAdamBIdeal.Read.val_main_v23, Cert.ReferenceAdamBIdeal.Read.val_main_v24, Cert.ReferenceAdamBIdeal.Read.val_main_v25, Cert.ReferenceAdamBIdeal.Read.val_main_v26, Cert.ReferenceAdamBIdeal.Read.val_main_v27, Cert.ReferenceAdamBIdeal.Read.val_main_v28, Cert.ReferenceAdamBIdeal.Read.val_main_v29, Cert.ReferenceAdamBIdeal.Read.val_main_v30, Cert.ReferenceAdamBIdeal.Read.val_main_v31, Cert.ReferenceAdamBIdeal.Read.val_main_cst, Cert.ReferenceAdamBIdeal.Read.val_main_cst_0, Cert.ReferenceAdamBIdeal.Read.val_main_cst_1, Cert.ReferenceAdamBIdeal.Read.val_main_cst_2, Cert.ReferenceAdamBIdeal.Read.val_main_cst_3, Cert.ReferenceAdamBIdeal.Read.val_main_cst_4, Cert.ReferenceAdamBIdeal.Read.val_main_cst_5, Cert.ReferenceAdamBIdeal.Read.val_main_cst_6, Cert.ReferenceAdamBIdeal.Read.val_main_cst_7, Cert.ReferenceAdamBIdeal.Read.val_main_cst_8]

/-- The reference's first moment, element by element. -/
theorem moment1_apply (X1 : FVec Ideal S16x6144 .f32) (X2 : FVec Ideal S1x6144 .f32) (y : S8x768.Idx) : moment1 X1 X2 y = first (∑ k : Fin 16, X1 (ix2 k ⟨(y 0).val * 768 + (y 1).val, by have := (y 0).isLt; have := (y 1).isLt; simp at *; omega⟩)) (X2 (ix2 0 ⟨(y 0).val * 768 + (y 1).val, by have := (y 0).isLt; have := (y 1).isLt; simp at *; omega⟩)) := by
  pointwise [moment1, first, Cert.ReferenceAdamBIdeal.Read.val_main_v0, Cert.ReferenceAdamBIdeal.Read.val_main_v1, Cert.ReferenceAdamBIdeal.Read.val_main_v2, Cert.ReferenceAdamBIdeal.Read.val_main_v3, Cert.ReferenceAdamBIdeal.Read.val_main_v4, Cert.ReferenceAdamBIdeal.Read.val_main_v5, Cert.ReferenceAdamBIdeal.Read.val_main_v6, Cert.ReferenceAdamBIdeal.Read.val_main_v7, Cert.ReferenceAdamBIdeal.Read.val_main_v8, Cert.ReferenceAdamBIdeal.Read.val_main_v9, Cert.ReferenceAdamBIdeal.Read.val_main_v10, Cert.ReferenceAdamBIdeal.Read.val_main_v11, Cert.ReferenceAdamBIdeal.Read.val_main_v12, Cert.ReferenceAdamBIdeal.Read.val_main_v13, Cert.ReferenceAdamBIdeal.Read.val_main_v14, Cert.ReferenceAdamBIdeal.Read.val_main_v15, Cert.ReferenceAdamBIdeal.Read.val_main_v16, Cert.ReferenceAdamBIdeal.Read.val_main_v17, Cert.ReferenceAdamBIdeal.Read.val_main_v18, Cert.ReferenceAdamBIdeal.Read.val_main_v19, Cert.ReferenceAdamBIdeal.Read.val_main_v20, Cert.ReferenceAdamBIdeal.Read.val_main_v21, Cert.ReferenceAdamBIdeal.Read.val_main_v22, Cert.ReferenceAdamBIdeal.Read.val_main_v23, Cert.ReferenceAdamBIdeal.Read.val_main_v24, Cert.ReferenceAdamBIdeal.Read.val_main_v25, Cert.ReferenceAdamBIdeal.Read.val_main_v26, Cert.ReferenceAdamBIdeal.Read.val_main_v27, Cert.ReferenceAdamBIdeal.Read.val_main_v28, Cert.ReferenceAdamBIdeal.Read.val_main_v29, Cert.ReferenceAdamBIdeal.Read.val_main_v30, Cert.ReferenceAdamBIdeal.Read.val_main_v31, Cert.ReferenceAdamBIdeal.Read.val_main_cst, Cert.ReferenceAdamBIdeal.Read.val_main_cst_0, Cert.ReferenceAdamBIdeal.Read.val_main_cst_1, Cert.ReferenceAdamBIdeal.Read.val_main_cst_2, Cert.ReferenceAdamBIdeal.Read.val_main_cst_3, Cert.ReferenceAdamBIdeal.Read.val_main_cst_4, Cert.ReferenceAdamBIdeal.Read.val_main_cst_5, Cert.ReferenceAdamBIdeal.Read.val_main_cst_6, Cert.ReferenceAdamBIdeal.Read.val_main_cst_7, Cert.ReferenceAdamBIdeal.Read.val_main_cst_8]

/-- The reference's second moment, element by element. -/
theorem moment2_apply (X1 : FVec Ideal S16x6144 .f32) (X3 : FVec Ideal S1x6144 .f32) (y : S8x768.Idx) : moment2 X1 X3 y = second (∑ k : Fin 16, X1 (ix2 k ⟨(y 0).val * 768 + (y 1).val, by have := (y 0).isLt; have := (y 1).isLt; simp at *; omega⟩)) (X3 (ix2 0 ⟨(y 0).val * 768 + (y 1).val, by have := (y 0).isLt; have := (y 1).isLt; simp at *; omega⟩)) := by
  pointwise [moment2, second, Cert.ReferenceAdamBIdeal.Read.val_main_v0, Cert.ReferenceAdamBIdeal.Read.val_main_v1, Cert.ReferenceAdamBIdeal.Read.val_main_v2, Cert.ReferenceAdamBIdeal.Read.val_main_v3, Cert.ReferenceAdamBIdeal.Read.val_main_v4, Cert.ReferenceAdamBIdeal.Read.val_main_v5, Cert.ReferenceAdamBIdeal.Read.val_main_v6, Cert.ReferenceAdamBIdeal.Read.val_main_v7, Cert.ReferenceAdamBIdeal.Read.val_main_v8, Cert.ReferenceAdamBIdeal.Read.val_main_v9, Cert.ReferenceAdamBIdeal.Read.val_main_v10, Cert.ReferenceAdamBIdeal.Read.val_main_v11, Cert.ReferenceAdamBIdeal.Read.val_main_v12, Cert.ReferenceAdamBIdeal.Read.val_main_v13, Cert.ReferenceAdamBIdeal.Read.val_main_v14, Cert.ReferenceAdamBIdeal.Read.val_main_v15, Cert.ReferenceAdamBIdeal.Read.val_main_v16, Cert.ReferenceAdamBIdeal.Read.val_main_v17, Cert.ReferenceAdamBIdeal.Read.val_main_v18, Cert.ReferenceAdamBIdeal.Read.val_main_v19, Cert.ReferenceAdamBIdeal.Read.val_main_v20, Cert.ReferenceAdamBIdeal.Read.val_main_v21, Cert.ReferenceAdamBIdeal.Read.val_main_v22, Cert.ReferenceAdamBIdeal.Read.val_main_v23, Cert.ReferenceAdamBIdeal.Read.val_main_v24, Cert.ReferenceAdamBIdeal.Read.val_main_v25, Cert.ReferenceAdamBIdeal.Read.val_main_v26, Cert.ReferenceAdamBIdeal.Read.val_main_v27, Cert.ReferenceAdamBIdeal.Read.val_main_v28, Cert.ReferenceAdamBIdeal.Read.val_main_v29, Cert.ReferenceAdamBIdeal.Read.val_main_v30, Cert.ReferenceAdamBIdeal.Read.val_main_v31, Cert.ReferenceAdamBIdeal.Read.val_main_cst, Cert.ReferenceAdamBIdeal.Read.val_main_cst_0, Cert.ReferenceAdamBIdeal.Read.val_main_cst_1, Cert.ReferenceAdamBIdeal.Read.val_main_cst_2, Cert.ReferenceAdamBIdeal.Read.val_main_cst_3, Cert.ReferenceAdamBIdeal.Read.val_main_cst_4, Cert.ReferenceAdamBIdeal.Read.val_main_cst_5, Cert.ReferenceAdamBIdeal.Read.val_main_cst_6, Cert.ReferenceAdamBIdeal.Read.val_main_cst_7, Cert.ReferenceAdamBIdeal.Read.val_main_cst_8]

/-- The weight, read through its window. -/
theorem read0 (c : Dev nD) (t : Fin cfg0.N) (y : S8x768.Idx) : iblk m c 0 t y
    = m ((c : Thread nD τ).loc main_arg0) (ix2 0 ⟨(y 0).val * 768 + (y 1).val, by have := (y 0).isLt; have := (y 1).isLt; simp at *; omega⟩) := by
  have hV : ∀ y : S8x768.Idx, V m c main_v0 y = m ((c : Thread nD τ).loc main_arg0) (ix2 0 ⟨(y 0).val * 768 + (y 1).val, by have := (y 0).isLt; have := (y 1).isLt; simp at *; omega⟩) := by
    intro y
    entry_read
    pointwise
  blk_simp [iblk]
  refine (hV _).trans ?_
  blk_point [idx t]

/-- The first moment, read through its window. -/
theorem read2 (c : Dev nD) (t : Fin cfg0.N) (y : S8x768.Idx) : iblk m c 2 t y
    = m ((c : Thread nD τ).loc main_arg2) (ix2 0 ⟨(y 0).val * 768 + (y 1).val, by have := (y 0).isLt; have := (y 1).isLt; simp at *; omega⟩) := by
  have hV : ∀ y : S8x768.Idx, V m c main_v2 y = m ((c : Thread nD τ).loc main_arg2) (ix2 0 ⟨(y 0).val * 768 + (y 1).val, by have := (y 0).isLt; have := (y 1).isLt; simp at *; omega⟩) := by
    intro y
    entry_read
    pointwise
  blk_simp [iblk]
  refine (hV _).trans ?_
  blk_point [idx t]

/-- The second moment, read through its window. -/
theorem read3 (c : Dev nD) (t : Fin cfg0.N) (y : S8x768.Idx) : iblk m c 3 t y
    = m ((c : Thread nD τ).loc main_arg3) (ix2 0 ⟨(y 0).val * 768 + (y 1).val, by have := (y 0).isLt; have := (y 1).isLt; simp at *; omega⟩) := by
  have hV : ∀ y : S8x768.Idx, V m c main_v3 y = m ((c : Thread nD τ).loc main_arg3) (ix2 0 ⟨(y 0).val * 768 + (y 1).val, by have := (y 0).isLt; have := (y 1).isLt; simp at *; omega⟩) := by
    intro y
    entry_read
    pointwise
  blk_simp [iblk]
  refine (hV _).trans ?_
  blk_point [idx t]

/-- The parts of the gradient, read through their window. -/
theorem read1 (c : Dev nD) (t : Fin cfg0.N) (y : S16x8x768.Idx) : iblk m c 1 t y
    = m ((c : Thread nD τ).loc main_arg1) (ix2 (y 0) ⟨(y 1).val * 768 + (y 2).val, by have := (y 1).isLt; have := (y 2).isLt; simp at *; omega⟩) := by
  have hV : ∀ y : S16x8x768.Idx, V m c main_v1 y = m ((c : Thread nD τ).loc main_arg1) (ix2 (y 0) ⟨(y 1).val * 768 + (y 2).val, by have := (y 1).isLt; have := (y 2).isLt; simp at *; omega⟩) := by
    intro y
    entry_read
    pointwise
  blk_simp [iblk]
  refine (hV _).trans ?_
  blk_point [idx t]

/-- The gradient that the call returns is the reference's. -/
theorem final_g (c : Dev nD) : (dats m 0 c).arrAt 4 (cfgs 0).N = gradient (m ((c : Thread nD τ).loc main_arg1)) := by
  refine (dats m 0 c).arrAt_eq_of_covers 4 _ (by decide +kernel) fun t hf y => ?_
  blk_simp
  rw [after0_4]
  refine ((out_g _ _ _ _ _).trans ?_).trans (gradient_apply _ _).symm
  refine Finset.sum_congr rfl fun k _ => (read1 m c t _).trans ?_
  blk_point [idx t]

/-- The change that the call returns is the reference's. -/
theorem final_d (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine ((out_d _ _ _ _ _).trans ?_).trans (delta_apply _ _ _ _ _).symm
  refine change_congr ((read0 m c t _).trans ?_) (Finset.sum_congr rfl fun k _ => (read1 m c t _).trans ?_)
    ((read2 m c t _).trans ?_) ((read3 m c t _).trans ?_) <;> blk_point [idx t]

/-- The first moment that the call returns is the reference's. -/
theorem final_m (c : Dev nD) : (dats m 0 c).arrAt 6 (cfgs 0).N = moment1 (m ((c : Thread nD τ).loc main_arg1)) (m ((c : Thread nD τ).loc main_arg2)) := by
  refine (dats m 0 c).arrAt_eq_of_covers 6 _ (by decide +kernel) fun t hf y => ?_
  blk_simp
  rw [after0_6]
  refine ((out_m _ _ _ _ _).trans ?_).trans (moment1_apply _ _ _).symm
  refine congrArg₂ first (Finset.sum_congr rfl fun k _ => (read1 m c t _).trans ?_) ((read2 m c t _).trans ?_)
    <;> blk_point [idx t]

/-- The second moment that the call returns is the reference's. -/
theorem final_v (c : Dev nD) : (dats m 0 c).arrAt 7 (cfgs 0).N = moment2 (m ((c : Thread nD τ).loc main_arg1)) (m ((c : Thread nD τ).loc main_arg3)) := by
  refine (dats m 0 c).arrAt_eq_of_covers 7 _ (by decide +kernel) fun t hf y => ?_
  blk_simp
  rw [after0_7]
  refine ((out_v _ _ _ _ _).trans ?_).trans (moment2_apply _ _ _).symm
  refine congrArg₂ second (Finset.sum_congr rfl fun k _ => (read1 m c t _).trans ?_) ((read3 m c t _).trans ?_)
    <;> blk_point [idx t]

end Cert.AdamB

end
-- ==== Proof.AdamW1.lean ====
module

public import proofs.«01_k».proof.Proof.Gen.KernelAdamW1Ideal.Frame
public import proofs.«01_k».proof.Proof.Gen.ReferenceAdamW1Ideal.Read
public import Idealize.ShloMosaic.Lib.Pipeline.ValueKit
public import Idealize.ShloMosaic.Lib.Pointwise
public import Idealize.ShloMosaic.Lib.Claim

/-! The optimiser on the first three of the large weights, an eighth of the rows of every weight a grid step: the change and the two new moments of every element. -/

@[expose] public section

set_option maxRecDepth 16384

noncomputable section

open Idealize.ShloMosaic Idealize.ShloMosaic.TcCoe Idealize.SL.Sem
open scoped BigOperators

namespace Cert.AdamW1

open Cert.KernelAdamW1Ideal Cert.KernelAdamW1Ideal.Gen

variable (m : (ℓ : Loc nD τ sig) → Buf (Elt Ideal) ℓ)

/-- Every window holds an eighth of the rows of its array at each grid step. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- The change of `w_ada` is the reference's. -/
theorem final_12 (c : Dev nD) : (dats m 0 c).arrAt 12 (cfgs 0).N
    = Cert.ReferenceAdamW1Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  unfold out0_12
  canon_tiles y h
  pointwise [k0_pay1, k0_pay2, k0_pay3, k0_pay4, k0_pay5, k0_pay6, k0_pay7, k0_pay8, k0_pay9, Cert.ReferenceAdamW1Ideal.Read.val_main_v0, Cert.ReferenceAdamW1Ideal.Read.val_main_v1, Cert.ReferenceAdamW1Ideal.Read.val_main_v2, Cert.ReferenceAdamW1Ideal.Read.val_main_v3, Cert.ReferenceAdamW1Ideal.Read.val_main_v4, Cert.ReferenceAdamW1Ideal.Read.val_main_v5, Cert.ReferenceAdamW1Ideal.Read.val_main_v6, Cert.ReferenceAdamW1Ideal.Read.val_main_v7, Cert.ReferenceAdamW1Ideal.Read.val_main_v8, Cert.ReferenceAdamW1Ideal.Read.val_main_v9, Cert.ReferenceAdamW1Ideal.Read.val_main_v10, Cert.ReferenceAdamW1Ideal.Read.val_main_v11, Cert.ReferenceAdamW1Ideal.Read.val_main_v12, Cert.ReferenceAdamW1Ideal.Read.val_main_v13, Cert.ReferenceAdamW1Ideal.Read.val_main_v14, Cert.ReferenceAdamW1Ideal.Read.val_main_v15, Cert.ReferenceAdamW1Ideal.Read.val_main_v16, Cert.ReferenceAdamW1Ideal.Read.val_main_v17, Cert.ReferenceAdamW1Ideal.Read.val_main_v18, Cert.ReferenceAdamW1Ideal.Read.val_main_v19, Cert.ReferenceAdamW1Ideal.Read.val_main_v20, Cert.ReferenceAdamW1Ideal.Read.val_main_v21, Cert.ReferenceAdamW1Ideal.Read.val_main_v22, Cert.ReferenceAdamW1Ideal.Read.val_main_v23, Cert.ReferenceAdamW1Ideal.Read.val_main_cst, Cert.ReferenceAdamW1Ideal.Read.val_main_cst_0, Cert.ReferenceAdamW1Ideal.Read.val_main_cst_1, Cert.ReferenceAdamW1Ideal.Read.val_main_cst_2, Cert.ReferenceAdamW1Ideal.Read.val_main_cst_3, Cert.ReferenceAdamW1Ideal.Read.val_main_cst_4, Cert.ReferenceAdamW1Ideal.Read.val_main_cst_5, Cert.ReferenceAdamW1Ideal.Read.val_main_cst_6, Cert.ReferenceAdamW1Ideal.Read.val_main_cst_7]
  blk_point [iblk, V, idx t]

/-- The new first moment of `w_ada` is the reference's. -/
theorem final_13 (c : Dev nD) : (dats m 0 c).arrAt 13 (cfgs 0).N
    = Cert.ReferenceAdamW1Ideal.Read.val_main_v4 (F := Ideal) (m ((c : Thread nD τ).loc main_arg1)) (m ((c : Thread nD τ).loc main_arg2)) := by
  refine (dats m 0 c).arrAt_eq_of_covers 13 _ (by decide +kernel) fun t hf y => ?_
  blk_simp
  rw [after0_13]
  unfold out0_13
  canon_tiles y h
  pointwise [k0_pay1, k0_pay2, k0_pay3, k0_pay4, k0_pay5, k0_pay6, k0_pay7, k0_pay8, k0_pay9, Cert.ReferenceAdamW1Ideal.Read.val_main_v0, Cert.ReferenceAdamW1Ideal.Read.val_main_v1, Cert.ReferenceAdamW1Ideal.Read.val_main_v2, Cert.ReferenceAdamW1Ideal.Read.val_main_v3, Cert.ReferenceAdamW1Ideal.Read.val_main_v4, Cert.ReferenceAdamW1Ideal.Read.val_main_v5, Cert.ReferenceAdamW1Ideal.Read.val_main_v6, Cert.ReferenceAdamW1Ideal.Read.val_main_v7, Cert.ReferenceAdamW1Ideal.Read.val_main_v8, Cert.ReferenceAdamW1Ideal.Read.val_main_v9, Cert.ReferenceAdamW1Ideal.Read.val_main_v10, Cert.ReferenceAdamW1Ideal.Read.val_main_v11, Cert.ReferenceAdamW1Ideal.Read.val_main_v12, Cert.ReferenceAdamW1Ideal.Read.val_main_v13, Cert.ReferenceAdamW1Ideal.Read.val_main_v14, Cert.ReferenceAdamW1Ideal.Read.val_main_v15, Cert.ReferenceAdamW1Ideal.Read.val_main_v16, Cert.ReferenceAdamW1Ideal.Read.val_main_v17, Cert.ReferenceAdamW1Ideal.Read.val_main_v18, Cert.ReferenceAdamW1Ideal.Read.val_main_v19, Cert.ReferenceAdamW1Ideal.Read.val_main_v20, Cert.ReferenceAdamW1Ideal.Read.val_main_v21, Cert.ReferenceAdamW1Ideal.Read.val_main_v22, Cert.ReferenceAdamW1Ideal.Read.val_main_v23, Cert.ReferenceAdamW1Ideal.Read.val_main_cst, Cert.ReferenceAdamW1Ideal.Read.val_main_cst_0, Cert.ReferenceAdamW1Ideal.Read.val_main_cst_1, Cert.ReferenceAdamW1Ideal.Read.val_main_cst_2, Cert.ReferenceAdamW1Ideal.Read.val_main_cst_3, Cert.ReferenceAdamW1Ideal.Read.val_main_cst_4, Cert.ReferenceAdamW1Ideal.Read.val_main_cst_5, Cert.ReferenceAdamW1Ideal.Read.val_main_cst_6, Cert.ReferenceAdamW1Ideal.Read.val_main_cst_7]
  blk_point [iblk, V, idx t]

/-- The new second moment of `w_ada` is the reference's. -/
theorem final_14 (c : Dev nD) : (dats m 0 c).arrAt 14 (cfgs 0).N
    = Cert.ReferenceAdamW1Ideal.Read.val_main_v10 (F := Ideal) (m ((c : Thread nD τ).loc main_arg1)) (m ((c : Thread nD τ).loc main_arg3)) := by
  refine (dats m 0 c).arrAt_eq_of_covers 14 _ (by decide +kernel) fun t hf y => ?_
  blk_simp
  rw [after0_14]
  unfold out0_14
  canon_tiles y h
  pointwise [k0_pay1, k0_pay2, k0_pay3, k0_pay4, k0_pay5, k0_pay6, k0_pay7, k0_pay8, k0_pay9, Cert.ReferenceAdamW1Ideal.Read.val_main_v0, Cert.ReferenceAdamW1Ideal.Read.val_main_v1, Cert.ReferenceAdamW1Ideal.Read.val_main_v2, Cert.ReferenceAdamW1Ideal.Read.val_main_v3, Cert.ReferenceAdamW1Ideal.Read.val_main_v4, Cert.ReferenceAdamW1Ideal.Read.val_main_v5, Cert.ReferenceAdamW1Ideal.Read.val_main_v6, Cert.ReferenceAdamW1Ideal.Read.val_main_v7, Cert.ReferenceAdamW1Ideal.Read.val_main_v8, Cert.ReferenceAdamW1Ideal.Read.val_main_v9, Cert.ReferenceAdamW1Ideal.Read.val_main_v10, Cert.ReferenceAdamW1Ideal.Read.val_main_v11, Cert.ReferenceAdamW1Ideal.Read.val_main_v12, Cert.ReferenceAdamW1Ideal.Read.val_main_v13, Cert.ReferenceAdamW1Ideal.Read.val_main_v14, Cert.ReferenceAdamW1Ideal.Read.val_main_v15, Cert.ReferenceAdamW1Ideal.Read.val_main_v16, Cert.ReferenceAdamW1Ideal.Read.val_main_v17, Cert.ReferenceAdamW1Ideal.Read.val_main_v18, Cert.ReferenceAdamW1Ideal.Read.val_main_v19, Cert.ReferenceAdamW1Ideal.Read.val_main_v20, Cert.ReferenceAdamW1Ideal.Read.val_main_v21, Cert.ReferenceAdamW1Ideal.Read.val_main_v22, Cert.ReferenceAdamW1Ideal.Read.val_main_v23, Cert.ReferenceAdamW1Ideal.Read.val_main_cst, Cert.ReferenceAdamW1Ideal.Read.val_main_cst_0, Cert.ReferenceAdamW1Ideal.Read.val_main_cst_1, Cert.ReferenceAdamW1Ideal.Read.val_main_cst_2, Cert.ReferenceAdamW1Ideal.Read.val_main_cst_3, Cert.ReferenceAdamW1Ideal.Read.val_main_cst_4, Cert.ReferenceAdamW1Ideal.Read.val_main_cst_5, Cert.ReferenceAdamW1Ideal.Read.val_main_cst_6, Cert.ReferenceAdamW1Ideal.Read.val_main_cst_7]
  blk_point [iblk, V, idx t]

/-- The change of `w_in` is the reference's. -/
theorem final_15 (c : Dev nD) : (dats m 0 c).arrAt 15 (cfgs 0).N
    = Cert.ReferenceAdamW1Ideal.Read.val_main_v47 (F := Ideal) (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  unfold out0_15
  canon_tiles y h
  pointwise [k0_pay1, k0_pay2, k0_pay3, k0_pay4, k0_pay5, k0_pay6, k0_pay7, k0_pay8, k0_pay9, Cert.ReferenceAdamW1Ideal.Read.val_main_v24, Cert.ReferenceAdamW1Ideal.Read.val_main_v25, Cert.ReferenceAdamW1Ideal.Read.val_main_v26, Cert.ReferenceAdamW1Ideal.Read.val_main_v27, Cert.ReferenceAdamW1Ideal.Read.val_main_v28, Cert.ReferenceAdamW1Ideal.Read.val_main_v29, Cert.ReferenceAdamW1Ideal.Read.val_main_v30, Cert.ReferenceAdamW1Ideal.Read.val_main_v31, Cert.ReferenceAdamW1Ideal.Read.val_main_v32, Cert.ReferenceAdamW1Ideal.Read.val_main_v33, Cert.ReferenceAdamW1Ideal.Read.val_main_v34, Cert.ReferenceAdamW1Ideal.Read.val_main_v35, Cert.ReferenceAdamW1Ideal.Read.val_main_v36, Cert.ReferenceAdamW1Ideal.Read.val_main_v37, Cert.ReferenceAdamW1Ideal.Read.val_main_v38, Cert.ReferenceAdamW1Ideal.Read.val_main_v39, Cert.ReferenceAdamW1Ideal.Read.val_main_v40, Cert.ReferenceAdamW1Ideal.Read.val_main_v41, Cert.ReferenceAdamW1Ideal.Read.val_main_v42, Cert.ReferenceAdamW1Ideal.Read.val_main_v43, Cert.ReferenceAdamW1Ideal.Read.val_main_v44, Cert.ReferenceAdamW1Ideal.Read.val_main_v45, Cert.ReferenceAdamW1Ideal.Read.val_main_v46, Cert.ReferenceAdamW1Ideal.Read.val_main_v47, Cert.ReferenceAdamW1Ideal.Read.val_main_cst_8, Cert.ReferenceAdamW1Ideal.Read.val_main_cst_9, Cert.ReferenceAdamW1Ideal.Read.val_main_cst_10, Cert.ReferenceAdamW1Ideal.Read.val_main_cst_11, Cert.ReferenceAdamW1Ideal.Read.val_main_cst_12, Cert.ReferenceAdamW1Ideal.Read.val_main_cst_13, Cert.ReferenceAdamW1Ideal.Read.val_main_cst_14, Cert.ReferenceAdamW1Ideal.Read.val_main_cst_15, Cert.ReferenceAdamW1Ideal.Read.val_main_cst_16]
  blk_point [iblk, V, idx t]

/-- The new first moment of `w_in` is the reference's. -/
theorem final_16 (c : Dev nD) : (dats m 0 c).arrAt 16 (cfgs 0).N
    = Cert.ReferenceAdamW1Ideal.Read.val_main_v28 (F := Ideal) (m ((c : Thread nD τ).loc main_arg5)) (m ((c : Thread nD τ).loc main_arg6)) := by
  refine (dats m 0 c).arrAt_eq_of_covers 16 _ (by decide +kernel) fun t hf y => ?_
  blk_simp
  rw [after0_16]
  unfold out0_16
  canon_tiles y h
  pointwise [k0_pay1, k0_pay2, k0_pay3, k0_pay4, k0_pay5, k0_pay6, k0_pay7, k0_pay8, k0_pay9, Cert.ReferenceAdamW1Ideal.Read.val_main_v24, Cert.ReferenceAdamW1Ideal.Read.val_main_v25, Cert.ReferenceAdamW1Ideal.Read.val_main_v26, Cert.ReferenceAdamW1Ideal.Read.val_main_v27, Cert.ReferenceAdamW1Ideal.Read.val_main_v28, Cert.ReferenceAdamW1Ideal.Read.val_main_v29, Cert.ReferenceAdamW1Ideal.Read.val_main_v30, Cert.ReferenceAdamW1Ideal.Read.val_main_v31, Cert.ReferenceAdamW1Ideal.Read.val_main_v32, Cert.ReferenceAdamW1Ideal.Read.val_main_v33, Cert.ReferenceAdamW1Ideal.Read.val_main_v34, Cert.ReferenceAdamW1Ideal.Read.val_main_v35, Cert.ReferenceAdamW1Ideal.Read.val_main_v36, Cert.ReferenceAdamW1Ideal.Read.val_main_v37, Cert.ReferenceAdamW1Ideal.Read.val_main_v38, Cert.ReferenceAdamW1Ideal.Read.val_main_v39, Cert.ReferenceAdamW1Ideal.Read.val_main_v40, Cert.ReferenceAdamW1Ideal.Read.val_main_v41, Cert.ReferenceAdamW1Ideal.Read.val_main_v42, Cert.ReferenceAdamW1Ideal.Read.val_main_v43, Cert.ReferenceAdamW1Ideal.Read.val_main_v44, Cert.ReferenceAdamW1Ideal.Read.val_main_v45, Cert.ReferenceAdamW1Ideal.Read.val_main_v46, Cert.ReferenceAdamW1Ideal.Read.val_main_v47, Cert.ReferenceAdamW1Ideal.Read.val_main_cst_8, Cert.ReferenceAdamW1Ideal.Read.val_main_cst_9, Cert.ReferenceAdamW1Ideal.Read.val_main_cst_10, Cert.ReferenceAdamW1Ideal.Read.val_main_cst_11, Cert.ReferenceAdamW1Ideal.Read.val_main_cst_12, Cert.ReferenceAdamW1Ideal.Read.val_main_cst_13, Cert.ReferenceAdamW1Ideal.Read.val_main_cst_14, Cert.ReferenceAdamW1Ideal.Read.val_main_cst_15, Cert.ReferenceAdamW1Ideal.Read.val_main_cst_16]
  blk_point [iblk, V, idx t]

/-- The new second moment of `w_in` is the reference's. -/
theorem final_17 (c : Dev nD) : (dats m 0 c).arrAt 17 (cfgs 0).N
    = Cert.ReferenceAdamW1Ideal.Read.val_main_v34 (F := Ideal) (m ((c : Thread nD τ).loc main_arg5)) (m ((c : Thread nD τ).loc main_arg7)) := by
  refine (dats m 0 c).arrAt_eq_of_covers 17 _ (by decide +kernel) fun t hf y => ?_
  blk_simp
  rw [after0_17]
  unfold out0_17
  canon_tiles y h
  pointwise [k0_pay1, k0_pay2, k0_pay3, k0_pay4, k0_pay5, k0_pay6, k0_pay7, k0_pay8, k0_pay9, Cert.ReferenceAdamW1Ideal.Read.val_main_v24, Cert.ReferenceAdamW1Ideal.Read.val_main_v25, Cert.ReferenceAdamW1Ideal.Read.val_main_v26, Cert.ReferenceAdamW1Ideal.Read.val_main_v27, Cert.ReferenceAdamW1Ideal.Read.val_main_v28, Cert.ReferenceAdamW1Ideal.Read.val_main_v29, Cert.ReferenceAdamW1Ideal.Read.val_main_v30, Cert.ReferenceAdamW1Ideal.Read.val_main_v31, Cert.ReferenceAdamW1Ideal.Read.val_main_v32, Cert.ReferenceAdamW1Ideal.Read.val_main_v33, Cert.ReferenceAdamW1Ideal.Read.val_main_v34, Cert.ReferenceAdamW1Ideal.Read.val_main_v35, Cert.ReferenceAdamW1Ideal.Read.val_main_v36, Cert.ReferenceAdamW1Ideal.Read.val_main_v37, Cert.ReferenceAdamW1Ideal.Read.val_main_v38, Cert.ReferenceAdamW1Ideal.Read.val_main_v39, Cert.ReferenceAdamW1Ideal.Read.val_main_v40, Cert.ReferenceAdamW1Ideal.Read.val_main_v41, Cert.ReferenceAdamW1Ideal.Read.val_main_v42, Cert.ReferenceAdamW1Ideal.Read.val_main_v43, Cert.ReferenceAdamW1Ideal.Read.val_main_v44, Cert.ReferenceAdamW1Ideal.Read.val_main_v45, Cert.ReferenceAdamW1Ideal.Read.val_main_v46, Cert.ReferenceAdamW1Ideal.Read.val_main_v47, Cert.ReferenceAdamW1Ideal.Read.val_main_cst_8, Cert.ReferenceAdamW1Ideal.Read.val_main_cst_9, Cert.ReferenceAdamW1Ideal.Read.val_main_cst_10, Cert.ReferenceAdamW1Ideal.Read.val_main_cst_11, Cert.ReferenceAdamW1Ideal.Read.val_main_cst_12, Cert.ReferenceAdamW1Ideal.Read.val_main_cst_13, Cert.ReferenceAdamW1Ideal.Read.val_main_cst_14, Cert.ReferenceAdamW1Ideal.Read.val_main_cst_15, Cert.ReferenceAdamW1Ideal.Read.val_main_cst_16]
  blk_point [iblk, V, idx t]

/-- The change of `w_uq` is the reference's. -/
theorem final_18 (c : Dev nD) : (dats m 0 c).arrAt 18 (cfgs 0).N
    = Cert.ReferenceAdamW1Ideal.Read.val_main_v71 (F := Ideal) (m ((c : Thread nD τ).loc main_arg8)) (m ((c : Thread nD τ).loc main_arg9)) (m ((c : Thread nD τ).loc main_arg10)) (m ((c : Thread nD τ).loc main_arg11)) := by
  refine (dats m 0 c).arrAt_eq_of_covers 18 _ (by decide +kernel) fun t hf y => ?_
  blk_simp
  rw [after0_18]
  unfold out0_18
  canon_tiles y h
  pointwise [k0_pay1, k0_pay2, k0_pay3, k0_pay4, k0_pay5, k0_pay6, k0_pay7, k0_pay8, k0_pay9, Cert.ReferenceAdamW1Ideal.Read.val_main_v48, Cert.ReferenceAdamW1Ideal.Read.val_main_v49, Cert.ReferenceAdamW1Ideal.Read.val_main_v50, Cert.ReferenceAdamW1Ideal.Read.val_main_v51, Cert.ReferenceAdamW1Ideal.Read.val_main_v52, Cert.ReferenceAdamW1Ideal.Read.val_main_v53, Cert.ReferenceAdamW1Ideal.Read.val_main_v54, Cert.ReferenceAdamW1Ideal.Read.val_main_v55, Cert.ReferenceAdamW1Ideal.Read.val_main_v56, Cert.ReferenceAdamW1Ideal.Read.val_main_v57, Cert.ReferenceAdamW1Ideal.Read.val_main_v58, Cert.ReferenceAdamW1Ideal.Read.val_main_v59, Cert.ReferenceAdamW1Ideal.Read.val_main_v60, Cert.ReferenceAdamW1Ideal.Read.val_main_v61, Cert.ReferenceAdamW1Ideal.Read.val_main_v62, Cert.ReferenceAdamW1Ideal.Read.val_main_v63, Cert.ReferenceAdamW1Ideal.Read.val_main_v64, Cert.ReferenceAdamW1Ideal.Read.val_main_v65, Cert.ReferenceAdamW1Ideal.Read.val_main_v66, Cert.ReferenceAdamW1Ideal.Read.val_main_v67, Cert.ReferenceAdamW1Ideal.Read.val_main_v68, Cert.ReferenceAdamW1Ideal.Read.val_main_v69, Cert.ReferenceAdamW1Ideal.Read.val_main_v70, Cert.ReferenceAdamW1Ideal.Read.val_main_v71, Cert.ReferenceAdamW1Ideal.Read.val_main_cst_17, Cert.ReferenceAdamW1Ideal.Read.val_main_cst_18, Cert.ReferenceAdamW1Ideal.Read.val_main_cst_19, Cert.ReferenceAdamW1Ideal.Read.val_main_cst_20, Cert.ReferenceAdamW1Ideal.Read.val_main_cst_21, Cert.ReferenceAdamW1Ideal.Read.val_main_cst_22, Cert.ReferenceAdamW1Ideal.Read.val_main_cst_23, Cert.ReferenceAdamW1Ideal.Read.val_main_cst_24, Cert.ReferenceAdamW1Ideal.Read.val_main_cst_25]
  blk_point [iblk, V, idx t]

/-- The new first moment of `w_uq` is the reference's. -/
theorem final_19 (c : Dev nD) : (dats m 0 c).arrAt 19 (cfgs 0).N
    = Cert.ReferenceAdamW1Ideal.Read.val_main_v52 (F := Ideal) (m ((c : Thread nD τ).loc main_arg9)) (m ((c : Thread nD τ).loc main_arg10)) := by
  refine (dats m 0 c).arrAt_eq_of_covers 19 _ (by decide +kernel) fun t hf y => ?_
  blk_simp
  rw [after0_19]
  unfold out0_19
  canon_tiles y h
  pointwise [k0_pay1, k0_pay2, k0_pay3, k0_pay4, k0_pay5, k0_pay6, k0_pay7, k0_pay8, k0_pay9, Cert.ReferenceAdamW1Ideal.Read.val_main_v48, Cert.ReferenceAdamW1Ideal.Read.val_main_v49, Cert.ReferenceAdamW1Ideal.Read.val_main_v50, Cert.ReferenceAdamW1Ideal.Read.val_main_v51, Cert.ReferenceAdamW1Ideal.Read.val_main_v52, Cert.ReferenceAdamW1Ideal.Read.val_main_v53, Cert.ReferenceAdamW1Ideal.Read.val_main_v54, Cert.ReferenceAdamW1Ideal.Read.val_main_v55, Cert.ReferenceAdamW1Ideal.Read.val_main_v56, Cert.ReferenceAdamW1Ideal.Read.val_main_v57, Cert.ReferenceAdamW1Ideal.Read.val_main_v58, Cert.ReferenceAdamW1Ideal.Read.val_main_v59, Cert.ReferenceAdamW1Ideal.Read.val_main_v60, Cert.ReferenceAdamW1Ideal.Read.val_main_v61, Cert.ReferenceAdamW1Ideal.Read.val_main_v62, Cert.ReferenceAdamW1Ideal.Read.val_main_v63, Cert.ReferenceAdamW1Ideal.Read.val_main_v64, Cert.ReferenceAdamW1Ideal.Read.val_main_v65, Cert.ReferenceAdamW1Ideal.Read.val_main_v66, Cert.ReferenceAdamW1Ideal.Read.val_main_v67, Cert.ReferenceAdamW1Ideal.Read.val_main_v68, Cert.ReferenceAdamW1Ideal.Read.val_main_v69, Cert.ReferenceAdamW1Ideal.Read.val_main_v70, Cert.ReferenceAdamW1Ideal.Read.val_main_v71, Cert.ReferenceAdamW1Ideal.Read.val_main_cst_17, Cert.ReferenceAdamW1Ideal.Read.val_main_cst_18, Cert.ReferenceAdamW1Ideal.Read.val_main_cst_19, Cert.ReferenceAdamW1Ideal.Read.val_main_cst_20, Cert.ReferenceAdamW1Ideal.Read.val_main_cst_21, Cert.ReferenceAdamW1Ideal.Read.val_main_cst_22, Cert.ReferenceAdamW1Ideal.Read.val_main_cst_23, Cert.ReferenceAdamW1Ideal.Read.val_main_cst_24, Cert.ReferenceAdamW1Ideal.Read.val_main_cst_25]
  blk_point [iblk, V, idx t]

/-- The new second moment of `w_uq` is the reference's. -/
theorem final_20 (c : Dev nD) : (dats m 0 c).arrAt 20 (cfgs 0).N
    = Cert.ReferenceAdamW1Ideal.Read.val_main_v58 (F := Ideal) (m ((c : Thread nD τ).loc main_arg9)) (m ((c : Thread nD τ).loc main_arg11)) := by
  refine (dats m 0 c).arrAt_eq_of_covers 20 _ (by decide +kernel) fun t hf y => ?_
  blk_simp
  rw [after0_20]
  unfold out0_20
  canon_tiles y h
  pointwise [k0_pay1, k0_pay2, k0_pay3, k0_pay4, k0_pay5, k0_pay6, k0_pay7, k0_pay8, k0_pay9, Cert.ReferenceAdamW1Ideal.Read.val_main_v48, Cert.ReferenceAdamW1Ideal.Read.val_main_v49, Cert.ReferenceAdamW1Ideal.Read.val_main_v50, Cert.ReferenceAdamW1Ideal.Read.val_main_v51, Cert.ReferenceAdamW1Ideal.Read.val_main_v52, Cert.ReferenceAdamW1Ideal.Read.val_main_v53, Cert.ReferenceAdamW1Ideal.Read.val_main_v54, Cert.ReferenceAdamW1Ideal.Read.val_main_v55, Cert.ReferenceAdamW1Ideal.Read.val_main_v56, Cert.ReferenceAdamW1Ideal.Read.val_main_v57, Cert.ReferenceAdamW1Ideal.Read.val_main_v58, Cert.ReferenceAdamW1Ideal.Read.val_main_v59, Cert.ReferenceAdamW1Ideal.Read.val_main_v60, Cert.ReferenceAdamW1Ideal.Read.val_main_v61, Cert.ReferenceAdamW1Ideal.Read.val_main_v62, Cert.ReferenceAdamW1Ideal.Read.val_main_v63, Cert.ReferenceAdamW1Ideal.Read.val_main_v64, Cert.ReferenceAdamW1Ideal.Read.val_main_v65, Cert.ReferenceAdamW1Ideal.Read.val_main_v66, Cert.ReferenceAdamW1Ideal.Read.val_main_v67, Cert.ReferenceAdamW1Ideal.Read.val_main_v68, Cert.ReferenceAdamW1Ideal.Read.val_main_v69, Cert.ReferenceAdamW1Ideal.Read.val_main_v70, Cert.ReferenceAdamW1Ideal.Read.val_main_v71, Cert.ReferenceAdamW1Ideal.Read.val_main_cst_17, Cert.ReferenceAdamW1Ideal.Read.val_main_cst_18, Cert.ReferenceAdamW1Ideal.Read.val_main_cst_19, Cert.ReferenceAdamW1Ideal.Read.val_main_cst_20, Cert.ReferenceAdamW1Ideal.Read.val_main_cst_21, Cert.ReferenceAdamW1Ideal.Read.val_main_cst_22, Cert.ReferenceAdamW1Ideal.Read.val_main_cst_23, Cert.ReferenceAdamW1Ideal.Read.val_main_cst_24, Cert.ReferenceAdamW1Ideal.Read.val_main_cst_25]
  blk_point [iblk, V, idx t]

end Cert.AdamW1

end
-- ==== Proof.AdamW2.lean ====
module

public import proofs.«01_k».proof.Proof.Gen.KernelAdamW2Ideal.Frame
public import proofs.«01_k».proof.Proof.Gen.ReferenceAdamW2Ideal.Read
public import Idealize.ShloMosaic.Lib.Pipeline.ValueKit
public import Idealize.ShloMosaic.Lib.Pointwise
public import Idealize.ShloMosaic.Lib.Claim

/-! The optimiser on the next two of the large weights, an eighth of the rows of every weight a grid step: the change and the two new moments of every element. -/

@[expose] public section

set_option maxRecDepth 16384

noncomputable section

open Idealize.ShloMosaic Idealize.ShloMosaic.TcCoe Idealize.SL.Sem
open scoped BigOperators

namespace Cert.AdamW2

open Cert.KernelAdamW2Ideal Cert.KernelAdamW2Ideal.Gen

variable (m : (ℓ : Loc nD τ sig) → Buf (Elt Ideal) ℓ)

/-- Every window holds an eighth of the rows of its array at each grid step. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- The change of `w_ukv` is the reference's. -/
theorem final_8 (c : Dev nD) : (dats m 0 c).arrAt 8 (cfgs 0).N
    = Cert.ReferenceAdamW2Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  unfold out0_8
  canon_tiles y h
  pointwise [k0_pay1, k0_pay2, k0_pay3, k0_pay4, k0_pay5, k0_pay6, Cert.ReferenceAdamW2Ideal.Read.val_main_v0, Cert.ReferenceAdamW2Ideal.Read.val_main_v1, Cert.ReferenceAdamW2Ideal.Read.val_main_v2, Cert.ReferenceAdamW2Ideal.Read.val_main_v3, Cert.ReferenceAdamW2Ideal.Read.val_main_v4, Cert.ReferenceAdamW2Ideal.Read.val_main_v5, Cert.ReferenceAdamW2Ideal.Read.val_main_v6, Cert.ReferenceAdamW2Ideal.Read.val_main_v7, Cert.ReferenceAdamW2Ideal.Read.val_main_v8, Cert.ReferenceAdamW2Ideal.Read.val_main_v9, Cert.ReferenceAdamW2Ideal.Read.val_main_v10, Cert.ReferenceAdamW2Ideal.Read.val_main_v11, Cert.ReferenceAdamW2Ideal.Read.val_main_v12, Cert.ReferenceAdamW2Ideal.Read.val_main_v13, Cert.ReferenceAdamW2Ideal.Read.val_main_v14, Cert.ReferenceAdamW2Ideal.Read.val_main_v15, Cert.ReferenceAdamW2Ideal.Read.val_main_v16, Cert.ReferenceAdamW2Ideal.Read.val_main_v17, Cert.ReferenceAdamW2Ideal.Read.val_main_v18, Cert.ReferenceAdamW2Ideal.Read.val_main_v19, Cert.ReferenceAdamW2Ideal.Read.val_main_v20, Cert.ReferenceAdamW2Ideal.Read.val_main_v21, Cert.ReferenceAdamW2Ideal.Read.val_main_v22, Cert.ReferenceAdamW2Ideal.Read.val_main_v23, Cert.ReferenceAdamW2Ideal.Read.val_main_cst, Cert.ReferenceAdamW2Ideal.Read.val_main_cst_0, Cert.ReferenceAdamW2Ideal.Read.val_main_cst_1, Cert.ReferenceAdamW2Ideal.Read.val_main_cst_2, Cert.ReferenceAdamW2Ideal.Read.val_main_cst_3, Cert.ReferenceAdamW2Ideal.Read.val_main_cst_4, Cert.ReferenceAdamW2Ideal.Read.val_main_cst_5, Cert.ReferenceAdamW2Ideal.Read.val_main_cst_6, Cert.ReferenceAdamW2Ideal.Read.val_main_cst_7]
  blk_point [iblk, V, idx t]

/-- The new first moment of `w_ukv` is the reference's. -/
theorem final_9 (c : Dev nD) : (dats m 0 c).arrAt 9 (cfgs 0).N
    = Cert.ReferenceAdamW2Ideal.Read.val_main_v4 (F := Ideal) (m ((c : Thread nD τ).loc main_arg1)) (m ((c : Thread nD τ).loc main_arg2)) := by
  refine (dats m 0 c).arrAt_eq_of_covers 9 _ (by decide +kernel) fun t hf y => ?_
  blk_simp
  rw [after0_9]
  unfold out0_9
  canon_tiles y h
  pointwise [k0_pay1, k0_pay2, k0_pay3, k0_pay4, k0_pay5, k0_pay6, Cert.ReferenceAdamW2Ideal.Read.val_main_v0, Cert.ReferenceAdamW2Ideal.Read.val_main_v1, Cert.ReferenceAdamW2Ideal.Read.val_main_v2, Cert.ReferenceAdamW2Ideal.Read.val_main_v3, Cert.ReferenceAdamW2Ideal.Read.val_main_v4, Cert.ReferenceAdamW2Ideal.Read.val_main_v5, Cert.ReferenceAdamW2Ideal.Read.val_main_v6, Cert.ReferenceAdamW2Ideal.Read.val_main_v7, Cert.ReferenceAdamW2Ideal.Read.val_main_v8, Cert.ReferenceAdamW2Ideal.Read.val_main_v9, Cert.ReferenceAdamW2Ideal.Read.val_main_v10, Cert.ReferenceAdamW2Ideal.Read.val_main_v11, Cert.ReferenceAdamW2Ideal.Read.val_main_v12, Cert.ReferenceAdamW2Ideal.Read.val_main_v13, Cert.ReferenceAdamW2Ideal.Read.val_main_v14, Cert.ReferenceAdamW2Ideal.Read.val_main_v15, Cert.ReferenceAdamW2Ideal.Read.val_main_v16, Cert.ReferenceAdamW2Ideal.Read.val_main_v17, Cert.ReferenceAdamW2Ideal.Read.val_main_v18, Cert.ReferenceAdamW2Ideal.Read.val_main_v19, Cert.ReferenceAdamW2Ideal.Read.val_main_v20, Cert.ReferenceAdamW2Ideal.Read.val_main_v21, Cert.ReferenceAdamW2Ideal.Read.val_main_v22, Cert.ReferenceAdamW2Ideal.Read.val_main_v23, Cert.ReferenceAdamW2Ideal.Read.val_main_cst, Cert.ReferenceAdamW2Ideal.Read.val_main_cst_0, Cert.ReferenceAdamW2Ideal.Read.val_main_cst_1, Cert.ReferenceAdamW2Ideal.Read.val_main_cst_2, Cert.ReferenceAdamW2Ideal.Read.val_main_cst_3, Cert.ReferenceAdamW2Ideal.Read.val_main_cst_4, Cert.ReferenceAdamW2Ideal.Read.val_main_cst_5, Cert.ReferenceAdamW2Ideal.Read.val_main_cst_6, Cert.ReferenceAdamW2Ideal.Read.val_main_cst_7]
  blk_point [iblk, V, idx t]

/-- The new second moment of `w_ukv` is the reference's. -/
theorem final_10 (c : Dev nD) : (dats m 0 c).arrAt 10 (cfgs 0).N
    = Cert.ReferenceAdamW2Ideal.Read.val_main_v10 (F := Ideal) (m ((c : Thread nD τ).loc main_arg1)) (m ((c : Thread nD τ).loc main_arg3)) := by
  refine (dats m 0 c).arrAt_eq_of_covers 10 _ (by decide +kernel) fun t hf y => ?_
  blk_simp
  rw [after0_10]
  unfold out0_10
  canon_tiles y h
  pointwise [k0_pay1, k0_pay2, k0_pay3, k0_pay4, k0_pay5, k0_pay6, Cert.ReferenceAdamW2Ideal.Read.val_main_v0, Cert.ReferenceAdamW2Ideal.Read.val_main_v1, Cert.ReferenceAdamW2Ideal.Read.val_main_v2, Cert.ReferenceAdamW2Ideal.Read.val_main_v3, Cert.ReferenceAdamW2Ideal.Read.val_main_v4, Cert.ReferenceAdamW2Ideal.Read.val_main_v5, Cert.ReferenceAdamW2Ideal.Read.val_main_v6, Cert.ReferenceAdamW2Ideal.Read.val_main_v7, Cert.ReferenceAdamW2Ideal.Read.val_main_v8, Cert.ReferenceAdamW2Ideal.Read.val_main_v9, Cert.ReferenceAdamW2Ideal.Read.val_main_v10, Cert.ReferenceAdamW2Ideal.Read.val_main_v11, Cert.ReferenceAdamW2Ideal.Read.val_main_v12, Cert.ReferenceAdamW2Ideal.Read.val_main_v13, Cert.ReferenceAdamW2Ideal.Read.val_main_v14, Cert.ReferenceAdamW2Ideal.Read.val_main_v15, Cert.ReferenceAdamW2Ideal.Read.val_main_v16, Cert.ReferenceAdamW2Ideal.Read.val_main_v17, Cert.ReferenceAdamW2Ideal.Read.val_main_v18, Cert.ReferenceAdamW2Ideal.Read.val_main_v19, Cert.ReferenceAdamW2Ideal.Read.val_main_v20, Cert.ReferenceAdamW2Ideal.Read.val_main_v21, Cert.ReferenceAdamW2Ideal.Read.val_main_v22, Cert.ReferenceAdamW2Ideal.Read.val_main_v23, Cert.ReferenceAdamW2Ideal.Read.val_main_cst, Cert.ReferenceAdamW2Ideal.Read.val_main_cst_0, Cert.ReferenceAdamW2Ideal.Read.val_main_cst_1, Cert.ReferenceAdamW2Ideal.Read.val_main_cst_2, Cert.ReferenceAdamW2Ideal.Read.val_main_cst_3, Cert.ReferenceAdamW2Ideal.Read.val_main_cst_4, Cert.ReferenceAdamW2Ideal.Read.val_main_cst_5, Cert.ReferenceAdamW2Ideal.Read.val_main_cst_6, Cert.ReferenceAdamW2Ideal.Read.val_main_cst_7]
  blk_point [iblk, V, idx t]

/-- The change of `w_out` is the reference's. -/
theorem final_11 (c : Dev nD) : (dats m 0 c).arrAt 11 (cfgs 0).N
    = Cert.ReferenceAdamW2Ideal.Read.val_main_v47 (F := Ideal) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  unfold out0_11
  canon_tiles y h
  pointwise [k0_pay1, k0_pay2, k0_pay3, k0_pay4, k0_pay5, k0_pay6, Cert.ReferenceAdamW2Ideal.Read.val_main_v24, Cert.ReferenceAdamW2Ideal.Read.val_main_v25, Cert.ReferenceAdamW2Ideal.Read.val_main_v26, Cert.ReferenceAdamW2Ideal.Read.val_main_v27, Cert.ReferenceAdamW2Ideal.Read.val_main_v28, Cert.ReferenceAdamW2Ideal.Read.val_main_v29, Cert.ReferenceAdamW2Ideal.Read.val_main_v30, Cert.ReferenceAdamW2Ideal.Read.val_main_v31, Cert.ReferenceAdamW2Ideal.Read.val_main_v32, Cert.ReferenceAdamW2Ideal.Read.val_main_v33, Cert.ReferenceAdamW2Ideal.Read.val_main_v34, Cert.ReferenceAdamW2Ideal.Read.val_main_v35, Cert.ReferenceAdamW2Ideal.Read.val_main_v36, Cert.ReferenceAdamW2Ideal.Read.val_main_v37, Cert.ReferenceAdamW2Ideal.Read.val_main_v38, Cert.ReferenceAdamW2Ideal.Read.val_main_v39, Cert.ReferenceAdamW2Ideal.Read.val_main_v40, Cert.ReferenceAdamW2Ideal.Read.val_main_v41, Cert.ReferenceAdamW2Ideal.Read.val_main_v42, Cert.ReferenceAdamW2Ideal.Read.val_main_v43, Cert.ReferenceAdamW2Ideal.Read.val_main_v44, Cert.ReferenceAdamW2Ideal.Read.val_main_v45, Cert.ReferenceAdamW2Ideal.Read.val_main_v46, Cert.ReferenceAdamW2Ideal.Read.val_main_v47, Cert.ReferenceAdamW2Ideal.Read.val_main_cst_8, Cert.ReferenceAdamW2Ideal.Read.val_main_cst_9, Cert.ReferenceAdamW2Ideal.Read.val_main_cst_10, Cert.ReferenceAdamW2Ideal.Read.val_main_cst_11, Cert.ReferenceAdamW2Ideal.Read.val_main_cst_12, Cert.ReferenceAdamW2Ideal.Read.val_main_cst_13, Cert.ReferenceAdamW2Ideal.Read.val_main_cst_14, Cert.ReferenceAdamW2Ideal.Read.val_main_cst_15, Cert.ReferenceAdamW2Ideal.Read.val_main_cst_16]
  blk_point [iblk, V, idx t]

/-- The new first moment of `w_out` is the reference's. -/
theorem final_12 (c : Dev nD) : (dats m 0 c).arrAt 12 (cfgs 0).N
    = Cert.ReferenceAdamW2Ideal.Read.val_main_v28 (F := Ideal) (m ((c : Thread nD τ).loc main_arg5)) (m ((c : Thread nD τ).loc main_arg6)) := by
  refine (dats m 0 c).arrAt_eq_of_covers 12 _ (by decide +kernel) fun t hf y => ?_
  blk_simp
  rw [after0_12]
  unfold out0_12
  canon_tiles y h
  pointwise [k0_pay1, k0_pay2, k0_pay3, k0_pay4, k0_pay5, k0_pay6, Cert.ReferenceAdamW2Ideal.Read.val_main_v24, Cert.ReferenceAdamW2Ideal.Read.val_main_v25, Cert.ReferenceAdamW2Ideal.Read.val_main_v26, Cert.ReferenceAdamW2Ideal.Read.val_main_v27, Cert.ReferenceAdamW2Ideal.Read.val_main_v28, Cert.ReferenceAdamW2Ideal.Read.val_main_v29, Cert.ReferenceAdamW2Ideal.Read.val_main_v30, Cert.ReferenceAdamW2Ideal.Read.val_main_v31, Cert.ReferenceAdamW2Ideal.Read.val_main_v32, Cert.ReferenceAdamW2Ideal.Read.val_main_v33, Cert.ReferenceAdamW2Ideal.Read.val_main_v34, Cert.ReferenceAdamW2Ideal.Read.val_main_v35, Cert.ReferenceAdamW2Ideal.Read.val_main_v36, Cert.ReferenceAdamW2Ideal.Read.val_main_v37, Cert.ReferenceAdamW2Ideal.Read.val_main_v38, Cert.ReferenceAdamW2Ideal.Read.val_main_v39, Cert.ReferenceAdamW2Ideal.Read.val_main_v40, Cert.ReferenceAdamW2Ideal.Read.val_main_v41, Cert.ReferenceAdamW2Ideal.Read.val_main_v42, Cert.ReferenceAdamW2Ideal.Read.val_main_v43, Cert.ReferenceAdamW2Ideal.Read.val_main_v44, Cert.ReferenceAdamW2Ideal.Read.val_main_v45, Cert.ReferenceAdamW2Ideal.Read.val_main_v46, Cert.ReferenceAdamW2Ideal.Read.val_main_v47, Cert.ReferenceAdamW2Ideal.Read.val_main_cst_8, Cert.ReferenceAdamW2Ideal.Read.val_main_cst_9, Cert.ReferenceAdamW2Ideal.Read.val_main_cst_10, Cert.ReferenceAdamW2Ideal.Read.val_main_cst_11, Cert.ReferenceAdamW2Ideal.Read.val_main_cst_12, Cert.ReferenceAdamW2Ideal.Read.val_main_cst_13, Cert.ReferenceAdamW2Ideal.Read.val_main_cst_14, Cert.ReferenceAdamW2Ideal.Read.val_main_cst_15, Cert.ReferenceAdamW2Ideal.Read.val_main_cst_16]
  blk_point [iblk, V, idx t]

/-- The new second moment of `w_out` is the reference's. -/
theorem final_13 (c : Dev nD) : (dats m 0 c).arrAt 13 (cfgs 0).N
    = Cert.ReferenceAdamW2Ideal.Read.val_main_v34 (F := Ideal) (m ((c : Thread nD τ).loc main_arg5)) (m ((c : Thread nD τ).loc main_arg7)) := by
  refine (dats m 0 c).arrAt_eq_of_covers 13 _ (by decide +kernel) fun t hf y => ?_
  blk_simp
  rw [after0_13]
  unfold out0_13
  canon_tiles y h
  pointwise [k0_pay1, k0_pay2, k0_pay3, k0_pay4, k0_pay5, k0_pay6, Cert.ReferenceAdamW2Ideal.Read.val_main_v24, Cert.ReferenceAdamW2Ideal.Read.val_main_v25, Cert.ReferenceAdamW2Ideal.Read.val_main_v26, Cert.ReferenceAdamW2Ideal.Read.val_main_v27, Cert.ReferenceAdamW2Ideal.Read.val_main_v28, Cert.ReferenceAdamW2Ideal.Read.val_main_v29, Cert.ReferenceAdamW2Ideal.Read.val_main_v30, Cert.ReferenceAdamW2Ideal.Read.val_main_v31, Cert.ReferenceAdamW2Ideal.Read.val_main_v32, Cert.ReferenceAdamW2Ideal.Read.val_main_v33, Cert.ReferenceAdamW2Ideal.Read.val_main_v34, Cert.ReferenceAdamW2Ideal.Read.val_main_v35, Cert.ReferenceAdamW2Ideal.Read.val_main_v36, Cert.ReferenceAdamW2Ideal.Read.val_main_v37, Cert.ReferenceAdamW2Ideal.Read.val_main_v38, Cert.ReferenceAdamW2Ideal.Read.val_main_v39, Cert.ReferenceAdamW2Ideal.Read.val_main_v40, Cert.ReferenceAdamW2Ideal.Read.val_main_v41, Cert.ReferenceAdamW2Ideal.Read.val_main_v42, Cert.ReferenceAdamW2Ideal.Read.val_main_v43, Cert.ReferenceAdamW2Ideal.Read.val_main_v44, Cert.ReferenceAdamW2Ideal.Read.val_main_v45, Cert.ReferenceAdamW2Ideal.Read.val_main_v46, Cert.ReferenceAdamW2Ideal.Read.val_main_v47, Cert.ReferenceAdamW2Ideal.Read.val_main_cst_8, Cert.ReferenceAdamW2Ideal.Read.val_main_cst_9, Cert.ReferenceAdamW2Ideal.Read.val_main_cst_10, Cert.ReferenceAdamW2Ideal.Read.val_main_cst_11, Cert.ReferenceAdamW2Ideal.Read.val_main_cst_12, Cert.ReferenceAdamW2Ideal.Read.val_main_cst_13, Cert.ReferenceAdamW2Ideal.Read.val_main_cst_14, Cert.ReferenceAdamW2Ideal.Read.val_main_cst_15, Cert.ReferenceAdamW2Ideal.Read.val_main_cst_16]
  blk_point [iblk, V, idx t]

end Cert.AdamW2

end
-- ==== Proof.AdamW3.lean ====
module

public import proofs.«01_k».proof.Proof.Gen.KernelAdamW3Ideal.Frame
public import proofs.«01_k».proof.Proof.Gen.ReferenceAdamW3Ideal.Read
public import Idealize.ShloMosaic.Lib.Pipeline.ValueKit
public import Idealize.ShloMosaic.Lib.Pointwise
public import Idealize.ShloMosaic.Lib.Claim

/-! The optimiser on the last two of the large weights, an eighth of the rows of every weight a grid step: the change and the two new moments of every element. -/

@[expose] public section

set_option maxRecDepth 16384

noncomputable section

open Idealize.ShloMosaic Idealize.ShloMosaic.TcCoe Idealize.SL.Sem
open scoped BigOperators

namespace Cert.AdamW3

open Cert.KernelAdamW3Ideal Cert.KernelAdamW3Ideal.Gen

variable (m : (ℓ : Loc nD τ sig) → Buf (Elt Ideal) ℓ)

/-- Every window holds an eighth of the rows of its array at each grid step. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- The change of `w_ffn_in` is the reference's. -/
theorem final_8 (c : Dev nD) : (dats m 0 c).arrAt 8 (cfgs 0).N
    = Cert.ReferenceAdamW3Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  unfold out0_8
  canon_tiles y h
  pointwise [k0_pay1, k0_pay2, k0_pay3, k0_pay4, k0_pay5, k0_pay6, Cert.ReferenceAdamW3Ideal.Read.val_main_v0, Cert.ReferenceAdamW3Ideal.Read.val_main_v1, Cert.ReferenceAdamW3Ideal.Read.val_main_v2, Cert.ReferenceAdamW3Ideal.Read.val_main_v3, Cert.ReferenceAdamW3Ideal.Read.val_main_v4, Cert.ReferenceAdamW3Ideal.Read.val_main_v5, Cert.ReferenceAdamW3Ideal.Read.val_main_v6, Cert.ReferenceAdamW3Ideal.Read.val_main_v7, Cert.ReferenceAdamW3Ideal.Read.val_main_v8, Cert.ReferenceAdamW3Ideal.Read.val_main_v9, Cert.ReferenceAdamW3Ideal.Read.val_main_v10, Cert.ReferenceAdamW3Ideal.Read.val_main_v11, Cert.ReferenceAdamW3Ideal.Read.val_main_v12, Cert.ReferenceAdamW3Ideal.Read.val_main_v13, Cert.ReferenceAdamW3Ideal.Read.val_main_v14, Cert.ReferenceAdamW3Ideal.Read.val_main_v15, Cert.ReferenceAdamW3Ideal.Read.val_main_v16, Cert.ReferenceAdamW3Ideal.Read.val_main_v17, Cert.ReferenceAdamW3Ideal.Read.val_main_v18, Cert.ReferenceAdamW3Ideal.Read.val_main_v19, Cert.ReferenceAdamW3Ideal.Read.val_main_v20, Cert.ReferenceAdamW3Ideal.Read.val_main_v21, Cert.ReferenceAdamW3Ideal.Read.val_main_v22, Cert.ReferenceAdamW3Ideal.Read.val_main_v23, Cert.ReferenceAdamW3Ideal.Read.val_main_cst, Cert.ReferenceAdamW3Ideal.Read.val_main_cst_0, Cert.ReferenceAdamW3Ideal.Read.val_main_cst_1, Cert.ReferenceAdamW3Ideal.Read.val_main_cst_2, Cert.ReferenceAdamW3Ideal.Read.val_main_cst_3, Cert.ReferenceAdamW3Ideal.Read.val_main_cst_4, Cert.ReferenceAdamW3Ideal.Read.val_main_cst_5, Cert.ReferenceAdamW3Ideal.Read.val_main_cst_6, Cert.ReferenceAdamW3Ideal.Read.val_main_cst_7]
  blk_point [iblk, V, idx t]

/-- The new first moment of `w_ffn_in` is the reference's. -/
theorem final_9 (c : Dev nD) : (dats m 0 c).arrAt 9 (cfgs 0).N
    = Cert.ReferenceAdamW3Ideal.Read.val_main_v4 (F := Ideal) (m ((c : Thread nD τ).loc main_arg1)) (m ((c : Thread nD τ).loc main_arg2)) := by
  refine (dats m 0 c).arrAt_eq_of_covers 9 _ (by decide +kernel) fun t hf y => ?_
  blk_simp
  rw [after0_9]
  unfold out0_9
  canon_tiles y h
  pointwise [k0_pay1, k0_pay2, k0_pay3, k0_pay4, k0_pay5, k0_pay6, Cert.ReferenceAdamW3Ideal.Read.val_main_v0, Cert.ReferenceAdamW3Ideal.Read.val_main_v1, Cert.ReferenceAdamW3Ideal.Read.val_main_v2, Cert.ReferenceAdamW3Ideal.Read.val_main_v3, Cert.ReferenceAdamW3Ideal.Read.val_main_v4, Cert.ReferenceAdamW3Ideal.Read.val_main_v5, Cert.ReferenceAdamW3Ideal.Read.val_main_v6, Cert.ReferenceAdamW3Ideal.Read.val_main_v7, Cert.ReferenceAdamW3Ideal.Read.val_main_v8, Cert.ReferenceAdamW3Ideal.Read.val_main_v9, Cert.ReferenceAdamW3Ideal.Read.val_main_v10, Cert.ReferenceAdamW3Ideal.Read.val_main_v11, Cert.ReferenceAdamW3Ideal.Read.val_main_v12, Cert.ReferenceAdamW3Ideal.Read.val_main_v13, Cert.ReferenceAdamW3Ideal.Read.val_main_v14, Cert.ReferenceAdamW3Ideal.Read.val_main_v15, Cert.ReferenceAdamW3Ideal.Read.val_main_v16, Cert.ReferenceAdamW3Ideal.Read.val_main_v17, Cert.ReferenceAdamW3Ideal.Read.val_main_v18, Cert.ReferenceAdamW3Ideal.Read.val_main_v19, Cert.ReferenceAdamW3Ideal.Read.val_main_v20, Cert.ReferenceAdamW3Ideal.Read.val_main_v21, Cert.ReferenceAdamW3Ideal.Read.val_main_v22, Cert.ReferenceAdamW3Ideal.Read.val_main_v23, Cert.ReferenceAdamW3Ideal.Read.val_main_cst, Cert.ReferenceAdamW3Ideal.Read.val_main_cst_0, Cert.ReferenceAdamW3Ideal.Read.val_main_cst_1, Cert.ReferenceAdamW3Ideal.Read.val_main_cst_2, Cert.ReferenceAdamW3Ideal.Read.val_main_cst_3, Cert.ReferenceAdamW3Ideal.Read.val_main_cst_4, Cert.ReferenceAdamW3Ideal.Read.val_main_cst_5, Cert.ReferenceAdamW3Ideal.Read.val_main_cst_6, Cert.ReferenceAdamW3Ideal.Read.val_main_cst_7]
  blk_point [iblk, V, idx t]

/-- The new second moment of `w_ffn_in` is the reference's. -/
theorem final_10 (c : Dev nD) : (dats m 0 c).arrAt 10 (cfgs 0).N
    = Cert.ReferenceAdamW3Ideal.Read.val_main_v10 (F := Ideal) (m ((c : Thread nD τ).loc main_arg1)) (m ((c : Thread nD τ).loc main_arg3)) := by
  refine (dats m 0 c).arrAt_eq_of_covers 10 _ (by decide +kernel) fun t hf y => ?_
  blk_simp
  rw [after0_10]
  unfold out0_10
  canon_tiles y h
  pointwise [k0_pay1, k0_pay2, k0_pay3, k0_pay4, k0_pay5, k0_pay6, Cert.ReferenceAdamW3Ideal.Read.val_main_v0, Cert.ReferenceAdamW3Ideal.Read.val_main_v1, Cert.ReferenceAdamW3Ideal.Read.val_main_v2, Cert.ReferenceAdamW3Ideal.Read.val_main_v3, Cert.ReferenceAdamW3Ideal.Read.val_main_v4, Cert.ReferenceAdamW3Ideal.Read.val_main_v5, Cert.ReferenceAdamW3Ideal.Read.val_main_v6, Cert.ReferenceAdamW3Ideal.Read.val_main_v7, Cert.ReferenceAdamW3Ideal.Read.val_main_v8, Cert.ReferenceAdamW3Ideal.Read.val_main_v9, Cert.ReferenceAdamW3Ideal.Read.val_main_v10, Cert.ReferenceAdamW3Ideal.Read.val_main_v11, Cert.ReferenceAdamW3Ideal.Read.val_main_v12, Cert.ReferenceAdamW3Ideal.Read.val_main_v13, Cert.ReferenceAdamW3Ideal.Read.val_main_v14, Cert.ReferenceAdamW3Ideal.Read.val_main_v15, Cert.ReferenceAdamW3Ideal.Read.val_main_v16, Cert.ReferenceAdamW3Ideal.Read.val_main_v17, Cert.ReferenceAdamW3Ideal.Read.val_main_v18, Cert.ReferenceAdamW3Ideal.Read.val_main_v19, Cert.ReferenceAdamW3Ideal.Read.val_main_v20, Cert.ReferenceAdamW3Ideal.Read.val_main_v21, Cert.ReferenceAdamW3Ideal.Read.val_main_v22, Cert.ReferenceAdamW3Ideal.Read.val_main_v23, Cert.ReferenceAdamW3Ideal.Read.val_main_cst, Cert.ReferenceAdamW3Ideal.Read.val_main_cst_0, Cert.ReferenceAdamW3Ideal.Read.val_main_cst_1, Cert.ReferenceAdamW3Ideal.Read.val_main_cst_2, Cert.ReferenceAdamW3Ideal.Read.val_main_cst_3, Cert.ReferenceAdamW3Ideal.Read.val_main_cst_4, Cert.ReferenceAdamW3Ideal.Read.val_main_cst_5, Cert.ReferenceAdamW3Ideal.Read.val_main_cst_6, Cert.ReferenceAdamW3Ideal.Read.val_main_cst_7]
  blk_point [iblk, V, idx t]

/-- The change of `w_ffn_out` is the reference's. -/
theorem final_11 (c : Dev nD) : (dats m 0 c).arrAt 11 (cfgs 0).N
    = Cert.ReferenceAdamW3Ideal.Read.val_main_v47 (F := Ideal) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  unfold out0_11
  canon_tiles y h
  pointwise [k0_pay1, k0_pay2, k0_pay3, k0_pay4, k0_pay5, k0_pay6, Cert.ReferenceAdamW3Ideal.Read.val_main_v24, Cert.ReferenceAdamW3Ideal.Read.val_main_v25, Cert.ReferenceAdamW3Ideal.Read.val_main_v26, Cert.ReferenceAdamW3Ideal.Read.val_main_v27, Cert.ReferenceAdamW3Ideal.Read.val_main_v28, Cert.ReferenceAdamW3Ideal.Read.val_main_v29, Cert.ReferenceAdamW3Ideal.Read.val_main_v30, Cert.ReferenceAdamW3Ideal.Read.val_main_v31, Cert.ReferenceAdamW3Ideal.Read.val_main_v32, Cert.ReferenceAdamW3Ideal.Read.val_main_v33, Cert.ReferenceAdamW3Ideal.Read.val_main_v34, Cert.ReferenceAdamW3Ideal.Read.val_main_v35, Cert.ReferenceAdamW3Ideal.Read.val_main_v36, Cert.ReferenceAdamW3Ideal.Read.val_main_v37, Cert.ReferenceAdamW3Ideal.Read.val_main_v38, Cert.ReferenceAdamW3Ideal.Read.val_main_v39, Cert.ReferenceAdamW3Ideal.Read.val_main_v40, Cert.ReferenceAdamW3Ideal.Read.val_main_v41, Cert.ReferenceAdamW3Ideal.Read.val_main_v42, Cert.ReferenceAdamW3Ideal.Read.val_main_v43, Cert.ReferenceAdamW3Ideal.Read.val_main_v44, Cert.ReferenceAdamW3Ideal.Read.val_main_v45, Cert.ReferenceAdamW3Ideal.Read.val_main_v46, Cert.ReferenceAdamW3Ideal.Read.val_main_v47, Cert.ReferenceAdamW3Ideal.Read.val_main_cst_8, Cert.ReferenceAdamW3Ideal.Read.val_main_cst_9, Cert.ReferenceAdamW3Ideal.Read.val_main_cst_10, Cert.ReferenceAdamW3Ideal.Read.val_main_cst_11, Cert.ReferenceAdamW3Ideal.Read.val_main_cst_12, Cert.ReferenceAdamW3Ideal.Read.val_main_cst_13, Cert.ReferenceAdamW3Ideal.Read.val_main_cst_14, Cert.ReferenceAdamW3Ideal.Read.val_main_cst_15, Cert.ReferenceAdamW3Ideal.Read.val_main_cst_16]
  blk_point [iblk, V, idx t]

/-- The new first moment of `w_ffn_out` is the reference's. -/
theorem final_12 (c : Dev nD) : (dats m 0 c).arrAt 12 (cfgs 0).N
    = Cert.ReferenceAdamW3Ideal.Read.val_main_v28 (F := Ideal) (m ((c : Thread nD τ).loc main_arg5)) (m ((c : Thread nD τ).loc main_arg6)) := by
  refine (dats m 0 c).arrAt_eq_of_covers 12 _ (by decide +kernel) fun t hf y => ?_
  blk_simp
  rw [after0_12]
  unfold out0_12
  canon_tiles y h
  pointwise [k0_pay1, k0_pay2, k0_pay3, k0_pay4, k0_pay5, k0_pay6, Cert.ReferenceAdamW3Ideal.Read.val_main_v24, Cert.ReferenceAdamW3Ideal.Read.val_main_v25, Cert.ReferenceAdamW3Ideal.Read.val_main_v26, Cert.ReferenceAdamW3Ideal.Read.val_main_v27, Cert.ReferenceAdamW3Ideal.Read.val_main_v28, Cert.ReferenceAdamW3Ideal.Read.val_main_v29, Cert.ReferenceAdamW3Ideal.Read.val_main_v30, Cert.ReferenceAdamW3Ideal.Read.val_main_v31, Cert.ReferenceAdamW3Ideal.Read.val_main_v32, Cert.ReferenceAdamW3Ideal.Read.val_main_v33, Cert.ReferenceAdamW3Ideal.Read.val_main_v34, Cert.ReferenceAdamW3Ideal.Read.val_main_v35, Cert.ReferenceAdamW3Ideal.Read.val_main_v36, Cert.ReferenceAdamW3Ideal.Read.val_main_v37, Cert.ReferenceAdamW3Ideal.Read.val_main_v38, Cert.ReferenceAdamW3Ideal.Read.val_main_v39, Cert.ReferenceAdamW3Ideal.Read.val_main_v40, Cert.ReferenceAdamW3Ideal.Read.val_main_v41, Cert.ReferenceAdamW3Ideal.Read.val_main_v42, Cert.ReferenceAdamW3Ideal.Read.val_main_v43, Cert.ReferenceAdamW3Ideal.Read.val_main_v44, Cert.ReferenceAdamW3Ideal.Read.val_main_v45, Cert.ReferenceAdamW3Ideal.Read.val_main_v46, Cert.ReferenceAdamW3Ideal.Read.val_main_v47, Cert.ReferenceAdamW3Ideal.Read.val_main_cst_8, Cert.ReferenceAdamW3Ideal.Read.val_main_cst_9, Cert.ReferenceAdamW3Ideal.Read.val_main_cst_10, Cert.ReferenceAdamW3Ideal.Read.val_main_cst_11, Cert.ReferenceAdamW3Ideal.Read.val_main_cst_12, Cert.ReferenceAdamW3Ideal.Read.val_main_cst_13, Cert.ReferenceAdamW3Ideal.Read.val_main_cst_14, Cert.ReferenceAdamW3Ideal.Read.val_main_cst_15, Cert.ReferenceAdamW3Ideal.Read.val_main_cst_16]
  blk_point [iblk, V, idx t]

/-- The new second moment of `w_ffn_out` is the reference's. -/
theorem final_13 (c : Dev nD) : (dats m 0 c).arrAt 13 (cfgs 0).N
    = Cert.ReferenceAdamW3Ideal.Read.val_main_v34 (F := Ideal) (m ((c : Thread nD τ).loc main_arg5)) (m ((c : Thread nD τ).loc main_arg7)) := by
  refine (dats m 0 c).arrAt_eq_of_covers 13 _ (by decide +kernel) fun t hf y => ?_
  blk_simp
  rw [after0_13]
  unfold out0_13
  canon_tiles y h
  pointwise [k0_pay1, k0_pay2, k0_pay3, k0_pay4, k0_pay5, k0_pay6, Cert.ReferenceAdamW3Ideal.Read.val_main_v24, Cert.ReferenceAdamW3Ideal.Read.val_main_v25, Cert.ReferenceAdamW3Ideal.Read.val_main_v26, Cert.ReferenceAdamW3Ideal.Read.val_main_v27, Cert.ReferenceAdamW3Ideal.Read.val_main_v28, Cert.ReferenceAdamW3Ideal.Read.val_main_v29, Cert.ReferenceAdamW3Ideal.Read.val_main_v30, Cert.ReferenceAdamW3Ideal.Read.val_main_v31, Cert.ReferenceAdamW3Ideal.Read.val_main_v32, Cert.ReferenceAdamW3Ideal.Read.val_main_v33, Cert.ReferenceAdamW3Ideal.Read.val_main_v34, Cert.ReferenceAdamW3Ideal.Read.val_main_v35, Cert.ReferenceAdamW3Ideal.Read.val_main_v36, Cert.ReferenceAdamW3Ideal.Read.val_main_v37, Cert.ReferenceAdamW3Ideal.Read.val_main_v38, Cert.ReferenceAdamW3Ideal.Read.val_main_v39, Cert.ReferenceAdamW3Ideal.Read.val_main_v40, Cert.ReferenceAdamW3Ideal.Read.val_main_v41, Cert.ReferenceAdamW3Ideal.Read.val_main_v42, Cert.ReferenceAdamW3Ideal.Read.val_main_v43, Cert.ReferenceAdamW3Ideal.Read.val_main_v44, Cert.ReferenceAdamW3Ideal.Read.val_main_v45, Cert.ReferenceAdamW3Ideal.Read.val_main_v46, Cert.ReferenceAdamW3Ideal.Read.val_main_v47, Cert.ReferenceAdamW3Ideal.Read.val_main_cst_8, Cert.ReferenceAdamW3Ideal.Read.val_main_cst_9, Cert.ReferenceAdamW3Ideal.Read.val_main_cst_10, Cert.ReferenceAdamW3Ideal.Read.val_main_cst_11, Cert.ReferenceAdamW3Ideal.Read.val_main_cst_12, Cert.ReferenceAdamW3Ideal.Read.val_main_cst_13, Cert.ReferenceAdamW3Ideal.Read.val_main_cst_14, Cert.ReferenceAdamW3Ideal.Read.val_main_cst_15, Cert.ReferenceAdamW3Ideal.Read.val_main_cst_16]
  blk_point [iblk, V, idx t]

end Cert.AdamW3

end
-- ==== Proof.Rms.lean ====
module

public import proofs.«01_k».proof.Proof.Finite
public import Idealize.ShloMosaic.Lib.Pipeline.ValueKit
public import Idealize.ShloMosaic.Lib.Pointwise

/-! The gradient of a normalisation by the root of the mean of the squares: the form that a kernel computes and the form
that the rules of differentiation give are one extended real, whatever the arguments are. -/

@[expose] public section

noncomputable section

open Idealize.ShloMosaic
open scoped BigOperators

namespace Cert.Rms

/-- The words of the constants, as reals. -/
theorem word_1024 : Ideal.ofBits .f32 0x44800000#32 = ((1024 : ℝ) : EReal) := by
  simp [Ideal.ofBits, Ideal.ieee]; rw [← EReal.coe_mul]; norm_num
theorem word_inv_1024 : Ideal.ofBits .f32 0x3A800000#32 = ((1 / 1024 : ℝ) : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_half : Ideal.ofBits .f32 0x3F000000#32 = ((1 / 2 : ℝ) : EReal) := by
  simp [Ideal.ofBits, Ideal.ieee]; rw [← EReal.coe_mul]; norm_num
theorem word_neg_half : Ideal.ofBits .f32 0xBF000000#32 = ((-1 / 2 : ℝ) : EReal) := by
  simp [Ideal.ofBits, Ideal.ieee]; rw [← EReal.coe_mul]; norm_num
theorem word_eps : ∃ e : ℝ, 0 < e ∧ Ideal.ofBits .f32 0x358637BD#32 = (e : EReal) := by
  refine ⟨8796093 / 8796093022208, by norm_num, ?_⟩
  simp [Ideal.ofBits, Ideal.ieee]; rw [← EReal.coe_mul]; norm_num

/-- A nonnegative real distributes over a finite sum of extended reals. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (by exact_mod_cast hc) (EReal.coe_ne_top c), ih]

/-- A real times an extended real, taken twice. -/
theorem twice (a : ℝ) (s : EReal) : (a : EReal) * s + (a : EReal) * s = ((2 * a : ℝ) : EReal) * s := by
  induction s with
  | coe r => norm_cast; ring
  | top =>
    rcases lt_trichotomy a 0 with h | rfl | h
    · rw [EReal.coe_mul_top_of_neg h, EReal.coe_mul_top_of_neg (by linarith)]; rfl
    · simp
    · rw [EReal.coe_mul_top_of_pos h, EReal.coe_mul_top_of_pos (by linarith)]; rfl
  | bot =>
    rcases lt_trichotomy a 0 with h | rfl | h
    · rw [EReal.coe_mul_bot_of_neg h, EReal.coe_mul_bot_of_neg (by linarith)]; rfl
    · simp
    · rw [EReal.coe_mul_bot_of_pos h, EReal.coe_mul_bot_of_pos (by linarith)]; rfl

/-- The reciprocal of the root of the mean of the squares of a row. -/
def inv {n : ℕ} (D E : EReal) (z : Fin n → EReal) : EReal := Ideal.rsqrt (Ideal.div (∑ k, z k * z k) D + E)

/-- The gradient of the row, in the form that a kernel computes. -/
def grad {n : ℕ} (D E : EReal) (z dn : Fin n → EReal) (j : Fin n) : EReal :=
  inv D E z * (dn j - z j * inv D E z * Ideal.div (∑ k, dn k * (z k * inv D E z)) D)

/-- What the mean of the squares hands back, by the rules of differentiation. -/
def back {n : ℕ} (D E H : EReal) (z dn : Fin n → EReal) : EReal :=
  Ideal.div ((∑ k, z k * dn k) * (H * Ideal.div (inv D E z) (Ideal.div (∑ k, z k * z k) D + E))) D

/-- The two forms agree. -/
theorem grad_eq {n : ℕ} {D E H : EReal} {d e : ℝ} (hd : 0 < d) (he : 0 < e) (hD : D = d) (hE : E = e)
    (hH : H = ((-1 / 2 : ℝ) : EReal)) (z dn : Fin n → EReal) (j : Fin n) :
    grad D E z dn j = dn j * inv D E z + z j * back D E H z dn + back D E H z dn * z j := by
  subst hD hE hH
  by_cases hz : ∀ k, ∃ r : ℝ, z k = r
  · choose x hx using hz
    obtain rfl : z = fun k => (x k : EReal) := funext hx
    have hw : 0 < (∑ k, x k * x k) * (1 / d) + e := by
      have := Finset.sum_nonneg (s := Finset.univ) fun k _ => mul_self_nonneg (x k)
      positivity
    have hm : Ideal.div (∑ k, (x k : EReal) * (x k : EReal)) (d : EReal) + (e : EReal)
        = (((∑ k, x k * x k) * (1 / d) + e : ℝ) : EReal) := by
      rw [Ideal.div_coe hd.ne', EReal.coe_add, EReal.coe_mul, Cert.Finite.coe_sum]
      simp only [EReal.coe_mul]
    have hi : inv (d : EReal) (e : EReal) (fun k => (x k : EReal))
        = (((Real.sqrt ((∑ k, x k * x k) * (1 / d) + e))⁻¹ : ℝ) : EReal) := by
      rw [inv, hm, Ideal.rsqrt_coe, if_neg (by linarith), if_neg (by linarith)]
    unfold grad back
    rw [hm, hi, Ideal.div_coe hw.ne', Ideal.div_coe hd.ne', Ideal.div_coe hd.ne']
    generalize (∑ k, x k * x k) * (1 / d) + e = w at hw
    obtain ⟨ρ, hρ, rfl⟩ : ∃ ρ : ℝ, 0 < ρ ∧ w = (ρ * ρ)⁻¹ :=
      ⟨(Real.sqrt w)⁻¹, by positivity, by rw [← mul_inv, Real.mul_self_sqrt hw.le, inv_inv]⟩
    have hs : (Real.sqrt (ρ * ρ)⁻¹)⁻¹ = ρ := by rw [Real.sqrt_inv, Real.sqrt_mul_self hρ.le, inv_inv]
    rw [hs]
    have hS : ∑ k, dn k * ((x k : EReal) * (ρ : EReal)) = (ρ : EReal) * ∑ k, (x k : EReal) * dn k := by
      rw [mul_sum _ _ hρ.le]
      exact Finset.sum_congr rfl fun k _ => by ac_rfl
    rw [hS]
    generalize (∑ k, (x k : EReal) * dn k) = S
    rw [sub_eq_add_neg, EReal.left_distrib_of_nonneg_of_ne_top (by exact_mod_cast hρ.le) (EReal.coe_ne_top ρ), add_assoc]
    refine congrArg₂ (· + ·) (mul_comm _ _) ?_
    have h1 : (x j : EReal) * (S * (((-1 / 2 : ℝ) : EReal) * ((ρ : EReal) * ((1 / (ρ * ρ)⁻¹ : ℝ) : EReal))) * ((1 / d : ℝ) : EReal))
        = ((x j * (-1 / 2 * (ρ * (1 / (ρ * ρ)⁻¹))) * (1 / d) : ℝ) : EReal) * S := by
      simp only [EReal.coe_mul]
      ac_rfl
    have h2 : (ρ : EReal) * -((x j : EReal) * (ρ : EReal) * ((ρ : EReal) * S * ((1 / d : ℝ) : EReal)))
        = ((-(ρ * (x j * ρ) * ρ * (1 / d)) : ℝ) : EReal) * S := by
      rw [EReal.coe_neg, EReal.neg_mul, mul_neg]
      simp only [EReal.coe_mul]
      refine congrArg Neg.neg ?_
      ac_rfl
    rw [mul_comm (S * _ * _) (x j : EReal), h1, h2, twice]
    refine congrArg (fun a : ℝ => (a : EReal) * S) ?_
    field_simp
  · push Not at hz
    obtain ⟨k, hk⟩ := hz
    have hsq : ∀ i, 0 ≤ z i * z i := fun i => by
      rcases le_total 0 (z i) with h | h
      · exact mul_nonneg h h
      · have := mul_nonneg (EReal.neg_nonneg.mpr h) (EReal.neg_nonneg.mpr h); rwa [EReal.neg_mul, mul_neg, neg_neg] at this
    have hk2 : z k * z k = ⊤ := by
      revert hk
      induction z k with
      | coe r => exact fun h => absurd rfl (h r)
      | top => exact fun _ => rfl
      | bot => exact fun _ => rfl
    have ht : ∑ i, z i * z i = ⊤ := top_le_iff.mp (hk2 ▸ Finset.single_le_sum (fun i _ => hsq i) (Finset.mem_univ k))
    have hi : inv (d : EReal) (e : EReal) z = 0 := by
      rw [inv, ht, Ideal.div_coe hd.ne', EReal.top_mul_coe_of_pos (by positivity), EReal.top_add_coe, Ideal.rsqrt_top]
    unfold grad back
    simp only [hi, ht, Ideal.div_coe hd.ne', EReal.top_mul_coe_of_pos (show 0 < 1 / d by positivity), EReal.top_add_coe]
    simp [Ideal.div]

end Cert.Rms

end
-- ==== Proof.Sums.lean ====
module

public import Idealize.ShloMosaic.Lib.Pipeline.ValueKit
public import Idealize.ShloMosaic.Lib.Pointwise

/-! A sum of a program over the two leading axes of an array of rank three. -/

@[expose] public section

noncomputable section

open Idealize.ShloMosaic
open scoped BigOperators

namespace Cert.Sums

/-- The indices that keep their last coordinate, counted by the two leading ones. -/
theorem fiber_lead {a b n : ℕ} (h : (⟨3, ![a, b, n]⟩ : Shape).ReducesTo [0, 1] ⟨1, ![n]⟩) (j : (⟨1, ![n]⟩ : Shape).Idx)
    (i : (⟨3, ![a, b, n]⟩ : Shape).Idx) :
    h.drop i = j ↔ ∃ k : Fin a × Fin b, (ix3 k.1 k.2 (j 0) : (⟨3, ![a, b, n]⟩ : Shape).Idx) = i := by
  constructor
  · intro e
    refine ⟨(i 0, i 1), ?_⟩
    funext q
    fin_cases q
    · rfl
    · rfl
    · exact Fin.ext (congrArg Fin.val (congrFun e 0)).symm
  · rintro ⟨k, rfl⟩
    funext q
    fin_cases q
    exact Fin.ext rfl

/-- The sum over the two leading axes, element by element. -/
theorem reduce_lead {a b n : ℕ} (h : (⟨3, ![a, b, n]⟩ : Shape).ReducesTo [0, 1] ⟨1, ![n]⟩)
    (v : (⟨3, ![a, b, n]⟩ : Shape).Idx → EReal) (x : EReal) (j : (⟨1, ![n]⟩ : Shape).Idx) :
    Ideal.hostReduceAdd h v x j = x + ∑ k : Fin a, ∑ l : Fin b, v (ix3 k l (j 0)) := by
  refine congrArg (x + ·) ((Finset.sum_filter_eq_sum_of_fiber _ (fun k : Fin a × Fin b => (ix3 k.1 k.2 (j 0) : (⟨3, ![a, b, n]⟩ : Shape).Idx))
    (fun _ _ e => Prod.ext (congrFun e 0) (congrFun e 1)) (fiber_lead h j) v).trans ?_)
  rw [Fintype.sum_prod_type]

end Cert.Sums

end
-- ==== Proof.FinalLoss.lean ====
module

public import proofs.«01_k».proof.Proof.Gen.KernelFinalLossIdeal.Frame
public import proofs.«01_k».proof.Proof.Gen.ReferenceFinalLossIdeal.Read
public import proofs.«01_k».proof.Proof.Rms
public import proofs.«01_k».proof.Proof.Sums
public import Idealize.ShloMosaic.Lib.Pipeline.ValueKit
public import Idealize.ShloMosaic.Lib.Pipeline.ReadBack
public import Idealize.ShloMosaic.Lib.Pointwise
public import Idealize.ShloMosaic.Lib.Claim

/-! The second product of the feed-forward block, the loss behind the last normalisation, and the gradients of both: by 512 rows a grid step. -/

@[expose] public section

set_option maxRecDepth 16384

noncomputable section

open Idealize.ShloMosaic Idealize.ShloMosaic.TcCoe Idealize.SL.Sem
open scoped BigOperators

namespace Cert.FinalLoss

open Cert.KernelFinalLossIdeal Cert.KernelFinalLossIdeal.Gen

variable (m : (ℓ : Loc nD τ sig) → Buf (Elt Ideal) ℓ)

/-- Which tile each window holds at each grid step. -/
theorem idx : ∀ t : Fin cfg0.N, win0_0.index t = ![t.val / 4, t.val % 4, 0]
    ∧ win0_1.index t = ![t.val, 0]
    ∧ win0_2.index t = ![0, 0]
    ∧ win0_3.index t = ![t.val / 4, 0, 0]
    ∧ win0_4.index t = ![0, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, 0, 0]
    ∧ win0_9.index t = ![0, 0]
    ∧ win0_10.index t = ![0, 0] :=
  (by decide +kernel : ∀ t : Fin grid0.N, _)

/-- The length of a row, and what is added to the mean of its squares. -/
abbrev len : EReal := Ideal.ofBits .f32 0x44800000#32
abbrev eps : EReal := Ideal.ofBits .f32 0x358637BD#32

/-- A row after the last normalisation, less its target. -/
def err (z g t : Fin 1024 → EReal) (q : Fin 1024) : EReal := z q * Cert.Rms.inv len eps z * g q - t q

/-- The gradient of the row after the last normalisation. -/
def dy (z g t : Fin 1024 → EReal) (q : Fin 1024) : EReal := err z g t q * Ideal.ofBits .f32 0x3A800000#32

/-- The gradient of the row before the last normalisation. -/
def dz (z g t : Fin 1024 → EReal) (q : Fin 1024) : EReal := Cert.Rms.grad len eps z (fun k => dy z g t k * g k) q

/-- A row before the last normalisation, from the blocks of a grid step. -/
def row (b0 : Vec Ideal S1x512x1024 .f32) (b1 : Vec Ideal S512x2816 .bf16) (b2 : Vec Ideal S2816x1024 .bf16)
    (b3 : Vec Ideal S1x1x1024 .f32) (r : Fin 512) (x : Fin 1024) : EReal :=
  b0 (ix3 0 r x) + b3 (ix3 0 0 x) * ∑ k : Fin 2816, b1 (ix2 r k) * b2 (ix2 k x)

/-- What a grid step computes, element by element. -/
theorem pay3_apply (b1 : Vec Ideal S512x2816 .bf16) (b2 : Vec Ideal S2816x1024 .bf16) (r : Fin 512) (q : Fin 1024) :
    k0_pay3 b1 b2 (ix2 r q) = ∑ k : Fin 2816, b1 (ix2 r k) * b2 (ix2 k q) := by
  pointwise [k0_pay3]

theorem pay5_apply (b0 : Vec Ideal S1x512x1024 .f32) (b1 : Vec Ideal S512x2816 .bf16) (b2 : Vec Ideal S2816x1024 .bf16)
    (b3 : Vec Ideal S1x1x1024 .f32) (r : Fin 512) (q : Fin 1024) : k0_pay5 b1 b2 b3 b0 (ix2 r q) = row b0 b1 b2 b3 r q := by
  pointwise [k0_pay5, k0_pay4, k0_pay3, row]

theorem pay6_apply (b0 : Vec Ideal S1x512x1024 .f32) (b1 : Vec Ideal S512x2816 .bf16) (b2 : Vec Ideal S2816x1024 .bf16)
    (b3 : Vec Ideal S1x1x1024 .f32) (r : Fin 512) : k0_pay6 b1 b2 b3 b0 (ix2 r 0) = Cert.Rms.inv len eps (row b0 b1 b2 b3 r) := by
  pointwise [k0_pay6, Cert.Rms.inv, pay5_apply]

theorem pay7_apply (b0 : Vec Ideal S1x512x1024 .f32) (b1 : Vec Ideal S512x2816 .bf16) (b2 : Vec Ideal S2816x1024 .bf16)
    (b3 : Vec Ideal S1x1x1024 .f32) (r : Fin 512) (q : Fin 1024) :
    k0_pay7 b1 b2 b3 b0 (ix2 r q) = row b0 b1 b2 b3 r q * Cert.Rms.inv len eps (row b0 b1 b2 b3 r) := by
  pointwise [k0_pay7, pay5_apply, pay6_apply]

theorem pay8_apply (b0 : Vec Ideal S1x512x1024 .f32) (b1 : Vec Ideal S512x2816 .bf16) (b2 : Vec Ideal S2816x1024 .bf16)
    (b3 : Vec Ideal S1x1x1024 .f32) (b4 : Vec Ideal S1x1024 .f32) (b5 : Vec Ideal S1x512x1024 .f32) (r : Fin 512) (q : Fin 1024) :
    k0_pay8 b1 b2 b3 b4 b0 b5 (ix2 r q)
      = err (row b0 b1 b2 b3 r) (fun k => b4 (ix2 0 k)) (fun k => b5 (ix3 0 r k)) q := by
  pointwise [k0_pay8, pay7_apply, err]

theorem pay9_apply (b0 : Vec Ideal S1x512x1024 .f32) (b1 : Vec Ideal S512x2816 .bf16) (b2 : Vec Ideal S2816x1024 .bf16)
    (b3 : Vec Ideal S1x1x1024 .f32) (b4 : Vec Ideal S1x1024 .f32) (b5 : Vec Ideal S1x512x1024 .f32) (r : Fin 512) (q : Fin 1024) :
    k0_pay9 b1 b2 b3 b4 b0 b5 (ix2 r q)
      = dy (row b0 b1 b2 b3 r) (fun k => b4 (ix2 0 k)) (fun k => b5 (ix3 0 r k)) q := by
  pointwise [k0_pay9, pay8_apply, dy]

theorem pay12_apply (b0 : Vec Ideal S1x512x1024 .f32) (b1 : Vec Ideal S512x2816 .bf16) (b2 : Vec Ideal S2816x1024 .bf16)
    (b3 : Vec Ideal S1x1x1024 .f32) (b4 : Vec Ideal S1x1024 .f32) (b5 : Vec Ideal S1x512x1024 .f32) (r : Fin 512) (q : Fin 1024) :
    k0_pay12 (k0_pay6 b1 b2 b3 b0) (k0_pay7 b1 b2 b3 b0) (k0_pay10 b1 b2 b3 b4 b0 b5) (k0_pay11 b1 b2 b3 b4 b0 b5) (ix2 r q)
      = dz (row b0 b1 b2 b3 r) (fun k => b4 (ix2 0 k)) (fun k => b5 (ix3 0 r k)) q := by
  pointwise [k0_pay12, k0_pay11, k0_pay10, pay6_apply, pay7_apply, pay9_apply, dz, Cert.Rms.grad]

/-- A row before the last normalisation, from the arguments. -/
def full (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (b : Fin 2) (s : Fin 2048) (x : Fin 1024) : EReal := Cert.ReferenceFinalLossIdeal.Read.val_main_v4 (F := Ideal) x0 x1 x2 x3 (ix3 b s x)

theorem full_apply (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (b : Fin 2) (s : Fin 2048) (x : Fin 1024) : full x0 x1 x2 x3 b s x
      = x0 (ix3 b s x) + x3 (ix3 b 0 x) * ∑ k : Fin 2816, x1 (ix2 ⟨b.val * 2048 + s.val, by omega⟩ k) * x2 (ix2 k x) := by
  pointwise [full, Cert.ReferenceFinalLossIdeal.Read.val_main_v0, Cert.ReferenceFinalLossIdeal.Read.val_main_v1, Cert.ReferenceFinalLossIdeal.Read.val_main_v2, Cert.ReferenceFinalLossIdeal.Read.val_main_v3, Cert.ReferenceFinalLossIdeal.Read.val_main_v4]

theorem ref_inv (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (b : Fin 2) (s : Fin 2048) : Cert.ReferenceFinalLossIdeal.Read.val_main_v12 (F := Ideal) x0 x1 x2 x3 (ix3 b s 0) = Cert.Rms.inv len eps (full x0 x1 x2 x3 b s) := by
  pointwise [Cert.Rms.inv, full, Cert.ReferenceFinalLossIdeal.Read.val_main_v5, Cert.ReferenceFinalLossIdeal.Read.val_main_v6, Cert.ReferenceFinalLossIdeal.Read.val_main_v7, Cert.ReferenceFinalLossIdeal.Read.val_main_v8, Cert.ReferenceFinalLossIdeal.Read.val_main_v9, Cert.ReferenceFinalLossIdeal.Read.val_main_v10, Cert.ReferenceFinalLossIdeal.Read.val_main_v11, Cert.ReferenceFinalLossIdeal.Read.val_main_v12, Cert.ReferenceFinalLossIdeal.Read.val_main_cst, Cert.ReferenceFinalLossIdeal.Read.val_main_cst_0, Cert.ReferenceFinalLossIdeal.Read.val_main_cst_1]

theorem ref_err (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (x4 : FVec Ideal Cert.ReferenceFinalLossIdeal.S1x1024 .f32) (x5 : FVec Ideal Cert.ReferenceFinalLossIdeal.S2x2048x1024 .f32)
    (b : Fin 2) (s : Fin 2048) (q : Fin 1024) : Cert.ReferenceFinalLossIdeal.Read.val_main_v21 (F := Ideal) x0 x1 x2 x3 x4 x5 (ix3 b s q)
      = err (full x0 x1 x2 x3 b s) (fun k => x4 (ix2 0 k)) (fun k => x5 (ix3 b s k)) q := by
  pointwise [err, Cert.ReferenceFinalLossIdeal.Read.val_main_v16, Cert.ReferenceFinalLossIdeal.Read.val_main_v17, Cert.ReferenceFinalLossIdeal.Read.val_main_v18, Cert.ReferenceFinalLossIdeal.Read.val_main_v19, Cert.ReferenceFinalLossIdeal.Read.val_main_v20, Cert.ReferenceFinalLossIdeal.Read.val_main_v21, ref_inv]
  rfl

/-- The factors of the gradient of the mean of squares, as the reference program multiplies them. -/
theorem factors (e : EReal) : Ideal.div (Ideal.ofBits .f32 0x3F000000#32) len * (Ideal.ofBits .f32 0x40000000#32 * e)
    = e * Ideal.ofBits .f32 0x3A800000#32 := by
  unfold len
  rw [Cert.Rms.word_1024, Ideal.div_coe (by norm_num), Cert.Rms.word_half, Cert.Rms.word_two, Cert.Rms.word_inv_1024, ← mul_assoc,
    mul_comm e]
  refine congrArg (fun a : EReal => a * e) ?_
  norm_cast
  norm_num

theorem ref_dy (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (x4 : FVec Ideal Cert.ReferenceFinalLossIdeal.S1x1024 .f32) (x5 : FVec Ideal Cert.ReferenceFinalLossIdeal.S2x2048x1024 .f32)
    (b : Fin 2) (s : Fin 2048) (q : Fin 1024) : Cert.ReferenceFinalLossIdeal.Read.val_main_v35 (F := Ideal) x0 x1 x2 x3 x4 x5 (ix3 b s q)
      = dy (full x0 x1 x2 x3 b s) (fun k => x4 (ix2 0 k)) (fun k => x5 (ix3 b s k)) q := by
  pointwise [dy, Cert.ReferenceFinalLossIdeal.Read.val_main_v23, Cert.ReferenceFinalLossIdeal.Read.val_main_v24, Cert.ReferenceFinalLossIdeal.Read.val_main_v30, Cert.ReferenceFinalLossIdeal.Read.val_main_v31, Cert.ReferenceFinalLossIdeal.Read.val_main_v32, Cert.ReferenceFinalLossIdeal.Read.val_main_v33, Cert.ReferenceFinalLossIdeal.Read.val_main_v34, Cert.ReferenceFinalLossIdeal.Read.val_main_v35, Cert.ReferenceFinalLossIdeal.Read.val_main_cst, Cert.ReferenceFinalLossIdeal.Read.val_main_cst_0, Cert.ReferenceFinalLossIdeal.Read.val_main_cst_1, Cert.ReferenceFinalLossIdeal.Read.val_main_cst_2, Cert.ReferenceFinalLossIdeal.Read.val_main_cst_3, Cert.ReferenceFinalLossIdeal.Read.val_main_cst_4, Cert.ReferenceFinalLossIdeal.Read.val_main_cst_5, Cert.ReferenceFinalLossIdeal.Read.val_main_cst_6, Cert.ReferenceFinalLossIdeal.Read.val_main_cst_7, Cert.ReferenceFinalLossIdeal.Read.val_main_cst_8, Cert.ReferenceFinalLossIdeal.Read.val_main_cst_9, Cert.ReferenceFinalLossIdeal.Read.val_main_cst_10, Cert.ReferenceFinalLossIdeal.Read.val_main_cst_11, Cert.ReferenceFinalLossIdeal.Read.val_main_cst_12, Cert.ReferenceFinalLossIdeal.Read.val_main_cst_13, Cert.ReferenceFinalLossIdeal.Read.val_main_cst_14, Cert.ReferenceFinalLossIdeal.Read.val_main_cst_15, Cert.ReferenceFinalLossIdeal.Read.val_main_cst_16, ref_err]
  exact factors _

theorem ref_back (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (x4 : FVec Ideal Cert.ReferenceFinalLossIdeal.S1x1024 .f32) (x5 : FVec Ideal Cert.ReferenceFinalLossIdeal.S2x2048x1024 .f32)
    (b : Fin 2) (s : Fin 2048) (q : Fin 1024) : Cert.ReferenceFinalLossIdeal.Read.val_main_v52 (F := Ideal) x0 x1 x2 x3 x4 x5 (ix3 b s q)
      = Cert.Rms.back len eps (Ideal.ofBits .f32 0xBF000000#32) (full x0 x1 x2 x3 b s)
          (fun k => dy (full x0 x1 x2 x3 b s) (fun k => x4 (ix2 0 k)) (fun k => x5 (ix3 b s k)) k * x4 (ix2 0 k)) := by
  pointwise [Cert.Rms.back, Cert.ReferenceFinalLossIdeal.Read.val_main_v5, Cert.ReferenceFinalLossIdeal.Read.val_main_v6, Cert.ReferenceFinalLossIdeal.Read.val_main_v7, Cert.ReferenceFinalLossIdeal.Read.val_main_v8, Cert.ReferenceFinalLossIdeal.Read.val_main_v9, Cert.ReferenceFinalLossIdeal.Read.val_main_v10, Cert.ReferenceFinalLossIdeal.Read.val_main_v11, Cert.ReferenceFinalLossIdeal.Read.val_main_v13, Cert.ReferenceFinalLossIdeal.Read.val_main_v14, Cert.ReferenceFinalLossIdeal.Read.val_main_v15, Cert.ReferenceFinalLossIdeal.Read.val_main_v18, Cert.ReferenceFinalLossIdeal.Read.val_main_v39, Cert.ReferenceFinalLossIdeal.Read.val_main_v40, Cert.ReferenceFinalLossIdeal.Read.val_main_v43, Cert.ReferenceFinalLossIdeal.Read.val_main_v44, Cert.ReferenceFinalLossIdeal.Read.val_main_v45, Cert.ReferenceFinalLossIdeal.Read.val_main_v48, Cert.ReferenceFinalLossIdeal.Read.val_main_v49, Cert.ReferenceFinalLossIdeal.Read.val_main_v50, Cert.ReferenceFinalLossIdeal.Read.val_main_v51, Cert.ReferenceFinalLossIdeal.Read.val_main_v52, Cert.ReferenceFinalLossIdeal.Read.val_main_cst, Cert.ReferenceFinalLossIdeal.Read.val_main_cst_0, Cert.ReferenceFinalLossIdeal.Read.val_main_cst_1, Cert.ReferenceFinalLossIdeal.Read.val_main_cst_2, Cert.ReferenceFinalLossIdeal.Read.val_main_cst_3, Cert.ReferenceFinalLossIdeal.Read.val_main_cst_4, Cert.ReferenceFinalLossIdeal.Read.val_main_cst_5, Cert.ReferenceFinalLossIdeal.Read.val_main_cst_6, Cert.ReferenceFinalLossIdeal.Read.val_main_cst_7, Cert.ReferenceFinalLossIdeal.Read.val_main_cst_8, Cert.ReferenceFinalLossIdeal.Read.val_main_cst_9, Cert.ReferenceFinalLossIdeal.Read.val_main_cst_10, Cert.ReferenceFinalLossIdeal.Read.val_main_cst_11, Cert.ReferenceFinalLossIdeal.Read.val_main_cst_12, Cert.ReferenceFinalLossIdeal.Read.val_main_cst_13, Cert.ReferenceFinalLossIdeal.Read.val_main_cst_14, Cert.ReferenceFinalLossIdeal.Read.val_main_cst_15, Cert.ReferenceFinalLossIdeal.Read.val_main_cst_16, ref_dy, ref_inv]
  rw [Fin.sum_univ_one]
  pointwise [ref_inv]
  rfl

theorem ref_dz (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (x4 : FVec Ideal Cert.ReferenceFinalLossIdeal.S1x1024 .f32) (x5 : FVec Ideal Cert.ReferenceFinalLossIdeal.S2x2048x1024 .f32)
    (b : Fin 2) (s : Fin 2048) (q : Fin 1024) : Cert.ReferenceFinalLossIdeal.Read.val_main_v56 (F := Ideal) x0 x1 x2 x3 x4 x5 (ix3 b s q)
      = dz (full x0 x1 x2 x3 b s) (fun k => x4 (ix2 0 k)) (fun k => x5 (ix3 b s k)) q := by
  obtain ⟨e, he, hE⟩ := Cert.Rms.word_eps
  rw [dz, Cert.Rms.grad_eq (by norm_num) he Cert.Rms.word_1024 hE Cert.Rms.word_neg_half]
  pointwise [Cert.ReferenceFinalLossIdeal.Read.val_main_v18, Cert.ReferenceFinalLossIdeal.Read.val_main_v39, Cert.ReferenceFinalLossIdeal.Read.val_main_v40, Cert.ReferenceFinalLossIdeal.Read.val_main_v46, Cert.ReferenceFinalLossIdeal.Read.val_main_v47, Cert.ReferenceFinalLossIdeal.Read.val_main_v53, Cert.ReferenceFinalLossIdeal.Read.val_main_v54, Cert.ReferenceFinalLossIdeal.Read.val_main_v55, Cert.ReferenceFinalLossIdeal.Read.val_main_v56, ref_dy, ref_inv, ref_back]
  rfl

/-- The arguments' own rows and the values computed from them. -/
abbrev rowAt (c : Dev nD) (b : Fin 2) (s : Fin 2048) : Fin 1024 → EReal := full (m ((c : Thread nD τ).loc main_arg0)) (m ((c : Thread nD τ).loc main_arg1)) (m ((c : Thread nD τ).loc main_arg2)) (m ((c : Thread nD τ).loc main_arg3)) b s
abbrev gain (c : Dev nD) (k : Fin 1024) : EReal := (m ((c : Thread nD τ).loc main_arg4) : FVec Ideal S1x1024 .f32) (ix2 0 k)
abbrev goal (c : Dev nD) (b : Fin 2) (s : Fin 2048) (k : Fin 1024) : EReal :=
  (m ((c : Thread nD τ).loc main_arg5) : FVec Ideal S2x2048x1024 .f32) (ix3 b s k)
abbrev errAt (c : Dev nD) (b : Fin 2) (s : Fin 2048) : Fin 1024 → EReal := err (rowAt m c b s) (gain m c) (goal m c b s)
abbrev dyAt (c : Dev nD) (b : Fin 2) (s : Fin 2048) : Fin 1024 → EReal := dy (rowAt m c b s) (gain m c) (goal m c b s)
abbrev dzAt (c : Dev nD) (b : Fin 2) (s : Fin 2048) : Fin 1024 → EReal := dz (rowAt m c b s) (gain m c) (goal m c b s)

/-- The rows that a grid step reads. -/
theorem row_block (c : Dev nD) (t : Fin cfg0.N) (r : Fin 512) :
    row (iblk m c 0 t) (iblk m c 1 t) (iblk m c 2 t) (iblk m c 3 t) r = rowAt m c ⟨t.val / 4, by have : t.val < 8 := t.isLt; omega⟩ ⟨t.val % 4 * 512 + r.val, by omega⟩ := by
  funext x
  rw [rowAt, full_apply]
  unfold row
  refine congrArg₂ (· + ·) ?_ (congrArg₂ (· * ·) ?_ (Finset.sum_congr rfl fun k _ => congrArg₂ (· * ·) ?_ ?_))
  all_goals blk_point [iblk, V, idx t]

theorem gain_block (c : Dev nD) (t : Fin cfg0.N) :
    (fun k : Fin 1024 => (iblk m c 4 t : Vec Ideal S1x1024 .f32) (ix2 0 k)) = gain m c := by
  funext k
  blk_point [iblk, V, idx t]

theorem goal_block (c : Dev nD) (t : Fin cfg0.N) (r : Fin 512) :
    (fun k : Fin 1024 => (iblk m c 5 t : Vec Ideal S1x512x1024 .f32) (ix3 0 r k)) = goal m c ⟨t.val / 4, by have : t.val < 8 := t.isLt; omega⟩ ⟨t.val % 4 * 512 + r.val, by omega⟩ := by
  funext k
  blk_point [iblk, V, idx t]

theorem err_block (c : Dev nD) (t : Fin cfg0.N) (r : Fin 512) (q : Fin 1024) :
    k0_pay8 (iblk m c 1 t) (iblk m c 2 t) (iblk m c 3 t) (iblk m c 4 t) (iblk m c 0 t) (iblk m c 5 t) (ix2 r q) = errAt m c ⟨t.val / 4, by have : t.val < 8 := t.isLt; omega⟩ ⟨t.val % 4 * 512 + r.val, by omega⟩ q := by
  rw [pay8_apply, row_block, gain_block, goal_block]

theorem dy_block (c : Dev nD) (t : Fin cfg0.N) (r : Fin 512) (q : Fin 1024) :
    k0_pay9 (iblk m c 1 t) (iblk m c 2 t) (iblk m c 3 t) (iblk m c 4 t) (iblk m c 0 t) (iblk m c 5 t) (ix2 r q) = dyAt m c ⟨t.val / 4, by have : t.val < 8 := t.isLt; omega⟩ ⟨t.val % 4 * 512 + r.val, by omega⟩ q := by
  rw [pay9_apply, row_block, gain_block, goal_block]

theorem dz_block (c : Dev nD) (t : Fin cfg0.N) (r : Fin 512) (q : Fin 1024) :
    k0_pay12 (k0_pay6 (iblk m c 1 t) (iblk m c 2 t) (iblk m c 3 t) (iblk m c 0 t)) (k0_pay7 (iblk m c 1 t) (iblk m c 2 t) (iblk m c 3 t) (iblk m c 0 t)) (k0_pay10 (iblk m c 1 t) (iblk m c 2 t) (iblk m c 3 t) (iblk m c 4 t) (iblk m c 0 t) (iblk m c 5 t)) (k0_pay11 (iblk m c 1 t) (iblk m c 2 t) (iblk m c 3 t) (iblk m c 4 t) (iblk m c 0 t) (iblk m c 5 t)) (ix2 r q) = dzAt m c ⟨t.val / 4, by have : t.val < 8 := t.isLt; omega⟩ ⟨t.val % 4 * 512 + r.val, by omega⟩ q := by
  rw [pay12_apply, row_block, gain_block, goal_block]

theorem nrm_block (c : Dev nD) (t : Fin cfg0.N) (r : Fin 512) (q : Fin 1024) :
    k0_pay7 (iblk m c 1 t) (iblk m c 2 t) (iblk m c 3 t) (iblk m c 0 t) (ix2 r q)
      = rowAt m c ⟨t.val / 4, by have : t.val < 8 := t.isLt; omega⟩ ⟨t.val % 4 * 512 + r.val, by omega⟩ q * Cert.Rms.inv len eps (rowAt m c ⟨t.val / 4, by have : t.val < 8 := t.isLt; omega⟩ ⟨t.val % 4 * 512 + r.val, by omega⟩) := by
  rw [pay7_apply, row_block]

/-- The product that a grid step computes, and the one of the reference program. -/
theorem prod_block (c : Dev nD) (t : Fin cfg0.N) (r : Fin 512) (q : Fin 1024) :
    k0_pay3 (iblk m c 1 t) (iblk m c 2 t) (ix2 r q)
      = Cert.ReferenceFinalLossIdeal.Read.val_main_v0 (F := Ideal) (m ((c : Thread nD τ).loc main_arg1)) (m ((c : Thread nD τ).loc main_arg2)) (ix2 ⟨t.val / 4 * 2048 + (t.val % 4 * 512 + r.val), by have : t.val < 8 := t.isLt; omega⟩ q) := by
  rw [pay3_apply]
  pointwise [Cert.ReferenceFinalLossIdeal.Read.val_main_v0]
  refine Finset.sum_congr rfl fun k _ => congrArg₂ (· * ·) ?_ ?_
  all_goals blk_point [iblk, V, idx t]

/-- A value of a batch, a row and a column depends on their numbers alone. -/
theorem at_congr (f : Fin 2 → Fin 2048 → Fin 1024 → EReal) {b b' : Fin 2} {s s' : Fin 2048} {q q' : Fin 1024}
    (hb : b.val = b'.val) (hs : s.val = s'.val) (hq : q.val = q'.val) : f b s q = f b' s' q' := by
  rw [Fin.ext hb, Fin.ext hs, Fin.ext hq]

theorem tile_6 (c : Dev nD) (t : Fin cfg0.N) (y : S1x512x1024.Idx) : (outsAt0 m c t.val t.isLt).1 y = k0_pay12 (k0_pay6 (iblk m c 1 t) (iblk m c 2 t) (iblk m c 3 t) (iblk m c 0 t)) (k0_pay7 (iblk m c 1 t) (iblk m c 2 t) (iblk m c 3 t) (iblk m c 0 t)) (k0_pay10 (iblk m c 1 t) (iblk m c 2 t) (iblk m c 3 t) (iblk m c 4 t) (iblk m c 0 t) (iblk m c 5 t)) (k0_pay11 (iblk m c 1 t) (iblk m c 2 t) (iblk m c 3 t) (iblk m c 4 t) (iblk m c 0 t) (iblk m c 5 t)) (ix2 (y 1) (y 2)) := by
  by_cases h0 : t.val % 4 = 0
  · by_cases h1 : t.val % 8 = 0
    · rw [outsAt0_A m c t h0 h1]
      frame_out
      pointwise [k0_pay13]
    · rw [outsAt0_C m c t h0 h1]
      frame_out
      pointwise [k0_pay13]
  · rw [outsAt0_B m c t h0 (by omega)]
    frame_out
    pointwise [k0_pay13]

theorem tile_7 (c : Dev nD) (t : Fin cfg0.N) (y : S1x512x1024.Idx) : (outsAt0 m c t.val t.isLt).2.1 y = k0_pay12 (k0_pay6 (iblk m c 1 t) (iblk m c 2 t) (iblk m c 3 t) (iblk m c 0 t)) (k0_pay7 (iblk m c 1 t) (iblk m c 2 t) (iblk m c 3 t) (iblk m c 0 t)) (k0_pay10 (iblk m c 1 t) (iblk m c 2 t) (iblk m c 3 t) (iblk m c 4 t) (iblk m c 0 t) (iblk m c 5 t)) (k0_pay11 (iblk m c 1 t) (iblk m c 2 t) (iblk m c 3 t) (iblk m c 4 t) (iblk m c 0 t) (iblk m c 5 t)) (ix2 (y 1) (y 2)) * (iblk m c 3 t : Vec Ideal S1x1x1024 .f32) (ix3 0 0 (y 2)) := by
  by_cases h0 : t.val % 4 = 0
  · by_cases h1 : t.val % 8 = 0
    · rw [outsAt0_A m c t h0 h1]
      frame_out
      pointwise [k0_pay14, k0_pay4]
    · rw [outsAt0_C m c t h0 h1]
      frame_out
      pointwise [k0_pay14, k0_pay4]
  · rw [outsAt0_B m c t h0 (by omega)]
    frame_out
    pointwise [k0_pay14, k0_pay4]

/-- The reference program's sums. -/
theorem ref_dgate (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (x4 : FVec Ideal Cert.ReferenceFinalLossIdeal.S1x1024 .f32) (x5 : FVec Ideal Cert.ReferenceFinalLossIdeal.S2x2048x1024 .f32)
    (b : Fin 2) (q : Fin 1024) : Cert.ReferenceFinalLossIdeal.Read.val_main_v61 (F := Ideal) x0 x1 x2 x3 x4 x5 (ix3 b 0 q)
      = ∑ s : Fin 2048, dz (full x0 x1 x2 x3 b s) (fun k => x4 (ix2 0 k)) (fun k => x5 (ix3 b s k)) q
          * Cert.ReferenceFinalLossIdeal.Read.val_main_v0 (F := Ideal) x1 x2 (ix2 ⟨b.val * 2048 + s.val, by omega⟩ q) := by
  pointwise [Cert.ReferenceFinalLossIdeal.Read.val_main_v61, Cert.ReferenceFinalLossIdeal.Read.val_main_v60, Cert.ReferenceFinalLossIdeal.Read.val_main_v59, Cert.ReferenceFinalLossIdeal.Read.val_main_v1, Cert.ReferenceFinalLossIdeal.Read.val_main_cst_16, ref_dz]

theorem ref_dgain (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (x4 : FVec Ideal Cert.ReferenceFinalLossIdeal.S1x1024 .f32) (x5 : FVec Ideal Cert.ReferenceFinalLossIdeal.S2x2048x1024 .f32)
    (q : Fin 1024) : Cert.ReferenceFinalLossIdeal.Read.val_main_v42 (F := Ideal) x0 x1 x2 x3 x4 x5 (ix2 0 q)
      = ∑ b : Fin 2, ∑ s : Fin 2048, dy (full x0 x1 x2 x3 b s) (fun k => x4 (ix2 0 k)) (fun k => x5 (ix3 b s k)) q
          * (full x0 x1 x2 x3 b s q * Cert.Rms.inv len eps (full x0 x1 x2 x3 b s)) := by
  have h17 : ∀ b s, Cert.ReferenceFinalLossIdeal.Read.val_main_v17 (F := Ideal) x0 x1 x2 x3 (ix3 b s q)
      = full x0 x1 x2 x3 b s q * Cert.Rms.inv len eps (full x0 x1 x2 x3 b s) := fun b s => by
    pointwise [Cert.ReferenceFinalLossIdeal.Read.val_main_v17, Cert.ReferenceFinalLossIdeal.Read.val_main_v16, ref_inv]
    rfl
  pointwise [Cert.ReferenceFinalLossIdeal.Read.val_main_v42, Cert.ReferenceFinalLossIdeal.Read.val_main_v41, Cert.ReferenceFinalLossIdeal.Read.val_main_v38, Cert.ReferenceFinalLossIdeal.Read.val_main_v37, Cert.ReferenceFinalLossIdeal.Read.val_main_cst_11, Cert.ReferenceFinalLossIdeal.Read.val_main_cst_12]
  rw [Cert.Sums.reduce_lead, zero_add, Fin.sum_univ_one, Fin.sum_univ_one]
  pointwise [Cert.ReferenceFinalLossIdeal.Read.val_main_v38, Cert.ReferenceFinalLossIdeal.Read.val_main_v37, Cert.ReferenceFinalLossIdeal.Read.val_main_cst_11, Cert.ReferenceFinalLossIdeal.Read.val_main_cst_12]
  rw [Cert.Sums.reduce_lead, zero_add]
  refine Finset.sum_congr rfl fun b _ => Finset.sum_congr rfl fun s _ => ?_
  rw [mul_comm]
  pointwise [Cert.ReferenceFinalLossIdeal.Read.val_main_v36]
  rw [h17, ref_dy]

theorem ref_loss (x0 : FVec Ideal Cert.ReferenceFinalLossIdeal.S2x2048x1024 .f32) (x1 : FVec Ideal Cert.ReferenceFinalLossIdeal.S4096x2816 .bf16)
    (x2 : FVec Ideal Cert.ReferenceFinalLossIdeal.S2816x1024 .bf16) (x3 : FVec Ideal Cert.ReferenceFinalLossIdeal.S2x1x1024 .f32)
    (x4 : FVec Ideal Cert.ReferenceFinalLossIdeal.S1x1024 .f32) (x5 : FVec Ideal Cert.ReferenceFinalLossIdeal.S2x2048x1024 .f32)
    (q : Fin 128) : Cert.ReferenceFinalLossIdeal.Read.val_main_v63 (F := Ideal) x0 x1 x2 x3 x4 x5 (ix2 0 q)
      = Ideal.ofBits .f32 0x3F000000#32 * ∑ b : Fin 2, ∑ s : Fin 2048, Ideal.div (∑ k : Fin 1024,
          err (full x0 x1 x2 x3 b s) (fun k => x4 (ix2 0 k)) (fun k => x5 (ix3 b s k)) k
            * err (full x0 x1 x2 x3 b s) (fun k => x4 (ix2 0 k)) (fun k => x5 (ix3 b s k)) k) len := by
  pointwise [Cert.ReferenceFinalLossIdeal.Read.val_main_v63, Cert.ReferenceFinalLossIdeal.Read.val_main_v29, Cert.ReferenceFinalLossIdeal.Read.val_main_v28, Cert.ReferenceFinalLossIdeal.Read.val_main_v27, Cert.ReferenceFinalLossIdeal.Read.val_main_v26, Cert.ReferenceFinalLossIdeal.Read.val_main_v25, Cert.ReferenceFinalLossIdeal.Read.val_main_v22, Cert.ReferenceFinalLossIdeal.Read.val_main_cst_4, Cert.ReferenceFinalLossIdeal.Read.val_main_cst_5, Cert.ReferenceFinalLossIdeal.Read.val_main_cst_6, Cert.ReferenceFinalLossIdeal.Read.val_main_cst_7, ref_err]

/-- The gradient of the residual. -/
theorem final_6 (c : Dev nD) : (dats m 0 c).arrAt 6 (cfgs 0).N = Cert.ReferenceFinalLossIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  refine ((tile_6 m c t y).trans (dz_block m c t _ _)).trans ?_
  refine (ref_dz _ _ _ _ _ _ _ _ _).symm.trans ?_
  blk_point [idx t]

/-- The gradient of the result of the product. -/
theorem final_7 (c : Dev nD) : (dats m 0 c).arrAt 7 (cfgs 0).N = Cert.ReferenceFinalLossIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  refine ((tile_7 m c t y).trans (congrArg (fun a : EReal => a * _) (dz_block m c t _ _))).trans ?_
  pointwise [Cert.ReferenceFinalLossIdeal.Read.val_main_v62, Cert.ReferenceFinalLossIdeal.Read.val_main_v58, Cert.ReferenceFinalLossIdeal.Read.val_main_v57]
  rw [mul_comm]
  refine congrArg₂ (fun a b : EReal => a * b) ?_ ((ref_dz _ _ _ _ _ _ _ _ _).symm.trans ?_)
  all_goals blk_point [iblk, V, idx t]

/-- The gradient of the gate. -/
theorem final_8 (c : Dev nD) : (dats m 0 c).arrAt 8 (cfgs 0).N = Cert.ReferenceFinalLossIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2.1) 4 (fun _ => 0)
      (fun t j => ∑ r : Fin 512, k0_pay12 (k0_pay6 (iblk m c 1 t) (iblk m c 2 t) (iblk m c 3 t) (iblk m c 0 t)) (k0_pay7 (iblk m c 1 t) (iblk m c 2 t) (iblk m c 3 t) (iblk m c 0 t)) (k0_pay10 (iblk m c 1 t) (iblk m c 2 t) (iblk m c 3 t) (iblk m c 4 t) (iblk m c 0 t) (iblk m c 5 t)) (k0_pay11 (iblk m c 1 t) (iblk m c 2 t) (iblk m c 3 t) (iblk m c 4 t) (iblk m c 0 t) (iblk m c 5 t)) (ix2 r (j 2)) * k0_pay3 (iblk m c 1 t) (iblk m c 2 t) (ix2 r (j 2)))
      (fun t h0 j => by
        by_cases h1 : t.val % 8 = 0
        · rw [outsAt0_A m c t h0 h1]
          frame_out
          pointwise [k0_pay18, k0_pay15]
        · rw [outsAt0_C m c t h0 h1]
          frame_out
          pointwise [k0_pay18, k0_pay15])
      (fun t h0 j => by
        rw [outsAt0_B m c t h0 (by omega)]
        frame_out
        pointwise [k0_pay18])
      t ((flush0_8 t).mp hf) _, zero_add]
  refine Eq.trans ?_ ((ref_dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 4, by have : t.val < 8 := t.isLt; omega⟩ (y 2)).symm.trans ?_)
  · refine Fin.sum_mul_add_congr fun s k hl => ?_
    have hs : s.val < 4 := s.isLt
    refine congrArg₂ (fun a b : EReal => a * b) ((dz_block m c _ k _).trans (at_congr (dzAt m c) ?_ ?_ rfl)) ((prod_block m c _ k _).trans ?_)
    · show (4 * (t.val / 4) + s.val) / 4 = t.val / 4
      omega
    · show (4 * (t.val / 4) + s.val) % 4 * 512 + k.val = s.val * 512 + k.val
      omega
    · refine congrArg _ (congrArg (fun i => ix2 i _) (Fin.ext ?_))
      show (4 * (t.val / 4) + s.val) / 4 * 2048 + ((4 * (t.val / 4) + s.val) % 4 * 512 + k.val) = t.val / 4 * 2048 + (s.val * 512 + k.val)
      omega
  · blk_point [idx t]

/-- The gradient of the gain of the last normalisation. -/
theorem final_9 (c : Dev nD) : (dats m 0 c).arrAt 9 (cfgs 0).N = Cert.ReferenceFinalLossIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.2.1) 8 (fun _ => 0)
      (fun t j => ∑ r : Fin 512, k0_pay9 (iblk m c 1 t) (iblk m c 2 t) (iblk m c 3 t) (iblk m c 4 t) (iblk m c 0 t) (iblk m c 5 t) (ix2 r (j 1))
        * k0_pay7 (iblk m c 1 t) (iblk m c 2 t) (iblk m c 3 t) (iblk m c 0 t) (ix2 r (j 1)))
      (fun t h0 j => by
        rw [outsAt0_A m c t (by omega) h0]
        frame_out
        pointwise [k0_pay1, k0_pay19, k0_pay20, k0_pay16])
      (fun t h0 j => by
        by_cases h1 : t.val % 4 = 0
        · rw [outsAt0_C m c t h1 h0]
          frame_out
          pointwise [k0_pay1, k0_pay19, k0_pay20]
        · rw [outsAt0_B m c t h1 h0]
          frame_out
          pointwise [k0_pay1, k0_pay19, k0_pay20])
      t ((flush0_9 t).mp hf) _, zero_add]
  have ht : t.val < 8 := t.isLt
  refine Eq.trans ?_ ((ref_dgain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 1)).symm.trans ?_)
  · refine Fin.sum_points_lanes_congr 4 fun s k ha hl => ?_
    refine congrArg₂ (fun a b : EReal => a * b) ((dy_block m c _ k _).trans (at_congr (dyAt m c) ?_ ?_ rfl))
      ((nrm_block m c _ k _).trans (at_congr (fun b s q => rowAt m c b s q * Cert.Rms.inv len eps (rowAt m c b s)) ?_ ?_ rfl))
    · show (8 * (t.val / 8) + s.val) / 4 = s.val / 4
      omega
    · show (8 * (t.val / 8) + s.val) % 4 * 512 + k.val = s.val % 4 * 512 + k.val
      omega
    · show (8 * (t.val / 8) + s.val) / 4 = s.val / 4
      omega
    · show (8 * (t.val / 8) + s.val) % 4 * 512 + k.val = s.val % 4 * 512 + k.val
      omega
  · blk_point [idx t]

/-- The loss, in every lane. -/
theorem final_10 (c : Dev nD) : (dats m 0 c).arrAt 10 (cfgs 0).N = Cert.ReferenceFinalLossIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10, Pipeline.eq_sum_fin_of_reset_step_apply_of_flush (fun n h => (outsAt0 m c n h).2.2.2.2) 8 (fun _ => 0)
      (fun t j => Ideal.ofBits .f32 0x3F000000#32 * ∑ r : Fin 512, Ideal.div (∑ q : Fin 1024,
        k0_pay8 (iblk m c 1 t) (iblk m c 2 t) (iblk m c 3 t) (iblk m c 4 t) (iblk m c 0 t) (iblk m c 5 t) (ix2 r q)
          * k0_pay8 (iblk m c 1 t) (iblk m c 2 t) (iblk m c 3 t) (iblk m c 4 t) (iblk m c 0 t) (iblk m c 5 t) (ix2 r q)) len)
      (fun t h0 j => by
        rw [outsAt0_A m c t (by omega) h0]
        frame_out
        pointwise [k0_pay2, k0_pay17])
      (fun t h0 j => by
        by_cases h1 : t.val % 4 = 0
        · rw [outsAt0_C m c t h1 h0]
          frame_out
          pointwise [k0_pay2]
        · rw [outsAt0_B m c t h1 h0]
          frame_out
          pointwise [k0_pay2])
      t ((flush0_10 t).mp hf) _, zero_add]
  have ht : t.val < 8 := t.isLt
  refine Eq.trans ?_ ((ref_loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 1)).symm.trans ?_)
  · refine Eq.trans (Finset.sum_congr (M := EReal) rfl fun s _ => congrArg (fun a : EReal => a * _) Cert.Rms.word_half) ?_
    refine (Cert.Rms.mul_sum _ _ (by norm_num) _).symm.trans (congrArg₂ (fun a b : EReal => a * b) Cert.Rms.word_half.symm ?_)
    refine Fin.sum_points_lanes_congr 4 fun s k ha hl => congrArg (fun a : EReal => Ideal.div a len) (Finset.sum_congr (M := EReal) rfl fun q _ => ?_)
    refine congrArg₂ (fun a b : EReal => a * b) ((err_block m c _ k q).trans (at_congr (errAt m c) ?_ ?_ rfl))
      ((err_block m c _ k q).trans (at_congr (errAt m c) ?_ ?_ rfl))
    · show (8 * (t.val / 8) + s.val) / 4 = s.val / 4
      omega
    · show (8 * (t.val / 8) + s.val) % 4 * 512 + k.val = s.val % 4 * 512 + k.val
      omega
    · show (8 * (t.val / 8) + s.val) / 4 = s.val / 4
      omega
    · show (8 * (t.val / 8) + s.val) % 4 * 512 + k.val = s.val % 4 * 512 + k.val
      omega
  · blk_point [idx t]

end Cert.FinalLoss
end
-- ==== Proof.Adaln1.lean ====
module

public import proofs.«01_k».proof.Proof.Gen.KernelAdaln1Ideal.Frame
public import proofs.«01_k».proof.Proof.Gen.ReferenceAdaln1Ideal.Read
public import proofs.«01_k».proof.Proof.Rms
public import proofs.«01_k».proof.Proof.Sums
public import Idealize.ShloMosaic.Lib.Pipeline.ValueKit
public import Idealize.ShloMosaic.Lib.Pipeline.ReadBack
public import Idealize.ShloMosaic.Lib.Pointwise
public import Idealize.ShloMosaic.Lib.Claim

/-! The gradients of the modulated normalisation in front of the mixers, with the residual's gradient added: by 512 rows a grid step. -/

@[expose] public section

set_option maxRecDepth 16384

noncomputable section

open Idealize.ShloMosaic Idealize.ShloMosaic.TcCoe Idealize.SL.Sem
open scoped BigOperators

namespace Cert.Adaln1

open Cert.KernelAdaln1Ideal Cert.KernelAdaln1Ideal.Gen

variable (m : (ℓ : Loc nD τ sig) → Buf (Elt Ideal) ℓ)

/-- Which tile each window holds at each grid step. -/
theorem idx : ∀ t : Fin cfg0.N, win0_0.index t = ![t.val / 4, t.val % 4, 0]
    ∧ win0_1.index t = ![t.val / 4, t.val % 4, 0]
    ∧ win0_2.index t = ![0, 0]
    ∧ win0_3.index t = ![t.val / 4, 0, 0]
    ∧ win0_4.index t = ![t.val / 4, t.val % 4, 0]
    ∧ win0_5.index t = ![t.val / 4, t.val % 4, 0]
    ∧ win0_6.index t = ![t.val / 4, 0, 0]
    ∧ win0_7.index t = ![t.val / 4, 0, 0]
    ∧ win0_8.index t = ![0, 0] :=
  (by decide +kernel : ∀ t : Fin grid0.N, _)

/-- The length of a row, and what is added to the mean of its squares. -/
abbrev len : EReal := Ideal.ofBits .f32 0x44800000#32
abbrev eps : EReal := Ideal.ofBits .f32 0x358637BD#32

/-- The gradient of a row behind the normalisation and its gain: the modulation's. -/
def dy (h c : Fin 1024 → EReal) (q : Fin 1024) : EReal := h q * (Ideal.ofBits .f32 0x3F800000#32 + c q)

/-- A row behind the normalisation. -/
def nrm (z : Fin 1024 → EReal) (q : Fin 1024) : EReal := z q * Cert.Rms.inv len eps z

/-- The gradient of a row before the normalisation. -/
def dz (z g h c : Fin 1024 → EReal) (q : Fin 1024) : EReal := Cert.Rms.grad len eps z (fun k => dy h c k * g k) q

/-- What a grid step computes, element by element. -/
theorem pay4_apply (b : Vec Ideal S1x512x1024 .f32) (r : Fin 512) :
    k0_pay4 b (ix2 r 0) = Cert.Rms.inv len eps (fun k => b (ix3 0 r k)) := by
  pointwise [k0_pay4, k0_pay2, Cert.Rms.inv]

theorem pay5_apply (b : Vec Ideal S1x512x1024 .f32) (r : Fin 512) (q : Fin 1024) :
    k0_pay5 b (ix2 r q) = nrm (fun k => b (ix3 0 r k)) q := by
  pointwise [k0_pay5, k0_pay2, nrm, pay4_apply]

theorem pay7_apply (h : Vec Ideal S1x512x1024 .f32) (c : Vec Ideal S1x1x1024 .f32) (r : Fin 512) (q : Fin 1024) :
    k0_pay7 h c (ix2 r q) = dy (fun k => h (ix3 0 r k)) (fun k => c (ix3 0 0 k)) q := by
  pointwise [k0_pay7, k0_pay3, dy]

theorem pay8_apply (z h : Vec Ideal S1x512x1024 .f32) (g : Vec Ideal S1x1024 .f32) (c : Vec Ideal S1x1x1024 .f32)
    (e : Vec Ideal S1x512x1024 .f32) (r : Fin 512) (q : Fin 1024) :
    k0_pay8 z h g c e (ix2 r q)
      = dz (fun k => z (ix3 0 r k)) (fun k => g (ix2 0 k)) (fun k => h (ix3 0 r k)) (fun k => c (ix3 0 0 k)) q + e (ix3 0 r q) := by
  pointwise [k0_pay8, pay4_apply, pay5_apply, pay7_apply, dz, nrm, Cert.Rms.grad]

/-- The reference program, element by element. -/
theorem ref_inv (x1 : FVec Ideal Cert.ReferenceAdaln1Ideal.S2x2048x1024 .f32) (b : Fin 2) (s : Fin 2048) :
    Cert.ReferenceAdaln1Ideal.Read.val_main_v8 (F := Ideal) x1 (ix3 b s 0) = Cert.Rms.inv len eps (fun k => x1 (ix3 b s k)) := by
  pointwise [Cert.Rms.inv, Cert.ReferenceAdaln1Ideal.Read.val_main_v1, Cert.ReferenceAdaln1Ideal.Read.val_main_v2, Cert.ReferenceAdaln1Ideal.Read.val_main_v3, Cert.ReferenceAdaln1Ideal.Read.val_main_v4, Cert.ReferenceAdaln1Ideal.Read.val_main_v5, Cert.ReferenceAdaln1Ideal.Read.val_main_v6, Cert.ReferenceAdaln1Ideal.Read.val_main_v7, Cert.ReferenceAdaln1Ideal.Read.val_main_v8, Cert.ReferenceAdaln1Ideal.Read.val_main_cst, Cert.ReferenceAdaln1Ideal.Read.val_main_cst_0, Cert.ReferenceAdaln1Ideal.Read.val_main_cst_1, Cert.ReferenceAdaln1Ideal.Read.val_main_cst_2]

theorem ref_nrm (x1 : FVec Ideal Cert.ReferenceAdaln1Ideal.S2x2048x1024 .f32) (b : Fin 2) (s : Fin 2048) (q : Fin 1024) :
    Cert.ReferenceAdaln1Ideal.Read.val_main_v13 (F := Ideal) x1 (ix3 b s q) = nrm (fun k => x1 (ix3 b s k)) q := by
  pointwise [nrm, Cert.ReferenceAdaln1Ideal.Read.val_main_v12, Cert.ReferenceAdaln1Ideal.Read.val_main_v13, ref_inv]

theorem ref_dy (x0 : FVec Ideal Cert.ReferenceAdaln1Ideal.S2x2048x1024 .f32) (x3 : FVec Ideal Cert.ReferenceAdaln1Ideal.S2x1x1024 .f32) (b : Fin 2) (s : Fin 2048) (q : Fin 1024) :
    Cert.ReferenceAdaln1Ideal.Read.val_main_v30 (F := Ideal) x0 x3 (ix3 b s q) = dy (fun k => x0 (ix3 b s k)) (fun k => x3 (ix3 b 0 k)) q := by
  pointwise [dy, Cert.ReferenceAdaln1Ideal.Read.val_main_v17, Cert.ReferenceAdaln1Ideal.Read.val_main_v18, Cert.ReferenceAdaln1Ideal.Read.val_main_v23, Cert.ReferenceAdaln1Ideal.Read.val_main_v29, Cert.ReferenceAdaln1Ideal.Read.val_main_v30, Cert.ReferenceAdaln1Ideal.Read.val_main_cst_4]

theorem ref_back (x0 x1 : FVec Ideal Cert.ReferenceAdaln1Ideal.S2x2048x1024 .f32) (x2 : FVec Ideal Cert.ReferenceAdaln1Ideal.S1x1024 .f32) (x3 : FVec Ideal Cert.ReferenceAdaln1Ideal.S2x1x1024 .f32) (b : Fin 2) (s : Fin 2048) (q : Fin 1024) :
    Cert.ReferenceAdaln1Ideal.Read.val_main_v47 (F := Ideal) x0 x1 x2 x3 (ix3 b s q)
      = Cert.Rms.back len eps (Ideal.ofBits .f32 0xBF000000#32) (fun k => x1 (ix3 b s k))
          (fun k => dy (fun k => x0 (ix3 b s k)) (fun k => x3 (ix3 b 0 k)) k * x2 (ix2 0 k)) := by
  pointwise [Cert.Rms.back, Cert.ReferenceAdaln1Ideal.Read.val_main_v1, Cert.ReferenceAdaln1Ideal.Read.val_main_v2, Cert.ReferenceAdaln1Ideal.Read.val_main_v3, Cert.ReferenceAdaln1Ideal.Read.val_main_v4, Cert.ReferenceAdaln1Ideal.Read.val_main_v5, Cert.ReferenceAdaln1Ideal.Read.val_main_v6, Cert.ReferenceAdaln1Ideal.Read.val_main_v7, Cert.ReferenceAdaln1Ideal.Read.val_main_v9, Cert.ReferenceAdaln1Ideal.Read.val_main_v10, Cert.ReferenceAdaln1Ideal.Read.val_main_v11, Cert.ReferenceAdaln1Ideal.Read.val_main_v14, Cert.ReferenceAdaln1Ideal.Read.val_main_v34, Cert.ReferenceAdaln1Ideal.Read.val_main_v35, Cert.ReferenceAdaln1Ideal.Read.val_main_v38, Cert.ReferenceAdaln1Ideal.Read.val_main_v39, Cert.ReferenceAdaln1Ideal.Read.val_main_v40, Cert.ReferenceAdaln1Ideal.Read.val_main_v43, Cert.ReferenceAdaln1Ideal.Read.val_main_v44, Cert.ReferenceAdaln1Ideal.Read.val_main_v45, Cert.ReferenceAdaln1Ideal.Read.val_main_v46, Cert.ReferenceAdaln1Ideal.Read.val_main_v47, Cert.ReferenceAdaln1Ideal.Read.val_main_cst, Cert.ReferenceAdaln1Ideal.Read.val_main_cst_0, Cert.ReferenceAdaln1Ideal.Read.val_main_cst_1, Cert.ReferenceAdaln1Ideal.Read.val_main_cst_2, Cert.ReferenceAdaln1Ideal.Read.val_main_cst_3, Cert.ReferenceAdaln1Ideal.Read.val_main_cst_4, Cert.ReferenceAdaln1Ideal.Read.val_main_cst_5, Cert.ReferenceAdaln1Ideal.Read.val_main_cst_6, Cert.ReferenceAdaln1Ideal.Read.val_main_cst_7, Cert.ReferenceAdaln1Ideal.Read.val_main_cst_8, Cert.ReferenceAdaln1Ideal.Read.val_main_cst_9, Cert.ReferenceAdaln1Ideal.Read.val_main_cst_10, Cert.ReferenceAdaln1Ideal.Read.val_main_cst_11, ref_dy, ref_inv]
  rw [Fin.sum_univ_one]
  pointwise [ref_inv]

theorem ref_dz (x0 x1 : FVec Ideal Cert.ReferenceAdaln1Ideal.S2x2048x1024 .f32) (x2 : FVec Ideal Cert.ReferenceAdaln1Ideal.S1x1024 .f32) (x3 : FVec Ideal Cert.ReferenceAdaln1Ideal.S2x1x1024 .f32) (x4 : FVec Ideal Cert.ReferenceAdaln1Ideal.S2x2048x1024 .f32) (b : Fin 2) (s : Fin 2048) (q : Fin 1024) :
    Cert.ReferenceAdaln1Ideal.Read.val_main_v52 (F := Ideal) x0 x1 x2 x3 x4 (ix3 b s q)
      = dz (fun k => x1 (ix3 b s k)) (fun k => x2 (ix2 0 k)) (fun k => x0 (ix3 b s k)) (fun k => x3 (ix3 b 0 k)) q + x4 (ix3 b s q) := by
  obtain ⟨e, he, hE⟩ := Cert.Rms.word_eps
  rw [dz, Cert.Rms.grad_eq (by norm_num) he Cert.Rms.word_1024 hE Cert.Rms.word_neg_half]
  pointwise [Cert.ReferenceAdaln1Ideal.Read.val_main_v14, Cert.ReferenceAdaln1Ideal.Read.val_main_v34, Cert.ReferenceAdaln1Ideal.Read.val_main_v35, Cert.ReferenceAdaln1Ideal.Read.val_main_v41, Cert.ReferenceAdaln1Ideal.Read.val_main_v42, Cert.ReferenceAdaln1Ideal.Read.val_main_v48, Cert.ReferenceAdaln1Ideal.Read.val_main_v49, Cert.ReferenceAdaln1Ideal.Read.val_main_v50, Cert.ReferenceAdaln1Ideal.Read.val_main_v51, Cert.ReferenceAdaln1Ideal.Read.val_main_v52, ref_dy, ref_inv, ref_back]

/-- The reference program's sums. -/
theorem ref_dshift (x0 : FVec Ideal Cert.ReferenceAdaln1Ideal.S2x2048x1024 .f32) (b : Fin 2) (q : Fin 1024) :
    Cert.ReferenceAdaln1Ideal.Read.val_main_v25 (F := Ideal) x0 (ix3 b 0 q) = ∑ s : Fin 2048, x0 (ix3 b s q) := by
  pointwise [Cert.ReferenceAdaln1Ideal.Read.val_main_v24, Cert.ReferenceAdaln1Ideal.Read.val_main_v25, Cert.ReferenceAdaln1Ideal.Read.val_main_cst_5]

theorem ref_dscale (x0 x1 : FVec Ideal Cert.ReferenceAdaln1Ideal.S2x2048x1024 .f32) (x2 : FVec Ideal Cert.ReferenceAdaln1Ideal.S1x1024 .f32) (b : Fin 2) (q : Fin 1024) :
    Cert.ReferenceAdaln1Ideal.Read.val_main_v28 (F := Ideal) x0 x1 x2 (ix3 b 0 q)
      = ∑ s : Fin 2048, x0 (ix3 b s q) * (nrm (fun k => x1 (ix3 b s k)) q * x2 (ix2 0 q)) := by
  pointwise [Cert.ReferenceAdaln1Ideal.Read.val_main_v27, Cert.ReferenceAdaln1Ideal.Read.val_main_v28, Cert.ReferenceAdaln1Ideal.Read.val_main_cst_6]
  refine Finset.sum_congr rfl fun s _ => ?_
  pointwise [Cert.ReferenceAdaln1Ideal.Read.val_main_v26, Cert.ReferenceAdaln1Ideal.Read.val_main_v23, Cert.ReferenceAdaln1Ideal.Read.val_main_v16, Cert.ReferenceAdaln1Ideal.Read.val_main_v15, Cert.ReferenceAdaln1Ideal.Read.val_main_v14, ref_nrm]
  exact mul_comm _ _

theorem ref_dgain (x0 x1 : FVec Ideal Cert.ReferenceAdaln1Ideal.S2x2048x1024 .f32) (x3 : FVec Ideal Cert.ReferenceAdaln1Ideal.S2x1x1024 .f32) (q : Fin 1024) :
    Cert.ReferenceAdaln1Ideal.Read.val_main_v37 (F := Ideal) x0 x1 x3 (ix2 0 q)
      = ∑ b : Fin 2, ∑ s : Fin 2048, dy (fun k => x0 (ix3 b s k)) (fun k => x3 (ix3 b 0 k)) q * nrm (fun k => x1 (ix3 b s k)) q := by
  pointwise [Cert.ReferenceAdaln1Ideal.Read.val_main_v37, Cert.ReferenceAdaln1Ideal.Read.val_main_v36, Cert.ReferenceAdaln1Ideal.Read.val_main_v33, Cert.ReferenceAdaln1Ideal.Read.val_main_v32, Cert.ReferenceAdaln1Ideal.Read.val_main_cst_7, Cert.ReferenceAdaln1Ideal.Read.val_main_cst_8]
  rw [Cert.Sums.reduce_lead, zero_add, Fin.sum_univ_one, Fin.sum_univ_one]
  pointwise [Cert.ReferenceAdaln1Ideal.Read.val_main_v33, Cert.ReferenceAdaln1Ideal.Read.val_main_v32, Cert.ReferenceAdaln1Ideal.Read.val_main_cst_7, Cert.ReferenceAdaln1Ideal.Read.val_main_cst_8]
  rw [Cert.Sums.reduce_lead, zero_add]
  refine Finset.sum_congr rfl fun b _ => Finset.sum_congr rfl fun s _ => ?_
  rw [mul_comm]
  pointwise [Cert.ReferenceAdaln1Ideal.Read.val_main_v31]
  rw [ref_nrm, ref_dy]

/-- The rows of the arguments. -/
abbrev cot (c : Dev nD) (b : Fin 2) (s : Fin 2048) (k : Fin 1024) : EReal :=
  (m ((c : Thread nD τ).loc main_arg0) : FVec Ideal S2x2048x1024 .f32) (ix3 b s k)
abbrev arg (c : Dev nD) (b : Fin 2) (s : Fin 2048) (k : Fin 1024) : EReal :=
  (m ((c : Thread nD τ).loc main_arg1) : FVec Ideal S2x2048x1024 .f32) (ix3 b s k)
abbrev gain (c : Dev nD) (k : Fin 1024) : EReal := (m ((c : Thread nD τ).loc main_arg2) : FVec Ideal S1x1024 .f32) (ix2 0 k)
abbrev scale (c : Dev nD) (b : Fin 2) (k : Fin 1024) : EReal :=
  (m ((c : Thread nD τ).loc main_arg3) : FVec Ideal S2x1x1024 .f32) (ix3 b 0 k)
abbrev res (c : Dev nD) (b : Fin 2) (s : Fin 2048) (k : Fin 1024) : EReal :=
  (m ((c : Thread nD τ).loc main_arg4) : FVec Ideal S2x2048x1024 .f32) (ix3 b s k)

/-- The rows that a grid step reads. -/
theorem cot_block (c : Dev nD) (t : Fin cfg0.N) (r : Fin 512) :
    (fun k : Fin 1024 => (iblk m c 0 t : Vec Ideal S1x512x1024 .f32) (ix3 0 r k)) = cot m c ⟨t.val / 4, by have : t.val < 8 := t.isLt; omega⟩ ⟨t.val % 4 * 512 + r.val, by omega⟩ := by
  funext k
  blk_point [iblk, V, idx t]

theorem arg_block (c : Dev nD) (t : Fin cfg0.N) (r : Fin 512) :
    (fun k : Fin 1024 => (iblk m c 1 t : Vec Ideal S1x512x1024 .f32) (ix3 0 r k)) = arg m c ⟨t.val / 4, by have : t.val < 8 := t.isLt; omega⟩ ⟨t.val % 4 * 512 + r.val, by omega⟩ := by
  funext k
  blk_point [iblk, V, idx t]

theorem gain_block (c : Dev nD) (t : Fin cfg0.N) :
    (fun k : Fin 1024 => (iblk m c 2 t : Vec Ideal S1x1024 .f32) (ix2 0 k)) = gain m c := by
  funext k
  blk_point [iblk, V, idx t]

theorem scale_block (c : Dev nD) (t : Fin cfg0.N) :
    (fun k : Fin 1024 => (iblk m c 3 t : Vec Ideal S1x1x1024 .f32) (ix3 0 0 k)) = scale m c ⟨t.val / 4, by have : t.val < 8 := t.isLt; omega⟩ := by
  funext k
  blk_point [iblk, V, idx t]

theorem dz_block (c : Dev nD) (t : Fin cfg0.N) (r : Fin 512) (q : Fin 1024) :
    k0_pay8 (iblk m c 1 t) (iblk m c 0 t) (iblk m c 2 t) (iblk m c 3 t) (iblk m c 4 t) (ix2 r q)
      = dz (arg m c ⟨t.val / 4, by have : t.val < 8 := t.isLt; omega⟩ ⟨t.val % 4 * 512 + r.val, by omega⟩) (gain m c) (cot m c ⟨t.val / 4, by have : t.val < 8 := t.isLt; omega⟩ ⟨t.val % 4 * 512 + r.val, by omega⟩) (scale m c ⟨t.val / 4, by have : t.val < 8 := t.isLt; omega⟩) q
        + (iblk m c 4 t : Vec Ideal S1x512x1024 .f32) (ix3 0 r q) := by
  rw [pay8_apply, arg_block, gain_block, cot_block, scale_block]

theorem dy_block (c : Dev nD) (t : Fin cfg0.N) (r : Fin 512) (q : Fin 1024) :
    k0_pay7 (iblk m c 0 t) (iblk m c 3 t) (ix2 r q)
      = dy (cot m c ⟨t.val / 4, by have : t.val < 8 := t.isLt; omega⟩ ⟨t.val % 4 * 512 + r.val, by omega⟩) (scale m c ⟨t.val / 4, by have : t.val < 8 := t.isLt; omega⟩) q := by
  rw [pay7_apply, cot_block, scale_block]

theorem nrm_block (c : Dev nD) (t : Fin cfg0.N) (r : Fin 512) (q : Fin 1024) :
    k0_pay5 (iblk m c 1 t) (ix2 r q) = nrm (arg m c ⟨t.val / 4, by have : t.val < 8 := t.isLt; omega⟩ ⟨t.val % 4 * 512 + r.val, by omega⟩) q := by
  rw [pay5_apply, arg_block]

theorem cot_value (c : Dev nD) (t : Fin cfg0.N) (r : Fin 512) (q : Fin 1024) :
    k0_pay3 (iblk m c 0 t) (ix2 r q) = cot m c ⟨t.val / 4, by have : t.val < 8 := t.isLt; omega⟩ ⟨t.val % 4 * 512 + r.val, by omega⟩ q := by
  refine Eq.trans ?_ (congrFun (cot_block m c t r) q)
  pointwise [k0_pay3]

theorem scaled_block (c : Dev nD) (t : Fin cfg0.N) (r : Fin 512) (q : Fin 1024) :
    k0_pay6 (iblk m c 1 t) (iblk m c 2 t) (ix2 r q) = nrm (arg m c ⟨t.val / 4, by have : t.val < 8 := t.isLt; omega⟩ ⟨t.val % 4 * 512 + r.val, by omega⟩) q * gain m c q := by
  refine Eq.trans ?_ (congrArg₂ (fun a b : EReal => a * b) (nrm_block m c t r q) (congrFun (gain_block m c t) q))
  pointwise [k0_pay6]

/-- A value of a batch, a row and a column depends on their numbers alone. -/
theorem at_congr (f : Fin 2 → Fin 2048 → Fin 1024 → EReal) {b b' : Fin 2} {s s' : Fin 2048} {q q' : Fin 1024}
    (hb : b.val = b'.val) (hs : s.val = s'.val) (hq : q.val = q'.val) : f b s q = f b' s' q' := by
  rw [Fin.ext hb, Fin.ext hs, Fin.ext hq]

theorem tile_5 (c : Dev nD) (t : Fin cfg0.N) (y : S1x512x1024.Idx) : (outsAt0 m c t.val t.isLt).1 y
    = k0_pay8 (iblk m c 1 t) (iblk m c 0 t) (iblk m c 2 t) (iblk m c 3 t) (iblk m c 4 t) (ix2 (y 1) (y 2)) := by
  by_cases h0 : t.val % 4 = 0
  · by_cases h1 : t.val % 8 = 0
    · rw [outsAt0_A m c t h0 h1]
      frame_out
      pointwise [k0_pay9]
    · rw [outsAt0_C m c t h0 h1]
      frame_out
      pointwise [k0_pay9]
  · rw [outsAt0_B m c t h0 (by omega)]
    frame_out
    pointwise [k0_pay9]

/-- The gradient of the input. -/
theorem final_5 (c : Dev nD) : (dats m 0 c).arrAt 5 (cfgs 0).N = Cert.ReferenceAdaln1Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine ((tile_5 m c t y).trans (dz_block m c t _ _)).trans ?_
  refine (congrArg (fun a : EReal => dz _ _ _ _ _ + a) ?_).trans ((ref_dz (m ((c : Thread nD τ).loc main_arg0)) (m ((c : Thread nD τ).loc main_arg1)) (m ((c : Thread nD τ).loc main_arg2)) (m ((c : Thread nD τ).loc main_arg3)) (m ((c : Thread nD τ).loc main_arg4)) _ _ _).symm.trans ?_)
  all_goals blk_point [iblk, V, idx t]

/-- The gradient of the shift. -/
theorem final_6 (c : Dev nD) : (dats m 0 c).arrAt 6 (cfgs 0).N = Cert.ReferenceAdaln1Ideal.Read.val_main_v25 (F := Ideal) (m ((c : Thread nD τ).loc main_arg0)) := by
  refine (dats m 0 c).arrAt_eq_of_covers 6 _ (by decide +kernel) fun t hf y => ?_
  blk_simp
  rw [after0_6, Pipeline.eq_sum_fin_of_reset_step_apply_of_flush (fun n h => (outsAt0 m c n h).2.1) 4 (fun _ => 0)
      (fun t j => ∑ r : Fin 512, (iblk m c 0 t : Vec Ideal S1x512x1024 .f32) (ix3 0 r (j 2)))
      (fun t h0 j => by
        by_cases h1 : t.val % 8 = 0
        · rw [outsAt0_A m c t h0 h1]
          frame_out
          pointwise [k0_pay13, k0_pay3, k0_pay10]
        · rw [outsAt0_C m c t h0 h1]
          frame_out
          pointwise [k0_pay13, k0_pay3, k0_pay10])
      (fun t h0 j => by
        rw [outsAt0_B m c t h0 (by omega)]
        frame_out
        pointwise [k0_pay13, k0_pay3])
      t ((flush0_6 t).mp hf) _, zero_add]
  have ht : t.val < 8 := t.isLt
  refine Eq.trans ?_ ((ref_dshift (m ((c : Thread nD τ).loc main_arg0)) ⟨t.val / 4, by omega⟩ (y 2)).symm.trans ?_)
  · refine Fin.sum_mul_add_congr fun s k hl => ?_
    have hs : s.val < 4 := s.isLt
    have e1 : (4 * (t.val / 4) + s.val) / 4 = t.val / 4 := by omega
    have e2 : (4 * (t.val / 4) + s.val) % 4 * 512 + k.val = s.val * 512 + k.val := by omega
    exact (congrFun (cot_block m c _ k) _).trans (at_congr (cot m c) e1 e2 rfl)
  · blk_point [idx t]

/-- The gradient of the scale. -/
theorem final_7 (c : Dev nD) : (dats m 0 c).arrAt 7 (cfgs 0).N = Cert.ReferenceAdaln1Ideal.Read.val_main_v28 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, Pipeline.eq_sum_fin_of_reset_step_apply_of_flush (fun n h => (outsAt0 m c n h).2.2.1) 4 (fun _ => 0)
      (fun t j => ∑ r : Fin 512, k0_pay3 (iblk m c 0 t) (ix2 r (j 2)) * k0_pay6 (iblk m c 1 t) (iblk m c 2 t) (ix2 r (j 2)))
      (fun t h0 j => by
        by_cases h1 : t.val % 8 = 0
        · rw [outsAt0_A m c t h0 h1]
          frame_out
          pointwise [k0_pay14, k0_pay11]
        · rw [outsAt0_C m c t h0 h1]
          frame_out
          pointwise [k0_pay14, k0_pay11])
      (fun t h0 j => by
        rw [outsAt0_B m c t h0 (by omega)]
        frame_out
        pointwise [k0_pay14])
      t ((flush0_7 t).mp hf) _, zero_add]
  have ht : t.val < 8 := t.isLt
  refine Eq.trans ?_ ((ref_dscale (m ((c : Thread nD τ).loc main_arg0)) (m ((c : Thread nD τ).loc main_arg1)) (m ((c : Thread nD τ).loc main_arg2)) ⟨t.val / 4, by omega⟩ (y 2)).symm.trans ?_)
  · refine Fin.sum_mul_add_congr fun s k hl => ?_
    have hs : s.val < 4 := s.isLt
    have e1 : (4 * (t.val / 4) + s.val) / 4 = t.val / 4 := by omega
    have e2 : (4 * (t.val / 4) + s.val) % 4 * 512 + k.val = s.val * 512 + k.val := by omega
    exact congrArg₂ (fun a b : EReal => a * b) ((cot_value m c _ k _).trans (at_congr (cot m c) e1 e2 rfl))
      ((scaled_block m c _ k _).trans (congrArg (fun a : EReal => a * gain m c (y 2)) (at_congr (fun b s => nrm (arg m c b s)) e1 e2 rfl)))
  · blk_point [idx t]

/-- The gradient of the gain. -/
theorem final_8 (c : Dev nD) : (dats m 0 c).arrAt 8 (cfgs 0).N = Cert.ReferenceAdaln1Ideal.Read.val_main_v37 (F := Ideal) (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  rw [after0_8, Pipeline.eq_sum_fin_of_reset_step_apply_of_flush (fun n h => (outsAt0 m c n h).2.2.2) 8 (fun _ => 0)
      (fun t j => ∑ r : Fin 512, k0_pay7 (iblk m c 0 t) (iblk m c 3 t) (ix2 r (j 1)) * k0_pay5 (iblk m c 1 t) (ix2 r (j 1)))
      (fun t h0 j => by
        rw [outsAt0_A m c t (by omega) h0]
        frame_out
        pointwise [k0_pay1, k0_pay15, k0_pay16, k0_pay12])
      (fun t h0 j => by
        by_cases h1 : t.val % 4 = 0
        · rw [outsAt0_C m c t h1 h0]
          frame_out
          pointwise [k0_pay1, k0_pay15, k0_pay16]
        · rw [outsAt0_B m c t h1 h0]
          frame_out
          pointwise [k0_pay1, k0_pay15, k0_pay16])
      t ((flush0_8 t).mp hf) _, zero_add]
  have ht : t.val < 8 := t.isLt
  refine Eq.trans ?_ ((ref_dgain (m ((c : Thread nD τ).loc main_arg0)) (m ((c : Thread nD τ).loc main_arg1)) (m ((c : Thread nD τ).loc main_arg3)) (y 1)).symm.trans ?_)
  · refine Fin.sum_points_lanes_congr 4 fun s k ha hl => ?_
    have e1 : (8 * (t.val / 8) + s.val) / 4 = s.val / 4 := by omega
    have e2 : (8 * (t.val / 8) + s.val) % 4 * 512 + k.val = s.val % 4 * 512 + k.val := by omega
    exact congrArg₂ (fun a b : EReal => a * b) ((dy_block m c _ k _).trans (at_congr (fun b s => dy (cot m c b s) (scale m c b)) e1 e2 rfl))
      ((nrm_block m c _ k _).trans (at_congr (fun b s => nrm (arg m c b s)) e1 e2 rfl))
  · blk_point [idx t]

end Cert.Adaln1
end
-- ==== Proof.Adaln2.lean ====
module

public import proofs.«01_k».proof.Proof.Gen.KernelAdaln2Ideal.Frame
public import proofs.«01_k».proof.Proof.Gen.ReferenceAdaln2Ideal.Read
public import proofs.«01_k».proof.Proof.Rms
public import proofs.«01_k».proof.Proof.Sums
public import Idealize.ShloMosaic.Lib.Pipeline.ValueKit
public import Idealize.ShloMosaic.Lib.Pipeline.ReadBack
public import Idealize.ShloMosaic.Lib.Pointwise
public import Idealize.ShloMosaic.Lib.Claim

/-! The gradients of the modulated normalisation in front of the feed-forward block, with the residual's gradient added,
and of the gate and the product in front of them: by 512 rows a grid step. -/

@[expose] public section

set_option maxRecDepth 16384

noncomputable section

open Idealize.ShloMosaic Idealize.ShloMosaic.TcCoe Idealize.SL.Sem
open scoped BigOperators

namespace Cert.Adaln2

open Cert.KernelAdaln2Ideal Cert.KernelAdaln2Ideal.Gen

variable (m : (ℓ : Loc nD τ sig) → Buf (Elt Ideal) ℓ)

/-- Which tile each window holds at each grid step. -/
theorem idx : ∀ t : Fin cfg0.N, win0_0.index t = ![t.val / 4, t.val % 4, 0]
    ∧ win0_1.index t = ![t.val / 4, t.val % 4, 0]
    ∧ win0_2.index t = ![0, 0]
    ∧ win0_3.index t = ![t.val / 4, 0, 0]
    ∧ win0_4.index t = ![t.val / 4, t.val % 4, 0]
    ∧ win0_5.index t = ![t.val / 4, t.val % 4, 0]
    ∧ win0_6.index t = ![t.val / 4, 0, 0]
    ∧ win0_7.index t = ![t.val / 4, t.val % 4, 0]
    ∧ win0_8.index t = ![t.val / 4, 0, 0]
    ∧ win0_9.index t = ![t.val / 4, 0, 0]
    ∧ win0_10.index t = ![0, 0]
    ∧ win0_11.index t = ![t.val / 4, 0, 0]
    ∧ win0_12.index t = ![t.val / 4, t.val % 4, 0] :=
  (by decide +kernel : ∀ t : Fin grid0.N, _)

/-- The length of a row, and what is added to the mean of its squares. -/
abbrev len : EReal := Ideal.ofBits .f32 0x44800000#32
abbrev eps : EReal := Ideal.ofBits .f32 0x358637BD#32

/-- The gradient of a row behind the normalisation and its gain: the modulation's. -/
def dy (h c : Fin 1024 → EReal) (q : Fin 1024) : EReal := h q * (Ideal.ofBits .f32 0x3F800000#32 + c q)

/-- A row behind the normalisation. -/
def nrm (z : Fin 1024 → EReal) (q : Fin 1024) : EReal := z q * Cert.Rms.inv len eps z

/-- The gradient of a row before the normalisation. -/
def dz (z g h c : Fin 1024 → EReal) (q : Fin 1024) : EReal := Cert.Rms.grad len eps z (fun k => dy h c k * g k) q

/-- What a grid step computes, element by element. -/
theorem pay6_apply (b : Vec Ideal S1x512x1024 .f32) (r : Fin 512) :
    k0_pay6 b (ix2 r 0) = Cert.Rms.inv len eps (fun k => b (ix3 0 r k)) := by
  pointwise [k0_pay6, k0_pay4, Cert.Rms.inv]

theorem pay7_apply (b : Vec Ideal S1x512x1024 .f32) (r : Fin 512) (q : Fin 1024) :
    k0_pay7 b (ix2 r q) = nrm (fun k => b (ix3 0 r k)) q := by
  pointwise [k0_pay7, k0_pay4, nrm, pay6_apply]

theorem pay9_apply (h : Vec Ideal S1x512x1024 .f32) (c : Vec Ideal S1x1x1024 .f32) (r : Fin 512) (q : Fin 1024) :
    k0_pay9 h c (ix2 r q) = dy (fun k => h (ix3 0 r k)) (fun k => c (ix3 0 0 k)) q := by
  pointwise [k0_pay9, k0_pay5, dy]

theorem pay10_apply (z h : Vec Ideal S1x512x1024 .f32) (g : Vec Ideal S1x1024 .f32) (c : Vec Ideal S1x1x1024 .f32)
    (e : Vec Ideal S1x512x1024 .f32) (r : Fin 512) (q : Fin 1024) :
    k0_pay10 z h g c e (ix2 r q)
      = dz (fun k => z (ix3 0 r k)) (fun k => g (ix2 0 k)) (fun k => h (ix3 0 r k)) (fun k => c (ix3 0 0 k)) q + e (ix3 0 r q) := by
  pointwise [k0_pay10, pay6_apply, pay7_apply, pay9_apply, dz, nrm, Cert.Rms.grad]

/-- The reference program, element by element. -/
theorem ref_inv (x1 : FVec Ideal Cert.ReferenceAdaln2Ideal.S2x2048x1024 .f32) (b : Fin 2) (s : Fin 2048) :
    Cert.ReferenceAdaln2Ideal.Read.val_main_v8 (F := Ideal) x1 (ix3 b s 0) = Cert.Rms.inv len eps (fun k => x1 (ix3 b s k)) := by
  pointwise [Cert.Rms.inv, Cert.ReferenceAdaln2Ideal.Read.val_main_v1, Cert.ReferenceAdaln2Ideal.Read.val_main_v2, Cert.ReferenceAdaln2Ideal.Read.val_main_v3, Cert.ReferenceAdaln2Ideal.Read.val_main_v4, Cert.ReferenceAdaln2Ideal.Read.val_main_v5, Cert.ReferenceAdaln2Ideal.Read.val_main_v6, Cert.ReferenceAdaln2Ideal.Read.val_main_v7, Cert.ReferenceAdaln2Ideal.Read.val_main_v8, Cert.ReferenceAdaln2Ideal.Read.val_main_cst, Cert.ReferenceAdaln2Ideal.Read.val_main_cst_0, Cert.ReferenceAdaln2Ideal.Read.val_main_cst_1, Cert.ReferenceAdaln2Ideal.Read.val_main_cst_2]

theorem ref_nrm (x1 : FVec Ideal Cert.ReferenceAdaln2Ideal.S2x2048x1024 .f32) (b : Fin 2) (s : Fin 2048) (q : Fin 1024) :
    Cert.ReferenceAdaln2Ideal.Read.val_main_v13 (F := Ideal) x1 (ix3 b s q) = nrm (fun k => x1 (ix3 b s k)) q := by
  pointwise [nrm, Cert.ReferenceAdaln2Ideal.Read.val_main_v12, Cert.ReferenceAdaln2Ideal.Read.val_main_v13, ref_inv]

theorem ref_dy (x0 : FVec Ideal Cert.ReferenceAdaln2Ideal.S2x2048x1024 .f32) (x3 : FVec Ideal Cert.ReferenceAdaln2Ideal.S2x1x1024 .f32) (b : Fin 2) (s : Fin 2048) (q : Fin 1024) :
    Cert.ReferenceAdaln2Ideal.Read.val_main_v30 (F := Ideal) x0 x3 (ix3 b s q) = dy (fun k => x0 (ix3 b s k)) (fun k => x3 (ix3 b 0 k)) q := by
  pointwise [dy, Cert.ReferenceAdaln2Ideal.Read.val_main_v17, Cert.ReferenceAdaln2Ideal.Read.val_main_v18, Cert.ReferenceAdaln2Ideal.Read.val_main_v23, Cert.ReferenceAdaln2Ideal.Read.val_main_v29, Cert.ReferenceAdaln2Ideal.Read.val_main_v30, Cert.ReferenceAdaln2Ideal.Read.val_main_cst_4]

theorem ref_back (x0 x1 : FVec Ideal Cert.ReferenceAdaln2Ideal.S2x2048x1024 .f32) (x2 : FVec Ideal Cert.ReferenceAdaln2Ideal.S1x1024 .f32) (x3 : FVec Ideal Cert.ReferenceAdaln2Ideal.S2x1x1024 .f32) (b : Fin 2) (s : Fin 2048) (q : Fin 1024) :
    Cert.ReferenceAdaln2Ideal.Read.val_main_v47 (F := Ideal) x0 x1 x2 x3 (ix3 b s q)
      = Cert.Rms.back len eps (Ideal.ofBits .f32 0xBF000000#32) (fun k => x1 (ix3 b s k))
          (fun k => dy (fun k => x0 (ix3 b s k)) (fun k => x3 (ix3 b 0 k)) k * x2 (ix2 0 k)) := by
  pointwise [Cert.Rms.back, Cert.ReferenceAdaln2Ideal.Read.val_main_v1, Cert.ReferenceAdaln2Ideal.Read.val_main_v2, Cert.ReferenceAdaln2Ideal.Read.val_main_v3, Cert.ReferenceAdaln2Ideal.Read.val_main_v4, Cert.ReferenceAdaln2Ideal.Read.val_main_v5, Cert.ReferenceAdaln2Ideal.Read.val_main_v6, Cert.ReferenceAdaln2Ideal.Read.val_main_v7, Cert.ReferenceAdaln2Ideal.Read.val_main_v9, Cert.ReferenceAdaln2Ideal.Read.val_main_v10, Cert.ReferenceAdaln2Ideal.Read.val_main_v11, Cert.ReferenceAdaln2Ideal.Read.val_main_v14, Cert.ReferenceAdaln2Ideal.Read.val_main_v34, Cert.ReferenceAdaln2Ideal.Read.val_main_v35, Cert.ReferenceAdaln2Ideal.Read.val_main_v38, Cert.ReferenceAdaln2Ideal.Read.val_main_v39, Cert.ReferenceAdaln2Ideal.Read.val_main_v40, Cert.ReferenceAdaln2Ideal.Read.val_main_v43, Cert.ReferenceAdaln2Ideal.Read.val_main_v44, Cert.ReferenceAdaln2Ideal.Read.val_main_v45, Cert.ReferenceAdaln2Ideal.Read.val_main_v46, Cert.ReferenceAdaln2Ideal.Read.val_main_v47, Cert.ReferenceAdaln2Ideal.Read.val_main_cst, Cert.ReferenceAdaln2Ideal.Read.val_main_cst_0, Cert.ReferenceAdaln2Ideal.Read.val_main_cst_1, Cert.ReferenceAdaln2Ideal.Read.val_main_cst_2, Cert.ReferenceAdaln2Ideal.Read.val_main_cst_3, Cert.ReferenceAdaln2Ideal.Read.val_main_cst_4, Cert.ReferenceAdaln2Ideal.Read.val_main_cst_5, Cert.ReferenceAdaln2Ideal.Read.val_main_cst_6, Cert.ReferenceAdaln2Ideal.Read.val_main_cst_7, Cert.ReferenceAdaln2Ideal.Read.val_main_cst_8, Cert.ReferenceAdaln2Ideal.Read.val_main_cst_9, Cert.ReferenceAdaln2Ideal.Read.val_main_cst_10, Cert.ReferenceAdaln2Ideal.Read.val_main_cst_11, ref_dy, ref_inv]
  rw [Fin.sum_univ_one]
  pointwise [ref_inv]

theorem ref_dz (x0 x1 : FVec Ideal Cert.ReferenceAdaln2Ideal.S2x2048x1024 .f32) (x2 : FVec Ideal Cert.ReferenceAdaln2Ideal.S1x1024 .f32) (x3 : FVec Ideal Cert.ReferenceAdaln2Ideal.S2x1x1024 .f32) (x4 : FVec Ideal Cert.ReferenceAdaln2Ideal.S2x2048x1024 .f32) (b : Fin 2) (s : Fin 2048) (q : Fin 1024) :
    Cert.ReferenceAdaln2Ideal.Read.val_main_v52 (F := Ideal) x0 x1 x2 x3 x4 (ix3 b s q)
      = dz (fun k => x1 (ix3 b s k)) (fun k => x2 (ix2 0 k)) (fun k => x0 (ix3 b s k)) (fun k => x3 (ix3 b 0 k)) q + x4 (ix3 b s q) := by
  obtain ⟨e, he, hE⟩ := Cert.Rms.word_eps
  rw [dz, Cert.Rms.grad_eq (by norm_num) he Cert.Rms.word_1024 hE Cert.Rms.word_neg_half]
  pointwise [Cert.ReferenceAdaln2Ideal.Read.val_main_v14, Cert.ReferenceAdaln2Ideal.Read.val_main_v34, Cert.ReferenceAdaln2Ideal.Read.val_main_v35, Cert.ReferenceAdaln2Ideal.Read.val_main_v41, Cert.ReferenceAdaln2Ideal.Read.val_main_v42, Cert.ReferenceAdaln2Ideal.Read.val_main_v48, Cert.ReferenceAdaln2Ideal.Read.val_main_v49, Cert.ReferenceAdaln2Ideal.Read.val_main_v50, Cert.ReferenceAdaln2Ideal.Read.val_main_v51, Cert.ReferenceAdaln2Ideal.Read.val_main_v52, ref_dy, ref_inv, ref_back]

/-- The reference program's sums. -/
theorem ref_dshift (x0 : FVec Ideal Cert.ReferenceAdaln2Ideal.S2x2048x1024 .f32) (b : Fin 2) (q : Fin 1024) :
    Cert.ReferenceAdaln2Ideal.Read.val_main_v25 (F := Ideal) x0 (ix3 b 0 q) = ∑ s : Fin 2048, x0 (ix3 b s q) := by
  pointwise [Cert.ReferenceAdaln2Ideal.Read.val_main_v24, Cert.ReferenceAdaln2Ideal.Read.val_main_v25, Cert.ReferenceAdaln2Ideal.Read.val_main_cst_5]

theorem ref_dscale (x0 x1 : FVec Ideal Cert.ReferenceAdaln2Ideal.S2x2048x1024 .f32) (x2 : FVec Ideal Cert.ReferenceAdaln2Ideal.S1x1024 .f32) (b : Fin 2) (q : Fin 1024) :
    Cert.ReferenceAdaln2Ideal.Read.val_main_v28 (F := Ideal) x0 x1 x2 (ix3 b 0 q)
      = ∑ s : Fin 2048, x0 (ix3 b s q) * (nrm (fun k => x1 (ix3 b s k)) q * x2 (ix2 0 q)) := by
  pointwise [Cert.ReferenceAdaln2Ideal.Read.val_main_v27, Cert.ReferenceAdaln2Ideal.Read.val_main_v28, Cert.ReferenceAdaln2Ideal.Read.val_main_cst_6]
  refine Finset.sum_congr rfl fun s _ => ?_
  pointwise [Cert.ReferenceAdaln2Ideal.Read.val_main_v26, Cert.ReferenceAdaln2Ideal.Read.val_main_v23, Cert.ReferenceAdaln2Ideal.Read.val_main_v16, Cert.ReferenceAdaln2Ideal.Read.val_main_v15, Cert.ReferenceAdaln2Ideal.Read.val_main_v14, ref_nrm]
  exact mul_comm _ _

theorem ref_dgain (x0 x1 : FVec Ideal Cert.ReferenceAdaln2Ideal.S2x2048x1024 .f32) (x3 : FVec Ideal Cert.ReferenceAdaln2Ideal.S2x1x1024 .f32) (q : Fin 1024) :
    Cert.ReferenceAdaln2Ideal.Read.val_main_v37 (F := Ideal) x0 x1 x3 (ix2 0 q)
      = ∑ b : Fin 2, ∑ s : Fin 2048, dy (fun k => x0 (ix3 b s k)) (fun k => x3 (ix3 b 0 k)) q * nrm (fun k => x1 (ix3 b s k)) q := by
  pointwise [Cert.ReferenceAdaln2Ideal.Read.val_main_v37, Cert.ReferenceAdaln2Ideal.Read.val_main_v36, Cert.ReferenceAdaln2Ideal.Read.val_main_v33, Cert.ReferenceAdaln2Ideal.Read.val_main_v32, Cert.ReferenceAdaln2Ideal.Read.val_main_cst_7, Cert.ReferenceAdaln2Ideal.Read.val_main_cst_8]
  rw [Cert.Sums.reduce_lead, zero_add, Fin.sum_univ_one, Fin.sum_univ_one]
  pointwise [Cert.ReferenceAdaln2Ideal.Read.val_main_v33, Cert.ReferenceAdaln2Ideal.Read.val_main_v32, Cert.ReferenceAdaln2Ideal.Read.val_main_cst_7, Cert.ReferenceAdaln2Ideal.Read.val_main_cst_8]
  rw [Cert.Sums.reduce_lead, zero_add]
  refine Finset.sum_congr rfl fun b _ => Finset.sum_congr rfl fun s _ => ?_
  rw [mul_comm]
  pointwise [Cert.ReferenceAdaln2Ideal.Read.val_main_v31]
  rw [ref_nrm, ref_dy]

/-- The gradients of the gate and of the product that it scales, from the gradient of the input. -/
theorem ref_dgate (x0 x1 : FVec Ideal Cert.ReferenceAdaln2Ideal.S2x2048x1024 .f32) (x2 : FVec Ideal Cert.ReferenceAdaln2Ideal.S1x1024 .f32) (x3 : FVec Ideal Cert.ReferenceAdaln2Ideal.S2x1x1024 .f32) (x4 x5 : FVec Ideal Cert.ReferenceAdaln2Ideal.S2x2048x1024 .f32) (b : Fin 2) (q : Fin 1024) :
    Cert.ReferenceAdaln2Ideal.Read.val_main_v59 (F := Ideal) x0 x1 x2 x3 x4 x5 (ix3 b 0 q)
      = ∑ s : Fin 2048, (dz (fun k => x1 (ix3 b s k)) (fun k => x2 (ix2 0 k)) (fun k => x0 (ix3 b s k)) (fun k => x3 (ix3 b 0 k)) q + x4 (ix3 b s q)) * x5 (ix3 b s q) := by
  pointwise [Cert.ReferenceAdaln2Ideal.Read.val_main_v58, Cert.ReferenceAdaln2Ideal.Read.val_main_v59, Cert.ReferenceAdaln2Ideal.Read.val_main_cst_12]
  refine Finset.sum_congr rfl fun s _ => ?_
  pointwise [Cert.ReferenceAdaln2Ideal.Read.val_main_v57, ref_dz]

theorem ref_dprod (x0 x1 : FVec Ideal Cert.ReferenceAdaln2Ideal.S2x2048x1024 .f32) (x2 : FVec Ideal Cert.ReferenceAdaln2Ideal.S1x1024 .f32) (x3 : FVec Ideal Cert.ReferenceAdaln2Ideal.S2x1x1024 .f32) (x4 : FVec Ideal Cert.ReferenceAdaln2Ideal.S2x2048x1024 .f32) (x6 : FVec Ideal Cert.ReferenceAdaln2Ideal.S2x1x1024 .f32) (b : Fin 2) (s : Fin 2048) (q : Fin 1024) :
    Cert.ReferenceAdaln2Ideal.Read.val_main_v60 (F := Ideal) x0 x1 x2 x3 x4 x6 (ix3 b s q)
      = (dz (fun k => x1 (ix3 b s k)) (fun k => x2 (ix2 0 k)) (fun k => x0 (ix3 b s k)) (fun k => x3 (ix3 b 0 k)) q + x4 (ix3 b s q)) * x6 (ix3 b 0 q) := by
  pointwise [Cert.ReferenceAdaln2Ideal.Read.val_main_v60, Cert.ReferenceAdaln2Ideal.Read.val_main_v56, Cert.ReferenceAdaln2Ideal.Read.val_main_v55, ref_dz]
  exact mul_comm _ _

/-- The rows of the arguments. -/
abbrev cot (c : Dev nD) (b : Fin 2) (s : Fin 2048) (k : Fin 1024) : EReal :=
  (m ((c : Thread nD τ).loc main_arg0) : FVec Ideal S2x2048x1024 .f32) (ix3 b s k)
abbrev arg (c : Dev nD) (b : Fin 2) (s : Fin 2048) (k : Fin 1024) : EReal :=
  (m ((c : Thread nD τ).loc main_arg1) : FVec Ideal S2x2048x1024 .f32) (ix3 b s k)
abbrev gain (c : Dev nD) (k : Fin 1024) : EReal := (m ((c : Thread nD τ).loc main_arg2) : FVec Ideal S1x1024 .f32) (ix2 0 k)
abbrev scale (c : Dev nD) (b : Fin 2) (k : Fin 1024) : EReal :=
  (m ((c : Thread nD τ).loc main_arg3) : FVec Ideal S2x1x1024 .f32) (ix3 b 0 k)
abbrev res (c : Dev nD) (b : Fin 2) (s : Fin 2048) (k : Fin 1024) : EReal :=
  (m ((c : Thread nD τ).loc main_arg4) : FVec Ideal S2x2048x1024 .f32) (ix3 b s k)

abbrev prod (c : Dev nD) (b : Fin 2) (s : Fin 2048) (k : Fin 1024) : EReal :=
  (m ((c : Thread nD τ).loc main_arg5) : FVec Ideal S2x2048x1024 .f32) (ix3 b s k)
abbrev gate (c : Dev nD) (b : Fin 2) (k : Fin 1024) : EReal :=
  (m ((c : Thread nD τ).loc main_arg6) : FVec Ideal S2x1x1024 .f32) (ix3 b 0 k)

/-- A row of the gradient of the input. -/
def dx (c : Dev nD) (b : Fin 2) (s : Fin 2048) (q : Fin 1024) : EReal :=
  dz (arg m c b s) (gain m c) (cot m c b s) (scale m c b) q + res m c b s q

/-- The rows that a grid step reads. -/
theorem cot_block (c : Dev nD) (t : Fin cfg0.N) (r : Fin 512) :
    (fun k : Fin 1024 => (iblk m c 0 t : Vec Ideal S1x512x1024 .f32) (ix3 0 r k)) = cot m c ⟨t.val / 4, by have : t.val < 8 := t.isLt; omega⟩ ⟨t.val % 4 * 512 + r.val, by omega⟩ := by
  funext k
  blk_point [iblk, V, idx t]

theorem arg_block (c : Dev nD) (t : Fin cfg0.N) (r : Fin 512) :
    (fun k : Fin 1024 => (iblk m c 1 t : Vec Ideal S1x512x1024 .f32) (ix3 0 r k)) = arg m c ⟨t.val / 4, by have : t.val < 8 := t.isLt; omega⟩ ⟨t.val % 4 * 512 + r.val, by omega⟩ := by
  funext k
  blk_point [iblk, V, idx t]

theorem gain_block (c : Dev nD) (t : Fin cfg0.N) :
    (fun k : Fin 1024 => (iblk m c 2 t : Vec Ideal S1x1024 .f32) (ix2 0 k)) = gain m c := by
  funext k
  blk_point [iblk, V, idx t]

theorem scale_block (c : Dev nD) (t : Fin cfg0.N) :
    (fun k : Fin 1024 => (iblk m c 3 t : Vec Ideal S1x1x1024 .f32) (ix3 0 0 k)) = scale m c ⟨t.val / 4, by have : t.val < 8 := t.isLt; omega⟩ := by
  funext k
  blk_point [iblk, V, idx t]

theorem dz_block (c : Dev nD) (t : Fin cfg0.N) (r : Fin 512) (q : Fin 1024) :
    k0_pay10 (iblk m c 1 t) (iblk m c 0 t) (iblk m c 2 t) (iblk m c 3 t) (iblk m c 4 t) (ix2 r q)
      = dz (arg m c ⟨t.val / 4, by have : t.val < 8 := t.isLt; omega⟩ ⟨t.val % 4 * 512 + r.val, by omega⟩) (gain m c) (cot m c ⟨t.val / 4, by have : t.val < 8 := t.isLt; omega⟩ ⟨t.val % 4 * 512 + r.val, by omega⟩) (scale m c ⟨t.val / 4, by have : t.val < 8 := t.isLt; omega⟩) q
        + (iblk m c 4 t : Vec Ideal S1x512x1024 .f32) (ix3 0 r q) := by
  rw [pay10_apply, arg_block, gain_block, cot_block, scale_block]

theorem dy_block (c : Dev nD) (t : Fin cfg0.N) (r : Fin 512) (q : Fin 1024) :
    k0_pay9 (iblk m c 0 t) (iblk m c 3 t) (ix2 r q)
      = dy (cot m c ⟨t.val / 4, by have : t.val < 8 := t.isLt; omega⟩ ⟨t.val % 4 * 512 + r.val, by omega⟩) (scale m c ⟨t.val / 4, by have : t.val < 8 := t.isLt; omega⟩) q := by
  rw [pay9_apply, cot_block, scale_block]

theorem nrm_block (c : Dev nD) (t : Fin cfg0.N) (r : Fin 512) (q : Fin 1024) :
    k0_pay7 (iblk m c 1 t) (ix2 r q) = nrm (arg m c ⟨t.val / 4, by have : t.val < 8 := t.isLt; omega⟩ ⟨t.val % 4 * 512 + r.val, by omega⟩) q := by
  rw [pay7_apply, arg_block]

theorem cot_value (c : Dev nD) (t : Fin cfg0.N) (r : Fin 512) (q : Fin 1024) :
    k0_pay5 (iblk m c 0 t) (ix2 r q) = cot m c ⟨t.val / 4, by have : t.val < 8 := t.isLt; omega⟩ ⟨t.val % 4 * 512 + r.val, by omega⟩ q := by
  refine Eq.trans ?_ (congrFun (cot_block m c t r) q)
  pointwise [k0_pay5]

theorem scaled_block (c : Dev nD) (t : Fin cfg0.N) (r : Fin 512) (q : Fin 1024) :
    k0_pay8 (iblk m c 1 t) (iblk m c 2 t) (ix2 r q) = nrm (arg m c ⟨t.val / 4, by have : t.val < 8 := t.isLt; omega⟩ ⟨t.val % 4 * 512 + r.val, by omega⟩) q * gain m c q := by
  refine Eq.trans ?_ (congrArg₂ (fun a b : EReal => a * b) (nrm_block m c t r q) (congrFun (gain_block m c t) q))
  pointwise [k0_pay8]

theorem dx_block (c : Dev nD) (t : Fin cfg0.N) (r : Fin 512) (q : Fin 1024) :
    k0_pay10 (iblk m c 1 t) (iblk m c 0 t) (iblk m c 2 t) (iblk m c 3 t) (iblk m c 4 t) (ix2 r q) = dx m c ⟨t.val / 4, by have : t.val < 8 := t.isLt; omega⟩ ⟨t.val % 4 * 512 + r.val, by omega⟩ q := by
  refine (dz_block m c t r q).trans (congrArg (fun a : EReal => dz _ _ _ _ _ + a) ?_)
  blk_point [iblk, V, idx t]

theorem prod_block (c : Dev nD) (t : Fin cfg0.N) (r : Fin 512) (q : Fin 1024) :
    (iblk m c 5 t : Vec Ideal S1x512x1024 .f32) (ix3 0 r q) = prod m c ⟨t.val / 4, by have : t.val < 8 := t.isLt; omega⟩ ⟨t.val % 4 * 512 + r.val, by omega⟩ q := by
  blk_point [iblk, V, idx t]

theorem gate_block (c : Dev nD) (t : Fin cfg0.N) (q : Fin 1024) :
    (iblk m c 6 t : Vec Ideal S1x1x1024 .f32) (ix3 0 0 q) = gate m c ⟨t.val / 4, by have : t.val < 8 := t.isLt; omega⟩ q := by
  blk_point [iblk, V, idx t]

/-- A value of a batch, a row and a column depends on their numbers alone. -/
theorem at_congr (f : Fin 2 → Fin 2048 → Fin 1024 → EReal) {b b' : Fin 2} {s s' : Fin 2048} {q q' : Fin 1024}
    (hb : b.val = b'.val) (hs : s.val = s'.val) (hq : q.val = q'.val) : f b s q = f b' s' q' := by
  rw [Fin.ext hb, Fin.ext hs, Fin.ext hq]

theorem tile_7 (c : Dev nD) (t : Fin cfg0.N) (y : S1x512x1024.Idx) : (outsAt0 m c t.val t.isLt).1 y
    = k0_pay10 (iblk m c 1 t) (iblk m c 0 t) (iblk m c 2 t) (iblk m c 3 t) (iblk m c 4 t) (ix2 (y 1) (y 2)) := by
  by_cases h0 : t.val % 4 = 0
  · by_cases h1 : t.val % 8 = 0
    · rw [outsAt0_A m c t h0 h1]
      frame_out
      pointwise [k0_pay11]
    · rw [outsAt0_C m c t h0 h1]
      frame_out
      pointwise [k0_pay11]
  · rw [outsAt0_B m c t h0 (by omega)]
    frame_out
    pointwise [k0_pay11]

/-- The gradient of the input. -/
theorem final_7 (c : Dev nD) : (dats m 0 c).arrAt 7 (cfgs 0).N = Cert.ReferenceAdaln2Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  refine ((tile_7 m c t y).trans (dz_block m c t _ _)).trans ?_
  refine (congrArg (fun a : EReal => dz _ _ _ _ _ + a) ?_).trans ((ref_dz (m ((c : Thread nD τ).loc main_arg0)) (m ((c : Thread nD τ).loc main_arg1)) (m ((c : Thread nD τ).loc main_arg2)) (m ((c : Thread nD τ).loc main_arg3)) (m ((c : Thread nD τ).loc main_arg4)) _ _ _).symm.trans ?_)
  all_goals blk_point [iblk, V, idx t]

/-- The gradient of the shift. -/
theorem final_8 (c : Dev nD) : (dats m 0 c).arrAt 8 (cfgs 0).N = Cert.ReferenceAdaln2Ideal.Read.val_main_v25 (F := Ideal) (m ((c : Thread nD τ).loc main_arg0)) := by
  refine (dats m 0 c).arrAt_eq_of_covers 8 _ (by decide +kernel) fun t hf y => ?_
  blk_simp
  rw [after0_8, Pipeline.eq_sum_fin_of_reset_step_apply_of_flush (fun n h => (outsAt0 m c n h).2.1) 4 (fun _ => 0)
      (fun t j => ∑ r : Fin 512, (iblk m c 0 t : Vec Ideal S1x512x1024 .f32) (ix3 0 r (j 2)))
      (fun t h0 j => by
        by_cases h1 : t.val % 8 = 0
        · rw [outsAt0_A m c t h0 h1]
          frame_out
          pointwise [k0_pay16, k0_pay5, k0_pay12]
        · rw [outsAt0_C m c t h0 h1]
          frame_out
          pointwise [k0_pay16, k0_pay5, k0_pay12])
      (fun t h0 j => by
        rw [outsAt0_B m c t h0 (by omega)]
        frame_out
        pointwise [k0_pay16, k0_pay5])
      t ((flush0_8 t).mp hf) _, zero_add]
  have ht : t.val < 8 := t.isLt
  refine Eq.trans ?_ ((ref_dshift (m ((c : Thread nD τ).loc main_arg0)) ⟨t.val / 4, by omega⟩ (y 2)).symm.trans ?_)
  · refine Fin.sum_mul_add_congr fun s k hl => ?_
    have hs : s.val < 4 := s.isLt
    have e1 : (4 * (t.val / 4) + s.val) / 4 = t.val / 4 := by omega
    have e2 : (4 * (t.val / 4) + s.val) % 4 * 512 + k.val = s.val * 512 + k.val := by omega
    exact (congrFun (cot_block m c _ k) _).trans (at_congr (cot m c) e1 e2 rfl)
  · blk_point [idx t]

/-- The gradient of the scale. -/
theorem final_9 (c : Dev nD) : (dats m 0 c).arrAt 9 (cfgs 0).N = Cert.ReferenceAdaln2Ideal.Read.val_main_v28 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9, Pipeline.eq_sum_fin_of_reset_step_apply_of_flush (fun n h => (outsAt0 m c n h).2.2.1) 4 (fun _ => 0)
      (fun t j => ∑ r : Fin 512, k0_pay5 (iblk m c 0 t) (ix2 r (j 2)) * k0_pay8 (iblk m c 1 t) (iblk m c 2 t) (ix2 r (j 2)))
      (fun t h0 j => by
        by_cases h1 : t.val % 8 = 0
        · rw [outsAt0_A m c t h0 h1]
          frame_out
          pointwise [k0_pay17, k0_pay13]
        · rw [outsAt0_C m c t h0 h1]
          frame_out
          pointwise [k0_pay17, k0_pay13])
      (fun t h0 j => by
        rw [outsAt0_B m c t h0 (by omega)]
        frame_out
        pointwise [k0_pay17])
      t ((flush0_9 t).mp hf) _, zero_add]
  have ht : t.val < 8 := t.isLt
  refine Eq.trans ?_ ((ref_dscale (m ((c : Thread nD τ).loc main_arg0)) (m ((c : Thread nD τ).loc main_arg1)) (m ((c : Thread nD τ).loc main_arg2)) ⟨t.val / 4, by omega⟩ (y 2)).symm.trans ?_)
  · refine Fin.sum_mul_add_congr fun s k hl => ?_
    have hs : s.val < 4 := s.isLt
    have e1 : (4 * (t.val / 4) + s.val) / 4 = t.val / 4 := by omega
    have e2 : (4 * (t.val / 4) + s.val) % 4 * 512 + k.val = s.val * 512 + k.val := by omega
    exact congrArg₂ (fun a b : EReal => a * b) ((cot_value m c _ k _).trans (at_congr (cot m c) e1 e2 rfl))
      ((scaled_block m c _ k _).trans (congrArg (fun a : EReal => a * gain m c (y 2)) (at_congr (fun b s => nrm (arg m c b s)) e1 e2 rfl)))
  · blk_point [idx t]

/-- The gradient of the gain. -/
theorem final_10 (c : Dev nD) : (dats m 0 c).arrAt 10 (cfgs 0).N = Cert.ReferenceAdaln2Ideal.Read.val_main_v37 (F := Ideal) (m ((c : Thread nD τ).loc main_arg0)) (m ((c : Thread nD τ).loc main_arg1)) (m ((c : Thread nD τ).loc main_arg3)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 8 (fun _ => 0)
      (fun t j => ∑ r : Fin 512, k0_pay9 (iblk m c 0 t) (iblk m c 3 t) (ix2 r (j 1)) * k0_pay7 (iblk m c 1 t) (ix2 r (j 1)))
      (fun t h0 j => by
        rw [outsAt0_A m c t (by omega) h0]
        frame_out
        pointwise [k0_pay1, k0_pay18, k0_pay19, k0_pay15])
      (fun t h0 j => by
        by_cases h1 : t.val % 4 = 0
        · rw [outsAt0_C m c t h1 h0]
          frame_out
          pointwise [k0_pay1, k0_pay18, k0_pay19]
        · rw [outsAt0_B m c t h1 h0]
          frame_out
          pointwise [k0_pay1, k0_pay18, k0_pay19])
      t ((flush0_10 t).mp hf) _, zero_add]
  have ht : t.val < 8 := t.isLt
  refine Eq.trans ?_ ((ref_dgain (m ((c : Thread nD τ).loc main_arg0)) (m ((c : Thread nD τ).loc main_arg1)) (m ((c : Thread nD τ).loc main_arg3)) (y 1)).symm.trans ?_)
  · refine Fin.sum_points_lanes_congr 4 fun s k ha hl => ?_
    have e1 : (8 * (t.val / 8) + s.val) / 4 = s.val / 4 := by omega
    have e2 : (8 * (t.val / 8) + s.val) % 4 * 512 + k.val = s.val % 4 * 512 + k.val := by omega
    exact congrArg₂ (fun a b : EReal => a * b) ((dy_block m c _ k _).trans (at_congr (fun b s => dy (cot m c b s) (scale m c b)) e1 e2 rfl))
      ((nrm_block m c _ k _).trans (at_congr (fun b s => nrm (arg m c b s)) e1 e2 rfl))
  · blk_point [idx t]

/-- The gradient of the gate. -/
theorem final_11 (c : Dev nD) : (dats m 0 c).arrAt 11 (cfgs 0).N = Cert.ReferenceAdaln2Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 4 (fun _ => 0)
      (fun t j => ∑ r : Fin 512, k0_pay10 (iblk m c 1 t) (iblk m c 0 t) (iblk m c 2 t) (iblk m c 3 t) (iblk m c 4 t) (ix2 r (j 2)) * (iblk m c 5 t : Vec Ideal S1x512x1024 .f32) (ix3 0 r (j 2)))
      (fun t h0 j => by
        by_cases h1 : t.val % 8 = 0
        · rw [outsAt0_A m c t h0 h1]
          frame_out
          pointwise [k0_pay2, k0_pay14]
        · rw [outsAt0_C m c t h0 h1]
          frame_out
          pointwise [k0_pay2, k0_pay14])
      (fun t h0 j => by
        rw [outsAt0_B m c t h0 (by omega)]
        frame_out
        pointwise [k0_pay2])
      t ((flush0_11 t).mp hf) _, zero_add]
  have ht : t.val < 8 := t.isLt
  refine Eq.trans ?_ ((ref_dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 4, by omega⟩ (y 2)).symm.trans ?_)
  · refine Fin.sum_mul_add_congr fun s k hl => ?_
    have hs : s.val < 4 := s.isLt
    have e1 : (4 * (t.val / 4) + s.val) / 4 = t.val / 4 := by omega
    have e2 : (4 * (t.val / 4) + s.val) % 4 * 512 + k.val = s.val * 512 + k.val := by omega
    exact congrArg₂ (fun a b : EReal => a * b) ((dx_block m c _ k _).trans (at_congr (dx m c) e1 e2 rfl))
      ((prod_block m c _ k _).trans (at_congr (prod m c) e1 e2 rfl))
  · blk_point [idx t]

theorem tile_12 (c : Dev nD) (t : Fin cfg0.N) (y : S1x512x1024.Idx) : (outsAt0 m c t.val t.isLt).2.2.2.2.2 y
    = k0_pay10 (iblk m c 1 t) (iblk m c 0 t) (iblk m c 2 t) (iblk m c 3 t) (iblk m c 4 t) (ix2 (y 1) (y 2)) * (iblk m c 6 t : Vec Ideal S1x1x1024 .f32) (ix3 0 0 (y 2)) := by
  by_cases h0 : t.val % 4 = 0
  · by_cases h1 : t.val % 8 = 0
    · rw [outsAt0_A m c t h0 h1]
      frame_out
      pointwise [k0_pay3]
    · rw [outsAt0_C m c t h0 h1]
      frame_out
      pointwise [k0_pay3]
  · rw [outsAt0_B m c t h0 (by omega)]
    frame_out
    pointwise [k0_pay3]

/-- The gradient of the product. -/
theorem final_12 (c : Dev nD) : (dats m 0 c).arrAt 12 (cfgs 0).N = Cert.ReferenceAdaln2Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 12 _ (by decide +kernel) fun t hf y => ?_
  blk_simp
  rw [after0_12]
  refine ((tile_12 m c t y).trans (congrArg₂ (fun a b : EReal => a * b) (dx_block m c t _ _) (gate_block m c t _))).trans ?_
  refine (ref_dprod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) _ _ _).symm.trans ?_
  blk_point [idx t]

end Cert.Adaln2
end
-- ==== Proof.InProj.lean ====
module

public import proofs.«01_k».proof.Proof.Gen.KernelInProjIdeal.Frame
public import proofs.«01_k».proof.Proof.Gen.ReferenceInProjIdeal.Read
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.Claim

/-! The modulated normalisation in front of the mixers, its two products, the rearranged copies of the first one and the
normalised parts of the second: by 512 rows a grid step. -/

@[expose] public section

set_option maxRecDepth 16384

noncomputable section

open Idealize.ShloMosaic Idealize.ShloMosaic.TcCoe Idealize.SL.Sem
open scoped BigOperators

namespace Cert.InProj

open Cert.KernelInProjIdeal Cert.KernelInProjIdeal.Gen

variable (m : (ℓ : Loc nD τ sig) → Buf (Elt Ideal) ℓ)

/-- Which tile each window holds at each grid step. -/
theorem idx : ∀ t : Fin cfg0.N, win0_0.index t = ![t.val / 4, t.val % 4, 0]
    ∧ win0_1.index t = ![0, 0]
    ∧ win0_2.index t = ![t.val / 4, 0, 0]
    ∧ win0_3.index t = ![t.val / 4, 0, 0]
    ∧ win0_4.index t = ![0, 0]
    ∧ win0_5.index t = ![0, 0]
    ∧ win0_6.index t = ![0, 0]
    ∧ win0_7.index t = ![0, 0]
    ∧ win0_8.index t = ![t.val / 4, t.val % 4, 0]
    ∧ win0_9.index t = ![t.val / 4, t.val % 4, 0]
    ∧ win0_10.index t = ![t.val / 4, t.val % 4, 0]
    ∧ win0_11.index t = ![t.val / 4, t.val % 4, 0]
    ∧ win0_12.index t = ![t.val / 4, t.val % 4, 0]
    ∧ win0_13.index t = ![t.val, 0]
    ∧ win0_14.index t = ![t.val, 0] :=
  (by decide +kernel : ∀ t : Fin grid0.N, _)

/-- The lengths of the rows, and what is added to the mean of their squares. -/
abbrev len : EReal := Ideal.ofBits .f32 0x44800000#32
abbrev len_q : EReal := Ideal.ofBits .f32 0x43C00000#32
abbrev len_kv : EReal := Ideal.ofBits .f32 0x43800000#32
abbrev eps : EReal := Ideal.ofBits .f32 0x358637BD#32

/-- A row behind a normalisation and its gain. -/
def nrm {n : ℕ} (D : EReal) (z g : Fin n → EReal) (q : Fin n) : EReal := z q * Cert.Rms.inv D eps z * g q

/-- A row behind the first normalisation and the modulation. -/
def hid (z g c d : Fin 1024 → EReal) (q : Fin 1024) : EReal :=
  nrm len z g q * (Ideal.ofBits .f32 0x3F800000#32 + c q) + d q

/-- What a grid step computes, element by element. -/
theorem pay3_apply (z : Vec Ideal S1x512x1024 .f32) (g : Vec Ideal S1x1024 .f32) (c d : Vec Ideal S1x1x1024 .f32) (r : Fin 512) (q : Fin 1024) :
    k0_pay3 z g c d (ix2 r q) = hid (fun k => z (ix3 0 r k)) (fun k => g (ix2 0 k)) (fun k => c (ix3 0 0 k)) (fun k => d (ix3 0 0 k)) q := by
  pointwise [k0_pay3, hid, nrm, Cert.Rms.inv]

theorem pay5_apply (z : Vec Ideal S1x512x1024 .f32) (g : Vec Ideal S1x1024 .f32) (c d : Vec Ideal S1x1x1024 .f32) (w : Vec Ideal S1024x1536 .bf16) (r : Fin 512) (q : Fin 1536) :
    k0_pay5 z g c d w (ix2 r q) = ∑ k : Fin 1024, k0_pay3 z g c d (ix2 r k) * w (ix2 k q) := by
  pointwise [k0_pay5]

theorem pay293_apply (h : FVec Ideal S512x1024 .bf16) (w : Vec Ideal S1024x768 .bf16) (r : Fin 512) (q : Fin 768) :
    k0_pay293 h w (ix2 r q) = ∑ k : Fin 1024, h (ix2 r k) * w (ix2 k q) := by
  pointwise [k0_pay293]

theorem pay2_apply (v : FVec Ideal S512x768 .f32) (g : Vec Ideal S1x384 .f32) (r : Fin 512) (q : Fin 384) :
    k0_pay2 v g (ix2 r q) = nrm len_q (fun k : Fin 384 => v (ix2 r ⟨384 + k.val, by omega⟩)) (fun k => g (ix2 0 k)) q := by
  pointwise [k0_pay2, nrm, Cert.Rms.inv]

theorem pay1_apply (h : FVec Ideal S512x1024 .bf16) (w : Vec Ideal S1024x768 .bf16) (g : Vec Ideal S1x256 .f32) (r : Fin 512) (q : Fin 256) :
    k0_pay1 (k0_pay295 h w) (k0_pay296 h w) (Scalar.ofBits .f32 0x358637BD#32) g (ix2 r q)
      = nrm len_kv (fun k : Fin 256 => k0_pay293 h w (ix2 r ⟨k.val, by omega⟩)) (fun k => g (ix2 0 k)) q := by
  pointwise [k0_pay1, k0_pay295, k0_pay296, nrm, Cert.Rms.inv]

/-- The reference program, element by element. -/
theorem ref_h (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (b : Fin 2) (s : Fin 2048) (q : Fin 1024) :
    Cert.ReferenceInProjIdeal.Read.val_main_v18 (F := Ideal) x0 x1 x2 x3 (ix3 b s q)
      = hid (fun k => x0 (ix3 b s k)) (fun k => x1 (ix2 0 k)) (fun k => x2 (ix3 b 0 k)) (fun k => x3 (ix3 b 0 k)) q := by
  pointwise [hid, nrm, Cert.Rms.inv, Cert.ReferenceInProjIdeal.Read.val_main_v0, Cert.ReferenceInProjIdeal.Read.val_main_v1, Cert.ReferenceInProjIdeal.Read.val_main_v2, Cert.ReferenceInProjIdeal.Read.val_main_v3, Cert.ReferenceInProjIdeal.Read.val_main_v4, Cert.ReferenceInProjIdeal.Read.val_main_v5, Cert.ReferenceInProjIdeal.Read.val_main_v6, Cert.ReferenceInProjIdeal.Read.val_main_v7, Cert.ReferenceInProjIdeal.Read.val_main_v8, Cert.ReferenceInProjIdeal.Read.val_main_v9, Cert.ReferenceInProjIdeal.Read.val_main_v10, Cert.ReferenceInProjIdeal.Read.val_main_v11, Cert.ReferenceInProjIdeal.Read.val_main_v12, Cert.ReferenceInProjIdeal.Read.val_main_v13, Cert.ReferenceInProjIdeal.Read.val_main_v14, Cert.ReferenceInProjIdeal.Read.val_main_v15, Cert.ReferenceInProjIdeal.Read.val_main_v16, Cert.ReferenceInProjIdeal.Read.val_main_v17, Cert.ReferenceInProjIdeal.Read.val_main_v18, Cert.ReferenceInProjIdeal.Read.val_main_cst, Cert.ReferenceInProjIdeal.Read.val_main_cst_0, Cert.ReferenceInProjIdeal.Read.val_main_cst_1, Cert.ReferenceInProjIdeal.Read.val_main_cst_2]

theorem ref_a (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x4 : FVec Ideal Cert.ReferenceInProjIdeal.S1024x1536 .bf16) (b : Fin 2) (s : Fin 2048) (q : Fin 1536) :
    Cert.ReferenceInProjIdeal.Read.val_main_v20 (F := Ideal) x0 x1 x2 x3 x4 (ix3 b s q)
      = ∑ k : Fin 1024, Cert.ReferenceInProjIdeal.Read.val_main_v18 (F := Ideal) x0 x1 x2 x3 (ix3 b s k) * x4 (ix2 k q) := by
  pointwise [Cert.ReferenceInProjIdeal.Read.val_main_v20, Cert.ReferenceInProjIdeal.Read.val_main_v19]

theorem ref_b (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x5 : FVec Ideal Cert.ReferenceInProjIdeal.S1024x768 .bf16) (b : Fin 2) (s : Fin 2048) (q : Fin 768) :
    Cert.ReferenceInProjIdeal.Read.val_main_v22 (F := Ideal) x0 x1 x2 x3 x5 (ix3 b s q)
      = ∑ k : Fin 1024, Cert.ReferenceInProjIdeal.Read.val_main_v18 (F := Ideal) x0 x1 x2 x3 (ix3 b s k) * x5 (ix2 k q) := by
  pointwise [Cert.ReferenceInProjIdeal.Read.val_main_v22, Cert.ReferenceInProjIdeal.Read.val_main_v21]

theorem ref_q (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x5 : FVec Ideal Cert.ReferenceInProjIdeal.S1024x768 .bf16) (x6 : FVec Ideal Cert.ReferenceInProjIdeal.S1x384 .f32) (b : Fin 2) (s : Fin 2048) (q : Fin 384) :
    Cert.ReferenceInProjIdeal.Read.val_main_v43 (F := Ideal) x0 x1 x2 x3 x5 x6 (ix3 b s q)
      = nrm len_q (fun k : Fin 384 => Cert.ReferenceInProjIdeal.Read.val_main_v22 (F := Ideal) x0 x1 x2 x3 x5 (ix3 b s ⟨384 + k.val, by omega⟩)) (fun k => x6 (ix2 0 k)) q := by
  pointwise [nrm, Cert.Rms.inv, Cert.ReferenceInProjIdeal.Read.val_main_v29, Cert.ReferenceInProjIdeal.Read.val_main_v31, Cert.ReferenceInProjIdeal.Read.val_main_v32, Cert.ReferenceInProjIdeal.Read.val_main_v33, Cert.ReferenceInProjIdeal.Read.val_main_v34, Cert.ReferenceInProjIdeal.Read.val_main_v35, Cert.ReferenceInProjIdeal.Read.val_main_v36, Cert.ReferenceInProjIdeal.Read.val_main_v37, Cert.ReferenceInProjIdeal.Read.val_main_v38, Cert.ReferenceInProjIdeal.Read.val_main_v39, Cert.ReferenceInProjIdeal.Read.val_main_v40, Cert.ReferenceInProjIdeal.Read.val_main_v41, Cert.ReferenceInProjIdeal.Read.val_main_v42, Cert.ReferenceInProjIdeal.Read.val_main_v43, Cert.ReferenceInProjIdeal.Read.val_main_cst_3, Cert.ReferenceInProjIdeal.Read.val_main_cst_4, Cert.ReferenceInProjIdeal.Read.val_main_cst_5]

theorem ref_kv (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x5 : FVec Ideal Cert.ReferenceInProjIdeal.S1024x768 .bf16) (x7 : FVec Ideal Cert.ReferenceInProjIdeal.S1x256 .f32) (b : Fin 2) (s : Fin 2048) (q : Fin 256) :
    Cert.ReferenceInProjIdeal.Read.val_main_v58 (F := Ideal) x0 x1 x2 x3 x5 x7 (ix3 b s q)
      = nrm len_kv (fun k : Fin 256 => Cert.ReferenceInProjIdeal.Read.val_main_v22 (F := Ideal) x0 x1 x2 x3 x5 (ix3 b s ⟨k.val, by omega⟩)) (fun k => x7 (ix2 0 k)) q := by
  pointwise [nrm, Cert.Rms.inv, Cert.ReferenceInProjIdeal.Read.val_main_v28, Cert.ReferenceInProjIdeal.Read.val_main_v46, Cert.ReferenceInProjIdeal.Read.val_main_v47, Cert.ReferenceInProjIdeal.Read.val_main_v48, Cert.ReferenceInProjIdeal.Read.val_main_v49, Cert.ReferenceInProjIdeal.Read.val_main_v50, Cert.ReferenceInProjIdeal.Read.val_main_v51, Cert.ReferenceInProjIdeal.Read.val_main_v52, Cert.ReferenceInProjIdeal.Read.val_main_v53, Cert.ReferenceInProjIdeal.Read.val_main_v54, Cert.ReferenceInProjIdeal.Read.val_main_v55, Cert.ReferenceInProjIdeal.Read.val_main_v56, Cert.ReferenceInProjIdeal.Read.val_main_v57, Cert.ReferenceInProjIdeal.Read.val_main_v58, Cert.ReferenceInProjIdeal.Read.val_main_cst_6, Cert.ReferenceInProjIdeal.Read.val_main_cst_7, Cert.ReferenceInProjIdeal.Read.val_main_cst_8]

/-- The reference's values of the arguments that the call finds. -/
abbrev hidden (c : Dev nD) (b : Fin 2) (s : Fin 2048) (q : Fin 1024) : EReal :=
  Cert.ReferenceInProjIdeal.Read.val_main_v18 (F := Ideal) (m ((c : Thread nD τ).loc main_arg0)) (m ((c : Thread nD τ).loc main_arg1)) (m ((c : Thread nD τ).loc main_arg2)) (m ((c : Thread nD τ).loc main_arg3)) (ix3 b s q)
abbrev first (c : Dev nD) (b : Fin 2) (s : Fin 2048) (q : Fin 1536) : EReal :=
  Cert.ReferenceInProjIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 b s q)
abbrev second (c : Dev nD) (b : Fin 2) (s : Fin 2048) (q : Fin 768) : EReal :=
  Cert.ReferenceInProjIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix3 b s q)

/-- A grid step's values are the reference's at the rows of its tile. -/
theorem hid_block (c : Dev nD) (t : Fin cfg0.N) (r : Fin 512) (q : Fin 1024) :
    k0_pay3 (iblk m c 0 t) (iblk m c 1 t) (iblk m c 2 t) (iblk m c 3 t) (ix2 r q) = hidden m c ⟨t.val / 4, by have : t.val < 8 := t.isLt; omega⟩ ⟨t.val % 4 * 512 + r.val, by omega⟩ q := by
  refine (pay3_apply _ _ _ _ r q).trans (Eq.trans ?_ (ref_h (m ((c : Thread nD τ).loc main_arg0)) (m ((c : Thread nD τ).loc main_arg1)) (m ((c : Thread nD τ).loc main_arg2)) (m ((c : Thread nD τ).loc main_arg3)) _ _ q).symm)
  refine congr (congr (congr (congrArg hid (funext fun k => ?_)) (funext fun k => ?_)) (funext fun k => ?_)) (funext fun k => ?_) |> fun e => congrFun e q
  all_goals blk_point [iblk, V, idx t]

theorem first_block (c : Dev nD) (t : Fin cfg0.N) (r : Fin 512) (q : Fin 1536) :
    k0_pay5 (iblk m c 0 t) (iblk m c 1 t) (iblk m c 2 t) (iblk m c 3 t) (iblk m c 4 t) (ix2 r q) = first m c ⟨t.val / 4, by have : t.val < 8 := t.isLt; omega⟩ ⟨t.val % 4 * 512 + r.val, by omega⟩ q := by
  refine (pay5_apply _ _ _ _ _ r q).trans (Eq.trans ?_ (ref_a (m ((c : Thread nD τ).loc main_arg0)) (m ((c : Thread nD τ).loc main_arg1)) (m ((c : Thread nD τ).loc main_arg2)) (m ((c : Thread nD τ).loc main_arg3)) (m ((c : Thread nD τ).loc main_arg4)) _ _ q).symm)
  refine Finset.sum_congr (M := EReal) rfl fun k _ => congrArg₂ (fun a b : EReal => a * b) (hid_block m c t r k) ?_
  blk_point [iblk, V, idx t]

theorem second_block (c : Dev nD) (t : Fin cfg0.N) (r : Fin 512) (q : Fin 768) :
    k0_pay293 (k0_pay3 (iblk m c 0 t) (iblk m c 1 t) (iblk m c 2 t) (iblk m c 3 t)) (iblk m c 5 t) (ix2 r q) = second m c ⟨t.val / 4, by have : t.val < 8 := t.isLt; omega⟩ ⟨t.val % 4 * 512 + r.val, by omega⟩ q := by
  refine (pay293_apply _ _ r q).trans (Eq.trans ?_ (ref_b (m ((c : Thread nD τ).loc main_arg0)) (m ((c : Thread nD τ).loc main_arg1)) (m ((c : Thread nD τ).loc main_arg2)) (m ((c : Thread nD τ).loc main_arg3)) (m ((c : Thread nD τ).loc main_arg5)) _ _ q).symm)
  refine Finset.sum_congr (M := EReal) rfl fun k _ => congrArg₂ (fun a b : EReal => a * b) (hid_block m c t r k) ?_
  blk_point [iblk, V, idx t]

theorem q_block (c : Dev nD) (t : Fin cfg0.N) (r : Fin 512) (q : Fin 384) :
    k0_pay2 (k0_pay293 (k0_pay3 (iblk m c 0 t) (iblk m c 1 t) (iblk m c 2 t) (iblk m c 3 t)) (iblk m c 5 t)) (iblk m c 6 t) (ix2 r q)
      = Cert.ReferenceInProjIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix3 ⟨t.val / 4, by have : t.val < 8 := t.isLt; omega⟩ ⟨t.val % 4 * 512 + r.val, by omega⟩ q) := by
  refine (pay2_apply _ _ r q).trans (Eq.trans ?_ (ref_q (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) _ _ q).symm)
  refine congr (congrArg (nrm len_q) (funext fun k => second_block m c t r _)) (funext fun k => ?_) |> fun e => congrFun e q
  blk_point [iblk, V, idx t]

theorem kv_block (c : Dev nD) (t : Fin cfg0.N) (r : Fin 512) (q : Fin 256) :
    k0_pay1 (k0_pay295 (k0_pay3 (iblk m c 0 t) (iblk m c 1 t) (iblk m c 2 t) (iblk m c 3 t)) (iblk m c 5 t)) (k0_pay296 (k0_pay3 (iblk m c 0 t) (iblk m c 1 t) (iblk m c 2 t) (iblk m c 3 t)) (iblk m c 5 t)) (Scalar.ofBits .f32 0x358637BD#32) (iblk m c 7 t) (ix2 r q)
      = Cert.ReferenceInProjIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (ix3 ⟨t.val / 4, by have : t.val < 8 := t.isLt; omega⟩ ⟨t.val % 4 * 512 + r.val, by omega⟩ q) := by
  refine (pay1_apply _ _ _ r q).trans (Eq.trans ?_ (ref_kv (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) _ _ q).symm)
  refine congr (congrArg (nrm len_kv) (funext fun k => second_block m c t r _)) (funext fun k => ?_) |> fun e => congrFun e q
  blk_point [iblk, V, idx t]

/-- A value of three coordinates depends on their numbers alone. -/
theorem at_congr {a b n : ℕ} (f : (⟨3, ![a, b, n]⟩ : Shape).Idx → EReal) {x x' : Fin a} {y y' : Fin b} {z z' : Fin n}
    (hx : x.val = x'.val) (hy : y.val = y'.val) (hz : z.val = z'.val) : f (ix3 x y z) = f (ix3 x' y' z') := by
  rw [Fin.ext hx, Fin.ext hy, Fin.ext hz]

/-- The results of the reference, by their rows. -/
theorem ref_8 (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (z : Cert.ReferenceInProjIdeal.S2x2048x1024.Idx) :
    Cert.ReferenceInProjIdeal.Read.val_main_v30 (F := Ideal) x0 x1 x2 x3 z = Cert.ReferenceInProjIdeal.Read.val_main_v18 (F := Ideal) x0 x1 x2 x3 (ix3 (z 0) (z 1) (z 2)) := by
  pointwise [Cert.ReferenceInProjIdeal.Read.val_main_v30]

theorem ref_9 (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x4 : FVec Ideal Cert.ReferenceInProjIdeal.S1024x1536 .bf16) (z : Cert.ReferenceInProjIdeal.S2x2048x1536.Idx) :
    Cert.ReferenceInProjIdeal.Read.val_main_v23 (F := Ideal) x0 x1 x2 x3 x4 z = Cert.ReferenceInProjIdeal.Read.val_main_v20 (F := Ideal) x0 x1 x2 x3 x4 (ix3 (z 0) (z 1) (z 2)) := by
  pointwise [Cert.ReferenceInProjIdeal.Read.val_main_v23]

theorem ref_10 (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x4 : FVec Ideal Cert.ReferenceInProjIdeal.S1024x1536 .bf16) (z : Cert.ReferenceInProjIdeal.S2x512x6144.Idx) :
    Cert.ReferenceInProjIdeal.Read.val_main_v25 (F := Ideal) x0 x1 x2 x3 x4 z = Cert.ReferenceInProjIdeal.Read.val_main_v20 (F := Ideal) x0 x1 x2 x3 x4 (ix3 (z 0) ⟨(z 1).val * 4 + (z 2).val / 1536, by have h1 : (z 1).val < 512 := (z 1).isLt; have h2 : (z 2).val < 6144 := (z 2).isLt; omega⟩ ⟨(z 2).val % 1536, by omega⟩) := by
  pointwise [Cert.ReferenceInProjIdeal.Read.val_main_v25, Cert.ReferenceInProjIdeal.Read.val_main_v24]

theorem ref_11 (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x4 : FVec Ideal Cert.ReferenceInProjIdeal.S1024x1536 .bf16) (z : Cert.ReferenceInProjIdeal.S2x128x24576.Idx) :
    Cert.ReferenceInProjIdeal.Read.val_main_v27 (F := Ideal) x0 x1 x2 x3 x4 z = Cert.ReferenceInProjIdeal.Read.val_main_v20 (F := Ideal) x0 x1 x2 x3 x4 (ix3 (z 0) ⟨(z 1).val * 16 + (z 2).val / 1536, by have h1 : (z 1).val < 128 := (z 1).isLt; have h2 : (z 2).val < 24576 := (z 2).isLt; omega⟩ ⟨(z 2).val % 1536, by omega⟩) := by
  pointwise [Cert.ReferenceInProjIdeal.Read.val_main_v27, Cert.ReferenceInProjIdeal.Read.val_main_v26]

theorem ref_12 (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x5 : FVec Ideal Cert.ReferenceInProjIdeal.S1024x768 .bf16) (z : Cert.ReferenceInProjIdeal.S2x2048x768.Idx) :
    Cert.ReferenceInProjIdeal.Read.val_main_v22 (F := Ideal) x0 x1 x2 x3 x5 z = Cert.ReferenceInProjIdeal.Read.val_main_v22 (F := Ideal) x0 x1 x2 x3 x5 (ix3 (z 0) (z 1) (z 2)) := by
  exact congrArg _ (eq_ix3 z)

theorem ref_13 (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x5 : FVec Ideal Cert.ReferenceInProjIdeal.S1024x768 .bf16) (x6 : FVec Ideal Cert.ReferenceInProjIdeal.S1x384 .f32) (z : Cert.ReferenceInProjIdeal.S4096x384.Idx) :
    Cert.ReferenceInProjIdeal.Read.val_main_v45 (F := Ideal) x0 x1 x2 x3 x5 x6 z = Cert.ReferenceInProjIdeal.Read.val_main_v43 (F := Ideal) x0 x1 x2 x3 x5 x6 (ix3 ⟨(z 0).val / 2048, by have h0 : (z 0).val < 4096 := (z 0).isLt; omega⟩ ⟨(z 0).val % 2048, by omega⟩ (z 1)) := by
  pointwise [Cert.ReferenceInProjIdeal.Read.val_main_v45, Cert.ReferenceInProjIdeal.Read.val_main_v44]

theorem ref_14 (x0 : FVec Ideal Cert.ReferenceInProjIdeal.S2x2048x1024 .f32) (x1 : FVec Ideal Cert.ReferenceInProjIdeal.S1x1024 .f32) (x2 : FVec Ideal Cert.ReferenceInProjIdeal.S2x1x1024 .f32) (x3 : FVec Ideal Cert.ReferenceInProjIdeal.S2x1x1024 .f32) (x5 : FVec Ideal Cert.ReferenceInProjIdeal.S1024x768 .bf16) (x7 : FVec Ideal Cert.ReferenceInProjIdeal.S1x256 .f32) (z : Cert.ReferenceInProjIdeal.S4096x256.Idx) :
    Cert.ReferenceInProjIdeal.Read.val_main_v60 (F := Ideal) x0 x1 x2 x3 x5 x7 z = Cert.ReferenceInProjIdeal.Read.val_main_v58 (F := Ideal) x0 x1 x2 x3 x5 x7 (ix3 ⟨(z 0).val / 2048, by have h0 : (z 0).val < 4096 := (z 0).isLt; omega⟩ ⟨(z 0).val % 2048, by omega⟩ (z 1)) := by
  pointwise [Cert.ReferenceInProjIdeal.Read.val_main_v60, Cert.ReferenceInProjIdeal.Read.val_main_v59]

theorem tile_8 (c : Dev nD) (t : Fin cfg0.N) (y : S1x512x1024.Idx) : (outsAt0 m c t).1 y
    = k0_pay3 (iblk m c 0 t) (iblk m c 1 t) (iblk m c 2 t) (iblk m c 3 t) (ix2 (y 1) (y 2)) := by
  unfold outsAt0
  frame_out
  pointwise [k0_pay4]

theorem tile_9 (c : Dev nD) (t : Fin cfg0.N) (y : S1x512x1536.Idx) : (outsAt0 m c t).2.1 y
    = k0_pay5 (iblk m c 0 t) (iblk m c 1 t) (iblk m c 2 t) (iblk m c 3 t) (iblk m c 4 t) (ix2 (y 1) (y 2)) := by
  unfold outsAt0
  frame_out
  pointwise [k0_pay7, k0_pay6]

theorem tile_12 (c : Dev nD) (t : Fin cfg0.N) (y : S1x512x768.Idx) : (outsAt0 m c t).2.2.2.2.1 y
    = k0_pay293 (k0_pay3 (iblk m c 0 t) (iblk m c 1 t) (iblk m c 2 t) (iblk m c 3 t)) (iblk m c 5 t) (ix2 (y 1) (y 2)) := by
  unfold outsAt0
  frame_out
  pointwise [k0_pay294]

theorem tile_13 (c : Dev nD) (t : Fin cfg0.N) (y : S512x384.Idx) : (outsAt0 m c t).2.2.2.2.2.1 y
    = k0_pay2 (k0_pay293 (k0_pay3 (iblk m c 0 t) (iblk m c 1 t) (iblk m c 2 t) (iblk m c 3 t)) (iblk m c 5 t)) (iblk m c 6 t) y := by
  unfold outsAt0
  frame_out

theorem tile_14 (c : Dev nD) (t : Fin cfg0.N) (y : S512x256.Idx) : (outsAt0 m c t).2.2.2.2.2.2 y
    = k0_pay1 (k0_pay295 (k0_pay3 (iblk m c 0 t) (iblk m c 1 t) (iblk m c 2 t) (iblk m c 3 t)) (iblk m c 5 t)) (k0_pay296 (k0_pay3 (iblk m c 0 t) (iblk m c 1 t) (iblk m c 2 t) (iblk m c 3 t)) (iblk m c 5 t)) (Scalar.ofBits .f32 0x358637BD#32) (iblk m c 7 t) y := by
  unfold outsAt0
  frame_out

/-- The twelve blocks of 128 columns that a step leaves in its buffer. -/
abbrev blocks (T : FVec Ideal S512x1536 .f32) : List (View.Piece (Elt Ideal) S12x512x128 .f32) :=
 [⟨Rect.unit ![11, 0, 0] ![1, 512, 128] inb_S12x512x128_S1x512x128_11_0_0, shapeCast S1x512x128 (extractStridedSlice S512x128 ![0, 1408] T slices_S512x1536_o0_1408_S512x128) shapeCasts_S512x128_S1x512x128⟩,
  ⟨Rect.unit ![10, 0, 0] ![1, 512, 128] inb_S12x512x128_S1x512x128_10_0_0, shapeCast S1x512x128 (extractStridedSlice S512x128 ![0, 1280] T slices_S512x1536_o0_1280_S512x128) shapeCasts_S512x128_S1x512x128⟩,
  ⟨Rect.unit ![9, 0, 0] ![1, 512, 128] inb_S12x512x128_S1x512x128_9_0_0, shapeCast S1x512x128 (extractStridedSlice S512x128 ![0, 1152] T slices_S512x1536_o0_1152_S512x128) shapeCasts_S512x128_S1x512x128⟩,
  ⟨Rect.unit ![8, 0, 0] ![1, 512, 128] inb_S12x512x128_S1x512x128_8_0_0, shapeCast S1x512x128 (extractStridedSlice S512x128 ![0, 1024] T slices_S512x1536_o0_1024_S512x128) shapeCasts_S512x128_S1x512x128⟩,
  ⟨Rect.unit ![7, 0, 0] ![1, 512, 128] inb_S12x512x128_S1x512x128_7_0_0, shapeCast S1x512x128 (extractStridedSlice S512x128 ![0, 896] T slices_S512x1536_o0_896_S512x128) shapeCasts_S512x128_S1x512x128⟩,
  ⟨Rect.unit ![6, 0, 0] ![1, 512, 128] inb_S12x512x128_S1x512x128_6_0_0, shapeCast S1x512x128 (extractStridedSlice S512x128 ![0, 768] T slices_S512x1536_o0_768_S512x128) shapeCasts_S512x128_S1x512x128⟩,
  ⟨Rect.unit ![5, 0, 0] ![1, 512, 128] inb_S12x512x128_S1x512x128_5_0_0, shapeCast S1x512x128 (extractStridedSlice S512x128 ![0, 640] T slices_S512x1536_o0_640_S512x128) shapeCasts_S512x128_S1x512x128⟩,
  ⟨Rect.unit ![4, 0, 0] ![1, 512, 128] inb_S12x512x128_S1x512x128_4_0_0, shapeCast S1x512x128 (extractStridedSlice S512x128 ![0, 512] T slices_S512x1536_o0_512_S512x128) shapeCasts_S512x128_S1x512x128⟩,
  ⟨Rect.unit ![3, 0, 0] ![1, 512, 128] inb_S12x512x128_S1x512x128_3_0_0, shapeCast S1x512x128 (extractStridedSlice S512x128 ![0, 384] T slices_S512x1536_o0_384_S512x128) shapeCasts_S512x128_S1x512x128⟩,
  ⟨Rect.unit ![2, 0, 0] ![1, 512, 128] inb_S12x512x128_S1x512x128_2_0_0, shapeCast S1x512x128 (extractStridedSlice S512x128 ![0, 256] T slices_S512x1536_o0_256_S512x128) shapeCasts_S512x128_S1x512x128⟩,
  ⟨Rect.unit ![1, 0, 0] ![1, 512, 128] inb_S12x512x128_S1x512x128_1_0_0, shapeCast S1x512x128 (extractStridedSlice S512x128 ![0, 128] T slices_S512x1536_o0_128_S512x128) shapeCasts_S512x128_S1x512x128⟩,
  ⟨Rect.unit ![0, 0, 0] ![1, 512, 128] inb_S12x512x128_S1x512x128_0_0_0, shapeCast S1x512x128 (extractStridedSlice S512x128 ![0, 0] T slices_S512x1536_o0_0_S512x128) shapeCasts_S512x128_S1x512x128⟩]

/-- Where an entry of the buffer comes from. -/
theorem blocks_apply (T : FVec Ideal S512x1536 .f32) (z : S12x512x128.Idx) : View.canon (blocks T) z
    = T (ix2 (z 1) ⟨128 * (z 0).val + (z 2).val, by have h0 : (z 0).val < 12 := (z 0).isLt; have h2 : (z 2).val < 128 := (z 2).isLt; omega⟩) := by
  canon_tiles x h
  all_goals (pointwise; blk_ext)

/-- Where an entry of a strided load from the buffer comes from. -/
theorem load_apply (T : FVec Ideal S512x1536 .f32) (k o s n : ℕ) (i1 : ∀ a, (![k, 0, 0] : Fin 3 → ℕ) a + (![1, 512, 128] : Fin 3 → ℕ) a ≤ S12x512x128.size a)
    (i2 : ∀ a, (![n, 128] : Fin 2 → ℕ) a = 0 ∨ (![o, 0] : Fin 2 → ℕ) a + (![s, 1] : Fin 2 → ℕ) a * ((![n, 128] : Fin 2 → ℕ) a - 1) < S512x128.size a) (h0 hs h3) (hR)
    (a : Fin n) (b : Fin 128) (p : Fin 512) (q : Fin 1536) (hp : p.val = o + s * a.val) (hq : q.val = 128 * k + b.val) :
    LoadRect.valAlong (lr := (⟨![o, 0], ![n, 128], ![s, 1], i2⟩ : LoadRect S512x128)) hR ((View.whole cc0_scratch0).readCov (Val := Elt Ideal) (blocks T)
      ((Rect.unit (s := S12x512x128) ![k, 0, 0] ![1, 512, 128] i1).withinL
        ((⟨![o, 0], ![n, 128], ![s, 1], i2⟩ : LoadRect S512x128).consLift ![1, 512, 128] h0 hs) h3)) (ix2 a b) = T (ix2 p q) := by
  have e := Shape.reshapeEquiv_cons_one (d := ![n, 128]) hR (ix2 a b)
  refine (congrArg ((View.whole cc0_scratch0).readCov (Val := Elt Ideal) (blocks T)
      ((Rect.unit (s := S12x512x128) ![k, 0, 0] ![1, 512, 128] i1).withinL
        ((⟨![o, 0], ![n, 128], ![s, 1], i2⟩ : LoadRect S512x128).consLift ![1, 512, 128] h0 hs) h3)) e).trans ?_
  refine (congrFun (View.readCov_eq_canon' _ _ _) _).trans ((blocks_apply T _).trans ?_)
  refine congrArg T (funext fun d => ?_)
  fin_cases d
  · refine Fin.ext (Eq.trans ?_ hp.symm)
    show 0 + o + s * a.val = _
    omega
  · refine Fin.ext (Eq.trans ?_ hq.symm)
    show 128 * (k + 0 + 1 * 0) + (0 + 0 + 1 * b.val) = _
    omega

theorem tile_10 (c : Dev nD) (t : Fin cfg0.N) (y : S1x128x6144.Idx) : (outsAt0 m c t).2.2.1 y
    = k0_pay5 (iblk m c 0 t) (iblk m c 1 t) (iblk m c 2 t) (iblk m c 3 t) (iblk m c 4 t) (ix2 ⟨4 * (y 1).val + (y 2).val / 1536, by have h1 : (y 1).val < 128 := (y 1).isLt; have h2 : (y 2).val < 6144 := (y 2).isLt; omega⟩ ⟨(y 2).val % 1536, by omega⟩) := by
  unfold outsAt0
  frame_out
  generalize k0_pay5 (iblk m c 0 t) (iblk m c 1 t) (iblk m c 2 t) (iblk m c 3 t) (iblk m c 4 t) = T
  canon_tiles x h
  all_goals
    open_payloads
    pointwise
    refine (load_apply T _ _ _ _ _ _ _ _ _ _ _ _ _ _ ?_ ?_)
  all_goals (dsimp only; omega)

set_option maxHeartbeats 4000000 in
theorem tile_11 (c : Dev nD) (t : Fin cfg0.N) (y : S1x32x24576.Idx) : (outsAt0 m c t).2.2.2.1 y
    = k0_pay5 (iblk m c 0 t) (iblk m c 1 t) (iblk m c 2 t) (iblk m c 3 t) (iblk m c 4 t) (ix2 ⟨16 * (y 1).val + (y 2).val / 1536, by have h1 : (y 1).val < 32 := (y 1).isLt; have h2 : (y 2).val < 24576 := (y 2).isLt; omega⟩ ⟨(y 2).val % 1536, by omega⟩) := by
  unfold outsAt0
  frame_out
  generalize k0_pay5 (iblk m c 0 t) (iblk m c 1 t) (iblk m c 2 t) (iblk m c 3 t) (iblk m c 4 t) = T
  canon_tiles x h
  all_goals
    open_payloads
    pointwise
    refine (load_apply T _ _ _ _ _ _ _ _ _ _ _ _ _ _ ?_ ?_)
  all_goals (dsimp only; omega)

/-- The rows behind the modulated normalisation. -/
theorem final_8 (c : Dev nD) : (dats m 0 c).arrAt 8 (cfgs 0).N = Cert.ReferenceInProjIdeal.Read.val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  refine ((tile_8 m c t y).trans ((hid_block m c t _ _))).trans (Eq.trans ?_ (ref_8 (m ((c : Thread nD τ).loc main_arg0)) (m ((c : Thread nD τ).loc main_arg1)) (m ((c : Thread nD τ).loc main_arg2)) (m ((c : Thread nD τ).loc main_arg3)) _).symm)
  refine at_congr _ ?_ ?_ ?_
  all_goals (blk_simp [idx t]; try (dsimp only; omega))

/-- The first product. -/
theorem final_9 (c : Dev nD) : (dats m 0 c).arrAt 9 (cfgs 0).N = Cert.ReferenceInProjIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  refine ((tile_9 m c t y).trans ((first_block m c t _ _))).trans (Eq.trans ?_ (ref_9 (m ((c : Thread nD τ).loc main_arg0)) (m ((c : Thread nD τ).loc main_arg1)) (m ((c : Thread nD τ).loc main_arg2)) (m ((c : Thread nD τ).loc main_arg3)) (m ((c : Thread nD τ).loc main_arg4)) _).symm)
  refine at_congr _ ?_ ?_ ?_
  all_goals (blk_simp [idx t]; try (dsimp only; omega))

/-- The first product, four rows side by side. -/
theorem final_10 (c : Dev nD) : (dats m 0 c).arrAt 10 (cfgs 0).N = Cert.ReferenceInProjIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  refine ((tile_10 m c t y).trans ((first_block m c t _ _))).trans (Eq.trans ?_ (ref_10 (m ((c : Thread nD τ).loc main_arg0)) (m ((c : Thread nD τ).loc main_arg1)) (m ((c : Thread nD τ).loc main_arg2)) (m ((c : Thread nD τ).loc main_arg3)) (m ((c : Thread nD τ).loc main_arg4)) _).symm)
  refine at_congr _ ?_ ?_ ?_
  all_goals (blk_simp [idx t]; try (dsimp only; omega))

/-- The first product, sixteen rows side by side. -/
theorem final_11 (c : Dev nD) : (dats m 0 c).arrAt 11 (cfgs 0).N = Cert.ReferenceInProjIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp
  rw [after0_11]
  refine ((tile_11 m c t y).trans ((first_block m c t _ _))).trans (Eq.trans ?_ (ref_11 (m ((c : Thread nD τ).loc main_arg0)) (m ((c : Thread nD τ).loc main_arg1)) (m ((c : Thread nD τ).loc main_arg2)) (m ((c : Thread nD τ).loc main_arg3)) (m ((c : Thread nD τ).loc main_arg4)) _).symm)
  refine at_congr _ ?_ ?_ ?_
  all_goals (blk_simp [idx t]; try (dsimp only; omega))

/-- The second product. -/
theorem final_12 (c : Dev nD) : (dats m 0 c).arrAt 12 (cfgs 0).N = Cert.ReferenceInProjIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 12 _ (by decide +kernel) fun t hf y => ?_
  blk_simp
  rw [after0_12]
  refine ((tile_12 m c t y).trans ((second_block m c t _ _))).trans (Eq.trans ?_ (ref_12 (m ((c : Thread nD τ).loc main_arg0)) (m ((c : Thread nD τ).loc main_arg1)) (m ((c : Thread nD τ).loc main_arg2)) (m ((c : Thread nD τ).loc main_arg3)) (m ((c : Thread nD τ).loc main_arg5)) _).symm)
  refine at_congr _ ?_ ?_ ?_
  all_goals (blk_simp [idx t]; try (dsimp only; omega))

/-- The normalised part of the queries. -/
theorem final_13 (c : Dev nD) : (dats m 0 c).arrAt 13 (cfgs 0).N = Cert.ReferenceInProjIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats m 0 c).arrAt_eq_of_covers 13 _ (by decide +kernel) fun t hf y => ?_
  blk_simp
  rw [after0_13]
  refine ((tile_13 m c t y).trans ((congrArg _ (eq_ix2 y)).trans (q_block m c t _ _))).trans (Eq.trans ?_ (ref_13 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) _).symm)
  have hy : (y 0).val < 512 := (y 0).isLt
  refine at_congr _ ?_ ?_ ?_
  all_goals (blk_simp [idx t]; try (dsimp only; omega))

/-- The normalised part of the keys and values. -/
theorem final_14 (c : Dev nD) : (dats m 0 c).arrAt 14 (cfgs 0).N = Cert.ReferenceInProjIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) := by
  refine (dats m 0 c).arrAt_eq_of_covers 14 _ (by decide +kernel) fun t hf y => ?_
  blk_simp
  rw [after0_14]
  refine ((tile_14 m c t y).trans ((congrArg _ (eq_ix2 y)).trans (kv_block m c t _ _))).trans (Eq.trans ?_ (ref_14 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) _).symm)
  have hy : (y 0).val < 512 := (y 0).isLt
  refine at_congr _ ?_ ?_ ?_
  all_goals (blk_simp [idx t]; try (dsimp only; omega))

end Cert.InProj

end
-- ==== Proof.MixerOut.lean ====
module

public import proofs.«01_k».proof.Proof.Gen.KernelMixerOutIdeal.Frame
public import proofs.«01_k».proof.Proof.Gen.ReferenceMixerOutIdeal.Read
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.Claim

/-! The normalised outputs of the two mixers side by side, their product, the residual, and the modulated normalisation in
front of the feed-forward block: by 512 rows a grid step. -/

@[expose] public section

set_option maxRecDepth 16384

noncomputable section

open Idealize.ShloMosaic Idealize.ShloMosaic.TcCoe Idealize.SL.Sem
open scoped BigOperators

namespace Cert.MixerOut

open Cert.KernelMixerOutIdeal Cert.KernelMixerOutIdeal.Gen

variable (m : (ℓ : Loc nD τ sig) → Buf (Elt Ideal) ℓ)

/-- Which tile each window holds at each grid step. -/
theorem idx : ∀ t : Fin cfg0.N, win0_0.index t = ![t.val / 4, t.val % 4, 0]
    ∧ win0_1.index t = ![t.val / 4, t.val % 4, 0]
    ∧ win0_2.index t = ![0, 0]
    ∧ win0_3.index t = ![0, 0]
    ∧ win0_4.index t = ![0, 0]
    ∧ win0_5.index t = ![t.val / 4, t.val % 4, 0]
    ∧ win0_6.index t = ![t.val / 4, 0, 0]
    ∧ win0_7.index t = ![0, 0]
    ∧ win0_8.index t = ![t.val / 4, 0, 0]
    ∧ win0_9.index t = ![t.val / 4, 0, 0]
    ∧ win0_10.index t = ![t.val, 0]
    ∧ win0_11.index t = ![t.val / 4, t.val % 4, 0]
    ∧ win0_12.index t = ![t.val / 4, t.val % 4, 0]
    ∧ win0_13.index t = ![t.val / 4, t.val % 4, 0] :=
  (by decide +kernel : ∀ t : Fin grid0.N, _)

/-- The lengths of the rows, and what is added to the mean of their squares. -/
abbrev len : EReal := Ideal.ofBits .f32 0x44800000#32
abbrev half : EReal := Ideal.ofBits .f32 0x44000000#32
abbrev eps : EReal := Ideal.ofBits .f32 0x358637BD#32

/-- A row behind a normalisation and its gain. -/
def nrm {n : ℕ} (D : EReal) (z g : Fin n → EReal) (q : Fin n) : EReal := z q * Cert.Rms.inv D eps z * g q

/-- The two normalised rows side by side. -/
def pair (a b g h : Fin 512 → EReal) (q : Fin 1024) : EReal :=
  if e : q.val < 512 then nrm half a g ⟨q.val, e⟩ else nrm half b h ⟨q.val - 512, by omega⟩

/-- A row behind the last normalisation and the modulation. -/
def hid (z g c d : Fin 1024 → EReal) (q : Fin 1024) : EReal :=
  nrm len z g q * (Ideal.ofBits .f32 0x3F800000#32 + c q) + d q

/-- What a grid step computes, element by element. -/
theorem pay2_apply (a : Vec Ideal S1x512x512 .f32) (g : Vec Ideal S1x512 .f32) (b : Vec Ideal S1x512x512 .f32) (h : Vec Ideal S1x512 .f32) (r : Fin 512) (q : Fin 1024) :
    k0_pay2 a g b h (ix2 r q) = pair (fun k => a (ix3 0 r k)) (fun k => b (ix3 0 r k)) (fun k => g (ix2 0 k)) (fun k => h (ix2 0 k)) q := by
  pointwise [k0_pay2, pair, nrm, Cert.Rms.inv]

theorem pay3_apply (a : Vec Ideal S1x512x512 .f32) (g : Vec Ideal S1x512 .f32) (b : Vec Ideal S1x512x512 .f32) (h : Vec Ideal S1x512 .f32) (w : Vec Ideal S1024x1024 .bf16) (r : Fin 512) (q : Fin 1024) :
    k0_pay3 a g b h w (ix2 r q) = ∑ k : Fin 1024, k0_pay2 a g b h (ix2 r k) * w (ix2 k q) := by
  pointwise [k0_pay3]

theorem pay5_apply (v : FVec Ideal S512x1024 .f32) (x : Vec Ideal S1x512x1024 .f32) (g : Vec Ideal S1x1x1024 .f32) (r : Fin 512) (q : Fin 1024) :
    k0_pay5 v x g (ix2 r q) = x (ix3 0 r q) + g (ix3 0 0 q) * v (ix2 r q) := by
  pointwise [k0_pay5]

theorem pay1_apply (v : FVec Ideal S512x1024 .f32) (x : Vec Ideal S1x512x1024 .f32) (g : Vec Ideal S1x1x1024 .f32) (n : Vec Ideal S1x1024 .f32) (c d : Vec Ideal S1x1x1024 .f32) (r : Fin 512) (q : Fin 1024) :
    k0_pay1 (k0_pay7 v x g n c) (k0_pay8 d) (ix3 0 r q)
      = hid (fun k => k0_pay5 v x g (ix2 r k)) (fun k => n (ix2 0 k)) (fun k => c (ix3 0 0 k)) (fun k => d (ix3 0 0 k)) q := by
  pointwise [k0_pay1, k0_pay7, k0_pay8, hid, nrm, Cert.Rms.inv]

/-- The reference program, element by element. -/
theorem ref_y (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (b : Fin 2) (s : Fin 2048) (q : Fin 1024) :
    Cert.ReferenceMixerOutIdeal.Read.val_main_v26 (F := Ideal) x0 x1 x2 x3 (ix3 b s q)
      = pair (fun k => x0 (ix3 b s k)) (fun k => x1 (ix3 b s k)) (fun k => x2 (ix2 0 k)) (fun k => x3 (ix2 0 k)) q := by
  pointwise [pair, nrm, Cert.Rms.inv, Cert.ReferenceMixerOutIdeal.Read.val_main_v0, Cert.ReferenceMixerOutIdeal.Read.val_main_v1, Cert.ReferenceMixerOutIdeal.Read.val_main_v2, Cert.ReferenceMixerOutIdeal.Read.val_main_v3, Cert.ReferenceMixerOutIdeal.Read.val_main_v4, Cert.ReferenceMixerOutIdeal.Read.val_main_v5, Cert.ReferenceMixerOutIdeal.Read.val_main_v6, Cert.ReferenceMixerOutIdeal.Read.val_main_v7, Cert.ReferenceMixerOutIdeal.Read.val_main_v8, Cert.ReferenceMixerOutIdeal.Read.val_main_v9, Cert.ReferenceMixerOutIdeal.Read.val_main_v10, Cert.ReferenceMixerOutIdeal.Read.val_main_v11, Cert.ReferenceMixerOutIdeal.Read.val_main_v12, Cert.ReferenceMixerOutIdeal.Read.val_main_v13, Cert.ReferenceMixerOutIdeal.Read.val_main_v14, Cert.ReferenceMixerOutIdeal.Read.val_main_v15, Cert.ReferenceMixerOutIdeal.Read.val_main_v16, Cert.ReferenceMixerOutIdeal.Read.val_main_v17, Cert.ReferenceMixerOutIdeal.Read.val_main_v18, Cert.ReferenceMixerOutIdeal.Read.val_main_v19, Cert.ReferenceMixerOutIdeal.Read.val_main_v20, Cert.ReferenceMixerOutIdeal.Read.val_main_v21, Cert.ReferenceMixerOutIdeal.Read.val_main_v22, Cert.ReferenceMixerOutIdeal.Read.val_main_v23, Cert.ReferenceMixerOutIdeal.Read.val_main_v24, Cert.ReferenceMixerOutIdeal.Read.val_main_v25, Cert.ReferenceMixerOutIdeal.Read.val_main_v26, Cert.ReferenceMixerOutIdeal.Read.val_main_cst, Cert.ReferenceMixerOutIdeal.Read.val_main_cst_0, Cert.ReferenceMixerOutIdeal.Read.val_main_cst_1, Cert.ReferenceMixerOutIdeal.Read.val_main_cst_2, Cert.ReferenceMixerOutIdeal.Read.val_main_cst_3, Cert.ReferenceMixerOutIdeal.Read.val_main_cst_4]

theorem ref_mix (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (x4 : FVec Ideal Cert.ReferenceMixerOutIdeal.S1024x1024 .bf16) (b : Fin 2) (s : Fin 2048) (q : Fin 1024) :
    Cert.ReferenceMixerOutIdeal.Read.val_main_v28 (F := Ideal) x0 x1 x2 x3 x4 (ix3 b s q)
      = ∑ k : Fin 1024, Cert.ReferenceMixerOutIdeal.Read.val_main_v26 (F := Ideal) x0 x1 x2 x3 (ix3 b s k) * x4 (ix2 k q) := by
  pointwise [Cert.ReferenceMixerOutIdeal.Read.val_main_v28, Cert.ReferenceMixerOutIdeal.Read.val_main_v27]

theorem ref_x (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (x4 : FVec Ideal Cert.ReferenceMixerOutIdeal.S1024x1024 .bf16) (x5 : FVec Ideal Cert.ReferenceMixerOutIdeal.S2x2048x1024 .f32) (x6 : FVec Ideal Cert.ReferenceMixerOutIdeal.S2x1x1024 .f32) (b : Fin 2) (s : Fin 2048) (q : Fin 1024) :
    Cert.ReferenceMixerOutIdeal.Read.val_main_v31 (F := Ideal) x0 x1 x2 x3 x4 x5 x6 (ix3 b s q)
      = x5 (ix3 b s q) + x6 (ix3 b 0 q) * Cert.ReferenceMixerOutIdeal.Read.val_main_v28 (F := Ideal) x0 x1 x2 x3 x4 (ix3 b s q) := by
  pointwise [Cert.ReferenceMixerOutIdeal.Read.val_main_v29, Cert.ReferenceMixerOutIdeal.Read.val_main_v30, Cert.ReferenceMixerOutIdeal.Read.val_main_v31]

theorem ref_h (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (x4 : FVec Ideal Cert.ReferenceMixerOutIdeal.S1024x1024 .bf16) (x5 : FVec Ideal Cert.ReferenceMixerOutIdeal.S2x2048x1024 .f32) (x6 : FVec Ideal Cert.ReferenceMixerOutIdeal.S2x1x1024 .f32) (x7 : FVec Ideal Cert.ReferenceMixerOutIdeal.S1x1024 .f32) (x8 : FVec Ideal Cert.ReferenceMixerOutIdeal.S2x1x1024 .f32) (x9 : FVec Ideal Cert.ReferenceMixerOutIdeal.S2x1x1024 .f32) (b : Fin 2) (s : Fin 2048) (q : Fin 1024) :
    Cert.ReferenceMixerOutIdeal.Read.val_main_v50 (F := Ideal) x0 x1 x2 x3 x4 x5 x6 x7 x8 x9 (ix3 b s q)
      = hid (fun k => Cert.ReferenceMixerOutIdeal.Read.val_main_v31 (F := Ideal) x0 x1 x2 x3 x4 x5 x6 (ix3 b s k)) (fun k => x7 (ix2 0 k)) (fun k => x8 (ix3 b 0 k)) (fun k => x9 (ix3 b 0 k)) q := by
  pointwise [hid, nrm, Cert.Rms.inv, Cert.ReferenceMixerOutIdeal.Read.val_main_v32, Cert.ReferenceMixerOutIdeal.Read.val_main_v33, Cert.ReferenceMixerOutIdeal.Read.val_main_v34, Cert.ReferenceMixerOutIdeal.Read.val_main_v35, Cert.ReferenceMixerOutIdeal.Read.val_main_v36, Cert.ReferenceMixerOutIdeal.Read.val_main_v37, Cert.ReferenceMixerOutIdeal.Read.val_main_v38, Cert.ReferenceMixerOutIdeal.Read.val_main_v39, Cert.ReferenceMixerOutIdeal.Read.val_main_v40, Cert.ReferenceMixerOutIdeal.Read.val_main_v41, Cert.ReferenceMixerOutIdeal.Read.val_main_v42, Cert.ReferenceMixerOutIdeal.Read.val_main_v43, Cert.ReferenceMixerOutIdeal.Read.val_main_v44, Cert.ReferenceMixerOutIdeal.Read.val_main_v45, Cert.ReferenceMixerOutIdeal.Read.val_main_v46, Cert.ReferenceMixerOutIdeal.Read.val_main_v47, Cert.ReferenceMixerOutIdeal.Read.val_main_v48, Cert.ReferenceMixerOutIdeal.Read.val_main_v49, Cert.ReferenceMixerOutIdeal.Read.val_main_v50, Cert.ReferenceMixerOutIdeal.Read.val_main_cst_5, Cert.ReferenceMixerOutIdeal.Read.val_main_cst_6, Cert.ReferenceMixerOutIdeal.Read.val_main_cst_7, Cert.ReferenceMixerOutIdeal.Read.val_main_cst_8]

/-- A grid step's values are the reference's at the rows of its tile. -/
theorem y_block (c : Dev nD) (t : Fin cfg0.N) (r : Fin 512) (q : Fin 1024) :
    k0_pay2 (iblk m c 0 t) (iblk m c 2 t) (iblk m c 1 t) (iblk m c 3 t) (ix2 r q) = Cert.ReferenceMixerOutIdeal.Read.val_main_v26 (F := Ideal) (m ((c : Thread nD τ).loc main_arg0)) (m ((c : Thread nD τ).loc main_arg1)) (m ((c : Thread nD τ).loc main_arg2)) (m ((c : Thread nD τ).loc main_arg3)) (ix3 ⟨t.val / 4, by have : t.val < 8 := t.isLt; omega⟩ ⟨t.val % 4 * 512 + r.val, by omega⟩ q) := by
  refine (pay2_apply _ _ _ _ r q).trans (Eq.trans ?_ (ref_y (m ((c : Thread nD τ).loc main_arg0)) (m ((c : Thread nD τ).loc main_arg1)) (m ((c : Thread nD τ).loc main_arg2)) (m ((c : Thread nD τ).loc main_arg3)) _ _ q).symm)
  refine congr (congr (congr (congrArg pair (funext fun k => ?_)) (funext fun k => ?_)) (funext fun k => ?_)) (funext fun k => ?_) |> fun e => congrFun e q
  all_goals blk_point [iblk, V, idx t]

theorem mix_block (c : Dev nD) (t : Fin cfg0.N) (r : Fin 512) (q : Fin 1024) :
    k0_pay3 (iblk m c 0 t) (iblk m c 2 t) (iblk m c 1 t) (iblk m c 3 t) (iblk m c 4 t) (ix2 r q) = Cert.ReferenceMixerOutIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val / 4, by have : t.val < 8 := t.isLt; omega⟩ ⟨t.val % 4 * 512 + r.val, by omega⟩ q) := by
  refine (pay3_apply _ _ _ _ _ r q).trans (Eq.trans ?_ (ref_mix (m ((c : Thread nD τ).loc main_arg0)) (m ((c : Thread nD τ).loc main_arg1)) (m ((c : Thread nD τ).loc main_arg2)) (m ((c : Thread nD τ).loc main_arg3)) (m ((c : Thread nD τ).loc main_arg4)) _ _ q).symm)
  refine Finset.sum_congr (M := EReal) rfl fun k _ => congrArg₂ (fun a b : EReal => a * b) (y_block m c t r k) ?_
  blk_point [iblk, V, idx t]

theorem x_block (c : Dev nD) (t : Fin cfg0.N) (r : Fin 512) (q : Fin 1024) :
    k0_pay5 (k0_pay3 (iblk m c 0 t) (iblk m c 2 t) (iblk m c 1 t) (iblk m c 3 t) (iblk m c 4 t)) (iblk m c 5 t) (iblk m c 6 t) (ix2 r q) = Cert.ReferenceMixerOutIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val / 4, by have : t.val < 8 := t.isLt; omega⟩ ⟨t.val % 4 * 512 + r.val, by omega⟩ q) := by
  refine (pay5_apply _ _ _ r q).trans (Eq.trans ?_ (ref_x (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ q).symm)
  refine congrArg₂ (fun a b : EReal => a + b) ?_ (congrArg₂ (fun a b : EReal => a * b) ?_ (mix_block m c t r q))
  all_goals blk_point [iblk, V, idx t]

theorem h_block (c : Dev nD) (t : Fin cfg0.N) (r : Fin 512) (q : Fin 1024) :
    k0_pay1 (k0_pay7 (k0_pay3 (iblk m c 0 t) (iblk m c 2 t) (iblk m c 1 t) (iblk m c 3 t) (iblk m c 4 t)) (iblk m c 5 t) (iblk m c 6 t) (iblk m c 7 t) (iblk m c 8 t)) (k0_pay8 (iblk m c 9 t)) (ix3 0 r q) = Cert.ReferenceMixerOutIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 ⟨t.val / 4, by have : t.val < 8 := t.isLt; omega⟩ ⟨t.val % 4 * 512 + r.val, by omega⟩ q) := by
  refine (pay1_apply _ _ _ _ _ _ r q).trans (Eq.trans ?_ (ref_h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ _ q).symm)
  refine congr (congr (congr (congrArg hid (funext fun k => x_block m c t r k)) (funext fun k => ?_)) (funext fun k => ?_)) (funext fun k => ?_) |> fun e => congrFun e q
  all_goals blk_point [iblk, V, idx t]

/-- A value of three coordinates depends on their numbers alone. -/
theorem at_congr {a b n : ℕ} (f : (⟨3, ![a, b, n]⟩ : Shape).Idx → EReal) {x x' : Fin a} {y y' : Fin b} {z z' : Fin n}
    (hx : x.val = x'.val) (hy : y.val = y'.val) (hz : z.val = z'.val) : f (ix3 x y z) = f (ix3 x' y' z') := by
  rw [Fin.ext hx, Fin.ext hy, Fin.ext hz]

/-- An index whose first axis has one coordinate. -/
theorem idx_one {b n : ℕ} (y : (⟨3, ![1, b, n]⟩ : Shape).Idx) : y = ix3 0 (y 1) (y 2) :=
  (eq_ix3 y).trans (congrArg (fun a : Fin 1 => (ix3 a (y 1) (y 2) : (⟨3, ![1, b, n]⟩ : Shape).Idx)) (Subsingleton.elim _ _))

/-- The results of the reference, by their rows. -/
theorem ref_10 (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (z : Cert.ReferenceMixerOutIdeal.S4096x1024.Idx) :
    Cert.ReferenceMixerOutIdeal.Read.val_main_v52 (F := Ideal) x0 x1 x2 x3 z = Cert.ReferenceMixerOutIdeal.Read.val_main_v26 (F := Ideal) x0 x1 x2 x3 (ix3 ⟨(z 0).val / 2048, by have h0 : (z 0).val < 4096 := (z 0).isLt; omega⟩ ⟨(z 0).val % 2048, by omega⟩ (z 1)) := by
  pointwise [Cert.ReferenceMixerOutIdeal.Read.val_main_v52, Cert.ReferenceMixerOutIdeal.Read.val_main_v51]

theorem ref_11 (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (x4 : FVec Ideal Cert.ReferenceMixerOutIdeal.S1024x1024 .bf16) (z : Cert.ReferenceMixerOutIdeal.S2x2048x1024.Idx) :
    Cert.ReferenceMixerOutIdeal.Read.val_main_v28 (F := Ideal) x0 x1 x2 x3 x4 z = Cert.ReferenceMixerOutIdeal.Read.val_main_v28 (F := Ideal) x0 x1 x2 x3 x4 (ix3 (z 0) (z 1) (z 2)) := by
  exact congrArg _ (eq_ix3 z)

theorem ref_12 (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (x4 : FVec Ideal Cert.ReferenceMixerOutIdeal.S1024x1024 .bf16) (x5 : FVec Ideal Cert.ReferenceMixerOutIdeal.S2x2048x1024 .f32) (x6 : FVec Ideal Cert.ReferenceMixerOutIdeal.S2x1x1024 .f32) (z : Cert.ReferenceMixerOutIdeal.S2x2048x1024.Idx) :
    Cert.ReferenceMixerOutIdeal.Read.val_main_v31 (F := Ideal) x0 x1 x2 x3 x4 x5 x6 z = Cert.ReferenceMixerOutIdeal.Read.val_main_v31 (F := Ideal) x0 x1 x2 x3 x4 x5 x6 (ix3 (z 0) (z 1) (z 2)) := by
  exact congrArg _ (eq_ix3 z)

theorem ref_13 (x0 : FVec Ideal Cert.ReferenceMixerOutIdeal.S2x2048x512 .f32) (x1 : FVec Ideal Cert.ReferenceMixerOutIdeal.S2x2048x512 .f32) (x2 : FVec Ideal Cert.ReferenceMixerOutIdeal.S1x512 .f32) (x3 : FVec Ideal Cert.ReferenceMixerOutIdeal.S1x512 .f32) (x4 : FVec Ideal Cert.ReferenceMixerOutIdeal.S1024x1024 .bf16) (x5 : FVec Ideal Cert.ReferenceMixerOutIdeal.S2x2048x1024 .f32) (x6 : FVec Ideal Cert.ReferenceMixerOutIdeal.S2x1x1024 .f32) (x7 : FVec Ideal Cert.ReferenceMixerOutIdeal.S1x1024 .f32) (x8 : FVec Ideal Cert.ReferenceMixerOutIdeal.S2x1x1024 .f32) (x9 : FVec Ideal Cert.ReferenceMixerOutIdeal.S2x1x1024 .f32) (z : Cert.ReferenceMixerOutIdeal.S2x2048x1024.Idx) :
    Cert.ReferenceMixerOutIdeal.Read.val_main_v53 (F := Ideal) x0 x1 x2 x3 x4 x5 x6 x7 x8 x9 z = Cert.ReferenceMixerOutIdeal.Read.val_main_v50 (F := Ideal) x0 x1 x2 x3 x4 x5 x6 x7 x8 x9 (ix3 (z 0) (z 1) (z 2)) := by
  pointwise [Cert.ReferenceMixerOutIdeal.Read.val_main_v53]

theorem tile_10 (c : Dev nD) (t : Fin cfg0.N) (y : S512x1024.Idx) : (dats m 0 c).after 10 t y
    = k0_pay2 (iblk m c 0 t) (iblk m c 2 t) (iblk m c 1 t) (iblk m c 3 t) (ix2 (y 0) (y 1)) := by
  rw [after0_10]
  unfold out0_10
  frame_out
  exact congrArg _ (eq_ix2 y)

theorem tile_11 (c : Dev nD) (t : Fin cfg0.N) (y : S1x512x1024.Idx) : (dats m 0 c).after 11 t y
    = k0_pay3 (iblk m c 0 t) (iblk m c 2 t) (iblk m c 1 t) (iblk m c 3 t) (iblk m c 4 t) (ix2 (y 1) (y 2)) := by
  rw [after0_11]
  unfold out0_11 k0_pay9
  frame_out
  pointwise [k0_pay4]

theorem tile_12 (c : Dev nD) (t : Fin cfg0.N) (y : S1x512x1024.Idx) : (dats m 0 c).after 12 t y
    = k0_pay5 (k0_pay3 (iblk m c 0 t) (iblk m c 2 t) (iblk m c 1 t) (iblk m c 3 t) (iblk m c 4 t)) (iblk m c 5 t) (iblk m c 6 t) (ix2 (y 1) (y 2)) := by
  rw [after0_12]
  unfold out0_12 k0_pay9
  frame_out
  pointwise [k0_pay6]

theorem tile_13 (c : Dev nD) (t : Fin cfg0.N) (y : S1x512x1024.Idx) : (dats m 0 c).after 13 t y
    = k0_pay1 (k0_pay7 (k0_pay3 (iblk m c 0 t) (iblk m c 2 t) (iblk m c 1 t) (iblk m c 3 t) (iblk m c 4 t)) (iblk m c 5 t) (iblk m c 6 t) (iblk m c 7 t) (iblk m c 8 t)) (k0_pay8 (iblk m c 9 t)) (ix3 0 (y 1) (y 2)) := by
  rw [after0_13]
  unfold out0_13 k0_pay9
  frame_out
  exact congrArg _ (idx_one y)

/-- The normalised outputs of the mixers. -/
theorem final_10 (c : Dev nD) : (dats m 0 c).arrAt 10 (cfgs 0).N = Cert.ReferenceMixerOutIdeal.Read.val_main_v52 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  refine ((tile_10 m c t y).trans (y_block m c t _ _)).trans (Eq.trans ?_ (ref_10 (m ((c : Thread nD τ).loc main_arg0)) (m ((c : Thread nD τ).loc main_arg1)) (m ((c : Thread nD τ).loc main_arg2)) (m ((c : Thread nD τ).loc main_arg3)) _).symm)
  have hy : (y 0).val < 512 := (y 0).isLt
  refine at_congr _ ?_ ?_ ?_
  all_goals (blk_simp [idx t]; try (dsimp only; omega))

/-- Their product. -/
theorem final_11 (c : Dev nD) : (dats m 0 c).arrAt 11 (cfgs 0).N = Cert.ReferenceMixerOutIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp
  refine ((tile_11 m c t y).trans (mix_block m c t _ _)).trans (Eq.trans ?_ (ref_11 (m ((c : Thread nD τ).loc main_arg0)) (m ((c : Thread nD τ).loc main_arg1)) (m ((c : Thread nD τ).loc main_arg2)) (m ((c : Thread nD τ).loc main_arg3)) (m ((c : Thread nD τ).loc main_arg4)) _).symm)
  refine at_congr _ ?_ ?_ ?_
  all_goals (blk_simp [idx t]; try (dsimp only; omega))

/-- The residual. -/
theorem final_12 (c : Dev nD) : (dats m 0 c).arrAt 12 (cfgs 0).N = Cert.ReferenceMixerOutIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  refine ((tile_12 m c t y).trans (x_block m c t _ _)).trans (Eq.trans ?_ (ref_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _).symm)
  refine at_congr _ ?_ ?_ ?_
  all_goals (blk_simp [idx t]; try (dsimp only; omega))

/-- The rows behind the modulated normalisation. -/
theorem final_13 (c : Dev nD) : (dats m 0 c).arrAt 13 (cfgs 0).N = Cert.ReferenceMixerOutIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  refine ((tile_13 m c t y).trans (h_block m c t _ _)).trans (Eq.trans ?_ (ref_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _).symm)
  refine at_congr _ ?_ ?_ ?_
  all_goals (blk_simp [idx t]; try (dsimp only; omega))

end Cert.MixerOut

end
-- ==== Proof.MixerOutBwd.lean ====
module

public import proofs.«01_k».proof.Proof.Gen.KernelMixerOutBwdIdeal.Frame
public import proofs.«01_k».proof.Proof.Gen.ReferenceMixerOutBwdIdeal.Read
public import proofs.«01_k».proof.Proof.Rms
public import proofs.«01_k».proof.Proof.Sums
public import Idealize.ShloMosaic.Lib.Pipeline.ValueKit
public import Idealize.ShloMosaic.Lib.Pipeline.ReadBack
public import Idealize.ShloMosaic.Lib.Pointwise
public import Idealize.ShloMosaic.Lib.Claim

/-! The gradients of the product behind the mixers and of the two normalisations in front of it, with the rearranged copies
of the first one: by 512 rows a grid step. -/

@[expose] public section

set_option maxRecDepth 16384

noncomputable section

open Idealize.ShloMosaic Idealize.ShloMosaic.TcCoe Idealize.SL.Sem
open scoped BigOperators

namespace Cert.MixerOutBwd

open Cert.KernelMixerOutBwdIdeal Cert.KernelMixerOutBwdIdeal.Gen

variable (m : (ℓ : Loc nD τ sig) → Buf (Elt Ideal) ℓ)

/-- Which tile each window holds at each grid step. -/
theorem idx : ∀ t : Fin cfg0.N, win0_0.index t = ![t.val / 4, t.val % 4, 0]
    ∧ win0_1.index t = ![0, 0]
    ∧ win0_2.index t = ![t.val / 4, t.val % 4, 0]
    ∧ win0_3.index t = ![t.val / 4, t.val % 4, 0]
    ∧ win0_4.index t = ![0, 0]
    ∧ win0_5.index t = ![0, 0]
    ∧ win0_6.index t = ![t.val / 4, t.val % 4, 0]
    ∧ win0_7.index t = ![t.val / 4, t.val % 4, 0]
    ∧ win0_8.index t = ![t.val / 4, t.val % 4, 0]
    ∧ win0_9.index t = ![0, 0]
    ∧ win0_10.index t = ![t.val / 4, t.val % 4, 0]
    ∧ win0_11.index t = ![0, 0] :=
  (by decide +kernel : ∀ t : Fin grid0.N, _)

/-- The length of a row, and what is added to the mean of its squares. -/
abbrev len : EReal := Ideal.ofBits .f32 0x44000000#32
abbrev eps : EReal := Ideal.ofBits .f32 0x358637BD#32

/-- The length of a row is 512. -/
theorem word_512 : len = ((512 : ℝ) : EReal) := by
  simp [Ideal.ofBits, Ideal.ieee]; rw [← EReal.coe_mul]; norm_num

/-- A row behind the normalisation. -/
def nrm (z : Fin 512 → EReal) (q : Fin 512) : EReal := z q * Cert.Rms.inv len eps z

/-- The gradient of a row in front of the normalisation and its gain. -/
def dz (z g d : Fin 512 → EReal) (q : Fin 512) : EReal := Cert.Rms.grad len eps z (fun k => d k * g k) q

/-- What a grid step computes, element by element. -/
theorem pay4_apply (b : Vec Ideal S1x512x1024 .bf16) (w : Vec Ideal S1024x1024 .bf16) (r : Fin 512) (q : Fin 1024) :
    k0_pay4 b w (ix2 r q) = ∑ k : Fin 1024, b (ix3 0 r k) * w (ix2 q k) := by
  pointwise [k0_pay4]

theorem pay5_apply (b : Vec Ideal S1x512x1024 .bf16) (w : Vec Ideal S1024x1024 .bf16) (r q : Fin 512) :
    k0_pay5 b w (ix2 r q) = k0_pay4 b w (ix2 r ⟨q.val, by omega⟩) := by
  pointwise [k0_pay5]

theorem pay110_apply (d : FVec Ideal S512x1024 .f32) (r q : Fin 512) :
    k0_pay110 d (ix2 r q) = d (ix2 r ⟨512 + q.val, by omega⟩) := by
  pointwise [k0_pay110]

theorem pay7_apply (z : Vec Ideal S1x512x512 .f32) (r : Fin 512) :
    k0_pay7 z (ix2 r 0) = Cert.Rms.inv len eps (fun k => z (ix3 0 r k)) := by
  pointwise [k0_pay7, k0_pay6, Cert.Rms.inv]

theorem pay8_apply (z : Vec Ideal S1x512x512 .f32) (r q : Fin 512) :
    k0_pay8 z (ix2 r q) = nrm (fun k => z (ix3 0 r k)) q := by
  pointwise [k0_pay8, k0_pay6, nrm, pay7_apply]

theorem pay111_apply (z : Vec Ideal S1x512x512 .f32) (r : Fin 512) :
    k0_pay111 z (ix2 r 0) = Cert.Rms.inv len eps (fun k => z (ix3 0 r k)) := by
  pointwise [k0_pay111, k0_pay109, Cert.Rms.inv]

theorem pay112_apply (z : Vec Ideal S1x512x512 .f32) (r q : Fin 512) :
    k0_pay112 z (ix2 r q) = nrm (fun k => z (ix3 0 r k)) q := by
  pointwise [k0_pay112, k0_pay109, nrm, pay111_apply]

theorem pay12_apply (b : Vec Ideal S1x512x1024 .bf16) (w : Vec Ideal S1024x1024 .bf16) (z : Vec Ideal S1x512x512 .f32) (g : Vec Ideal S1x512 .f32) (r q : Fin 512) :
    k0_pay12 (k0_pay7 z) (k0_pay8 z) (k0_pay9 b w g) (k0_pay11 b w z g) (ix2 r q)
      = dz (fun k => z (ix3 0 r k)) (fun k => g (ix2 0 k)) (fun k => k0_pay4 b w (ix2 r ⟨k.val, by omega⟩)) q := by
  pointwise [k0_pay12, k0_pay11, k0_pay9, pay5_apply, pay7_apply, pay8_apply, dz, nrm, Cert.Rms.grad]

theorem pay114_apply (d : FVec Ideal S512x1024 .f32) (z : Vec Ideal S1x512x512 .f32) (g : Vec Ideal S1x512 .f32) (r q : Fin 512) :
    k0_pay114 d z g (ix2 r q)
      = dz (fun k => z (ix3 0 r k)) (fun k => g (ix2 0 k)) (fun k => d (ix2 r ⟨512 + k.val, by omega⟩)) q := by
  pointwise [k0_pay114, pay110_apply, pay111_apply, pay112_apply, dz, nrm, Cert.Rms.grad]

/-- The reference program, element by element. -/
theorem ref_dy (x0 : FVec Ideal Cert.ReferenceMixerOutBwdIdeal.S2x2048x1024 .bf16) (x1 : FVec Ideal Cert.ReferenceMixerOutBwdIdeal.S1024x1024 .bf16) (b : Fin 2) (s : Fin 2048) (q : Fin 1024) :
    Cert.ReferenceMixerOutBwdIdeal.Read.val_main_v36 (F := Ideal) x0 x1 (ix3 b s q) = ∑ k : Fin 1024, x0 (ix3 b s k) * x1 (ix2 q k) := by
  pointwise [Cert.ReferenceMixerOutBwdIdeal.Read.val_main_v36, Cert.ReferenceMixerOutBwdIdeal.Read.val_main_v35, Cert.ReferenceMixerOutBwdIdeal.Read.val_main_v0]

theorem ref_inv_a (x2 : FVec Ideal Cert.ReferenceMixerOutBwdIdeal.S2x2048x512 .f32) (b : Fin 2) (s : Fin 2048) :
    Cert.ReferenceMixerOutBwdIdeal.Read.val_main_v8 (F := Ideal) x2 (ix3 b s 0) = Cert.Rms.inv len eps (fun k => x2 (ix3 b s k)) := by
  pointwise [Cert.Rms.inv, Cert.ReferenceMixerOutBwdIdeal.Read.val_main_v8, Cert.ReferenceMixerOutBwdIdeal.Read.val_main_v1, Cert.ReferenceMixerOutBwdIdeal.Read.val_main_v2, Cert.ReferenceMixerOutBwdIdeal.Read.val_main_v3, Cert.ReferenceMixerOutBwdIdeal.Read.val_main_v4, Cert.ReferenceMixerOutBwdIdeal.Read.val_main_v5, Cert.ReferenceMixerOutBwdIdeal.Read.val_main_v6, Cert.ReferenceMixerOutBwdIdeal.Read.val_main_v7, Cert.ReferenceMixerOutBwdIdeal.Read.val_main_cst, Cert.ReferenceMixerOutBwdIdeal.Read.val_main_cst_0, Cert.ReferenceMixerOutBwdIdeal.Read.val_main_cst_1]

theorem ref_nrm_a (x2 : FVec Ideal Cert.ReferenceMixerOutBwdIdeal.S2x2048x512 .f32) (b : Fin 2) (s : Fin 2048) (q : Fin 512) :
    Cert.ReferenceMixerOutBwdIdeal.Read.val_main_v13 (F := Ideal) x2 (ix3 b s q) = nrm (fun k => x2 (ix3 b s k)) q := by
  pointwise [nrm, Cert.ReferenceMixerOutBwdIdeal.Read.val_main_v13, Cert.ReferenceMixerOutBwdIdeal.Read.val_main_v12, ref_inv_a]

theorem ref_dn_a (x0 : FVec Ideal Cert.ReferenceMixerOutBwdIdeal.S2x2048x1024 .bf16) (x1 : FVec Ideal Cert.ReferenceMixerOutBwdIdeal.S1024x1024 .bf16) (x4 : FVec Ideal Cert.ReferenceMixerOutBwdIdeal.S1x512 .f32) (b : Fin 2) (s : Fin 2048) (q : Fin 512) :
    Cert.ReferenceMixerOutBwdIdeal.Read.val_main_v64 (F := Ideal) x0 x1 x4 (ix3 b s q) = Cert.ReferenceMixerOutBwdIdeal.Read.val_main_v36 (F := Ideal) x0 x1 (ix3 b s ⟨q.val, by omega⟩) * x4 (ix2 0 q) := by
  pointwise [Cert.ReferenceMixerOutBwdIdeal.Read.val_main_v64, Cert.ReferenceMixerOutBwdIdeal.Read.val_main_v63, Cert.ReferenceMixerOutBwdIdeal.Read.val_main_v14, Cert.ReferenceMixerOutBwdIdeal.Read.val_main_v37]

theorem ref_back_a (x0 : FVec Ideal Cert.ReferenceMixerOutBwdIdeal.S2x2048x1024 .bf16) (x1 : FVec Ideal Cert.ReferenceMixerOutBwdIdeal.S1024x1024 .bf16) (x2 : FVec Ideal Cert.ReferenceMixerOutBwdIdeal.S2x2048x512 .f32) (x4 : FVec Ideal Cert.ReferenceMixerOutBwdIdeal.S1x512 .f32) (b : Fin 2) (s : Fin 2048) :
    Cert.ReferenceMixerOutBwdIdeal.Read.val_main_v75 (F := Ideal) x0 x1 x2 x4 (ix2 b s)
      = Cert.Rms.back len eps (Ideal.ofBits .f32 0xBF000000#32) (fun k => x2 (ix3 b s k))
          (fun k => Cert.ReferenceMixerOutBwdIdeal.Read.val_main_v36 (F := Ideal) x0 x1 (ix3 b s ⟨k.val, by omega⟩) * x4 (ix2 0 k)) := by
  pointwise [Cert.Rms.back, Cert.ReferenceMixerOutBwdIdeal.Read.val_main_v67, Cert.ReferenceMixerOutBwdIdeal.Read.val_main_v68, Cert.ReferenceMixerOutBwdIdeal.Read.val_main_v69, Cert.ReferenceMixerOutBwdIdeal.Read.val_main_v72, Cert.ReferenceMixerOutBwdIdeal.Read.val_main_v73, Cert.ReferenceMixerOutBwdIdeal.Read.val_main_v74, Cert.ReferenceMixerOutBwdIdeal.Read.val_main_v75, Cert.ReferenceMixerOutBwdIdeal.Read.val_main_v9, Cert.ReferenceMixerOutBwdIdeal.Read.val_main_v10, Cert.ReferenceMixerOutBwdIdeal.Read.val_main_v11, Cert.ReferenceMixerOutBwdIdeal.Read.val_main_cst_2, Cert.ReferenceMixerOutBwdIdeal.Read.val_main_cst_14, Cert.ReferenceMixerOutBwdIdeal.Read.val_main_cst_15, Cert.ReferenceMixerOutBwdIdeal.Read.val_main_cst_16, Cert.ReferenceMixerOutBwdIdeal.Read.val_main_v1, Cert.ReferenceMixerOutBwdIdeal.Read.val_main_v2, Cert.ReferenceMixerOutBwdIdeal.Read.val_main_v3, Cert.ReferenceMixerOutBwdIdeal.Read.val_main_v4, Cert.ReferenceMixerOutBwdIdeal.Read.val_main_v5, Cert.ReferenceMixerOutBwdIdeal.Read.val_main_v6, Cert.ReferenceMixerOutBwdIdeal.Read.val_main_v7, Cert.ReferenceMixerOutBwdIdeal.Read.val_main_cst, Cert.ReferenceMixerOutBwdIdeal.Read.val_main_cst_0, Cert.ReferenceMixerOutBwdIdeal.Read.val_main_cst_1, ref_inv_a, ref_dn_a]
  rw [Fin.sum_univ_one]
  pointwise [ref_inv_a, ref_dn_a]

theorem ref_dz_a (x0 : FVec Ideal Cert.ReferenceMixerOutBwdIdeal.S2x2048x1024 .bf16) (x1 : FVec Ideal Cert.ReferenceMixerOutBwdIdeal.S1024x1024 .bf16) (x2 : FVec Ideal Cert.ReferenceMixerOutBwdIdeal.S2x2048x512 .f32) (x4 : FVec Ideal Cert.ReferenceMixerOutBwdIdeal.S1x512 .f32) (b : Fin 2) (s : Fin 2048) (q : Fin 512) :
    Cert.ReferenceMixerOutBwdIdeal.Read.val_main_v80 (F := Ideal) x0 x1 x2 x4 (ix3 b s q) = dz (fun k => x2 (ix3 b s k)) (fun k => x4 (ix2 0 k)) (fun k => Cert.ReferenceMixerOutBwdIdeal.Read.val_main_v36 (F := Ideal) x0 x1 (ix3 b s ⟨k.val, by omega⟩)) q := by
  obtain ⟨e, he, hE⟩ := Cert.Rms.word_eps
  rw [dz, Cert.Rms.grad_eq (by norm_num) he word_512 hE Cert.Rms.word_neg_half]
  pointwise [Cert.ReferenceMixerOutBwdIdeal.Read.val_main_v80, Cert.ReferenceMixerOutBwdIdeal.Read.val_main_v79, Cert.ReferenceMixerOutBwdIdeal.Read.val_main_v78, Cert.ReferenceMixerOutBwdIdeal.Read.val_main_v77, Cert.ReferenceMixerOutBwdIdeal.Read.val_main_v76, Cert.ReferenceMixerOutBwdIdeal.Read.val_main_v71, Cert.ReferenceMixerOutBwdIdeal.Read.val_main_v70, ref_inv_a, ref_dn_a, ref_back_a]

theorem ref_inv_b (x3 : FVec Ideal Cert.ReferenceMixerOutBwdIdeal.S2x2048x512 .f32) (b : Fin 2) (s : Fin 2048) :
    Cert.ReferenceMixerOutBwdIdeal.Read.val_main_v24 (F := Ideal) x3 (ix3 b s 0) = Cert.Rms.inv len eps (fun k => x3 (ix3 b s k)) := by
  pointwise [Cert.Rms.inv, Cert.ReferenceMixerOutBwdIdeal.Read.val_main_v24, Cert.ReferenceMixerOutBwdIdeal.Read.val_main_v17, Cert.ReferenceMixerOutBwdIdeal.Read.val_main_v18, Cert.ReferenceMixerOutBwdIdeal.Read.val_main_v19, Cert.ReferenceMixerOutBwdIdeal.Read.val_main_v20, Cert.ReferenceMixerOutBwdIdeal.Read.val_main_v21, Cert.ReferenceMixerOutBwdIdeal.Read.val_main_v22, Cert.ReferenceMixerOutBwdIdeal.Read.val_main_v23, Cert.ReferenceMixerOutBwdIdeal.Read.val_main_cst_3, Cert.ReferenceMixerOutBwdIdeal.Read.val_main_cst_4, Cert.ReferenceMixerOutBwdIdeal.Read.val_main_cst_5]

theorem ref_nrm_b (x3 : FVec Ideal Cert.ReferenceMixerOutBwdIdeal.S2x2048x512 .f32) (b : Fin 2) (s : Fin 2048) (q : Fin 512) :
    Cert.ReferenceMixerOutBwdIdeal.Read.val_main_v29 (F := Ideal) x3 (ix3 b s q) = nrm (fun k => x3 (ix3 b s k)) q := by
  pointwise [nrm, Cert.ReferenceMixerOutBwdIdeal.Read.val_main_v29, Cert.ReferenceMixerOutBwdIdeal.Read.val_main_v28, ref_inv_b]

theorem ref_dn_b (x0 : FVec Ideal Cert.ReferenceMixerOutBwdIdeal.S2x2048x1024 .bf16) (x1 : FVec Ideal Cert.ReferenceMixerOutBwdIdeal.S1024x1024 .bf16) (x5 : FVec Ideal Cert.ReferenceMixerOutBwdIdeal.S1x512 .f32) (b : Fin 2) (s : Fin 2048) (q : Fin 512) :
    Cert.ReferenceMixerOutBwdIdeal.Read.val_main_v43 (F := Ideal) x0 x1 x5 (ix3 b s q) = Cert.ReferenceMixerOutBwdIdeal.Read.val_main_v36 (F := Ideal) x0 x1 (ix3 b s ⟨512 + q.val, by omega⟩) * x5 (ix2 0 q) := by
  pointwise [Cert.ReferenceMixerOutBwdIdeal.Read.val_main_v43, Cert.ReferenceMixerOutBwdIdeal.Read.val_main_v42, Cert.ReferenceMixerOutBwdIdeal.Read.val_main_v30, Cert.ReferenceMixerOutBwdIdeal.Read.val_main_v38]

theorem ref_back_b (x0 : FVec Ideal Cert.ReferenceMixerOutBwdIdeal.S2x2048x1024 .bf16) (x1 : FVec Ideal Cert.ReferenceMixerOutBwdIdeal.S1024x1024 .bf16) (x3 : FVec Ideal Cert.ReferenceMixerOutBwdIdeal.S2x2048x512 .f32) (x5 : FVec Ideal Cert.ReferenceMixerOutBwdIdeal.S1x512 .f32) (b : Fin 2) (s : Fin 2048) :
    Cert.ReferenceMixerOutBwdIdeal.Read.val_main_v54 (F := Ideal) x0 x1 x3 x5 (ix2 b s)
      = Cert.Rms.back len eps (Ideal.ofBits .f32 0xBF000000#32) (fun k => x3 (ix3 b s k))
          (fun k => Cert.ReferenceMixerOutBwdIdeal.Read.val_main_v36 (F := Ideal) x0 x1 (ix3 b s ⟨512 + k.val, by omega⟩) * x5 (ix2 0 k)) := by
  pointwise [Cert.Rms.back, Cert.ReferenceMixerOutBwdIdeal.Read.val_main_v46, Cert.ReferenceMixerOutBwdIdeal.Read.val_main_v47, Cert.ReferenceMixerOutBwdIdeal.Read.val_main_v48, Cert.ReferenceMixerOutBwdIdeal.Read.val_main_v51, Cert.ReferenceMixerOutBwdIdeal.Read.val_main_v52, Cert.ReferenceMixerOutBwdIdeal.Read.val_main_v53, Cert.ReferenceMixerOutBwdIdeal.Read.val_main_v54, Cert.ReferenceMixerOutBwdIdeal.Read.val_main_v25, Cert.ReferenceMixerOutBwdIdeal.Read.val_main_v26, Cert.ReferenceMixerOutBwdIdeal.Read.val_main_v27, Cert.ReferenceMixerOutBwdIdeal.Read.val_main_cst_6, Cert.ReferenceMixerOutBwdIdeal.Read.val_main_cst_9, Cert.ReferenceMixerOutBwdIdeal.Read.val_main_cst_10, Cert.ReferenceMixerOutBwdIdeal.Read.val_main_cst_11, Cert.ReferenceMixerOutBwdIdeal.Read.val_main_v17, Cert.ReferenceMixerOutBwdIdeal.Read.val_main_v18, Cert.ReferenceMixerOutBwdIdeal.Read.val_main_v19, Cert.ReferenceMixerOutBwdIdeal.Read.val_main_v20, Cert.ReferenceMixerOutBwdIdeal.Read.val_main_v21, Cert.ReferenceMixerOutBwdIdeal.Read.val_main_v22, Cert.ReferenceMixerOutBwdIdeal.Read.val_main_v23, Cert.ReferenceMixerOutBwdIdeal.Read.val_main_cst_3, Cert.ReferenceMixerOutBwdIdeal.Read.val_main_cst_4, Cert.ReferenceMixerOutBwdIdeal.Read.val_main_cst_5, ref_inv_b, ref_dn_b]
  rw [Fin.sum_univ_one]
  pointwise [ref_inv_b, ref_dn_b]

theorem ref_dz_b (x0 : FVec Ideal Cert.ReferenceMixerOutBwdIdeal.S2x2048x1024 .bf16) (x1 : FVec Ideal Cert.ReferenceMixerOutBwdIdeal.S1024x1024 .bf16) (x3 : FVec Ideal Cert.ReferenceMixerOutBwdIdeal.S2x2048x512 .f32) (x5 : FVec Ideal Cert.ReferenceMixerOutBwdIdeal.S1x512 .f32) (b : Fin 2) (s : Fin 2048) (q : Fin 512) :
    Cert.ReferenceMixerOutBwdIdeal.Read.val_main_v59 (F := Ideal) x0 x1 x3 x5 (ix3 b s q) = dz (fun k => x3 (ix3 b s k)) (fun k => x5 (ix2 0 k)) (fun k => Cert.ReferenceMixerOutBwdIdeal.Read.val_main_v36 (F := Ideal) x0 x1 (ix3 b s ⟨512 + k.val, by omega⟩)) q := by
  obtain ⟨e, he, hE⟩ := Cert.Rms.word_eps
  rw [dz, Cert.Rms.grad_eq (by norm_num) he word_512 hE Cert.Rms.word_neg_half]
  pointwise [Cert.ReferenceMixerOutBwdIdeal.Read.val_main_v59, Cert.ReferenceMixerOutBwdIdeal.Read.val_main_v58, Cert.ReferenceMixerOutBwdIdeal.Read.val_main_v57, Cert.ReferenceMixerOutBwdIdeal.Read.val_main_v56, Cert.ReferenceMixerOutBwdIdeal.Read.val_main_v55, Cert.ReferenceMixerOutBwdIdeal.Read.val_main_v50, Cert.ReferenceMixerOutBwdIdeal.Read.val_main_v49, ref_inv_b, ref_dn_b, ref_back_b]

theorem ref_dg_a (x0 : FVec Ideal Cert.ReferenceMixerOutBwdIdeal.S2x2048x1024 .bf16) (x1 : FVec Ideal Cert.ReferenceMixerOutBwdIdeal.S1024x1024 .bf16) (x2 : FVec Ideal Cert.ReferenceMixerOutBwdIdeal.S2x2048x512 .f32) (q : Fin 512) :
    Cert.ReferenceMixerOutBwdIdeal.Read.val_main_v66 (F := Ideal) x0 x1 x2 (ix2 0 q)
      = ∑ b : Fin 2, ∑ s : Fin 2048, Cert.ReferenceMixerOutBwdIdeal.Read.val_main_v36 (F := Ideal) x0 x1 (ix3 b s ⟨q.val, by omega⟩) * nrm (fun k => x2 (ix3 b s k)) q := by
  pointwise [Cert.ReferenceMixerOutBwdIdeal.Read.val_main_v66, Cert.ReferenceMixerOutBwdIdeal.Read.val_main_v65, Cert.ReferenceMixerOutBwdIdeal.Read.val_main_v62, Cert.ReferenceMixerOutBwdIdeal.Read.val_main_v61, Cert.ReferenceMixerOutBwdIdeal.Read.val_main_cst_12, Cert.ReferenceMixerOutBwdIdeal.Read.val_main_cst_13]
  rw [Cert.Sums.reduce_lead, zero_add, Fin.sum_univ_one, Fin.sum_univ_one]
  pointwise [Cert.ReferenceMixerOutBwdIdeal.Read.val_main_v62, Cert.ReferenceMixerOutBwdIdeal.Read.val_main_v61, Cert.ReferenceMixerOutBwdIdeal.Read.val_main_cst_12, Cert.ReferenceMixerOutBwdIdeal.Read.val_main_cst_13]
  rw [Cert.Sums.reduce_lead, zero_add]
  refine Finset.sum_congr rfl fun b _ => Finset.sum_congr rfl fun s _ => ?_
  rw [mul_comm]
  pointwise [Cert.ReferenceMixerOutBwdIdeal.Read.val_main_v60, Cert.ReferenceMixerOutBwdIdeal.Read.val_main_v37]
  rw [ref_nrm_a]

theorem ref_dg_b (x0 : FVec Ideal Cert.ReferenceMixerOutBwdIdeal.S2x2048x1024 .bf16) (x1 : FVec Ideal Cert.ReferenceMixerOutBwdIdeal.S1024x1024 .bf16) (x3 : FVec Ideal Cert.ReferenceMixerOutBwdIdeal.S2x2048x512 .f32) (q : Fin 512) :
    Cert.ReferenceMixerOutBwdIdeal.Read.val_main_v45 (F := Ideal) x0 x1 x3 (ix2 0 q)
      = ∑ b : Fin 2, ∑ s : Fin 2048, Cert.ReferenceMixerOutBwdIdeal.Read.val_main_v36 (F := Ideal) x0 x1 (ix3 b s ⟨512 + q.val, by omega⟩) * nrm (fun k => x3 (ix3 b s k)) q := by
  pointwise [Cert.ReferenceMixerOutBwdIdeal.Read.val_main_v45, Cert.ReferenceMixerOutBwdIdeal.Read.val_main_v44, Cert.ReferenceMixerOutBwdIdeal.Read.val_main_v41, Cert.ReferenceMixerOutBwdIdeal.Read.val_main_v40, Cert.ReferenceMixerOutBwdIdeal.Read.val_main_cst_7, Cert.ReferenceMixerOutBwdIdeal.Read.val_main_cst_8]
  rw [Cert.Sums.reduce_lead, zero_add, Fin.sum_univ_one, Fin.sum_univ_one]
  pointwise [Cert.ReferenceMixerOutBwdIdeal.Read.val_main_v41, Cert.ReferenceMixerOutBwdIdeal.Read.val_main_v40, Cert.ReferenceMixerOutBwdIdeal.Read.val_main_cst_7, Cert.ReferenceMixerOutBwdIdeal.Read.val_main_cst_8]
  rw [Cert.Sums.reduce_lead, zero_add]
  refine Finset.sum_congr rfl fun b _ => Finset.sum_congr rfl fun s _ => ?_
  rw [mul_comm]
  pointwise [Cert.ReferenceMixerOutBwdIdeal.Read.val_main_v39, Cert.ReferenceMixerOutBwdIdeal.Read.val_main_v38]
  rw [ref_nrm_b]

/-- The reference's values of the arguments that the call finds. -/
abbrev grd (c : Dev nD) (b : Fin 2) (s : Fin 2048) (q : Fin 1024) : EReal :=
  Cert.ReferenceMixerOutBwdIdeal.Read.val_main_v36 (F := Ideal) (m ((c : Thread nD τ).loc main_arg0)) (m ((c : Thread nD τ).loc main_arg1)) (ix3 b s q)
abbrev arg_a (c : Dev nD) (b : Fin 2) (s : Fin 2048) (k : Fin 512) : EReal :=
  (m ((c : Thread nD τ).loc main_arg2) : FVec Ideal S2x2048x512 .f32) (ix3 b s k)
abbrev arg_b (c : Dev nD) (b : Fin 2) (s : Fin 2048) (k : Fin 512) : EReal :=
  (m ((c : Thread nD τ).loc main_arg3) : FVec Ideal S2x2048x512 .f32) (ix3 b s k)

/-- A grid step's values are the reference's at the rows of its tile. -/
theorem grd_block (c : Dev nD) (t : Fin cfg0.N) (r : Fin 512) (q : Fin 1024) :
    k0_pay4 (iblk m c 0 t) (iblk m c 1 t) (ix2 r q) = grd m c ⟨t.val / 4, by have : t.val < 8 := t.isLt; omega⟩ ⟨t.val % 4 * 512 + r.val, by omega⟩ q := by
  refine (pay4_apply _ _ r q).trans (Eq.trans ?_ (ref_dy (m ((c : Thread nD τ).loc main_arg0)) (m ((c : Thread nD τ).loc main_arg1)) _ _ q).symm)
  refine Finset.sum_congr (M := EReal) rfl fun k _ => congrArg₂ (fun a b : EReal => a * b) ?_ ?_
  all_goals blk_point [iblk, V, idx t]

theorem arg_a_block (c : Dev nD) (t : Fin cfg0.N) (r : Fin 512) :
    (fun k : Fin 512 => (iblk m c 2 t : Vec Ideal S1x512x512 .f32) (ix3 0 r k)) = arg_a m c ⟨t.val / 4, by have : t.val < 8 := t.isLt; omega⟩ ⟨t.val % 4 * 512 + r.val, by omega⟩ := by
  funext k
  blk_point [iblk, V, idx t]

theorem gain_a_block (c : Dev nD) (t : Fin cfg0.N) :
    (fun k : Fin 512 => (iblk m c 4 t : Vec Ideal S1x512 .f32) (ix2 0 k)) = fun k => (m ((c : Thread nD τ).loc main_arg4) : FVec Ideal S1x512 .f32) (ix2 0 k) := by
  funext k
  blk_point [iblk, V, idx t]

theorem arg_b_block (c : Dev nD) (t : Fin cfg0.N) (r : Fin 512) :
    (fun k : Fin 512 => (iblk m c 3 t : Vec Ideal S1x512x512 .f32) (ix3 0 r k)) = arg_b m c ⟨t.val / 4, by have : t.val < 8 := t.isLt; omega⟩ ⟨t.val % 4 * 512 + r.val, by omega⟩ := by
  funext k
  blk_point [iblk, V, idx t]

theorem gain_b_block (c : Dev nD) (t : Fin cfg0.N) :
    (fun k : Fin 512 => (iblk m c 5 t : Vec Ideal S1x512 .f32) (ix2 0 k)) = fun k => (m ((c : Thread nD τ).loc main_arg5) : FVec Ideal S1x512 .f32) (ix2 0 k) := by
  funext k
  blk_point [iblk, V, idx t]

theorem da_block (c : Dev nD) (t : Fin cfg0.N) (r q : Fin 512) :
    k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) (ix2 r q)
      = Cert.ReferenceMixerOutBwdIdeal.Read.val_main_v80 (F := Ideal) (m ((c : Thread nD τ).loc main_arg0)) (m ((c : Thread nD τ).loc main_arg1)) (m ((c : Thread nD τ).loc main_arg2)) (m ((c : Thread nD τ).loc main_arg4)) (ix3 ⟨t.val / 4, by have : t.val < 8 := t.isLt; omega⟩ ⟨t.val % 4 * 512 + r.val, by omega⟩ q) := by
  refine (pay12_apply _ _ _ _ r q).trans (Eq.trans ?_ (ref_dz_a (m ((c : Thread nD τ).loc main_arg0)) (m ((c : Thread nD τ).loc main_arg1)) (m ((c : Thread nD τ).loc main_arg2)) (m ((c : Thread nD τ).loc main_arg4)) _ _ q).symm)
  exact congr (congr (congrArg dz (arg_a_block m c t r)) (gain_a_block m c t)) (funext fun k => grd_block m c t r _) |> fun e => congrFun e q

theorem db_block (c : Dev nD) (t : Fin cfg0.N) (r q : Fin 512) :
    k0_pay114 (k0_pay4 (iblk m c 0 t) (iblk m c 1 t)) (iblk m c 3 t) (iblk m c 5 t) (ix2 r q)
      = Cert.ReferenceMixerOutBwdIdeal.Read.val_main_v59 (F := Ideal) (m ((c : Thread nD τ).loc main_arg0)) (m ((c : Thread nD τ).loc main_arg1)) (m ((c : Thread nD τ).loc main_arg3)) (m ((c : Thread nD τ).loc main_arg5)) (ix3 ⟨t.val / 4, by have : t.val < 8 := t.isLt; omega⟩ ⟨t.val % 4 * 512 + r.val, by omega⟩ q) := by
  refine (pay114_apply _ _ _ r q).trans (Eq.trans ?_ (ref_dz_b (m ((c : Thread nD τ).loc main_arg0)) (m ((c : Thread nD τ).loc main_arg1)) (m ((c : Thread nD τ).loc main_arg3)) (m ((c : Thread nD τ).loc main_arg5)) _ _ q).symm)
  exact congr (congr (congrArg dz (arg_b_block m c t r)) (gain_b_block m c t)) (funext fun k => grd_block m c t r _) |> fun e => congrFun e q

theorem nrm_a_block (c : Dev nD) (t : Fin cfg0.N) (r q : Fin 512) :
    k0_pay8 (iblk m c 2 t) (ix2 r q) = nrm (arg_a m c ⟨t.val / 4, by have : t.val < 8 := t.isLt; omega⟩ ⟨t.val % 4 * 512 + r.val, by omega⟩) q := by
  rw [pay8_apply, arg_a_block]

theorem nrm_b_block (c : Dev nD) (t : Fin cfg0.N) (r q : Fin 512) :
    k0_pay112 (iblk m c 3 t) (ix2 r q) = nrm (arg_b m c ⟨t.val / 4, by have : t.val < 8 := t.isLt; omega⟩ ⟨t.val % 4 * 512 + r.val, by omega⟩) q := by
  rw [pay112_apply, arg_b_block]

/-- A value of three coordinates depends on their numbers alone. -/
theorem at_congr {a b n : ℕ} (f : (⟨3, ![a, b, n]⟩ : Shape).Idx → EReal) {x x' : Fin a} {y y' : Fin b} {z z' : Fin n}
    (hx : x.val = x'.val) (hy : y.val = y'.val) (hz : z.val = z'.val) : f (ix3 x y z) = f (ix3 x' y' z') := by
  rw [Fin.ext hx, Fin.ext hy, Fin.ext hz]

/-- A value of a batch and a row depends on their numbers alone. -/
theorem row_congr (f : Fin 2 → Fin 2048 → EReal) {b b' : Fin 2} {s s' : Fin 2048}
    (hb : b.val = b'.val) (hs : s.val = s'.val) : f b s = f b' s' := by
  rw [Fin.ext hb, Fin.ext hs]

/-- The results of the reference, by their rows. -/
theorem ref_6 (x0 : FVec Ideal Cert.ReferenceMixerOutBwdIdeal.S2x2048x1024 .bf16) (x1 : FVec Ideal Cert.ReferenceMixerOutBwdIdeal.S1024x1024 .bf16) (x2 : FVec Ideal Cert.ReferenceMixerOutBwdIdeal.S2x2048x512 .f32) (x4 : FVec Ideal Cert.ReferenceMixerOutBwdIdeal.S1x512 .f32) (z : Cert.ReferenceMixerOutBwdIdeal.S2x2048x512.Idx) :
    Cert.ReferenceMixerOutBwdIdeal.Read.val_main_v81 (F := Ideal) x0 x1 x2 x4 z = Cert.ReferenceMixerOutBwdIdeal.Read.val_main_v80 (F := Ideal) x0 x1 x2 x4 (ix3 (z 0) (z 1) (z 2)) := by
  pointwise [Cert.ReferenceMixerOutBwdIdeal.Read.val_main_v81]

theorem ref_7 (x0 : FVec Ideal Cert.ReferenceMixerOutBwdIdeal.S2x2048x1024 .bf16) (x1 : FVec Ideal Cert.ReferenceMixerOutBwdIdeal.S1024x1024 .bf16) (x2 : FVec Ideal Cert.ReferenceMixerOutBwdIdeal.S2x2048x512 .f32) (x4 : FVec Ideal Cert.ReferenceMixerOutBwdIdeal.S1x512 .f32) (z : Cert.ReferenceMixerOutBwdIdeal.S2x512x2048.Idx) :
    Cert.ReferenceMixerOutBwdIdeal.Read.val_main_v83 (F := Ideal) x0 x1 x2 x4 z = Cert.ReferenceMixerOutBwdIdeal.Read.val_main_v80 (F := Ideal) x0 x1 x2 x4 (ix3 (z 0) ⟨(z 1).val * 4 + (z 2).val / 512, by have h1 : (z 1).val < 512 := (z 1).isLt; have h2 : (z 2).val < 2048 := (z 2).isLt; omega⟩ ⟨(z 2).val % 512, by omega⟩) := by
  pointwise [Cert.ReferenceMixerOutBwdIdeal.Read.val_main_v83, Cert.ReferenceMixerOutBwdIdeal.Read.val_main_v82]

theorem ref_8 (x0 : FVec Ideal Cert.ReferenceMixerOutBwdIdeal.S2x2048x1024 .bf16) (x1 : FVec Ideal Cert.ReferenceMixerOutBwdIdeal.S1024x1024 .bf16) (x2 : FVec Ideal Cert.ReferenceMixerOutBwdIdeal.S2x2048x512 .f32) (x4 : FVec Ideal Cert.ReferenceMixerOutBwdIdeal.S1x512 .f32) (z : Cert.ReferenceMixerOutBwdIdeal.S2x128x8192.Idx) :
    Cert.ReferenceMixerOutBwdIdeal.Read.val_main_v85 (F := Ideal) x0 x1 x2 x4 z = Cert.ReferenceMixerOutBwdIdeal.Read.val_main_v80 (F := Ideal) x0 x1 x2 x4 (ix3 (z 0) ⟨(z 1).val * 16 + (z 2).val / 512, by have h1 : (z 1).val < 128 := (z 1).isLt; have h2 : (z 2).val < 8192 := (z 2).isLt; omega⟩ ⟨(z 2).val % 512, by omega⟩) := by
  pointwise [Cert.ReferenceMixerOutBwdIdeal.Read.val_main_v85, Cert.ReferenceMixerOutBwdIdeal.Read.val_main_v84]

theorem ref_10 (x0 : FVec Ideal Cert.ReferenceMixerOutBwdIdeal.S2x2048x1024 .bf16) (x1 : FVec Ideal Cert.ReferenceMixerOutBwdIdeal.S1024x1024 .bf16) (x3 : FVec Ideal Cert.ReferenceMixerOutBwdIdeal.S2x2048x512 .f32) (x5 : FVec Ideal Cert.ReferenceMixerOutBwdIdeal.S1x512 .f32) (z : Cert.ReferenceMixerOutBwdIdeal.S2x2048x512.Idx) :
    Cert.ReferenceMixerOutBwdIdeal.Read.val_main_v86 (F := Ideal) x0 x1 x3 x5 z = Cert.ReferenceMixerOutBwdIdeal.Read.val_main_v59 (F := Ideal) x0 x1 x3 x5 (ix3 (z 0) (z 1) (z 2)) := by
  pointwise [Cert.ReferenceMixerOutBwdIdeal.Read.val_main_v86]

/-- The four blocks of 128 columns that a step leaves in its buffer. -/
abbrev blocks (T : FVec Ideal S512x512 .f32) : List (View.Piece (Elt Ideal) S4x512x128 .f32) :=
 [⟨Rect.unit ![3, 0, 0] ![1, 512, 128] inb_S4x512x128_S1x512x128_3_0_0, shapeCast S1x512x128 (extractStridedSlice S512x128 ![0, 384] T slices_S512x512_o0_384_S512x128) shapeCasts_S512x128_S1x512x128⟩,
  ⟨Rect.unit ![2, 0, 0] ![1, 512, 128] inb_S4x512x128_S1x512x128_2_0_0, shapeCast S1x512x128 (extractStridedSlice S512x128 ![0, 256] T slices_S512x512_o0_256_S512x128) shapeCasts_S512x128_S1x512x128⟩,
  ⟨Rect.unit ![1, 0, 0] ![1, 512, 128] inb_S4x512x128_S1x512x128_1_0_0, shapeCast S1x512x128 (extractStridedSlice S512x128 ![0, 128] T slices_S512x512_o0_128_S512x128) shapeCasts_S512x128_S1x512x128⟩,
  ⟨Rect.unit ![0, 0, 0] ![1, 512, 128] inb_S4x512x128_S1x512x128_0_0_0, shapeCast S1x512x128 (extractStridedSlice S512x128 ![0, 0] T slices_S512x512_o0_0_S512x128) shapeCasts_S512x128_S1x512x128⟩]

/-- Where an entry of the buffer comes from. -/
theorem blocks_apply (T : FVec Ideal S512x512 .f32) (z : S4x512x128.Idx) : View.canon (blocks T) z
    = T (ix2 (z 1) ⟨128 * (z 0).val + (z 2).val, by have h0 : (z 0).val < 4 := (z 0).isLt; have h2 : (z 2).val < 128 := (z 2).isLt; omega⟩) := by
  canon_tiles x h
  all_goals (pointwise; blk_ext)

/-- Where an entry of a strided load from the buffer comes from. -/
theorem load_apply (T : FVec Ideal S512x512 .f32) (k o s n : ℕ) (i1 : ∀ a, (![k, 0, 0] : Fin 3 → ℕ) a + (![1, 512, 128] : Fin 3 → ℕ) a ≤ S4x512x128.size a)
    (i2 : ∀ a, (![n, 128] : Fin 2 → ℕ) a = 0 ∨ (![o, 0] : Fin 2 → ℕ) a + (![s, 1] : Fin 2 → ℕ) a * ((![n, 128] : Fin 2 → ℕ) a - 1) < S512x128.size a) (h0 hs h3) (hR)
    (a : Fin n) (b : Fin 128) (p : Fin 512) (q : Fin 512) (hp : p.val = o + s * a.val) (hq : q.val = 128 * k + b.val) :
    LoadRect.valAlong (lr := (⟨![o, 0], ![n, 128], ![s, 1], i2⟩ : LoadRect S512x128)) hR ((View.whole cc0_scratch0).readCov (Val := Elt Ideal) (blocks T)
      ((Rect.unit (s := S4x512x128) ![k, 0, 0] ![1, 512, 128] i1).withinL
        ((⟨![o, 0], ![n, 128], ![s, 1], i2⟩ : LoadRect S512x128).consLift ![1, 512, 128] h0 hs) h3)) (ix2 a b) = T (ix2 p q) := by
  have e := Shape.reshapeEquiv_cons_one (d := ![n, 128]) hR (ix2 a b)
  refine (congrArg ((View.whole cc0_scratch0).readCov (Val := Elt Ideal) (blocks T)
      ((Rect.unit (s := S4x512x128) ![k, 0, 0] ![1, 512, 128] i1).withinL
        ((⟨![o, 0], ![n, 128], ![s, 1], i2⟩ : LoadRect S512x128).consLift ![1, 512, 128] h0 hs) h3)) e).trans ?_
  refine (congrFun (View.readCov_eq_canon' _ _ _) _).trans ((blocks_apply T _).trans ?_)
  refine congrArg T (funext fun d => ?_)
  fin_cases d
  · refine Fin.ext (Eq.trans ?_ hp.symm)
    show 0 + o + s * a.val = _
    omega
  · refine Fin.ext (Eq.trans ?_ hq.symm)
    show 128 * (k + 0 + 1 * 0) + (0 + 0 + 1 * b.val) = _
    omega

/-- The four blocks, out of the gradient of the rows. -/
theorem pay14_eq (a : FVec Ideal S512x1 .f32) (b d e : FVec Ideal S512x512 .f32) :
    k0_pay14 a b d e = shapeCast S1x512x128 (extractStridedSlice S512x128 ![0, 0] (k0_pay12 a b d e) slices_S512x512_o0_0_S512x128) shapeCasts_S512x128_S1x512x128 := rfl

theorem pay15_eq (a : FVec Ideal S512x1 .f32) (b d e : FVec Ideal S512x512 .f32) :
    k0_pay15 a b d e = shapeCast S1x512x128 (extractStridedSlice S512x128 ![0, 128] (k0_pay12 a b d e) slices_S512x512_o0_128_S512x128) shapeCasts_S512x128_S1x512x128 := rfl

theorem pay16_eq (a : FVec Ideal S512x1 .f32) (b d e : FVec Ideal S512x512 .f32) :
    k0_pay16 a b d e = shapeCast S1x512x128 (extractStridedSlice S512x128 ![0, 256] (k0_pay12 a b d e) slices_S512x512_o0_256_S512x128) shapeCasts_S512x128_S1x512x128 := rfl

theorem pay17_eq (a : FVec Ideal S512x1 .f32) (b d e : FVec Ideal S512x512 .f32) :
    k0_pay17 a b d e = shapeCast S1x512x128 (extractStridedSlice S512x128 ![0, 384] (k0_pay12 a b d e) slices_S512x512_o0_384_S512x128) shapeCasts_S512x128_S1x512x128 := rfl

theorem tile_6 (c : Dev nD) (t : Fin cfg0.N) (y : S1x512x512.Idx) : (outsAt0 m c t.val t.isLt).1 y
    = k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) (ix2 (y 1) (y 2)) := by
  by_cases h0 : t.val % 8 = 0
  · rw [outsAt0_A m c t h0]
    frame_out
    pointwise [k0_pay13]
  · rw [outsAt0_B m c t h0]
    frame_out
    pointwise [k0_pay13]

theorem tile_10 (c : Dev nD) (t : Fin cfg0.N) (y : S1x512x512.Idx) : (outsAt0 m c t.val t.isLt).2.2.2.2.1 y
    = k0_pay114 (k0_pay4 (iblk m c 0 t) (iblk m c 1 t)) (iblk m c 3 t) (iblk m c 5 t) (ix2 (y 1) (y 2)) := by
  by_cases h0 : t.val % 8 = 0
  · rw [outsAt0_A m c t h0]
    frame_out
    pointwise [k0_pay115]
  · rw [outsAt0_B m c t h0]
    frame_out
    pointwise [k0_pay115]

set_option maxHeartbeats 4000000 in
theorem tile_7 (c : Dev nD) (t : Fin cfg0.N) (y : S1x128x2048.Idx) : (outsAt0 m c t.val t.isLt).2.1 y
    = k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) (ix2 ⟨4 * (y 1).val + (y 2).val / 512, by have h1 : (y 1).val < 128 := (y 1).isLt; have h2 : (y 2).val < 2048 := (y 2).isLt; omega⟩ ⟨(y 2).val % 512, by omega⟩) := by
  by_cases h0 : t.val % 8 = 0
  · rw [outsAt0_A m c t h0]
    frame_out
    simp only [pay14_eq, pay15_eq, pay16_eq, pay17_eq]
    generalize k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) = T
    canon_tiles x h
    all_goals
      open_payloads
      pointwise
      refine (load_apply T _ _ _ _ _ _ _ _ _ _ _ _ _ _ ?_ ?_)
    all_goals (dsimp only; omega)
  · rw [outsAt0_B m c t h0]
    frame_out
    simp only [pay14_eq, pay15_eq, pay16_eq, pay17_eq]
    generalize k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) = T
    canon_tiles x h
    all_goals
      open_payloads
      pointwise
      refine (load_apply T _ _ _ _ _ _ _ _ _ _ _ _ _ _ ?_ ?_)
    all_goals (dsimp only; omega)

set_option maxHeartbeats 4000000 in
theorem tile_8 (c : Dev nD) (t : Fin cfg0.N) (y : S1x32x8192.Idx) : (outsAt0 m c t.val t.isLt).2.2.1 y
    = k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) (ix2 ⟨16 * (y 1).val + (y 2).val / 512, by have h1 : (y 1).val < 32 := (y 1).isLt; have h2 : (y 2).val < 8192 := (y 2).isLt; omega⟩ ⟨(y 2).val % 512, by omega⟩) := by
  by_cases h0 : t.val % 8 = 0
  · rw [outsAt0_A m c t h0]
    frame_out
    simp only [pay14_eq, pay15_eq, pay16_eq, pay17_eq]
    generalize k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) = T
    canon_tiles x h
    all_goals
      open_payloads
      pointwise
      refine (load_apply T _ _ _ _ _ _ _ _ _ _ _ _ _ _ ?_ ?_)
    all_goals (dsimp only; omega)
  · rw [outsAt0_B m c t h0]
    frame_out
    simp only [pay14_eq, pay15_eq, pay16_eq, pay17_eq]
    generalize k0_pay12 (k0_pay7 (iblk m c 2 t)) (k0_pay8 (iblk m c 2 t)) (k0_pay9 (iblk m c 0 t) (iblk m c 1 t) (iblk m c 4 t)) (k0_pay11 (iblk m c 0 t) (iblk m c 1 t) (iblk m c 2 t) (iblk m c 4 t)) = T
    canon_tiles x h
    all_goals
      open_payloads
      pointwise
      refine (load_apply T _ _ _ _ _ _ _ _ _ _ _ _ _ _ ?_ ?_)
    all_goals (dsimp only; omega)

/-- The gradient of the first mixer's output. -/
theorem final_6 (c : Dev nD) : (dats m 0 c).arrAt 6 (cfgs 0).N = Cert.ReferenceMixerOutBwdIdeal.Read.val_main_v81 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  refine ((tile_6 m c t y).trans (da_block m c t _ _)).trans (Eq.trans ?_ (ref_6 (m ((c : Thread nD τ).loc main_arg0)) (m ((c : Thread nD τ).loc main_arg1)) (m ((c : Thread nD τ).loc main_arg2)) (m ((c : Thread nD τ).loc main_arg4)) _).symm)
  refine at_congr _ ?_ ?_ ?_
  all_goals (blk_simp [idx t]; try (dsimp only; omega))

/-- The same, four rows side by side. -/
theorem final_7 (c : Dev nD) : (dats m 0 c).arrAt 7 (cfgs 0).N = Cert.ReferenceMixerOutBwdIdeal.Read.val_main_v83 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]
  refine ((tile_7 m c t y).trans (da_block m c t _ _)).trans (Eq.trans ?_ (ref_7 (m ((c : Thread nD τ).loc main_arg0)) (m ((c : Thread nD τ).loc main_arg1)) (m ((c : Thread nD τ).loc main_arg2)) (m ((c : Thread nD τ).loc main_arg4)) _).symm)
  refine at_congr _ ?_ ?_ ?_
  all_goals (blk_simp [idx t]; try (dsimp only; omega))

/-- The same, sixteen rows side by side. -/
theorem final_8 (c : Dev nD) : (dats m 0 c).arrAt 8 (cfgs 0).N = Cert.ReferenceMixerOutBwdIdeal.Read.val_main_v85 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  refine ((tile_8 m c t y).trans (da_block m c t _ _)).trans (Eq.trans ?_ (ref_8 (m ((c : Thread nD τ).loc main_arg0)) (m ((c : Thread nD τ).loc main_arg1)) (m ((c : Thread nD τ).loc main_arg2)) (m ((c : Thread nD τ).loc main_arg4)) _).symm)
  refine at_congr _ ?_ ?_ ?_
  all_goals (blk_simp [idx t]; try (dsimp only; omega))

/-- The gradient of the second mixer's output. -/
theorem final_10 (c : Dev nD) : (dats m 0 c).arrAt 10 (cfgs 0).N = Cert.ReferenceMixerOutBwdIdeal.Read.val_main_v86 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 10 _ (by decide +kernel) fun t hf y => ?_
  blk_simp
  rw [after0_10]
  refine ((tile_10 m c t y).trans (db_block m c t _ _)).trans (Eq.trans ?_ (ref_10 (m ((c : Thread nD τ).loc main_arg0)) (m ((c : Thread nD τ).loc main_arg1)) (m ((c : Thread nD τ).loc main_arg3)) (m ((c : Thread nD τ).loc main_arg5)) _).symm)
  refine at_congr _ ?_ ?_ ?_
  all_goals (blk_simp [idx t]; try (dsimp only; omega))

theorem half_a_block (c : Dev nD) (t : Fin cfg0.N) (r q : Fin 512) :
    k0_pay5 (iblk m c 0 t) (iblk m c 1 t) (ix2 r q) = grd m c ⟨t.val / 4, by have : t.val < 8 := t.isLt; omega⟩ ⟨t.val % 4 * 512 + r.val, by omega⟩ ⟨q.val, by omega⟩ :=
  (pay5_apply _ _ _ _).trans (grd_block m c t r _)

/-- The gradient of the first gain. -/
theorem final_9 (c : Dev nD) : (dats m 0 c).arrAt 9 (cfgs 0).N = Cert.ReferenceMixerOutBwdIdeal.Read.val_main_v66 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9, Pipeline.eq_sum_fin_of_reset_step_apply_of_flush (fun n h => (outsAt0 m c n h).2.2.2.1) 8 (fun _ => 0)
      (fun t j => ∑ r : Fin 512, k0_pay5 (iblk m c 0 t) (iblk m c 1 t) (ix2 r (j 1)) * k0_pay8 (iblk m c 2 t) (ix2 r (j 1)))
      (fun t h0 j => by
        rw [outsAt0_A m c t h0]
        frame_out
        pointwise [k0_pay10, k0_pay2])
      (fun t h0 j => by
        rw [outsAt0_B m c t h0]
        frame_out
        pointwise [k0_pay10])
      t ((flush0_9 t).mp hf) _, zero_add]
  have ht : t.val < 8 := t.isLt
  refine Eq.trans ?_ ((ref_dg_a (m ((c : Thread nD τ).loc main_arg0)) (m ((c : Thread nD τ).loc main_arg1)) (m ((c : Thread nD τ).loc main_arg2)) (y 1)).symm.trans ?_)
  · refine Fin.sum_points_lanes_congr 4 fun s k ha hl => ?_
    have e1 : (8 * (t.val / 8) + s.val) / 4 = s.val / 4 := by omega
    have e2 : (8 * (t.val / 8) + s.val) % 4 * 512 + k.val = s.val % 4 * 512 + k.val := by omega
    exact congrArg₂ (fun a b : EReal => a * b) ((half_a_block m c _ k _).trans (row_congr (fun b s => grd m c b s _) e1 e2))
      ((nrm_a_block m c _ k _).trans (row_congr (fun b s => nrm (arg_a m c b s) _) e1 e2))
  · blk_point [idx t]

theorem half_b_block (c : Dev nD) (t : Fin cfg0.N) (r q : Fin 512) :
    k0_pay110 (k0_pay4 (iblk m c 0 t) (iblk m c 1 t)) (ix2 r q) = grd m c ⟨t.val / 4, by have : t.val < 8 := t.isLt; omega⟩ ⟨t.val % 4 * 512 + r.val, by omega⟩ ⟨512 + q.val, by omega⟩ :=
  (pay110_apply _ _ _).trans (grd_block m c t r _)

/-- The gradient of the second gain. -/
theorem final_11 (c : Dev nD) : (dats m 0 c).arrAt 11 (cfgs 0).N = Cert.ReferenceMixerOutBwdIdeal.Read.val_main_v45 (F := Ideal) (m ((c : Thread nD τ).loc main_arg0)) (m ((c : Thread nD τ).loc main_arg1)) (m ((c : Thread nD τ).loc main_arg3)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.2.1) 8 (fun _ => 0)
      (fun t j => ∑ r : Fin 512, k0_pay110 (k0_pay4 (iblk m c 0 t) (iblk m c 1 t)) (ix2 r (j 1)) * k0_pay112 (iblk m c 3 t) (ix2 r (j 1)))
      (fun t h0 j => by
        rw [outsAt0_A m c t h0]
        frame_out
        pointwise [k0_pay113, k0_pay3])
      (fun t h0 j => by
        rw [outsAt0_B m c t h0]
        frame_out
        pointwise [k0_pay113])
      t ((flush0_11 t).mp hf) _, zero_add]
  have ht : t.val < 8 := t.isLt
  refine Eq.trans ?_ ((ref_dg_b (m ((c : Thread nD τ).loc main_arg0)) (m ((c : Thread nD τ).loc main_arg1)) (m ((c : Thread nD τ).loc main_arg3)) (y 1)).symm.trans ?_)
  · refine Fin.sum_points_lanes_congr 4 fun s k ha hl => ?_
    have e1 : (8 * (t.val / 8) + s.val) / 4 = s.val / 4 := by omega
    have e2 : (8 * (t.val / 8) + s.val) % 4 * 512 + k.val = s.val % 4 * 512 + k.val := by omega
    exact congrArg₂ (fun a b : EReal => a * b) ((half_b_block m c _ k _).trans (row_congr (fun b s => grd m c b s _) e1 e2))
      ((nrm_b_block m c _ k _).trans (row_congr (fun b s => nrm (arg_b m c b s) _) e1 e2))
  · blk_point [idx t]

end Cert.MixerOutBwd

end
-- ==== Proof.Steps.lean ====
module

public import proofs.«01_k».proof.Defs
public import proofs.«01_k».proof.Proof.AdaBwd
public import proofs.«01_k».proof.Proof.Gen.ReferenceAdaBwdIdeal.Run
public import proofs.«01_k».proof.Proof.Gen.ReferenceAdaBwdIdeal.Read
public import proofs.«01_k».proof.Proof.AdamSmall
public import proofs.«01_k».proof.Proof.Gen.ReferenceAdamSmallIdeal.Run
public import proofs.«01_k».proof.Proof.Gen.ReferenceAdamSmallIdeal.Read
public import proofs.«01_k».proof.Proof.AdamB
public import proofs.«01_k».proof.Proof.Gen.ReferenceAdamBIdeal.Run
public import proofs.«01_k».proof.Proof.Gen.ReferenceAdamBIdeal.Read
public import proofs.«01_k».proof.Proof.AdamW1
public import proofs.«01_k».proof.Proof.Gen.ReferenceAdamW1Ideal.Run
public import proofs.«01_k».proof.Proof.Gen.ReferenceAdamW1Ideal.Read
public import proofs.«01_k».proof.Proof.AdamW2
public import proofs.«01_k».proof.Proof.Gen.ReferenceAdamW2Ideal.Run
public import proofs.«01_k».proof.Proof.Gen.ReferenceAdamW2Ideal.Read
public import proofs.«01_k».proof.Proof.AdamW3
public import proofs.«01_k».proof.Proof.Gen.ReferenceAdamW3Ideal.Run
public import proofs.«01_k».proof.Proof.Gen.ReferenceAdamW3Ideal.Read
public import proofs.«01_k».proof.Proof.FinalLoss
public import proofs.«01_k».proof.Proof.Gen.ReferenceFinalLossIdeal.Run
public import proofs.«01_k».proof.Proof.Gen.ReferenceFinalLossIdeal.Read
public import proofs.«01_k».proof.Proof.Adaln1
public import proofs.«01_k».proof.Proof.Gen.ReferenceAdaln1Ideal.Run
public import proofs.«01_k».proof.Proof.Gen.ReferenceAdaln1Ideal.Read
public import proofs.«01_k».proof.Proof.Adaln2
public import proofs.«01_k».proof.Proof.Gen.ReferenceAdaln2Ideal.Run
public import proofs.«01_k».proof.Proof.Gen.ReferenceAdaln2Ideal.Read
public import proofs.«01_k».proof.Proof.InProj
public import proofs.«01_k».proof.Proof.Gen.ReferenceInProjIdeal.Run
public import proofs.«01_k».proof.Proof.Gen.ReferenceInProjIdeal.Read
public import proofs.«01_k».proof.Proof.MixerOut
public import proofs.«01_k».proof.Proof.Gen.ReferenceMixerOutIdeal.Run
public import proofs.«01_k».proof.Proof.Gen.ReferenceMixerOutIdeal.Read
public import proofs.«01_k».proof.Proof.MixerOutBwd
public import proofs.«01_k».proof.Proof.Gen.ReferenceMixerOutBwdIdeal.Run
public import proofs.«01_k».proof.Proof.Gen.ReferenceMixerOutBwdIdeal.Read
public import Idealize.ShloMosaic.Lib.Claim

/-! The optimiser's calls, the loss head and the norms: each call computes, over the extended reals, what its reference
does; and each reference terminates and leaves everything in order. -/

@[expose] public section

set_option maxRecDepth 20000

noncomputable section

open Idealize.ShloMosaic Idealize.ShloMosaic.TcCoe Idealize.SL.Sem

namespace Cert.Steps

theorem value_AdaBwd : Cert.algebraic_KernelAdaBwdIdeal_ReferenceAdaBwdIdeal := by
  intro m g m' g' _ hagree
  refine ⟨fun c => (Cert.KernelAdaBwdIdeal.Gen.dats m 0 c).arrAt 2 (Cert.KernelAdaBwdIdeal.cfgs 0).N, ?_, ?_⟩
  · exact (θ_run Cert.KernelAdaBwdIdeal.defs _ _).mono (fun r h c => ⟨(h.2 c).1 2, h.1 c⟩)
      (θ_run_and (Cert.KernelAdaBwdIdeal.Gen.unchanged m g) (Cert.KernelAdaBwdIdeal.Gen.run_main m g))
  · refine (θ_run Cert.ReferenceAdaBwdIdeal.defs _ _).mono (fun r h c => ?_) (Cert.ReferenceAdaBwdIdeal.Value.run (F := Ideal) m' g')
    obtain ⟨a0, a1⟩ := hagree c
    exact ⟨(h c).1.trans ((Cert.ReferenceAdaBwdIdeal.Read.val_main_v4_eq _ _).trans (Eq.trans (by rw [a0, a1]) (Cert.AdaBwd.final m c).symm)), (h c).2⟩

theorem frame_ReferenceAdaBwd : Cert.quiescent_ReferenceAdaBwdIdeal := fun m g _ =>
  (θ_run Cert.ReferenceAdaBwdIdeal.defs _ _).mono (fun r h => ⟨fun c => (h c).2, sem_eq_zero_of_no_sems (by decide) r.2⟩)
    (Cert.ReferenceAdaBwdIdeal.Value.run (F := Ideal) m g)

theorem value_AdamSmall : Cert.algebraic_KernelAdamSmallIdeal_ReferenceAdamSmallIdeal := by
  intro m g m' g' _ hagree
  refine ⟨fun c => (Cert.KernelAdamSmallIdeal.Gen.dats m 0 c).arrAt 4 (Cert.KernelAdamSmallIdeal.cfgs 0).N, fun c => (Cert.KernelAdamSmallIdeal.Gen.dats m 0 c).arrAt 5 (Cert.KernelAdamSmallIdeal.cfgs 0).N, fun c => (Cert.KernelAdamSmallIdeal.Gen.dats m 0 c).arrAt 6 (Cert.KernelAdamSmallIdeal.cfgs 0).N, fun c => (Cert.KernelAdamSmallIdeal.Gen.dats m 0 c).arrAt 7 (Cert.KernelAdamSmallIdeal.cfgs 0).N, ?_, ?_⟩
  · exact (θ_run Cert.KernelAdamSmallIdeal.defs _ _).mono (fun r h c => ⟨(h.2 c).1 4, (h.2 c).1 5, (h.2 c).1 6, (h.2 c).1 7, h.1 c⟩)
      (θ_run_and (Cert.KernelAdamSmallIdeal.Gen.unchanged m g) (Cert.KernelAdamSmallIdeal.Gen.run_main m g))
  · refine (θ_run Cert.ReferenceAdamSmallIdeal.defs _ _).mono (fun r h c => ?_) (Cert.ReferenceAdamSmallIdeal.Value.run (F := Ideal) m' g')
    obtain ⟨a0, a1, a2, a3⟩ := hagree c
    exact ⟨(h c).1.trans ((Cert.ReferenceAdamSmallIdeal.Read.val_main_v28_eq _).trans (Eq.trans (by rw [a1]) (Cert.AdamSmall.final_g m c).symm)),
      (h c).2.1.trans ((Cert.ReferenceAdamSmallIdeal.Read.val_main_v29_eq _ _ _ _).trans (Eq.trans (by rw [a0, a1, a2, a3]) (Cert.AdamSmall.final_d m c).symm)),
      (h c).2.2.1.trans ((Cert.ReferenceAdamSmallIdeal.Read.val_main_v30_eq _ _).trans (Eq.trans (by rw [a1, a2]) (Cert.AdamSmall.final_m m c).symm)),
      (h c).2.2.2.1.trans ((Cert.ReferenceAdamSmallIdeal.Read.val_main_v31_eq _ _).trans (Eq.trans (by rw [a1, a3]) (Cert.AdamSmall.final_v m c).symm)), (h c).2.2.2.2⟩

theorem frame_ReferenceAdamSmall : Cert.quiescent_ReferenceAdamSmallIdeal := fun m g _ =>
  (θ_run Cert.ReferenceAdamSmallIdeal.defs _ _).mono (fun r h => ⟨fun c => (h c).2.2.2.2, sem_eq_zero_of_no_sems (by decide) r.2⟩)
    (Cert.ReferenceAdamSmallIdeal.Value.run (F := Ideal) m g)

theorem value_AdamB : Cert.algebraic_KernelAdamBIdeal_ReferenceAdamBIdeal := by
  intro m g m' g' _ hagree
  refine ⟨fun c => (Cert.KernelAdamBIdeal.Gen.dats m 0 c).arrAt 4 (Cert.KernelAdamBIdeal.cfgs 0).N, fun c => (Cert.KernelAdamBIdeal.Gen.dats m 0 c).arrAt 5 (Cert.KernelAdamBIdeal.cfgs 0).N, fun c => (Cert.KernelAdamBIdeal.Gen.dats m 0 c).arrAt 6 (Cert.KernelAdamBIdeal.cfgs 0).N, fun c => (Cert.KernelAdamBIdeal.Gen.dats m 0 c).arrAt 7 (Cert.KernelAdamBIdeal.cfgs 0).N, ?_, ?_⟩
  · exact (θ_run Cert.KernelAdamBIdeal.defs _ _).mono (fun r h c => ⟨(h.2 c).1 4, (h.2 c).1 5, (h.2 c).1 6, (h.2 c).1 7, h.1 c⟩)
      (θ_run_and (Cert.KernelAdamBIdeal.Gen.unchanged m g) (Cert.KernelAdamBIdeal.Gen.run_main m g))
  · refine (θ_run Cert.ReferenceAdamBIdeal.defs _ _).mono (fun r h c => ?_) (Cert.ReferenceAdamBIdeal.Value.run (F := Ideal) m' g')
    obtain ⟨a0, a1, a2, a3⟩ := hagree c
    exact ⟨(h c).1.trans ((Cert.ReferenceAdamBIdeal.Read.val_main_v28_eq _).trans (Eq.trans (by rw [a1]) (Cert.AdamB.final_g m c).symm)),
      (h c).2.1.trans ((Cert.ReferenceAdamBIdeal.Read.val_main_v29_eq _ _ _ _).trans (Eq.trans (by rw [a0, a1, a2, a3]) (Cert.AdamB.final_d m c).symm)),
      (h c).2.2.1.trans ((Cert.ReferenceAdamBIdeal.Read.val_main_v30_eq _ _).trans (Eq.trans (by rw [a1, a2]) (Cert.AdamB.final_m m c).symm)),
      (h c).2.2.2.1.trans ((Cert.ReferenceAdamBIdeal.Read.val_main_v31_eq _ _).trans (Eq.trans (by rw [a1, a3]) (Cert.AdamB.final_v m c).symm)), (h c).2.2.2.2⟩

theorem frame_ReferenceAdamB : Cert.quiescent_ReferenceAdamBIdeal := fun m g _ =>
  (θ_run Cert.ReferenceAdamBIdeal.defs _ _).mono (fun r h => ⟨fun c => (h c).2.2.2.2, sem_eq_zero_of_no_sems (by decide) r.2⟩)
    (Cert.ReferenceAdamBIdeal.Value.run (F := Ideal) m g)

theorem value_AdamW1 : Cert.algebraic_KernelAdamW1Ideal_ReferenceAdamW1Ideal := by
  intro m g m' g' _ hagree
  refine ⟨fun c => (Cert.KernelAdamW1Ideal.Gen.dats m 0 c).arrAt 12 (Cert.KernelAdamW1Ideal.cfgs 0).N, fun c => (Cert.KernelAdamW1Ideal.Gen.dats m 0 c).arrAt 13 (Cert.KernelAdamW1Ideal.cfgs 0).N, fun c => (Cert.KernelAdamW1Ideal.Gen.dats m 0 c).arrAt 14 (Cert.KernelAdamW1Ideal.cfgs 0).N, fun c => (Cert.KernelAdamW1Ideal.Gen.dats m 0 c).arrAt 15 (Cert.KernelAdamW1Ideal.cfgs 0).N, fun c => (Cert.KernelAdamW1Ideal.Gen.dats m 0 c).arrAt 16 (Cert.KernelAdamW1Ideal.cfgs 0).N, fun c => (Cert.KernelAdamW1Ideal.Gen.dats m 0 c).arrAt 17 (Cert.KernelAdamW1Ideal.cfgs 0).N, fun c => (Cert.KernelAdamW1Ideal.Gen.dats m 0 c).arrAt 18 (Cert.KernelAdamW1Ideal.cfgs 0).N, fun c => (Cert.KernelAdamW1Ideal.Gen.dats m 0 c).arrAt 19 (Cert.KernelAdamW1Ideal.cfgs 0).N, fun c => (Cert.KernelAdamW1Ideal.Gen.dats m 0 c).arrAt 20 (Cert.KernelAdamW1Ideal.cfgs 0).N, ?_, ?_⟩
  · exact (θ_run Cert.KernelAdamW1Ideal.defs _ _).mono (fun r h c => ⟨(h.2 c).1 12, (h.2 c).1 13, (h.2 c).1 14, (h.2 c).1 15, (h.2 c).1 16, (h.2 c).1 17, (h.2 c).1 18, (h.2 c).1 19, (h.2 c).1 20, h.1 c⟩)
      (θ_run_and (Cert.KernelAdamW1Ideal.Gen.unchanged m g) (Cert.KernelAdamW1Ideal.Gen.run_main m g))
  · refine (θ_run Cert.ReferenceAdamW1Ideal.defs _ _).mono (fun r h c => ?_) (Cert.ReferenceAdamW1Ideal.Value.run (F := Ideal) m' g')
    obtain ⟨a0, a1, a2, a3, a4, a5, a6, a7, a8, a9, a10, a11⟩ := hagree c
    exact ⟨(h c).1.trans ((Cert.ReferenceAdamW1Ideal.Read.val_main_v23_eq _ _ _ _).trans (Eq.trans (by rw [a0, a1, a2, a3]) (Cert.AdamW1.final_12 m c).symm)),
      (h c).2.1.trans ((Cert.ReferenceAdamW1Ideal.Read.val_main_v4_eq _ _).trans (Eq.trans (by rw [a1, a2]) (Cert.AdamW1.final_13 m c).symm)),
      (h c).2.2.1.trans ((Cert.ReferenceAdamW1Ideal.Read.val_main_v10_eq _ _).trans (Eq.trans (by rw [a1, a3]) (Cert.AdamW1.final_14 m c).symm)),
      (h c).2.2.2.1.trans ((Cert.ReferenceAdamW1Ideal.Read.val_main_v47_eq _ _ _ _).trans (Eq.trans (by rw [a4, a5, a6, a7]) (Cert.AdamW1.final_15 m c).symm)),
      (h c).2.2.2.2.1.trans ((Cert.ReferenceAdamW1Ideal.Read.val_main_v28_eq _ _).trans (Eq.trans (by rw [a5, a6]) (Cert.AdamW1.final_16 m c).symm)),
      (h c).2.2.2.2.2.1.trans ((Cert.ReferenceAdamW1Ideal.Read.val_main_v34_eq _ _).trans (Eq.trans (by rw [a5, a7]) (Cert.AdamW1.final_17 m c).symm)),
      (h c).2.2.2.2.2.2.1.trans ((Cert.ReferenceAdamW1Ideal.Read.val_main_v71_eq _ _ _ _).trans (Eq.trans (by rw [a8, a9, a10, a11]) (Cert.AdamW1.final_18 m c).symm)),
      (h c).2.2.2.2.2.2.2.1.trans ((Cert.ReferenceAdamW1Ideal.Read.val_main_v52_eq _ _).trans (Eq.trans (by rw [a9, a10]) (Cert.AdamW1.final_19 m c).symm)),
      (h c).2.2.2.2.2.2.2.2.1.trans ((Cert.ReferenceAdamW1Ideal.Read.val_main_v58_eq _ _).trans (Eq.trans (by rw [a9, a11]) (Cert.AdamW1.final_20 m c).symm)), (h c).2.2.2.2.2.2.2.2.2⟩

theorem frame_ReferenceAdamW1 : Cert.quiescent_ReferenceAdamW1Ideal := fun m g _ =>
  (θ_run Cert.ReferenceAdamW1Ideal.defs _ _).mono (fun r h => ⟨fun c => (h c).2.2.2.2.2.2.2.2.2, sem_eq_zero_of_no_sems (by decide) r.2⟩)
    (Cert.ReferenceAdamW1Ideal.Value.run (F := Ideal) m g)

theorem value_AdamW2 : Cert.algebraic_KernelAdamW2Ideal_ReferenceAdamW2Ideal := by
  intro m g m' g' _ hagree
  refine ⟨fun c => (Cert.KernelAdamW2Ideal.Gen.dats m 0 c).arrAt 8 (Cert.KernelAdamW2Ideal.cfgs 0).N, fun c => (Cert.KernelAdamW2Ideal.Gen.dats m 0 c).arrAt 9 (Cert.KernelAdamW2Ideal.cfgs 0).N, fun c => (Cert.KernelAdamW2Ideal.Gen.dats m 0 c).arrAt 10 (Cert.KernelAdamW2Ideal.cfgs 0).N, fun c => (Cert.KernelAdamW2Ideal.Gen.dats m 0 c).arrAt 11 (Cert.KernelAdamW2Ideal.cfgs 0).N, fun c => (Cert.KernelAdamW2Ideal.Gen.dats m 0 c).arrAt 12 (Cert.KernelAdamW2Ideal.cfgs 0).N, fun c => (Cert.KernelAdamW2Ideal.Gen.dats m 0 c).arrAt 13 (Cert.KernelAdamW2Ideal.cfgs 0).N, ?_, ?_⟩
  · exact (θ_run Cert.KernelAdamW2Ideal.defs _ _).mono (fun r h c => ⟨(h.2 c).1 8, (h.2 c).1 9, (h.2 c).1 10, (h.2 c).1 11, (h.2 c).1 12, (h.2 c).1 13, h.1 c⟩)
      (θ_run_and (Cert.KernelAdamW2Ideal.Gen.unchanged m g) (Cert.KernelAdamW2Ideal.Gen.run_main m g))
  · refine (θ_run Cert.ReferenceAdamW2Ideal.defs _ _).mono (fun r h c => ?_) (Cert.ReferenceAdamW2Ideal.Value.run (F := Ideal) m' g')
    obtain ⟨a0, a1, a2, a3, a4, a5, a6, a7⟩ := hagree c
    exact ⟨(h c).1.trans ((Cert.ReferenceAdamW2Ideal.Read.val_main_v23_eq _ _ _ _).trans (Eq.trans (by rw [a0, a1, a2, a3]) (Cert.AdamW2.final_8 m c).symm)),
      (h c).2.1.trans ((Cert.ReferenceAdamW2Ideal.Read.val_main_v4_eq _ _).trans (Eq.trans (by rw [a1, a2]) (Cert.AdamW2.final_9 m c).symm)),
      (h c).2.2.1.trans ((Cert.ReferenceAdamW2Ideal.Read.val_main_v10_eq _ _).trans (Eq.trans (by rw [a1, a3]) (Cert.AdamW2.final_10 m c).symm)),
      (h c).2.2.2.1.trans ((Cert.ReferenceAdamW2Ideal.Read.val_main_v47_eq _ _ _ _).trans (Eq.trans (by rw [a4, a5, a6, a7]) (Cert.AdamW2.final_11 m c).symm)),
      (h c).2.2.2.2.1.trans ((Cert.ReferenceAdamW2Ideal.Read.val_main_v28_eq _ _).trans (Eq.trans (by rw [a5, a6]) (Cert.AdamW2.final_12 m c).symm)),
      (h c).2.2.2.2.2.1.trans ((Cert.ReferenceAdamW2Ideal.Read.val_main_v34_eq _ _).trans (Eq.trans (by rw [a5, a7]) (Cert.AdamW2.final_13 m c).symm)), (h c).2.2.2.2.2.2⟩

theorem frame_ReferenceAdamW2 : Cert.quiescent_ReferenceAdamW2Ideal := fun m g _ =>
  (θ_run Cert.ReferenceAdamW2Ideal.defs _ _).mono (fun r h => ⟨fun c => (h c).2.2.2.2.2.2, sem_eq_zero_of_no_sems (by decide) r.2⟩)
    (Cert.ReferenceAdamW2Ideal.Value.run (F := Ideal) m g)

theorem value_AdamW3 : Cert.algebraic_KernelAdamW3Ideal_ReferenceAdamW3Ideal := by
  intro m g m' g' _ hagree
  refine ⟨fun c => (Cert.KernelAdamW3Ideal.Gen.dats m 0 c).arrAt 8 (Cert.KernelAdamW3Ideal.cfgs 0).N, fun c => (Cert.KernelAdamW3Ideal.Gen.dats m 0 c).arrAt 9 (Cert.KernelAdamW3Ideal.cfgs 0).N, fun c => (Cert.KernelAdamW3Ideal.Gen.dats m 0 c).arrAt 10 (Cert.KernelAdamW3Ideal.cfgs 0).N, fun c => (Cert.KernelAdamW3Ideal.Gen.dats m 0 c).arrAt 11 (Cert.KernelAdamW3Ideal.cfgs 0).N, fun c => (Cert.KernelAdamW3Ideal.Gen.dats m 0 c).arrAt 12 (Cert.KernelAdamW3Ideal.cfgs 0).N, fun c => (Cert.KernelAdamW3Ideal.Gen.dats m 0 c).arrAt 13 (Cert.KernelAdamW3Ideal.cfgs 0).N, ?_, ?_⟩
  · exact (θ_run Cert.KernelAdamW3Ideal.defs _ _).mono (fun r h c => ⟨(h.2 c).1 8, (h.2 c).1 9, (h.2 c).1 10, (h.2 c).1 11, (h.2 c).1 12, (h.2 c).1 13, h.1 c⟩)
      (θ_run_and (Cert.KernelAdamW3Ideal.Gen.unchanged m g) (Cert.KernelAdamW3Ideal.Gen.run_main m g))
  · refine (θ_run Cert.ReferenceAdamW3Ideal.defs _ _).mono (fun r h c => ?_) (Cert.ReferenceAdamW3Ideal.Value.run (F := Ideal) m' g')
    obtain ⟨a0, a1, a2, a3, a4, a5, a6, a7⟩ := hagree c
    exact ⟨(h c).1.trans ((Cert.ReferenceAdamW3Ideal.Read.val_main_v23_eq _ _ _ _).trans (Eq.trans (by rw [a0, a1, a2, a3]) (Cert.AdamW3.final_8 m c).symm)),
      (h c).2.1.trans ((Cert.ReferenceAdamW3Ideal.Read.val_main_v4_eq _ _).trans (Eq.trans (by rw [a1, a2]) (Cert.AdamW3.final_9 m c).symm)),
      (h c).2.2.1.trans ((Cert.ReferenceAdamW3Ideal.Read.val_main_v10_eq _ _).trans (Eq.trans (by rw [a1, a3]) (Cert.AdamW3.final_10 m c).symm)),
      (h c).2.2.2.1.trans ((Cert.ReferenceAdamW3Ideal.Read.val_main_v47_eq _ _ _ _).trans (Eq.trans (by rw [a4, a5, a6, a7]) (Cert.AdamW3.final_11 m c).symm)),
      (h c).2.2.2.2.1.trans ((Cert.ReferenceAdamW3Ideal.Read.val_main_v28_eq _ _).trans (Eq.trans (by rw [a5, a6]) (Cert.AdamW3.final_12 m c).symm)),
      (h c).2.2.2.2.2.1.trans ((Cert.ReferenceAdamW3Ideal.Read.val_main_v34_eq _ _).trans (Eq.trans (by rw [a5, a7]) (Cert.AdamW3.final_13 m c).symm)), (h c).2.2.2.2.2.2⟩

theorem frame_ReferenceAdamW3 : Cert.quiescent_ReferenceAdamW3Ideal := fun m g _ =>
  (θ_run Cert.ReferenceAdamW3Ideal.defs _ _).mono (fun r h => ⟨fun c => (h c).2.2.2.2.2.2, sem_eq_zero_of_no_sems (by decide) r.2⟩)
    (Cert.ReferenceAdamW3Ideal.Value.run (F := Ideal) m g)

theorem value_FinalLoss : Cert.algebraic_KernelFinalLossIdeal_ReferenceFinalLossIdeal := by
  intro m g m' g' _ hagree
  refine ⟨fun c => (Cert.KernelFinalLossIdeal.Gen.dats m 0 c).arrAt 6 (Cert.KernelFinalLossIdeal.cfgs 0).N, fun c => (Cert.KernelFinalLossIdeal.Gen.dats m 0 c).arrAt 7 (Cert.KernelFinalLossIdeal.cfgs 0).N, fun c => (Cert.KernelFinalLossIdeal.Gen.dats m 0 c).arrAt 8 (Cert.KernelFinalLossIdeal.cfgs 0).N, fun c => (Cert.KernelFinalLossIdeal.Gen.dats m 0 c).arrAt 9 (Cert.KernelFinalLossIdeal.cfgs 0).N, fun c => (Cert.KernelFinalLossIdeal.Gen.dats m 0 c).arrAt 10 (Cert.KernelFinalLossIdeal.cfgs 0).N, ?_, ?_⟩
  · exact (θ_run Cert.KernelFinalLossIdeal.defs _ _).mono (fun r h c => ⟨(h.2 c).1 6, (h.2 c).1 7, (h.2 c).1 8, (h.2 c).1 9, (h.2 c).1 10, h.1 c⟩)
      (θ_run_and (Cert.KernelFinalLossIdeal.Gen.unchanged m g) (Cert.KernelFinalLossIdeal.Gen.run_main m g))
  · refine (θ_run Cert.ReferenceFinalLossIdeal.defs _ _).mono (fun r h c => ?_) (Cert.ReferenceFinalLossIdeal.Value.run (F := Ideal) m' g')
    obtain ⟨a0, a1, a2, a3, a4, a5⟩ := hagree c
    exact ⟨(h c).1.trans ((Cert.ReferenceFinalLossIdeal.Read.val_main_v56_eq m' c).trans (Eq.trans (by rw [a0, a1, a2, a3, a4, a5]) (Cert.FinalLoss.final_6 m c).symm)),
      (h c).2.1.trans ((Cert.ReferenceFinalLossIdeal.Read.val_main_v62_eq m' c).trans (Eq.trans (by rw [a0, a1, a2, a3, a4, a5]) (Cert.FinalLoss.final_7 m c).symm)),
      (h c).2.2.1.trans ((Cert.ReferenceFinalLossIdeal.Read.val_main_v61_eq m' c).trans (Eq.trans (by rw [a0, a1, a2, a3, a4, a5]) (Cert.FinalLoss.final_8 m c).symm)),
      (h c).2.2.2.1.trans ((Cert.ReferenceFinalLossIdeal.Read.val_main_v42_eq m' c).trans (Eq.trans (by rw [a0, a1, a2, a3, a4, a5]) (Cert.FinalLoss.final_9 m c).symm)),
      (h c).2.2.2.2.1.trans ((Cert.ReferenceFinalLossIdeal.Read.val_main_v63_eq _ _ _ _ _ _).trans (Eq.trans (by rw [a0, a1, a2, a3, a4, a5]) (Cert.FinalLoss.final_10 m c).symm)), (h c).2.2.2.2.2⟩

theorem frame_ReferenceFinalLoss : Cert.quiescent_ReferenceFinalLossIdeal := fun m g _ =>
  (θ_run Cert.ReferenceFinalLossIdeal.defs _ _).mono (fun r h => ⟨fun c => (h c).2.2.2.2.2, sem_eq_zero_of_no_sems (by decide) r.2⟩)
    (Cert.ReferenceFinalLossIdeal.Value.run (F := Ideal) m g)

theorem value_Adaln1 : Cert.algebraic_KernelAdaln1Ideal_ReferenceAdaln1Ideal := by
  intro m g m' g' _ hagree
  refine ⟨fun c => (Cert.KernelAdaln1Ideal.Gen.dats m 0 c).arrAt 5 (Cert.KernelAdaln1Ideal.cfgs 0).N, fun c => (Cert.KernelAdaln1Ideal.Gen.dats m 0 c).arrAt 6 (Cert.KernelAdaln1Ideal.cfgs 0).N, fun c => (Cert.KernelAdaln1Ideal.Gen.dats m 0 c).arrAt 7 (Cert.KernelAdaln1Ideal.cfgs 0).N, fun c => (Cert.KernelAdaln1Ideal.Gen.dats m 0 c).arrAt 8 (Cert.KernelAdaln1Ideal.cfgs 0).N, ?_, ?_⟩
  · exact (θ_run Cert.KernelAdaln1Ideal.defs _ _).mono (fun r h c => ⟨(h.2 c).1 5, (h.2 c).1 6, (h.2 c).1 7, (h.2 c).1 8, h.1 c⟩)
      (θ_run_and (Cert.KernelAdaln1Ideal.Gen.unchanged m g) (Cert.KernelAdaln1Ideal.Gen.run_main m g))
  · refine (θ_run Cert.ReferenceAdaln1Ideal.defs _ _).mono (fun r h c => ?_) (Cert.ReferenceAdaln1Ideal.Value.run (F := Ideal) m' g')
    obtain ⟨a0, a1, a2, a3, a4⟩ := hagree c
    exact ⟨(h c).1.trans ((Cert.ReferenceAdaln1Ideal.Read.val_main_v52_eq m' c).trans (Eq.trans (by rw [a0, a1, a2, a3, a4]) (Cert.Adaln1.final_5 m c).symm)),
      (h c).2.1.trans ((Cert.ReferenceAdaln1Ideal.Read.val_main_v25_eq _).trans (Eq.trans (by rw [a0]) (Cert.Adaln1.final_6 m c).symm)),
      (h c).2.2.1.trans ((Cert.ReferenceAdaln1Ideal.Read.val_main_v28_eq _ _ _).trans (Eq.trans (by rw [a0, a1, a2]) (Cert.Adaln1.final_7 m c).symm)),
      (h c).2.2.2.1.trans ((Cert.ReferenceAdaln1Ideal.Read.val_main_v37_eq _ _ _).trans (Eq.trans (by rw [a0, a1, a3]) (Cert.Adaln1.final_8 m c).symm)), (h c).2.2.2.2⟩

theorem frame_ReferenceAdaln1 : Cert.quiescent_ReferenceAdaln1Ideal := fun m g _ =>
  (θ_run Cert.ReferenceAdaln1Ideal.defs _ _).mono (fun r h => ⟨fun c => (h c).2.2.2.2, sem_eq_zero_of_no_sems (by decide) r.2⟩)
    (Cert.ReferenceAdaln1Ideal.Value.run (F := Ideal) m g)

theorem value_Adaln2 : Cert.algebraic_KernelAdaln2Ideal_ReferenceAdaln2Ideal := by
  intro m g m' g' _ hagree
  refine ⟨fun c => (Cert.KernelAdaln2Ideal.Gen.dats m 0 c).arrAt 7 (Cert.KernelAdaln2Ideal.cfgs 0).N, fun c => (Cert.KernelAdaln2Ideal.Gen.dats m 0 c).arrAt 8 (Cert.KernelAdaln2Ideal.cfgs 0).N, fun c => (Cert.KernelAdaln2Ideal.Gen.dats m 0 c).arrAt 9 (Cert.KernelAdaln2Ideal.cfgs 0).N, fun c => (Cert.KernelAdaln2Ideal.Gen.dats m 0 c).arrAt 10 (Cert.KernelAdaln2Ideal.cfgs 0).N, fun c => (Cert.KernelAdaln2Ideal.Gen.dats m 0 c).arrAt 11 (Cert.KernelAdaln2Ideal.cfgs 0).N, fun c => (Cert.KernelAdaln2Ideal.Gen.dats m 0 c).arrAt 12 (Cert.KernelAdaln2Ideal.cfgs 0).N, ?_, ?_⟩
  · exact (θ_run Cert.KernelAdaln2Ideal.defs _ _).mono (fun r h c => ⟨(h.2 c).1 7, (h.2 c).1 8, (h.2 c).1 9, (h.2 c).1 10, (h.2 c).1 11, (h.2 c).1 12, h.1 c⟩)
      (θ_run_and (Cert.KernelAdaln2Ideal.Gen.unchanged m g) (Cert.KernelAdaln2Ideal.Gen.run_main m g))
  · refine (θ_run Cert.ReferenceAdaln2Ideal.defs _ _).mono (fun r h c => ?_) (Cert.ReferenceAdaln2Ideal.Value.run (F := Ideal) m' g')
    obtain ⟨a0, a1, a2, a3, a4, a5, a6⟩ := hagree c
    exact ⟨(h c).1.trans ((Cert.ReferenceAdaln2Ideal.Read.val_main_v52_eq m' c).trans (Eq.trans (by rw [a0, a1, a2, a3, a4]) (Cert.Adaln2.final_7 m c).symm)),
      (h c).2.1.trans ((Cert.ReferenceAdaln2Ideal.Read.val_main_v25_eq _).trans (Eq.trans (by rw [a0]) (Cert.Adaln2.final_8 m c).symm)),
      (h c).2.2.1.trans ((Cert.ReferenceAdaln2Ideal.Read.val_main_v28_eq _ _ _).trans (Eq.trans (by rw [a0, a1, a2]) (Cert.Adaln2.final_9 m c).symm)),
      (h c).2.2.2.1.trans ((Cert.ReferenceAdaln2Ideal.Read.val_main_v37_eq _ _ _).trans (Eq.trans (by rw [a0, a1, a3]) (Cert.Adaln2.final_10 m c).symm)),
      (h c).2.2.2.2.1.trans ((Cert.ReferenceAdaln2Ideal.Read.val_main_v59_eq m' c).trans (Eq.trans (by rw [a0, a1, a2, a3, a4, a5]) (Cert.Adaln2.final_11 m c).symm)),
      (h c).2.2.2.2.2.1.trans ((Cert.ReferenceAdaln2Ideal.Read.val_main_v60_eq m' c).trans (Eq.trans (by rw [a0, a1, a2, a3, a4, a6]) (Cert.Adaln2.final_12 m c).symm)), (h c).2.2.2.2.2.2⟩

theorem frame_ReferenceAdaln2 : Cert.quiescent_ReferenceAdaln2Ideal := fun m g _ =>
  (θ_run Cert.ReferenceAdaln2Ideal.defs _ _).mono (fun r h => ⟨fun c => (h c).2.2.2.2.2.2, sem_eq_zero_of_no_sems (by decide) r.2⟩)
    (Cert.ReferenceAdaln2Ideal.Value.run (F := Ideal) m g)

theorem value_InProj : Cert.algebraic_KernelInProjIdeal_ReferenceInProjIdeal := by
  intro m g m' g' _ hagree
  refine ⟨fun c => (Cert.KernelInProjIdeal.Gen.dats m 0 c).arrAt 8 (Cert.KernelInProjIdeal.cfgs 0).N, fun c => (Cert.KernelInProjIdeal.Gen.dats m 0 c).arrAt 9 (Cert.KernelInProjIdeal.cfgs 0).N, fun c => (Cert.KernelInProjIdeal.Gen.dats m 0 c).arrAt 10 (Cert.KernelInProjIdeal.cfgs 0).N, fun c => (Cert.KernelInProjIdeal.Gen.dats m 0 c).arrAt 11 (Cert.KernelInProjIdeal.cfgs 0).N, fun c => (Cert.KernelInProjIdeal.Gen.dats m 0 c).arrAt 12 (Cert.KernelInProjIdeal.cfgs 0).N, fun c => (Cert.KernelInProjIdeal.Gen.dats m 0 c).arrAt 13 (Cert.KernelInProjIdeal.cfgs 0).N, fun c => (Cert.KernelInProjIdeal.Gen.dats m 0 c).arrAt 14 (Cert.KernelInProjIdeal.cfgs 0).N, ?_, ?_⟩
  · exact (θ_run Cert.KernelInProjIdeal.defs _ _).mono (fun r h c => ⟨(h.2 c).1 8, (h.2 c).1 9, (h.2 c).1 10, (h.2 c).1 11, (h.2 c).1 12, (h.2 c).1 13, (h.2 c).1 14, h.1 c⟩)
      (θ_run_and (Cert.KernelInProjIdeal.Gen.unchanged m g) (Cert.KernelInProjIdeal.Gen.run_main m g))
  · refine (θ_run Cert.ReferenceInProjIdeal.defs _ _).mono (fun r h c => ?_) (Cert.ReferenceInProjIdeal.Value.run (F := Ideal) m' g')
    obtain ⟨a0, a1, a2, a3, a4, a5, a6, a7⟩ := hagree c
    exact ⟨(h c).1.trans ((Cert.ReferenceInProjIdeal.Read.val_main_v30_eq _ _ _ _).trans (Eq.trans (by rw [a0, a1, a2, a3]) (Cert.InProj.final_8 m c).symm)),
      (h c).2.1.trans ((Cert.ReferenceInProjIdeal.Read.val_main_v23_eq _ _ _ _ _).trans (Eq.trans (by rw [a0, a1, a2, a3, a4]) (Cert.InProj.final_9 m c).symm)),
      (h c).2.2.1.trans ((Cert.ReferenceInProjIdeal.Read.val_main_v25_eq _ _ _ _ _).trans (Eq.trans (by rw [a0, a1, a2, a3, a4]) (Cert.InProj.final_10 m c).symm)),
      (h c).2.2.2.1.trans ((Cert.ReferenceInProjIdeal.Read.val_main_v27_eq _ _ _ _ _).trans (Eq.trans (by rw [a0, a1, a2, a3, a4]) (Cert.InProj.final_11 m c).symm)),
      (h c).2.2.2.2.1.trans ((Cert.ReferenceInProjIdeal.Read.val_main_v22_eq _ _ _ _ _).trans (Eq.trans (by rw [a0, a1, a2, a3, a5]) (Cert.InProj.final_12 m c).symm)),
      (h c).2.2.2.2.2.1.trans ((Cert.ReferenceInProjIdeal.Read.val_main_v45_eq m' c).trans (Eq.trans (by rw [a0, a1, a2, a3, a5, a6]) (Cert.InProj.final_13 m c).symm)),
      (h c).2.2.2.2.2.2.1.trans ((Cert.ReferenceInProjIdeal.Read.val_main_v60_eq m' c).trans (Eq.trans (by rw [a0, a1, a2, a3, a5, a7]) (Cert.InProj.final_14 m c).symm)), (h c).2.2.2.2.2.2.2⟩

theorem frame_ReferenceInProj : Cert.quiescent_ReferenceInProjIdeal := fun m g _ =>
  (θ_run Cert.ReferenceInProjIdeal.defs _ _).mono (fun r h => ⟨fun c => (h c).2.2.2.2.2.2.2, sem_eq_zero_of_no_sems (by decide) r.2⟩)
    (Cert.ReferenceInProjIdeal.Value.run (F := Ideal) m g)

theorem value_MixerOut : Cert.algebraic_KernelMixerOutIdeal_ReferenceMixerOutIdeal := by
  intro m g m' g' _ hagree
  refine ⟨fun c => (Cert.KernelMixerOutIdeal.Gen.dats m 0 c).arrAt 10 (Cert.KernelMixerOutIdeal.cfgs 0).N, fun c => (Cert.KernelMixerOutIdeal.Gen.dats m 0 c).arrAt 11 (Cert.KernelMixerOutIdeal.cfgs 0).N, fun c => (Cert.KernelMixerOutIdeal.Gen.dats m 0 c).arrAt 12 (Cert.KernelMixerOutIdeal.cfgs 0).N, fun c => (Cert.KernelMixerOutIdeal.Gen.dats m 0 c).arrAt 13 (Cert.KernelMixerOutIdeal.cfgs 0).N, ?_, ?_⟩
  · exact (θ_run Cert.KernelMixerOutIdeal.defs _ _).mono (fun r h c => ⟨(h.2 c).1 10, (h.2 c).1 11, (h.2 c).1 12, (h.2 c).1 13, h.1 c⟩)
      (θ_run_and (Cert.KernelMixerOutIdeal.Gen.unchanged m g) (Cert.KernelMixerOutIdeal.Gen.run_main m g))
  · refine (θ_run Cert.ReferenceMixerOutIdeal.defs _ _).mono (fun r h c => ?_) (Cert.ReferenceMixerOutIdeal.Value.run (F := Ideal) m' g')
    obtain ⟨a0, a1, a2, a3, a4, a5, a6, a7, a8, a9⟩ := hagree c
    exact ⟨(h c).1.trans ((Cert.ReferenceMixerOutIdeal.Read.val_main_v52_eq _ _ _ _).trans (Eq.trans (by rw [a0, a1, a2, a3]) (Cert.MixerOut.final_10 m c).symm)),
      (h c).2.1.trans ((Cert.ReferenceMixerOutIdeal.Read.val_main_v28_eq _ _ _ _ _).trans (Eq.trans (by rw [a0, a1, a2, a3, a4]) (Cert.MixerOut.final_11 m c).symm)),
      (h c).2.2.1.trans ((Cert.ReferenceMixerOutIdeal.Read.val_main_v31_eq _ _ _ _ _ _ _).trans (Eq.trans (by rw [a0, a1, a2, a3, a4, a5, a6]) (Cert.MixerOut.final_12 m c).symm)),
      (h c).2.2.2.1.trans ((Cert.ReferenceMixerOutIdeal.Read.val_main_v53_eq m' c).trans (Eq.trans (by rw [a0, a1, a2, a3, a4, a5, a6, a7, a8, a9]) (Cert.MixerOut.final_13 m c).symm)), (h c).2.2.2.2⟩

theorem frame_ReferenceMixerOut : Cert.quiescent_ReferenceMixerOutIdeal := fun m g _ =>
  (θ_run Cert.ReferenceMixerOutIdeal.defs _ _).mono (fun r h => ⟨fun c => (h c).2.2.2.2, sem_eq_zero_of_no_sems (by decide) r.2⟩)
    (Cert.ReferenceMixerOutIdeal.Value.run (F := Ideal) m g)

theorem value_MixerOutBwd : Cert.algebraic_KernelMixerOutBwdIdeal_ReferenceMixerOutBwdIdeal := by
  intro m g m' g' _ hagree
  refine ⟨fun c => (Cert.KernelMixerOutBwdIdeal.Gen.dats m 0 c).arrAt 6 (Cert.KernelMixerOutBwdIdeal.cfgs 0).N, fun c => (Cert.KernelMixerOutBwdIdeal.Gen.dats m 0 c).arrAt 7 (Cert.KernelMixerOutBwdIdeal.cfgs 0).N, fun c => (Cert.KernelMixerOutBwdIdeal.Gen.dats m 0 c).arrAt 8 (Cert.KernelMixerOutBwdIdeal.cfgs 0).N, fun c => (Cert.KernelMixerOutBwdIdeal.Gen.dats m 0 c).arrAt 9 (Cert.KernelMixerOutBwdIdeal.cfgs 0).N, fun c => (Cert.KernelMixerOutBwdIdeal.Gen.dats m 0 c).arrAt 10 (Cert.KernelMixerOutBwdIdeal.cfgs 0).N, fun c => (Cert.KernelMixerOutBwdIdeal.Gen.dats m 0 c).arrAt 11 (Cert.KernelMixerOutBwdIdeal.cfgs 0).N, ?_, ?_⟩
  · exact (θ_run Cert.KernelMixerOutBwdIdeal.defs _ _).mono (fun r h c => ⟨(h.2 c).1 6, (h.2 c).1 7, (h.2 c).1 8, (h.2 c).1 9, (h.2 c).1 10, (h.2 c).1 11, h.1 c⟩)
      (θ_run_and (Cert.KernelMixerOutBwdIdeal.Gen.unchanged m g) (Cert.KernelMixerOutBwdIdeal.Gen.run_main m g))
  · refine (θ_run Cert.ReferenceMixerOutBwdIdeal.defs _ _).mono (fun r h c => ?_) (Cert.ReferenceMixerOutBwdIdeal.Value.run (F := Ideal) m' g')
    obtain ⟨a0, a1, a2, a3, a4, a5⟩ := hagree c
    exact ⟨(h c).1.trans ((Cert.ReferenceMixerOutBwdIdeal.Read.val_main_v81_eq m' c).trans (Eq.trans (by rw [a0, a1, a2, a4]) (Cert.MixerOutBwd.final_6 m c).symm)),
      (h c).2.1.trans ((Cert.ReferenceMixerOutBwdIdeal.Read.val_main_v83_eq m' c).trans (Eq.trans (by rw [a0, a1, a2, a4]) (Cert.MixerOutBwd.final_7 m c).symm)),
      (h c).2.2.1.trans ((Cert.ReferenceMixerOutBwdIdeal.Read.val_main_v85_eq m' c).trans (Eq.trans (by rw [a0, a1, a2, a4]) (Cert.MixerOutBwd.final_8 m c).symm)),
      (h c).2.2.2.1.trans ((Cert.ReferenceMixerOutBwdIdeal.Read.val_main_v66_eq _ _ _).trans (Eq.trans (by rw [a0, a1, a2]) (Cert.MixerOutBwd.final_9 m c).symm)),
      (h c).2.2.2.2.1.trans ((Cert.ReferenceMixerOutBwdIdeal.Read.val_main_v86_eq m' c).trans (Eq.trans (by rw [a0, a1, a3, a5]) (Cert.MixerOutBwd.final_10 m c).symm)),
      (h c).2.2.2.2.2.1.trans ((Cert.ReferenceMixerOutBwdIdeal.Read.val_main_v45_eq _ _ _).trans (Eq.trans (by rw [a0, a1, a3]) (Cert.MixerOutBwd.final_11 m c).symm)), (h c).2.2.2.2.2.2⟩

theorem frame_ReferenceMixerOutBwd : Cert.quiescent_ReferenceMixerOutBwdIdeal := fun m g _ =>
  (θ_run Cert.ReferenceMixerOutBwdIdeal.defs _ _).mono (fun r h => ⟨fun c => (h c).2.2.2.2.2.2, sem_eq_zero_of_no_sems (by decide) r.2⟩)
    (Cert.ReferenceMixerOutBwdIdeal.Value.run (F := Ideal) m g)

end Cert.Steps

end
-- ==== Proof.LossSum.lean ====
/- The sum of the devices' losses: the run of the program on the mesh, for any float values; each device's result read back, and the sum
   the reference takes of the whole array. -/
module

public import proofs.«01_k».proof.Defs
public import proofs.«01_k».proof.Proof.Gen.KernelLossSum
public import proofs.«01_k».proof.Proof.Gen.KernelLossSumIdeal.Launch
public import proofs.«01_k».proof.Proof.Gen.KernelLossSumIdeal.RegionsRQ
public import proofs.«01_k».proof.Proof.Gen.ReferenceLossSumIdeal.Run
public import proofs.«01_k».proof.Proof.Gen.ReferenceLossSumIdeal.Read
public import Idealize.ShloMosaic.Lib.Pipeline.CollectiveSegs
public import Idealize.ShloMosaic.Lib.Layout
public import Idealize.ShloMosaic.Lib.ValueIdxRank1
public import Idealize.ShloMosaic.Lib.Quiescent

@[expose] public section

noncomputable section

namespace Cert.LossSum

open Cert.KernelLossSumIdeal Cert.KernelLossSumIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own components beside the staging cells'. -/
abbrev UL : Type := UR sig nD τ × Sites.UC

local notation "𝕎" => MT nD τ sig ℕ (Elt F) ℕ UL ℕ

/-- The embedding of the staging component, and of the exchange's. -/
abbrev EP : Emb (URounds (GSem nD τ sig) Unit) 𝕎 := embL
abbrev EC : Emb Sites.UC 𝕎 := embR

variable (m : (ℓ : Loc nD τ sig) → Buf (Elt F) ℓ)

/-- What the exchange leaves in the buffers it writes. -/
def left : Outs (F := F) := fun _ b c => (ar0 (F := F)).after₀ (V1 m) c b

/-- The exchange run once on what the devices hold at its start. -/
abbrev once : AllReduce.Dat ℕ ℕ UL ℕ (ar0 (F := F)) := AllReduce.Dat.once ar0 (V1 m)

/-- The exchange's cells stay under these invariants to the end. -/
abbrev kept : sProp 𝕎 := iprop(∃ κ, (once m).cellInvs (Sites.E0 EC) κ)

/-- What a device holds beside its buffers: before the exchange, and after it. -/
def held : Fin 2 → Dev nD → sProp 𝕎
  | 0, c => Sites.Es EC (V1 m) 0 c
  | 1, c => iprop(Sites.Es EC (V1 m) 1 c ∗ (Sites.Ghost0 EC c ∗ kept m))

/-- The invariants are among what rides to the exchange, and are kept beside it. -/
theorem keep (c : Dev nD) : Sites.Es EC (V1 m) 0 c ⊢ (iprop(Sites.Es EC (V1 m) 0 c ∗ kept m) : sProp 𝕎) := by
  rw [Sites.Es_0]
  unfold Sites.rides0 AllReduce.Dat.rides
  iintro ⟨HO, Hp, ⟨⟨%κ, #Hi⟩, Hl⟩⟩
  isplitl [HO Hp Hl]
  · isplitl [HO]; · iexact HO
    isplitl [Hp]; · iexact Hp
    isplitr [Hl]
    · iexists κ; iexact Hi
    · iexact Hl
  · iexists κ; iexact Hi

/-- The exchange writes only the references listed. -/
theorem fold_sub : ∀ b ∈ (ar0 (F := F)).foldBufs, b ∈ W2.map (Proc.devRef (τ := τ) .tc) := by
  intro b hb
  rcases Finset.mem_insert.mp hb with rfl | hb
  · exact List.mem_map.mpr ⟨main_v3, by decide, rfl⟩
  · obtain ⟨j, rfl⟩ := (ar0 (F := F)).mem_stageRefs.mp hb
    exact List.mem_map.mpr ⟨(ar0 (F := F)).stage j, (by decide : ∀ j : Fin 8, ar0_stage j ∈ W2) j, rfl⟩

/-- After the exchange every held buffer is at the value that the run's last state names. -/
theorem after_eq (c : Dev nD) (b : DevRef τ sig) : V2 m (left m) c b = (ar0 (F := F)).after₀ (V1 m) c b := by
  unfold V2
  split_ifs with h
  · rfl
  · refine ((ar0 (F := F)).after₀_of_notMem (V1 m) c ?_).symm
    intro hb; exact h (fold_sub b hb)

/-- The semaphores that are no scratch are the exchange's three. -/
theorem sems : ∀ sm : SemLoc sig, sm.isScoped .tc = false → sm = .reg ar0_barrier ∨ sm = .dma ar0_recv ∨ sm = .dma ar0_send := by
  decide

set_option backward.isDefEq.respectTransparency.types false in
/-- The program runs from any memory, its arguments unchanged, every semaphore at zero, and the buffers as the exchange
    leaves them. -/
theorem run (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0))
      ∧ (∀ c : Dev nD, ∀ b ∈ Pipeline.ucRefs τ sig, r.2.mem ((c : Thread nD τ).1, b) = V2 m (left m) c b)
      ∧ r.2.sem = fun _ => 0 := by
  refine frame_condRQ m (Ix := ℕ) (U := UL) (Lvl := ℕ) (EP (F := F)) 0 Variants.none Sites.L Sites.lv Sites.hL ρ (left m)
    (fun p => p.elim0) (Sites.O0 (F := F)) (Sites.G (EC (F := F)) (V1 m))
    (initOf (Pipeline.cells cfgs cellOf_inj) (Pipeline.launchToks cfgs cellOf_inj), Sites.uC (U := UL) (V1 m)) ?_
    (held m) (Sites.hE0 EC (V1 m) ρ) (fun c => iprop(Sites.Ghost0 EC c ∗ kept m)) ?_ ?_
    (Sites.seg0 EC Variants.none (V1 m) (Sites.Rest0 (V1 m) fun _ => kept m)) rfl ?_ ?_
  · rw [Sites.bigSep_G]
    iintro Hu
    imodintro
    iapply (ownU_pair _ _) $$ Hu
  · intro c
    unfold held
    iintro ⟨HE, HG⟩
    isplitl [HG]; · iexact HG
    iapply (Sites.hE_last EC (V1 m) c) $$ HE
  · intro c s'
    iintro ⟨⟨HG, Hk⟩, HS⟩
    imod ((once m).ghostAfter_read (Sites.E0 EC) c (k := 0) le_rfl s') $$ [HG Hk HS] with ⟨%h, HS⟩
    · isplitr [HS]
      · isplitl [Hk]; · iexact Hk
        iexact HG
      · iexact HS
    imodintro
    isplitr [HS]
    · ipureintro
      intro sm hsm
      rcases sems sm hsm with rfl | rfl | rfl
      · exact h.1
      · exact h.2.1
      · exact h.2.2
    · iexact HS
  · intro c
    refine BIBase.Entails.trans (Q := iprop(StableHlo.held (c : Thread nD τ) (Pipeline.ucRefs τ sig) (V1 m c) ∗ (Sites.Es EC (V1 m) 0 c ∗ kept m))) ?_
      (Sites.pre0 EC Variants.none (V1 m) (fun _ => kept m) c)
    unfold held
    iintro ⟨Hb, HE⟩
    isplitl [Hb]; · iexact Hb
    iapply (keep m c) $$ HE
  · intro c
    exact Sites.post0' EC Variants.none (V1 m) (fun _ => kept m) c _ fun b _ => after_eq m c b

end Cert.LossSum

namespace Cert.LossSum

open Idealize.ShloMosaic Idealize.ShloMosaic.ValueIdx Idealize.ShloMosaic.TcCoe Idealize.SL.Sem

section Value

open Cert.KernelLossSumIdeal Cert.KernelLossSumIdeal.Gen

variable (m : (ℓ : Loc nD τ sig) → Buf (Elt Ideal) ℓ)

/-- The first entry of a device's row, and of a row of the whole array. -/
abbrev lane0 : S1x128.Idx := Shape.pair (0 : Fin 1) (0 : Fin 128)
abbrev row (j : Fin 8) : Cert.ReferenceLossSumIdeal.S8x128.Idx := Shape.pair (j : Fin 8) (0 : Fin 128)

/-- What a device sends is the first entry of its row. -/
theorem sent (d : Dev nD) (i : S_.Idx) : (V1 m d main_v2 : S_.Idx → EReal) i = (m ((d.tc : Thread nD τ).loc main_arg0) : S1x128.Idx → EReal) lane0 := by
  have h : V1 m d main_v2 = shapeCast _ (extractStridedSlice S1x1 ![0, 0] (m ((d.tc : Thread nD τ).loc main_arg0)) slices_S1x128_S1x1_0_0) shapeCasts_S1x1_S_ := by
    unfold V1; after_results <;> rfl
  refine (congrFun h i).trans ?_
  refine (shapeCast_apply _ shapeCasts_S1x1_S_ i (Shape.pair (0 : Fin 1) (0 : Fin 1)) ?_).trans ?_
  · have h1 := (S_.rowMajor i).isLt
    have h2 := (S1x1.rowMajor (Shape.pair (0 : Fin 1) (0 : Fin 1))).isLt
    have e1 : S_.numel = 1 := by decide
    have e2 : S1x1.numel = 1 := by decide
    omega
  · refine extractStridedSlice_apply ![0, 0] _ slices_S1x128_S1x1_0_0 _ lane0 (fun a => ?_)
    match a with
    | ⟨0, _⟩ => rfl
    | ⟨1, _⟩ => rfl

/-- Every device ends with the sum of what the eight send. -/
theorem result (c : Dev nD) (i : S_.Idx) :
    (V2 m (left m) c main_v3 : S_.Idx → EReal) i
      = ∑ j : Fin 8, (show EReal from (m (((show Dev nD from j).tc : Thread nD τ).loc main_arg0) : S1x128.Idx → EReal) lane0) := by
  have hp : ∀ j : Fin 8, (ar0 (F := Ideal)).peer c j = j := by
    intro j; revert c j; decide
  refine (congrFun ((after_eq m c main_v3).trans ((ar0 (F := Ideal)).after₀_result (V1 m) c)) i).trans ?_
  have hs : ∀ j : Fin 8, (V1 m ((ar0 (F := Ideal)).peer c j) main_v2 : S_.Idx → EReal) i
      = (m (((show Dev nD from j).tc : Thread nD τ).loc main_arg0) : S1x128.Idx → EReal) lane0 :=
    fun j => by rw [hp j]; exact sent m j i
  simp only [← hs, Fin.sum_univ_eight]
  rfl

end Value

/-- The reference's result is the sum of the first entries of the eight rows. -/
theorem reference (w : (⟨Cert.ReferenceLossSumIdeal.S8x128, .f32⟩ : BufTy).Contents (Elt Ideal)) (i : Cert.ReferenceLossSumIdeal.S_.Idx) :
    (Cert.ReferenceLossSumIdeal.Read.val_main_v2 w : _ → EReal) i = ∑ j : Fin 8, (w : _ → EReal) (row j) := by
  refine (Cert.ReferenceLossSumIdeal.Read.val_main_v2_apply w i).trans ?_
  have h0 : (Cert.ReferenceLossSumIdeal.Read.val_main_cst (F := Ideal) (Shape.Idx.first Cert.ReferenceLossSumIdeal.Gen.facts.h_S_) : EReal) = 0 := by
    exact Ideal.ofBits_zero_f32
  refine (congrArg (· + _) h0).trans ((zero_add _).trans ?_)
  refine Fintype.sum_equiv idxEquiv1 _ _ fun j => ?_
  refine (Cert.ReferenceLossSumIdeal.Read.val_main_v1_apply w j).trans ((Cert.ReferenceLossSumIdeal.Read.val_main_v0_apply w _).trans (congrArg w ?_))
  funext a
  match a with
  | ⟨0, _⟩ => exact Fin.ext (Nat.div_one _)
  | ⟨1, _⟩ => rfl

/-- Each device's result is the reference's. -/
theorem value : Cert.algebraic_KernelLossSumIdeal_ReferenceLossSumIdeal := by
  intro m g m' g' _ hagree
  refine ⟨Cert.ReferenceLossSumIdeal.Read.val_main_v2 (m' (((0 : Dev Cert.ReferenceLossSumIdeal.nD).tc : Thread Cert.ReferenceLossSumIdeal.nD Cert.ReferenceLossSumIdeal.τ).loc Cert.ReferenceLossSumIdeal.main_arg0)), ?_, ?_⟩
  · refine (θ_run Cert.KernelLossSumIdeal.defs _ _).mono (fun r h c => ⟨(h.2.1 c Cert.KernelLossSumIdeal.main_v3 (by decide)).trans ?_, h.1 c⟩) (run m g)
    funext i
    refine (result m c i).trans (Eq.trans ?_ (reference _ i).symm)
    refine Fintype.sum_congr (M := EReal) _ _ fun j => ?_
    refine (congrFun (hagree j) lane0).trans (congrArg (m' _) ?_)
    funext a
    match a with
    | ⟨0, _⟩ => exact Fin.ext (by show j.val * 1 + 0 = j.val; omega)
    | ⟨1, _⟩ => rfl
  · exact (θ_run Cert.ReferenceLossSumIdeal.defs _ _).mono (fun r h => ⟨(h 0).1.trans (Cert.ReferenceLossSumIdeal.Read.val_main_v2_eq _), (h 0).2⟩)
      (Cert.ReferenceLossSumIdeal.Value.run (F := Ideal) m' g')

/-- The original and the ideal program have the same text: one run gives both frames. -/
theorem frame_Kernel : Cert.quiescent_KernelLossSum := fun m g _ =>
  (θ_run Cert.KernelLossSumIdeal.defs _ _).mono (fun _ h => ⟨h.1, h.2.2⟩) (run (F := Bits) m g)

theorem frame_KernelIdeal : Cert.quiescent_KernelLossSumIdeal := fun m g _ =>
  (θ_run Cert.KernelLossSumIdeal.defs _ _).mono (fun _ h => ⟨h.1, h.2.2⟩) (run m g)

theorem frame_Reference : Cert.quiescent_ReferenceLossSumIdeal := fun m g _ =>
  (θ_run Cert.ReferenceLossSumIdeal.defs _ _).mono (fun r h => ⟨fun c => (h c).2, sem_eq_zero_of_no_sems (by decide) r.2⟩)
    (Cert.ReferenceLossSumIdeal.Value.run (F := Ideal) m g)

end Cert.LossSum

end
-- ==== Proof.RsMix.lean ====
module

public import proofs.«01_k».proof.Defs
public import proofs.«01_k».proof.Proof.Gen.KernelRsMix.Frame
public import proofs.«01_k».proof.Proof.Gen.KernelRsMixIdeal.Frame
public import proofs.«01_k».proof.Proof.Gen.ReferenceRsMixIdeal.Read
public import proofs.«01_k».proof.Proof.Gen.ReferenceRsMixIdeal.Run
public import Idealize.ShloMosaic.Lib.Pipeline.ValueKit
public import Idealize.ShloMosaic.Lib.Pointwise
public import Idealize.ShloMosaic.Lib.Claim

/-! The gradients of `w_in`, `w_uq` and `w_ukv`: a half of the device's shard of each, its own part added to the parts from the three other chips. -/

@[expose] public section

set_option maxRecDepth 16384

noncomputable section

open Idealize.ShloMosaic Idealize.ShloMosaic.TcCoe Idealize.SL.Sem
open scoped BigOperators

namespace Cert.RsMix

section Words
open Cert.KernelRsMix Cert.KernelRsMix.Gen

/-- The block numbers that device 0 hands the call: its first block, and the first of the result's. -/
def zeros : pre0.Contents (Elt Bits) := fun | ⟨0, _⟩ => fun _ => 0#32 | ⟨_ + 1, h⟩ => absurd h (by simp)

/-- The table that the host's operations fill holds them. -/
theorem table (m : (ℓ : Loc nD τ sig) → Buf (Elt Bits) ℓ) : tbl m = zeros := by
  funext j x
  match j with
  | ⟨0, _⟩ =>
    have h : V m 0 main_v2 = (fun a b => concatenate S2 0 [⟨S1, a⟩, ⟨S1, b⟩] concatenates_S1_S1_S2_d0 : IVec S1 32 → IVec S1 32 → IVec S2 32) (broadcastInDim S1 ![] bcast_S_S1 (constantI S_ 32 0#32)) (broadcastInDim S1 ![] bcast_S_S1 (constantI S_ 32 0#32)) := by
      rfl
    show V m 0 main_v2 x = 0#32
    rw [h]
    change concatenate S2 0 [⟨S1, fun _ => 0#32⟩, ⟨S1, fun _ => 0#32⟩] concatenates_S1_S1_S2_d0 x = 0#32
    exact (by decide : ∀ x : S2.Idx, concatenate S2 0 [⟨S1, fun _ => 0#32⟩, ⟨S1, fun _ => 0#32⟩] concatenates_S1_S1_S2_d0 x = 0#32) x

/-- At these numbers every block lies in its array. -/
theorem okz : ok0 zeros := by decide

/-- Every block of the launch lies in its array. -/
theorem ok (m : (ℓ : Loc nD τ sig) → Buf (Elt Bits) ℓ) : Ok m := by
  unfold Ok; rw [table m]; exact okz

end Words

section Reals
open Cert.KernelRsMixIdeal Cert.KernelRsMixIdeal.Gen

/-- The block numbers that device 0 hands the call: its first block, and the first of the result's. -/
def zerosI : pre0.Contents (Elt Ideal) := fun | ⟨0, _⟩ => fun _ => 0#32 | ⟨_ + 1, h⟩ => absurd h (by simp)

/-- The table that the host's operations fill holds them. -/
theorem tableI (m : (ℓ : Loc nD τ sig) → Buf (Elt Ideal) ℓ) : tbl m = zerosI := by
  funext j x
  match j with
  | ⟨0, _⟩ =>
    have h : V m 0 main_v2 = (fun a b => concatenate S2 0 [⟨S1, a⟩, ⟨S1, b⟩] concatenates_S1_S1_S2_d0 : IVec S1 32 → IVec S1 32 → IVec S2 32) (broadcastInDim S1 ![] bcast_S_S1 (constantI S_ 32 0#32)) (broadcastInDim S1 ![] bcast_S_S1 (constantI S_ 32 0#32)) := by
      rfl
    show V m 0 main_v2 x = 0#32
    rw [h]
    change concatenate S2 0 [⟨S1, fun _ => 0#32⟩, ⟨S1, fun _ => 0#32⟩] concatenates_S1_S1_S2_d0 x = 0#32
    exact (by decide : ∀ x : S2.Idx, concatenate S2 0 [⟨S1, fun _ => 0#32⟩, ⟨S1, fun _ => 0#32⟩] concatenates_S1_S1_S2_d0 x = 0#32) x

/-- At these numbers every block lies in its array. -/
theorem okzI : ok0 zerosI := by decide

/-- Every block of the launch lies in its array. -/
theorem okI (m : (ℓ : Loc nD τ sig) → Buf (Elt Ideal) ℓ) : Ok m := by
  unfold Ok; rw [tableI m]; exact okzI

variable (m : (ℓ : Loc nD τ sig) → Buf (Elt Ideal) ℓ) (hO : Ok m)

/-- The launch is the one at those numbers. -/
theorem adm_eq : adm m hO = ⟨zerosI, okzI⟩ := Subtype.ext (tableI m)

/-- There are two steps. -/
theorem at_lt (t : Fin (cfgM m hO).N) : t.val < 2 := t.isLt

/-- The row of the whole half that row `k` of the block at step `t` is. -/
def row_0 (t : Fin (cfgM m hO).N) (k : Fin 256) : Fin 512 := ⟨t.val * 256 + k.val, by have := at_lt m hO t; have := k.isLt; omega⟩

/-- The result's first block is written, and nothing else of it. -/
theorem covers_12 : ((cfgM m hO).win 12).CoversWhere fun β : Fin 3 → ℕ => β 0 = 0 := by
  unfold cfgM; rw [adm_eq]; decide +kernel

theorem index_12 (t : Fin (cfgM m hO).N) : ((cfgM m hO).win 12).index t = ![0, t.val, 0] := by
  revert t
  unfold cfgM; rw [adm_eq]
  exact (by decide +kernel : ∀ t : Fin grid0.N, ((cfg0 (F := Ideal) ⟨zerosI, okzI⟩).win 12).index t = ![0, t.val, 0])

theorem index_0 (t : Fin (cfgM m hO).N) : ((cfgM m hO).win 0).index t = ![0, t.val, 0] := by
  revert t
  unfold cfgM; rw [adm_eq]
  exact (by decide +kernel : ∀ t : Fin grid0.N, ((cfg0 (F := Ideal) ⟨zerosI, okzI⟩).win 0).index t = ![0, t.val, 0])

/-- The own part of `w_in` at step `t`: the half's rows of that step. -/
theorem read_0 (c : Dev nD) (t : Fin (cfgM m hO).N) (y : S1x256x552.Idx) :
    (ms0_0 m hO t).view.read (Elt Ideal) ((hs0_0 m hO t).unread (iblk m hO c 0 t)) y
      = m ((c : Thread nD τ).loc main_arg0) (ix3 (0 : Fin 4) (row_0 m hO t (y 1)) (y 2) : S4x512x552.Idx) := by
  refine (congrFun ((hs0_0 m hO t).read_unread (iblk m hO c 0 t)) y).trans ?_
  show V m c main_arg0 ((((cfgM m hO).win 0).blk t).view.emb y) = _
  rw [V_main_arg0]
  refine congrArg (m ((c : Thread nD τ).loc main_arg0)) (funext fun a => Fin.ext ?_)
  refine (Pipeline.Window.rect_emb_val ((cfgM m hO).win 0) t y a rfl).trans ?_
  rw [index_0 m hO t]
  match a with
  | ⟨0, _⟩ => have h : (y 0).val < 1 := (y 0).isLt
              show 0 * 1 + (y 0).val = 0
              omega
  | ⟨1, _⟩ => rfl
  | ⟨2, _⟩ => show 0 * 552 + (y 2).val = (y 2).val
              omega

theorem index_1 (t : Fin (cfgM m hO).N) : ((cfgM m hO).win 1).index t = ![0, t.val, 0] := by
  revert t
  unfold cfgM; rw [adm_eq]
  exact (by decide +kernel : ∀ t : Fin grid0.N, ((cfg0 (F := Ideal) ⟨zerosI, okzI⟩).win 1).index t = ![0, t.val, 0])

/-- The first other chip's part of `w_in` at step `t`: the half's rows of that step. -/
theorem read_1 (c : Dev nD) (t : Fin (cfgM m hO).N) (y : S1x256x552.Idx) :
    (ms0_1 m hO t).view.read (Elt Ideal) ((hs0_1 m hO t).unread (iblk m hO c 1 t)) y
      = m ((c : Thread nD τ).loc main_arg1) (ix3 (0 : Fin 3) (row_0 m hO t (y 1)) (y 2) : S3x512x552.Idx) := by
  refine (congrFun ((hs0_1 m hO t).read_unread (iblk m hO c 1 t)) y).trans ?_
  show V m c main_arg1 ((((cfgM m hO).win 1).blk t).view.emb y) = _
  rw [V_main_arg1]
  refine congrArg (m ((c : Thread nD τ).loc main_arg1)) (funext fun a => Fin.ext ?_)
  refine (Pipeline.Window.rect_emb_val ((cfgM m hO).win 1) t y a rfl).trans ?_
  rw [index_1 m hO t]
  match a with
  | ⟨0, _⟩ => have h : (y 0).val < 1 := (y 0).isLt
              show 0 * 1 + (y 0).val = 0
              omega
  | ⟨1, _⟩ => rfl
  | ⟨2, _⟩ => show 0 * 552 + (y 2).val = (y 2).val
              omega

theorem index_2 (t : Fin (cfgM m hO).N) : ((cfgM m hO).win 2).index t = ![1, t.val, 0] := by
  revert t
  unfold cfgM; rw [adm_eq]
  exact (by decide +kernel : ∀ t : Fin grid0.N, ((cfg0 (F := Ideal) ⟨zerosI, okzI⟩).win 2).index t = ![1, t.val, 0])

/-- The second other chip's part of `w_in` at step `t`: the half's rows of that step. -/
theorem read_2 (c : Dev nD) (t : Fin (cfgM m hO).N) (y : S1x256x552.Idx) :
    (ms0_2 m hO t).view.read (Elt Ideal) ((hs0_2 m hO t).unread (iblk m hO c 2 t)) y
      = m ((c : Thread nD τ).loc main_arg1) (ix3 (1 : Fin 3) (row_0 m hO t (y 1)) (y 2) : S3x512x552.Idx) := by
  refine (congrFun ((hs0_2 m hO t).read_unread (iblk m hO c 2 t)) y).trans ?_
  show V m c main_arg1 ((((cfgM m hO).win 2).blk t).view.emb y) = _
  rw [V_main_arg1]
  refine congrArg (m ((c : Thread nD τ).loc main_arg1)) (funext fun a => Fin.ext ?_)
  refine (Pipeline.Window.rect_emb_val ((cfgM m hO).win 2) t y a rfl).trans ?_
  rw [index_2 m hO t]
  match a with
  | ⟨0, _⟩ => have h : (y 0).val < 1 := (y 0).isLt
              show 1 * 1 + (y 0).val = 1
              omega
  | ⟨1, _⟩ => rfl
  | ⟨2, _⟩ => show 0 * 552 + (y 2).val = (y 2).val
              omega

theorem index_3 (t : Fin (cfgM m hO).N) : ((cfgM m hO).win 3).index t = ![2, t.val, 0] := by
  revert t
  unfold cfgM; rw [adm_eq]
  exact (by decide +kernel : ∀ t : Fin grid0.N, ((cfg0 (F := Ideal) ⟨zerosI, okzI⟩).win 3).index t = ![2, t.val, 0])

/-- The third other chip's part of `w_in` at step `t`: the half's rows of that step. -/
theorem read_3 (c : Dev nD) (t : Fin (cfgM m hO).N) (y : S1x256x552.Idx) :
    (ms0_3 m hO t).view.read (Elt Ideal) ((hs0_3 m hO t).unread (iblk m hO c 3 t)) y
      = m ((c : Thread nD τ).loc main_arg1) (ix3 (2 : Fin 3) (row_0 m hO t (y 1)) (y 2) : S3x512x552.Idx) := by
  refine (congrFun ((hs0_3 m hO t).read_unread (iblk m hO c 3 t)) y).trans ?_
  show V m c main_arg1 ((((cfgM m hO).win 3).blk t).view.emb y) = _
  rw [V_main_arg1]
  refine congrArg (m ((c : Thread nD τ).loc main_arg1)) (funext fun a => Fin.ext ?_)
  refine (Pipeline.Window.rect_emb_val ((cfgM m hO).win 3) t y a rfl).trans ?_
  rw [index_3 m hO t]
  match a with
  | ⟨0, _⟩ => have h : (y 0).val < 1 := (y 0).isLt
              show 2 * 1 + (y 0).val = 2
              omega
  | ⟨1, _⟩ => rfl
  | ⟨2, _⟩ => show 0 * 552 + (y 2).val = (y 2).val
              omega

/-- The reference's sum at an element of `w_in`. -/
theorem ref_12 (x0 : (⟨S4x512x552, .f32⟩ : BufTy).Contents (Elt Ideal)) (x1 : (⟨S3x512x552, .bf16⟩ : BufTy).Contents (Elt Ideal)) (j : S512x552.Idx) :
    Cert.ReferenceRsMixIdeal.Read.val_main_v4 (F := Ideal) x0 x1 j = (x0 (ix3 0 (j 0) (j 1)) + x1 (ix3 0 (j 0) (j 1)) + x1 (ix3 1 (j 0) (j 1)) + x1 (ix3 2 (j 0) (j 1)) : EReal) := by
  pointwise [Cert.ReferenceRsMixIdeal.Read.val_main_v4, Cert.ReferenceRsMixIdeal.Read.val_main_v0, Cert.ReferenceRsMixIdeal.Read.val_main_v1, Cert.ReferenceRsMixIdeal.Read.val_main_v2, Cert.ReferenceRsMixIdeal.Read.val_main_v3, Cert.ReferenceRsMixIdeal.Read.val_main_cst]
  rw [Fin.sum_univ_three, ← add_assoc, ← add_assoc]

/-- The place of an element of the result within its block. -/
def at_12 (i : S2x512x552.Idx) : S512x552.Idx := fun | ⟨0, _⟩ => i 1 | ⟨1, _⟩ => i 2

theorem place_12 (t : Fin (cfgM m hO).N) (y : S1x256x552.Idx) :
    at_12 ((((cfgM m hO).win 12).blk t).view.emb y) = ix2 (row_0 m hO t (y 1)) (y 2) := by
  have h (a : Fin 3) := Pipeline.Window.rect_emb_val ((cfgM m hO).win 12) t y a rfl
  rw [index_12 m hO t] at h
  funext a
  match a with
  | ⟨0, _⟩ => exact Fin.ext (h 1)
  | ⟨1, _⟩ => refine Fin.ext ((h 2).trans ?_)
              show 0 * 552 + (y 2).val = (y 2).val
              omega

/-- The result's first block is the reference's sum. -/
theorem final_12 (c : Dev nD) : (dats m hO 0 c).arrAt 12 (cfgM m hO).N = fun i : S2x512x552.Idx => if (i 0).val / 1 = 0 then
    Cert.ReferenceRsMixIdeal.Read.val_main_v4 (F := Ideal) (m ((c : Thread nD τ).loc main_arg0)) (m ((c : Thread nD τ).loc main_arg1)) (at_12 i) else V m c main_v3_0 i := by
  refine (dats m hO 0 c).arrAt_eq_of_coversWhere 12 _ (fun β : Fin 3 → ℕ => β 0 = 0) (covers_12 m hO) (fun t hf y => ?_) (fun j => Iff.rfl)
  blk_simp
  rw [after0_12]
  unfold outsAt0
  frame_out
  pointwise [k0_pay3]
  refine (congrArg₂ (· + ·) (congrArg₂ (· + ·) (congrArg₂ (· + ·) (read_0 m hO c t y) (read_1 m hO c t y)) (read_2 m hO c t y)) (read_3 m hO c t y)).trans ?_
  rw [ref_12]
  erw [place_12 m hO t y]
  rfl

/-- The row of the whole half that row `k` of the block at step `t` is. -/
def row_1 (t : Fin (cfgM m hO).N) (k : Fin 96) : Fin 192 := ⟨t.val * 96 + k.val, by have := at_lt m hO t; have := k.isLt; omega⟩

/-- The result's first block is written, and nothing else of it. -/
theorem covers_13 : ((cfgM m hO).win 13).CoversWhere fun β : Fin 3 → ℕ => β 0 = 0 := by
  unfold cfgM; rw [adm_eq]; decide +kernel

theorem index_13 (t : Fin (cfgM m hO).N) : ((cfgM m hO).win 13).index t = ![0, t.val, 0] := by
  revert t
  unfold cfgM; rw [adm_eq]
  exact (by decide +kernel : ∀ t : Fin grid0.N, ((cfg0 (F := Ideal) ⟨zerosI, okzI⟩).win 13).index t = ![0, t.val, 0])

theorem index_4 (t : Fin (cfgM m hO).N) : ((cfgM m hO).win 4).index t = ![0, t.val, 0] := by
  revert t
  unfold cfgM; rw [adm_eq]
  exact (by decide +kernel : ∀ t : Fin grid0.N, ((cfg0 (F := Ideal) ⟨zerosI, okzI⟩).win 4).index t = ![0, t.val, 0])

/-- The own part of `w_uq` at step `t`: the half's rows of that step. -/
theorem read_4 (c : Dev nD) (t : Fin (cfgM m hO).N) (y : S1x96x192.Idx) :
    (ms0_4 m hO t).view.read (Elt Ideal) ((hs0_4 m hO t).unread (iblk m hO c 4 t)) y
      = m ((c : Thread nD τ).loc main_arg2) (ix3 (0 : Fin 4) (row_1 m hO t (y 1)) (y 2) : S4x192x192.Idx) := by
  refine (congrFun ((hs0_4 m hO t).read_unread (iblk m hO c 4 t)) y).trans ?_
  show V m c main_arg2 ((((cfgM m hO).win 4).blk t).view.emb y) = _
  rw [V_main_arg2]
  refine congrArg (m ((c : Thread nD τ).loc main_arg2)) (funext fun a => Fin.ext ?_)
  refine (Pipeline.Window.rect_emb_val ((cfgM m hO).win 4) t y a rfl).trans ?_
  rw [index_4 m hO t]
  match a with
  | ⟨0, _⟩ => have h : (y 0).val < 1 := (y 0).isLt
              show 0 * 1 + (y 0).val = 0
              omega
  | ⟨1, _⟩ => rfl
  | ⟨2, _⟩ => show 0 * 192 + (y 2).val = (y 2).val
              omega

theorem index_5 (t : Fin (cfgM m hO).N) : ((cfgM m hO).win 5).index t = ![0, t.val, 0] := by
  revert t
  unfold cfgM; rw [adm_eq]
  exact (by decide +kernel : ∀ t : Fin grid0.N, ((cfg0 (F := Ideal) ⟨zerosI, okzI⟩).win 5).index t = ![0, t.val, 0])

/-- The first other chip's part of `w_uq` at step `t`: the half's rows of that step. -/
theorem read_5 (c : Dev nD) (t : Fin (cfgM m hO).N) (y : S1x96x192.Idx) :
    (ms0_5 m hO t).view.read (Elt Ideal) ((hs0_5 m hO t).unread (iblk m hO c 5 t)) y
      = m ((c : Thread nD τ).loc main_arg3) (ix3 (0 : Fin 3) (row_1 m hO t (y 1)) (y 2) : S3x192x192.Idx) := by
  refine (congrFun ((hs0_5 m hO t).read_unread (iblk m hO c 5 t)) y).trans ?_
  show V m c main_arg3 ((((cfgM m hO).win 5).blk t).view.emb y) = _
  rw [V_main_arg3]
  refine congrArg (m ((c : Thread nD τ).loc main_arg3)) (funext fun a => Fin.ext ?_)
  refine (Pipeline.Window.rect_emb_val ((cfgM m hO).win 5) t y a rfl).trans ?_
  rw [index_5 m hO t]
  match a with
  | ⟨0, _⟩ => have h : (y 0).val < 1 := (y 0).isLt
              show 0 * 1 + (y 0).val = 0
              omega
  | ⟨1, _⟩ => rfl
  | ⟨2, _⟩ => show 0 * 192 + (y 2).val = (y 2).val
              omega

theorem index_6 (t : Fin (cfgM m hO).N) : ((cfgM m hO).win 6).index t = ![1, t.val, 0] := by
  revert t
  unfold cfgM; rw [adm_eq]
  exact (by decide +kernel : ∀ t : Fin grid0.N, ((cfg0 (F := Ideal) ⟨zerosI, okzI⟩).win 6).index t = ![1, t.val, 0])

/-- The second other chip's part of `w_uq` at step `t`: the half's rows of that step. -/
theorem read_6 (c : Dev nD) (t : Fin (cfgM m hO).N) (y : S1x96x192.Idx) :
    (ms0_6 m hO t).view.read (Elt Ideal) ((hs0_6 m hO t).unread (iblk m hO c 6 t)) y
      = m ((c : Thread nD τ).loc main_arg3) (ix3 (1 : Fin 3) (row_1 m hO t (y 1)) (y 2) : S3x192x192.Idx) := by
  refine (congrFun ((hs0_6 m hO t).read_unread (iblk m hO c 6 t)) y).trans ?_
  show V m c main_arg3 ((((cfgM m hO).win 6).blk t).view.emb y) = _
  rw [V_main_arg3]
  refine congrArg (m ((c : Thread nD τ).loc main_arg3)) (funext fun a => Fin.ext ?_)
  refine (Pipeline.Window.rect_emb_val ((cfgM m hO).win 6) t y a rfl).trans ?_
  rw [index_6 m hO t]
  match a with
  | ⟨0, _⟩ => have h : (y 0).val < 1 := (y 0).isLt
              show 1 * 1 + (y 0).val = 1
              omega
  | ⟨1, _⟩ => rfl
  | ⟨2, _⟩ => show 0 * 192 + (y 2).val = (y 2).val
              omega

theorem index_7 (t : Fin (cfgM m hO).N) : ((cfgM m hO).win 7).index t = ![2, t.val, 0] := by
  revert t
  unfold cfgM; rw [adm_eq]
  exact (by decide +kernel : ∀ t : Fin grid0.N, ((cfg0 (F := Ideal) ⟨zerosI, okzI⟩).win 7).index t = ![2, t.val, 0])

/-- The third other chip's part of `w_uq` at step `t`: the half's rows of that step. -/
theorem read_7 (c : Dev nD) (t : Fin (cfgM m hO).N) (y : S1x96x192.Idx) :
    (ms0_7 m hO t).view.read (Elt Ideal) ((hs0_7 m hO t).unread (iblk m hO c 7 t)) y
      = m ((c : Thread nD τ).loc main_arg3) (ix3 (2 : Fin 3) (row_1 m hO t (y 1)) (y 2) : S3x192x192.Idx) := by
  refine (congrFun ((hs0_7 m hO t).read_unread (iblk m hO c 7 t)) y).trans ?_
  show V m c main_arg3 ((((cfgM m hO).win 7).blk t).view.emb y) = _
  rw [V_main_arg3]
  refine congrArg (m ((c : Thread nD τ).loc main_arg3)) (funext fun a => Fin.ext ?_)
  refine (Pipeline.Window.rect_emb_val ((cfgM m hO).win 7) t y a rfl).trans ?_
  rw [index_7 m hO t]
  match a with
  | ⟨0, _⟩ => have h : (y 0).val < 1 := (y 0).isLt
              show 2 * 1 + (y 0).val = 2
              omega
  | ⟨1, _⟩ => rfl
  | ⟨2, _⟩ => show 0 * 192 + (y 2).val = (y 2).val
              omega

/-- The reference's sum at an element of `w_uq`. -/
theorem ref_13 (x0 : (⟨S4x192x192, .f32⟩ : BufTy).Contents (Elt Ideal)) (x1 : (⟨S3x192x192, .bf16⟩ : BufTy).Contents (Elt Ideal)) (j : S192x192.Idx) :
    Cert.ReferenceRsMixIdeal.Read.val_main_v9 (F := Ideal) x0 x1 j = (x0 (ix3 0 (j 0) (j 1)) + x1 (ix3 0 (j 0) (j 1)) + x1 (ix3 1 (j 0) (j 1)) + x1 (ix3 2 (j 0) (j 1)) : EReal) := by
  pointwise [Cert.ReferenceRsMixIdeal.Read.val_main_v9, Cert.ReferenceRsMixIdeal.Read.val_main_v5, Cert.ReferenceRsMixIdeal.Read.val_main_v6, Cert.ReferenceRsMixIdeal.Read.val_main_v7, Cert.ReferenceRsMixIdeal.Read.val_main_v8, Cert.ReferenceRsMixIdeal.Read.val_main_cst_0]
  rw [Fin.sum_univ_three, ← add_assoc, ← add_assoc]

/-- The place of an element of the result within its block. -/
def at_13 (i : S2x192x192.Idx) : S192x192.Idx := fun | ⟨0, _⟩ => i 1 | ⟨1, _⟩ => i 2

theorem place_13 (t : Fin (cfgM m hO).N) (y : S1x96x192.Idx) :
    at_13 ((((cfgM m hO).win 13).blk t).view.emb y) = ix2 (row_1 m hO t (y 1)) (y 2) := by
  have h (a : Fin 3) := Pipeline.Window.rect_emb_val ((cfgM m hO).win 13) t y a rfl
  rw [index_13 m hO t] at h
  funext a
  match a with
  | ⟨0, _⟩ => exact Fin.ext (h 1)
  | ⟨1, _⟩ => refine Fin.ext ((h 2).trans ?_)
              show 0 * 192 + (y 2).val = (y 2).val
              omega

/-- The result's first block is the reference's sum. -/
theorem final_13 (c : Dev nD) : (dats m hO 0 c).arrAt 13 (cfgM m hO).N = fun i : S2x192x192.Idx => if (i 0).val / 1 = 0 then
    Cert.ReferenceRsMixIdeal.Read.val_main_v9 (F := Ideal) (m ((c : Thread nD τ).loc main_arg2)) (m ((c : Thread nD τ).loc main_arg3)) (at_13 i) else V m c main_v3_1 i := by
  refine (dats m hO 0 c).arrAt_eq_of_coversWhere 13 _ (fun β : Fin 3 → ℕ => β 0 = 0) (covers_13 m hO) (fun t hf y => ?_) (fun j => Iff.rfl)
  blk_simp
  rw [after0_13]
  unfold outsAt0
  frame_out
  pointwise [k0_pay1, k0_pay4, k0_pay5]
  refine (congrArg₂ (· + ·) (congrArg₂ (· + ·) (congrArg₂ (· + ·) (read_4 m hO c t y) (read_5 m hO c t y)) (read_6 m hO c t y)) (read_7 m hO c t y)).trans ?_
  rw [ref_13]
  erw [place_13 m hO t y]
  rfl

/-- The row of the whole half that row `k` of the block at step `t` is. -/
def row_2 (t : Fin (cfgM m hO).N) (k : Fin 64) : Fin 128 := ⟨t.val * 64 + k.val, by have := at_lt m hO t; have := k.isLt; omega⟩

/-- The result's first block is written, and nothing else of it. -/
theorem covers_14 : ((cfgM m hO).win 14).CoversWhere fun β : Fin 3 → ℕ => β 0 = 0 := by
  unfold cfgM; rw [adm_eq]; decide +kernel

theorem index_14 (t : Fin (cfgM m hO).N) : ((cfgM m hO).win 14).index t = ![0, t.val, 0] := by
  revert t
  unfold cfgM; rw [adm_eq]
  exact (by decide +kernel : ∀ t : Fin grid0.N, ((cfg0 (F := Ideal) ⟨zerosI, okzI⟩).win 14).index t = ![0, t.val, 0])

theorem index_8 (t : Fin (cfgM m hO).N) : ((cfgM m hO).win 8).index t = ![0, t.val, 0] := by
  revert t
  unfold cfgM; rw [adm_eq]
  exact (by decide +kernel : ∀ t : Fin grid0.N, ((cfg0 (F := Ideal) ⟨zerosI, okzI⟩).win 8).index t = ![0, t.val, 0])

/-- The own part of `w_ukv` at step `t`: the half's rows of that step. -/
theorem read_8 (c : Dev nD) (t : Fin (cfgM m hO).N) (y : S1x64x256.Idx) :
    (ms0_8 m hO t).view.read (Elt Ideal) ((hs0_8 m hO t).unread (iblk m hO c 8 t)) y
      = m ((c : Thread nD τ).loc main_arg4) (ix3 (0 : Fin 4) (row_2 m hO t (y 1)) (y 2) : S4x128x256.Idx) := by
  refine (congrFun ((hs0_8 m hO t).read_unread (iblk m hO c 8 t)) y).trans ?_
  show V m c main_arg4 ((((cfgM m hO).win 8).blk t).view.emb y) = _
  rw [V_main_arg4]
  refine congrArg (m ((c : Thread nD τ).loc main_arg4)) (funext fun a => Fin.ext ?_)
  refine (Pipeline.Window.rect_emb_val ((cfgM m hO).win 8) t y a rfl).trans ?_
  rw [index_8 m hO t]
  match a with
  | ⟨0, _⟩ => have h : (y 0).val < 1 := (y 0).isLt
              show 0 * 1 + (y 0).val = 0
              omega
  | ⟨1, _⟩ => rfl
  | ⟨2, _⟩ => show 0 * 256 + (y 2).val = (y 2).val
              omega

theorem index_9 (t : Fin (cfgM m hO).N) : ((cfgM m hO).win 9).index t = ![0, t.val, 0] := by
  revert t
  unfold cfgM; rw [adm_eq]
  exact (by decide +kernel : ∀ t : Fin grid0.N, ((cfg0 (F := Ideal) ⟨zerosI, okzI⟩).win 9).index t = ![0, t.val, 0])

/-- The first other chip's part of `w_ukv` at step `t`: the half's rows of that step. -/
theorem read_9 (c : Dev nD) (t : Fin (cfgM m hO).N) (y : S1x64x256.Idx) :
    (ms0_9 m hO t).view.read (Elt Ideal) ((hs0_9 m hO t).unread (iblk m hO c 9 t)) y
      = m ((c : Thread nD τ).loc main_arg5) (ix3 (0 : Fin 3) (row_2 m hO t (y 1)) (y 2) : S3x128x256.Idx) := by
  refine (congrFun ((hs0_9 m hO t).read_unread (iblk m hO c 9 t)) y).trans ?_
  show V m c main_arg5 ((((cfgM m hO).win 9).blk t).view.emb y) = _
  rw [V_main_arg5]
  refine congrArg (m ((c : Thread nD τ).loc main_arg5)) (funext fun a => Fin.ext ?_)
  refine (Pipeline.Window.rect_emb_val ((cfgM m hO).win 9) t y a rfl).trans ?_
  rw [index_9 m hO t]
  match a with
  | ⟨0, _⟩ => have h : (y 0).val < 1 := (y 0).isLt
              show 0 * 1 + (y 0).val = 0
              omega
  | ⟨1, _⟩ => rfl
  | ⟨2, _⟩ => show 0 * 256 + (y 2).val = (y 2).val
              omega

theorem index_10 (t : Fin (cfgM m hO).N) : ((cfgM m hO).win 10).index t = ![1, t.val, 0] := by
  revert t
  unfold cfgM; rw [adm_eq]
  exact (by decide +kernel : ∀ t : Fin grid0.N, ((cfg0 (F := Ideal) ⟨zerosI, okzI⟩).win 10).index t = ![1, t.val, 0])

/-- The second other chip's part of `w_ukv` at step `t`: the half's rows of that step. -/
theorem read_10 (c : Dev nD) (t : Fin (cfgM m hO).N) (y : S1x64x256.Idx) :
    (ms0_10 m hO t).view.read (Elt Ideal) ((hs0_10 m hO t).unread (iblk m hO c 10 t)) y
      = m ((c : Thread nD τ).loc main_arg5) (ix3 (1 : Fin 3) (row_2 m hO t (y 1)) (y 2) : S3x128x256.Idx) := by
  refine (congrFun ((hs0_10 m hO t).read_unread (iblk m hO c 10 t)) y).trans ?_
  show V m c main_arg5 ((((cfgM m hO).win 10).blk t).view.emb y) = _
  rw [V_main_arg5]
  refine congrArg (m ((c : Thread nD τ).loc main_arg5)) (funext fun a => Fin.ext ?_)
  refine (Pipeline.Window.rect_emb_val ((cfgM m hO).win 10) t y a rfl).trans ?_
  rw [index_10 m hO t]
  match a with
  | ⟨0, _⟩ => have h : (y 0).val < 1 := (y 0).isLt
              show 1 * 1 + (y 0).val = 1
              omega
  | ⟨1, _⟩ => rfl
  | ⟨2, _⟩ => show 0 * 256 + (y 2).val = (y 2).val
              omega

theorem index_11 (t : Fin (cfgM m hO).N) : ((cfgM m hO).win 11).index t = ![2, t.val, 0] := by
  revert t
  unfold cfgM; rw [adm_eq]
  exact (by decide +kernel : ∀ t : Fin grid0.N, ((cfg0 (F := Ideal) ⟨zerosI, okzI⟩).win 11).index t = ![2, t.val, 0])

/-- The third other chip's part of `w_ukv` at step `t`: the half's rows of that step. -/
theorem read_11 (c : Dev nD) (t : Fin (cfgM m hO).N) (y : S1x64x256.Idx) :
    (ms0_11 m hO t).view.read (Elt Ideal) ((hs0_11 m hO t).unread (iblk m hO c 11 t)) y
      = m ((c : Thread nD τ).loc main_arg5) (ix3 (2 : Fin 3) (row_2 m hO t (y 1)) (y 2) : S3x128x256.Idx) := by
  refine (congrFun ((hs0_11 m hO t).read_unread (iblk m hO c 11 t)) y).trans ?_
  show V m c main_arg5 ((((cfgM m hO).win 11).blk t).view.emb y) = _
  rw [V_main_arg5]
  refine congrArg (m ((c : Thread nD τ).loc main_arg5)) (funext fun a => Fin.ext ?_)
  refine (Pipeline.Window.rect_emb_val ((cfgM m hO).win 11) t y a rfl).trans ?_
  rw [index_11 m hO t]
  match a with
  | ⟨0, _⟩ => have h : (y 0).val < 1 := (y 0).isLt
              show 2 * 1 + (y 0).val = 2
              omega
  | ⟨1, _⟩ => rfl
  | ⟨2, _⟩ => show 0 * 256 + (y 2).val = (y 2).val
              omega

/-- The reference's sum at an element of `w_ukv`. -/
theorem ref_14 (x0 : (⟨S4x128x256, .f32⟩ : BufTy).Contents (Elt Ideal)) (x1 : (⟨S3x128x256, .bf16⟩ : BufTy).Contents (Elt Ideal)) (j : S128x256.Idx) :
    Cert.ReferenceRsMixIdeal.Read.val_main_v14 (F := Ideal) x0 x1 j = (x0 (ix3 0 (j 0) (j 1)) + x1 (ix3 0 (j 0) (j 1)) + x1 (ix3 1 (j 0) (j 1)) + x1 (ix3 2 (j 0) (j 1)) : EReal) := by
  pointwise [Cert.ReferenceRsMixIdeal.Read.val_main_v14, Cert.ReferenceRsMixIdeal.Read.val_main_v10, Cert.ReferenceRsMixIdeal.Read.val_main_v11, Cert.ReferenceRsMixIdeal.Read.val_main_v12, Cert.ReferenceRsMixIdeal.Read.val_main_v13, Cert.ReferenceRsMixIdeal.Read.val_main_cst_1]
  rw [Fin.sum_univ_three, ← add_assoc, ← add_assoc]

/-- The place of an element of the result within its block. -/
def at_14 (i : S2x128x256.Idx) : S128x256.Idx := fun | ⟨0, _⟩ => i 1 | ⟨1, _⟩ => i 2

theorem place_14 (t : Fin (cfgM m hO).N) (y : S1x64x256.Idx) :
    at_14 ((((cfgM m hO).win 14).blk t).view.emb y) = ix2 (row_2 m hO t (y 1)) (y 2) := by
  have h (a : Fin 3) := Pipeline.Window.rect_emb_val ((cfgM m hO).win 14) t y a rfl
  rw [index_14 m hO t] at h
  funext a
  match a with
  | ⟨0, _⟩ => exact Fin.ext (h 1)
  | ⟨1, _⟩ => refine Fin.ext ((h 2).trans ?_)
              show 0 * 256 + (y 2).val = (y 2).val
              omega

/-- The result's first block is the reference's sum. -/
theorem final_14 (c : Dev nD) : (dats m hO 0 c).arrAt 14 (cfgM m hO).N = fun i : S2x128x256.Idx => if (i 0).val / 1 = 0 then
    Cert.ReferenceRsMixIdeal.Read.val_main_v14 (F := Ideal) (m ((c : Thread nD τ).loc main_arg4)) (m ((c : Thread nD τ).loc main_arg5)) (at_14 i) else V m c main_v3_2 i := by
  refine (dats m hO 0 c).arrAt_eq_of_coversWhere 14 _ (fun β : Fin 3 → ℕ => β 0 = 0) (covers_14 m hO) (fun t hf y => ?_) (fun j => Iff.rfl)
  blk_simp
  rw [after0_14]
  unfold outsAt0
  frame_out
  pointwise [k0_pay2]
  refine (congrArg₂ (· + ·) (congrArg₂ (· + ·) (congrArg₂ (· + ·) (read_8 m hO c t y) (read_9 m hO c t y)) (read_10 m hO c t y)) (read_11 m hO c t y)).trans ?_
  rw [ref_14]
  erw [place_14 m hO t y]
  rfl

/-- The host's last operations take the first block of the result. -/
theorem tail_12 (W : Valuation τ sig (Elt Ideal)) :
    StableHlo.after ([hostOps1 (F := Ideal)] : List (List (HloOp τ sig (Elt Ideal)))).flatten W (Proc.devRef .tc main_v5)
      = shapeCast S512x552 (extractStridedSlice S1x512x552 ![0, 0, 0] (W (Proc.devRef .tc main_v3_0)) slices_S2x512x552_S1x512x552_0_0_0) shapeCasts_S1x512x552_S512x552 := by
  rfl

/-- The first block of the result, as an array of its own, at an element. -/
theorem first_12 (A : S2x512x552.Idx → EReal) (j : S512x552.Idx) :
    (shapeCast S512x552 (extractStridedSlice S1x512x552 ![0, 0, 0] A slices_S2x512x552_S1x512x552_0_0_0) shapeCasts_S1x512x552_S512x552 : S512x552.Idx → EReal) j = A (ix3 (0 : Fin 2) (j 0) (j 1)) := by
  refine (shapeCast_apply _ shapeCasts_S1x512x552_S512x552 j (ix3 (0 : Fin 1) (j 0) (j 1) : S1x512x552.Idx) ?_).trans (congrArg A (funext fun a => ?_))
  · rw [Shape.rowMajor_val_three, Shape.rowMajor_val_two]
    show (0 * 512 + (j 0).val) * 552 + (j 1).val = (j 0).val * 552 + (j 1).val
    omega
  match a with
  | ⟨0, _⟩ => rfl
  | ⟨1, _⟩ => exact Fin.ext (Nat.zero_add _)
  | ⟨2, _⟩ => exact Fin.ext (Nat.zero_add _)

/-- What the program returns for `w_in`: the sum. -/
theorem result_12 (c : Dev nD) : Pipeline.afterTail pcfgs (fun _ => adm m hO) (dats m hO) 0 (V0 m) [hostOps1] c main_v5
    = Cert.ReferenceRsMixIdeal.Read.val_main_v4 (F := Ideal) (m ((c : Thread nD τ).loc main_arg0)) (m ((c : Thread nD τ).loc main_arg1)) := by
  refine (tail_12 _).trans ?_
  refine (congrArg (fun A : S2x512x552.Idx → EReal => (shapeCast S512x552 (extractStridedSlice S1x512x552 ![0, 0, 0] A slices_S2x512x552_S1x512x552_0_0_0) shapeCasts_S1x512x552_S512x552 : S512x552.Idx → EReal))
    (((dats m hO 0 c).withArrays_arrAt (launch₀0 (F := Ideal)).sharedIn (V0 m c) (A_eq m hO c) 12).trans (final_12 m hO c))).trans ?_
  funext j
  refine (first_12 _ j).trans ((if_pos (Nat.zero_div 1)).trans (congrArg (Cert.ReferenceRsMixIdeal.Read.val_main_v4 (F := Ideal) _ _) (funext fun a => ?_)))
  match a with
  | ⟨0, _⟩ => rfl
  | ⟨1, _⟩ => rfl

/-- The host's last operations take the first block of the result. -/
theorem tail_13 (W : Valuation τ sig (Elt Ideal)) :
    StableHlo.after ([hostOps1 (F := Ideal)] : List (List (HloOp τ sig (Elt Ideal)))).flatten W (Proc.devRef .tc main_v7)
      = shapeCast S192x192 (extractStridedSlice S1x192x192 ![0, 0, 0] (W (Proc.devRef .tc main_v3_1)) slices_S2x192x192_S1x192x192_0_0_0) shapeCasts_S1x192x192_S192x192 := by
  rfl

/-- The first block of the result, as an array of its own, at an element. -/
theorem first_13 (A : S2x192x192.Idx → EReal) (j : S192x192.Idx) :
    (shapeCast S192x192 (extractStridedSlice S1x192x192 ![0, 0, 0] A slices_S2x192x192_S1x192x192_0_0_0) shapeCasts_S1x192x192_S192x192 : S192x192.Idx → EReal) j = A (ix3 (0 : Fin 2) (j 0) (j 1)) := by
  refine (shapeCast_apply _ shapeCasts_S1x192x192_S192x192 j (ix3 (0 : Fin 1) (j 0) (j 1) : S1x192x192.Idx) ?_).trans (congrArg A (funext fun a => ?_))
  · rw [Shape.rowMajor_val_three, Shape.rowMajor_val_two]
    show (0 * 192 + (j 0).val) * 192 + (j 1).val = (j 0).val * 192 + (j 1).val
    omega
  match a with
  | ⟨0, _⟩ => rfl
  | ⟨1, _⟩ => exact Fin.ext (Nat.zero_add _)
  | ⟨2, _⟩ => exact Fin.ext (Nat.zero_add _)

/-- What the program returns for `w_uq`: the sum. -/
theorem result_13 (c : Dev nD) : Pipeline.afterTail pcfgs (fun _ => adm m hO) (dats m hO) 0 (V0 m) [hostOps1] c main_v7
    = Cert.ReferenceRsMixIdeal.Read.val_main_v9 (F := Ideal) (m ((c : Thread nD τ).loc main_arg2)) (m ((c : Thread nD τ).loc main_arg3)) := by
  refine (tail_13 _).trans ?_
  refine (congrArg (fun A : S2x192x192.Idx → EReal => (shapeCast S192x192 (extractStridedSlice S1x192x192 ![0, 0, 0] A slices_S2x192x192_S1x192x192_0_0_0) shapeCasts_S1x192x192_S192x192 : S192x192.Idx → EReal))
    (((dats m hO 0 c).withArrays_arrAt (launch₀0 (F := Ideal)).sharedIn (V0 m c) (A_eq m hO c) 13).trans (final_13 m hO c))).trans ?_
  funext j
  refine (first_13 _ j).trans ((if_pos (Nat.zero_div 1)).trans (congrArg (Cert.ReferenceRsMixIdeal.Read.val_main_v9 (F := Ideal) _ _) (funext fun a => ?_)))
  match a with
  | ⟨0, _⟩ => rfl
  | ⟨1, _⟩ => rfl

/-- The host's last operations take the first block of the result. -/
theorem tail_14 (W : Valuation τ sig (Elt Ideal)) :
    StableHlo.after ([hostOps1 (F := Ideal)] : List (List (HloOp τ sig (Elt Ideal)))).flatten W (Proc.devRef .tc main_v9)
      = shapeCast S128x256 (extractStridedSlice S1x128x256 ![0, 0, 0] (W (Proc.devRef .tc main_v3_2)) slices_S2x128x256_S1x128x256_0_0_0) shapeCasts_S1x128x256_S128x256 := by
  rfl

/-- The first block of the result, as an array of its own, at an element. -/
theorem first_14 (A : S2x128x256.Idx → EReal) (j : S128x256.Idx) :
    (shapeCast S128x256 (extractStridedSlice S1x128x256 ![0, 0, 0] A slices_S2x128x256_S1x128x256_0_0_0) shapeCasts_S1x128x256_S128x256 : S128x256.Idx → EReal) j = A (ix3 (0 : Fin 2) (j 0) (j 1)) := by
  refine (shapeCast_apply _ shapeCasts_S1x128x256_S128x256 j (ix3 (0 : Fin 1) (j 0) (j 1) : S1x128x256.Idx) ?_).trans (congrArg A (funext fun a => ?_))
  · rw [Shape.rowMajor_val_three, Shape.rowMajor_val_two]
    show (0 * 128 + (j 0).val) * 256 + (j 1).val = (j 0).val * 256 + (j 1).val
    omega
  match a with
  | ⟨0, _⟩ => rfl
  | ⟨1, _⟩ => exact Fin.ext (Nat.zero_add _)
  | ⟨2, _⟩ => exact Fin.ext (Nat.zero_add _)

/-- What the program returns for `w_ukv`: the sum. -/
theorem result_14 (c : Dev nD) : Pipeline.afterTail pcfgs (fun _ => adm m hO) (dats m hO) 0 (V0 m) [hostOps1] c main_v9
    = Cert.ReferenceRsMixIdeal.Read.val_main_v14 (F := Ideal) (m ((c : Thread nD τ).loc main_arg4)) (m ((c : Thread nD τ).loc main_arg5)) := by
  refine (tail_14 _).trans ?_
  refine (congrArg (fun A : S2x128x256.Idx → EReal => (shapeCast S128x256 (extractStridedSlice S1x128x256 ![0, 0, 0] A slices_S2x128x256_S1x128x256_0_0_0) shapeCasts_S1x128x256_S128x256 : S128x256.Idx → EReal))
    (((dats m hO 0 c).withArrays_arrAt (launch₀0 (F := Ideal)).sharedIn (V0 m c) (A_eq m hO c) 14).trans (final_14 m hO c))).trans ?_
  funext j
  refine (first_14 _ j).trans ((if_pos (Nat.zero_div 1)).trans (congrArg (Cert.ReferenceRsMixIdeal.Read.val_main_v14 (F := Ideal) _ _) (funext fun a => ?_)))
  match a with
  | ⟨0, _⟩ => rfl
  | ⟨1, _⟩ => rfl

end Reals

/-- The kernel leaves its arguments and its counters as they were. -/
theorem frame_Kernel : Cert.quiescent_KernelRsMix := fun m ρ _ => Cert.KernelRsMix.Gen.frame m ρ (ok m)

theorem frame_KernelIdeal : Cert.quiescent_KernelRsMixIdeal := fun m ρ _ => Cert.KernelRsMixIdeal.Gen.frame m ρ (okI m)

theorem frame_Reference : Cert.quiescent_ReferenceRsMixIdeal := fun m g _ =>
  (θ_run Cert.ReferenceRsMixIdeal.defs _ _).mono (fun r h => ⟨fun c => (h c).2.2.2, sem_eq_zero_of_no_sems (by decide) r.2⟩)
    (Cert.ReferenceRsMixIdeal.Value.run (F := Ideal) m g)

/-- Each of the results is the reference's sum. -/
theorem value : Cert.algebraic_KernelRsMixIdeal_ReferenceRsMixIdeal := by
  intro m g m' g' _ hagree
  refine ⟨fun c => Cert.ReferenceRsMixIdeal.Read.val_main_v4 (F := Ideal) (m ((c.tc : Thread Cert.KernelRsMixIdeal.nD Cert.KernelRsMixIdeal.τ).loc Cert.KernelRsMixIdeal.main_arg0)) (m ((c.tc : Thread Cert.KernelRsMixIdeal.nD Cert.KernelRsMixIdeal.τ).loc Cert.KernelRsMixIdeal.main_arg1)),
    fun c => Cert.ReferenceRsMixIdeal.Read.val_main_v9 (F := Ideal) (m ((c.tc : Thread Cert.KernelRsMixIdeal.nD Cert.KernelRsMixIdeal.τ).loc Cert.KernelRsMixIdeal.main_arg2)) (m ((c.tc : Thread Cert.KernelRsMixIdeal.nD Cert.KernelRsMixIdeal.τ).loc Cert.KernelRsMixIdeal.main_arg3)),
    fun c => Cert.ReferenceRsMixIdeal.Read.val_main_v14 (F := Ideal) (m ((c.tc : Thread Cert.KernelRsMixIdeal.nD Cert.KernelRsMixIdeal.τ).loc Cert.KernelRsMixIdeal.main_arg4)) (m ((c.tc : Thread Cert.KernelRsMixIdeal.nD Cert.KernelRsMixIdeal.τ).loc Cert.KernelRsMixIdeal.main_arg5)), ?_, ?_⟩
  · exact (θ_run Cert.KernelRsMixIdeal.defs _ _).mono (fun r h c => ⟨((h.2 c).2 Cert.KernelRsMixIdeal.main_v5 (Pipeline.mem_restRefs_of Cert.KernelRsMixIdeal.main_v5 rfl fun w => (by decide : ∀ w : Fin 15, Pipeline.arrRef Cert.KernelRsMixIdeal.spec0 w ≠ Cert.KernelRsMixIdeal.main_v5) w)).trans (result_12 m (okI m) c),
        ((h.2 c).2 Cert.KernelRsMixIdeal.main_v7 (Pipeline.mem_restRefs_of Cert.KernelRsMixIdeal.main_v7 rfl fun w => (by decide : ∀ w : Fin 15, Pipeline.arrRef Cert.KernelRsMixIdeal.spec0 w ≠ Cert.KernelRsMixIdeal.main_v7) w)).trans (result_13 m (okI m) c),
        ((h.2 c).2 Cert.KernelRsMixIdeal.main_v9 (Pipeline.mem_restRefs_of Cert.KernelRsMixIdeal.main_v9 rfl fun w => (by decide : ∀ w : Fin 15, Pipeline.arrRef Cert.KernelRsMixIdeal.spec0 w ≠ Cert.KernelRsMixIdeal.main_v9) w)).trans (result_14 m (okI m) c), h.1 c⟩)
      (θ_run_and (Cert.KernelRsMixIdeal.Gen.unchanged m g (okI m)) (Cert.KernelRsMixIdeal.Gen.run_main m g (okI m)))
  · refine (θ_run Cert.ReferenceRsMixIdeal.defs _ _).mono (fun r h c => ?_) (Cert.ReferenceRsMixIdeal.Value.run (F := Ideal) m' g')
    obtain ⟨a0, a1, a2, a3, a4, a5⟩ := hagree c
    exact ⟨(h c).1.trans ((Cert.ReferenceRsMixIdeal.Read.val_main_v4_eq _ _).trans (by rw [a0, a1])),
      (h c).2.1.trans ((Cert.ReferenceRsMixIdeal.Read.val_main_v9_eq _ _).trans (by rw [a2, a3])),
      (h c).2.2.1.trans ((Cert.ReferenceRsMixIdeal.Read.val_main_v14_eq _ _).trans (by rw [a4, a5])), (h c).2.2.2⟩

end Cert.RsMix

end
-- ==== Proof.RsFfn.lean ====
module

public import proofs.«01_k».proof.Defs
public import proofs.«01_k».proof.Proof.Gen.KernelRsFfn.Frame
public import proofs.«01_k».proof.Proof.Gen.KernelRsFfnIdeal.Frame
public import proofs.«01_k».proof.Proof.Gen.ReferenceRsFfnIdeal.Read
public import proofs.«01_k».proof.Proof.Gen.ReferenceRsFfnIdeal.Run
public import Idealize.ShloMosaic.Lib.Pipeline.ValueKit
public import Idealize.ShloMosaic.Lib.Pointwise
public import Idealize.ShloMosaic.Lib.Claim

/-! The gradients of `w_out`, `w_ffn_in` and `w_ffn_out`: a half of the device's shard of each, its own part added to the parts from the three other chips. -/

@[expose] public section

set_option maxRecDepth 16384

noncomputable section

open Idealize.ShloMosaic Idealize.ShloMosaic.TcCoe Idealize.SL.Sem
open scoped BigOperators

namespace Cert.RsFfn

section Words
open Cert.KernelRsFfn Cert.KernelRsFfn.Gen

/-- The block numbers that device 0 hands the call: its first block, and the first of the result's. -/
def zeros : pre0.Contents (Elt Bits) := fun | ⟨0, _⟩ => fun _ => 0#32 | ⟨_ + 1, h⟩ => absurd h (by simp)

/-- The table that the host's operations fill holds them. -/
theorem table (m : (ℓ : Loc nD τ sig) → Buf (Elt Bits) ℓ) : tbl m = zeros := by
  funext j x
  match j with
  | ⟨0, _⟩ =>
    have h : V m 0 main_v2 = (fun a b => concatenate S2 0 [⟨S1, a⟩, ⟨S1, b⟩] concatenates_S1_S1_S2_d0 : IVec S1 32 → IVec S1 32 → IVec S2 32) (broadcastInDim S1 ![] bcast_S_S1 (constantI S_ 32 0#32)) (broadcastInDim S1 ![] bcast_S_S1 (constantI S_ 32 0#32)) := by
      rfl
    show V m 0 main_v2 x = 0#32
    rw [h]
    change concatenate S2 0 [⟨S1, fun _ => 0#32⟩, ⟨S1, fun _ => 0#32⟩] concatenates_S1_S1_S2_d0 x = 0#32
    exact (by decide : ∀ x : S2.Idx, concatenate S2 0 [⟨S1, fun _ => 0#32⟩, ⟨S1, fun _ => 0#32⟩] concatenates_S1_S1_S2_d0 x = 0#32) x

/-- At these numbers every block lies in its array. -/
theorem okz : ok0 zeros := by decide

/-- Every block of the launch lies in its array. -/
theorem ok (m : (ℓ : Loc nD τ sig) → Buf (Elt Bits) ℓ) : Ok m := by
  unfold Ok; rw [table m]; exact okz

end Words

section Reals
open Cert.KernelRsFfnIdeal Cert.KernelRsFfnIdeal.Gen

/-- The block numbers that device 0 hands the call: its first block, and the first of the result's. -/
def zerosI : pre0.Contents (Elt Ideal) := fun | ⟨0, _⟩ => fun _ => 0#32 | ⟨_ + 1, h⟩ => absurd h (by simp)

/-- The table that the host's operations fill holds them. -/
theorem tableI (m : (ℓ : Loc nD τ sig) → Buf (Elt Ideal) ℓ) : tbl m = zerosI := by
  funext j x
  match j with
  | ⟨0, _⟩ =>
    have h : V m 0 main_v2 = (fun a b => concatenate S2 0 [⟨S1, a⟩, ⟨S1, b⟩] concatenates_S1_S1_S2_d0 : IVec S1 32 → IVec S1 32 → IVec S2 32) (broadcastInDim S1 ![] bcast_S_S1 (constantI S_ 32 0#32)) (broadcastInDim S1 ![] bcast_S_S1 (constantI S_ 32 0#32)) := by
      rfl
    show V m 0 main_v2 x = 0#32
    rw [h]
    change concatenate S2 0 [⟨S1, fun _ => 0#32⟩, ⟨S1, fun _ => 0#32⟩] concatenates_S1_S1_S2_d0 x = 0#32
    exact (by decide : ∀ x : S2.Idx, concatenate S2 0 [⟨S1, fun _ => 0#32⟩, ⟨S1, fun _ => 0#32⟩] concatenates_S1_S1_S2_d0 x = 0#32) x

/-- At these numbers every block lies in its array. -/
theorem okzI : ok0 zerosI := by decide

/-- Every block of the launch lies in its array. -/
theorem okI (m : (ℓ : Loc nD τ sig) → Buf (Elt Ideal) ℓ) : Ok m := by
  unfold Ok; rw [tableI m]; exact okzI

variable (m : (ℓ : Loc nD τ sig) → Buf (Elt Ideal) ℓ) (hO : Ok m)

/-- The launch is the one at those numbers. -/
theorem adm_eq : adm m hO = ⟨zerosI, okzI⟩ := Subtype.ext (tableI m)

/-- There are two steps. -/
theorem at_lt (t : Fin (cfgM m hO).N) : t.val < 2 := t.isLt

/-- The row of the whole half that row `k` of the block at step `t` is. -/
def row_0 (t : Fin (cfgM m hO).N) (k : Fin 64) : Fin 128 := ⟨t.val * 64 + k.val, by have := at_lt m hO t; have := k.isLt; omega⟩

/-- The result's first block is written, and nothing else of it. -/
theorem covers_12 : ((cfgM m hO).win 12).CoversWhere fun β : Fin 3 → ℕ => β 0 = 0 := by
  unfold cfgM; rw [adm_eq]; decide +kernel

theorem index_12 (t : Fin (cfgM m hO).N) : ((cfgM m hO).win 12).index t = ![0, t.val, 0] := by
  revert t
  unfold cfgM; rw [adm_eq]
  exact (by decide +kernel : ∀ t : Fin grid0.N, ((cfg0 (F := Ideal) ⟨zerosI, okzI⟩).win 12).index t = ![0, t.val, 0])

theorem index_0 (t : Fin (cfgM m hO).N) : ((cfgM m hO).win 0).index t = ![0, t.val, 0] := by
  revert t
  unfold cfgM; rw [adm_eq]
  exact (by decide +kernel : ∀ t : Fin grid0.N, ((cfg0 (F := Ideal) ⟨zerosI, okzI⟩).win 0).index t = ![0, t.val, 0])

/-- The own part of `w_out` at step `t`: the half's rows of that step. -/
theorem read_0 (c : Dev nD) (t : Fin (cfgM m hO).N) (y : S1x64x1024.Idx) :
    (ms0_0 m hO t).view.read (Elt Ideal) ((hs0_0 m hO t).unread (iblk m hO c 0 t)) y
      = m ((c : Thread nD τ).loc main_arg0) (ix3 (0 : Fin 4) (row_0 m hO t (y 1)) (y 2) : S4x128x1024.Idx) := by
  refine (congrFun ((hs0_0 m hO t).read_unread (iblk m hO c 0 t)) y).trans ?_
  show V m c main_arg0 ((((cfgM m hO).win 0).blk t).view.emb y) = _
  rw [V_main_arg0]
  refine congrArg (m ((c : Thread nD τ).loc main_arg0)) (funext fun a => Fin.ext ?_)
  refine (Pipeline.Window.rect_emb_val ((cfgM m hO).win 0) t y a rfl).trans ?_
  rw [index_0 m hO t]
  match a with
  | ⟨0, _⟩ => have h : (y 0).val < 1 := (y 0).isLt
              show 0 * 1 + (y 0).val = 0
              omega
  | ⟨1, _⟩ => rfl
  | ⟨2, _⟩ => show 0 * 1024 + (y 2).val = (y 2).val
              omega

theorem index_1 (t : Fin (cfgM m hO).N) : ((cfgM m hO).win 1).index t = ![0, t.val, 0] := by
  revert t
  unfold cfgM; rw [adm_eq]
  exact (by decide +kernel : ∀ t : Fin grid0.N, ((cfg0 (F := Ideal) ⟨zerosI, okzI⟩).win 1).index t = ![0, t.val, 0])

/-- The first other chip's part of `w_out` at step `t`: the half's rows of that step. -/
theorem read_1 (c : Dev nD) (t : Fin (cfgM m hO).N) (y : S1x64x1024.Idx) :
    (ms0_1 m hO t).view.read (Elt Ideal) ((hs0_1 m hO t).unread (iblk m hO c 1 t)) y
      = m ((c : Thread nD τ).loc main_arg1) (ix3 (0 : Fin 3) (row_0 m hO t (y 1)) (y 2) : S3x128x1024.Idx) := by
  refine (congrFun ((hs0_1 m hO t).read_unread (iblk m hO c 1 t)) y).trans ?_
  show V m c main_arg1 ((((cfgM m hO).win 1).blk t).view.emb y) = _
  rw [V_main_arg1]
  refine congrArg (m ((c : Thread nD τ).loc main_arg1)) (funext fun a => Fin.ext ?_)
  refine (Pipeline.Window.rect_emb_val ((cfgM m hO).win 1) t y a rfl).trans ?_
  rw [index_1 m hO t]
  match a with
  | ⟨0, _⟩ => have h : (y 0).val < 1 := (y 0).isLt
              show 0 * 1 + (y 0).val = 0
              omega
  | ⟨1, _⟩ => rfl
  | ⟨2, _⟩ => show 0 * 1024 + (y 2).val = (y 2).val
              omega

theorem index_2 (t : Fin (cfgM m hO).N) : ((cfgM m hO).win 2).index t = ![1, t.val, 0] := by
  revert t
  unfold cfgM; rw [adm_eq]
  exact (by decide +kernel : ∀ t : Fin grid0.N, ((cfg0 (F := Ideal) ⟨zerosI, okzI⟩).win 2).index t = ![1, t.val, 0])

/-- The second other chip's part of `w_out` at step `t`: the half's rows of that step. -/
theorem read_2 (c : Dev nD) (t : Fin (cfgM m hO).N) (y : S1x64x1024.Idx) :
    (ms0_2 m hO t).view.read (Elt Ideal) ((hs0_2 m hO t).unread (iblk m hO c 2 t)) y
      = m ((c : Thread nD τ).loc main_arg1) (ix3 (1 : Fin 3) (row_0 m hO t (y 1)) (y 2) : S3x128x1024.Idx) := by
  refine (congrFun ((hs0_2 m hO t).read_unread (iblk m hO c 2 t)) y).trans ?_
  show V m c main_arg1 ((((cfgM m hO).win 2).blk t).view.emb y) = _
  rw [V_main_arg1]
  refine congrArg (m ((c : Thread nD τ).loc main_arg1)) (funext fun a => Fin.ext ?_)
  refine (Pipeline.Window.rect_emb_val ((cfgM m hO).win 2) t y a rfl).trans ?_
  rw [index_2 m hO t]
  match a with
  | ⟨0, _⟩ => have h : (y 0).val < 1 := (y 0).isLt
              show 1 * 1 + (y 0).val = 1
              omega
  | ⟨1, _⟩ => rfl
  | ⟨2, _⟩ => show 0 * 1024 + (y 2).val = (y 2).val
              omega

theorem index_3 (t : Fin (cfgM m hO).N) : ((cfgM m hO).win 3).index t = ![2, t.val, 0] := by
  revert t
  unfold cfgM; rw [adm_eq]
  exact (by decide +kernel : ∀ t : Fin grid0.N, ((cfg0 (F := Ideal) ⟨zerosI, okzI⟩).win 3).index t = ![2, t.val, 0])

/-- The third other chip's part of `w_out` at step `t`: the half's rows of that step. -/
theorem read_3 (c : Dev nD) (t : Fin (cfgM m hO).N) (y : S1x64x1024.Idx) :
    (ms0_3 m hO t).view.read (Elt Ideal) ((hs0_3 m hO t).unread (iblk m hO c 3 t)) y
      = m ((c : Thread nD τ).loc main_arg1) (ix3 (2 : Fin 3) (row_0 m hO t (y 1)) (y 2) : S3x128x1024.Idx) := by
  refine (congrFun ((hs0_3 m hO t).read_unread (iblk m hO c 3 t)) y).trans ?_
  show V m c main_arg1 ((((cfgM m hO).win 3).blk t).view.emb y) = _
  rw [V_main_arg1]
  refine congrArg (m ((c : Thread nD τ).loc main_arg1)) (funext fun a => Fin.ext ?_)
  refine (Pipeline.Window.rect_emb_val ((cfgM m hO).win 3) t y a rfl).trans ?_
  rw [index_3 m hO t]
  match a with
  | ⟨0, _⟩ => have h : (y 0).val < 1 := (y 0).isLt
              show 2 * 1 + (y 0).val = 2
              omega
  | ⟨1, _⟩ => rfl
  | ⟨2, _⟩ => show 0 * 1024 + (y 2).val = (y 2).val
              omega

/-- The reference's sum at an element of `w_out`. -/
theorem ref_12 (x0 : (⟨S4x128x1024, .f32⟩ : BufTy).Contents (Elt Ideal)) (x1 : (⟨S3x128x1024, .bf16⟩ : BufTy).Contents (Elt Ideal)) (j : S128x1024.Idx) :
    Cert.ReferenceRsFfnIdeal.Read.val_main_v4 (F := Ideal) x0 x1 j = (x0 (ix3 0 (j 0) (j 1)) + x1 (ix3 0 (j 0) (j 1)) + x1 (ix3 1 (j 0) (j 1)) + x1 (ix3 2 (j 0) (j 1)) : EReal) := by
  pointwise [Cert.ReferenceRsFfnIdeal.Read.val_main_v4, Cert.ReferenceRsFfnIdeal.Read.val_main_v0, Cert.ReferenceRsFfnIdeal.Read.val_main_v1, Cert.ReferenceRsFfnIdeal.Read.val_main_v2, Cert.ReferenceRsFfnIdeal.Read.val_main_v3, Cert.ReferenceRsFfnIdeal.Read.val_main_cst]
  rw [Fin.sum_univ_three, ← add_assoc, ← add_assoc]

/-- The place of an element of the result within its block. -/
def at_12 (i : S2x128x1024.Idx) : S128x1024.Idx := fun | ⟨0, _⟩ => i 1 | ⟨1, _⟩ => i 2

theorem place_12 (t : Fin (cfgM m hO).N) (y : S1x64x1024.Idx) :
    at_12 ((((cfgM m hO).win 12).blk t).view.emb y) = ix2 (row_0 m hO t (y 1)) (y 2) := by
  have h (a : Fin 3) := Pipeline.Window.rect_emb_val ((cfgM m hO).win 12) t y a rfl
  rw [index_12 m hO t] at h
  funext a
  match a with
  | ⟨0, _⟩ => exact Fin.ext (h 1)
  | ⟨1, _⟩ => refine Fin.ext ((h 2).trans ?_)
              show 0 * 1024 + (y 2).val = (y 2).val
              omega

/-- The result's first block is the reference's sum. -/
theorem final_12 (c : Dev nD) : (dats m hO 0 c).arrAt 12 (cfgM m hO).N = fun i : S2x128x1024.Idx => if (i 0).val / 1 = 0 then
    Cert.ReferenceRsFfnIdeal.Read.val_main_v4 (F := Ideal) (m ((c : Thread nD τ).loc main_arg0)) (m ((c : Thread nD τ).loc main_arg1)) (at_12 i) else V m c main_v3_0 i := by
  refine (dats m hO 0 c).arrAt_eq_of_coversWhere 12 _ (fun β : Fin 3 → ℕ => β 0 = 0) (covers_12 m hO) (fun t hf y => ?_) (fun j => Iff.rfl)
  blk_simp
  rw [after0_12]
  unfold outsAt0
  frame_out
  pointwise [k0_pay3]
  refine (congrArg₂ (· + ·) (congrArg₂ (· + ·) (congrArg₂ (· + ·) (read_0 m hO c t y) (read_1 m hO c t y)) (read_2 m hO c t y)) (read_3 m hO c t y)).trans ?_
  rw [ref_12]
  erw [place_12 m hO t y]
  rfl

/-- The row of the whole half that row `k` of the block at step `t` is. -/
def row_1 (t : Fin (cfgM m hO).N) (k : Fin 256) : Fin 512 := ⟨t.val * 256 + k.val, by have := at_lt m hO t; have := k.isLt; omega⟩

/-- The result's first block is written, and nothing else of it. -/
theorem covers_13 : ((cfgM m hO).win 13).CoversWhere fun β : Fin 3 → ℕ => β 0 = 0 := by
  unfold cfgM; rw [adm_eq]; decide +kernel

theorem index_13 (t : Fin (cfgM m hO).N) : ((cfgM m hO).win 13).index t = ![0, t.val, 0] := by
  revert t
  unfold cfgM; rw [adm_eq]
  exact (by decide +kernel : ∀ t : Fin grid0.N, ((cfg0 (F := Ideal) ⟨zerosI, okzI⟩).win 13).index t = ![0, t.val, 0])

theorem index_4 (t : Fin (cfgM m hO).N) : ((cfgM m hO).win 4).index t = ![0, t.val, 0] := by
  revert t
  unfold cfgM; rw [adm_eq]
  exact (by decide +kernel : ∀ t : Fin grid0.N, ((cfg0 (F := Ideal) ⟨zerosI, okzI⟩).win 4).index t = ![0, t.val, 0])

/-- The own part of `w_ffn_in` at step `t`: the half's rows of that step. -/
theorem read_4 (c : Dev nD) (t : Fin (cfgM m hO).N) (y : S1x256x1408.Idx) :
    (ms0_4 m hO t).view.read (Elt Ideal) ((hs0_4 m hO t).unread (iblk m hO c 4 t)) y
      = m ((c : Thread nD τ).loc main_arg2) (ix3 (0 : Fin 4) (row_1 m hO t (y 1)) (y 2) : S4x512x1408.Idx) := by
  refine (congrFun ((hs0_4 m hO t).read_unread (iblk m hO c 4 t)) y).trans ?_
  show V m c main_arg2 ((((cfgM m hO).win 4).blk t).view.emb y) = _
  rw [V_main_arg2]
  refine congrArg (m ((c : Thread nD τ).loc main_arg2)) (funext fun a => Fin.ext ?_)
  refine (Pipeline.Window.rect_emb_val ((cfgM m hO).win 4) t y a rfl).trans ?_
  rw [index_4 m hO t]
  match a with
  | ⟨0, _⟩ => have h : (y 0).val < 1 := (y 0).isLt
              show 0 * 1 + (y 0).val = 0
              omega
  | ⟨1, _⟩ => rfl
  | ⟨2, _⟩ => show 0 * 1408 + (y 2).val = (y 2).val
              omega

theorem index_5 (t : Fin (cfgM m hO).N) : ((cfgM m hO).win 5).index t = ![0, t.val, 0] := by
  revert t
  unfold cfgM; rw [adm_eq]
  exact (by decide +kernel : ∀ t : Fin grid0.N, ((cfg0 (F := Ideal) ⟨zerosI, okzI⟩).win 5).index t = ![0, t.val, 0])

/-- The first other chip's part of `w_ffn_in` at step `t`: the half's rows of that step. -/
theorem read_5 (c : Dev nD) (t : Fin (cfgM m hO).N) (y : S1x256x1408.Idx) :
    (ms0_5 m hO t).view.read (Elt Ideal) ((hs0_5 m hO t).unread (iblk m hO c 5 t)) y
      = m ((c : Thread nD τ).loc main_arg3) (ix3 (0 : Fin 3) (row_1 m hO t (y 1)) (y 2) : S3x512x1408.Idx) := by
  refine (congrFun ((hs0_5 m hO t).read_unread (iblk m hO c 5 t)) y).trans ?_
  show V m c main_arg3 ((((cfgM m hO).win 5).blk t).view.emb y) = _
  rw [V_main_arg3]
  refine congrArg (m ((c : Thread nD τ).loc main_arg3)) (funext fun a => Fin.ext ?_)
  refine (Pipeline.Window.rect_emb_val ((cfgM m hO).win 5) t y a rfl).trans ?_
  rw [index_5 m hO t]
  match a with
  | ⟨0, _⟩ => have h : (y 0).val < 1 := (y 0).isLt
              show 0 * 1 + (y 0).val = 0
              omega
  | ⟨1, _⟩ => rfl
  | ⟨2, _⟩ => show 0 * 1408 + (y 2).val = (y 2).val
              omega

theorem index_6 (t : Fin (cfgM m hO).N) : ((cfgM m hO).win 6).index t = ![1, t.val, 0] := by
  revert t
  unfold cfgM; rw [adm_eq]
  exact (by decide +kernel : ∀ t : Fin grid0.N, ((cfg0 (F := Ideal) ⟨zerosI, okzI⟩).win 6).index t = ![1, t.val, 0])

/-- The second other chip's part of `w_ffn_in` at step `t`: the half's rows of that step. -/
theorem read_6 (c : Dev nD) (t : Fin (cfgM m hO).N) (y : S1x256x1408.Idx) :
    (ms0_6 m hO t).view.read (Elt Ideal) ((hs0_6 m hO t).unread (iblk m hO c 6 t)) y
      = m ((c : Thread nD τ).loc main_arg3) (ix3 (1 : Fin 3) (row_1 m hO t (y 1)) (y 2) : S3x512x1408.Idx) := by
  refine (congrFun ((hs0_6 m hO t).read_unread (iblk m hO c 6 t)) y).trans ?_
  show V m c main_arg3 ((((cfgM m hO).win 6).blk t).view.emb y) = _
  rw [V_main_arg3]
  refine congrArg (m ((c : Thread nD τ).loc main_arg3)) (funext fun a => Fin.ext ?_)
  refine (Pipeline.Window.rect_emb_val ((cfgM m hO).win 6) t y a rfl).trans ?_
  rw [index_6 m hO t]
  match a with
  | ⟨0, _⟩ => have h : (y 0).val < 1 := (y 0).isLt
              show 1 * 1 + (y 0).val = 1
              omega
  | ⟨1, _⟩ => rfl
  | ⟨2, _⟩ => show 0 * 1408 + (y 2).val = (y 2).val
              omega

theorem index_7 (t : Fin (cfgM m hO).N) : ((cfgM m hO).win 7).index t = ![2, t.val, 0] := by
  revert t
  unfold cfgM; rw [adm_eq]
  exact (by decide +kernel : ∀ t : Fin grid0.N, ((cfg0 (F := Ideal) ⟨zerosI, okzI⟩).win 7).index t = ![2, t.val, 0])

/-- The third other chip's part of `w_ffn_in` at step `t`: the half's rows of that step. -/
theorem read_7 (c : Dev nD) (t : Fin (cfgM m hO).N) (y : S1x256x1408.Idx) :
    (ms0_7 m hO t).view.read (Elt Ideal) ((hs0_7 m hO t).unread (iblk m hO c 7 t)) y
      = m ((c : Thread nD τ).loc main_arg3) (ix3 (2 : Fin 3) (row_1 m hO t (y 1)) (y 2) : S3x512x1408.Idx) := by
  refine (congrFun ((hs0_7 m hO t).read_unread (iblk m hO c 7 t)) y).trans ?_
  show V m c main_arg3 ((((cfgM m hO).win 7).blk t).view.emb y) = _
  rw [V_main_arg3]
  refine congrArg (m ((c : Thread nD τ).loc main_arg3)) (funext fun a => Fin.ext ?_)
  refine (Pipeline.Window.rect_emb_val ((cfgM m hO).win 7) t y a rfl).trans ?_
  rw [index_7 m hO t]
  match a with
  | ⟨0, _⟩ => have h : (y 0).val < 1 := (y 0).isLt
              show 2 * 1 + (y 0).val = 2
              omega
  | ⟨1, _⟩ => rfl
  | ⟨2, _⟩ => show 0 * 1408 + (y 2).val = (y 2).val
              omega

/-- The reference's sum at an element of `w_ffn_in`. -/
theorem ref_13 (x0 : (⟨S4x512x1408, .f32⟩ : BufTy).Contents (Elt Ideal)) (x1 : (⟨S3x512x1408, .bf16⟩ : BufTy).Contents (Elt Ideal)) (j : S512x1408.Idx) :
    Cert.ReferenceRsFfnIdeal.Read.val_main_v9 (F := Ideal) x0 x1 j = (x0 (ix3 0 (j 0) (j 1)) + x1 (ix3 0 (j 0) (j 1)) + x1 (ix3 1 (j 0) (j 1)) + x1 (ix3 2 (j 0) (j 1)) : EReal) := by
  pointwise [Cert.ReferenceRsFfnIdeal.Read.val_main_v9, Cert.ReferenceRsFfnIdeal.Read.val_main_v5, Cert.ReferenceRsFfnIdeal.Read.val_main_v6, Cert.ReferenceRsFfnIdeal.Read.val_main_v7, Cert.ReferenceRsFfnIdeal.Read.val_main_v8, Cert.ReferenceRsFfnIdeal.Read.val_main_cst_0]
  rw [Fin.sum_univ_three, ← add_assoc, ← add_assoc]

/-- The place of an element of the result within its block. -/
def at_13 (i : S2x512x1408.Idx) : S512x1408.Idx := fun | ⟨0, _⟩ => i 1 | ⟨1, _⟩ => i 2

theorem place_13 (t : Fin (cfgM m hO).N) (y : S1x256x1408.Idx) :
    at_13 ((((cfgM m hO).win 13).blk t).view.emb y) = ix2 (row_1 m hO t (y 1)) (y 2) := by
  have h (a : Fin 3) := Pipeline.Window.rect_emb_val ((cfgM m hO).win 13) t y a rfl
  rw [index_13 m hO t] at h
  funext a
  match a with
  | ⟨0, _⟩ => exact Fin.ext (h 1)
  | ⟨1, _⟩ => refine Fin.ext ((h 2).trans ?_)
              show 0 * 1408 + (y 2).val = (y 2).val
              omega

/-- The result's first block is the reference's sum. -/
theorem final_13 (c : Dev nD) : (dats m hO 0 c).arrAt 13 (cfgM m hO).N = fun i : S2x512x1408.Idx => if (i 0).val / 1 = 0 then
    Cert.ReferenceRsFfnIdeal.Read.val_main_v9 (F := Ideal) (m ((c : Thread nD τ).loc main_arg2)) (m ((c : Thread nD τ).loc main_arg3)) (at_13 i) else V m c main_v3_1 i := by
  refine (dats m hO 0 c).arrAt_eq_of_coversWhere 13 _ (fun β : Fin 3 → ℕ => β 0 = 0) (covers_13 m hO) (fun t hf y => ?_) (fun j => Iff.rfl)
  blk_simp
  rw [after0_13]
  unfold outsAt0
  frame_out
  pointwise [k0_pay1, k0_pay4, k0_pay5]
  refine (congrArg₂ (· + ·) (congrArg₂ (· + ·) (congrArg₂ (· + ·) (read_4 m hO c t y) (read_5 m hO c t y)) (read_6 m hO c t y)) (read_7 m hO c t y)).trans ?_
  rw [ref_13]
  erw [place_13 m hO t y]
  rfl

/-- The row of the whole half that row `k` of the block at step `t` is. -/
def row_2 (t : Fin (cfgM m hO).N) (k : Fin 176) : Fin 352 := ⟨t.val * 176 + k.val, by have := at_lt m hO t; have := k.isLt; omega⟩

/-- The result's first block is written, and nothing else of it. -/
theorem covers_14 : ((cfgM m hO).win 14).CoversWhere fun β : Fin 3 → ℕ => β 0 = 0 := by
  unfold cfgM; rw [adm_eq]; decide +kernel

theorem index_14 (t : Fin (cfgM m hO).N) : ((cfgM m hO).win 14).index t = ![0, t.val, 0] := by
  revert t
  unfold cfgM; rw [adm_eq]
  exact (by decide +kernel : ∀ t : Fin grid0.N, ((cfg0 (F := Ideal) ⟨zerosI, okzI⟩).win 14).index t = ![0, t.val, 0])

theorem index_8 (t : Fin (cfgM m hO).N) : ((cfgM m hO).win 8).index t = ![0, t.val, 0] := by
  revert t
  unfold cfgM; rw [adm_eq]
  exact (by decide +kernel : ∀ t : Fin grid0.N, ((cfg0 (F := Ideal) ⟨zerosI, okzI⟩).win 8).index t = ![0, t.val, 0])

/-- The own part of `w_ffn_out` at step `t`: the half's rows of that step. -/
theorem read_8 (c : Dev nD) (t : Fin (cfgM m hO).N) (y : S1x176x1024.Idx) :
    (ms0_8 m hO t).view.read (Elt Ideal) ((hs0_8 m hO t).unread (iblk m hO c 8 t)) y
      = m ((c : Thread nD τ).loc main_arg4) (ix3 (0 : Fin 4) (row_2 m hO t (y 1)) (y 2) : S4x352x1024.Idx) := by
  refine (congrFun ((hs0_8 m hO t).read_unread (iblk m hO c 8 t)) y).trans ?_
  show V m c main_arg4 ((((cfgM m hO).win 8).blk t).view.emb y) = _
  rw [V_main_arg4]
  refine congrArg (m ((c : Thread nD τ).loc main_arg4)) (funext fun a => Fin.ext ?_)
  refine (Pipeline.Window.rect_emb_val ((cfgM m hO).win 8) t y a rfl).trans ?_
  rw [index_8 m hO t]
  match a with
  | ⟨0, _⟩ => have h : (y 0).val < 1 := (y 0).isLt
              show 0 * 1 + (y 0).val = 0
              omega
  | ⟨1, _⟩ => rfl
  | ⟨2, _⟩ => show 0 * 1024 + (y 2).val = (y 2).val
              omega

theorem index_9 (t : Fin (cfgM m hO).N) : ((cfgM m hO).win 9).index t = ![0, t.val, 0] := by
  revert t
  unfold cfgM; rw [adm_eq]
  exact (by decide +kernel : ∀ t : Fin grid0.N, ((cfg0 (F := Ideal) ⟨zerosI, okzI⟩).win 9).index t = ![0, t.val, 0])

/-- The first other chip's part of `w_ffn_out` at step `t`: the half's rows of that step. -/
theorem read_9 (c : Dev nD) (t : Fin (cfgM m hO).N) (y : S1x176x1024.Idx) :
    (ms0_9 m hO t).view.read (Elt Ideal) ((hs0_9 m hO t).unread (iblk m hO c 9 t)) y
      = m ((c : Thread nD τ).loc main_arg5) (ix3 (0 : Fin 3) (row_2 m hO t (y 1)) (y 2) : S3x352x1024.Idx) := by
  refine (congrFun ((hs0_9 m hO t).read_unread (iblk m hO c 9 t)) y).trans ?_
  show V m c main_arg5 ((((cfgM m hO).win 9).blk t).view.emb y) = _
  rw [V_main_arg5]
  refine congrArg (m ((c : Thread nD τ).loc main_arg5)) (funext fun a => Fin.ext ?_)
  refine (Pipeline.Window.rect_emb_val ((cfgM m hO).win 9) t y a rfl).trans ?_
  rw [index_9 m hO t]
  match a with
  | ⟨0, _⟩ => have h : (y 0).val < 1 := (y 0).isLt
              show 0 * 1 + (y 0).val = 0
              omega
  | ⟨1, _⟩ => rfl
  | ⟨2, _⟩ => show 0 * 1024 + (y 2).val = (y 2).val
              omega

theorem index_10 (t : Fin (cfgM m hO).N) : ((cfgM m hO).win 10).index t = ![1, t.val, 0] := by
  revert t
  unfold cfgM; rw [adm_eq]
  exact (by decide +kernel : ∀ t : Fin grid0.N, ((cfg0 (F := Ideal) ⟨zerosI, okzI⟩).win 10).index t = ![1, t.val, 0])

/-- The second other chip's part of `w_ffn_out` at step `t`: the half's rows of that step. -/
theorem read_10 (c : Dev nD) (t : Fin (cfgM m hO).N) (y : S1x176x1024.Idx) :
    (ms0_10 m hO t).view.read (Elt Ideal) ((hs0_10 m hO t).unread (iblk m hO c 10 t)) y
      = m ((c : Thread nD τ).loc main_arg5) (ix3 (1 : Fin 3) (row_2 m hO t (y 1)) (y 2) : S3x352x1024.Idx) := by
  refine (congrFun ((hs0_10 m hO t).read_unread (iblk m hO c 10 t)) y).trans ?_
  show V m c main_arg5 ((((cfgM m hO).win 10).blk t).view.emb y) = _
  rw [V_main_arg5]
  refine congrArg (m ((c : Thread nD τ).loc main_arg5)) (funext fun a => Fin.ext ?_)
  refine (Pipeline.Window.rect_emb_val ((cfgM m hO).win 10) t y a rfl).trans ?_
  rw [index_10 m hO t]
  match a with
  | ⟨0, _⟩ => have h : (y 0).val < 1 := (y 0).isLt
              show 1 * 1 + (y 0).val = 1
              omega
  | ⟨1, _⟩ => rfl
  | ⟨2, _⟩ => show 0 * 1024 + (y 2).val = (y 2).val
              omega

theorem index_11 (t : Fin (cfgM m hO).N) : ((cfgM m hO).win 11).index t = ![2, t.val, 0] := by
  revert t
  unfold cfgM; rw [adm_eq]
  exact (by decide +kernel : ∀ t : Fin grid0.N, ((cfg0 (F := Ideal) ⟨zerosI, okzI⟩).win 11).index t = ![2, t.val, 0])

/-- The third other chip's part of `w_ffn_out` at step `t`: the half's rows of that step. -/
theorem read_11 (c : Dev nD) (t : Fin (cfgM m hO).N) (y : S1x176x1024.Idx) :
    (ms0_11 m hO t).view.read (Elt Ideal) ((hs0_11 m hO t).unread (iblk m hO c 11 t)) y
      = m ((c : Thread nD τ).loc main_arg5) (ix3 (2 : Fin 3) (row_2 m hO t (y 1)) (y 2) : S3x352x1024.Idx) := by
  refine (congrFun ((hs0_11 m hO t).read_unread (iblk m hO c 11 t)) y).trans ?_
  show V m c main_arg5 ((((cfgM m hO).win 11).blk t).view.emb y) = _
  rw [V_main_arg5]
  refine congrArg (m ((c : Thread nD τ).loc main_arg5)) (funext fun a => Fin.ext ?_)
  refine (Pipeline.Window.rect_emb_val ((cfgM m hO).win 11) t y a rfl).trans ?_
  rw [index_11 m hO t]
  match a with
  | ⟨0, _⟩ => have h : (y 0).val < 1 := (y 0).isLt
              show 2 * 1 + (y 0).val = 2
              omega
  | ⟨1, _⟩ => rfl
  | ⟨2, _⟩ => show 0 * 1024 + (y 2).val = (y 2).val
              omega

/-- The reference's sum at an element of `w_ffn_out`. -/
theorem ref_14 (x0 : (⟨S4x352x1024, .f32⟩ : BufTy).Contents (Elt Ideal)) (x1 : (⟨S3x352x1024, .bf16⟩ : BufTy).Contents (Elt Ideal)) (j : S352x1024.Idx) :
    Cert.ReferenceRsFfnIdeal.Read.val_main_v14 (F := Ideal) x0 x1 j = (x0 (ix3 0 (j 0) (j 1)) + x1 (ix3 0 (j 0) (j 1)) + x1 (ix3 1 (j 0) (j 1)) + x1 (ix3 2 (j 0) (j 1)) : EReal) := by
  pointwise [Cert.ReferenceRsFfnIdeal.Read.val_main_v14, Cert.ReferenceRsFfnIdeal.Read.val_main_v10, Cert.ReferenceRsFfnIdeal.Read.val_main_v11, Cert.ReferenceRsFfnIdeal.Read.val_main_v12, Cert.ReferenceRsFfnIdeal.Read.val_main_v13, Cert.ReferenceRsFfnIdeal.Read.val_main_cst_1]
  rw [Fin.sum_univ_three, ← add_assoc, ← add_assoc]

/-- The place of an element of the result within its block. -/
def at_14 (i : S2x352x1024.Idx) : S352x1024.Idx := fun | ⟨0, _⟩ => i 1 | ⟨1, _⟩ => i 2

theorem place_14 (t : Fin (cfgM m hO).N) (y : S1x176x1024.Idx) :
    at_14 ((((cfgM m hO).win 14).blk t).view.emb y) = ix2 (row_2 m hO t (y 1)) (y 2) := by
  have h (a : Fin 3) := Pipeline.Window.rect_emb_val ((cfgM m hO).win 14) t y a rfl
  rw [index_14 m hO t] at h
  funext a
  match a with
  | ⟨0, _⟩ => exact Fin.ext (h 1)
  | ⟨1, _⟩ => refine Fin.ext ((h 2).trans ?_)
              show 0 * 1024 + (y 2).val = (y 2).val
              omega

/-- The result's first block is the reference's sum. -/
theorem final_14 (c : Dev nD) : (dats m hO 0 c).arrAt 14 (cfgM m hO).N = fun i : S2x352x1024.Idx => if (i 0).val / 1 = 0 then
    Cert.ReferenceRsFfnIdeal.Read.val_main_v14 (F := Ideal) (m ((c : Thread nD τ).loc main_arg4)) (m ((c : Thread nD τ).loc main_arg5)) (at_14 i) else V m c main_v3_2 i := by
  refine (dats m hO 0 c).arrAt_eq_of_coversWhere 14 _ (fun β : Fin 3 → ℕ => β 0 = 0) (covers_14 m hO) (fun t hf y => ?_) (fun j => Iff.rfl)
  blk_simp
  rw [after0_14]
  unfold outsAt0
  frame_out
  pointwise [k0_pay2]
  refine (congrArg₂ (· + ·) (congrArg₂ (· + ·) (congrArg₂ (· + ·) (read_8 m hO c t y) (read_9 m hO c t y)) (read_10 m hO c t y)) (read_11 m hO c t y)).trans ?_
  rw [ref_14]
  erw [place_14 m hO t y]
  rfl

/-- The host's last operations take the first block of the result. -/
theorem tail_12 (W : Valuation τ sig (Elt Ideal)) :
    StableHlo.after ([hostOps1 (F := Ideal)] : List (List (HloOp τ sig (Elt Ideal)))).flatten W (Proc.devRef .tc main_v5)
      = shapeCast S128x1024 (extractStridedSlice S1x128x1024 ![0, 0, 0] (W (Proc.devRef .tc main_v3_0)) slices_S2x128x1024_S1x128x1024_0_0_0) shapeCasts_S1x128x1024_S128x1024 := by
  rfl

/-- The first block of the result, as an array of its own, at an element. -/
theorem first_12 (A : S2x128x1024.Idx → EReal) (j : S128x1024.Idx) :
    (shapeCast S128x1024 (extractStridedSlice S1x128x1024 ![0, 0, 0] A slices_S2x128x1024_S1x128x1024_0_0_0) shapeCasts_S1x128x1024_S128x1024 : S128x1024.Idx → EReal) j = A (ix3 (0 : Fin 2) (j 0) (j 1)) := by
  refine (shapeCast_apply _ shapeCasts_S1x128x1024_S128x1024 j (ix3 (0 : Fin 1) (j 0) (j 1) : S1x128x1024.Idx) ?_).trans (congrArg A (funext fun a => ?_))
  · rw [Shape.rowMajor_val_three, Shape.rowMajor_val_two]
    show (0 * 128 + (j 0).val) * 1024 + (j 1).val = (j 0).val * 1024 + (j 1).val
    omega
  match a with
  | ⟨0, _⟩ => rfl
  | ⟨1, _⟩ => exact Fin.ext (Nat.zero_add _)
  | ⟨2, _⟩ => exact Fin.ext (Nat.zero_add _)

/-- What the program returns for `w_out`: the sum. -/
theorem result_12 (c : Dev nD) : Pipeline.afterTail pcfgs (fun _ => adm m hO) (dats m hO) 0 (V0 m) [hostOps1] c main_v5
    = Cert.ReferenceRsFfnIdeal.Read.val_main_v4 (F := Ideal) (m ((c : Thread nD τ).loc main_arg0)) (m ((c : Thread nD τ).loc main_arg1)) := by
  refine (tail_12 _).trans ?_
  refine (congrArg (fun A : S2x128x1024.Idx → EReal => (shapeCast S128x1024 (extractStridedSlice S1x128x1024 ![0, 0, 0] A slices_S2x128x1024_S1x128x1024_0_0_0) shapeCasts_S1x128x1024_S128x1024 : S128x1024.Idx → EReal))
    (((dats m hO 0 c).withArrays_arrAt (launch₀0 (F := Ideal)).sharedIn (V0 m c) (A_eq m hO c) 12).trans (final_12 m hO c))).trans ?_
  funext j
  refine (first_12 _ j).trans ((if_pos (Nat.zero_div 1)).trans (congrArg (Cert.ReferenceRsFfnIdeal.Read.val_main_v4 (F := Ideal) _ _) (funext fun a => ?_)))
  match a with
  | ⟨0, _⟩ => rfl
  | ⟨1, _⟩ => rfl

/-- The host's last operations take the first block of the result. -/
theorem tail_13 (W : Valuation τ sig (Elt Ideal)) :
    StableHlo.after ([hostOps1 (F := Ideal)] : List (List (HloOp τ sig (Elt Ideal)))).flatten W (Proc.devRef .tc main_v7)
      = shapeCast S512x1408 (extractStridedSlice S1x512x1408 ![0, 0, 0] (W (Proc.devRef .tc main_v3_1)) slices_S2x512x1408_S1x512x1408_0_0_0) shapeCasts_S1x512x1408_S512x1408 := by
  rfl

/-- The first block of the result, as an array of its own, at an element. -/
theorem first_13 (A : S2x512x1408.Idx → EReal) (j : S512x1408.Idx) :
    (shapeCast S512x1408 (extractStridedSlice S1x512x1408 ![0, 0, 0] A slices_S2x512x1408_S1x512x1408_0_0_0) shapeCasts_S1x512x1408_S512x1408 : S512x1408.Idx → EReal) j = A (ix3 (0 : Fin 2) (j 0) (j 1)) := by
  refine (shapeCast_apply _ shapeCasts_S1x512x1408_S512x1408 j (ix3 (0 : Fin 1) (j 0) (j 1) : S1x512x1408.Idx) ?_).trans (congrArg A (funext fun a => ?_))
  · rw [Shape.rowMajor_val_three, Shape.rowMajor_val_two]
    show (0 * 512 + (j 0).val) * 1408 + (j 1).val = (j 0).val * 1408 + (j 1).val
    omega
  match a with
  | ⟨0, _⟩ => rfl
  | ⟨1, _⟩ => exact Fin.ext (Nat.zero_add _)
  | ⟨2, _⟩ => exact Fin.ext (Nat.zero_add _)

/-- What the program returns for `w_ffn_in`: the sum. -/
theorem result_13 (c : Dev nD) : Pipeline.afterTail pcfgs (fun _ => adm m hO) (dats m hO) 0 (V0 m) [hostOps1] c main_v7
    = Cert.ReferenceRsFfnIdeal.Read.val_main_v9 (F := Ideal) (m ((c : Thread nD τ).loc main_arg2)) (m ((c : Thread nD τ).loc main_arg3)) := by
  refine (tail_13 _).trans ?_
  refine (congrArg (fun A : S2x512x1408.Idx → EReal => (shapeCast S512x1408 (extractStridedSlice S1x512x1408 ![0, 0, 0] A slices_S2x512x1408_S1x512x1408_0_0_0) shapeCasts_S1x512x1408_S512x1408 : S512x1408.Idx → EReal))
    (((dats m hO 0 c).withArrays_arrAt (launch₀0 (F := Ideal)).sharedIn (V0 m c) (A_eq m hO c) 13).trans (final_13 m hO c))).trans ?_
  funext j
  refine (first_13 _ j).trans ((if_pos (Nat.zero_div 1)).trans (congrArg (Cert.ReferenceRsFfnIdeal.Read.val_main_v9 (F := Ideal) _ _) (funext fun a => ?_)))
  match a with
  | ⟨0, _⟩ => rfl
  | ⟨1, _⟩ => rfl

/-- The host's last operations take the first block of the result. -/
theorem tail_14 (W : Valuation τ sig (Elt Ideal)) :
    StableHlo.after ([hostOps1 (F := Ideal)] : List (List (HloOp τ sig (Elt Ideal)))).flatten W (Proc.devRef .tc main_v9)
      = shapeCast S352x1024 (extractStridedSlice S1x352x1024 ![0, 0, 0] (W (Proc.devRef .tc main_v3_2)) slices_S2x352x1024_S1x352x1024_0_0_0) shapeCasts_S1x352x1024_S352x1024 := by
  rfl

/-- The first block of the result, as an array of its own, at an element. -/
theorem first_14 (A : S2x352x1024.Idx → EReal) (j : S352x1024.Idx) :
    (shapeCast S352x1024 (extractStridedSlice S1x352x1024 ![0, 0, 0] A slices_S2x352x1024_S1x352x1024_0_0_0) shapeCasts_S1x352x1024_S352x1024 : S352x1024.Idx → EReal) j = A (ix3 (0 : Fin 2) (j 0) (j 1)) := by
  refine (shapeCast_apply _ shapeCasts_S1x352x1024_S352x1024 j (ix3 (0 : Fin 1) (j 0) (j 1) : S1x352x1024.Idx) ?_).trans (congrArg A (funext fun a => ?_))
  · rw [Shape.rowMajor_val_three, Shape.rowMajor_val_two]
    show (0 * 352 + (j 0).val) * 1024 + (j 1).val = (j 0).val * 1024 + (j 1).val
    omega
  match a with
  | ⟨0, _⟩ => rfl
  | ⟨1, _⟩ => exact Fin.ext (Nat.zero_add _)
  | ⟨2, _⟩ => exact Fin.ext (Nat.zero_add _)

/-- What the program returns for `w_ffn_out`: the sum. -/
theorem result_14 (c : Dev nD) : Pipeline.afterTail pcfgs (fun _ => adm m hO) (dats m hO) 0 (V0 m) [hostOps1] c main_v9
    = Cert.ReferenceRsFfnIdeal.Read.val_main_v14 (F := Ideal) (m ((c : Thread nD τ).loc main_arg4)) (m ((c : Thread nD τ).loc main_arg5)) := by
  refine (tail_14 _).trans ?_
  refine (congrArg (fun A : S2x352x1024.Idx → EReal => (shapeCast S352x1024 (extractStridedSlice S1x352x1024 ![0, 0, 0] A slices_S2x352x1024_S1x352x1024_0_0_0) shapeCasts_S1x352x1024_S352x1024 : S352x1024.Idx → EReal))
    (((dats m hO 0 c).withArrays_arrAt (launch₀0 (F := Ideal)).sharedIn (V0 m c) (A_eq m hO c) 14).trans (final_14 m hO c))).trans ?_
  funext j
  refine (first_14 _ j).trans ((if_pos (Nat.zero_div 1)).trans (congrArg (Cert.ReferenceRsFfnIdeal.Read.val_main_v14 (F := Ideal) _ _) (funext fun a => ?_)))
  match a with
  | ⟨0, _⟩ => rfl
  | ⟨1, _⟩ => rfl

end Reals

/-- The kernel leaves its arguments and its counters as they were. -/
theorem frame_Kernel : Cert.quiescent_KernelRsFfn := fun m ρ _ => Cert.KernelRsFfn.Gen.frame m ρ (ok m)

theorem frame_KernelIdeal : Cert.quiescent_KernelRsFfnIdeal := fun m ρ _ => Cert.KernelRsFfnIdeal.Gen.frame m ρ (okI m)

theorem frame_Reference : Cert.quiescent_ReferenceRsFfnIdeal := fun m g _ =>
  (θ_run Cert.ReferenceRsFfnIdeal.defs _ _).mono (fun r h => ⟨fun c => (h c).2.2.2, sem_eq_zero_of_no_sems (by decide) r.2⟩)
    (Cert.ReferenceRsFfnIdeal.Value.run (F := Ideal) m g)

/-- Each of the results is the reference's sum. -/
theorem value : Cert.algebraic_KernelRsFfnIdeal_ReferenceRsFfnIdeal := by
  intro m g m' g' _ hagree
  refine ⟨fun c => Cert.ReferenceRsFfnIdeal.Read.val_main_v4 (F := Ideal) (m ((c.tc : Thread Cert.KernelRsFfnIdeal.nD Cert.KernelRsFfnIdeal.τ).loc Cert.KernelRsFfnIdeal.main_arg0)) (m ((c.tc : Thread Cert.KernelRsFfnIdeal.nD Cert.KernelRsFfnIdeal.τ).loc Cert.KernelRsFfnIdeal.main_arg1)),
    fun c => Cert.ReferenceRsFfnIdeal.Read.val_main_v9 (F := Ideal) (m ((c.tc : Thread Cert.KernelRsFfnIdeal.nD Cert.KernelRsFfnIdeal.τ).loc Cert.KernelRsFfnIdeal.main_arg2)) (m ((c.tc : Thread Cert.KernelRsFfnIdeal.nD Cert.KernelRsFfnIdeal.τ).loc Cert.KernelRsFfnIdeal.main_arg3)),
    fun c => Cert.ReferenceRsFfnIdeal.Read.val_main_v14 (F := Ideal) (m ((c.tc : Thread Cert.KernelRsFfnIdeal.nD Cert.KernelRsFfnIdeal.τ).loc Cert.KernelRsFfnIdeal.main_arg4)) (m ((c.tc : Thread Cert.KernelRsFfnIdeal.nD Cert.KernelRsFfnIdeal.τ).loc Cert.KernelRsFfnIdeal.main_arg5)), ?_, ?_⟩
  · exact (θ_run Cert.KernelRsFfnIdeal.defs _ _).mono (fun r h c => ⟨((h.2 c).2 Cert.KernelRsFfnIdeal.main_v5 (Pipeline.mem_restRefs_of Cert.KernelRsFfnIdeal.main_v5 rfl fun w => (by decide : ∀ w : Fin 15, Pipeline.arrRef Cert.KernelRsFfnIdeal.spec0 w ≠ Cert.KernelRsFfnIdeal.main_v5) w)).trans (result_12 m (okI m) c),
        ((h.2 c).2 Cert.KernelRsFfnIdeal.main_v7 (Pipeline.mem_restRefs_of Cert.KernelRsFfnIdeal.main_v7 rfl fun w => (by decide : ∀ w : Fin 15, Pipeline.arrRef Cert.KernelRsFfnIdeal.spec0 w ≠ Cert.KernelRsFfnIdeal.main_v7) w)).trans (result_13 m (okI m) c),
        ((h.2 c).2 Cert.KernelRsFfnIdeal.main_v9 (Pipeline.mem_restRefs_of Cert.KernelRsFfnIdeal.main_v9 rfl fun w => (by decide : ∀ w : Fin 15, Pipeline.arrRef Cert.KernelRsFfnIdeal.spec0 w ≠ Cert.KernelRsFfnIdeal.main_v9) w)).trans (result_14 m (okI m) c), h.1 c⟩)
      (θ_run_and (Cert.KernelRsFfnIdeal.Gen.unchanged m g (okI m)) (Cert.KernelRsFfnIdeal.Gen.run_main m g (okI m)))
  · refine (θ_run Cert.ReferenceRsFfnIdeal.defs _ _).mono (fun r h c => ?_) (Cert.ReferenceRsFfnIdeal.Value.run (F := Ideal) m' g')
    obtain ⟨a0, a1, a2, a3, a4, a5⟩ := hagree c
    exact ⟨(h c).1.trans ((Cert.ReferenceRsFfnIdeal.Read.val_main_v4_eq _ _).trans (by rw [a0, a1])),
      (h c).2.1.trans ((Cert.ReferenceRsFfnIdeal.Read.val_main_v9_eq _ _).trans (by rw [a2, a3])),
      (h c).2.2.1.trans ((Cert.ReferenceRsFfnIdeal.Read.val_main_v14_eq _ _).trans (by rw [a4, a5])), (h c).2.2.2⟩

end Cert.RsFfn

end
-- ==== Proof.SibMix.lean ====
module

public import proofs.«01_k».proof.Defs
public import proofs.«01_k».proof.Proof.Gen.KernelSibMix.Frame
public import proofs.«01_k».proof.Proof.Gen.KernelSibMixIdeal.Frame
public import proofs.«01_k».proof.Proof.Gen.ReferenceSibMixIdeal.Read
public import proofs.«01_k».proof.Proof.Gen.ReferenceSibMixIdeal.Run
public import Idealize.ShloMosaic.Lib.Pipeline.ValueKit
public import Idealize.ShloMosaic.Lib.Pointwise
public import Idealize.ShloMosaic.Lib.Claim

/-! The gradients of `w_in`, `w_uq`, `w_ukv` and `w_out`: of each, the device's own blocks for the four chips added to the other core's, and the sums rounded for sending. -/

@[expose] public section

set_option maxRecDepth 16384

noncomputable section

open Idealize.ShloMosaic Idealize.ShloMosaic.TcCoe Idealize.SL.Sem
open scoped BigOperators

namespace Cert.SibMix

section Words
open Cert.KernelSibMix Cert.KernelSibMix.Gen

/-- The number of its core that device 0 hands the call. -/
def core : pre0.Contents (Elt Bits) := fun | ⟨0, _⟩ => fun _ => 0#32 | ⟨_ + 1, h⟩ => absurd h (by simp)

/-- The table that the host's operations fill holds it. -/
theorem table (m : (ℓ : Loc nD τ sig) → Buf (Elt Bits) ℓ) : tbl m = core := by
  funext j x
  match j with
  | ⟨0, _⟩ => rfl

/-- For this core every block lies in its array. -/
theorem okc : ok0 core := by decide

/-- So it does at every launch. -/
theorem ok (m : (ℓ : Loc nD τ sig) → Buf (Elt Bits) ℓ) : Ok m := by
  unfold Ok; rw [table m]; exact okc

end Words

section Reals
open Cert.KernelSibMixIdeal Cert.KernelSibMixIdeal.Gen

/-- The number of its core that device 0 hands the call. -/
def coreI : pre0.Contents (Elt Ideal) := fun | ⟨0, _⟩ => fun _ => 0#32 | ⟨_ + 1, h⟩ => absurd h (by simp)

/-- The table that the host's operations fill holds it. -/
theorem tableI (m : (ℓ : Loc nD τ sig) → Buf (Elt Ideal) ℓ) : tbl m = coreI := by
  funext j x
  match j with
  | ⟨0, _⟩ => rfl

/-- For this core every block lies in its array. -/
theorem okcI : ok0 coreI := by decide

/-- So it does at every launch. -/
theorem okI (m : (ℓ : Loc nD τ sig) → Buf (Elt Ideal) ℓ) : Ok m := by
  unfold Ok; rw [tableI m]; exact okcI

variable (m : (ℓ : Loc nD τ sig) → Buf (Elt Ideal) ℓ) (hO : Ok m)

/-- The launch is the one for this core. -/
theorem adm_eq : adm m hO = ⟨coreI, okcI⟩ := Subtype.ext (tableI m)

/-- There are eight steps: two for each chip. -/
theorem at_lt (t : Fin (cfgM m hO).N) : t.val < 8 := t.isLt

/-- The chip whose block step `t` sums. -/
def chip (t : Fin (cfgM m hO).N) : Fin 4 := ⟨t.val / 2, by have := at_lt m hO t; omega⟩

/-- The place of a chip's block for this core among the eight. -/
def even (s : Fin 4) : Fin 8 := ⟨2 * s.val, by have := s.isLt; omega⟩

/-- The row of a chip's block of `w_in` that row `k` of the block at step `t` is. -/
def row_0 (t : Fin (cfgM m hO).N) (k : Fin 256) : Fin 512 := ⟨t.val % 2 * 256 + k.val, by have := k.isLt; have := Nat.mod_lt t.val (by decide : 0 < 2); omega⟩

theorem index_0 (t : Fin (cfgM m hO).N) : ((cfgM m hO).win 0).index t = ![2 * (t.val / 2), t.val % 2, 0] := by
  revert t
  unfold cfgM; rw [adm_eq]
  exact (by decide +kernel : ∀ t : Fin grid0.N, ((cfg0 (F := Ideal) ⟨coreI, okcI⟩).win 0).index t = ![2 * (t.val / 2), t.val % 2, 0])

/-- What step `t` reads of `w_in`'s own blocks. -/
theorem read_0 (c : Dev nD) (t : Fin (cfgM m hO).N) (y : S1x256x552.Idx) :
    (ms0_0 m hO t).view.read (Elt Ideal) ((hs0_0 m hO t).unread (iblk m hO c 0 t)) y
      = m ((c : Thread nD τ).loc main_arg0) (ix3 (even (chip m hO t) : Fin 8) (row_0 m hO t (y 1)) (y 2) : S8x512x552.Idx) := by
  refine (congrFun ((hs0_0 m hO t).read_unread (iblk m hO c 0 t)) y).trans ?_
  show V m c main_arg0 ((((cfgM m hO).win 0).blk t).view.emb y) = _
  rw [V_main_arg0]
  refine congrArg (m ((c : Thread nD τ).loc main_arg0)) (funext fun a => Fin.ext ?_)
  refine (Pipeline.Window.rect_emb_val ((cfgM m hO).win 0) t y a rfl).trans ?_
  rw [index_0 m hO t]
  match a with
  | ⟨0, _⟩ => have h : (y 0).val < 1 := (y 0).isLt
              show 2 * (t.val / 2) * 1 + (y 0).val = 2 * (t.val / 2)
              omega
  | ⟨1, _⟩ => rfl
  | ⟨2, _⟩ => show 0 * 552 + (y 2).val = (y 2).val
              omega

theorem index_1 (t : Fin (cfgM m hO).N) : ((cfgM m hO).win 1).index t = ![t.val / 2, t.val % 2, 0] := by
  revert t
  unfold cfgM; rw [adm_eq]
  exact (by decide +kernel : ∀ t : Fin grid0.N, ((cfg0 (F := Ideal) ⟨coreI, okcI⟩).win 1).index t = ![t.val / 2, t.val % 2, 0])

/-- What step `t` reads of `w_in`'s other core's blocks. -/
theorem read_1 (c : Dev nD) (t : Fin (cfgM m hO).N) (y : S1x256x552.Idx) :
    (ms0_1 m hO t).view.read (Elt Ideal) ((hs0_1 m hO t).unread (iblk m hO c 1 t)) y
      = m ((c : Thread nD τ).loc main_arg1) (ix3 (chip m hO t : Fin 4) (row_0 m hO t (y 1)) (y 2) : S4x512x552.Idx) := by
  refine (congrFun ((hs0_1 m hO t).read_unread (iblk m hO c 1 t)) y).trans ?_
  show V m c main_arg1 ((((cfgM m hO).win 1).blk t).view.emb y) = _
  rw [V_main_arg1]
  refine congrArg (m ((c : Thread nD τ).loc main_arg1)) (funext fun a => Fin.ext ?_)
  refine (Pipeline.Window.rect_emb_val ((cfgM m hO).win 1) t y a rfl).trans ?_
  rw [index_1 m hO t]
  match a with
  | ⟨0, _⟩ => have h : (y 0).val < 1 := (y 0).isLt
              show t.val / 2 * 1 + (y 0).val = t.val / 2
              omega
  | ⟨1, _⟩ => rfl
  | ⟨2, _⟩ => show 0 * 552 + (y 2).val = (y 2).val
              omega

/-- The reference's sum of `w_in` at an element. -/
theorem ref_8 (x0 : (⟨S8x512x552, .f32⟩ : BufTy).Contents (Elt Ideal)) (x1 : (⟨S4x512x552, .f32⟩ : BufTy).Contents (Elt Ideal)) (j : S4x512x552.Idx) :
    (Cert.ReferenceSibMixIdeal.Read.val_main_v1 (F := Ideal) x0 x1 j : EReal) = (x0 (ix3 (even (j 0)) (j 1) (j 2)) + x1 j : EReal) := by
  refine congrArg (fun i : S8x512x552.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_8 (t : Fin (cfgM m hO).N) : ((cfgM m hO).win 8).index t = ![t.val / 2, t.val % 2, 0] := by
  revert t
  unfold cfgM; rw [adm_eq]
  exact (by decide +kernel : ∀ t : Fin grid0.N, ((cfg0 (F := Ideal) ⟨coreI, okcI⟩).win 8).index t = ![t.val / 2, t.val % 2, 0])

/-- Every block of the result is written. -/
theorem covers_8 : ((cfgM m hO).win 8).Covers := by
  unfold cfgM; rw [adm_eq]; decide +kernel

theorem place_8 (t : Fin (cfgM m hO).N) (y : S1x256x552.Idx) :
    (((cfgM m hO).win 8).blk t).view.emb y = (ix3 (chip m hO t) (row_0 m hO t (y 1)) (y 2) : S4x512x552.Idx) := by
  have h (a : Fin 3) := Pipeline.Window.rect_emb_val ((cfgM m hO).win 8) t y a rfl
  rw [index_8 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 552 + (y 2).val = (y 2).val
              omega

/-- The sum of the two blocks that step `t` reads is the reference's sum at the place it is written to. -/
theorem sum_8 (x0 : (⟨S8x512x552, .f32⟩ : BufTy).Contents (Elt Ideal)) (x1 : (⟨S4x512x552, .f32⟩ : BufTy).Contents (Elt Ideal)) (t : Fin (cfgM m hO).N) (y : S1x256x552.Idx) :
    (x0 (ix3 (even (chip m hO t)) (row_0 m hO t (y 1)) (y 2)) + x1 (ix3 (chip m hO t) (row_0 m hO t (y 1)) (y 2)) : EReal)
      = Cert.ReferenceSibMixIdeal.Read.val_main_v1 (F := Ideal) x0 x1 ((((cfgM m hO).win 8).blk t).view.emb y) :=
  (ref_8 x0 x1 (ix3 (chip m hO t) (row_0 m hO t (y 1)) (y 2))).symm.trans
    (congrArg (Cert.ReferenceSibMixIdeal.Read.val_main_v1 (F := Ideal) x0 x1) (place_8 m hO t y).symm)

/-- The sum of `w_in` is the reference's. -/
theorem final_8 (c : Dev nD) : (dats m hO 0 c).arrAt 8 (cfgM m hO).N
    = Cert.ReferenceSibMixIdeal.Read.val_main_v1 (F := Ideal) (m ((c : Thread nD τ).loc main_arg0)) (m ((c : Thread nD τ).loc main_arg1)) := by
  refine (dats m hO 0 c).arrAt_eq_of_covers 8 _ (covers_8 m hO) fun t hf y => ?_
  blk_simp
  rw [after0_8]
  unfold outsAt0
  frame_out
  pointwise [k0_pay7, k0_pay8, k0_pay9]
  exact (congrArg₂ (· + ·) (read_0 m hO c t y) (read_1 m hO c t y)).trans (sum_8 m hO (m ((c : Thread nD τ).loc main_arg0)) (m ((c : Thread nD τ).loc main_arg1)) t y)

/-- The reference's rounded sum of `w_in` at an element. -/
theorem ref_12 (x0 : (⟨S8x512x552, .f32⟩ : BufTy).Contents (Elt Ideal)) (x1 : (⟨S4x512x552, .f32⟩ : BufTy).Contents (Elt Ideal)) (j : S4x512x552.Idx) :
    (Cert.ReferenceSibMixIdeal.Read.val_main_v8 (F := Ideal) x0 x1 j : EReal) = (x0 (ix3 (even (j 0)) (j 1) (j 2)) + x1 j : EReal) := by
  refine congrArg (fun i : S8x512x552.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_12 (t : Fin (cfgM m hO).N) : ((cfgM m hO).win 12).index t = ![t.val / 2, t.val % 2, 0] := by
  revert t
  unfold cfgM; rw [adm_eq]
  exact (by decide +kernel : ∀ t : Fin grid0.N, ((cfg0 (F := Ideal) ⟨coreI, okcI⟩).win 12).index t = ![t.val / 2, t.val % 2, 0])

/-- Every block of the result is written. -/
theorem covers_12 : ((cfgM m hO).win 12).Covers := by
  unfold cfgM; rw [adm_eq]; decide +kernel

theorem place_12 (t : Fin (cfgM m hO).N) (y : S1x256x552.Idx) :
    (((cfgM m hO).win 12).blk t).view.emb y = (ix3 (chip m hO t) (row_0 m hO t (y 1)) (y 2) : S4x512x552.Idx) := by
  have h (a : Fin 3) := Pipeline.Window.rect_emb_val ((cfgM m hO).win 12) t y a rfl
  rw [index_12 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 552 + (y 2).val = (y 2).val
              omega

/-- The sum of the two blocks that step `t` reads is the reference's rounded sum at the place it is written to. -/
theorem sum_12 (x0 : (⟨S8x512x552, .f32⟩ : BufTy).Contents (Elt Ideal)) (x1 : (⟨S4x512x552, .f32⟩ : BufTy).Contents (Elt Ideal)) (t : Fin (cfgM m hO).N) (y : S1x256x552.Idx) :
    (x0 (ix3 (even (chip m hO t)) (row_0 m hO t (y 1)) (y 2)) + x1 (ix3 (chip m hO t) (row_0 m hO t (y 1)) (y 2)) : EReal)
      = Cert.ReferenceSibMixIdeal.Read.val_main_v8 (F := Ideal) x0 x1 ((((cfgM m hO).win 12).blk t).view.emb y) :=
  (ref_12 x0 x1 (ix3 (chip m hO t) (row_0 m hO t (y 1)) (y 2))).symm.trans
    (congrArg (Cert.ReferenceSibMixIdeal.Read.val_main_v8 (F := Ideal) x0 x1) (place_12 m hO t y).symm)

/-- The rounded sum of `w_in` is the reference's. -/
theorem final_12 (c : Dev nD) : (dats m hO 0 c).arrAt 12 (cfgM m hO).N
    = Cert.ReferenceSibMixIdeal.Read.val_main_v8 (F := Ideal) (m ((c : Thread nD τ).loc main_arg0)) (m ((c : Thread nD τ).loc main_arg1)) := by
  refine (dats m hO 0 c).arrAt_eq_of_covers 12 _ (covers_12 m hO) fun t hf y => ?_
  blk_simp
  rw [after0_12]
  unfold outsAt0
  frame_out
  pointwise [k0_pay7, k0_pay8, k0_pay9]
  exact (congrArg₂ (· + ·) (read_0 m hO c t y) (read_1 m hO c t y)).trans (sum_12 m hO (m ((c : Thread nD τ).loc main_arg0)) (m ((c : Thread nD τ).loc main_arg1)) t y)

/-- The row of a chip's block of `w_uq` that row `k` of the block at step `t` is. -/
def row_1 (t : Fin (cfgM m hO).N) (k : Fin 96) : Fin 192 := ⟨t.val % 2 * 96 + k.val, by have := k.isLt; have := Nat.mod_lt t.val (by decide : 0 < 2); omega⟩

theorem index_2 (t : Fin (cfgM m hO).N) : ((cfgM m hO).win 2).index t = ![2 * (t.val / 2), t.val % 2, 0] := by
  revert t
  unfold cfgM; rw [adm_eq]
  exact (by decide +kernel : ∀ t : Fin grid0.N, ((cfg0 (F := Ideal) ⟨coreI, okcI⟩).win 2).index t = ![2 * (t.val / 2), t.val % 2, 0])

/-- What step `t` reads of `w_uq`'s own blocks. -/
theorem read_2 (c : Dev nD) (t : Fin (cfgM m hO).N) (y : S1x96x192.Idx) :
    (ms0_2 m hO t).view.read (Elt Ideal) ((hs0_2 m hO t).unread (iblk m hO c 2 t)) y
      = m ((c : Thread nD τ).loc main_arg2) (ix3 (even (chip m hO t) : Fin 8) (row_1 m hO t (y 1)) (y 2) : S8x192x192.Idx) := by
  refine (congrFun ((hs0_2 m hO t).read_unread (iblk m hO c 2 t)) y).trans ?_
  show V m c main_arg2 ((((cfgM m hO).win 2).blk t).view.emb y) = _
  rw [V_main_arg2]
  refine congrArg (m ((c : Thread nD τ).loc main_arg2)) (funext fun a => Fin.ext ?_)
  refine (Pipeline.Window.rect_emb_val ((cfgM m hO).win 2) t y a rfl).trans ?_
  rw [index_2 m hO t]
  match a with
  | ⟨0, _⟩ => have h : (y 0).val < 1 := (y 0).isLt
              show 2 * (t.val / 2) * 1 + (y 0).val = 2 * (t.val / 2)
              omega
  | ⟨1, _⟩ => rfl
  | ⟨2, _⟩ => show 0 * 192 + (y 2).val = (y 2).val
              omega

theorem index_3 (t : Fin (cfgM m hO).N) : ((cfgM m hO).win 3).index t = ![t.val / 2, t.val % 2, 0] := by
  revert t
  unfold cfgM; rw [adm_eq]
  exact (by decide +kernel : ∀ t : Fin grid0.N, ((cfg0 (F := Ideal) ⟨coreI, okcI⟩).win 3).index t = ![t.val / 2, t.val % 2, 0])

/-- What step `t` reads of `w_uq`'s other core's blocks. -/
theorem read_3 (c : Dev nD) (t : Fin (cfgM m hO).N) (y : S1x96x192.Idx) :
    (ms0_3 m hO t).view.read (Elt Ideal) ((hs0_3 m hO t).unread (iblk m hO c 3 t)) y
      = m ((c : Thread nD τ).loc main_arg3) (ix3 (chip m hO t : Fin 4) (row_1 m hO t (y 1)) (y 2) : S4x192x192.Idx) := by
  refine (congrFun ((hs0_3 m hO t).read_unread (iblk m hO c 3 t)) y).trans ?_
  show V m c main_arg3 ((((cfgM m hO).win 3).blk t).view.emb y) = _
  rw [V_main_arg3]
  refine congrArg (m ((c : Thread nD τ).loc main_arg3)) (funext fun a => Fin.ext ?_)
  refine (Pipeline.Window.rect_emb_val ((cfgM m hO).win 3) t y a rfl).trans ?_
  rw [index_3 m hO t]
  match a with
  | ⟨0, _⟩ => have h : (y 0).val < 1 := (y 0).isLt
              show t.val / 2 * 1 + (y 0).val = t.val / 2
              omega
  | ⟨1, _⟩ => rfl
  | ⟨2, _⟩ => show 0 * 192 + (y 2).val = (y 2).val
              omega

/-- The reference's sum of `w_uq` at an element. -/
theorem ref_9 (x0 : (⟨S8x192x192, .f32⟩ : BufTy).Contents (Elt Ideal)) (x1 : (⟨S4x192x192, .f32⟩ : BufTy).Contents (Elt Ideal)) (j : S4x192x192.Idx) :
    (Cert.ReferenceSibMixIdeal.Read.val_main_v3 (F := Ideal) x0 x1 j : EReal) = (x0 (ix3 (even (j 0)) (j 1) (j 2)) + x1 j : EReal) := by
  refine congrArg (fun i : S8x192x192.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_9 (t : Fin (cfgM m hO).N) : ((cfgM m hO).win 9).index t = ![t.val / 2, t.val % 2, 0] := by
  revert t
  unfold cfgM; rw [adm_eq]
  exact (by decide +kernel : ∀ t : Fin grid0.N, ((cfg0 (F := Ideal) ⟨coreI, okcI⟩).win 9).index t = ![t.val / 2, t.val % 2, 0])

/-- Every block of the result is written. -/
theorem covers_9 : ((cfgM m hO).win 9).Covers := by
  unfold cfgM; rw [adm_eq]; decide +kernel

theorem place_9 (t : Fin (cfgM m hO).N) (y : S1x96x192.Idx) :
    (((cfgM m hO).win 9).blk t).view.emb y = (ix3 (chip m hO t) (row_1 m hO t (y 1)) (y 2) : S4x192x192.Idx) := by
  have h (a : Fin 3) := Pipeline.Window.rect_emb_val ((cfgM m hO).win 9) t y a rfl
  rw [index_9 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 192 + (y 2).val = (y 2).val
              omega

/-- The sum of the two blocks that step `t` reads is the reference's sum at the place it is written to. -/
theorem sum_9 (x0 : (⟨S8x192x192, .f32⟩ : BufTy).Contents (Elt Ideal)) (x1 : (⟨S4x192x192, .f32⟩ : BufTy).Contents (Elt Ideal)) (t : Fin (cfgM m hO).N) (y : S1x96x192.Idx) :
    (x0 (ix3 (even (chip m hO t)) (row_1 m hO t (y 1)) (y 2)) + x1 (ix3 (chip m hO t) (row_1 m hO t (y 1)) (y 2)) : EReal)
      = Cert.ReferenceSibMixIdeal.Read.val_main_v3 (F := Ideal) x0 x1 ((((cfgM m hO).win 9).blk t).view.emb y) :=
  (ref_9 x0 x1 (ix3 (chip m hO t) (row_1 m hO t (y 1)) (y 2))).symm.trans
    (congrArg (Cert.ReferenceSibMixIdeal.Read.val_main_v3 (F := Ideal) x0 x1) (place_9 m hO t y).symm)

/-- The sum of `w_uq` is the reference's. -/
theorem final_9 (c : Dev nD) : (dats m hO 0 c).arrAt 9 (cfgM m hO).N
    = Cert.ReferenceSibMixIdeal.Read.val_main_v3 (F := Ideal) (m ((c : Thread nD τ).loc main_arg2)) (m ((c : Thread nD τ).loc main_arg3)) := by
  refine (dats m hO 0 c).arrAt_eq_of_covers 9 _ (covers_9 m hO) fun t hf y => ?_
  blk_simp
  rw [after0_9]
  unfold outsAt0
  frame_out
  pointwise [k0_pay10, k0_pay11, k0_pay12]
  exact (congrArg₂ (· + ·) (read_2 m hO c t y) (read_3 m hO c t y)).trans (sum_9 m hO (m ((c : Thread nD τ).loc main_arg2)) (m ((c : Thread nD τ).loc main_arg3)) t y)

/-- The reference's rounded sum of `w_uq` at an element. -/
theorem ref_13 (x0 : (⟨S8x192x192, .f32⟩ : BufTy).Contents (Elt Ideal)) (x1 : (⟨S4x192x192, .f32⟩ : BufTy).Contents (Elt Ideal)) (j : S4x192x192.Idx) :
    (Cert.ReferenceSibMixIdeal.Read.val_main_v9 (F := Ideal) x0 x1 j : EReal) = (x0 (ix3 (even (j 0)) (j 1) (j 2)) + x1 j : EReal) := by
  refine congrArg (fun i : S8x192x192.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_13 (t : Fin (cfgM m hO).N) : ((cfgM m hO).win 13).index t = ![t.val / 2, t.val % 2, 0] := by
  revert t
  unfold cfgM; rw [adm_eq]
  exact (by decide +kernel : ∀ t : Fin grid0.N, ((cfg0 (F := Ideal) ⟨coreI, okcI⟩).win 13).index t = ![t.val / 2, t.val % 2, 0])

/-- Every block of the result is written. -/
theorem covers_13 : ((cfgM m hO).win 13).Covers := by
  unfold cfgM; rw [adm_eq]; decide +kernel

theorem place_13 (t : Fin (cfgM m hO).N) (y : S1x96x192.Idx) :
    (((cfgM m hO).win 13).blk t).view.emb y = (ix3 (chip m hO t) (row_1 m hO t (y 1)) (y 2) : S4x192x192.Idx) := by
  have h (a : Fin 3) := Pipeline.Window.rect_emb_val ((cfgM m hO).win 13) t y a rfl
  rw [index_13 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 192 + (y 2).val = (y 2).val
              omega

/-- The sum of the two blocks that step `t` reads is the reference's rounded sum at the place it is written to. -/
theorem sum_13 (x0 : (⟨S8x192x192, .f32⟩ : BufTy).Contents (Elt Ideal)) (x1 : (⟨S4x192x192, .f32⟩ : BufTy).Contents (Elt Ideal)) (t : Fin (cfgM m hO).N) (y : S1x96x192.Idx) :
    (x0 (ix3 (even (chip m hO t)) (row_1 m hO t (y 1)) (y 2)) + x1 (ix3 (chip m hO t) (row_1 m hO t (y 1)) (y 2)) : EReal)
      = Cert.ReferenceSibMixIdeal.Read.val_main_v9 (F := Ideal) x0 x1 ((((cfgM m hO).win 13).blk t).view.emb y) :=
  (ref_13 x0 x1 (ix3 (chip m hO t) (row_1 m hO t (y 1)) (y 2))).symm.trans
    (congrArg (Cert.ReferenceSibMixIdeal.Read.val_main_v9 (F := Ideal) x0 x1) (place_13 m hO t y).symm)

/-- The rounded sum of `w_uq` is the reference's. -/
theorem final_13 (c : Dev nD) : (dats m hO 0 c).arrAt 13 (cfgM m hO).N
    = Cert.ReferenceSibMixIdeal.Read.val_main_v9 (F := Ideal) (m ((c : Thread nD τ).loc main_arg2)) (m ((c : Thread nD τ).loc main_arg3)) := by
  refine (dats m hO 0 c).arrAt_eq_of_covers 13 _ (covers_13 m hO) fun t hf y => ?_
  blk_simp
  rw [after0_13]
  unfold outsAt0
  frame_out
  pointwise [k0_pay10, k0_pay11, k0_pay12]
  exact (congrArg₂ (· + ·) (read_2 m hO c t y) (read_3 m hO c t y)).trans (sum_13 m hO (m ((c : Thread nD τ).loc main_arg2)) (m ((c : Thread nD τ).loc main_arg3)) t y)

/-- The row of a chip's block of `w_ukv` that row `k` of the block at step `t` is. -/
def row_2 (t : Fin (cfgM m hO).N) (k : Fin 64) : Fin 128 := ⟨t.val % 2 * 64 + k.val, by have := k.isLt; have := Nat.mod_lt t.val (by decide : 0 < 2); omega⟩

theorem index_4 (t : Fin (cfgM m hO).N) : ((cfgM m hO).win 4).index t = ![2 * (t.val / 2), t.val % 2, 0] := by
  revert t
  unfold cfgM; rw [adm_eq]
  exact (by decide +kernel : ∀ t : Fin grid0.N, ((cfg0 (F := Ideal) ⟨coreI, okcI⟩).win 4).index t = ![2 * (t.val / 2), t.val % 2, 0])

/-- What step `t` reads of `w_ukv`'s own blocks. -/
theorem read_4 (c : Dev nD) (t : Fin (cfgM m hO).N) (y : S1x64x256.Idx) :
    (ms0_4 m hO t).view.read (Elt Ideal) ((hs0_4 m hO t).unread (iblk m hO c 4 t)) y
      = m ((c : Thread nD τ).loc main_arg4) (ix3 (even (chip m hO t) : Fin 8) (row_2 m hO t (y 1)) (y 2) : S8x128x256.Idx) := by
  refine (congrFun ((hs0_4 m hO t).read_unread (iblk m hO c 4 t)) y).trans ?_
  show V m c main_arg4 ((((cfgM m hO).win 4).blk t).view.emb y) = _
  rw [V_main_arg4]
  refine congrArg (m ((c : Thread nD τ).loc main_arg4)) (funext fun a => Fin.ext ?_)
  refine (Pipeline.Window.rect_emb_val ((cfgM m hO).win 4) t y a rfl).trans ?_
  rw [index_4 m hO t]
  match a with
  | ⟨0, _⟩ => have h : (y 0).val < 1 := (y 0).isLt
              show 2 * (t.val / 2) * 1 + (y 0).val = 2 * (t.val / 2)
              omega
  | ⟨1, _⟩ => rfl
  | ⟨2, _⟩ => show 0 * 256 + (y 2).val = (y 2).val
              omega

theorem index_5 (t : Fin (cfgM m hO).N) : ((cfgM m hO).win 5).index t = ![t.val / 2, t.val % 2, 0] := by
  revert t
  unfold cfgM; rw [adm_eq]
  exact (by decide +kernel : ∀ t : Fin grid0.N, ((cfg0 (F := Ideal) ⟨coreI, okcI⟩).win 5).index t = ![t.val / 2, t.val % 2, 0])

/-- What step `t` reads of `w_ukv`'s other core's blocks. -/
theorem read_5 (c : Dev nD) (t : Fin (cfgM m hO).N) (y : S1x64x256.Idx) :
    (ms0_5 m hO t).view.read (Elt Ideal) ((hs0_5 m hO t).unread (iblk m hO c 5 t)) y
      = m ((c : Thread nD τ).loc main_arg5) (ix3 (chip m hO t : Fin 4) (row_2 m hO t (y 1)) (y 2) : S4x128x256.Idx) := by
  refine (congrFun ((hs0_5 m hO t).read_unread (iblk m hO c 5 t)) y).trans ?_
  show V m c main_arg5 ((((cfgM m hO).win 5).blk t).view.emb y) = _
  rw [V_main_arg5]
  refine congrArg (m ((c : Thread nD τ).loc main_arg5)) (funext fun a => Fin.ext ?_)
  refine (Pipeline.Window.rect_emb_val ((cfgM m hO).win 5) t y a rfl).trans ?_
  rw [index_5 m hO t]
  match a with
  | ⟨0, _⟩ => have h : (y 0).val < 1 := (y 0).isLt
              show t.val / 2 * 1 + (y 0).val = t.val / 2
              omega
  | ⟨1, _⟩ => rfl
  | ⟨2, _⟩ => show 0 * 256 + (y 2).val = (y 2).val
              omega

/-- The reference's sum of `w_ukv` at an element. -/
theorem ref_10 (x0 : (⟨S8x128x256, .f32⟩ : BufTy).Contents (Elt Ideal)) (x1 : (⟨S4x128x256, .f32⟩ : BufTy).Contents (Elt Ideal)) (j : S4x128x256.Idx) :
    (Cert.ReferenceSibMixIdeal.Read.val_main_v5 (F := Ideal) x0 x1 j : EReal) = (x0 (ix3 (even (j 0)) (j 1) (j 2)) + x1 j : EReal) := by
  refine congrArg (fun i : S8x128x256.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_10 (t : Fin (cfgM m hO).N) : ((cfgM m hO).win 10).index t = ![t.val / 2, t.val % 2, 0] := by
  revert t
  unfold cfgM; rw [adm_eq]
  exact (by decide +kernel : ∀ t : Fin grid0.N, ((cfg0 (F := Ideal) ⟨coreI, okcI⟩).win 10).index t = ![t.val / 2, t.val % 2, 0])

/-- Every block of the result is written. -/
theorem covers_10 : ((cfgM m hO).win 10).Covers := by
  unfold cfgM; rw [adm_eq]; decide +kernel

theorem place_10 (t : Fin (cfgM m hO).N) (y : S1x64x256.Idx) :
    (((cfgM m hO).win 10).blk t).view.emb y = (ix3 (chip m hO t) (row_2 m hO t (y 1)) (y 2) : S4x128x256.Idx) := by
  have h (a : Fin 3) := Pipeline.Window.rect_emb_val ((cfgM m hO).win 10) t y a rfl
  rw [index_10 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 256 + (y 2).val = (y 2).val
              omega

/-- The sum of the two blocks that step `t` reads is the reference's sum at the place it is written to. -/
theorem sum_10 (x0 : (⟨S8x128x256, .f32⟩ : BufTy).Contents (Elt Ideal)) (x1 : (⟨S4x128x256, .f32⟩ : BufTy).Contents (Elt Ideal)) (t : Fin (cfgM m hO).N) (y : S1x64x256.Idx) :
    (x0 (ix3 (even (chip m hO t)) (row_2 m hO t (y 1)) (y 2)) + x1 (ix3 (chip m hO t) (row_2 m hO t (y 1)) (y 2)) : EReal)
      = Cert.ReferenceSibMixIdeal.Read.val_main_v5 (F := Ideal) x0 x1 ((((cfgM m hO).win 10).blk t).view.emb y) :=
  (ref_10 x0 x1 (ix3 (chip m hO t) (row_2 m hO t (y 1)) (y 2))).symm.trans
    (congrArg (Cert.ReferenceSibMixIdeal.Read.val_main_v5 (F := Ideal) x0 x1) (place_10 m hO t y).symm)

/-- The sum of `w_ukv` is the reference's. -/
theorem final_10 (c : Dev nD) : (dats m hO 0 c).arrAt 10 (cfgM m hO).N
    = Cert.ReferenceSibMixIdeal.Read.val_main_v5 (F := Ideal) (m ((c : Thread nD τ).loc main_arg4)) (m ((c : Thread nD τ).loc main_arg5)) := by
  refine (dats m hO 0 c).arrAt_eq_of_covers 10 _ (covers_10 m hO) fun t hf y => ?_
  blk_simp
  rw [after0_10]
  unfold outsAt0
  frame_out
  pointwise [k0_pay13, k0_pay1, k0_pay2, k0_pay3]
  exact (congrArg₂ (· + ·) (read_4 m hO c t y) (read_5 m hO c t y)).trans (sum_10 m hO (m ((c : Thread nD τ).loc main_arg4)) (m ((c : Thread nD τ).loc main_arg5)) t y)

/-- The reference's rounded sum of `w_ukv` at an element. -/
theorem ref_14 (x0 : (⟨S8x128x256, .f32⟩ : BufTy).Contents (Elt Ideal)) (x1 : (⟨S4x128x256, .f32⟩ : BufTy).Contents (Elt Ideal)) (j : S4x128x256.Idx) :
    (Cert.ReferenceSibMixIdeal.Read.val_main_v10 (F := Ideal) x0 x1 j : EReal) = (x0 (ix3 (even (j 0)) (j 1) (j 2)) + x1 j : EReal) := by
  refine congrArg (fun i : S8x128x256.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_14 (t : Fin (cfgM m hO).N) : ((cfgM m hO).win 14).index t = ![t.val / 2, t.val % 2, 0] := by
  revert t
  unfold cfgM; rw [adm_eq]
  exact (by decide +kernel : ∀ t : Fin grid0.N, ((cfg0 (F := Ideal) ⟨coreI, okcI⟩).win 14).index t = ![t.val / 2, t.val % 2, 0])

/-- Every block of the result is written. -/
theorem covers_14 : ((cfgM m hO).win 14).Covers := by
  unfold cfgM; rw [adm_eq]; decide +kernel

theorem place_14 (t : Fin (cfgM m hO).N) (y : S1x64x256.Idx) :
    (((cfgM m hO).win 14).blk t).view.emb y = (ix3 (chip m hO t) (row_2 m hO t (y 1)) (y 2) : S4x128x256.Idx) := by
  have h (a : Fin 3) := Pipeline.Window.rect_emb_val ((cfgM m hO).win 14) t y a rfl
  rw [index_14 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 256 + (y 2).val = (y 2).val
              omega

/-- The sum of the two blocks that step `t` reads is the reference's rounded sum at the place it is written to. -/
theorem sum_14 (x0 : (⟨S8x128x256, .f32⟩ : BufTy).Contents (Elt Ideal)) (x1 : (⟨S4x128x256, .f32⟩ : BufTy).Contents (Elt Ideal)) (t : Fin (cfgM m hO).N) (y : S1x64x256.Idx) :
    (x0 (ix3 (even (chip m hO t)) (row_2 m hO t (y 1)) (y 2)) + x1 (ix3 (chip m hO t) (row_2 m hO t (y 1)) (y 2)) : EReal)
      = Cert.ReferenceSibMixIdeal.Read.val_main_v10 (F := Ideal) x0 x1 ((((cfgM m hO).win 14).blk t).view.emb y) :=
  (ref_14 x0 x1 (ix3 (chip m hO t) (row_2 m hO t (y 1)) (y 2))).symm.trans
    (congrArg (Cert.ReferenceSibMixIdeal.Read.val_main_v10 (F := Ideal) x0 x1) (place_14 m hO t y).symm)

/-- The rounded sum of `w_ukv` is the reference's. -/
theorem final_14 (c : Dev nD) : (dats m hO 0 c).arrAt 14 (cfgM m hO).N
    = Cert.ReferenceSibMixIdeal.Read.val_main_v10 (F := Ideal) (m ((c : Thread nD τ).loc main_arg4)) (m ((c : Thread nD τ).loc main_arg5)) := by
  refine (dats m hO 0 c).arrAt_eq_of_covers 14 _ (covers_14 m hO) fun t hf y => ?_
  blk_simp
  rw [after0_14]
  unfold outsAt0
  frame_out
  pointwise [k0_pay13, k0_pay1, k0_pay2, k0_pay3]
  exact (congrArg₂ (· + ·) (read_4 m hO c t y) (read_5 m hO c t y)).trans (sum_14 m hO (m ((c : Thread nD τ).loc main_arg4)) (m ((c : Thread nD τ).loc main_arg5)) t y)

/-- The row of a chip's block of `w_out` that row `k` of the block at step `t` is. -/
def row_3 (t : Fin (cfgM m hO).N) (k : Fin 64) : Fin 128 := ⟨t.val % 2 * 64 + k.val, by have := k.isLt; have := Nat.mod_lt t.val (by decide : 0 < 2); omega⟩

theorem index_6 (t : Fin (cfgM m hO).N) : ((cfgM m hO).win 6).index t = ![2 * (t.val / 2), t.val % 2, 0] := by
  revert t
  unfold cfgM; rw [adm_eq]
  exact (by decide +kernel : ∀ t : Fin grid0.N, ((cfg0 (F := Ideal) ⟨coreI, okcI⟩).win 6).index t = ![2 * (t.val / 2), t.val % 2, 0])

/-- What step `t` reads of `w_out`'s own blocks. -/
theorem read_6 (c : Dev nD) (t : Fin (cfgM m hO).N) (y : S1x64x1024.Idx) :
    (ms0_6 m hO t).view.read (Elt Ideal) ((hs0_6 m hO t).unread (iblk m hO c 6 t)) y
      = m ((c : Thread nD τ).loc main_arg6) (ix3 (even (chip m hO t) : Fin 8) (row_3 m hO t (y 1)) (y 2) : S8x128x1024.Idx) := by
  refine (congrFun ((hs0_6 m hO t).read_unread (iblk m hO c 6 t)) y).trans ?_
  show V m c main_arg6 ((((cfgM m hO).win 6).blk t).view.emb y) = _
  rw [V_main_arg6]
  refine congrArg (m ((c : Thread nD τ).loc main_arg6)) (funext fun a => Fin.ext ?_)
  refine (Pipeline.Window.rect_emb_val ((cfgM m hO).win 6) t y a rfl).trans ?_
  rw [index_6 m hO t]
  match a with
  | ⟨0, _⟩ => have h : (y 0).val < 1 := (y 0).isLt
              show 2 * (t.val / 2) * 1 + (y 0).val = 2 * (t.val / 2)
              omega
  | ⟨1, _⟩ => rfl
  | ⟨2, _⟩ => show 0 * 1024 + (y 2).val = (y 2).val
              omega

theorem index_7 (t : Fin (cfgM m hO).N) : ((cfgM m hO).win 7).index t = ![t.val / 2, t.val % 2, 0] := by
  revert t
  unfold cfgM; rw [adm_eq]
  exact (by decide +kernel : ∀ t : Fin grid0.N, ((cfg0 (F := Ideal) ⟨coreI, okcI⟩).win 7).index t = ![t.val / 2, t.val % 2, 0])

/-- What step `t` reads of `w_out`'s other core's blocks. -/
theorem read_7 (c : Dev nD) (t : Fin (cfgM m hO).N) (y : S1x64x1024.Idx) :
    (ms0_7 m hO t).view.read (Elt Ideal) ((hs0_7 m hO t).unread (iblk m hO c 7 t)) y
      = m ((c : Thread nD τ).loc main_arg7) (ix3 (chip m hO t : Fin 4) (row_3 m hO t (y 1)) (y 2) : S4x128x1024.Idx) := by
  refine (congrFun ((hs0_7 m hO t).read_unread (iblk m hO c 7 t)) y).trans ?_
  show V m c main_arg7 ((((cfgM m hO).win 7).blk t).view.emb y) = _
  rw [V_main_arg7]
  refine congrArg (m ((c : Thread nD τ).loc main_arg7)) (funext fun a => Fin.ext ?_)
  refine (Pipeline.Window.rect_emb_val ((cfgM m hO).win 7) t y a rfl).trans ?_
  rw [index_7 m hO t]
  match a with
  | ⟨0, _⟩ => have h : (y 0).val < 1 := (y 0).isLt
              show t.val / 2 * 1 + (y 0).val = t.val / 2
              omega
  | ⟨1, _⟩ => rfl
  | ⟨2, _⟩ => show 0 * 1024 + (y 2).val = (y 2).val
              omega

/-- The reference's sum of `w_out` at an element. -/
theorem ref_11 (x0 : (⟨S8x128x1024, .f32⟩ : BufTy).Contents (Elt Ideal)) (x1 : (⟨S4x128x1024, .f32⟩ : BufTy).Contents (Elt Ideal)) (j : S4x128x1024.Idx) :
    (Cert.ReferenceSibMixIdeal.Read.val_main_v7 (F := Ideal) x0 x1 j : EReal) = (x0 (ix3 (even (j 0)) (j 1) (j 2)) + x1 j : EReal) := by
  refine congrArg (fun i : S8x128x1024.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_11 (t : Fin (cfgM m hO).N) : ((cfgM m hO).win 11).index t = ![t.val / 2, t.val % 2, 0] := by
  revert t
  unfold cfgM; rw [adm_eq]
  exact (by decide +kernel : ∀ t : Fin grid0.N, ((cfg0 (F := Ideal) ⟨coreI, okcI⟩).win 11).index t = ![t.val / 2, t.val % 2, 0])

/-- Every block of the result is written. -/
theorem covers_11 : ((cfgM m hO).win 11).Covers := by
  unfold cfgM; rw [adm_eq]; decide +kernel

theorem place_11 (t : Fin (cfgM m hO).N) (y : S1x64x1024.Idx) :
    (((cfgM m hO).win 11).blk t).view.emb y = (ix3 (chip m hO t) (row_3 m hO t (y 1)) (y 2) : S4x128x1024.Idx) := by
  have h (a : Fin 3) := Pipeline.Window.rect_emb_val ((cfgM m hO).win 11) t y a rfl
  rw [index_11 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 1024 + (y 2).val = (y 2).val
              omega

/-- The sum of the two blocks that step `t` reads is the reference's sum at the place it is written to. -/
theorem sum_11 (x0 : (⟨S8x128x1024, .f32⟩ : BufTy).Contents (Elt Ideal)) (x1 : (⟨S4x128x1024, .f32⟩ : BufTy).Contents (Elt Ideal)) (t : Fin (cfgM m hO).N) (y : S1x64x1024.Idx) :
    (x0 (ix3 (even (chip m hO t)) (row_3 m hO t (y 1)) (y 2)) + x1 (ix3 (chip m hO t) (row_3 m hO t (y 1)) (y 2)) : EReal)
      = Cert.ReferenceSibMixIdeal.Read.val_main_v7 (F := Ideal) x0 x1 ((((cfgM m hO).win 11).blk t).view.emb y) :=
  (ref_11 x0 x1 (ix3 (chip m hO t) (row_3 m hO t (y 1)) (y 2))).symm.trans
    (congrArg (Cert.ReferenceSibMixIdeal.Read.val_main_v7 (F := Ideal) x0 x1) (place_11 m hO t y).symm)

/-- The sum of `w_out` is the reference's. -/
theorem final_11 (c : Dev nD) : (dats m hO 0 c).arrAt 11 (cfgM m hO).N
    = Cert.ReferenceSibMixIdeal.Read.val_main_v7 (F := Ideal) (m ((c : Thread nD τ).loc main_arg6)) (m ((c : Thread nD τ).loc main_arg7)) := by
  refine (dats m hO 0 c).arrAt_eq_of_covers 11 _ (covers_11 m hO) fun t hf y => ?_
  blk_simp
  rw [after0_11]
  unfold outsAt0
  frame_out
  pointwise [k0_pay4, k0_pay5, k0_pay6]
  exact (congrArg₂ (· + ·) (read_6 m hO c t y) (read_7 m hO c t y)).trans (sum_11 m hO (m ((c : Thread nD τ).loc main_arg6)) (m ((c : Thread nD τ).loc main_arg7)) t y)

/-- The reference's rounded sum of `w_out` at an element. -/
theorem ref_15 (x0 : (⟨S8x128x1024, .f32⟩ : BufTy).Contents (Elt Ideal)) (x1 : (⟨S4x128x1024, .f32⟩ : BufTy).Contents (Elt Ideal)) (j : S4x128x1024.Idx) :
    (Cert.ReferenceSibMixIdeal.Read.val_main_v11 (F := Ideal) x0 x1 j : EReal) = (x0 (ix3 (even (j 0)) (j 1) (j 2)) + x1 j : EReal) := by
  refine congrArg (fun i : S8x128x1024.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_15 (t : Fin (cfgM m hO).N) : ((cfgM m hO).win 15).index t = ![t.val / 2, t.val % 2, 0] := by
  revert t
  unfold cfgM; rw [adm_eq]
  exact (by decide +kernel : ∀ t : Fin grid0.N, ((cfg0 (F := Ideal) ⟨coreI, okcI⟩).win 15).index t = ![t.val / 2, t.val % 2, 0])

/-- Every block of the result is written. -/
theorem covers_15 : ((cfgM m hO).win 15).Covers := by
  unfold cfgM; rw [adm_eq]; decide +kernel

theorem place_15 (t : Fin (cfgM m hO).N) (y : S1x64x1024.Idx) :
    (((cfgM m hO).win 15).blk t).view.emb y = (ix3 (chip m hO t) (row_3 m hO t (y 1)) (y 2) : S4x128x1024.Idx) := by
  have h (a : Fin 3) := Pipeline.Window.rect_emb_val ((cfgM m hO).win 15) t y a rfl
  rw [index_15 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 1024 + (y 2).val = (y 2).val
              omega

/-- The sum of the two blocks that step `t` reads is the reference's rounded sum at the place it is written to. -/
theorem sum_15 (x0 : (⟨S8x128x1024, .f32⟩ : BufTy).Contents (Elt Ideal)) (x1 : (⟨S4x128x1024, .f32⟩ : BufTy).Contents (Elt Ideal)) (t : Fin (cfgM m hO).N) (y : S1x64x1024.Idx) :
    (x0 (ix3 (even (chip m hO t)) (row_3 m hO t (y 1)) (y 2)) + x1 (ix3 (chip m hO t) (row_3 m hO t (y 1)) (y 2)) : EReal)
      = Cert.ReferenceSibMixIdeal.Read.val_main_v11 (F := Ideal) x0 x1 ((((cfgM m hO).win 15).blk t).view.emb y) :=
  (ref_15 x0 x1 (ix3 (chip m hO t) (row_3 m hO t (y 1)) (y 2))).symm.trans
    (congrArg (Cert.ReferenceSibMixIdeal.Read.val_main_v11 (F := Ideal) x0 x1) (place_15 m hO t y).symm)

/-- The rounded sum of `w_out` is the reference's. -/
theorem final_15 (c : Dev nD) : (dats m hO 0 c).arrAt 15 (cfgM m hO).N
    = Cert.ReferenceSibMixIdeal.Read.val_main_v11 (F := Ideal) (m ((c : Thread nD τ).loc main_arg6)) (m ((c : Thread nD τ).loc main_arg7)) := by
  refine (dats m hO 0 c).arrAt_eq_of_covers 15 _ (covers_15 m hO) fun t hf y => ?_
  blk_simp
  rw [after0_15]
  unfold outsAt0
  frame_out
  pointwise [k0_pay4, k0_pay5, k0_pay6]
  exact (congrArg₂ (· + ·) (read_6 m hO c t y) (read_7 m hO c t y)).trans (sum_15 m hO (m ((c : Thread nD τ).loc main_arg6)) (m ((c : Thread nD τ).loc main_arg7)) t y)

end Reals

/-- The kernel leaves its arguments and its counters as they were. -/
theorem frame_Kernel : Cert.quiescent_KernelSibMix := fun m ρ _ => Cert.KernelSibMix.Gen.frame m ρ (ok m)

theorem frame_KernelIdeal : Cert.quiescent_KernelSibMixIdeal := fun m ρ _ => Cert.KernelSibMixIdeal.Gen.frame m ρ (okI m)

theorem frame_Reference : Cert.quiescent_ReferenceSibMixIdeal := fun m g _ =>
  (θ_run Cert.ReferenceSibMixIdeal.defs _ _).mono (fun r h => ⟨fun c => (h c).2.2.2.2.2.2.2.2, sem_eq_zero_of_no_sems (by decide) r.2⟩)
    (Cert.ReferenceSibMixIdeal.Value.run (F := Ideal) m g)

/-- Each of the results is the reference's. -/
theorem value : Cert.algebraic_KernelSibMixIdeal_ReferenceSibMixIdeal := by
  intro m g m' g' _ hagree
  refine ⟨fun c => (Cert.KernelSibMixIdeal.Gen.dats m (okI m) 0 c).arrAt 8 (Cert.KernelSibMixIdeal.Gen.cfgM m (okI m)).N,
    fun c => (Cert.KernelSibMixIdeal.Gen.dats m (okI m) 0 c).arrAt 9 (Cert.KernelSibMixIdeal.Gen.cfgM m (okI m)).N,
    fun c => (Cert.KernelSibMixIdeal.Gen.dats m (okI m) 0 c).arrAt 10 (Cert.KernelSibMixIdeal.Gen.cfgM m (okI m)).N,
    fun c => (Cert.KernelSibMixIdeal.Gen.dats m (okI m) 0 c).arrAt 11 (Cert.KernelSibMixIdeal.Gen.cfgM m (okI m)).N,
    fun c => (Cert.KernelSibMixIdeal.Gen.dats m (okI m) 0 c).arrAt 12 (Cert.KernelSibMixIdeal.Gen.cfgM m (okI m)).N,
    fun c => (Cert.KernelSibMixIdeal.Gen.dats m (okI m) 0 c).arrAt 13 (Cert.KernelSibMixIdeal.Gen.cfgM m (okI m)).N,
    fun c => (Cert.KernelSibMixIdeal.Gen.dats m (okI m) 0 c).arrAt 14 (Cert.KernelSibMixIdeal.Gen.cfgM m (okI m)).N,
    fun c => (Cert.KernelSibMixIdeal.Gen.dats m (okI m) 0 c).arrAt 15 (Cert.KernelSibMixIdeal.Gen.cfgM m (okI m)).N, ?_, ?_⟩
  · exact (θ_run Cert.KernelSibMixIdeal.defs _ _).mono (fun r h c => ⟨(h.2 c).1 8, (h.2 c).1 9, (h.2 c).1 10, (h.2 c).1 11, (h.2 c).1 12, (h.2 c).1 13, (h.2 c).1 14, (h.2 c).1 15, h.1 c⟩)
      (θ_run_and (Cert.KernelSibMixIdeal.Gen.unchanged m g (okI m)) (Cert.KernelSibMixIdeal.Gen.run_main m g (okI m)))
  · refine (θ_run Cert.ReferenceSibMixIdeal.defs _ _).mono (fun r h c => ?_) (Cert.ReferenceSibMixIdeal.Value.run (F := Ideal) m' g')
    obtain ⟨a0, a1, a2, a3, a4, a5, a6, a7⟩ := hagree c
    exact ⟨(h c).1.trans ((Cert.ReferenceSibMixIdeal.Read.val_main_v1_eq _ _).trans (Eq.trans (by rw [a0, a1]) (final_8 m (okI m) c).symm)),
      (h c).2.1.trans ((Cert.ReferenceSibMixIdeal.Read.val_main_v3_eq _ _).trans (Eq.trans (by rw [a2, a3]) (final_9 m (okI m) c).symm)),
      (h c).2.2.1.trans ((Cert.ReferenceSibMixIdeal.Read.val_main_v5_eq _ _).trans (Eq.trans (by rw [a4, a5]) (final_10 m (okI m) c).symm)),
      (h c).2.2.2.1.trans ((Cert.ReferenceSibMixIdeal.Read.val_main_v7_eq _ _).trans (Eq.trans (by rw [a6, a7]) (final_11 m (okI m) c).symm)),
      (h c).2.2.2.2.1.trans ((Cert.ReferenceSibMixIdeal.Read.val_main_v8_eq _ _).trans (Eq.trans (by rw [a0, a1]) (final_12 m (okI m) c).symm)),
      (h c).2.2.2.2.2.1.trans ((Cert.ReferenceSibMixIdeal.Read.val_main_v9_eq _ _).trans (Eq.trans (by rw [a2, a3]) (final_13 m (okI m) c).symm)),
      (h c).2.2.2.2.2.2.1.trans ((Cert.ReferenceSibMixIdeal.Read.val_main_v10_eq _ _).trans (Eq.trans (by rw [a4, a5]) (final_14 m (okI m) c).symm)),
      (h c).2.2.2.2.2.2.2.1.trans ((Cert.ReferenceSibMixIdeal.Read.val_main_v11_eq _ _).trans (Eq.trans (by rw [a6, a7]) (final_15 m (okI m) c).symm)), (h c).2.2.2.2.2.2.2.2⟩

end Cert.SibMix

end
-- ==== Proof.SibFfn.lean ====
module

public import proofs.«01_k».proof.Defs
public import proofs.«01_k».proof.Proof.Gen.KernelSibFfn.Frame
public import proofs.«01_k».proof.Proof.Gen.KernelSibFfnIdeal.Frame
public import proofs.«01_k».proof.Proof.Gen.ReferenceSibFfnIdeal.Read
public import proofs.«01_k».proof.Proof.Gen.ReferenceSibFfnIdeal.Run
public import Idealize.ShloMosaic.Lib.Pipeline.ValueKit
public import Idealize.ShloMosaic.Lib.Pointwise
public import Idealize.ShloMosaic.Lib.Claim

/-! The gradients of `w_ffn_in` and `w_ffn_out`: of each, the device's own blocks for the four chips added to the other core's, and the sums rounded for sending. -/

@[expose] public section

set_option maxRecDepth 16384

noncomputable section

open Idealize.ShloMosaic Idealize.ShloMosaic.TcCoe Idealize.SL.Sem
open scoped BigOperators

namespace Cert.SibFfn

section Words
open Cert.KernelSibFfn Cert.KernelSibFfn.Gen

/-- The number of its core that device 0 hands the call. -/
def core : pre0.Contents (Elt Bits) := fun | ⟨0, _⟩ => fun _ => 0#32 | ⟨_ + 1, h⟩ => absurd h (by simp)

/-- The table that the host's operations fill holds it. -/
theorem table (m : (ℓ : Loc nD τ sig) → Buf (Elt Bits) ℓ) : tbl m = core := by
  funext j x
  match j with
  | ⟨0, _⟩ => rfl

/-- For this core every block lies in its array. -/
theorem okc : ok0 core := by decide

/-- So it does at every launch. -/
theorem ok (m : (ℓ : Loc nD τ sig) → Buf (Elt Bits) ℓ) : Ok m := by
  unfold Ok; rw [table m]; exact okc

end Words

section Reals
open Cert.KernelSibFfnIdeal Cert.KernelSibFfnIdeal.Gen

/-- The number of its core that device 0 hands the call. -/
def coreI : pre0.Contents (Elt Ideal) := fun | ⟨0, _⟩ => fun _ => 0#32 | ⟨_ + 1, h⟩ => absurd h (by simp)

/-- The table that the host's operations fill holds it. -/
theorem tableI (m : (ℓ : Loc nD τ sig) → Buf (Elt Ideal) ℓ) : tbl m = coreI := by
  funext j x
  match j with
  | ⟨0, _⟩ => rfl

/-- For this core every block lies in its array. -/
theorem okcI : ok0 coreI := by decide

/-- So it does at every launch. -/
theorem okI (m : (ℓ : Loc nD τ sig) → Buf (Elt Ideal) ℓ) : Ok m := by
  unfold Ok; rw [tableI m]; exact okcI

variable (m : (ℓ : Loc nD τ sig) → Buf (Elt Ideal) ℓ) (hO : Ok m)

/-- The launch is the one for this core. -/
theorem adm_eq : adm m hO = ⟨coreI, okcI⟩ := Subtype.ext (tableI m)

/-- There are eight steps: two for each chip. -/
theorem at_lt (t : Fin (cfgM m hO).N) : t.val < 8 := t.isLt

/-- The chip whose block step `t` sums. -/
def chip (t : Fin (cfgM m hO).N) : Fin 4 := ⟨t.val / 2, by have := at_lt m hO t; omega⟩

/-- The place of a chip's block for this core among the eight. -/
def even (s : Fin 4) : Fin 8 := ⟨2 * s.val, by have := s.isLt; omega⟩

/-- The row of a chip's block of `w_ffn_in` that row `k` of the block at step `t` is. -/
def row_0 (t : Fin (cfgM m hO).N) (k : Fin 256) : Fin 512 := ⟨t.val % 2 * 256 + k.val, by have := k.isLt; have := Nat.mod_lt t.val (by decide : 0 < 2); omega⟩

theorem index_0 (t : Fin (cfgM m hO).N) : ((cfgM m hO).win 0).index t = ![2 * (t.val / 2), t.val % 2, 0] := by
  revert t
  unfold cfgM; rw [adm_eq]
  exact (by decide +kernel : ∀ t : Fin grid0.N, ((cfg0 (F := Ideal) ⟨coreI, okcI⟩).win 0).index t = ![2 * (t.val / 2), t.val % 2, 0])

/-- What step `t` reads of `w_ffn_in`'s own blocks. -/
theorem read_0 (c : Dev nD) (t : Fin (cfgM m hO).N) (y : S1x256x1408.Idx) :
    (ms0_0 m hO t).view.read (Elt Ideal) ((hs0_0 m hO t).unread (iblk m hO c 0 t)) y
      = m ((c : Thread nD τ).loc main_arg0) (ix3 (even (chip m hO t) : Fin 8) (row_0 m hO t (y 1)) (y 2) : S8x512x1408.Idx) := by
  refine (congrFun ((hs0_0 m hO t).read_unread (iblk m hO c 0 t)) y).trans ?_
  show V m c main_arg0 ((((cfgM m hO).win 0).blk t).view.emb y) = _
  rw [V_main_arg0]
  refine congrArg (m ((c : Thread nD τ).loc main_arg0)) (funext fun a => Fin.ext ?_)
  refine (Pipeline.Window.rect_emb_val ((cfgM m hO).win 0) t y a rfl).trans ?_
  rw [index_0 m hO t]
  match a with
  | ⟨0, _⟩ => have h : (y 0).val < 1 := (y 0).isLt
              show 2 * (t.val / 2) * 1 + (y 0).val = 2 * (t.val / 2)
              omega
  | ⟨1, _⟩ => rfl
  | ⟨2, _⟩ => show 0 * 1408 + (y 2).val = (y 2).val
              omega

theorem index_1 (t : Fin (cfgM m hO).N) : ((cfgM m hO).win 1).index t = ![t.val / 2, t.val % 2, 0] := by
  revert t
  unfold cfgM; rw [adm_eq]
  exact (by decide +kernel : ∀ t : Fin grid0.N, ((cfg0 (F := Ideal) ⟨coreI, okcI⟩).win 1).index t = ![t.val / 2, t.val % 2, 0])

/-- What step `t` reads of `w_ffn_in`'s other core's blocks. -/
theorem read_1 (c : Dev nD) (t : Fin (cfgM m hO).N) (y : S1x256x1408.Idx) :
    (ms0_1 m hO t).view.read (Elt Ideal) ((hs0_1 m hO t).unread (iblk m hO c 1 t)) y
      = m ((c : Thread nD τ).loc main_arg1) (ix3 (chip m hO t : Fin 4) (row_0 m hO t (y 1)) (y 2) : S4x512x1408.Idx) := by
  refine (congrFun ((hs0_1 m hO t).read_unread (iblk m hO c 1 t)) y).trans ?_
  show V m c main_arg1 ((((cfgM m hO).win 1).blk t).view.emb y) = _
  rw [V_main_arg1]
  refine congrArg (m ((c : Thread nD τ).loc main_arg1)) (funext fun a => Fin.ext ?_)
  refine (Pipeline.Window.rect_emb_val ((cfgM m hO).win 1) t y a rfl).trans ?_
  rw [index_1 m hO t]
  match a with
  | ⟨0, _⟩ => have h : (y 0).val < 1 := (y 0).isLt
              show t.val / 2 * 1 + (y 0).val = t.val / 2
              omega
  | ⟨1, _⟩ => rfl
  | ⟨2, _⟩ => show 0 * 1408 + (y 2).val = (y 2).val
              omega

/-- The reference's sum of `w_ffn_in` at an element. -/
theorem ref_4 (x0 : (⟨S8x512x1408, .f32⟩ : BufTy).Contents (Elt Ideal)) (x1 : (⟨S4x512x1408, .f32⟩ : BufTy).Contents (Elt Ideal)) (j : S4x512x1408.Idx) :
    (Cert.ReferenceSibFfnIdeal.Read.val_main_v1 (F := Ideal) x0 x1 j : EReal) = (x0 (ix3 (even (j 0)) (j 1) (j 2)) + x1 j : EReal) := by
  refine congrArg (fun i : S8x512x1408.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_4 (t : Fin (cfgM m hO).N) : ((cfgM m hO).win 4).index t = ![t.val / 2, t.val % 2, 0] := by
  revert t
  unfold cfgM; rw [adm_eq]
  exact (by decide +kernel : ∀ t : Fin grid0.N, ((cfg0 (F := Ideal) ⟨coreI, okcI⟩).win 4).index t = ![t.val / 2, t.val % 2, 0])

/-- Every block of the result is written. -/
theorem covers_4 : ((cfgM m hO).win 4).Covers := by
  unfold cfgM; rw [adm_eq]; decide +kernel

theorem place_4 (t : Fin (cfgM m hO).N) (y : S1x256x1408.Idx) :
    (((cfgM m hO).win 4).blk t).view.emb y = (ix3 (chip m hO t) (row_0 m hO t (y 1)) (y 2) : S4x512x1408.Idx) := by
  have h (a : Fin 3) := Pipeline.Window.rect_emb_val ((cfgM m hO).win 4) t y a rfl
  rw [index_4 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 1408 + (y 2).val = (y 2).val
              omega

/-- The sum of the two blocks that step `t` reads is the reference's sum at the place it is written to. -/
theorem sum_4 (x0 : (⟨S8x512x1408, .f32⟩ : BufTy).Contents (Elt Ideal)) (x1 : (⟨S4x512x1408, .f32⟩ : BufTy).Contents (Elt Ideal)) (t : Fin (cfgM m hO).N) (y : S1x256x1408.Idx) :
    (x0 (ix3 (even (chip m hO t)) (row_0 m hO t (y 1)) (y 2)) + x1 (ix3 (chip m hO t) (row_0 m hO t (y 1)) (y 2)) : EReal)
      = Cert.ReferenceSibFfnIdeal.Read.val_main_v1 (F := Ideal) x0 x1 ((((cfgM m hO).win 4).blk t).view.emb y) :=
  (ref_4 x0 x1 (ix3 (chip m hO t) (row_0 m hO t (y 1)) (y 2))).symm.trans
    (congrArg (Cert.ReferenceSibFfnIdeal.Read.val_main_v1 (F := Ideal) x0 x1) (place_4 m hO t y).symm)

/-- The sum of `w_ffn_in` is the reference's. -/
theorem final_4 (c : Dev nD) : (dats m hO 0 c).arrAt 4 (cfgM m hO).N
    = Cert.ReferenceSibFfnIdeal.Read.val_main_v1 (F := Ideal) (m ((c : Thread nD τ).loc main_arg0)) (m ((c : Thread nD τ).loc main_arg1)) := by
  refine (dats m hO 0 c).arrAt_eq_of_covers 4 _ (covers_4 m hO) fun t hf y => ?_
  blk_simp
  rw [after0_4]
  unfold outsAt0
  frame_out
  pointwise [k0_pay1, k0_pay2, k0_pay3]
  exact (congrArg₂ (· + ·) (read_0 m hO c t y) (read_1 m hO c t y)).trans (sum_4 m hO (m ((c : Thread nD τ).loc main_arg0)) (m ((c : Thread nD τ).loc main_arg1)) t y)

/-- The reference's rounded sum of `w_ffn_in` at an element. -/
theorem ref_6 (x0 : (⟨S8x512x1408, .f32⟩ : BufTy).Contents (Elt Ideal)) (x1 : (⟨S4x512x1408, .f32⟩ : BufTy).Contents (Elt Ideal)) (j : S4x512x1408.Idx) :
    (Cert.ReferenceSibFfnIdeal.Read.val_main_v4 (F := Ideal) x0 x1 j : EReal) = (x0 (ix3 (even (j 0)) (j 1) (j 2)) + x1 j : EReal) := by
  refine congrArg (fun i : S8x512x1408.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_6 (t : Fin (cfgM m hO).N) : ((cfgM m hO).win 6).index t = ![t.val / 2, t.val % 2, 0] := by
  revert t
  unfold cfgM; rw [adm_eq]
  exact (by decide +kernel : ∀ t : Fin grid0.N, ((cfg0 (F := Ideal) ⟨coreI, okcI⟩).win 6).index t = ![t.val / 2, t.val % 2, 0])

/-- Every block of the result is written. -/
theorem covers_6 : ((cfgM m hO).win 6).Covers := by
  unfold cfgM; rw [adm_eq]; decide +kernel

theorem place_6 (t : Fin (cfgM m hO).N) (y : S1x256x1408.Idx) :
    (((cfgM m hO).win 6).blk t).view.emb y = (ix3 (chip m hO t) (row_0 m hO t (y 1)) (y 2) : S4x512x1408.Idx) := by
  have h (a : Fin 3) := Pipeline.Window.rect_emb_val ((cfgM m hO).win 6) t y a rfl
  rw [index_6 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 1408 + (y 2).val = (y 2).val
              omega

/-- The sum of the two blocks that step `t` reads is the reference's rounded sum at the place it is written to. -/
theorem sum_6 (x0 : (⟨S8x512x1408, .f32⟩ : BufTy).Contents (Elt Ideal)) (x1 : (⟨S4x512x1408, .f32⟩ : BufTy).Contents (Elt Ideal)) (t : Fin (cfgM m hO).N) (y : S1x256x1408.Idx) :
    (x0 (ix3 (even (chip m hO t)) (row_0 m hO t (y 1)) (y 2)) + x1 (ix3 (chip m hO t) (row_0 m hO t (y 1)) (y 2)) : EReal)
      = Cert.ReferenceSibFfnIdeal.Read.val_main_v4 (F := Ideal) x0 x1 ((((cfgM m hO).win 6).blk t).view.emb y) :=
  (ref_6 x0 x1 (ix3 (chip m hO t) (row_0 m hO t (y 1)) (y 2))).symm.trans
    (congrArg (Cert.ReferenceSibFfnIdeal.Read.val_main_v4 (F := Ideal) x0 x1) (place_6 m hO t y).symm)

/-- The rounded sum of `w_ffn_in` is the reference's. -/
theorem final_6 (c : Dev nD) : (dats m hO 0 c).arrAt 6 (cfgM m hO).N
    = Cert.ReferenceSibFfnIdeal.Read.val_main_v4 (F := Ideal) (m ((c : Thread nD τ).loc main_arg0)) (m ((c : Thread nD τ).loc main_arg1)) := by
  refine (dats m hO 0 c).arrAt_eq_of_covers 6 _ (covers_6 m hO) fun t hf y => ?_
  blk_simp
  rw [after0_6]
  unfold outsAt0
  frame_out
  pointwise [k0_pay1, k0_pay2, k0_pay3]
  exact (congrArg₂ (· + ·) (read_0 m hO c t y) (read_1 m hO c t y)).trans (sum_6 m hO (m ((c : Thread nD τ).loc main_arg0)) (m ((c : Thread nD τ).loc main_arg1)) t y)

/-- The row of a chip's block of `w_ffn_out` that row `k` of the block at step `t` is. -/
def row_1 (t : Fin (cfgM m hO).N) (k : Fin 176) : Fin 352 := ⟨t.val % 2 * 176 + k.val, by have := k.isLt; have := Nat.mod_lt t.val (by decide : 0 < 2); omega⟩

theorem index_2 (t : Fin (cfgM m hO).N) : ((cfgM m hO).win 2).index t = ![2 * (t.val / 2), t.val % 2, 0] := by
  revert t
  unfold cfgM; rw [adm_eq]
  exact (by decide +kernel : ∀ t : Fin grid0.N, ((cfg0 (F := Ideal) ⟨coreI, okcI⟩).win 2).index t = ![2 * (t.val / 2), t.val % 2, 0])

/-- What step `t` reads of `w_ffn_out`'s own blocks. -/
theorem read_2 (c : Dev nD) (t : Fin (cfgM m hO).N) (y : S1x176x1024.Idx) :
    (ms0_2 m hO t).view.read (Elt Ideal) ((hs0_2 m hO t).unread (iblk m hO c 2 t)) y
      = m ((c : Thread nD τ).loc main_arg2) (ix3 (even (chip m hO t) : Fin 8) (row_1 m hO t (y 1)) (y 2) : S8x352x1024.Idx) := by
  refine (congrFun ((hs0_2 m hO t).read_unread (iblk m hO c 2 t)) y).trans ?_
  show V m c main_arg2 ((((cfgM m hO).win 2).blk t).view.emb y) = _
  rw [V_main_arg2]
  refine congrArg (m ((c : Thread nD τ).loc main_arg2)) (funext fun a => Fin.ext ?_)
  refine (Pipeline.Window.rect_emb_val ((cfgM m hO).win 2) t y a rfl).trans ?_
  rw [index_2 m hO t]
  match a with
  | ⟨0, _⟩ => have h : (y 0).val < 1 := (y 0).isLt
              show 2 * (t.val / 2) * 1 + (y 0).val = 2 * (t.val / 2)
              omega
  | ⟨1, _⟩ => rfl
  | ⟨2, _⟩ => show 0 * 1024 + (y 2).val = (y 2).val
              omega

theorem index_3 (t : Fin (cfgM m hO).N) : ((cfgM m hO).win 3).index t = ![t.val / 2, t.val % 2, 0] := by
  revert t
  unfold cfgM; rw [adm_eq]
  exact (by decide +kernel : ∀ t : Fin grid0.N, ((cfg0 (F := Ideal) ⟨coreI, okcI⟩).win 3).index t = ![t.val / 2, t.val % 2, 0])

/-- What step `t` reads of `w_ffn_out`'s other core's blocks. -/
theorem read_3 (c : Dev nD) (t : Fin (cfgM m hO).N) (y : S1x176x1024.Idx) :
    (ms0_3 m hO t).view.read (Elt Ideal) ((hs0_3 m hO t).unread (iblk m hO c 3 t)) y
      = m ((c : Thread nD τ).loc main_arg3) (ix3 (chip m hO t : Fin 4) (row_1 m hO t (y 1)) (y 2) : S4x352x1024.Idx) := by
  refine (congrFun ((hs0_3 m hO t).read_unread (iblk m hO c 3 t)) y).trans ?_
  show V m c main_arg3 ((((cfgM m hO).win 3).blk t).view.emb y) = _
  rw [V_main_arg3]
  refine congrArg (m ((c : Thread nD τ).loc main_arg3)) (funext fun a => Fin.ext ?_)
  refine (Pipeline.Window.rect_emb_val ((cfgM m hO).win 3) t y a rfl).trans ?_
  rw [index_3 m hO t]
  match a with
  | ⟨0, _⟩ => have h : (y 0).val < 1 := (y 0).isLt
              show t.val / 2 * 1 + (y 0).val = t.val / 2
              omega
  | ⟨1, _⟩ => rfl
  | ⟨2, _⟩ => show 0 * 1024 + (y 2).val = (y 2).val
              omega

/-- The reference's sum of `w_ffn_out` at an element. -/
theorem ref_5 (x0 : (⟨S8x352x1024, .f32⟩ : BufTy).Contents (Elt Ideal)) (x1 : (⟨S4x352x1024, .f32⟩ : BufTy).Contents (Elt Ideal)) (j : S4x352x1024.Idx) :
    (Cert.ReferenceSibFfnIdeal.Read.val_main_v3 (F := Ideal) x0 x1 j : EReal) = (x0 (ix3 (even (j 0)) (j 1) (j 2)) + x1 j : EReal) := by
  refine congrArg (fun i : S8x352x1024.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_5 (t : Fin (cfgM m hO).N) : ((cfgM m hO).win 5).index t = ![t.val / 2, t.val % 2, 0] := by
  revert t
  unfold cfgM; rw [adm_eq]
  exact (by decide +kernel : ∀ t : Fin grid0.N, ((cfg0 (F := Ideal) ⟨coreI, okcI⟩).win 5).index t = ![t.val / 2, t.val % 2, 0])

/-- Every block of the result is written. -/
theorem covers_5 : ((cfgM m hO).win 5).Covers := by
  unfold cfgM; rw [adm_eq]; decide +kernel

theorem place_5 (t : Fin (cfgM m hO).N) (y : S1x176x1024.Idx) :
    (((cfgM m hO).win 5).blk t).view.emb y = (ix3 (chip m hO t) (row_1 m hO t (y 1)) (y 2) : S4x352x1024.Idx) := by
  have h (a : Fin 3) := Pipeline.Window.rect_emb_val ((cfgM m hO).win 5) t y a rfl
  rw [index_5 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 1024 + (y 2).val = (y 2).val
              omega

/-- The sum of the two blocks that step `t` reads is the reference's sum at the place it is written to. -/
theorem sum_5 (x0 : (⟨S8x352x1024, .f32⟩ : BufTy).Contents (Elt Ideal)) (x1 : (⟨S4x352x1024, .f32⟩ : BufTy).Contents (Elt Ideal)) (t : Fin (cfgM m hO).N) (y : S1x176x1024.Idx) :
    (x0 (ix3 (even (chip m hO t)) (row_1 m hO t (y 1)) (y 2)) + x1 (ix3 (chip m hO t) (row_1 m hO t (y 1)) (y 2)) : EReal)
      = Cert.ReferenceSibFfnIdeal.Read.val_main_v3 (F := Ideal) x0 x1 ((((cfgM m hO).win 5).blk t).view.emb y) :=
  (ref_5 x0 x1 (ix3 (chip m hO t) (row_1 m hO t (y 1)) (y 2))).symm.trans
    (congrArg (Cert.ReferenceSibFfnIdeal.Read.val_main_v3 (F := Ideal) x0 x1) (place_5 m hO t y).symm)

/-- The sum of `w_ffn_out` is the reference's. -/
theorem final_5 (c : Dev nD) : (dats m hO 0 c).arrAt 5 (cfgM m hO).N
    = Cert.ReferenceSibFfnIdeal.Read.val_main_v3 (F := Ideal) (m ((c : Thread nD τ).loc main_arg2)) (m ((c : Thread nD τ).loc main_arg3)) := by
  refine (dats m hO 0 c).arrAt_eq_of_covers 5 _ (covers_5 m hO) fun t hf y => ?_
  blk_simp
  rw [after0_5]
  unfold outsAt0
  frame_out
  pointwise [k0_pay4, k0_pay5, k0_pay6]
  exact (congrArg₂ (· + ·) (read_2 m hO c t y) (read_3 m hO c t y)).trans (sum_5 m hO (m ((c : Thread nD τ).loc main_arg2)) (m ((c : Thread nD τ).loc main_arg3)) t y)

/-- The reference's rounded sum of `w_ffn_out` at an element. -/
theorem ref_7 (x0 : (⟨S8x352x1024, .f32⟩ : BufTy).Contents (Elt Ideal)) (x1 : (⟨S4x352x1024, .f32⟩ : BufTy).Contents (Elt Ideal)) (j : S4x352x1024.Idx) :
    (Cert.ReferenceSibFfnIdeal.Read.val_main_v5 (F := Ideal) x0 x1 j : EReal) = (x0 (ix3 (even (j 0)) (j 1) (j 2)) + x1 j : EReal) := by
  refine congrArg (fun i : S8x352x1024.Idx => (x0 i + x1 j : EReal)) (funext fun a => Fin.ext ?_)
  match a with
  | ⟨0, _⟩ => show 0 + 2 * (j 0).val = 2 * (j 0).val
              omega
  | ⟨1, _⟩ => show 0 + 1 * (j 1).val = (j 1).val
              omega
  | ⟨2, _⟩ => show 0 + 1 * (j 2).val = (j 2).val
              omega

theorem index_7 (t : Fin (cfgM m hO).N) : ((cfgM m hO).win 7).index t = ![t.val / 2, t.val % 2, 0] := by
  revert t
  unfold cfgM; rw [adm_eq]
  exact (by decide +kernel : ∀ t : Fin grid0.N, ((cfg0 (F := Ideal) ⟨coreI, okcI⟩).win 7).index t = ![t.val / 2, t.val % 2, 0])

/-- Every block of the result is written. -/
theorem covers_7 : ((cfgM m hO).win 7).Covers := by
  unfold cfgM; rw [adm_eq]; decide +kernel

theorem place_7 (t : Fin (cfgM m hO).N) (y : S1x176x1024.Idx) :
    (((cfgM m hO).win 7).blk t).view.emb y = (ix3 (chip m hO t) (row_1 m hO t (y 1)) (y 2) : S4x352x1024.Idx) := by
  have h (a : Fin 3) := Pipeline.Window.rect_emb_val ((cfgM m hO).win 7) t y a rfl
  rw [index_7 m hO t] at h
  funext a
  match a with
  | ⟨0, _⟩ => refine Fin.ext ((h 0).trans ?_)
              have h : (y 0).val < 1 := (y 0).isLt
              show t.val / 2 * 1 + (y 0).val = t.val / 2
              omega
  | ⟨1, _⟩ => exact Fin.ext (h 1)
  | ⟨2, _⟩ => refine Fin.ext ((h 2).trans ?_)
              show 0 * 1024 + (y 2).val = (y 2).val
              omega

/-- The sum of the two blocks that step `t` reads is the reference's rounded sum at the place it is written to. -/
theorem sum_7 (x0 : (⟨S8x352x1024, .f32⟩ : BufTy).Contents (Elt Ideal)) (x1 : (⟨S4x352x1024, .f32⟩ : BufTy).Contents (Elt Ideal)) (t : Fin (cfgM m hO).N) (y : S1x176x1024.Idx) :
    (x0 (ix3 (even (chip m hO t)) (row_1 m hO t (y 1)) (y 2)) + x1 (ix3 (chip m hO t) (row_1 m hO t (y 1)) (y 2)) : EReal)
      = Cert.ReferenceSibFfnIdeal.Read.val_main_v5 (F := Ideal) x0 x1 ((((cfgM m hO).win 7).blk t).view.emb y) :=
  (ref_7 x0 x1 (ix3 (chip m hO t) (row_1 m hO t (y 1)) (y 2))).symm.trans
    (congrArg (Cert.ReferenceSibFfnIdeal.Read.val_main_v5 (F := Ideal) x0 x1) (place_7 m hO t y).symm)

/-- The rounded sum of `w_ffn_out` is the reference's. -/
theorem final_7 (c : Dev nD) : (dats m hO 0 c).arrAt 7 (cfgM m hO).N
    = Cert.ReferenceSibFfnIdeal.Read.val_main_v5 (F := Ideal) (m ((c : Thread nD τ).loc main_arg2)) (m ((c : Thread nD τ).loc main_arg3)) := by
  refine (dats m hO 0 c).arrAt_eq_of_covers 7 _ (covers_7 m hO) fun t hf y => ?_
  blk_simp
  rw [after0_7]
  unfold outsAt0
  frame_out
  pointwise [k0_pay4, k0_pay5, k0_pay6]
  exact (congrArg₂ (· + ·) (read_2 m hO c t y) (read_3 m hO c t y)).trans (sum_7 m hO (m ((c : Thread nD τ).loc main_arg2)) (m ((c : Thread nD τ).loc main_arg3)) t y)

end Reals

/-- The kernel leaves its arguments and its counters as they were. -/
theorem frame_Kernel : Cert.quiescent_KernelSibFfn := fun m ρ _ => Cert.KernelSibFfn.Gen.frame m ρ (ok m)

theorem frame_KernelIdeal : Cert.quiescent_KernelSibFfnIdeal := fun m ρ _ => Cert.KernelSibFfnIdeal.Gen.frame m ρ (okI m)

theorem frame_Reference : Cert.quiescent_ReferenceSibFfnIdeal := fun m g _ =>
  (θ_run Cert.ReferenceSibFfnIdeal.defs _ _).mono (fun r h => ⟨fun c => (h c).2.2.2.2, sem_eq_zero_of_no_sems (by decide) r.2⟩)
    (Cert.ReferenceSibFfnIdeal.Value.run (F := Ideal) m g)

/-- Each of the results is the reference's. -/
theorem value : Cert.algebraic_KernelSibFfnIdeal_ReferenceSibFfnIdeal := by
  intro m g m' g' _ hagree
  refine ⟨fun c => (Cert.KernelSibFfnIdeal.Gen.dats m (okI m) 0 c).arrAt 4 (Cert.KernelSibFfnIdeal.Gen.cfgM m (okI m)).N,
    fun c => (Cert.KernelSibFfnIdeal.Gen.dats m (okI m) 0 c).arrAt 5 (Cert.KernelSibFfnIdeal.Gen.cfgM m (okI m)).N,
    fun c => (Cert.KernelSibFfnIdeal.Gen.dats m (okI m) 0 c).arrAt 6 (Cert.KernelSibFfnIdeal.Gen.cfgM m (okI m)).N,
    fun c => (Cert.KernelSibFfnIdeal.Gen.dats m (okI m) 0 c).arrAt 7 (Cert.KernelSibFfnIdeal.Gen.cfgM m (okI m)).N, ?_, ?_⟩
  · exact (θ_run Cert.KernelSibFfnIdeal.defs _ _).mono (fun r h c => ⟨(h.2 c).1 4, (h.2 c).1 5, (h.2 c).1 6, (h.2 c).1 7, h.1 c⟩)
      (θ_run_and (Cert.KernelSibFfnIdeal.Gen.unchanged m g (okI m)) (Cert.KernelSibFfnIdeal.Gen.run_main m g (okI m)))
  · refine (θ_run Cert.ReferenceSibFfnIdeal.defs _ _).mono (fun r h c => ?_) (Cert.ReferenceSibFfnIdeal.Value.run (F := Ideal) m' g')
    obtain ⟨a0, a1, a2, a3⟩ := hagree c
    exact ⟨(h c).1.trans ((Cert.ReferenceSibFfnIdeal.Read.val_main_v1_eq _ _).trans (Eq.trans (by rw [a0, a1]) (final_4 m (okI m) c).symm)),
      (h c).2.1.trans ((Cert.ReferenceSibFfnIdeal.Read.val_main_v3_eq _ _).trans (Eq.trans (by rw [a2, a3]) (final_5 m (okI m) c).symm)),
      (h c).2.2.1.trans ((Cert.ReferenceSibFfnIdeal.Read.val_main_v4_eq _ _).trans (Eq.trans (by rw [a0, a1]) (final_6 m (okI m) c).symm)),
      (h c).2.2.2.1.trans ((Cert.ReferenceSibFfnIdeal.Read.val_main_v5_eq _ _).trans (Eq.trans (by rw [a2, a3]) (final_7 m (okI m) c).symm)), (h c).2.2.2.2⟩

end Cert.SibFfn

end
-- ==== Proof.AdaFwd.lean ====
module

public import proofs.«01_k».proof.Defs
public import proofs.«01_k».proof.Proof.Gen.KernelAdaFwdIdeal.Frame
public import proofs.«01_k».proof.Proof.Gen.ReferenceAdaFwdIdeal.Run
public import proofs.«01_k».proof.Proof.Gen.ReferenceAdaFwdIdeal.Read
public import Idealize.ShloMosaic.Lib.Pipeline.ValueKit
public import Idealize.ShloMosaic.Lib.Pointwise
public import Idealize.ShloMosaic.Lib.Claim

/-! The modulation: the product of the condition with a chip's columns of the weight, and the bias, by 512 columns a grid step. -/

@[expose] public section

set_option maxRecDepth 16384

noncomputable section

open Idealize.ShloMosaic Idealize.ShloMosaic.TcCoe Idealize.SL.Sem
open scoped BigOperators

namespace Cert.AdaFwd

open Cert.KernelAdaFwdIdeal Cert.KernelAdaFwdIdeal.Gen

variable (m : (ℓ : Loc nD τ sig) → Buf (Elt Ideal) ℓ)

/-- The modulation as the reference program computes it. -/
abbrev modulation := Cert.ReferenceAdaFwdIdeal.Read.val_main_v5 (F := Ideal)

/-- Which tile each window holds at each grid step. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The array that the call returns is the modulation. -/
theorem final (c : Dev nD) : (dats m 0 c).arrAt 3 (cfgs 0).N = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  canon_tiles y h
  pointwise [k0_pay1, modulation, Cert.ReferenceAdaFwdIdeal.Read.val_main_v5, Cert.ReferenceAdaFwdIdeal.Read.val_main_v4, Cert.ReferenceAdaFwdIdeal.Read.val_main_v3, Cert.ReferenceAdaFwdIdeal.Read.val_main_v2, Cert.ReferenceAdaFwdIdeal.Read.val_main_v1, Cert.ReferenceAdaFwdIdeal.Read.val_main_v0, Cert.ReferenceAdaFwdIdeal.Read.val_main_call0_v0, Cert.ReferenceAdaFwdIdeal.Read.val_main_call0_v1, Cert.ReferenceAdaFwdIdeal.Read.val_main_call0_v2, Cert.ReferenceAdaFwdIdeal.Read.val_main_call0_v3, Cert.ReferenceAdaFwdIdeal.Read.val_main_call0_v4, Cert.ReferenceAdaFwdIdeal.Read.val_main_call0_v5, Cert.ReferenceAdaFwdIdeal.Read.val_main_call0_cst, Cert.ReferenceAdaFwdIdeal.Read.val_main_call0_cst_0]
  refine congrArg₂ (· + ·) (Finset.sum_congr rfl fun k _ => ?_) ?_
  · simp only [Ideal.logistic]
    blk_point [iblk, V, idx t]
  · blk_point [iblk, V, idx t]

/-- The reference terminates and leaves everything in order. -/
theorem frame_Reference : Cert.quiescent_ReferenceAdaFwdIdeal := fun m g _ =>
  (θ_run Cert.ReferenceAdaFwdIdeal.defs _ _).mono (fun r h => ⟨fun c => (h c).2, sem_eq_zero_of_no_sems (by decide) r.2⟩)
    (Cert.ReferenceAdaFwdIdeal.Value.run (F := Ideal) m g)

/-- The call returns what its reference does. -/
theorem value : Cert.algebraic_KernelAdaFwdIdeal_ReferenceAdaFwdIdeal := by
  intro m g m' g' _ hagree
  refine ⟨fun c => (Cert.KernelAdaFwdIdeal.Gen.dats m 0 c).arrAt 3 (Cert.KernelAdaFwdIdeal.cfgs 0).N, ?_, ?_⟩
  · exact (θ_run Cert.KernelAdaFwdIdeal.defs _ _).mono (fun r h c => ⟨(h.2 c).1 3, h.1 c⟩)
      (θ_run_and (Cert.KernelAdaFwdIdeal.Gen.unchanged m g) (Cert.KernelAdaFwdIdeal.Gen.run_main m g))
  · refine (θ_run Cert.ReferenceAdaFwdIdeal.defs _ _).mono (fun r h c => ?_) (Cert.ReferenceAdaFwdIdeal.Value.run (F := Ideal) m' g')
    obtain ⟨a0, a1, a2⟩ := hagree c
    exact ⟨(h c).1.trans ((Cert.ReferenceAdaFwdIdeal.Read.val_main_v5_eq _ _ _).trans
      (Eq.trans (by rw [a0, a1, a2]) (final m c).symm)), (h c).2⟩

end Cert.AdaFwd

end
-- ==== Proof.lean ====
module

public import proofs.«01_k».proof.Defs
public import proofs.«01_k».proof.Proof.Gen.KernelFfnIn
public import proofs.«01_k».proof.Proof.Gen.KernelFfnIn.Frame
public import proofs.«01_k».proof.Proof.Gen.KernelFfnInIdeal
public import proofs.«01_k».proof.Proof.Gen.KernelFfnInIdeal.Frame
public import proofs.«01_k».proof.Proof.Gen.ReferenceFfnInIdeal
public import proofs.«01_k».proof.Proof.Gen.KernelFfnAct
public import proofs.«01_k».proof.Proof.Gen.KernelFfnAct.Frame
public import proofs.«01_k».proof.Proof.Gen.KernelFfnActIdeal
public import proofs.«01_k».proof.Proof.Gen.KernelFfnActIdeal.Frame
public import proofs.«01_k».proof.Proof.Gen.ReferenceFfnActIdeal
public import proofs.«01_k».proof.Proof.Gen.KernelFfnOutDw
public import proofs.«01_k».proof.Proof.Gen.KernelFfnOutDw.Frame
public import proofs.«01_k».proof.Proof.Gen.KernelFfnOutDwIdeal
public import proofs.«01_k».proof.Proof.Gen.KernelFfnOutDwIdeal.Frame
public import proofs.«01_k».proof.Proof.Gen.ReferenceFfnOutDwIdeal
public import proofs.«01_k».proof.Proof.Gen.KernelFfnInDx
public import proofs.«01_k».proof.Proof.Gen.KernelFfnInDx.Frame
public import proofs.«01_k».proof.Proof.Gen.KernelFfnInDxIdeal
public import proofs.«01_k».proof.Proof.Gen.KernelFfnInDxIdeal.Frame
public import proofs.«01_k».proof.Proof.Gen.ReferenceFfnInDxIdeal
public import proofs.«01_k».proof.Proof.Gen.KernelFfnInDw
public import proofs.«01_k».proof.Proof.Gen.KernelFfnInDw.Frame
public import proofs.«01_k».proof.Proof.Gen.KernelFfnInDwIdeal
public import proofs.«01_k».proof.Proof.Gen.KernelFfnInDwIdeal.Frame
public import proofs.«01_k».proof.Proof.Gen.ReferenceFfnInDwIdeal
public import proofs.«01_k».proof.Proof.Gen.KernelInDx
public import proofs.«01_k».proof.Proof.Gen.KernelInDx.Frame
public import proofs.«01_k».proof.Proof.Gen.KernelInDxIdeal
public import proofs.«01_k».proof.Proof.Gen.KernelInDxIdeal.Frame
public import proofs.«01_k».proof.Proof.Gen.ReferenceInDxIdeal
public import proofs.«01_k».proof.Proof.Gen.KernelInDw
public import proofs.«01_k».proof.Proof.Gen.KernelInDw.Frame
public import proofs.«01_k».proof.Proof.Gen.KernelInDwIdeal
public import proofs.«01_k».proof.Proof.Gen.KernelInDwIdeal.Frame
public import proofs.«01_k».proof.Proof.Gen.ReferenceInDwIdeal
public import proofs.«01_k».proof.Proof.Gen.KernelOutDw
public import proofs.«01_k».proof.Proof.Gen.KernelOutDw.Frame
public import proofs.«01_k».proof.Proof.Gen.KernelOutDwIdeal
public import proofs.«01_k».proof.Proof.Gen.KernelOutDwIdeal.Frame
public import proofs.«01_k».proof.Proof.Gen.ReferenceOutDwIdeal
public import proofs.«01_k».proof.Proof.Gen.KernelAdaBwd
public import proofs.«01_k».proof.Proof.Gen.KernelAdaBwd.Frame
public import proofs.«01_k».proof.Proof.Gen.KernelAdaBwdIdeal
public import proofs.«01_k».proof.Proof.Gen.KernelAdaBwdIdeal.Frame
public import proofs.«01_k».proof.Proof.Gen.ReferenceAdaBwdIdeal
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.KernelAdamB
public import proofs.«01_k».proof.Proof.Gen.KernelAdamB.Frame
public import proofs.«01_k».proof.Proof.Gen.KernelAdamBIdeal
public import proofs.«01_k».proof.Proof.Gen.KernelAdamBIdeal.Frame
public import proofs.«01_k».proof.Proof.Gen.ReferenceAdamBIdeal
public import proofs.«01_k».proof.Proof.Gen.KernelAdamW1
public import proofs.«01_k».proof.Proof.Gen.KernelAdamW1.Frame
public import proofs.«01_k».proof.Proof.Gen.KernelAdamW1Ideal
public import proofs.«01_k».proof.Proof.Gen.KernelAdamW1Ideal.Frame
public import proofs.«01_k».proof.Proof.Gen.ReferenceAdamW1Ideal
public import proofs.«01_k».proof.Proof.Gen.KernelAdamW2
public import proofs.«01_k».proof.Proof.Gen.KernelAdamW2.Frame
public import proofs.«01_k».proof.Proof.Gen.KernelAdamW2Ideal
public import proofs.«01_k».proof.Proof.Gen.KernelAdamW2Ideal.Frame
public import proofs.«01_k».proof.Proof.Gen.ReferenceAdamW2Ideal
public import proofs.«01_k».proof.Proof.Gen.KernelAdamW3
public import proofs.«01_k».proof.Proof.Gen.KernelAdamW3.Frame
public import proofs.«01_k».proof.Proof.Gen.KernelAdamW3Ideal
public import proofs.«01_k».proof.Proof.Gen.KernelAdamW3Ideal.Frame
public import proofs.«01_k».proof.Proof.Gen.ReferenceAdamW3Ideal
public import proofs.«01_k».proof.Proof.Gen.KernelFinalLoss
public import proofs.«01_k».proof.Proof.Gen.KernelFinalLoss.Frame
public import proofs.«01_k».proof.Proof.Gen.KernelFinalLossIdeal
public import proofs.«01_k».proof.Proof.Gen.KernelFinalLossIdeal.Frame
public import proofs.«01_k».proof.Proof.Gen.ReferenceFinalLossIdeal
public import proofs.«01_k».proof.Proof.Gen.KernelAdaln1
public import proofs.«01_k».proof.Proof.Gen.KernelAdaln1.Frame
public import proofs.«01_k».proof.Proof.Gen.KernelAdaln1Ideal
public import proofs.«01_k».proof.Proof.Gen.KernelAdaln1Ideal.Frame
public import proofs.«01_k».proof.Proof.Gen.ReferenceAdaln1Ideal
public import proofs.«01_k».proof.Proof.Gen.KernelAdaln2
public import proofs.«01_k».proof.Proof.Gen.KernelAdaln2.Frame
public import proofs.«01_k».proof.Proof.Gen.KernelAdaln2Ideal
public import proofs.«01_k».proof.Proof.Gen.KernelAdaln2Ideal.Frame
public import proofs.«01_k».proof.Proof.Gen.ReferenceAdaln2Ideal
public import proofs.«01_k».proof.Proof.Gen.KernelInProj
public import proofs.«01_k».proof.Proof.Gen.KernelInProj.Frame
public import proofs.«01_k».proof.Proof.Gen.KernelInProjIdeal
public import proofs.«01_k».proof.Proof.Gen.KernelInProjIdeal.Frame
public import proofs.«01_k».proof.Proof.Gen.ReferenceInProjIdeal
public import proofs.«01_k».proof.Proof.Gen.KernelMixerOut
public import proofs.«01_k».proof.Proof.Gen.KernelMixerOut.Frame
public import proofs.«01_k».proof.Proof.Gen.KernelMixerOutIdeal
public import proofs.«01_k».proof.Proof.Gen.KernelMixerOutIdeal.Frame
public import proofs.«01_k».proof.Proof.Gen.ReferenceMixerOutIdeal
public import proofs.«01_k».proof.Proof.Gen.KernelMixerOutBwd
public import proofs.«01_k».proof.Proof.Gen.KernelMixerOutBwd.Frame
public import proofs.«01_k».proof.Proof.Gen.KernelMixerOutBwdIdeal
public import proofs.«01_k».proof.Proof.Gen.KernelMixerOutBwdIdeal.Frame
public import proofs.«01_k».proof.Proof.Gen.ReferenceMixerOutBwdIdeal
public import proofs.«01_k».proof.Proof.Gen.KernelRsMix
public import proofs.«01_k».proof.Proof.Gen.KernelRsMix.Frame
public import proofs.«01_k».proof.Proof.Gen.KernelRsMixIdeal
public import proofs.«01_k».proof.Proof.Gen.KernelRsMixIdeal.Frame
public import proofs.«01_k».proof.Proof.Gen.ReferenceRsMixIdeal
public import proofs.«01_k».proof.Proof.Gen.KernelRsFfn
public import proofs.«01_k».proof.Proof.Gen.KernelRsFfn.Frame
public import proofs.«01_k».proof.Proof.Gen.KernelRsFfnIdeal
public import proofs.«01_k».proof.Proof.Gen.KernelRsFfnIdeal.Frame
public import proofs.«01_k».proof.Proof.Gen.ReferenceRsFfnIdeal
public import proofs.«01_k».proof.Proof.Gen.KernelSibMix
public import proofs.«01_k».proof.Proof.Gen.KernelSibMix.Frame
public import proofs.«01_k».proof.Proof.Gen.KernelSibMixIdeal
public import proofs.«01_k».proof.Proof.Gen.KernelSibMixIdeal.Frame
public import proofs.«01_k».proof.Proof.Gen.ReferenceSibMixIdeal
public import proofs.«01_k».proof.Proof.Gen.KernelSibFfn
public import proofs.«01_k».proof.Proof.Gen.KernelSibFfn.Frame
public import proofs.«01_k».proof.Proof.Gen.KernelSibFfnIdeal
public import proofs.«01_k».proof.Proof.Gen.KernelSibFfnIdeal.Frame
public import proofs.«01_k».proof.Proof.Gen.ReferenceSibFfnIdeal
public import proofs.«01_k».proof.Proof.Gen.KernelAdaFwd
public import proofs.«01_k».proof.Proof.Gen.KernelAdaFwd.Frame
public import proofs.«01_k».proof.Proof.Gen.KernelAdaFwdIdeal
public import proofs.«01_k».proof.Proof.Gen.KernelAdaFwdIdeal.Frame
public import proofs.«01_k».proof.Proof.Gen.ReferenceAdaFwdIdeal
public import proofs.«01_k».proof.Proof.Gen.KernelLossSum
public import proofs.«01_k».proof.Proof.Gen.KernelLossSumIdeal
public import proofs.«01_k».proof.Proof.Gen.ReferenceLossSumIdeal
public import proofs.«01_k».proof.Proof.Gen.Pre_finite_ffn
public import proofs.«01_k».proof.Proof.Products
public import proofs.«01_k».proof.Proof.Steps
public import proofs.«01_k».proof.Proof.LossSum
public import proofs.«01_k».proof.Proof.RsMix
public import proofs.«01_k».proof.Proof.RsFfn
public import proofs.«01_k».proof.Proof.SibMix
public import proofs.«01_k».proof.Proof.SibFfn
public import proofs.«01_k».proof.Proof.AdaFwd

@[expose] public section

noncomputable section

open Idealize.ShloMosaic Idealize.ShloMosaic.TcCoe Idealize.SL.Sem

namespace Cert.Proof

/-- Every claim of the statement. -/
theorem claim : Cert.Claim := ⟨Cert.KernelFfnIn.Gen.facts,
  Cert.KernelFfnInIdeal.Gen.facts,
  Cert.ReferenceFfnInIdeal.Gen.facts,
  Cert.KernelFfnAct.Gen.facts,
  Cert.KernelFfnActIdeal.Gen.facts,
  Cert.ReferenceFfnActIdeal.Gen.facts,
  Cert.KernelFfnOutDw.Gen.facts,
  Cert.KernelFfnOutDwIdeal.Gen.facts,
  Cert.ReferenceFfnOutDwIdeal.Gen.facts,
  Cert.KernelFfnInDx.Gen.facts,
  Cert.KernelFfnInDxIdeal.Gen.facts,
  Cert.ReferenceFfnInDxIdeal.Gen.facts,
  Cert.KernelFfnInDw.Gen.facts,
  Cert.KernelFfnInDwIdeal.Gen.facts,
  Cert.ReferenceFfnInDwIdeal.Gen.facts,
  Cert.KernelInDx.Gen.facts,
  Cert.KernelInDxIdeal.Gen.facts,
  Cert.ReferenceInDxIdeal.Gen.facts,
  Cert.KernelInDw.Gen.facts,
  Cert.KernelInDwIdeal.Gen.facts,
  Cert.ReferenceInDwIdeal.Gen.facts,
  Cert.KernelOutDw.Gen.facts,
  Cert.KernelOutDwIdeal.Gen.facts,
  Cert.ReferenceOutDwIdeal.Gen.facts,
  Cert.KernelAdaBwd.Gen.facts,
  Cert.KernelAdaBwdIdeal.Gen.facts,
  Cert.ReferenceAdaBwdIdeal.Gen.facts,
  Cert.KernelAdamSmall.Gen.facts,
  Cert.KernelAdamSmallIdeal.Gen.facts,
  Cert.ReferenceAdamSmallIdeal.Gen.facts,
  Cert.KernelAdamB.Gen.facts,
  Cert.KernelAdamBIdeal.Gen.facts,
  Cert.ReferenceAdamBIdeal.Gen.facts,
  Cert.KernelAdamW1.Gen.facts,
  Cert.KernelAdamW1Ideal.Gen.facts,
  Cert.ReferenceAdamW1Ideal.Gen.facts,
  Cert.KernelAdamW2.Gen.facts,
  Cert.KernelAdamW2Ideal.Gen.facts,
  Cert.ReferenceAdamW2Ideal.Gen.facts,
  Cert.KernelAdamW3.Gen.facts,
  Cert.KernelAdamW3Ideal.Gen.facts,
  Cert.ReferenceAdamW3Ideal.Gen.facts,
  Cert.KernelFinalLoss.Gen.facts,
  Cert.KernelFinalLossIdeal.Gen.facts,
  Cert.ReferenceFinalLossIdeal.Gen.facts,
  Cert.KernelAdaln1.Gen.facts,
  Cert.KernelAdaln1Ideal.Gen.facts,
  Cert.ReferenceAdaln1Ideal.Gen.facts,
  Cert.KernelAdaln2.Gen.facts,
  Cert.KernelAdaln2Ideal.Gen.facts,
  Cert.ReferenceAdaln2Ideal.Gen.facts,
  Cert.KernelInProj.Gen.facts,
  Cert.KernelInProjIdeal.Gen.facts,
  Cert.ReferenceInProjIdeal.Gen.facts,
  Cert.KernelMixerOut.Gen.facts,
  Cert.KernelMixerOutIdeal.Gen.facts,
  Cert.ReferenceMixerOutIdeal.Gen.facts,
  Cert.KernelMixerOutBwd.Gen.facts,
  Cert.KernelMixerOutBwdIdeal.Gen.facts,
  Cert.ReferenceMixerOutBwdIdeal.Gen.facts,
  Cert.KernelRsMix.Gen.facts,
  Cert.KernelRsMixIdeal.Gen.facts,
  Cert.ReferenceRsMixIdeal.Gen.facts,
  Cert.KernelRsFfn.Gen.facts,
  Cert.KernelRsFfnIdeal.Gen.facts,
  Cert.ReferenceRsFfnIdeal.Gen.facts,
  Cert.KernelSibMix.Gen.facts,
  Cert.KernelSibMixIdeal.Gen.facts,
  Cert.ReferenceSibMixIdeal.Gen.facts,
  Cert.KernelSibFfn.Gen.facts,
  Cert.KernelSibFfnIdeal.Gen.facts,
  Cert.ReferenceSibFfnIdeal.Gen.facts,
  Cert.KernelAdaFwd.Gen.facts,
  Cert.KernelAdaFwdIdeal.Gen.facts,
  Cert.ReferenceAdaFwdIdeal.Gen.facts,
  Cert.KernelLossSum.Gen.facts,
  Cert.KernelLossSumIdeal.Gen.facts,
  Cert.ReferenceLossSumIdeal.Gen.facts,
  Cert.Pre_finite_ffn.Gen.facts,
  fun m ρ _ => Cert.KernelFfnIn.Gen.frame m ρ,
  fun m ρ _ => Cert.KernelFfnInIdeal.Gen.frame m ρ,
  Cert.Products.frame_ReferenceFfnIn,
  fun m ρ _ => Cert.KernelFfnAct.Gen.frame m ρ,
  fun m ρ _ => Cert.KernelFfnActIdeal.Gen.frame m ρ,
  fun m ρ _ => Cert.KernelFfnActIdeal.Gen.frame m ρ,
  Cert.Products.frame_ReferenceFfnAct,
  fun m ρ _ => Cert.Products.frame_ReferenceFfnAct m ρ trivial,
  fun m ρ _ => Cert.KernelFfnOutDw.Gen.frame m ρ,
  fun m ρ _ => Cert.KernelFfnOutDwIdeal.Gen.frame m ρ,
  Cert.Products.frame_ReferenceFfnOutDw,
  fun m ρ _ => Cert.KernelFfnInDx.Gen.frame m ρ,
  fun m ρ _ => Cert.KernelFfnInDxIdeal.Gen.frame m ρ,
  Cert.Products.frame_ReferenceFfnInDx,
  fun m ρ _ => Cert.KernelFfnInDw.Gen.frame m ρ,
  fun m ρ _ => Cert.KernelFfnInDwIdeal.Gen.frame m ρ,
  Cert.Products.frame_ReferenceFfnInDw,
  fun m ρ _ => Cert.KernelInDx.Gen.frame m ρ,
  fun m ρ _ => Cert.KernelInDxIdeal.Gen.frame m ρ,
  Cert.Products.frame_ReferenceInDx,
  fun m ρ _ => Cert.KernelInDw.Gen.frame m ρ,
  fun m ρ _ => Cert.KernelInDwIdeal.Gen.frame m ρ,
  Cert.Products.frame_ReferenceInDw,
  fun m ρ _ => Cert.KernelOutDw.Gen.frame m ρ,
  fun m ρ _ => Cert.KernelOutDwIdeal.Gen.frame m ρ,
  Cert.Products.frame_ReferenceOutDw,
  fun m ρ _ => Cert.KernelAdaBwd.Gen.frame m ρ,
  fun m ρ _ => Cert.KernelAdaBwdIdeal.Gen.frame m ρ,
  Cert.Steps.frame_ReferenceAdaBwd,
  fun m ρ _ => Cert.KernelAdamSmall.Gen.frame m ρ,
  fun m ρ _ => Cert.KernelAdamSmallIdeal.Gen.frame m ρ,
  Cert.Steps.frame_ReferenceAdamSmall,
  fun m ρ _ => Cert.KernelAdamB.Gen.frame m ρ,
  fun m ρ _ => Cert.KernelAdamBIdeal.Gen.frame m ρ,
  Cert.Steps.frame_ReferenceAdamB,
  fun m ρ _ => Cert.KernelAdamW1.Gen.frame m ρ,
  fun m ρ _ => Cert.KernelAdamW1Ideal.Gen.frame m ρ,
  Cert.Steps.frame_ReferenceAdamW1,
  fun m ρ _ => Cert.KernelAdamW2.Gen.frame m ρ,
  fun m ρ _ => Cert.KernelAdamW2Ideal.Gen.frame m ρ,
  Cert.Steps.frame_ReferenceAdamW2,
  fun m ρ _ => Cert.KernelAdamW3.Gen.frame m ρ,
  fun m ρ _ => Cert.KernelAdamW3Ideal.Gen.frame m ρ,
  Cert.Steps.frame_ReferenceAdamW3,
  fun m ρ _ => Cert.KernelFinalLoss.Gen.frame m ρ,
  fun m ρ _ => Cert.KernelFinalLossIdeal.Gen.frame m ρ,
  Cert.Steps.frame_ReferenceFinalLoss,
  fun m ρ _ => Cert.KernelAdaln1.Gen.frame m ρ,
  fun m ρ _ => Cert.KernelAdaln1Ideal.Gen.frame m ρ,
  Cert.Steps.frame_ReferenceAdaln1,
  fun m ρ _ => Cert.KernelAdaln2.Gen.frame m ρ,
  fun m ρ _ => Cert.KernelAdaln2Ideal.Gen.frame m ρ,
  Cert.Steps.frame_ReferenceAdaln2,
  fun m ρ _ => Cert.KernelInProj.Gen.frame m ρ,
  fun m ρ _ => Cert.KernelInProjIdeal.Gen.frame m ρ,
  Cert.Steps.frame_ReferenceInProj,
  fun m ρ _ => Cert.KernelMixerOut.Gen.frame m ρ,
  fun m ρ _ => Cert.KernelMixerOutIdeal.Gen.frame m ρ,
  Cert.Steps.frame_ReferenceMixerOut,
  fun m ρ _ => Cert.KernelMixerOutBwd.Gen.frame m ρ,
  fun m ρ _ => Cert.KernelMixerOutBwdIdeal.Gen.frame m ρ,
  Cert.Steps.frame_ReferenceMixerOutBwd,
  Cert.RsMix.frame_Kernel,
  Cert.RsMix.frame_KernelIdeal,
  Cert.RsMix.frame_Reference,
  Cert.RsFfn.frame_Kernel,
  Cert.RsFfn.frame_KernelIdeal,
  Cert.RsFfn.frame_Reference,
  Cert.SibMix.frame_Kernel,
  Cert.SibMix.frame_KernelIdeal,
  Cert.SibMix.frame_Reference,
  Cert.SibFfn.frame_Kernel,
  Cert.SibFfn.frame_KernelIdeal,
  Cert.SibFfn.frame_Reference,
  fun m ρ _ => Cert.KernelAdaFwd.Gen.frame m ρ,
  fun m ρ _ => Cert.KernelAdaFwdIdeal.Gen.frame m ρ,
  Cert.AdaFwd.frame_Reference,
  Cert.LossSum.frame_Kernel,
  Cert.LossSum.frame_KernelIdeal,
  Cert.LossSum.frame_Reference,
  trivial,
  Cert.Products.value_FfnIn,
  trivial,
  Cert.Products.value_FfnAct,
  trivial,
  Cert.Products.value_FfnOutDw,
  trivial,
  Cert.Products.value_FfnInDx,
  trivial,
  Cert.Products.value_FfnInDw,
  trivial,
  Cert.Products.value_InDx,
  trivial,
  Cert.Products.value_InDw,
  trivial,
  Cert.Products.value_OutDw,
  trivial,
  Cert.Steps.value_AdaBwd,
  trivial,
  Cert.Steps.value_AdamSmall,
  trivial,
  Cert.Steps.value_AdamB,
  trivial,
  Cert.Steps.value_AdamW1,
  trivial,
  Cert.Steps.value_AdamW2,
  trivial,
  Cert.Steps.value_AdamW3,
  trivial,
  Cert.Steps.value_FinalLoss,
  trivial,
  Cert.Steps.value_Adaln1,
  trivial,
  Cert.Steps.value_Adaln2,
  trivial,
  Cert.Steps.value_InProj,
  trivial,
  Cert.Steps.value_MixerOut,
  trivial,
  Cert.Steps.value_MixerOutBwd,
  trivial,
  Cert.RsMix.value,
  trivial,
  Cert.RsFfn.value,
  trivial,
  Cert.SibMix.value,
  trivial,
  Cert.SibFfn.value,
  trivial,
  Cert.AdaFwd.value,
  trivial,
  Cert.LossSum.value⟩

end Cert.Proof

end
